-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_counts_drawn [hPre_counts_drawn : Cert.Pre_counts_drawn.Facts] (m : (ℓ : Loc Cert.KernelIdeal.nD Cert.KernelIdeal.τ Cert.KernelIdeal.sig) → Buf (Elt Ideal) ℓ) : Prop :=
  ∀ c : Dev Cert.KernelIdeal.nD,
    (Cert.Pre_counts_drawn.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_counts_drawn [hPre_counts_drawn : Cert.Pre_counts_drawn.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_counts_drawn.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Kernel6Ideal_finite_drawn [hPre_finite_drawn : Cert.Pre_finite_drawn.Facts] (m : (ℓ : Loc Cert.Kernel6Ideal.nD Cert.Kernel6Ideal.τ Cert.Kernel6Ideal.sig) → Buf (Elt Ideal) ℓ) : Prop :=
  ∀ c : Dev Cert.Kernel6Ideal.nD,
    (Cert.Pre_finite_drawn.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3))) = (fun _ => 1#1)

def Pre_Reference6Ideal (m : (ℓ : Loc Cert.Reference6Ideal.nD Cert.Reference6Ideal.τ Cert.Reference6Ideal.sig) → Buf (Elt Ideal) ℓ) : Prop :=
  True

def Pre_Reference6Ideal_finite_drawn [hPre_finite_drawn : Cert.Pre_finite_drawn.Facts] (m : (ℓ : Loc Cert.Reference6Ideal.nD Cert.Reference6Ideal.τ Cert.Reference6Ideal.sig) → Buf (Elt Ideal) ℓ) : Prop :=
  ∀ c : Dev Cert.Reference6Ideal.nD,
    (Cert.Pre_finite_drawn.fn (F := Ideal) (m ((c.tc : Thread Cert.Reference6Ideal.nD Cert.Reference6Ideal.τ).loc Cert.Reference6Ideal.main_arg0)) (m ((c.tc : Thread Cert.Reference6Ideal.nD Cert.Reference6Ideal.τ).loc Cert.Reference6Ideal.main_arg1)) (m ((c.tc : Thread Cert.Reference6Ideal.nD Cert.Reference6Ideal.τ).loc Cert.Reference6Ideal.main_arg2)) (m ((c.tc : Thread Cert.Reference6Ideal.nD Cert.Reference6Ideal.τ).loc Cert.Reference6Ideal.main_arg3))) = (fun _ => 1#1)

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Kernel9Ideal_finite_prompt [hPre_finite_prompt : Cert.Pre_finite_prompt.Facts] (m : (ℓ : Loc Cert.Kernel9Ideal.nD Cert.Kernel9Ideal.τ Cert.Kernel9Ideal.sig) → Buf (Elt Ideal) ℓ) : Prop :=
  ∀ c : Dev Cert.Kernel9Ideal.nD,
    (Cert.Pre_finite_prompt.fn (F := Ideal) (m ((c.tc : Thread Cert.Kernel9Ideal.nD Cert.Kernel9Ideal.τ).loc Cert.Kernel9Ideal.main_arg0)) (m ((c.tc : Thread Cert.Kernel9Ideal.nD Cert.Kernel9Ideal.τ).loc Cert.Kernel9Ideal.main_arg1)) (m ((c.tc : Thread Cert.Kernel9Ideal.nD Cert.Kernel9Ideal.τ).loc Cert.Kernel9Ideal.main_arg2)) (m ((c.tc : Thread Cert.Kernel9Ideal.nD Cert.Kernel9Ideal.τ).loc Cert.Kernel9Ideal.main_arg3))) = (fun _ => 1#1)

def Pre_Reference9Ideal (m : (ℓ : Loc Cert.Reference9Ideal.nD Cert.Reference9Ideal.τ Cert.Reference9Ideal.sig) → Buf (Elt Ideal) ℓ) : Prop :=
  True

def Pre_Reference9Ideal_finite_prompt [hPre_finite_prompt : Cert.Pre_finite_prompt.Facts] (m : (ℓ : Loc Cert.Reference9Ideal.nD Cert.Reference9Ideal.τ Cert.Reference9Ideal.sig) → Buf (Elt Ideal) ℓ) : Prop :=
  ∀ c : Dev Cert.Reference9Ideal.nD,
    (Cert.Pre_finite_prompt.fn (F := Ideal) (m ((c.tc : Thread Cert.Reference9Ideal.nD Cert.Reference9Ideal.τ).loc Cert.Reference9Ideal.main_arg0)) (m ((c.tc : Thread Cert.Reference9Ideal.nD Cert.Reference9Ideal.τ).loc Cert.Reference9Ideal.main_arg1)) (m ((c.tc : Thread Cert.Reference9Ideal.nD Cert.Reference9Ideal.τ).loc Cert.Reference9Ideal.main_arg2)) (m ((c.tc : Thread Cert.Reference9Ideal.nD Cert.Reference9Ideal.τ).loc Cert.Reference9Ideal.main_arg3))) = (fun _ => 1#1)

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_counts_drawn [hKernelIdeal : Cert.KernelIdeal.Facts] [hPre_counts_drawn : Cert.Pre_counts_drawn.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_counts_drawn m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_counts_drawn [hReferenceIdeal : Cert.ReferenceIdeal.Facts] [hPre_counts_drawn : Cert.Pre_counts_drawn.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_counts_drawn m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4)
      ∧ r.2.mem ((c.tc : Thread Cert.Kernel4.nD Cert.Kernel4.τ).loc Cert.Kernel4.main_arg5) = m ((c.tc : Thread Cert.Kernel4.nD Cert.Kernel4.τ).loc Cert.Kernel4.main_arg5))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
      ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4)
      ∧ r.2.mem ((c.tc : Thread Cert.Reference4Ideal.nD Cert.Reference4Ideal.τ).loc Cert.Reference4Ideal.main_arg5) = m ((c.tc : Thread Cert.Reference4Ideal.nD Cert.Reference4Ideal.τ).loc Cert.Reference4Ideal.main_arg5))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Kernel6Ideal_pre_finite_drawn [hKernel6Ideal : Cert.Kernel6Ideal.Facts] [hPre_finite_drawn : Cert.Pre_finite_drawn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal_finite_drawn m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Reference6Ideal_pre_finite_drawn [hReference6Ideal : Cert.Reference6Ideal.Facts] [hPre_finite_drawn : Cert.Pre_finite_drawn.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal_finite_drawn m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4)
      ∧ r.2.mem ((c.tc : Thread Cert.Kernel7.nD Cert.Kernel7.τ).loc Cert.Kernel7.main_arg5) = m ((c.tc : Thread Cert.Kernel7.nD Cert.Kernel7.τ).loc Cert.Kernel7.main_arg5))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
      ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4)
      ∧ r.2.mem ((c.tc : Thread Cert.Reference7Ideal.nD Cert.Reference7Ideal.τ).loc Cert.Reference7Ideal.main_arg5) = m ((c.tc : Thread Cert.Reference7Ideal.nD Cert.Reference7Ideal.τ).loc Cert.Reference7Ideal.main_arg5))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4)
      ∧ r.2.mem ((c.tc : Thread Cert.Kernel8.nD Cert.Kernel8.τ).loc Cert.Kernel8.main_arg5) = m ((c.tc : Thread Cert.Kernel8.nD Cert.Kernel8.τ).loc Cert.Kernel8.main_arg5))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
      ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4)
      ∧ r.2.mem ((c.tc : Thread Cert.Reference8Ideal.nD Cert.Reference8Ideal.τ).loc Cert.Reference8Ideal.main_arg5) = m ((c.tc : Thread Cert.Reference8Ideal.nD Cert.Reference8Ideal.τ).loc Cert.Reference8Ideal.main_arg5))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Kernel9Ideal_pre_finite_prompt [hKernel9Ideal : Cert.Kernel9Ideal.Facts] [hPre_finite_prompt : Cert.Pre_finite_prompt.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal_finite_prompt m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Reference9Ideal_pre_finite_prompt [hReference9Ideal : Cert.Reference9Ideal.Facts] [hPre_finite_prompt : Cert.Pre_finite_prompt.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal_finite_prompt m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3)
      ∧ r.2.mem ((c.tc : Thread Cert.Reference10Ideal.nD Cert.Reference10Ideal.τ).loc Cert.Reference10Ideal.main_arg4) = m ((c.tc : Thread Cert.Reference10Ideal.nD Cert.Reference10Ideal.τ).loc Cert.Reference10Ideal.main_arg4)
      ∧ r.2.mem ((c.tc : Thread Cert.Reference10Ideal.nD Cert.Reference10Ideal.τ).loc Cert.Reference10Ideal.main_arg5) = m ((c.tc : Thread Cert.Reference10Ideal.nD Cert.Reference10Ideal.τ).loc Cert.Reference10Ideal.main_arg5))
      ∧ r.2.sem = fun _ => 0)

def preserves_Kernel_KernelIdeal : Prop :=
  True

def algebraic_KernelIdeal_ReferenceIdeal_pre_counts_drawn [hKernelIdeal : Cert.KernelIdeal.Facts] [hReferenceIdeal : Cert.ReferenceIdeal.Facts] [hPre_counts_drawn : Cert.Pre_counts_drawn.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_counts_drawn m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v26)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v26) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v14_0)) (v1 : (c : Dev Cert.Kernel2Ideal.nD) → Buf (Elt Ideal) ((c.tc : Thread Cert.Kernel2Ideal.nD Cert.Kernel2Ideal.τ).loc Cert.Kernel2Ideal.main_v14_1)) (v2 : (c : Dev Cert.Kernel2Ideal.nD) → Buf (Elt Ideal) ((c.tc : Thread Cert.Kernel2Ideal.nD Cert.Kernel2Ideal.τ).loc Cert.Kernel2Ideal.main_v14_2)) (v3 : (c : Dev Cert.Kernel2Ideal.nD) → Buf (Elt Ideal) ((c.tc : Thread Cert.Kernel2Ideal.nD Cert.Kernel2Ideal.τ).loc Cert.Kernel2Ideal.main_v14_3)) (v4 : (c : Dev Cert.Kernel2Ideal.nD) → Buf (Elt Ideal) ((c.tc : Thread Cert.Kernel2Ideal.nD Cert.Kernel2Ideal.τ).loc Cert.Kernel2Ideal.main_v14_4)) (v5 : (c : Dev Cert.Kernel2Ideal.nD) → Buf (Elt Ideal) ((c.tc : Thread Cert.Kernel2Ideal.nD Cert.Kernel2Ideal.τ).loc Cert.Kernel2Ideal.main_v14_5)) (v6 : (c : Dev Cert.Kernel2Ideal.nD) → Buf (Elt Ideal) ((c.tc : Thread Cert.Kernel2Ideal.nD Cert.Kernel2Ideal.τ).loc Cert.Kernel2Ideal.main_v14_6)) (v7 : (c : Dev Cert.Kernel2Ideal.nD) → Buf (Elt Ideal) ((c.tc : Thread Cert.Kernel2Ideal.nD Cert.Kernel2Ideal.τ).loc Cert.Kernel2Ideal.main_v14_7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v14_0) = v0 c
          ∧ r.2.mem ((c.tc : Thread Cert.Kernel2Ideal.nD Cert.Kernel2Ideal.τ).loc Cert.Kernel2Ideal.main_v14_1) = v1 c
          ∧ r.2.mem ((c.tc : Thread Cert.Kernel2Ideal.nD Cert.Kernel2Ideal.τ).loc Cert.Kernel2Ideal.main_v14_2) = v2 c
          ∧ r.2.mem ((c.tc : Thread Cert.Kernel2Ideal.nD Cert.Kernel2Ideal.τ).loc Cert.Kernel2Ideal.main_v14_3) = v3 c
          ∧ r.2.mem ((c.tc : Thread Cert.Kernel2Ideal.nD Cert.Kernel2Ideal.τ).loc Cert.Kernel2Ideal.main_v14_4) = v4 c
          ∧ r.2.mem ((c.tc : Thread Cert.Kernel2Ideal.nD Cert.Kernel2Ideal.τ).loc Cert.Kernel2Ideal.main_v14_5) = v5 c
          ∧ r.2.mem ((c.tc : Thread Cert.Kernel2Ideal.nD Cert.Kernel2Ideal.τ).loc Cert.Kernel2Ideal.main_v14_6) = v6 c
          ∧ r.2.mem ((c.tc : Thread Cert.Kernel2Ideal.nD Cert.Kernel2Ideal.τ).loc Cert.Kernel2Ideal.main_v14_7) = v7 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v21) = v0 c
          ∧ r.2.mem ((c.tc : Thread Cert.Reference2Ideal.nD Cert.Reference2Ideal.τ).loc Cert.Reference2Ideal.main_v3) = v1 c
          ∧ r.2.mem ((c.tc : Thread Cert.Reference2Ideal.nD Cert.Reference2Ideal.τ).loc Cert.Reference2Ideal.main_v4) = v2 c
          ∧ r.2.mem ((c.tc : Thread Cert.Reference2Ideal.nD Cert.Reference2Ideal.τ).loc Cert.Reference2Ideal.main_v25) = v3 c
          ∧ r.2.mem ((c.tc : Thread Cert.Reference2Ideal.nD Cert.Reference2Ideal.τ).loc Cert.Reference2Ideal.main_v27) = v4 c
          ∧ r.2.mem ((c.tc : Thread Cert.Reference2Ideal.nD Cert.Reference2Ideal.τ).loc Cert.Reference2Ideal.main_v29) = v5 c
          ∧ r.2.mem ((c.tc : Thread Cert.Reference2Ideal.nD Cert.Reference2Ideal.τ).loc Cert.Reference2Ideal.main_v7) = v6 c
          ∧ r.2.mem ((c.tc : Thread Cert.Reference2Ideal.nD Cert.Reference2Ideal.τ).loc Cert.Reference2Ideal.main_v8) = v7 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)) (v3 : (c : Dev Cert.Kernel3Ideal.nD) → Buf (Elt Ideal) ((c.tc : Thread Cert.Kernel3Ideal.nD Cert.Kernel3Ideal.τ).loc Cert.Kernel3Ideal.main_v14_3)) (v4 : (c : Dev Cert.Kernel3Ideal.nD) → Buf (Elt Ideal) ((c.tc : Thread Cert.Kernel3Ideal.nD Cert.Kernel3Ideal.τ).loc Cert.Kernel3Ideal.main_v14_4)) (v5 : (c : Dev Cert.Kernel3Ideal.nD) → Buf (Elt Ideal) ((c.tc : Thread Cert.Kernel3Ideal.nD Cert.Kernel3Ideal.τ).loc Cert.Kernel3Ideal.main_v14_5)) (v6 : (c : Dev Cert.Kernel3Ideal.nD) → Buf (Elt Ideal) ((c.tc : Thread Cert.Kernel3Ideal.nD Cert.Kernel3Ideal.τ).loc Cert.Kernel3Ideal.main_v14_6)) (v7 : (c : Dev Cert.Kernel3Ideal.nD) → Buf (Elt Ideal) ((c.tc : Thread Cert.Kernel3Ideal.nD Cert.Kernel3Ideal.τ).loc Cert.Kernel3Ideal.main_v14_7)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_v14_3) = v3 c
          ∧ r.2.mem ((c.tc : Thread Cert.Kernel3Ideal.nD Cert.Kernel3Ideal.τ).loc Cert.Kernel3Ideal.main_v14_4) = v4 c
          ∧ r.2.mem ((c.tc : Thread Cert.Kernel3Ideal.nD Cert.Kernel3Ideal.τ).loc Cert.Kernel3Ideal.main_v14_5) = v5 c
          ∧ r.2.mem ((c.tc : Thread Cert.Kernel3Ideal.nD Cert.Kernel3Ideal.τ).loc Cert.Kernel3Ideal.main_v14_6) = v6 c
          ∧ r.2.mem ((c.tc : Thread Cert.Kernel3Ideal.nD Cert.Kernel3Ideal.τ).loc Cert.Kernel3Ideal.main_v14_7) = v7 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v21) = v0 c
          ∧ r.2.mem ((c.tc : Thread Cert.Reference3Ideal.nD Cert.Reference3Ideal.τ).loc Cert.Reference3Ideal.main_v33) = v1 c
          ∧ r.2.mem ((c.tc : Thread Cert.Reference3Ideal.nD Cert.Reference3Ideal.τ).loc Cert.Reference3Ideal.main_v37) = v2 c
          ∧ r.2.mem ((c.tc : Thread Cert.Reference3Ideal.nD Cert.Reference3Ideal.τ).loc Cert.Reference3Ideal.main_v25) = v3 c
          ∧ r.2.mem ((c.tc : Thread Cert.Reference3Ideal.nD Cert.Reference3Ideal.τ).loc Cert.Reference3Ideal.main_v27) = v4 c
          ∧ r.2.mem ((c.tc : Thread Cert.Reference3Ideal.nD Cert.Reference3Ideal.τ).loc Cert.Reference3Ideal.main_v29) = v5 c
          ∧ r.2.mem ((c.tc : Thread Cert.Reference3Ideal.nD Cert.Reference3Ideal.τ).loc Cert.Reference3Ideal.main_v7) = v6 c
          ∧ r.2.mem ((c.tc : Thread Cert.Reference3Ideal.nD Cert.Reference3Ideal.τ).loc Cert.Reference3Ideal.main_v8) = v7 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)
      ∧ m' ((c.tc : Thread Cert.Reference4Ideal.nD Cert.Reference4Ideal.τ).loc Cert.Reference4Ideal.main_arg5) = m ((c.tc : Thread Cert.Kernel4Ideal.nD Cert.Kernel4Ideal.τ).loc Cert.Kernel4Ideal.main_arg5)) →
    ∃ (v0 : (c : Dev Cert.Kernel4Ideal.nD) → Buf (Elt Ideal) ((c.tc : Thread Cert.Kernel4Ideal.nD Cert.Kernel4Ideal.τ).loc Cert.Kernel4Ideal.main_v7)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v7) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4)
          ∧ r.2.mem ((c.tc : Thread Cert.Kernel4Ideal.nD Cert.Kernel4Ideal.τ).loc Cert.Kernel4Ideal.main_arg5) = m ((c.tc : Thread Cert.Kernel4Ideal.nD Cert.Kernel4Ideal.τ).loc Cert.Kernel4Ideal.main_arg5))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v28) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4)
          ∧ r.2.mem ((c.tc : Thread Cert.Reference4Ideal.nD Cert.Reference4Ideal.τ).loc Cert.Reference4Ideal.main_arg5) = m' ((c.tc : Thread Cert.Reference4Ideal.nD Cert.Reference4Ideal.τ).loc Cert.Reference4Ideal.main_arg5))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v8)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v8) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v31) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_pre_finite_drawn [hKernel6Ideal : Cert.Kernel6Ideal.Facts] [hReference6Ideal : Cert.Reference6Ideal.Facts] [hPre_finite_drawn : Cert.Pre_finite_drawn.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal_finite_drawn m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)) →
    ∃ (v0 : (c : Dev Cert.Kernel6Ideal.nD) → Buf (Elt Ideal) ((c.tc : Thread Cert.Kernel6Ideal.nD Cert.Kernel6Ideal.τ).loc Cert.Kernel6Ideal.main_v15_0)) (v1 : (c : Dev Cert.Kernel6Ideal.nD) → Buf (Elt Ideal) ((c.tc : Thread Cert.Kernel6Ideal.nD Cert.Kernel6Ideal.τ).loc Cert.Kernel6Ideal.main_v15_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v15_0) = v0 c
          ∧ r.2.mem ((c.tc : Thread Cert.Kernel6Ideal.nD Cert.Kernel6Ideal.τ).loc Cert.Kernel6Ideal.main_v15_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v37) = v0 c
          ∧ r.2.mem ((c.tc : Thread Cert.Reference6Ideal.nD Cert.Reference6Ideal.τ).loc Cert.Reference6Ideal.main_v41) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)
      ∧ m' ((c.tc : Thread Cert.Reference7Ideal.nD Cert.Reference7Ideal.τ).loc Cert.Reference7Ideal.main_arg5) = m ((c.tc : Thread Cert.Kernel7Ideal.nD Cert.Kernel7Ideal.τ).loc Cert.Kernel7Ideal.main_arg5)) →
    ∃ (v0 : (c : Dev Cert.Kernel7Ideal.nD) → Buf (Elt Ideal) ((c.tc : Thread Cert.Kernel7Ideal.nD Cert.Kernel7Ideal.τ).loc Cert.Kernel7Ideal.main_v7)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v7) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4)
          ∧ r.2.mem ((c.tc : Thread Cert.Kernel7Ideal.nD Cert.Kernel7Ideal.τ).loc Cert.Kernel7Ideal.main_arg5) = m ((c.tc : Thread Cert.Kernel7Ideal.nD Cert.Kernel7Ideal.τ).loc Cert.Kernel7Ideal.main_arg5))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v28) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4)
          ∧ r.2.mem ((c.tc : Thread Cert.Reference7Ideal.nD Cert.Reference7Ideal.τ).loc Cert.Reference7Ideal.main_arg5) = m' ((c.tc : Thread Cert.Reference7Ideal.nD Cert.Reference7Ideal.τ).loc Cert.Reference7Ideal.main_arg5))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)
      ∧ m' ((c.tc : Thread Cert.Reference8Ideal.nD Cert.Reference8Ideal.τ).loc Cert.Reference8Ideal.main_arg5) = m ((c.tc : Thread Cert.Kernel8Ideal.nD Cert.Kernel8Ideal.τ).loc Cert.Kernel8Ideal.main_arg5)) →
    ∃ (v0 : (c : Dev Cert.Kernel8Ideal.nD) → Buf (Elt Ideal) ((c.tc : Thread Cert.Kernel8Ideal.nD Cert.Kernel8Ideal.τ).loc Cert.Kernel8Ideal.main_v8)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v8) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4)
          ∧ r.2.mem ((c.tc : Thread Cert.Kernel8Ideal.nD Cert.Kernel8Ideal.τ).loc Cert.Kernel8Ideal.main_arg5) = m ((c.tc : Thread Cert.Kernel8Ideal.nD Cert.Kernel8Ideal.τ).loc Cert.Kernel8Ideal.main_arg5))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v31) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4)
          ∧ r.2.mem ((c.tc : Thread Cert.Reference8Ideal.nD Cert.Reference8Ideal.τ).loc Cert.Reference8Ideal.main_arg5) = m' ((c.tc : Thread Cert.Reference8Ideal.nD Cert.Reference8Ideal.τ).loc Cert.Reference8Ideal.main_arg5))

def preserves_Kernel9_Kernel9Ideal : Prop :=
  True

def algebraic_Kernel9Ideal_Reference9Ideal_pre_finite_prompt [hKernel9Ideal : Cert.Kernel9Ideal.Facts] [hReference9Ideal : Cert.Reference9Ideal.Facts] [hPre_finite_prompt : Cert.Pre_finite_prompt.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal_finite_prompt m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)) →
    ∃ (v0 : (c : Dev Cert.Kernel9Ideal.nD) → Buf (Elt Ideal) ((c.tc : Thread Cert.Kernel9Ideal.nD Cert.Kernel9Ideal.τ).loc Cert.Kernel9Ideal.main_v15_0)) (v1 : (c : Dev Cert.Kernel9Ideal.nD) → Buf (Elt Ideal) ((c.tc : Thread Cert.Kernel9Ideal.nD Cert.Kernel9Ideal.τ).loc Cert.Kernel9Ideal.main_v15_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v15_0) = v0 c
          ∧ r.2.mem ((c.tc : Thread Cert.Kernel9Ideal.nD Cert.Kernel9Ideal.τ).loc Cert.Kernel9Ideal.main_v15_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v37) = v0 c
          ∧ r.2.mem ((c.tc : Thread Cert.Reference9Ideal.nD Cert.Reference9Ideal.τ).loc Cert.Reference9Ideal.main_v41) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)
      ∧ m' ((c.tc : Thread Cert.Reference10Ideal.nD Cert.Reference10Ideal.τ).loc Cert.Reference10Ideal.main_arg4) = m ((c.tc : Thread Cert.Kernel10Ideal.nD Cert.Kernel10Ideal.τ).loc Cert.Kernel10Ideal.main_arg4)
      ∧ m' ((c.tc : Thread Cert.Reference10Ideal.nD Cert.Reference10Ideal.τ).loc Cert.Reference10Ideal.main_arg5) = m ((c.tc : Thread Cert.Kernel10Ideal.nD Cert.Kernel10Ideal.τ).loc Cert.Kernel10Ideal.main_arg5)) →
    ∃ (v0 : (c : Dev Cert.Kernel10Ideal.nD) → Buf (Elt Ideal) ((c.tc : Thread Cert.Kernel10Ideal.nD Cert.Kernel10Ideal.τ).loc Cert.Kernel10Ideal.main_v14_0)) (v1 : (c : Dev Cert.Kernel10Ideal.nD) → Buf (Elt Ideal) ((c.tc : Thread Cert.Kernel10Ideal.nD Cert.Kernel10Ideal.τ).loc Cert.Kernel10Ideal.main_v14_1)) (v2 : (c : Dev Cert.Kernel10Ideal.nD) → Buf (Elt Ideal) ((c.tc : Thread Cert.Kernel10Ideal.nD Cert.Kernel10Ideal.τ).loc Cert.Kernel10Ideal.main_v14_2)) (v3 : (c : Dev Cert.Kernel10Ideal.nD) → Buf (Elt Ideal) ((c.tc : Thread Cert.Kernel10Ideal.nD Cert.Kernel10Ideal.τ).loc Cert.Kernel10Ideal.main_v14_3)) (v4 : (c : Dev Cert.Kernel10Ideal.nD) → Buf (Elt Ideal) ((c.tc : Thread Cert.Kernel10Ideal.nD Cert.Kernel10Ideal.τ).loc Cert.Kernel10Ideal.main_v14_4)) (v5 : (c : Dev Cert.Kernel10Ideal.nD) → Buf (Elt Ideal) ((c.tc : Thread Cert.Kernel10Ideal.nD Cert.Kernel10Ideal.τ).loc Cert.Kernel10Ideal.main_v14_5)) (v6 : (c : Dev Cert.Kernel10Ideal.nD) → Buf (Elt Ideal) ((c.tc : Thread Cert.Kernel10Ideal.nD Cert.Kernel10Ideal.τ).loc Cert.Kernel10Ideal.main_v14_6)) (v7 : (c : Dev Cert.Kernel10Ideal.nD) → Buf (Elt Ideal) ((c.tc : Thread Cert.Kernel10Ideal.nD Cert.Kernel10Ideal.τ).loc Cert.Kernel10Ideal.main_v14_7)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v14_0) = v0 c
          ∧ r.2.mem ((c.tc : Thread Cert.Kernel10Ideal.nD Cert.Kernel10Ideal.τ).loc Cert.Kernel10Ideal.main_v14_1) = v1 c
          ∧ r.2.mem ((c.tc : Thread Cert.Kernel10Ideal.nD Cert.Kernel10Ideal.τ).loc Cert.Kernel10Ideal.main_v14_2) = v2 c
          ∧ r.2.mem ((c.tc : Thread Cert.Kernel10Ideal.nD Cert.Kernel10Ideal.τ).loc Cert.Kernel10Ideal.main_v14_3) = v3 c
          ∧ r.2.mem ((c.tc : Thread Cert.Kernel10Ideal.nD Cert.Kernel10Ideal.τ).loc Cert.Kernel10Ideal.main_v14_4) = v4 c
          ∧ r.2.mem ((c.tc : Thread Cert.Kernel10Ideal.nD Cert.Kernel10Ideal.τ).loc Cert.Kernel10Ideal.main_v14_5) = v5 c
          ∧ r.2.mem ((c.tc : Thread Cert.Kernel10Ideal.nD Cert.Kernel10Ideal.τ).loc Cert.Kernel10Ideal.main_v14_6) = v6 c
          ∧ r.2.mem ((c.tc : Thread Cert.Kernel10Ideal.nD Cert.Kernel10Ideal.τ).loc Cert.Kernel10Ideal.main_v14_7) = v7 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
          ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
          ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v21) = v0 c
          ∧ r.2.mem ((c.tc : Thread Cert.Reference10Ideal.nD Cert.Reference10Ideal.τ).loc Cert.Reference10Ideal.main_v33) = v1 c
          ∧ r.2.mem ((c.tc : Thread Cert.Reference10Ideal.nD Cert.Reference10Ideal.τ).loc Cert.Reference10Ideal.main_v37) = v2 c
          ∧ r.2.mem ((c.tc : Thread Cert.Reference10Ideal.nD Cert.Reference10Ideal.τ).loc Cert.Reference10Ideal.main_v25) = v3 c
          ∧ r.2.mem ((c.tc : Thread Cert.Reference10Ideal.nD Cert.Reference10Ideal.τ).loc Cert.Reference10Ideal.main_v27) = v4 c
          ∧ r.2.mem ((c.tc : Thread Cert.Reference10Ideal.nD Cert.Reference10Ideal.τ).loc Cert.Reference10Ideal.main_v29) = v5 c
          ∧ r.2.mem ((c.tc : Thread Cert.Reference10Ideal.nD Cert.Reference10Ideal.τ).loc Cert.Reference10Ideal.main_v7) = v6 c
          ∧ r.2.mem ((c.tc : Thread Cert.Reference10Ideal.nD Cert.Reference10Ideal.τ).loc Cert.Reference10Ideal.main_v8) = v7 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3)
          ∧ r.2.mem ((c.tc : Thread Cert.Reference10Ideal.nD Cert.Reference10Ideal.τ).loc Cert.Reference10Ideal.main_arg4) = m' ((c.tc : Thread Cert.Reference10Ideal.nD Cert.Reference10Ideal.τ).loc Cert.Reference10Ideal.main_arg4)
          ∧ r.2.mem ((c.tc : Thread Cert.Reference10Ideal.nD Cert.Reference10Ideal.τ).loc Cert.Reference10Ideal.main_arg5) = m' ((c.tc : Thread Cert.Reference10Ideal.nD Cert.Reference10Ideal.τ).loc Cert.Reference10Ideal.main_arg5))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hPre_counts_drawn : Cert.Pre_counts_drawn.Facts) (hPre_finite_drawn : Cert.Pre_finite_drawn.Facts) (hPre_finite_prompt : Cert.Pre_finite_prompt.Facts),
    quiescent_Kernel (hKernel := hKernel)
    ∧ quiescent_KernelIdeal (hKernelIdeal := hKernelIdeal)
    ∧ quiescent_KernelIdeal_pre_counts_drawn (hKernelIdeal := hKernelIdeal) (hPre_counts_drawn := hPre_counts_drawn)
    ∧ quiescent_ReferenceIdeal (hReferenceIdeal := hReferenceIdeal)
    ∧ quiescent_ReferenceIdeal_pre_counts_drawn (hReferenceIdeal := hReferenceIdeal) (hPre_counts_drawn := hPre_counts_drawn)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Kernel6Ideal_pre_finite_drawn (hKernel6Ideal := hKernel6Ideal) (hPre_finite_drawn := hPre_finite_drawn)
    ∧ quiescent_Reference6Ideal (hReference6Ideal := hReference6Ideal)
    ∧ quiescent_Reference6Ideal_pre_finite_drawn (hReference6Ideal := hReference6Ideal) (hPre_finite_drawn := hPre_finite_drawn)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Kernel9Ideal_pre_finite_prompt (hKernel9Ideal := hKernel9Ideal) (hPre_finite_prompt := hPre_finite_prompt)
    ∧ quiescent_Reference9Ideal (hReference9Ideal := hReference9Ideal)
    ∧ quiescent_Reference9Ideal_pre_finite_prompt (hReference9Ideal := hReference9Ideal) (hPre_finite_prompt := hPre_finite_prompt)
    ∧ quiescent_Kernel10 (hKernel10 := hKernel10)
    ∧ quiescent_Kernel10Ideal (hKernel10Ideal := hKernel10Ideal)
    ∧ quiescent_Reference10Ideal (hReference10Ideal := hReference10Ideal)
    ∧ preserves_Kernel_KernelIdeal
    ∧ algebraic_KernelIdeal_ReferenceIdeal_pre_counts_drawn (hKernelIdeal := hKernelIdeal) (hReferenceIdeal := hReferenceIdeal) (hPre_counts_drawn := hPre_counts_drawn)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_pre_finite_drawn (hKernel6Ideal := hKernel6Ideal) (hReference6Ideal := hReference6Ideal) (hPre_finite_drawn := hPre_finite_drawn)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal_pre_finite_prompt (hKernel9Ideal := hKernel9Ideal) (hReference9Ideal := hReference9Ideal) (hPre_finite_prompt := hPre_finite_prompt)
    ∧ preserves_Kernel10_Kernel10Ideal
    ∧ algebraic_Kernel10Ideal_Reference10Ideal (hKernel10Ideal := hKernel10Ideal) (hReference10Ideal := hReference10Ideal)
-- ==== Pre_counts_drawn.lean ====
abbrev S69632x1024 : Shape := ⟨2, ![69632, 1024]⟩
abbrev S8 : Shape := ⟨1, ![8]⟩
abbrev S8x1024x2816 : Shape := ⟨3, ![8, 1024, 2816]⟩
abbrev S8x2816x1024 : Shape := ⟨3, ![8, 2816, 1024]⟩
abbrev S_ : Shape := ⟨0, ![]⟩

class Facts : Prop where
  bcast_S_S8 : S_.BroadcastsInDim S8 (![] : Fin 0 → Fin S8.rank)

variable [Facts]

def fn {F : FTy → Type} [FloatOps F] (main_arg0 : FVec F S69632x1024 .f32) (main_arg1 : IVec S8 32) (main_arg2 : FVec F S8x1024x2816 .f32) (main_arg3 : FVec F S8x1024x2816 .f32) (main_arg4 : FVec F S8x2816x1024 .f32) : IVec S8 1 :=
  let main_c : IVec S_ 32 := constantI S_ 32 0#32
  let main_v0 : IVec S8 32 := broadcastInDim S8 ![] bcast_S_S8 main_c
  let main_v1 : IVec S8 1 := cmpi .sge main_arg1 main_v0
  let main_c_0 : IVec S_ 32 := constantI S_ 32 65792#32
  let main_v2 : IVec S8 32 := broadcastInDim S8 ![] bcast_S_S8 main_c_0
  let main_v3 : IVec S8 1 := cmpi .sle main_arg1 main_v2
  let main_v4 : IVec S8 1 := andi main_v1 main_v3
  main_v4
-- ==== Pre_finite_drawn.lean ====
abbrev S128x1024 : Shape := ⟨2, ![128, 1024]⟩
abbrev S1024x8 : Shape := ⟨2, ![1024, 8]⟩
abbrev S8 : Shape := ⟨1, ![8]⟩
abbrev S1x128 : Shape := ⟨2, ![1, 128]⟩
abbrev S128x1024x1 : Shape := ⟨3, ![128, 1024, 1]⟩
abbrev S_ : Shape := ⟨0, ![]⟩
abbrev S1x1024x8 : Shape := ⟨3, ![1, 1024, 8]⟩
abbrev S128x1024x8 : Shape := ⟨3, ![128, 1024, 8]⟩
abbrev S1x1x8 : Shape := ⟨3, ![1, 1, 8]⟩

class Facts : Prop where
  bcast_S128x1024_S128x1024x1_0_1 : S128x1024.BroadcastsInDim S128x1024x1 (![0, 1] : Fin 2 → Fin S128x1024x1.rank)
  bcast_S_S128x1024x1 : S_.BroadcastsInDim S128x1024x1 (![] : Fin 0 → Fin S128x1024x1.rank)
  bcast_S1024x8_S1x1024x8_1_2 : S1024x8.BroadcastsInDim S1x1024x8 (![1, 2] : Fin 2 → Fin S1x1024x8.rank)
  bcast_S_S1x1024x8 : S_.BroadcastsInDim S1x1024x8 (![] : Fin 0 → Fin S1x1024x8.rank)
  bcast_S128x1024x1_S128x1024x8_0_1_2 : S128x1024x1.BroadcastsInDim S128x1024x8 (![0, 1, 2] : Fin 3 → Fin S128x1024x8.rank)
  bcast_S1x1024x8_S128x1024x8_0_1_2 : S1x1024x8.BroadcastsInDim S128x1024x8 (![0, 1, 2] : Fin 3 → Fin S128x1024x8.rank)
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S1x1x8_S128x1024x8_0_1_2 : S1x1x8.BroadcastsInDim S128x1024x8 (![0, 1, 2] : Fin 3 → Fin S128x1024x8.rank)

variable [Facts]

def fn {F : FTy → Type} [FloatOps F] (main_arg0 : FVec F S128x1024 .f32) (main_arg1 : FVec F S1024x8 .f32) (main_arg2 : FVec F S8 .f32) (main_arg3 : FVec F S1x128 .f32) : IVec S128x1024x8 1 :=
  let main_v0 : FVec F S128x1024 .f32 := Host.absf main_arg0
  let main_v1 : FVec F S128x1024x1 .f32 := broadcastInDim S128x1024x1 ![0, 1] bcast_S128x1024_S128x1024x1_0_1 main_v0
  let main_cst : FVec F S_ .f32 := constant S_ .f32 0x7F800000#32
  let main_v2 : FVec F S128x1024x1 .f32 := broadcastInDim S128x1024x1 ![] bcast_S_S128x1024x1 main_cst
  let main_v3 : IVec S128x1024x1 1 := cmpf .olt main_v1 main_v2
  let main_v4 : FVec F S1024x8 .f32 := Host.absf main_arg1
  let main_v5 : FVec F S1x1024x8 .f32 := broadcastInDim S1x1024x8 ![1, 2] bcast_S1024x8_S1x1024x8_1_2 main_v4
  let main_cst_0 : FVec F S_ .f32 := constant S_ .f32 0x7F800000#32
  let main_v6 : FVec F S1x1024x8 .f32 := broadcastInDim S1x1024x8 ![] bcast_S_S1x1024x8 main_cst_0
  let main_v7 : IVec S1x1024x8 1 := cmpf .olt main_v5 main_v6
  let main_v8 : IVec S128x1024x8 1 := broadcastInDim S128x1024x8 ![0, 1, 2] bcast_S128x1024x1_S128x1024x8_0_1_2 main_v3
  let main_v9 : IVec S128x1024x8 1 := broadcastInDim S128x1024x8 ![0, 1, 2] bcast_S1x1024x8_S128x1024x8_0_1_2 main_v7
  let main_v10 : IVec S128x1024x8 1 := andi main_v8 main_v9
  let main_v11 : FVec F S8 .f32 := Host.absf main_arg2
  let main_v12 : FVec F S1x1x8 .f32 := broadcastInDim S1x1x8 ![2] bcast_S8_S1x1x8_2 main_v11
  let main_cst_1 : FVec F S_ .f32 := constant S_ .f32 0x7F800000#32
  let main_v13 : FVec F S1x1x8 .f32 := broadcastInDim S1x1x8 ![] bcast_S_S1x1x8 main_cst_1
  let main_v14 : IVec S1x1x8 1 := cmpf .olt main_v12 main_v13
  let main_v15 : IVec S128x1024x8 1 := broadcastInDim S128x1024x8 ![0, 1, 2] bcast_S1x1x8_S128x1024x8_0_1_2 main_v14
  let main_v16 : IVec S128x1024x8 1 := andi main_v10 main_v15
  main_v16
-- ==== Pre_finite_prompt.lean ====
abbrev S32768x1024 : Shape := ⟨2, ![32768, 1024]⟩
abbrev S1024x8 : Shape := ⟨2, ![1024, 8]⟩
abbrev S8 : Shape := ⟨1, ![8]⟩
abbrev S1x128 : Shape := ⟨2, ![1, 128]⟩
abbrev S32768x1024x1 : Shape := ⟨3, ![32768, 1024, 1]⟩
abbrev S_ : Shape := ⟨0, ![]⟩
abbrev S1x1024x8 : Shape := ⟨3, ![1, 1024, 8]⟩
abbrev S32768x1024x8 : Shape := ⟨3, ![32768, 1024, 8]⟩
abbrev S1x1x8 : Shape := ⟨3, ![1, 1, 8]⟩

class Facts : Prop where
  bcast_S32768x1024_S32768x1024x1_0_1 : S32768x1024.BroadcastsInDim S32768x1024x1 (![0, 1] : Fin 2 → Fin S32768x1024x1.rank)
  bcast_S_S32768x1024x1 : S_.BroadcastsInDim S32768x1024x1 (![] : Fin 0 → Fin S32768x1024x1.rank)
  bcast_S1024x8_S1x1024x8_1_2 : S1024x8.BroadcastsInDim S1x1024x8 (![1, 2] : Fin 2 → Fin S1x1024x8.rank)
  bcast_S_S1x1024x8 : S_.BroadcastsInDim S1x1024x8 (![] : Fin 0 → Fin S1x1024x8.rank)
  bcast_S32768x1024x1_S32768x1024x8_0_1_2 : S32768x1024x1.BroadcastsInDim S32768x1024x8 (![0, 1, 2] : Fin 3 → Fin S32768x1024x8.rank)
  bcast_S1x1024x8_S32768x1024x8_0_1_2 : S1x1024x8.BroadcastsInDim S32768x1024x8 (![0, 1, 2] : Fin 3 → Fin S32768x1024x8.rank)
  bcast_S8_S1x1x8_2 : S8.BroadcastsInDim S1x1x8 (![2] : Fin 1 → Fin S1x1x8.rank)
  bcast_S_S1x1x8 : S_.BroadcastsInDim S1x1x8 (![] : Fin 0 → Fin S1x1x8.rank)
  bcast_S1x1x8_S32768x1024x8_0_1_2 : S1x1x8.BroadcastsInDim S32768x1024x8 (![0, 1, 2] : Fin 3 → Fin S32768x1024x8.rank)

variable [Facts]

def fn {F : FTy → Type} [FloatOps F] (main_arg0 : FVec F S32768x1024 .f32) (main_arg1 : FVec F S1024x8 .f32) (main_arg2 : FVec F S8 .f32) (main_arg3 : FVec F S1x128 .f32) : IVec S32768x1024x8 1 :=
  let main_v0 : FVec F S32768x1024 .f32 := Host.absf main_arg0
  let main_v1 : FVec F S32768x1024x1 .f32 := broadcastInDim S32768x1024x1 ![0, 1] bcast_S32768x1024_S32768x1024x1_0_1 main_v0
  let main_cst : FVec F S_ .f32 := constant S_ .f32 0x7F800000#32
  let main_v2 : FVec F S32768x1024x1 .f32 := broadcastInDim S32768x1024x1 ![] bcast_S_S32768x1024x1 main_cst
  let main_v3 : IVec S32768x1024x1 1 := cmpf .olt main_v1 main_v2
  let main_v4 : FVec F S1024x8 .f32 := Host.absf main_arg1
  let main_v5 : FVec F S1x1024x8 .f32 := broadcastInDim S1x1024x8 ![1, 2] bcast_S1024x8_S1x1024x8_1_2 main_v4
  let main_cst_0 : FVec F S_ .f32 := constant S_ .f32 0x7F800000#32
  let main_v6 : FVec F S1x1024x8 .f32 := broadcastInDim S1x1024x8 ![] bcast_S_S1x1024x8 main_cst_0
  let main_v7 : IVec S1x1024x8 1 := cmpf .olt main_v5 main_v6
  let main_v8 : IVec S32768x1024x8 1 := broadcastInDim S32768x1024x8 ![0, 1, 2] bcast_S32768x1024x1_S32768x1024x8_0_1_2 main_v3
  let main_v9 : IVec S32768x1024x8 1 := broadcastInDim S32768x1024x8 ![0, 1, 2] bcast_S1x1024x8_S32768x1024x8_0_1_2 main_v7
  let main_v10 : IVec S32768x1024x8 1 := andi main_v8 main_v9
  let main_v11 : FVec F S8 .f32 := Host.absf main_arg2
  let main_v12 : FVec F S1x1x8 .f32 := broadcastInDim S1x1x8 ![2] bcast_S8_S1x1x8_2 main_v11
  let main_cst_1 : FVec F S_ .f32 := constant S_ .f32 0x7F800000#32
  let main_v13 : FVec F S1x1x8 .f32 := broadcastInDim S1x1x8 ![] bcast_S_S1x1x8 main_cst_1
  let main_v14 : IVec S1x1x8 1 := cmpf .olt main_v12 main_v13
  let main_v15 : IVec S32768x1024x8 1 := broadcastInDim S32768x1024x8 ![0, 1, 2] bcast_S1x1x8_S32768x1024x8_0_1_2 main_v14
  let main_v16 : IVec S32768x1024x8 1 := andi main_v10 main_v15
  main_v16
-- ==== Kernel.lean ====
abbrev S69632x1024 : Shape := ⟨2, ![69632, 1024]⟩
abbrev S8 : Shape := ⟨1, ![8]⟩
abbrev S8x1024x2816 : Shape := ⟨3, ![8, 1024, 2816]⟩
abbrev S8x2816x1024 : Shape := ⟨3, ![8, 2816, 1024]⟩
abbrev S_ : Shape := ⟨0, ![]⟩
abbrev S136 : Shape := ⟨1, ![136]⟩
abbrev S136x1 : Shape := ⟨2, ![136, 1]⟩
abbrev S1x8 : Shape := ⟨2, ![1, 8]⟩
abbrev S136x8 : Shape := ⟨2, ![136, 8]⟩
abbrev S1 : Shape := ⟨1, ![1]⟩
abbrev S137 : Shape := ⟨1, ![137]⟩
abbrev S512x1024 : Shape := ⟨2, ![512, 1024]⟩
abbrev S1x1024x2816 : Shape := ⟨3, ![1, 1024, 2816]⟩
abbrev S1x2816x1024 : Shape := ⟨3, ![1, 2816, 1024]⟩
abbrev S1024x2816 : Shape := ⟨2, ![1024, 2816]⟩
abbrev S512x2816 : Shape := ⟨2, ![512, 2816]⟩
abbrev S2816x1024 : Shape := ⟨2, ![2816, 1024]⟩

abbrev nBuf : Space → Nat
  | .hbm => 73
  | .vmem => 10
  | .smem => 1
  | _ => 0

abbrev bufTy : (tb : Table) → Fin (tcTables nBuf tb) → BufTy
  | .hbm, ⟨0, _⟩ => ⟨S69632x1024, .f32⟩
  | .hbm, ⟨1, _⟩ => ⟨S8, .i32⟩
  | .hbm, ⟨2, _⟩ => ⟨S8x1024x2816, .f32⟩
  | .hbm, ⟨3, _⟩ => ⟨S8x1024x2816, .f32⟩
  | .hbm, ⟨4, _⟩ => ⟨S8x2816x1024, .f32⟩
  | .hbm, ⟨5, _⟩ => ⟨S8x1024x2816, .bf16⟩
  | .hbm, ⟨6, _⟩ => ⟨S8x1024x2816, .bf16⟩
  | .hbm, ⟨7, _⟩ => ⟨S8x2816x1024, .bf16⟩
  | .hbm, ⟨8, _⟩ => ⟨S_, .i32⟩
  | .hbm, ⟨9, _⟩ => ⟨S8, .i32⟩
  | .hbm, ⟨10, _⟩ => ⟨S8, .i32⟩
  | .hbm, ⟨11, _⟩ => ⟨S_, .i32⟩
  | .hbm, ⟨12, _⟩ => ⟨S8, .i32⟩
  | .hbm, ⟨13, _⟩ => ⟨S8, .i32⟩
  | .hbm, ⟨14, _⟩ => ⟨S_, .i32⟩
  | .hbm, ⟨15, _⟩ => ⟨S_, .i32⟩
  | .hbm, ⟨16, _⟩ => ⟨S8, .i32⟩
  | .hbm, ⟨17, _⟩ => ⟨S8, .i32⟩
  | .hbm, ⟨18, _⟩ => ⟨S8, .i32⟩
  | .hbm, ⟨19, _⟩ => ⟨S_, .i32⟩
  | .hbm, ⟨20, _⟩ => ⟨S8, .i32⟩
  | .hbm, ⟨21, _⟩ => ⟨S8, .i1⟩
  | .hbm, ⟨22, _⟩ => ⟨S8, .i32⟩
  | .hbm, ⟨23, _⟩ => ⟨S8, .i32⟩
  | .hbm, ⟨24, _⟩ => ⟨S_, .i32⟩
  | .hbm, ⟨25, _⟩ => ⟨S8, .i32⟩
  | .hbm, ⟨26, _⟩ => ⟨S8, .i1⟩
  | .hbm, ⟨27, _⟩ => ⟨S8, .i1⟩
  | .hbm, ⟨28, _⟩ => ⟨S_, .i32⟩
  | .hbm, ⟨29, _⟩ => ⟨S8, .i32⟩
  | .hbm, ⟨30, _⟩ => ⟨S8, .i32⟩
  | .hbm, ⟨31, _⟩ => ⟨S8, .i32⟩
  | .hbm, ⟨32, _⟩ => ⟨S_, .i32⟩
  | .hbm, ⟨33, _⟩ => ⟨S8, .i32⟩
  | .hbm, ⟨34, _⟩ => ⟨S8, .i32⟩
  | .hbm, ⟨35, _⟩ => ⟨S_, .i32⟩
  | .hbm, ⟨36, _⟩ => ⟨S_, .i32⟩
  | .hbm, ⟨37, _⟩ => ⟨S8, .i32⟩
  | .hbm, ⟨38, _⟩ => ⟨S136, .i32⟩
  | .hbm, ⟨39, _⟩ => ⟨S_, .i32⟩
  | .hbm, ⟨40, _⟩ => ⟨S136, .i32⟩
  | .hbm, ⟨41, _⟩ => ⟨S136, .i32⟩
  | .hbm, ⟨42, _⟩ => ⟨S136x1, .i32⟩
  | .hbm, ⟨43, _⟩ => ⟨S1x8, .i32⟩
  | .hbm, ⟨44, _⟩ => ⟨S136x8, .i32⟩
  | .hbm, ⟨45, _⟩ => ⟨S136x8, .i32⟩
  | .hbm, ⟨46, _⟩ => ⟨S136x8, .i1⟩
  | .hbm, ⟨47, _⟩ => ⟨S136x8, .i32⟩
  | .hbm, ⟨48, _⟩ => ⟨S_, .i32⟩
  | .hbm, ⟨49, _⟩ => ⟨S136, .i32⟩
  | .hbm, ⟨50, _⟩ => ⟨S_, .i32⟩
  | .hbm, ⟨51, _⟩ => ⟨S136, .i32⟩
  | .hbm, ⟨52, _⟩ => ⟨S136, .i32⟩
  | .hbm, ⟨53, _⟩ => ⟨S1, .i32⟩
  | .hbm, ⟨54, _⟩ => ⟨S_, .i32⟩
  | .hbm, ⟨55, _⟩ => ⟨S_, .i32⟩
  | .hbm, ⟨56, _⟩ => ⟨S1, .i32⟩
  | .hbm, ⟨57, _⟩ => ⟨S1, .i32⟩
  | .hbm, ⟨58, _⟩ => ⟨S1, .i32⟩
  | .hbm, ⟨59, _⟩ => ⟨S_, .i32⟩
  | .hbm, ⟨60, _⟩ => ⟨S1, .i32⟩
  | .hbm, ⟨61, _⟩ => ⟨S1, .i1⟩
  | .hbm, ⟨62, _⟩ => ⟨S1, .i32⟩
  | .hbm, ⟨63, _⟩ => ⟨S1, .i32⟩
  | .hbm, ⟨64, _⟩ => ⟨S_, .i32⟩
  | .hbm, ⟨65, _⟩ => ⟨S1, .i32⟩
  | .hbm, ⟨66, _⟩ => ⟨S1, .i1⟩
  | .hbm, ⟨67, _⟩ => ⟨S1, .i1⟩
  | .hbm, ⟨68, _⟩ => ⟨S_, .i32⟩
  | .hbm, ⟨69, _⟩ => ⟨S1, .i32⟩
  | .hbm, ⟨70, _⟩ => ⟨S1, .i32⟩
  | .hbm, ⟨71, _⟩ => ⟨S1, .i32⟩
  | .hbm, ⟨72, _⟩ => ⟨S69632x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S512x1024, .f32⟩
  | .local _ .vmem, ⟨9, _⟩ => ⟨S512x1024, .f32⟩
  | .local _ .smem, ⟨0, _⟩ => ⟨S137, .i32⟩
  | _, _ => ⟨S69632x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_c : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_v5 : Ref sig .tc := ⟨.hbm, 12, rfl⟩
abbrev main_v6 : Ref sig .tc := ⟨.hbm, 13, rfl⟩
abbrev main_c_1 : Ref sig .tc := ⟨.hbm, 14, rfl⟩
abbrev main_call0_v0 : Ref sig .tc := ⟨.hbm, 15, rfl⟩
abbrev main_call0_v1 : Ref sig .tc := ⟨.hbm, 16, rfl⟩
abbrev main_call0_v2 : Ref sig .tc := ⟨.hbm, 17, rfl⟩
abbrev main_call0_v3 : Ref sig .tc := ⟨.hbm, 18, rfl⟩
abbrev main_call0_v4 : Ref sig .tc := ⟨.hbm, 19, rfl⟩
abbrev main_call0_v5 : Ref sig .tc := ⟨.hbm, 20, rfl⟩
abbrev main_call0_v6 : Ref sig .tc := ⟨.hbm, 21, rfl⟩
abbrev main_call0_v7 : Ref sig .tc := ⟨.hbm, 22, rfl⟩
abbrev main_call0_v8 : Ref sig .tc := ⟨.hbm, 23, rfl⟩
abbrev main_call0_c : Ref sig .tc := ⟨.hbm, 24, rfl⟩
abbrev main_call0_v9 : Ref sig .tc := ⟨.hbm, 25, rfl⟩
abbrev main_call0_v10 : Ref sig .tc := ⟨.hbm, 26, rfl⟩
abbrev main_call0_v11 : Ref sig .tc := ⟨.hbm, 27, rfl⟩
abbrev main_call0_c_0 : Ref sig .tc := ⟨.hbm, 28, rfl⟩
abbrev main_call0_v12 : Ref sig .tc := ⟨.hbm, 29, rfl⟩
abbrev main_call0_v13 : Ref sig .tc := ⟨.hbm, 30, rfl⟩
abbrev main_v7 : Ref sig .tc := ⟨.hbm, 31, rfl⟩
abbrev main_c_2 : Ref sig .tc := ⟨.hbm, 32, rfl⟩
abbrev main_v8 : Ref sig .tc := ⟨.hbm, 33, rfl⟩
abbrev main_v9 : Ref sig .tc := ⟨.hbm, 34, rfl⟩
abbrev main_call1_call0_c : Ref sig .tc := ⟨.hbm, 35, rfl⟩
abbrev main_call1_call0_v0 : Ref sig .tc := ⟨.hbm, 36, rfl⟩
abbrev main_v10 : Ref sig .tc := ⟨.hbm, 37, rfl⟩
abbrev main_v11 : Ref sig .tc := ⟨.hbm, 38, rfl⟩
abbrev main_c_3 : Ref sig .tc := ⟨.hbm, 39, rfl⟩
abbrev main_v12 : Ref sig .tc := ⟨.hbm, 40, rfl⟩
abbrev main_v13 : Ref sig .tc := ⟨.hbm, 41, rfl⟩
abbrev main_v14 : Ref sig .tc := ⟨.hbm, 42, rfl⟩
abbrev main_v15 : Ref sig .tc := ⟨.hbm, 43, rfl⟩
abbrev main_v16 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_c_4 : Ref sig .tc := ⟨.hbm, 48, rfl⟩
abbrev main_v20 : Ref sig .tc := ⟨.hbm, 49, rfl⟩
abbrev main_c_5 : Ref sig .tc := ⟨.hbm, 50, rfl⟩
abbrev main_v21 : Ref sig .tc := ⟨.hbm, 51, rfl⟩
abbrev main_v22 : Ref sig .tc := ⟨.hbm, 52, rfl⟩
abbrev main_v23 : Ref sig .tc := ⟨.hbm, 53, rfl⟩
abbrev main_c_6 : Ref sig .tc := ⟨.hbm, 54, rfl⟩
abbrev main_call2_v0 : Ref sig .tc := ⟨.hbm, 55, rfl⟩
abbrev main_call2_v1 : Ref sig .tc := ⟨.hbm, 56, rfl⟩
abbrev main_call2_v2 : Ref sig .tc := ⟨.hbm, 57, rfl⟩
abbrev main_call2_v3 : Ref sig .tc := ⟨.hbm, 58, rfl⟩
abbrev main_call2_v4 : Ref sig .tc := ⟨.hbm, 59, rfl⟩
abbrev main_call2_v5 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_c : Ref sig .tc := ⟨.hbm, 64, rfl⟩
abbrev main_call2_v9 : Ref sig .tc := ⟨.hbm, 65, rfl⟩
abbrev main_call2_v10 : Ref sig .tc := ⟨.hbm, 66, rfl⟩
abbrev main_call2_v11 : Ref sig .tc := ⟨.hbm, 67, rfl⟩
abbrev main_call2_c_0 : Ref sig .tc := ⟨.hbm, 68, rfl⟩
abbrev main_call2_v12 : Ref sig .tc := ⟨.hbm, 69, rfl⟩
abbrev main_call2_v13 : Ref sig .tc := ⟨.hbm, 70, rfl⟩
abbrev main_v24 : Ref sig .tc := ⟨.hbm, 71, rfl⟩
abbrev main_v26 : Ref sig .tc := ⟨.hbm, 72, rfl⟩
abbrev main_v25 : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨1, ![136], ![false]⟩

abbrev pre0 : Pipeline.Prefetch sig := ⟨1, ![main_v25.idx], fun | 0 => main_v25.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S137.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S137) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== ReferenceIdeal.lean ====
abbrev S69632x1024 : Shape := ⟨2, ![69632, 1024]⟩
abbrev S8 : Shape := ⟨1, ![8]⟩
abbrev S8x1024x2816 : Shape := ⟨3, ![8, 1024, 2816]⟩
abbrev S8x2816x1024 : Shape := ⟨3, ![8, 2816, 1024]⟩
abbrev S_ : Shape := ⟨0, ![]⟩
abbrev S69632 : Shape := ⟨1, ![69632]⟩
abbrev S69632x1 : Shape := ⟨2, ![69632, 1]⟩
abbrev S1x8 : Shape := ⟨2, ![1, 8]⟩
abbrev S69632x8 : Shape := ⟨2, ![69632, 8]⟩
abbrev S1x1024x2816 : Shape := ⟨3, ![1, 1024, 2816]⟩
abbrev S1024x2816 : Shape := ⟨2, ![1024, 2816]⟩
abbrev S69632x2816 : Shape := ⟨2, ![69632, 2816]⟩
abbrev S1x2816x1024 : Shape := ⟨3, ![1, 2816, 1024]⟩
abbrev S2816x1024 : Shape := ⟨2, ![2816, 1024]⟩

abbrev nBuf : Space → Nat
  | .hbm => 232
  | .vmem => 0
  | .smem => 0
  | _ => 0

abbrev hbmTy0_0 (i : Nat) : BufTy := match i % 128 with
  | 0 => ⟨S69632x1024, .f32⟩
  | 1 => ⟨S8, .i32⟩
  | 2 => ⟨S8x1024x2816, .f32⟩
  | 3 => ⟨S8x1024x2816, .f32⟩
  | 4 => ⟨S8x2816x1024, .f32⟩
  | 5 => ⟨S_, .i32⟩
  | 6 => ⟨S8, .i32⟩
  | 7 => ⟨S8, .i32⟩
  | 8 => ⟨S_, .i32⟩
  | 9 => ⟨S_, .i32⟩
  | 10 => ⟨S8, .i32⟩
  | 11 => ⟨S8, .i32⟩
  | 12 => ⟨S8, .i32⟩
  | 13 => ⟨S_, .i32⟩
  | 14 => ⟨S8, .i32⟩
  | 15 => ⟨S8, .i1⟩
  | 16 => ⟨S8, .i32⟩
  | 17 => ⟨S8, .i32⟩
  | 18 => ⟨S_, .i32⟩
  | 19 => ⟨S8, .i32⟩
  | 20 => ⟨S8, .i1⟩
  | 21 => ⟨S8, .i1⟩
  | 22 => ⟨S_, .i32⟩
  | 23 => ⟨S8, .i32⟩
  | 24 => ⟨S8, .i32⟩
  | 25 => ⟨S8, .i32⟩
  | 26 => ⟨S_, .i32⟩
  | 27 => ⟨S8, .i32⟩
  | 28 => ⟨S8, .i32⟩
  | 29 => ⟨S_, .i32⟩
  | 30 => ⟨S_, .i32⟩
  | 31 => ⟨S8, .i32⟩
  | 32 => ⟨S8, .i32⟩
  | 33 => ⟨S69632, .i32⟩
  | 34 => ⟨S69632x1, .i32⟩
  | 35 => ⟨S1x8, .i32⟩
  | 36 => ⟨S69632x8, .i32⟩
  | 37 => ⟨S69632x8, .i32⟩
  | 38 => ⟨S69632x8, .i1⟩
  | 39 => ⟨S69632x1, .i32⟩
  | 40 => ⟨S1x8, .i32⟩
  | 41 => ⟨S69632x8, .i32⟩
  | 42 => ⟨S69632x8, .i32⟩
  | 43 => ⟨S69632x8, .i1⟩
  | 44 => ⟨S69632x8, .i1⟩
  | 45 => ⟨S69632x8, .f32⟩
  | 46 => ⟨S_, .f32⟩
  | 47 => ⟨S69632x1024, .f32⟩
  | 48 => ⟨S1x1024x2816, .f32⟩
  | 49 => ⟨S1024x2816, .f32⟩
  | 50 => ⟨S69632x2816, .f32⟩
  | 51 => ⟨S69632x2816, .f32⟩
  | 52 => ⟨S69632x2816, .f32⟩
  | 53 => ⟨S_, .f32⟩
  | 54 => ⟨S69632x2816, .f32⟩
  | 55 => ⟨S69632x2816, .f32⟩
  | 56 => ⟨S_, .f32⟩
  | 57 => ⟨S69632x2816, .f32⟩
  | 58 => ⟨S69632x2816, .f32⟩
  | 59 => ⟨S69632x2816, .f32⟩
  | 60 => ⟨S1x1024x2816, .f32⟩
  | 61 => ⟨S1024x2816, .f32⟩
  | 62 => ⟨S69632x2816, .f32⟩
  | 63 => ⟨S69632x2816, .f32⟩
  | 64 => ⟨S69632x1, .f32⟩
  | 65 => ⟨S1x2816x1024, .f32⟩
  | 66 => ⟨S2816x1024, .f32⟩
  | 67 => ⟨S69632x1024, .f32⟩
  | 68 => ⟨S69632x1024, .f32⟩
  | 69 => ⟨S69632x1024, .f32⟩
  | 70 => ⟨S69632x1024, .f32⟩
  | 71 => ⟨S1x1024x2816, .f32⟩
  | 72 => ⟨S1024x2816, .f32⟩
  | 73 => ⟨S69632x2816, .f32⟩
  | 74 => ⟨S69632x2816, .f32⟩
  | 75 => ⟨S69632x2816, .f32⟩
  | 76 => ⟨S_, .f32⟩
  | 77 => ⟨S69632x2816, .f32⟩
  | 78 => ⟨S69632x2816, .f32⟩
  | 79 => ⟨S_, .f32⟩
  | 80 => ⟨S69632x2816, .f32⟩
  | 81 => ⟨S69632x2816, .f32⟩
  | 82 => ⟨S69632x2816, .f32⟩
  | 83 => ⟨S1x1024x2816, .f32⟩
  | 84 => ⟨S1024x2816, .f32⟩
  | 85 => ⟨S69632x2816, .f32⟩
  | 86 => ⟨S69632x2816, .f32⟩
  | 87 => ⟨S69632x1, .f32⟩
  | 88 => ⟨S1x2816x1024, .f32⟩
  | 89 => ⟨S2816x1024, .f32⟩
  | 90 => ⟨S69632x1024, .f32⟩
  | 91 => ⟨S69632x1024, .f32⟩
  | 92 => ⟨S69632x1024, .f32⟩
  | 93 => ⟨S69632x1024, .f32⟩
  | 94 => ⟨S1x1024x2816, .f32⟩
  | 95 => ⟨S1024x2816, .f32⟩
  | 96 => ⟨S69632x2816, .f32⟩
  | 97 => ⟨S69632x2816, .f32⟩
  | 98 => ⟨S69632x2816, .f32⟩
  | 99 => ⟨S_, .f32⟩
  | 100 => ⟨S69632x2816, .f32⟩
  | 101 => ⟨S69632x2816, .f32⟩
  | 102 => ⟨S_, .f32⟩
  | 103 => ⟨S69632x2816, .f32⟩
  | 104 => ⟨S69632x2816, .f32⟩
  | 105 => ⟨S69632x2816, .f32⟩
  | 106 => ⟨S1x1024x2816, .f32⟩
  | 107 => ⟨S1024x2816, .f32⟩
  | 108 => ⟨S69632x2816, .f32⟩
  | 109 => ⟨S69632x2816, .f32⟩
  | 110 => ⟨S69632x1, .f32⟩
  | 111 => ⟨S1x2816x1024, .f32⟩
  | 112 => ⟨S2816x1024, .f32⟩
  | 113 => ⟨S69632x1024, .f32⟩
  | 114 => ⟨S69632x1024, .f32⟩
  | 115 => ⟨S69632x1024, .f32⟩
  | 116 => ⟨S69632x1024, .f32⟩
  | 117 => ⟨S1x1024x2816, .f32⟩
  | 118 => ⟨S1024x2816, .f32⟩
  | 119 => ⟨S69632x2816, .f32⟩
  | 120 => ⟨S69632x2816, .f32⟩
  | 121 => ⟨S69632x2816, .f32⟩
  | 122 => ⟨S_, .f32⟩
  | 123 => ⟨S69632x2816, .f32⟩
  | 124 => ⟨S69632x2816, .f32⟩
  | 125 => ⟨S_, .f32⟩
  | 126 => ⟨S69632x2816, .f32⟩
  | 127 => ⟨S69632x2816, .f32⟩
  | _ => ⟨S69632x1024, .f32⟩

abbrev hbmTy0_1 (i : Nat) : BufTy := match i % 128 with
  | 0 => ⟨S69632x2816, .f32⟩
  | 1 => ⟨S1x1024x2816, .f32⟩
  | 2 => ⟨S1024x2816, .f32⟩
  | 3 => ⟨S69632x2816, .f32⟩
  | 4 => ⟨S69632x2816, .f32⟩
  | 5 => ⟨S69632x1, .f32⟩
  | 6 => ⟨S1x2816x1024, .f32⟩
  | 7 => ⟨S2816x1024, .f32⟩
  | 8 => ⟨S69632x1024, .f32⟩
  | 9 => ⟨S69632x1024, .f32⟩
  | 10 => ⟨S69632x1024, .f32⟩
  | 11 => ⟨S69632x1024, .f32⟩
  | 12 => ⟨S1x1024x2816, .f32⟩
  | 13 => ⟨S1024x2816, .f32⟩
  | 14 => ⟨S69632x2816, .f32⟩
  | 15 => ⟨S69632x2816, .f32⟩
  | 16 => ⟨S69632x2816, .f32⟩
  | 17 => ⟨S_, .f32⟩
  | 18 => ⟨S69632x2816, .f32⟩
  | 19 => ⟨S69632x2816, .f32⟩
  | 20 => ⟨S_, .f32⟩
  | 21 => ⟨S69632x2816, .f32⟩
  | 22 => ⟨S69632x2816, .f32⟩
  | 23 => ⟨S69632x2816, .f32⟩
  | 24 => ⟨S1x1024x2816, .f32⟩
  | 25 => ⟨S1024x2816, .f32⟩
  | 26 => ⟨S69632x2816, .f32⟩
  | 27 => ⟨S69632x2816, .f32⟩
  | 28 => ⟨S69632x1, .f32⟩
  | 29 => ⟨S1x2816x1024, .f32⟩
  | 30 => ⟨S2816x1024, .f32⟩
  | 31 => ⟨S69632x1024, .f32⟩
  | 32 => ⟨S69632x1024, .f32⟩
  | 33 => ⟨S69632x1024, .f32⟩
  | 34 => ⟨S69632x1024, .f32⟩
  | 35 => ⟨S1x1024x2816, .f32⟩
  | 36 => ⟨S1024x2816, .f32⟩
  | 37 => ⟨S69632x2816, .f32⟩
  | 38 => ⟨S69632x2816, .f32⟩
  | 39 => ⟨S69632x2816, .f32⟩
  | 40 => ⟨S_, .f32⟩
  | 41 => ⟨S69632x2816, .f32⟩
  | 42 => ⟨S69632x2816, .f32⟩
  | 43 => ⟨S_, .f32⟩
  | 44 => ⟨S69632x2816, .f32⟩
  | 45 => ⟨S69632x2816, .f32⟩
  | 46 => ⟨S69632x2816, .f32⟩
  | 47 => ⟨S1x1024x2816, .f32⟩
  | 48 => ⟨S1024x2816, .f32⟩
  | 49 => ⟨S69632x2816, .f32⟩
  | 50 => ⟨S69632x2816, .f32⟩
  | 51 => ⟨S69632x1, .f32⟩
  | 52 => ⟨S1x2816x1024, .f32⟩
  | 53 => ⟨S2816x1024, .f32⟩
  | 54 => ⟨S69632x1024, .f32⟩
  | 55 => ⟨S69632x1024, .f32⟩
  | 56 => ⟨S69632x1024, .f32⟩
  | 57 => ⟨S69632x1024, .f32⟩
  | 58 => ⟨S1x1024x2816, .f32⟩
  | 59 => ⟨S1024x2816, .f32⟩
  | 60 => ⟨S69632x2816, .f32⟩
  | 61 => ⟨S69632x2816, .f32⟩
  | 62 => ⟨S69632x2816, .f32⟩
  | 63 => ⟨S_, .f32⟩
  | 64 => ⟨S69632x2816, .f32⟩
  | 65 => ⟨S69632x2816, .f32⟩
  | 66 => ⟨S_, .f32⟩
  | 67 => ⟨S69632x2816, .f32⟩
  | 68 => ⟨S69632x2816, .f32⟩
  | 69 => ⟨S69632x2816, .f32⟩
  | 70 => ⟨S1x1024x2816, .f32⟩
  | 71 => ⟨S1024x2816, .f32⟩
  | 72 => ⟨S69632x2816, .f32⟩
  | 73 => ⟨S69632x2816, .f32⟩
  | 74 => ⟨S69632x1, .f32⟩
  | 75 => ⟨S1x2816x1024, .f32⟩
  | 76 => ⟨S2816x1024, .f32⟩
  | 77 => ⟨S69632x1024, .f32⟩
  | 78 => ⟨S69632x1024, .f32⟩
  | 79 => ⟨S69632x1024, .f32⟩
  | 80 => ⟨S69632x1024, .f32⟩
  | 81 => ⟨S1x1024x2816, .f32⟩
  | 82 => ⟨S1024x2816, .f32⟩
  | 83 => ⟨S69632x2816, .f32⟩
  | 84 => ⟨S69632x2816, .f32⟩
  | 85 => ⟨S69632x2816, .f32⟩
  | 86 => ⟨S_, .f32⟩
  | 87 => ⟨S69632x2816, .f32⟩
  | 88 => ⟨S69632x2816, .f32⟩
  | 89 => ⟨S_, .f32⟩
  | 90 => ⟨S69632x2816, .f32⟩
  | 91 => ⟨S69632x2816, .f32⟩
  | 92 => ⟨S69632x2816, .f32⟩
  | 93 => ⟨S1x1024x2816, .f32⟩
  | 94 => ⟨S1024x2816, .f32⟩
  | 95 => ⟨S69632x2816, .f32⟩
  | 96 => ⟨S69632x2816, .f32⟩
  | 97 => ⟨S69632x1, .f32⟩
  | 98 => ⟨S1x2816x1024, .f32⟩
  | 99 => ⟨S2816x1024, .f32⟩
  | 100 => ⟨S69632x1024, .f32⟩
  | 101 => ⟨S69632x1024, .f32⟩
  | 102 => ⟨S69632x1024, .f32⟩
  | 103 => ⟨S69632x1024, .f32⟩
  | _ => ⟨S69632x1024, .f32⟩

abbrev hbmTy (i : Nat) : BufTy := match i / 128 with
  | 0 => hbmTy0_0 i
  | 1 => hbmTy0_1 i
  | _ => ⟨S69632x1024, .f32⟩

abbrev bufTy : (tb : Table) → Fin (tcTables nBuf tb) → BufTy
  | .hbm, ⟨i, _⟩ => hbmTy i
  | _, _ => ⟨S69632x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_c_0 : Ref sig .tc := ⟨.hbm, 8, rfl⟩
abbrev main_call0_v0 : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_v5 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_c : Ref sig .tc := ⟨.hbm, 18, rfl⟩
abbrev main_call0_v9 : Ref sig .tc := ⟨.hbm, 19, rfl⟩
abbrev main_call0_v10 : Ref sig .tc := ⟨.hbm, 20, rfl⟩
abbrev main_call0_v11 : Ref sig .tc := ⟨.hbm, 21, rfl⟩
abbrev main_call0_c_0 : Ref sig .tc := ⟨.hbm, 22, rfl⟩
abbrev main_call0_v12 : Ref sig .tc := ⟨.hbm, 23, rfl⟩
abbrev main_call0_v13 : Ref sig .tc := ⟨.hbm, 24, rfl⟩
abbrev main_v2 : Ref sig .tc := ⟨.hbm, 25, rfl⟩
abbrev main_c_1 : Ref sig .tc := ⟨.hbm, 26, rfl⟩
abbrev main_v3 : Ref sig .tc := ⟨.hbm, 27, rfl⟩
abbrev main_v4 : Ref sig .tc := ⟨.hbm, 28, rfl⟩
abbrev main_call1_call0_c : Ref sig .tc := ⟨.hbm, 29, rfl⟩
abbrev main_call1_call0_v0 : Ref sig .tc := ⟨.hbm, 30, rfl⟩
abbrev main_v5 : Ref sig .tc := ⟨.hbm, 31, rfl⟩
abbrev main_v6 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_v17 : Ref sig .tc := ⟨.hbm, 43, rfl⟩
abbrev main_v18 : Ref sig .tc := ⟨.hbm, 44, rfl⟩
abbrev main_v19 : Ref sig .tc := ⟨.hbm, 45, rfl⟩
abbrev main_cst : Ref sig .tc := ⟨.hbm, 46, rfl⟩
abbrev main_v20 : Ref sig .tc := ⟨.hbm, 47, rfl⟩
abbrev main_v21 : Ref sig .tc := ⟨.hbm, 48, rfl⟩
abbrev main_v22 : Ref sig .tc := ⟨.hbm, 49, rfl⟩
abbrev main_v23 : Ref sig .tc := ⟨.hbm, 50, rfl⟩
abbrev main_call2_v0 : Ref sig .tc := ⟨.hbm, 51, rfl⟩
abbrev main_call2_v1 : Ref sig .tc := ⟨.hbm, 52, rfl⟩
abbrev main_call2_cst : Ref sig .tc := ⟨.hbm, 53, rfl⟩
abbrev main_call2_v2 : Ref sig .tc := ⟨.hbm, 54, rfl⟩
abbrev main_call2_v3 : Ref sig .tc := ⟨.hbm, 55, rfl⟩
abbrev main_call2_cst_0 : Ref sig .tc := ⟨.hbm, 56, rfl⟩
abbrev main_call2_v4 : Ref sig .tc := ⟨.hbm, 57, rfl⟩
abbrev main_call2_v5 : Ref sig .tc := ⟨.hbm, 58, rfl⟩
abbrev main_v24 : Ref sig .tc := ⟨.hbm, 59, rfl⟩
abbrev main_v25 : Ref sig .tc := ⟨.hbm, 60, rfl⟩
abbrev main_v26 : Ref sig .tc := ⟨.hbm, 61, rfl⟩
abbrev main_v27 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_v34 : Ref sig .tc := ⟨.hbm, 69, rfl⟩
abbrev main_v35 : Ref sig .tc := ⟨.hbm, 70, rfl⟩
abbrev main_v36 : Ref sig .tc := ⟨.hbm, 71, rfl⟩
abbrev main_v37 : Ref sig .tc := ⟨.hbm, 72, rfl⟩
abbrev main_v38 : Ref sig .tc := ⟨.hbm, 73, rfl⟩
abbrev main_call3_v0 : Ref sig .tc := ⟨.hbm, 74, rfl⟩
abbrev main_call3_v1 : Ref sig .tc := ⟨.hbm, 75, rfl⟩
abbrev main_call3_cst : Ref sig .tc := ⟨.hbm, 76, rfl⟩
abbrev main_call3_v2 : Ref sig .tc := ⟨.hbm, 77, rfl⟩
abbrev main_call3_v3 : Ref sig .tc := ⟨.hbm, 78, rfl⟩
abbrev main_call3_cst_0 : Ref sig .tc := ⟨.hbm, 79, rfl⟩
abbrev main_call3_v4 : Ref sig .tc := ⟨.hbm, 80, rfl⟩
abbrev main_call3_v5 : Ref sig .tc := ⟨.hbm, 81, rfl⟩
abbrev main_v39 : Ref sig .tc := ⟨.hbm, 82, rfl⟩
abbrev main_v40 : Ref sig .tc := ⟨.hbm, 83, rfl⟩
abbrev main_v41 : Ref sig .tc := ⟨.hbm, 84, rfl⟩
abbrev main_v42 : Ref sig .tc := ⟨.hbm, 85, rfl⟩
abbrev main_v43 : Ref sig .tc := ⟨.hbm, 86, rfl⟩
abbrev main_v44 : Ref sig .tc := ⟨.hbm, 87, rfl⟩
abbrev main_v45 : Ref sig .tc := ⟨.hbm, 88, rfl⟩
abbrev main_v46 : Ref sig .tc := ⟨.hbm, 89, rfl⟩
abbrev main_v47 : Ref sig .tc := ⟨.hbm, 90, rfl⟩
abbrev main_v48 : Ref sig .tc := ⟨.hbm, 91, rfl⟩
abbrev main_v49 : Ref sig .tc := ⟨.hbm, 92, rfl⟩
abbrev main_v50 : Ref sig .tc := ⟨.hbm, 93, rfl⟩
abbrev main_v51 : Ref sig .tc := ⟨.hbm, 94, rfl⟩
abbrev main_v52 : Ref sig .tc := ⟨.hbm, 95, rfl⟩
abbrev main_v53 : Ref sig .tc := ⟨.hbm, 96, rfl⟩
abbrev main_call4_v0 : Ref sig .tc := ⟨.hbm, 97, rfl⟩
abbrev main_call4_v1 : Ref sig .tc := ⟨.hbm, 98, rfl⟩
abbrev main_call4_cst : Ref sig .tc := ⟨.hbm, 99, rfl⟩
abbrev main_call4_v2 : Ref sig .tc := ⟨.hbm, 100, rfl⟩
abbrev main_call4_v3 : Ref sig .tc := ⟨.hbm, 101, rfl⟩
abbrev main_call4_cst_0 : Ref sig .tc := ⟨.hbm, 102, rfl⟩
abbrev main_call4_v4 : Ref sig .tc := ⟨.hbm, 103, rfl⟩
abbrev main_call4_v5 : Ref sig .tc := ⟨.hbm, 104, rfl⟩
abbrev main_v54 : Ref sig .tc := ⟨.hbm, 105, rfl⟩
abbrev main_v55 : Ref sig .tc := ⟨.hbm, 106, rfl⟩
abbrev main_v56 : Ref sig .tc := ⟨.hbm, 107, rfl⟩
abbrev main_v57 : Ref sig .tc := ⟨.hbm, 108, rfl⟩
abbrev main_v58 : Ref sig .tc := ⟨.hbm, 109, rfl⟩
abbrev main_v59 : Ref sig .tc := ⟨.hbm, 110, rfl⟩
abbrev main_v60 : Ref sig .tc := ⟨.hbm, 111, rfl⟩
abbrev main_v61 : Ref sig .tc := ⟨.hbm, 112, rfl⟩
abbrev main_v62 : Ref sig .tc := ⟨.hbm, 113, rfl⟩
abbrev main_v63 : Ref sig .tc := ⟨.hbm, 114, rfl⟩
abbrev main_v64 : Ref sig .tc := ⟨.hbm, 115, rfl⟩
abbrev main_v65 : Ref sig .tc := ⟨.hbm, 116, rfl⟩
abbrev main_v66 : Ref sig .tc := ⟨.hbm, 117, rfl⟩
abbrev main_v67 : Ref sig .tc := ⟨.hbm, 118, rfl⟩
abbrev main_v68 : Ref sig .tc := ⟨.hbm, 119, rfl⟩
abbrev main_call5_v0 : Ref sig .tc := ⟨.hbm, 120, rfl⟩
abbrev main_call5_v1 : Ref sig .tc := ⟨.hbm, 121, rfl⟩
abbrev main_call5_cst : Ref sig .tc := ⟨.hbm, 122, rfl⟩
abbrev main_call5_v2 : Ref sig .tc := ⟨.hbm, 123, rfl⟩
abbrev main_call5_v3 : Ref sig .tc := ⟨.hbm, 124, rfl⟩
abbrev main_call5_cst_0 : Ref sig .tc := ⟨.hbm, 125, rfl⟩
abbrev main_call5_v4 : Ref sig .tc := ⟨.hbm, 126, rfl⟩
abbrev main_call5_v5 : Ref sig .tc := ⟨.hbm, 127, rfl⟩
abbrev main_v69 : Ref sig .tc := ⟨.hbm, 128, rfl⟩
abbrev main_v70 : Ref sig .tc := ⟨.hbm, 129, rfl⟩
abbrev main_v71 : Ref sig .tc := ⟨.hbm, 130, rfl⟩
abbrev main_v72 : Ref sig .tc := ⟨.hbm, 131, rfl⟩
abbrev main_v73 : Ref sig .tc := ⟨.hbm, 132, rfl⟩
abbrev main_v74 : Ref sig .tc := ⟨.hbm, 133, rfl⟩
abbrev main_v75 : Ref sig .tc := ⟨.hbm, 134, rfl⟩
abbrev main_v76 : Ref sig .tc := ⟨.hbm, 135, rfl⟩
abbrev main_v77 : Ref sig .tc := ⟨.hbm, 136, rfl⟩
abbrev main_v78 : Ref sig .tc := ⟨.hbm, 137, rfl⟩
abbrev main_v79 : Ref sig .tc := ⟨.hbm, 138, rfl⟩
abbrev main_v80 : Ref sig .tc := ⟨.hbm, 139, rfl⟩
abbrev main_v81 : Ref sig .tc := ⟨.hbm, 140, rfl⟩
abbrev main_v82 : Ref sig .tc := ⟨.hbm, 141, rfl⟩
abbrev main_v83 : Ref sig .tc := ⟨.hbm, 142, rfl⟩
abbrev main_call6_v0 : Ref sig .tc := ⟨.hbm, 143, rfl⟩
abbrev main_call6_v1 : Ref sig .tc := ⟨.hbm, 144, rfl⟩
abbrev main_call6_cst : Ref sig .tc := ⟨.hbm, 145, rfl⟩
abbrev main_call6_v2 : Ref sig .tc := ⟨.hbm, 146, rfl⟩
abbrev main_call6_v3 : Ref sig .tc := ⟨.hbm, 147, rfl⟩
abbrev main_call6_cst_0 : Ref sig .tc := ⟨.hbm, 148, rfl⟩
abbrev main_call6_v4 : Ref sig .tc := ⟨.hbm, 149, rfl⟩
abbrev main_call6_v5 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_v91 : Ref sig .tc := ⟨.hbm, 158, rfl⟩
abbrev main_v92 : Ref sig .tc := ⟨.hbm, 159, rfl⟩
abbrev main_v93 : Ref sig .tc := ⟨.hbm, 160, rfl⟩
abbrev main_v94 : Ref sig .tc := ⟨.hbm, 161, rfl⟩
abbrev main_v95 : Ref sig .tc := ⟨.hbm, 162, rfl⟩
abbrev main_v96 : Ref sig .tc := ⟨.hbm, 163, rfl⟩
abbrev main_v97 : Ref sig .tc := ⟨.hbm, 164, rfl⟩
abbrev main_v98 : Ref sig .tc := ⟨.hbm, 165, rfl⟩
abbrev main_call7_v0 : Ref sig .tc := ⟨.hbm, 166, rfl⟩
abbrev main_call7_v1 : Ref sig .tc := ⟨.hbm, 167, rfl⟩
abbrev main_call7_cst : Ref sig .tc := ⟨.hbm, 168, rfl⟩
abbrev main_call7_v2 : Ref sig .tc := ⟨.hbm, 169, rfl⟩
abbrev main_call7_v3 : Ref sig .tc := ⟨.hbm, 170, rfl⟩
abbrev main_call7_cst_0 : Ref sig .tc := ⟨.hbm, 171, rfl⟩
abbrev main_call7_v4 : Ref sig .tc := ⟨.hbm, 172, rfl⟩
abbrev main_call7_v5 : Ref sig .tc := ⟨.hbm, 173, rfl⟩
abbrev main_v99 : Ref sig .tc := ⟨.hbm, 174, rfl⟩
abbrev main_v100 : Ref sig .tc := ⟨.hbm, 175, rfl⟩
abbrev main_v101 : Ref sig .tc := ⟨.hbm, 176, rfl⟩
abbrev main_v102 : Ref sig .tc := ⟨.hbm, 177, rfl⟩
abbrev main_v103 : Ref sig .tc := ⟨.hbm, 178, rfl⟩
abbrev main_v104 : Ref sig .tc := ⟨.hbm, 179, rfl⟩
abbrev main_v105 : Ref sig .tc := ⟨.hbm, 180, rfl⟩
abbrev main_v106 : Ref sig .tc := ⟨.hbm, 181, rfl⟩
abbrev main_v107 : Ref sig .tc := ⟨.hbm, 182, rfl⟩
abbrev main_v108 : Ref sig .tc := ⟨.hbm, 183, rfl⟩
abbrev main_v109 : Ref sig .tc := ⟨.hbm, 184, rfl⟩
abbrev main_v110 : Ref sig .tc := ⟨.hbm, 185, rfl⟩
abbrev main_v111 : Ref sig .tc := ⟨.hbm, 186, rfl⟩
abbrev main_v112 : Ref sig .tc := ⟨.hbm, 187, rfl⟩
abbrev main_v113 : Ref sig .tc := ⟨.hbm, 188, rfl⟩
abbrev main_call8_v0 : Ref sig .tc := ⟨.hbm, 189, rfl⟩
abbrev main_call8_v1 : Ref sig .tc := ⟨.hbm, 190, rfl⟩
abbrev main_call8_cst : Ref sig .tc := ⟨.hbm, 191, rfl⟩
abbrev main_call8_v2 : Ref sig .tc := ⟨.hbm, 192, rfl⟩
abbrev main_call8_v3 : Ref sig .tc := ⟨.hbm, 193, rfl⟩
abbrev main_call8_cst_0 : Ref sig .tc := ⟨.hbm, 194, rfl⟩
abbrev main_call8_v4 : Ref sig .tc := ⟨.hbm, 195, rfl⟩
abbrev main_call8_v5 : Ref sig .tc := ⟨.hbm, 196, rfl⟩
abbrev main_v114 : Ref sig .tc := ⟨.hbm, 197, rfl⟩
abbrev main_v115 : Ref sig .tc := ⟨.hbm, 198, rfl⟩
abbrev main_v116 : Ref sig .tc := ⟨.hbm, 199, rfl⟩
abbrev main_v117 : Ref sig .tc := ⟨.hbm, 200, rfl⟩
abbrev main_v118 : Ref sig .tc := ⟨.hbm, 201, rfl⟩
abbrev main_v119 : Ref sig .tc := ⟨.hbm, 202, rfl⟩
abbrev main_v120 : Ref sig .tc := ⟨.hbm, 203, rfl⟩
abbrev main_v121 : Ref sig .tc := ⟨.hbm, 204, rfl⟩
abbrev main_v122 : Ref sig .tc := ⟨.hbm, 205, rfl⟩
abbrev main_v123 : Ref sig .tc := ⟨.hbm, 206, rfl⟩
abbrev main_v124 : Ref sig .tc := ⟨.hbm, 207, rfl⟩
abbrev main_v125 : Ref sig .tc := ⟨.hbm, 208, rfl⟩
abbrev main_v126 : Ref sig .tc := ⟨.hbm, 209, rfl⟩
abbrev main_v127 : Ref sig .tc := ⟨.hbm, 210, rfl⟩
abbrev main_v128 : Ref sig .tc := ⟨.hbm, 211, rfl⟩
abbrev main_call9_v0 : Ref sig .tc := ⟨.hbm, 212, rfl⟩
abbrev main_call9_v1 : Ref sig .tc := ⟨.hbm, 213, rfl⟩
abbrev main_call9_cst : Ref sig .tc := ⟨.hbm, 214, rfl⟩
abbrev main_call9_v2 : Ref sig .tc := ⟨.hbm, 215, rfl⟩
abbrev main_call9_v3 : Ref sig .tc := ⟨.hbm, 216, rfl⟩
abbrev main_call9_cst_0 : Ref sig .tc := ⟨.hbm, 217, rfl⟩
abbrev main_call9_v4 : Ref sig .tc := ⟨.hbm, 218, rfl⟩
abbrev main_call9_v5 : Ref sig .tc := ⟨.hbm, 219, rfl⟩
abbrev main_v129 : Ref sig .tc := ⟨.hbm, 220, rfl⟩
abbrev main_v130 : Ref sig .tc := ⟨.hbm, 221, rfl⟩
abbrev main_v131 : Ref sig .tc := ⟨.hbm, 222, rfl⟩
abbrev main_v132 : Ref sig .tc := ⟨.hbm, 223, rfl⟩
abbrev main_v133 : Ref sig .tc := ⟨.hbm, 224, rfl⟩
abbrev main_v134 : Ref sig .tc := ⟨.hbm, 225, rfl⟩
abbrev main_v135 : Ref sig .tc := ⟨.hbm, 226, rfl⟩
abbrev main_v136 : Ref sig .tc := ⟨.hbm, 227, rfl⟩
abbrev main_v137 : Ref sig .tc := ⟨.hbm, 228, rfl⟩
abbrev main_v138 : Ref sig .tc := ⟨.hbm, 229, rfl⟩
abbrev main_v139 : Ref sig .tc := ⟨.hbm, 230, rfl⟩
abbrev main_v140 : Ref sig .tc := ⟨.hbm, 231, rfl⟩

abbrev nD : Nat := 1
abbrev τ : Topo := Topo.v7x

variable {F : FTy → Type} [FloatOps F]
-- ==== Kernel2.lean ====
abbrev S32x4x1024 : Shape := ⟨3, ![32, 4, 1024]⟩
abbrev S1024x3088 : Shape := ⟨2, ![1024, 3088]⟩
abbrev S16x256 : Shape := ⟨2, ![16, 256]⟩
abbrev S256 : Shape := ⟨1, ![256]⟩
abbrev S128x1024 : Shape := ⟨2, ![128, 1024]⟩
abbrev S1024x512 : Shape := ⟨2, ![1024, 512]⟩
abbrev S1024x1536 : Shape := ⟨2, ![1024, 1536]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x256 : Shape := ⟨2, ![1, 256]⟩
abbrev S8x128x64 : Shape := ⟨3, ![8, 128, 64]⟩
abbrev S128x512 : Shape := ⟨2, ![128, 512]⟩
abbrev S4x128x64 : Shape := ⟨3, ![4, 128, 64]⟩
abbrev S512x1024 : Shape := ⟨2, ![512, 1024]⟩
abbrev S128x64 : Shape := ⟨2, ![128, 64]⟩
abbrev S1x128x64 : Shape := ⟨3, ![1, 128, 64]⟩
abbrev S1024x256 : Shape := ⟨2, ![1024, 256]⟩
abbrev S128x128 : Shape := ⟨2, ![128, 128]⟩

abbrev nBuf : Space → Nat
  | .hbm => 30
  | .vmem => 14
  | .smem => 0
  | _ => 0

abbrev bufTy : (tb : Table) → Fin (tcTables nBuf tb) → BufTy
  | .hbm, ⟨0, _⟩ => ⟨S32x4x1024, .f32⟩
  | .hbm, ⟨1, _⟩ => ⟨S1024x3088, .f32⟩
  | .hbm, ⟨2, _⟩ => ⟨S16x256, .f32⟩
  | .hbm, ⟨3, _⟩ => ⟨S256, .f32⟩
  | .hbm, ⟨4, _⟩ => ⟨S128x1024, .f32⟩
  | .hbm, ⟨5, _⟩ => ⟨S1024x512, .f32⟩
  | .hbm, ⟨6, _⟩ => ⟨S1024x1536, .f32⟩
  | .hbm, ⟨7, _⟩ => ⟨S1024x2048, .f32⟩
  | .hbm, ⟨8, _⟩ => ⟨S1024x2048, .bf16⟩
  | .hbm, ⟨9, _⟩ => ⟨S1024x1024, .f32⟩
  | .hbm, ⟨10, _⟩ => ⟨S1024x1024, .f32⟩
  | .hbm, ⟨11, _⟩ => ⟨S1024x1024, .bf16⟩
  | .hbm, ⟨12, _⟩ => ⟨S1024x16, .f32⟩
  | .hbm, ⟨13, _⟩ => ⟨S_, .i32⟩
  | .hbm, ⟨14, _⟩ => ⟨S_, .f32⟩
  | .hbm, ⟨15, _⟩ => ⟨S1024x128, .f32⟩
  | .hbm, ⟨16, _⟩ => ⟨S1024x128, .bf16⟩
  | .hbm, ⟨17, _⟩ => ⟨S_, .i32⟩
  | .hbm, ⟨18, _⟩ => ⟨S_, .f32⟩
  | .hbm, ⟨19, _⟩ => ⟨S128x256, .f32⟩
  | .hbm, ⟨20, _⟩ => ⟨S128x256, .bf16⟩
  | .hbm, ⟨21, _⟩ => ⟨S1x256, .f32⟩
  | .hbm, ⟨22, _⟩ => ⟨S8x128x64, .bf16⟩
  | .hbm, ⟨23, _⟩ => ⟨S128x512, .f32⟩
  | .hbm, ⟨24, _⟩ => ⟨S128x512, .f32⟩
  | .hbm, ⟨25, _⟩ => ⟨S4x128x64, .f32⟩
  | .hbm, ⟨26, _⟩ => ⟨S4x128x64, .f32⟩
  | .hbm, ⟨27, _⟩ => ⟨S4x128x64, .f32⟩
  | .hbm, ⟨28, _⟩ => ⟨S128x512, .f32⟩
  | .hbm, ⟨29, _⟩ => ⟨S128x512, .f32⟩
  | .local _ .vmem, ⟨0, _⟩ => ⟨S128x1024, .f32⟩
  | .local _ .vmem, ⟨1, _⟩ => ⟨S1024x2048, .bf16⟩
  | .local _ .vmem, ⟨2, _⟩ => ⟨S1024x1024, .bf16⟩
  | .local _ .vmem, ⟨3, _⟩ => ⟨S1024x128, .bf16⟩
  | .local _ .vmem, ⟨4, _⟩ => ⟨S128x256, .bf16⟩
  | .local _ .vmem, ⟨5, _⟩ => ⟨S1x256, .f32⟩
  | .local _ .vmem, ⟨6, _⟩ => ⟨S8x128x64, .bf16⟩
  | .local _ .vmem, ⟨7, _⟩ => ⟨S128x512, .f32⟩
  | .local _ .vmem, ⟨8, _⟩ => ⟨S128x512, .f32⟩
  | .local _ .vmem, ⟨9, _⟩ => ⟨S4x128x64, .f32⟩
  | .local _ .vmem, ⟨10, _⟩ => ⟨S4x128x64, .f32⟩
  | .local _ .vmem, ⟨11, _⟩ => ⟨S4x128x64, .f32⟩
  | .local _ .vmem, ⟨12, _⟩ => ⟨S128x512, .f32⟩
  | .local _ .vmem, ⟨13, _⟩ => ⟨S128x512, .f32⟩
  | _, _ => ⟨S32x4x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_c : Ref sig .tc := ⟨.hbm, 13, rfl⟩
abbrev main_call0_v0 : Ref sig .tc := ⟨.hbm, 14, rfl⟩
abbrev main_v9 : Ref sig .tc := ⟨.hbm, 15, rfl⟩
abbrev main_v10 : Ref sig .tc := ⟨.hbm, 16, rfl⟩
abbrev main_c_0 : Ref sig .tc := ⟨.hbm, 17, rfl⟩
abbrev main_call1_v0 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14_0 : Ref sig .tc := ⟨.hbm, 22, rfl⟩
abbrev main_v14_1 : Ref sig .tc := ⟨.hbm, 23, rfl⟩
abbrev main_v14_2 : Ref sig .tc := ⟨.hbm, 24, rfl⟩
abbrev main_v14_3 : Ref sig .tc := ⟨.hbm, 25, rfl⟩
abbrev main_v14_4 : Ref sig .tc := ⟨.hbm, 26, rfl⟩
abbrev main_v14_5 : Ref sig .tc := ⟨.hbm, 27, rfl⟩
abbrev main_v14_6 : Ref sig .tc := ⟨.hbm, 28, rfl⟩
abbrev main_v14_7 : Ref sig .tc := ⟨.hbm, 29, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_10 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_13 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S8x128x64 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S128x512 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]

abbrev stage0_8 : Fin 1 → Memref sig .tc .vmem S128x512 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![true]

abbrev stage0_9 : Fin 1 → Memref sig .tc .vmem S4x128x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![true]

abbrev stage0_10 : Fin 1 → Memref sig .tc .vmem S4x128x64 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![true]

abbrev stage0_11 : Fin 1 → Memref sig .tc .vmem S4x128x64 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![true]

abbrev stage0_12 : Fin 1 → Memref sig .tc .vmem S128x512 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![true]

abbrev stage0_13 : Fin 1 → Memref sig .tc .vmem S128x512 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![true]
-- ==== Reference2Ideal.lean ====
abbrev S32x4x1024 : Shape := ⟨3, ![32, 4, 1024]⟩
abbrev S1024x3088 : Shape := ⟨2, ![1024, 3088]⟩
abbrev S16x256 : Shape := ⟨2, ![16, 256]⟩
abbrev S256 : Shape := ⟨1, ![256]⟩
abbrev S128x1024 : Shape := ⟨2, ![128, 1024]⟩
abbrev S128x3088 : Shape := ⟨2, ![128, 3088]⟩
abbrev S128x512 : Shape := ⟨2, ![128, 512]⟩
abbrev S128x256 : Shape := ⟨2, ![128, 256]⟩
abbrev S128x16 : Shape := ⟨2, ![128, 16]⟩
abbrev S1x256 : Shape := ⟨2, ![1, 256]⟩
abbrev S_ : Shape := ⟨0, ![]⟩
abbrev S128x8x64 : Shape := ⟨3, ![128, 8, 64]⟩
abbrev S8x128x64 : Shape := ⟨3, ![8, 128, 64]⟩
abbrev S128x4x64 : Shape := ⟨3, ![128, 4, 64]⟩
abbrev S4x128x64 : Shape := ⟨3, ![4, 128, 64]⟩

abbrev nBuf : Space → Nat
  | .hbm => 52
  | .vmem => 0
  | .smem => 0
  | _ => 0

abbrev bufTy : (tb : Table) → Fin (tcTables nBuf tb) → BufTy
  | .hbm, ⟨0, _⟩ => ⟨S32x4x1024, .f32⟩
  | .hbm, ⟨1, _⟩ => ⟨S1024x3088, .f32⟩
  | .hbm, ⟨2, _⟩ => ⟨S16x256, .f32⟩
  | .hbm, ⟨3, _⟩ => ⟨S256, .f32⟩
  | .hbm, ⟨4, _⟩ => ⟨S128x1024, .f32⟩
  | .hbm, ⟨5, _⟩ => ⟨S128x3088, .f32⟩
  | .hbm, ⟨6, _⟩ => ⟨S128x512, .f32⟩
  | .hbm, ⟨7, _⟩ => ⟨S128x512, .f32⟩
  | .hbm, ⟨8, _⟩ => ⟨S128x512, .f32⟩
  | .hbm, ⟨9, _⟩ => ⟨S128x256, .f32⟩
  | .hbm, ⟨10, _⟩ => ⟨S128x256, .f32⟩
  | .hbm, ⟨11, _⟩ => ⟨S128x512, .f32⟩
  | .hbm, ⟨12, _⟩ => ⟨S128x512, .f32⟩
  | .hbm, ⟨13, _⟩ => ⟨S128x16, .f32⟩
  | .hbm, ⟨14, _⟩ => ⟨S128x256, .f32⟩
  | .hbm, ⟨15, _⟩ => ⟨S1x256, .f32⟩
  | .hbm, ⟨16, _⟩ => ⟨S128x256, .f32⟩
  | .hbm, ⟨17, _⟩ => ⟨S128x256, .f32⟩
  | .hbm, ⟨18, _⟩ => ⟨S128x256, .f32⟩
  | .hbm, ⟨19, _⟩ => ⟨S_, .f32⟩
  | .hbm, ⟨20, _⟩ => ⟨S128x256, .f32⟩
  | .hbm, ⟨21, _⟩ => ⟨S128x256, .f32⟩
  | .hbm, ⟨22, _⟩ => ⟨S128x256, .f32⟩
  | .hbm, ⟨23, _⟩ => ⟨S128x256, .f32⟩
  | .hbm, ⟨24, _⟩ => ⟨S128x256, .i1⟩
  | .hbm, ⟨25, _⟩ => ⟨S128x256, .f32⟩
  | .hbm, ⟨26, _⟩ => ⟨S128x256, .f32⟩
  | .hbm, ⟨27, _⟩ => ⟨S128x256, .f32⟩
  | .hbm, ⟨28, _⟩ => ⟨S128x256, .f32⟩
  | .hbm, ⟨29, _⟩ => ⟨S128x256, .f32⟩
  | .hbm, ⟨30, _⟩ => ⟨S128x256, .f32⟩
  | .hbm, ⟨31, _⟩ => ⟨S128x256, .f32⟩
  | .hbm, ⟨32, _⟩ => ⟨S128x256, .f32⟩
  | .hbm, ⟨33, _⟩ => ⟨S128x256, .f32⟩
  | .hbm, ⟨34, _⟩ => ⟨S_, .f32⟩
  | .hbm, ⟨35, _⟩ => ⟨S128x256, .f32⟩
  | .hbm, ⟨36, _⟩ => ⟨S128x256, .f32⟩
  | .hbm, ⟨37, _⟩ => ⟨S_, .f32⟩
  | .hbm, ⟨38, _⟩ => ⟨S128x512, .f32⟩
  | .hbm, ⟨39, _⟩ => ⟨S128x512, .f32⟩
  | .hbm, ⟨40, _⟩ => ⟨S128x8x64, .f32⟩
  | .hbm, ⟨41, _⟩ => ⟨S8x128x64, .f32⟩
  | .hbm, ⟨42, _⟩ => ⟨S8x128x64, .bf16⟩
  | .hbm, ⟨43, _⟩ => ⟨S_, .f32⟩
  | .hbm, ⟨44, _⟩ => ⟨S128x256, .f32⟩
  | .hbm, ⟨45, _⟩ => ⟨S128x256, .f32⟩
  | .hbm, ⟨46, _⟩ => ⟨S128x4x64, .f32⟩
  | .hbm, ⟨47, _⟩ => ⟨S4x128x64, .f32⟩
  | .hbm, ⟨48, _⟩ => ⟨S128x4x64, .f32⟩
  | .hbm, ⟨49, _⟩ => ⟨S4x128x64, .f32⟩
  | .hbm, ⟨50, _⟩ => ⟨S128x4x64, .f32⟩
  | .hbm, ⟨51, _⟩ => ⟨S4x128x64, .f32⟩
  | _, _ => ⟨S32x4x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_call0_v0 : Ref sig .tc := ⟨.hbm, 18, rfl⟩
abbrev main_call0_call0_cst : Ref sig .tc := ⟨.hbm, 19, rfl⟩
abbrev main_call0_call0_v0 : Ref sig .tc := ⟨.hbm, 20, rfl⟩
abbrev main_call0_call0_v1 : Ref sig .tc := ⟨.hbm, 21, rfl⟩
abbrev main_call0_call0_v2 : Ref sig .tc := ⟨.hbm, 22, rfl⟩
abbrev main_call0_call0_v3 : Ref sig .tc := ⟨.hbm, 23, rfl⟩
abbrev main_call0_call0_v4 : Ref sig .tc := ⟨.hbm, 24, rfl⟩
abbrev main_call0_call0_v5 : Ref sig .tc := ⟨.hbm, 25, rfl⟩
abbrev main_call0_call0_v6 : Ref sig .tc := ⟨.hbm, 26, rfl⟩
abbrev main_call0_call0_v7 : Ref sig .tc := ⟨.hbm, 27, rfl⟩
abbrev main_call0_call0_v8 : Ref sig .tc := ⟨.hbm, 28, rfl⟩
abbrev main_call0_call0_v9 : Ref sig .tc := ⟨.hbm, 29, rfl⟩
abbrev main_call0_call0_v10 : Ref sig .tc := ⟨.hbm, 30, rfl⟩
abbrev main_call0_call0_v11 : Ref sig .tc := ⟨.hbm, 31, rfl⟩
abbrev main_call0_v1 : Ref sig .tc := ⟨.hbm, 32, rfl⟩
abbrev main_v14 : Ref sig .tc := ⟨.hbm, 33, rfl⟩
abbrev main_cst : Ref sig .tc := ⟨.hbm, 34, rfl⟩
abbrev main_v15 : Ref sig .tc := ⟨.hbm, 35, rfl⟩
abbrev main_v16 : Ref sig .tc := ⟨.hbm, 36, rfl⟩
abbrev main_cst_0 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_cst_1 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_v29 : Ref sig .tc := ⟨.hbm, 51, rfl⟩

abbrev nD : Nat := 1
abbrev τ : Topo := Topo.v7x

variable {F : FTy → Type} [FloatOps F]
-- ==== Kernel3.lean ====
abbrev S16x2048x1024 : Shape := ⟨3, ![16, 2048, 1024]⟩
abbrev S1024x3088 : Shape := ⟨2, ![1024, 3088]⟩
abbrev S16x256 : Shape := ⟨2, ![16, 256]⟩
abbrev S256 : Shape := ⟨1, ![256]⟩
abbrev S32x512x2048 : Shape := ⟨3, ![32, 512, 2048]⟩
abbrev S32768x1024 : Shape := ⟨2, ![32768, 1024]⟩
abbrev S1024x512 : Shape := ⟨2, ![1024, 512]⟩
abbrev S1024x1536 : Shape := ⟨2, ![1024, 1536]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x256 : Shape := ⟨2, ![1, 256]⟩
abbrev S8x32768x64 : Shape := ⟨3, ![8, 32768, 64]⟩
abbrev S4x32768x64 : Shape := ⟨3, ![4, 32768, 64]⟩
abbrev S32768x512 : Shape := ⟨2, ![32768, 512]⟩
abbrev S512x1024 : Shape := ⟨2, ![512, 1024]⟩
abbrev S8x512x64 : Shape := ⟨3, ![8, 512, 64]⟩
abbrev S1x512x512 : Shape := ⟨3, ![1, 512, 512]⟩
abbrev S4x512x64 : Shape := ⟨3, ![4, 512, 64]⟩
abbrev S512x512 : Shape := ⟨2, ![512, 512]⟩
abbrev S512x64 : Shape := ⟨2, ![512, 64]⟩
abbrev S1x512x64 : Shape := ⟨3, ![1, 512, 64]⟩
abbrev S1024x256 : Shape := ⟨2, ![1024, 256]⟩
abbrev S512x256 : Shape := ⟨2, ![512, 256]⟩
abbrev S512x128 : Shape := ⟨2, ![512, 128]⟩

abbrev nBuf : Space → Nat
  | .hbm => 32
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024x3088, .f32⟩
  | .hbm, ⟨2, _⟩ => ⟨S16x256, .f32⟩
  | .hbm, ⟨3, _⟩ => ⟨S256, .f32⟩
  | .hbm, ⟨4, _⟩ => ⟨S32x512x2048, .f32⟩
  | .hbm, ⟨5, _⟩ => ⟨S32x512x2048, .f32⟩
  | .hbm, ⟨6, _⟩ => ⟨S32768x1024, .f32⟩
  | .hbm, ⟨7, _⟩ => ⟨S1024x512, .f32⟩
  | .hbm, ⟨8, _⟩ => ⟨S1024x1536, .f32⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S128x256, .bf16⟩
  | .hbm, ⟨23, _⟩ => ⟨S1x256, .f32⟩
  | .hbm, ⟨24, _⟩ => ⟨S8x32768x64, .bf16⟩
  | .hbm, ⟨25, _⟩ => ⟨S32x512x2048, .f32⟩
  | .hbm, ⟨26, _⟩ => ⟨S32x512x2048, .f32⟩
  | .hbm, ⟨27, _⟩ => ⟨S4x32768x64, .f32⟩
  | .hbm, ⟨28, _⟩ => ⟨S4x32768x64, .f32⟩
  | .hbm, ⟨29, _⟩ => ⟨S4x32768x64, .f32⟩
  | .hbm, ⟨30, _⟩ => ⟨S32768x512, .f32⟩
  | .hbm, ⟨31, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x1024, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S8x512x64, .bf16⟩
  | .local _ .vmem, ⟨8, _⟩ => ⟨S8x512x64, .bf16⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S4x512x64, .f32⟩
  | .local _ .vmem, ⟨14, _⟩ => ⟨S4x512x64, .f32⟩
  | .local _ .vmem, ⟨15, _⟩ => ⟨S4x512x64, .f32⟩
  | .local _ .vmem, ⟨16, _⟩ => ⟨S4x512x64, .f32⟩
  | .local _ .vmem, ⟨17, _⟩ => ⟨S4x512x64, .f32⟩
  | .local _ .vmem, ⟨18, _⟩ => ⟨S4x512x64, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let v17 : BitVec 32 := Scalar.addi c0_i32_4 v16
  let c4_i32_5 : BitVec 32 := 4#32
  let c0_i32_6 : BitVec 32 := 0#32
  let v18 : BitVec 1 := Scalar.cmpi .eq c4_i32_5 c0_i32_6
  let c1_i32_7 : BitVec 32 := 1#32
  let v19 : BitVec 32 := Scalar.select v18 c1_i32_7 c4_i32_5
  let v20 : BitVec 32 := Scalar.remsi arg0 v19
  let c0_i32_8 : BitVec 32 := 0#32
  let v21 : BitVec 1 := Scalar.cmpi .ne v20 c0_i32_8
  let c0_i32_9 : BitVec 32 := 0#32
  let v22 : BitVec 1 := Scalar.cmpi .slt v20 c0_i32_9
  let c0_i32_10 : BitVec 32 := 0#32
  let v23 : BitVec 1 := Scalar.cmpi .slt v19 c0_i32_10
  let v24 : BitVec 1 := Scalar.xori v22 v23
  let v25 : BitVec 1 := Scalar.andi v24 v21
  let v26 : BitVec 32 := Scalar.addi v20 v19
  let v27 : BitVec 32 := Scalar.select v25 v26 v20
  let c0_i32_11 : BitVec 32 := 0#32
  let c0_i32_12 : BitVec 32 := 0#32
  ![v17.toNat, c0_i32_11.toNat, v27.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference3Ideal.lean ====
abbrev S16x2048x1024 : Shape := ⟨3, ![16, 2048, 1024]⟩
abbrev S1024x3088 : Shape := ⟨2, ![1024, 3088]⟩
abbrev S16x256 : Shape := ⟨2, ![16, 256]⟩
abbrev S256 : Shape := ⟨1, ![256]⟩
abbrev S32x512x2048 : Shape := ⟨3, ![32, 512, 2048]⟩
abbrev S32768x1024 : Shape := ⟨2, ![32768, 1024]⟩
abbrev S32768x3088 : Shape := ⟨2, ![32768, 3088]⟩
abbrev S32768x512 : Shape := ⟨2, ![32768, 512]⟩
abbrev S32768x256 : Shape := ⟨2, ![32768, 256]⟩
abbrev S32768x16 : Shape := ⟨2, ![32768, 16]⟩
abbrev S1x256 : Shape := ⟨2, ![1, 256]⟩
abbrev S_ : Shape := ⟨0, ![]⟩
abbrev S32768x8x64 : Shape := ⟨3, ![32768, 8, 64]⟩
abbrev S8x32768x64 : Shape := ⟨3, ![8, 32768, 64]⟩
abbrev S32768x4x64 : Shape := ⟨3, ![32768, 4, 64]⟩
abbrev S4x32768x64 : Shape := ⟨3, ![4, 32768, 64]⟩
abbrev S16x2048x512 : Shape := ⟨3, ![16, 2048, 512]⟩
abbrev S16x512x2048 : Shape := ⟨3, ![16, 512, 2048]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x3088, .f32⟩
  | .hbm, ⟨2, _⟩ => ⟨S16x256, .f32⟩
  | .hbm, ⟨3, _⟩ => ⟨S256, .f32⟩
  | .hbm, ⟨4, _⟩ => ⟨S32x512x2048, .f32⟩
  | .hbm, ⟨5, _⟩ => ⟨S32x512x2048, .f32⟩
  | .hbm, ⟨6, _⟩ => ⟨S32768x1024, .f32⟩
  | .hbm, ⟨7, _⟩ => ⟨S32768x3088, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x256, .f32⟩
  | .hbm, ⟨12, _⟩ => ⟨S32768x256, .f32⟩
  | .hbm, ⟨13, _⟩ => ⟨S32768x512, .f32⟩
  | .hbm, ⟨14, _⟩ => ⟨S32768x512, .f32⟩
  | .hbm, ⟨15, _⟩ => ⟨S32768x16, .f32⟩
  | .hbm, ⟨16, _⟩ => ⟨S32768x256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .i1⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x8x64, .f32⟩
  | .hbm, ⟨43, _⟩ => ⟨S8x32768x64, .f32⟩
  | .hbm, ⟨44, _⟩ => ⟨S8x32768x64, .bf16⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x4x64, .f32⟩
  | .hbm, ⟨49, _⟩ => ⟨S4x32768x64, .f32⟩
  | .hbm, ⟨50, _⟩ => ⟨S32768x4x64, .f32⟩
  | .hbm, ⟨51, _⟩ => ⟨S4x32768x64, .f32⟩
  | .hbm, ⟨52, _⟩ => ⟨S32768x4x64, .f32⟩
  | .hbm, ⟨53, _⟩ => ⟨S4x32768x64, .f32⟩
  | .hbm, ⟨54, _⟩ => ⟨S16x2048x512, .f32⟩
  | .hbm, ⟨55, _⟩ => ⟨S16x512x2048, .f32⟩
  | .hbm, ⟨56, _⟩ => ⟨S16x512x2048, .f32⟩
  | .hbm, ⟨57, _⟩ => ⟨S32x512x2048, .f32⟩
  | .hbm, ⟨58, _⟩ => ⟨S16x2048x512, .f32⟩
  | .hbm, ⟨59, _⟩ => ⟨S16x512x2048, .f32⟩
  | .hbm, ⟨60, _⟩ => ⟨S16x512x2048, .f32⟩
  | .hbm, ⟨61, _⟩ => ⟨S32x512x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Kernel4.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S32768x512, .bf16⟩
  | .hbm, ⟨8, _⟩ => ⟨S32768x512, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Kernel4Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S512x512 : Shape := ⟨2, ![512, 512]⟩
abbrev S512 : Shape := ⟨1, ![512]⟩
abbrev S512x1 : Shape := ⟨2, ![512, 1]⟩

abbrev nBuf : Space → Nat
  | .hbm => 14
  | .vmem => 12
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S32768x512, .bf16⟩
  | .hbm, ⟨8, _⟩ => ⟨S32768x512, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S32768x1024, .f32⟩
  | .local _ .vmem, ⟨0, _⟩ => ⟨S512x512, .bf16⟩
  | .local _ .vmem, ⟨1, _⟩ => ⟨S512x512, .bf16⟩
  | .local _ .vmem, ⟨2, _⟩ => ⟨S512x512, .bf16⟩
  | .local _ .vmem, ⟨3, _⟩ => ⟨S512x512, .bf16⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S32768x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]
-- ==== Reference4Ideal.lean ====
abbrev S32768x512 : Shape := ⟨2, ![32768, 512]⟩
abbrev S32768x1024 : Shape := ⟨2, ![32768, 1024]⟩
abbrev S1024x1024 : Shape := ⟨2, ![1024, 1024]⟩
abbrev S1024 : Shape := ⟨1, ![1024]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S32768x512, .f32⟩
  | .hbm, ⟨1, _⟩ => ⟨S32768x512, .f32⟩
  | .hbm, ⟨2, _⟩ => ⟨S32768x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S32768x1024, .f32⟩
  | .hbm, ⟨8, _⟩ => ⟨S32768x1024, .f32⟩
  | .hbm, ⟨9, _⟩ => ⟨S32768x1024, .f32⟩
  | .hbm, ⟨10, _⟩ => ⟨S32768x1024, .f32⟩
  | .hbm, ⟨11, _⟩ => ⟨S32768x1024, .f32⟩
  | .hbm, ⟨12, _⟩ => ⟨S_, .f32⟩
  | .hbm, ⟨13, _⟩ => ⟨S32768, .f32⟩
  | .hbm, ⟨14, _⟩ => ⟨S32768x1, .f32⟩
  | .hbm, ⟨15, _⟩ => ⟨S_, .f32⟩
  | .hbm, ⟨16, _⟩ => ⟨S32768x1, .f32⟩
  | .hbm, ⟨17, _⟩ => ⟨S32768x1, .f32⟩
  | .hbm, ⟨18, _⟩ => ⟨S32768x1024, .f32⟩
  | .hbm, ⟨19, _⟩ => ⟨S32768x1024, .f32⟩
  | .hbm, ⟨20, _⟩ => ⟨S32768x1024, .f32⟩
  | .hbm, ⟨21, _⟩ => ⟨S_, .f32⟩
  | .hbm, ⟨22, _⟩ => ⟨S32768, .f32⟩
  | .hbm, ⟨23, _⟩ => ⟨S32768x1, .f32⟩
  | .hbm, ⟨24, _⟩ => ⟨S_, .f32⟩
  | .hbm, ⟨25, _⟩ => ⟨S32768x1, .f32⟩
  | .hbm, ⟨26, _⟩ => ⟨S32768x1, .f32⟩
  | .hbm, ⟨27, _⟩ => ⟨S32768x1024, .f32⟩
  | .hbm, ⟨28, _⟩ => ⟨S32768x1024, .f32⟩
  | .hbm, ⟨29, _⟩ => ⟨S_, .f32⟩
  | .hbm, ⟨30, _⟩ => ⟨S32768x1, .f32⟩
  | .hbm, ⟨31, _⟩ => ⟨S32768x1, .f32⟩
  | .hbm, ⟨32, _⟩ => ⟨S32768x1, .f32⟩
  | .hbm, ⟨33, _⟩ => ⟨S32768x1024, .f32⟩
  | .hbm, ⟨34, _⟩ => ⟨S32768x1024, .f32⟩
  | .hbm, ⟨35, _⟩ => ⟨S1x1024, .f32⟩
  | .hbm, ⟨36, _⟩ => ⟨S32768x1024, .f32⟩
  | .hbm, ⟨37, _⟩ => ⟨S32768x1024, .f32⟩
  | .hbm, ⟨38, _⟩ => ⟨S1x1024, .f32⟩
  | .hbm, ⟨39, _⟩ => ⟨S32768x1024, .f32⟩
  | .hbm, ⟨40, _⟩ => ⟨S32768x1024, .f32⟩
  | _, _ => ⟨S32768x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel5.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S65 : Shape := ⟨1, ![65]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1 : Shape := ⟨1, ![1]⟩
abbrev S512x2816 : Shape := ⟨2, ![512, 2816]⟩
abbrev S512 : Shape := ⟨1, ![512]⟩
abbrev S512x1 : Shape := ⟨2, ![512, 1]⟩

abbrev nBuf : Space → Nat
  | .hbm => 15
  | .vmem => 12
  | .smem => 1
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x2816, .bf16⟩
  | .hbm, ⟨10, _⟩ => ⟨S1x1024x2816, .bf16⟩
  | .hbm, ⟨11, _⟩ => ⟨S1x2816x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .smem, ⟨0, _⟩ => ⟨S65, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Kernel5Ideal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S65 : Shape := ⟨1, ![65]⟩
abbrev S1x1024x2816 : Shape := ⟨3, ![1, 1024, 2816]⟩
abbrev S1x2816x1024 : Shape := ⟨3, ![1, 2816, 1024]⟩
abbrev S1x1024 : Shape := ⟨2, ![1, 1024]⟩
abbrev S512x1024 : Shape := ⟨2, ![512, 1024]⟩
abbrev S1 : Shape := ⟨1, ![1]⟩
abbrev S512x2816 : Shape := ⟨2, ![512, 2816]⟩
abbrev S512 : Shape := ⟨1, ![512]⟩
abbrev S512x1 : Shape := ⟨2, ![512, 1]⟩

abbrev nBuf : Space → Nat
  | .hbm => 15
  | .vmem => 12
  | .smem => 1
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x2816, .bf16⟩
  | .hbm, ⟨10, _⟩ => ⟨S1x1024x2816, .bf16⟩
  | .hbm, ⟨11, _⟩ => ⟨S1x2816x1024, .bf16⟩
  | .hbm, ⟨12, _⟩ => ⟨S1x1024, .f32⟩
  | .hbm, ⟨13, _⟩ => ⟨S1x1024, .f32⟩
  | .hbm, ⟨14, _⟩ => ⟨S32768x1024, .f32⟩
  | .local _ .vmem, ⟨0, _⟩ => ⟨S512x1024, .f32⟩
  | .local _ .vmem, ⟨1, _⟩ => ⟨S512x1024, .f32⟩
  | .local _ .vmem, ⟨2, _⟩ => ⟨S1x1024x2816, .bf16⟩
  | .local _ .vmem, ⟨3, _⟩ => ⟨S1x1024x2816, .bf16⟩
  | .local _ .vmem, ⟨4, _⟩ => ⟨S1x1024x2816, .bf16⟩
  | .local _ .vmem, ⟨5, _⟩ => ⟨S1x1024x2816, .bf16⟩
  | .local _ .vmem, ⟨6, _⟩ => ⟨S1x2816x1024, .bf16⟩
  | .local _ .vmem, ⟨7, _⟩ => ⟨S1x2816x1024, .bf16⟩
  | .local _ .vmem, ⟨8, _⟩ => ⟨S1x1024, .f32⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | .local _ .smem, ⟨0, _⟩ => ⟨S65, .i32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.smem, 0, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg5_0 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem5_0 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨1, ![64], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S65.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S65) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x2816x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference5Ideal.lean ====
abbrev S32768x1024 : Shape := ⟨2, ![32768, 1024]⟩
abbrev S1024x2816 : Shape := ⟨2, ![1024, 2816]⟩
abbrev S2816x1024 : Shape := ⟨2, ![2816, 1024]⟩
abbrev S1024 : Shape := ⟨1, ![1024]⟩
abbrev S32768x2816 : Shape := ⟨2, ![32768, 2816]⟩
abbrev S_ : Shape := ⟨0, ![]⟩
abbrev S32768 : Shape := ⟨1, ![32768]⟩
abbrev S32768x1 : Shape := ⟨2, ![32768, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S32768x2816, .f32⟩
  | .hbm, ⟨7, _⟩ => ⟨S32768x2816, .f32⟩
  | .hbm, ⟨8, _⟩ => ⟨S32768x2816, .f32⟩
  | .hbm, ⟨9, _⟩ => ⟨S_, .f32⟩
  | .hbm, ⟨10, _⟩ => ⟨S32768x2816, .f32⟩
  | .hbm, ⟨11, _⟩ => ⟨S32768x2816, .f32⟩
  | .hbm, ⟨12, _⟩ => ⟨S_, .f32⟩
  | .hbm, ⟨13, _⟩ => ⟨S32768x2816, .f32⟩
  | .hbm, ⟨14, _⟩ => ⟨S32768x2816, .f32⟩
  | .hbm, ⟨15, _⟩ => ⟨S32768x2816, .f32⟩
  | .hbm, ⟨16, _⟩ => ⟨S32768x2816, .f32⟩
  | .hbm, ⟨17, _⟩ => ⟨S32768x2816, .f32⟩
  | .hbm, ⟨18, _⟩ => ⟨S_, .f32⟩
  | .hbm, ⟨19, _⟩ => ⟨S32768x1024, .f32⟩
  | .hbm, ⟨20, _⟩ => ⟨S32768x1024, .f32⟩
  | .hbm, ⟨21, _⟩ => ⟨S32768x1024, .f32⟩
  | .hbm, ⟨22, _⟩ => ⟨S32768x1024, .f32⟩
  | .hbm, ⟨23, _⟩ => ⟨S_, .f32⟩
  | .hbm, ⟨24, _⟩ => ⟨S32768, .f32⟩
  | .hbm, ⟨25, _⟩ => ⟨S32768x1, .f32⟩
  | .hbm, ⟨26, _⟩ => ⟨S_, .f32⟩
  | .hbm, ⟨27, _⟩ => ⟨S32768x1, .f32⟩
  | .hbm, ⟨28, _⟩ => ⟨S32768x1, .f32⟩
  | .hbm, ⟨29, _⟩ => ⟨S32768x1024, .f32⟩
  | .hbm, ⟨30, _⟩ => ⟨S32768x1024, .f32⟩
  | .hbm, ⟨31, _⟩ => ⟨S32768x1024, .f32⟩
  | .hbm, ⟨32, _⟩ => ⟨S_, .f32⟩
  | .hbm, ⟨33, _⟩ => ⟨S32768, .f32⟩
  | .hbm, ⟨34, _⟩ => ⟨S32768x1, .f32⟩
  | .hbm, ⟨35, _⟩ => ⟨S_, .f32⟩
  | .hbm, ⟨36, _⟩ => ⟨S32768x1, .f32⟩
  | .hbm, ⟨37, _⟩ => ⟨S32768x1, .f32⟩
  | .hbm, ⟨38, _⟩ => ⟨S32768x1024, .f32⟩
  | .hbm, ⟨39, _⟩ => ⟨S32768x1024, .f32⟩
  | .hbm, ⟨40, _⟩ => ⟨S_, .f32⟩
  | .hbm, ⟨41, _⟩ => ⟨S32768x1, .f32⟩
  | .hbm, ⟨42, _⟩ => ⟨S32768x1, .f32⟩
  | .hbm, ⟨43, _⟩ => ⟨S32768x1, .f32⟩
  | .hbm, ⟨44, _⟩ => ⟨S32768x1024, .f32⟩
  | .hbm, ⟨45, _⟩ => ⟨S32768x1024, .f32⟩
  | .hbm, ⟨46, _⟩ => ⟨S1x1024, .f32⟩
  | .hbm, ⟨47, _⟩ => ⟨S32768x1024, .f32⟩
  | .hbm, ⟨48, _⟩ => ⟨S32768x1024, .f32⟩
  | .hbm, ⟨49, _⟩ => ⟨S1x1024, .f32⟩
  | .hbm, ⟨50, _⟩ => ⟨S32768x1024, .f32⟩
  | .hbm, ⟨51, _⟩ => ⟨S32768x1024, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel6.lean ====
abbrev S128x1024 : Shape := ⟨2, ![128, 1024]⟩
abbrev S1024x8 : Shape := ⟨2, ![1024, 8]⟩
abbrev S8 : Shape := ⟨1, ![8]⟩
abbrev S1x128 : Shape := ⟨2, ![1, 128]⟩
abbrev S_ : Shape := ⟨0, ![]⟩
abbrev S1024x128 : Shape := ⟨2, ![1024, 128]⟩
abbrev S128 : Shape := ⟨1, ![128]⟩
abbrev S128x1 : Shape := ⟨2, ![128, 1]⟩
abbrev S128x128 : Shape := ⟨2, ![128, 128]⟩

abbrev nBuf : Space → Nat
  | .hbm => 25
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x8, .f32⟩
  | .hbm, ⟨2, _⟩ => ⟨S8, .f32⟩
  | .hbm, ⟨3, _⟩ => ⟨S1x128, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S1024x128, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .bf16⟩
  | .hbm, ⟨23, _⟩ => ⟨S128x128, .f32⟩
  | .hbm, ⟨24, _⟩ => ⟨S1x128, .f32⟩
  | .local _ .vmem, ⟨0, _⟩ => ⟨S128x1024, .f32⟩
  | .local _ .vmem, ⟨1, _⟩ => ⟨S1024x128, .bf16⟩
  | .local _ .vmem, ⟨2, _⟩ => ⟨S1024x128, .bf16⟩
  | .local _ .vmem, ⟨3, _⟩ => ⟨S1x128, .f32⟩
  | .local _ .vmem, ⟨4, _⟩ => ⟨S1x128, .f32⟩
  | .local _ .vmem, ⟨5, _⟩ => ⟨S128x128, .bf16⟩
  | .local _ .vmem, ⟨6, _⟩ => ⟨S128x128, .f32⟩
  | .local _ .vmem, ⟨7, _⟩ => ⟨S1x128, .f32⟩
  | .local _ .vmem, ⟨8, _⟩ => ⟨S1x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Kernel6Ideal.lean ====
abbrev S128x1024 : Shape := ⟨2, ![128, 1024]⟩
abbrev S1024x8 : Shape := ⟨2, ![1024, 8]⟩
abbrev S8 : Shape := ⟨1, ![8]⟩
abbrev S1x128 : Shape := ⟨2, ![1, 128]⟩
abbrev S_ : Shape := ⟨0, ![]⟩
abbrev S1024x128 : Shape := ⟨2, ![1024, 128]⟩
abbrev S128 : Shape := ⟨1, ![128]⟩
abbrev S128x1 : Shape := ⟨2, ![128, 1]⟩
abbrev S128x128 : Shape := ⟨2, ![128, 128]⟩

abbrev nBuf : Space → Nat
  | .hbm => 25
  | .vmem => 9
  | .smem => 0
  | _ => 0

abbrev bufTy : (tb : Table) → Fin (tcTables nBuf tb) → BufTy
  | .hbm, ⟨0, _⟩ => ⟨S128x1024, .f32⟩
  | .hbm, ⟨1, _⟩ => ⟨S1024x8, .f32⟩
  | .hbm, ⟨2, _⟩ => ⟨S8, .f32⟩
  | .hbm, ⟨3, _⟩ => ⟨S1x128, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S1024x128, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S128, .i32⟩
  | .hbm, ⟨16, _⟩ => ⟨S128x1, .i32⟩
  | .hbm, ⟨17, _⟩ => ⟨S128, .i32⟩
  | .hbm, ⟨18, _⟩ => ⟨S1x128, .i32⟩
  | .hbm, ⟨19, _⟩ => ⟨S128x128, .i32⟩
  | .hbm, ⟨20, _⟩ => ⟨S128x128, .i32⟩
  | .hbm, ⟨21, _⟩ => ⟨S128x128, .i1⟩
  | .hbm, ⟨22, _⟩ => ⟨S128x128, .bf16⟩
  | .hbm, ⟨23, _⟩ => ⟨S128x128, .f32⟩
  | .hbm, ⟨24, _⟩ => ⟨S1x128, .f32⟩
  | .local _ .vmem, ⟨0, _⟩ => ⟨S128x1024, .f32⟩
  | .local _ .vmem, ⟨1, _⟩ => ⟨S1024x128, .bf16⟩
  | .local _ .vmem, ⟨2, _⟩ => ⟨S1024x128, .bf16⟩
  | .local _ .vmem, ⟨3, _⟩ => ⟨S1x128, .f32⟩
  | .local _ .vmem, ⟨4, _⟩ => ⟨S1x128, .f32⟩
  | .local _ .vmem, ⟨5, _⟩ => ⟨S128x128, .bf16⟩
  | .local _ .vmem, ⟨6, _⟩ => ⟨S128x128, .f32⟩
  | .local _ .vmem, ⟨7, _⟩ => ⟨S1x128, .f32⟩
  | .local _ .vmem, ⟨8, _⟩ => ⟨S1x128, .f32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_scratch0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference6Ideal.lean ====
abbrev S128x1024 : Shape := ⟨2, ![128, 1024]⟩
abbrev S1024x8 : Shape := ⟨2, ![1024, 8]⟩
abbrev S8 : Shape := ⟨1, ![8]⟩
abbrev S1x128 : Shape := ⟨2, ![1, 128]⟩
abbrev S128x8 : Shape := ⟨2, ![128, 8]⟩
abbrev S1x8 : Shape := ⟨2, ![1, 8]⟩
abbrev S128x2 : Shape := ⟨2, ![128, 2]⟩
abbrev S_ : Shape := ⟨0, ![]⟩
abbrev S128 : Shape := ⟨1, ![128]⟩
abbrev S128x1 : Shape := ⟨2, ![128, 1]⟩
abbrev S128x2x1 : Shape := ⟨3, ![128, 2, 1]⟩
abbrev S1x1x8 : Shape := ⟨3, ![1, 1, 8]⟩
abbrev S128x2x8 : Shape := ⟨3, ![128, 2, 8]⟩
abbrev S128x128 : Shape := ⟨2, ![128, 128]⟩
abbrev S128x128x1 : Shape := ⟨3, ![128, 128, 1]⟩
abbrev S1x128x8 : Shape := ⟨3, ![1, 128, 8]⟩
abbrev S128x128x8 : Shape := ⟨3, ![128, 128, 8]⟩
abbrev S128x1x8 : Shape := ⟨3, ![128, 1, 8]⟩
abbrev S128x6 : Shape := ⟨2, ![128, 6]⟩

abbrev nBuf : Space → Nat
  | .hbm => 69
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x8, .f32⟩
  | .hbm, ⟨2, _⟩ => ⟨S8, .f32⟩
  | .hbm, ⟨3, _⟩ => ⟨S1x128, .f32⟩
  | .hbm, ⟨4, _⟩ => ⟨S128x8, .f32⟩
  | .hbm, ⟨5, _⟩ => ⟨S1x8, .f32⟩
  | .hbm, ⟨6, _⟩ => ⟨S128x8, .f32⟩
  | .hbm, ⟨7, _⟩ => ⟨S128x8, .f32⟩
  | .hbm, ⟨8, _⟩ => ⟨S128x2, .f32⟩
  | .hbm, ⟨9, _⟩ => ⟨S128x2, .i32⟩
  | .hbm, ⟨10, _⟩ => ⟨S_, .f32⟩
  | .hbm, ⟨11, _⟩ => ⟨S128, .f32⟩
  | .hbm, ⟨12, _⟩ => ⟨S_, .f32⟩
  | .hbm, ⟨13, _⟩ => ⟨S128, .f32⟩
  | .hbm, ⟨14, _⟩ => ⟨S128, .f32⟩
  | .hbm, ⟨15, _⟩ => ⟨S128x1, .f32⟩
  | .hbm, ⟨16, _⟩ => ⟨S128x2, .f32⟩
  | .hbm, ⟨17, _⟩ => ⟨S128x2, .f32⟩
  | .hbm, ⟨18, _⟩ => ⟨S128x2, .f32⟩
  | .hbm, ⟨19, _⟩ => ⟨S_, .f32⟩
  | .hbm, ⟨20, _⟩ => ⟨S128, .f32⟩
  | .hbm, ⟨21, _⟩ => ⟨S128x1, .f32⟩
  | .hbm, ⟨22, _⟩ => ⟨S128x2, .f32⟩
  | .hbm, ⟨23, _⟩ => ⟨S128x2, .f32⟩
  | .hbm, ⟨24, _⟩ => ⟨S128x2x1, .i32⟩
  | .hbm, ⟨25, _⟩ => ⟨S1x1x8, .i32⟩
  | .hbm, ⟨26, _⟩ => ⟨S128x2x8, .i32⟩
  | .hbm, ⟨27, _⟩ => ⟨S128x2x8, .i32⟩
  | .hbm, ⟨28, _⟩ => ⟨S128x2x8, .i1⟩
  | .hbm, ⟨29, _⟩ => ⟨S128x2x8, .f32⟩
  | .hbm, ⟨30, _⟩ => ⟨S_, .f32⟩
  | .hbm, ⟨31, _⟩ => ⟨S128x8, .f32⟩
  | .hbm, ⟨32, _⟩ => ⟨S128, .i32⟩
  | .hbm, ⟨33, _⟩ => ⟨S1x128, .i32⟩
  | .hbm, ⟨34, _⟩ => ⟨S128, .i32⟩
  | .hbm, ⟨35, _⟩ => ⟨S128x1, .i32⟩
  | .hbm, ⟨36, _⟩ => ⟨S128x128, .i32⟩
  | .hbm, ⟨37, _⟩ => ⟨S128x128, .i32⟩
  | .hbm, ⟨38, _⟩ => ⟨S128x128, .i1⟩
  | .hbm, ⟨39, _⟩ => ⟨S1x8, .f32⟩
  | .hbm, ⟨40, _⟩ => ⟨S128x128x1, .i1⟩
  | .hbm, ⟨41, _⟩ => ⟨S1x128x8, .f32⟩
  | .hbm, ⟨42, _⟩ => ⟨S_, .i32⟩
  | .hbm, ⟨43, _⟩ => ⟨S_, .f32⟩
  | .hbm, ⟨44, _⟩ => ⟨S128x128x8, .i1⟩
  | .hbm, ⟨45, _⟩ => ⟨S128x128x8, .f32⟩
  | .hbm, ⟨46, _⟩ => ⟨S128x128x8, .f32⟩
  | .hbm, ⟨47, _⟩ => ⟨S128x128x8, .f32⟩
  | .hbm, ⟨48, _⟩ => ⟨S_, .f32⟩
  | .hbm, ⟨49, _⟩ => ⟨S128x8, .f32⟩
  | .hbm, ⟨50, _⟩ => ⟨S128x8, .f32⟩
  | .hbm, ⟨51, _⟩ => ⟨S128x8, .f32⟩
  | .hbm, ⟨52, _⟩ => ⟨S128x1x8, .f32⟩
  | .hbm, ⟨53, _⟩ => ⟨S128x2x8, .f32⟩
  | .hbm, ⟨54, _⟩ => ⟨S128x2x8, .f32⟩
  | .hbm, ⟨55, _⟩ => ⟨S_, .f32⟩
  | .hbm, ⟨56, _⟩ => ⟨S128x2, .f32⟩
  | .hbm, ⟨57, _⟩ => ⟨S128x2, .f32⟩
  | .hbm, ⟨58, _⟩ => ⟨S128x6, .f32⟩
  | .hbm, ⟨59, _⟩ => ⟨S_, .i32⟩
  | .hbm, ⟨60, _⟩ => ⟨S_, .f32⟩
  | .hbm, ⟨61, _⟩ => ⟨S128x128, .f32⟩
  | .hbm, ⟨62, _⟩ => ⟨S_, .f32⟩
  | .hbm, ⟨63, _⟩ => ⟨S8, .f32⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S1x128, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_call2_v0 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_c_7 : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Kernel7.lean ====
abbrev S128x512 : Shape := ⟨2, ![128, 512]⟩
abbrev S128x1024 : Shape := ⟨2, ![128, 1024]⟩
abbrev S1024x1024 : Shape := ⟨2, ![1024, 1024]⟩
abbrev S1024 : Shape := ⟨1, ![1024]⟩
abbrev S512x1024 : Shape := ⟨2, ![512, 1024]⟩
abbrev S1x1024 : Shape := ⟨2, ![1, 1024]⟩
abbrev S128 : Shape := ⟨1, ![128]⟩
abbrev S128x1 : Shape := ⟨2, ![128, 1]⟩

abbrev nBuf : Space → Nat
  | .hbm => 14
  | .vmem => 8
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S1024x1024, .bf16⟩
  | .hbm, ⟨7, _⟩ => ⟨S128x512, .bf16⟩
  | .hbm, ⟨8, _⟩ => ⟨S128x512, .bf16⟩
  | .hbm, ⟨9, _⟩ => ⟨S512x1024, .bf16⟩
  | .hbm, ⟨10, _⟩ => ⟨S512x1024, .bf16⟩
  | .hbm, ⟨11, _⟩ => ⟨S1x1024, .f32⟩
  | .hbm, ⟨12, _⟩ => ⟨S1x1024, .f32⟩
  | .hbm, ⟨13, _⟩ => ⟨S128x1024, .f32⟩
  | .local _ .vmem, ⟨0, _⟩ => ⟨S128x512, .bf16⟩
  | .local _ .vmem, ⟨1, _⟩ => ⟨S128x512, .bf16⟩
  | .local _ .vmem, ⟨2, _⟩ => ⟨S128x1024, .f32⟩
  | .local _ .vmem, ⟨3, _⟩ => ⟨S512x1024, .bf16⟩
  | .local _ .vmem, ⟨4, _⟩ => ⟨S512x1024, .bf16⟩
  | .local _ .vmem, ⟨5, _⟩ => ⟨S1x1024, .f32⟩
  | .local _ .vmem, ⟨6, _⟩ => ⟨S1x1024, .f32⟩
  | .local _ .vmem, ⟨7, _⟩ => ⟨S128x1024, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := ⟨1, ![1], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S128x512 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S128x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S512x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![true]
-- ==== Reference7Ideal.lean ====
abbrev S128x512 : Shape := ⟨2, ![128, 512]⟩
abbrev S128x1024 : Shape := ⟨2, ![128, 1024]⟩
abbrev S1024x1024 : Shape := ⟨2, ![1024, 1024]⟩
abbrev S1024 : Shape := ⟨1, ![1024]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 41
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512, .f32⟩
  | .hbm, ⟨2, _⟩ => ⟨S128x1024, .f32⟩
  | .hbm, ⟨3, _⟩ => ⟨S1024x1024, .f32⟩
  | .hbm, ⟨4, _⟩ => ⟨S1024, .f32⟩
  | .hbm, ⟨5, _⟩ => ⟨S1024, .f32⟩
  | .hbm, ⟨6, _⟩ => ⟨S_, .f32⟩
  | .hbm, ⟨7, _⟩ => ⟨S128x1024, .f32⟩
  | .hbm, ⟨8, _⟩ => ⟨S128x1024, .f32⟩
  | .hbm, ⟨9, _⟩ => ⟨S128x1024, .f32⟩
  | .hbm, ⟨10, _⟩ => ⟨S128x1024, .f32⟩
  | .hbm, ⟨11, _⟩ => ⟨S128x1024, .f32⟩
  | .hbm, ⟨12, _⟩ => ⟨S_, .f32⟩
  | .hbm, ⟨13, _⟩ => ⟨S128, .f32⟩
  | .hbm, ⟨14, _⟩ => ⟨S128x1, .f32⟩
  | .hbm, ⟨15, _⟩ => ⟨S_, .f32⟩
  | .hbm, ⟨16, _⟩ => ⟨S128x1, .f32⟩
  | .hbm, ⟨17, _⟩ => ⟨S128x1, .f32⟩
  | .hbm, ⟨18, _⟩ => ⟨S128x1024, .f32⟩
  | .hbm, ⟨19, _⟩ => ⟨S128x1024, .f32⟩
  | .hbm, ⟨20, _⟩ => ⟨S128x1024, .f32⟩
  | .hbm, ⟨21, _⟩ => ⟨S_, .f32⟩
  | .hbm, ⟨22, _⟩ => ⟨S128, .f32⟩
  | .hbm, ⟨23, _⟩ => ⟨S128x1, .f32⟩
  | .hbm, ⟨24, _⟩ => ⟨S_, .f32⟩
  | .hbm, ⟨25, _⟩ => ⟨S128x1, .f32⟩
  | .hbm, ⟨26, _⟩ => ⟨S128x1, .f32⟩
  | .hbm, ⟨27, _⟩ => ⟨S128x1024, .f32⟩
  | .hbm, ⟨28, _⟩ => ⟨S128x1024, .f32⟩
  | .hbm, ⟨29, _⟩ => ⟨S_, .f32⟩
  | .hbm, ⟨30, _⟩ => ⟨S128x1, .f32⟩
  | .hbm, ⟨31, _⟩ => ⟨S128x1, .f32⟩
  | .hbm, ⟨32, _⟩ => ⟨S128x1, .f32⟩
  | .hbm, ⟨33, _⟩ => ⟨S128x1024, .f32⟩
  | .hbm, ⟨34, _⟩ => ⟨S128x1024, .f32⟩
  | .hbm, ⟨35, _⟩ => ⟨S1x1024, .f32⟩
  | .hbm, ⟨36, _⟩ => ⟨S128x1024, .f32⟩
  | .hbm, ⟨37, _⟩ => ⟨S128x1024, .f32⟩
  | .hbm, ⟨38, _⟩ => ⟨S1x1024, .f32⟩
  | .hbm, ⟨39, _⟩ => ⟨S128x1024, .f32⟩
  | .hbm, ⟨40, _⟩ => ⟨S128x1024, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_cst_1 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_cst_3 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_cst_4 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩

abbrev nD : Nat := 1
abbrev τ : Topo := Topo.v7x

variable {F : FTy → Type} [FloatOps F]
-- ==== Kernel8.lean ====
abbrev S128x1024 : Shape := ⟨2, ![128, 1024]⟩
abbrev S1024x2816 : Shape := ⟨2, ![1024, 2816]⟩
abbrev S2816x1024 : Shape := ⟨2, ![2816, 1024]⟩
abbrev S1024 : Shape := ⟨1, ![1024]⟩
abbrev S2 : Shape := ⟨1, ![2]⟩
abbrev S1x1024x2816 : Shape := ⟨3, ![1, 1024, 2816]⟩
abbrev S1x2816x1024 : Shape := ⟨3, ![1, 2816, 1024]⟩
abbrev S1x1024 : Shape := ⟨2, ![1, 1024]⟩
abbrev S1 : Shape := ⟨1, ![1]⟩
abbrev S128x2816 : Shape := ⟨2, ![128, 2816]⟩
abbrev S128 : Shape := ⟨1, ![128]⟩
abbrev S128x1 : Shape := ⟨2, ![128, 1]⟩

abbrev nBuf : Space → Nat
  | .hbm => 15
  | .vmem => 7
  | .smem => 1
  | _ => 0

abbrev bufTy : (tb : Table) → Fin (tcTables nBuf tb) → BufTy
  | .hbm, ⟨0, _⟩ => ⟨S128x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S1x1024x2816, .f32⟩
  | .hbm, ⟨7, _⟩ => ⟨S1x1024x2816, .f32⟩
  | .hbm, ⟨8, _⟩ => ⟨S1x2816x1024, .f32⟩
  | .hbm, ⟨9, _⟩ => ⟨S1x1024x2816, .bf16⟩
  | .hbm, ⟨10, _⟩ => ⟨S1x1024x2816, .bf16⟩
  | .hbm, ⟨11, _⟩ => ⟨S1x2816x1024, .bf16⟩
  | .hbm, ⟨12, _⟩ => ⟨S1x1024, .f32⟩
  | .hbm, ⟨13, _⟩ => ⟨S1x1024, .f32⟩
  | .hbm, ⟨14, _⟩ => ⟨S128x1024, .f32⟩
  | .local _ .vmem, ⟨0, _⟩ => ⟨S128x1024, .f32⟩
  | .local _ .vmem, ⟨1, _⟩ => ⟨S1x1024x2816, .bf16⟩
  | .local _ .vmem, ⟨2, _⟩ => ⟨S1x1024x2816, .bf16⟩
  | .local _ .vmem, ⟨3, _⟩ => ⟨S1x2816x1024, .bf16⟩
  | .local _ .vmem, ⟨4, _⟩ => ⟨S1x1024, .f32⟩
  | .local _ .vmem, ⟨5, _⟩ => ⟨S1x1024, .f32⟩
  | .local _ .vmem, ⟨6, _⟩ => ⟨S128x1024, .f32⟩
  | .local _ .smem, ⟨0, _⟩ => ⟨S2, .i32⟩
  | _, _ => ⟨S128x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.smem, 0, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := ⟨1, ![1], ![false]⟩

abbrev pre0 : Pipeline.Prefetch sig := ⟨1, ![main_c.idx], fun | 0 => main_c.names | ⟨_ + 1, h⟩ => absurd h (Nat.not_lt.2 (Nat.le_add_left _ _)), fun | 0 => rfl | ⟨_ + 1, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_cond1 (i : grid0.Coords) (v0 : BitVec 32) : BitVec 1 :=
  let arg0 : BitVec 32 := BitVec.ofNat 32 (i 0).val
  let v1 : BitVec 1 := Scalar.cmpi .slt arg0 v0
  let v2 : BitVec 32 := Scalar.extui v1
  let c0_i32 : BitVec 32 := 0#32
  let v3 : BitVec 1 := Scalar.cmpi .ne v2 c0_i32
  v3

def k0_cond2 (i : grid0.Coords) (v4 : BitVec 32) : BitVec 1 :=
  let arg0 : BitVec 32 := BitVec.ofNat 32 (i 0).val
  let v5 : BitVec 1 := Scalar.cmpi .sge arg0 v4
  let v6 : BitVec 32 := Scalar.extui v5
  let c0_i32_1 : BitVec 32 := 0#32
  let v7 : BitVec 1 := Scalar.cmpi .ne v6 c0_i32_1
  v7

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_2 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_3 (k0_off1_inb : ∀ i : grid0.Coords, ∀ a, (k0_off1 i) a + S1.size a ≤ S2.size a) (numel1_S1 : S1.numel = 1) (pf : pre0.Contents (Elt F)) (i : grid0.Coords) : Fin 3 → Nat :=
  let arg0 : BitVec 32 := BitVec.ofNat 32 (i 0).val
  let v0 : Index := Scalar.indexCast arg0
  let v1 : BitVec 32 := pf.at 0 (Rect.unit (s := S2) ![v0.toNat] S1.size (k0_off1_inb i)) numel1_S1
  let c0_i32 : BitVec 32 := 0#32
  let c0_i32_0 : BitVec 32 := 0#32
  let c0_i32_1 : BitVec 32 := 0#32
  ![v1.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 1 → Memref sig .tc .vmem S128x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S1x1024x2816 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]

abbrev stage0_2 : Fin 1 → Memref sig .tc .vmem S1x1024x2816 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![true]

abbrev stage0_3 : Fin 1 → Memref sig .tc .vmem S1x2816x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![true]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![true]
-- ==== Reference8Ideal.lean ====
abbrev S128x1024 : Shape := ⟨2, ![128, 1024]⟩
abbrev S1024x2816 : Shape := ⟨2, ![1024, 2816]⟩
abbrev S2816x1024 : Shape := ⟨2, ![2816, 1024]⟩
abbrev S1024 : Shape := ⟨1, ![1024]⟩
abbrev S128x2816 : Shape := ⟨2, ![128, 2816]⟩
abbrev S_ : Shape := ⟨0, ![]⟩
abbrev S128 : Shape := ⟨1, ![128]⟩
abbrev S128x1 : Shape := ⟨2, ![128, 1]⟩
abbrev S1x1024 : Shape := ⟨2, ![1, 1024]⟩

abbrev nBuf : Space → Nat
  | .hbm => 52
  | .vmem => 0
  | .smem => 0
  | _ => 0

abbrev bufTy : (tb : Table) → Fin (tcTables nBuf tb) → BufTy
  | .hbm, ⟨0, _⟩ => ⟨S128x1024, .f32⟩
  | .hbm, ⟨1, _⟩ => ⟨S1024x2816, .f32⟩
  | .hbm, ⟨2, _⟩ => ⟨S1024x2816, .f32⟩
  | .hbm, ⟨3, _⟩ => ⟨S2816x1024, .f32⟩
  | .hbm, ⟨4, _⟩ => ⟨S1024, .f32⟩
  | .hbm, ⟨5, _⟩ => ⟨S1024, .f32⟩
  | .hbm, ⟨6, _⟩ => ⟨S128x2816, .f32⟩
  | .hbm, ⟨7, _⟩ => ⟨S128x2816, .f32⟩
  | .hbm, ⟨8, _⟩ => ⟨S128x2816, .f32⟩
  | .hbm, ⟨9, _⟩ => ⟨S_, .f32⟩
  | .hbm, ⟨10, _⟩ => ⟨S128x2816, .f32⟩
  | .hbm, ⟨11, _⟩ => ⟨S128x2816, .f32⟩
  | .hbm, ⟨12, _⟩ => ⟨S_, .f32⟩
  | .hbm, ⟨13, _⟩ => ⟨S128x2816, .f32⟩
  | .hbm, ⟨14, _⟩ => ⟨S128x2816, .f32⟩
  | .hbm, ⟨15, _⟩ => ⟨S128x2816, .f32⟩
  | .hbm, ⟨16, _⟩ => ⟨S128x2816, .f32⟩
  | .hbm, ⟨17, _⟩ => ⟨S128x2816, .f32⟩
  | .hbm, ⟨18, _⟩ => ⟨S_, .f32⟩
  | .hbm, ⟨19, _⟩ => ⟨S128x1024, .f32⟩
  | .hbm, ⟨20, _⟩ => ⟨S128x1024, .f32⟩
  | .hbm, ⟨21, _⟩ => ⟨S128x1024, .f32⟩
  | .hbm, ⟨22, _⟩ => ⟨S128x1024, .f32⟩
  | .hbm, ⟨23, _⟩ => ⟨S_, .f32⟩
  | .hbm, ⟨24, _⟩ => ⟨S128, .f32⟩
  | .hbm, ⟨25, _⟩ => ⟨S128x1, .f32⟩
  | .hbm, ⟨26, _⟩ => ⟨S_, .f32⟩
  | .hbm, ⟨27, _⟩ => ⟨S128x1, .f32⟩
  | .hbm, ⟨28, _⟩ => ⟨S128x1, .f32⟩
  | .hbm, ⟨29, _⟩ => ⟨S128x1024, .f32⟩
  | .hbm, ⟨30, _⟩ => ⟨S128x1024, .f32⟩
  | .hbm, ⟨31, _⟩ => ⟨S128x1024, .f32⟩
  | .hbm, ⟨32, _⟩ => ⟨S_, .f32⟩
  | .hbm, ⟨33, _⟩ => ⟨S128, .f32⟩
  | .hbm, ⟨34, _⟩ => ⟨S128x1, .f32⟩
  | .hbm, ⟨35, _⟩ => ⟨S_, .f32⟩
  | .hbm, ⟨36, _⟩ => ⟨S128x1, .f32⟩
  | .hbm, ⟨37, _⟩ => ⟨S128x1, .f32⟩
  | .hbm, ⟨38, _⟩ => ⟨S128x1024, .f32⟩
  | .hbm, ⟨39, _⟩ => ⟨S128x1024, .f32⟩
  | .hbm, ⟨40, _⟩ => ⟨S_, .f32⟩
  | .hbm, ⟨41, _⟩ => ⟨S128x1, .f32⟩
  | .hbm, ⟨42, _⟩ => ⟨S128x1, .f32⟩
  | .hbm, ⟨43, _⟩ => ⟨S128x1, .f32⟩
  | .hbm, ⟨44, _⟩ => ⟨S128x1024, .f32⟩
  | .hbm, ⟨45, _⟩ => ⟨S128x1024, .f32⟩
  | .hbm, ⟨46, _⟩ => ⟨S1x1024, .f32⟩
  | .hbm, ⟨47, _⟩ => ⟨S128x1024, .f32⟩
  | .hbm, ⟨48, _⟩ => ⟨S128x1024, .f32⟩
  | .hbm, ⟨49, _⟩ => ⟨S1x1024, .f32⟩
  | .hbm, ⟨50, _⟩ => ⟨S128x1024, .f32⟩
  | .hbm, ⟨51, _⟩ => ⟨S128x1024, .f32⟩
  | _, _ => ⟨S128x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_cst_0 : Ref sig .tc := ⟨.hbm, 23, rfl⟩
abbrev main_v8 : Ref sig .tc := ⟨.hbm, 24, rfl⟩
abbrev main_v9 : Ref sig .tc := ⟨.hbm, 25, rfl⟩
abbrev main_cst_1 : Ref sig .tc := ⟨.hbm, 26, rfl⟩
abbrev main_v10 : Ref sig .tc := ⟨.hbm, 27, rfl⟩
abbrev main_v11 : Ref sig .tc := ⟨.hbm, 28, rfl⟩
abbrev main_v12 : Ref sig .tc := ⟨.hbm, 29, rfl⟩
abbrev main_v13 : Ref sig .tc := ⟨.hbm, 30, rfl⟩
abbrev main_v14 : Ref sig .tc := ⟨.hbm, 31, rfl⟩
abbrev main_cst_2 : Ref sig .tc := ⟨.hbm, 32, rfl⟩
abbrev main_v15 : Ref sig .tc := ⟨.hbm, 33, rfl⟩
abbrev main_v16 : Ref sig .tc := ⟨.hbm, 34, rfl⟩
abbrev main_cst_3 : Ref sig .tc := ⟨.hbm, 35, rfl⟩
abbrev main_v17 : Ref sig .tc := ⟨.hbm, 36, rfl⟩
abbrev main_v18 : Ref sig .tc := ⟨.hbm, 37, rfl⟩
abbrev main_v19 : Ref sig .tc := ⟨.hbm, 38, rfl⟩
abbrev main_v20 : Ref sig .tc := ⟨.hbm, 39, rfl⟩
abbrev main_cst_4 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩

abbrev nD : Nat := 1
abbrev τ : Topo := Topo.v7x

variable {F : FTy → Type} [FloatOps F]
-- ==== Kernel9.lean ====
abbrev S32768x1024 : Shape := ⟨2, ![32768, 1024]⟩
abbrev S1024x8 : Shape := ⟨2, ![1024, 8]⟩
abbrev S8 : Shape := ⟨1, ![8]⟩
abbrev S1x128 : Shape := ⟨2, ![1, 128]⟩
abbrev S_ : Shape := ⟨0, ![]⟩
abbrev S1024x128 : Shape := ⟨2, ![1024, 128]⟩
abbrev S128 : Shape := ⟨1, ![128]⟩
abbrev S512 : Shape := ⟨1, ![512]⟩
abbrev S512x1 : Shape := ⟨2, ![512, 1]⟩
abbrev S1x512 : Shape := ⟨2, ![1, 512]⟩
abbrev S512x512 : Shape := ⟨2, ![512, 512]⟩
abbrev S32768x128 : Shape := ⟨2, ![32768, 128]⟩
abbrev S512x1024 : Shape := ⟨2, ![512, 1024]⟩
abbrev S512x128 : Shape := ⟨2, ![512, 128]⟩

abbrev nBuf : Space → Nat
  | .hbm => 25
  | .vmem => 11
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S8, .f32⟩
  | .hbm, ⟨3, _⟩ => ⟨S1x128, .f32⟩
  | .hbm, ⟨4, _⟩ => ⟨S_, .i32⟩
  | .hbm, ⟨5, _⟩ => ⟨S_, .f32⟩
  | .hbm, ⟨6, _⟩ => ⟨S1024x128, .f32⟩
  | .hbm, ⟨7, _⟩ => ⟨S1024x128, .bf16⟩
  | .hbm, ⟨8, _⟩ => ⟨S1024x128, .f32⟩
  | .hbm, ⟨9, _⟩ => ⟨S1024x128, .f32⟩
  | .hbm, ⟨10, _⟩ => ⟨S1024x128, .bf16⟩
  | .hbm, ⟨11, _⟩ => ⟨S_, .i32⟩
  | .hbm, ⟨12, _⟩ => ⟨S_, .f32⟩
  | .hbm, ⟨13, _⟩ => ⟨S128, .f32⟩
  | .hbm, ⟨14, _⟩ => ⟨S1x128, .f32⟩
  | .hbm, ⟨15, _⟩ => ⟨S512, .i32⟩
  | .hbm, ⟨16, _⟩ => ⟨S512x1, .i32⟩
  | .hbm, ⟨17, _⟩ => ⟨S512, .i32⟩
  | .hbm, ⟨18, _⟩ => ⟨S1x512, .i32⟩
  | .hbm, ⟨19, _⟩ => ⟨S512x512, .i32⟩
  | .hbm, ⟨20, _⟩ => ⟨S512x512, .i32⟩
  | .hbm, ⟨21, _⟩ => ⟨S512x512, .i1⟩
  | .hbm, ⟨22, _⟩ => ⟨S512x512, .bf16⟩
  | .hbm, ⟨23, _⟩ => ⟨S32768x128, .f32⟩
  | .hbm, ⟨24, _⟩ => ⟨S1x128, .f32⟩
  | .local _ .vmem, ⟨0, _⟩ => ⟨S512x1024, .f32⟩
  | .local _ .vmem, ⟨1, _⟩ => ⟨S512x1024, .f32⟩
  | .local _ .vmem, ⟨2, _⟩ => ⟨S1024x128, .bf16⟩
  | .local _ .vmem, ⟨3, _⟩ => ⟨S1024x128, .bf16⟩
  | .local _ .vmem, ⟨4, _⟩ => ⟨S1x128, .f32⟩
  | .local _ .vmem, ⟨5, _⟩ => ⟨S1x128, .f32⟩
  | .local _ .vmem, ⟨6, _⟩ => ⟨S512x512, .bf16⟩
  | .local _ .vmem, ⟨7, _⟩ => ⟨S512x128, .f32⟩
  | .local _ .vmem, ⟨8, _⟩ => ⟨S512x128, .f32⟩
  | .local _ .vmem, ⟨9, _⟩ => ⟨S1x128, .f32⟩
  | .local _ .vmem, ⟨10, _⟩ => ⟨S1x128, .f32⟩
  | _, _ => ⟨S32768x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_c : Ref sig .tc := ⟨.hbm, 4, rfl⟩
abbrev main_call0_v0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_0 : Ref sig .tc := ⟨.hbm, 11, rfl⟩
abbrev main_call1_v0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15_0 : Ref sig .tc := ⟨.hbm, 23, rfl⟩
abbrev main_v15_1 : Ref sig .tc := ⟨.hbm, 24, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_scratch0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x128 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x128 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S512x512 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S512x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S1x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference9Ideal.lean ====
abbrev S32768x1024 : Shape := ⟨2, ![32768, 1024]⟩
abbrev S1024x8 : Shape := ⟨2, ![1024, 8]⟩
abbrev S8 : Shape := ⟨1, ![8]⟩
abbrev S1x128 : Shape := ⟨2, ![1, 128]⟩
abbrev S32768x8 : Shape := ⟨2, ![32768, 8]⟩
abbrev S1x8 : Shape := ⟨2, ![1, 8]⟩
abbrev S32768x2 : Shape := ⟨2, ![32768, 2]⟩
abbrev S_ : Shape := ⟨0, ![]⟩
abbrev S32768 : Shape := ⟨1, ![32768]⟩
abbrev S32768x1 : Shape := ⟨2, ![32768, 1]⟩
abbrev S32768x2x1 : Shape := ⟨3, ![32768, 2, 1]⟩
abbrev S1x1x8 : Shape := ⟨3, ![1, 1, 8]⟩
abbrev S32768x2x8 : Shape := ⟨3, ![32768, 2, 8]⟩
abbrev S1x32768 : Shape := ⟨2, ![1, 32768]⟩
abbrev S32768x32768 : Shape := ⟨2, ![32768, 32768]⟩
abbrev S32768x32768x1 : Shape := ⟨3, ![32768, 32768, 1]⟩
abbrev S1x32768x8 : Shape := ⟨3, ![1, 32768, 8]⟩
abbrev S32768x32768x8 : Shape := ⟨3, ![32768, 32768, 8]⟩
abbrev S32768x1x8 : Shape := ⟨3, ![32768, 1, 8]⟩
abbrev S32768x6 : Shape := ⟨2, ![32768, 6]⟩
abbrev S32768x128 : Shape := ⟨2, ![32768, 128]⟩
abbrev S128 : Shape := ⟨1, ![128]⟩

abbrev nBuf : Space → Nat
  | .hbm => 69
  | .vmem => 0
  | .smem => 0
  | _ => 0

abbrev bufTy : (tb : Table) → Fin (tcTables nBuf tb) → BufTy
  | .hbm, ⟨0, _⟩ => ⟨S32768x1024, .f32⟩
  | .hbm, ⟨1, _⟩ => ⟨S1024x8, .f32⟩
  | .hbm, ⟨2, _⟩ => ⟨S8, .f32⟩
  | .hbm, ⟨3, _⟩ => ⟨S1x128, .f32⟩
  | .hbm, ⟨4, _⟩ => ⟨S32768x8, .f32⟩
  | .hbm, ⟨5, _⟩ => ⟨S1x8, .f32⟩
  | .hbm, ⟨6, _⟩ => ⟨S32768x8, .f32⟩
  | .hbm, ⟨7, _⟩ => ⟨S32768x8, .f32⟩
  | .hbm, ⟨8, _⟩ => ⟨S32768x2, .f32⟩
  | .hbm, ⟨9, _⟩ => ⟨S32768x2, .i32⟩
  | .hbm, ⟨10, _⟩ => ⟨S_, .f32⟩
  | .hbm, ⟨11, _⟩ => ⟨S32768, .f32⟩
  | .hbm, ⟨12, _⟩ => ⟨S_, .f32⟩
  | .hbm, ⟨13, _⟩ => ⟨S32768, .f32⟩
  | .hbm, ⟨14, _⟩ => ⟨S32768, .f32⟩
  | .hbm, ⟨15, _⟩ => ⟨S32768x1, .f32⟩
  | .hbm, ⟨16, _⟩ => ⟨S32768x2, .f32⟩
  | .hbm, ⟨17, _⟩ => ⟨S32768x2, .f32⟩
  | .hbm, ⟨18, _⟩ => ⟨S32768x2, .f32⟩
  | .hbm, ⟨19, _⟩ => ⟨S_, .f32⟩
  | .hbm, ⟨20, _⟩ => ⟨S32768, .f32⟩
  | .hbm, ⟨21, _⟩ => ⟨S32768x1, .f32⟩
  | .hbm, ⟨22, _⟩ => ⟨S32768x2, .f32⟩
  | .hbm, ⟨23, _⟩ => ⟨S32768x2, .f32⟩
  | .hbm, ⟨24, _⟩ => ⟨S32768x2x1, .i32⟩
  | .hbm, ⟨25, _⟩ => ⟨S1x1x8, .i32⟩
  | .hbm, ⟨26, _⟩ => ⟨S32768x2x8, .i32⟩
  | .hbm, ⟨27, _⟩ => ⟨S32768x2x8, .i32⟩
  | .hbm, ⟨28, _⟩ => ⟨S32768x2x8, .i1⟩
  | .hbm, ⟨29, _⟩ => ⟨S32768x2x8, .f32⟩
  | .hbm, ⟨30, _⟩ => ⟨S_, .f32⟩
  | .hbm, ⟨31, _⟩ => ⟨S32768x8, .f32⟩
  | .hbm, ⟨32, _⟩ => ⟨S32768, .i32⟩
  | .hbm, ⟨33, _⟩ => ⟨S1x32768, .i32⟩
  | .hbm, ⟨34, _⟩ => ⟨S32768, .i32⟩
  | .hbm, ⟨35, _⟩ => ⟨S32768x1, .i32⟩
  | .hbm, ⟨36, _⟩ => ⟨S32768x32768, .i32⟩
  | .hbm, ⟨37, _⟩ => ⟨S32768x32768, .i32⟩
  | .hbm, ⟨38, _⟩ => ⟨S32768x32768, .i1⟩
  | .hbm, ⟨39, _⟩ => ⟨S1x8, .f32⟩
  | .hbm, ⟨40, _⟩ => ⟨S32768x32768x1, .i1⟩
  | .hbm, ⟨41, _⟩ => ⟨S1x32768x8, .f32⟩
  | .hbm, ⟨42, _⟩ => ⟨S_, .i32⟩
  | .hbm, ⟨43, _⟩ => ⟨S_, .f32⟩
  | .hbm, ⟨44, _⟩ => ⟨S32768x32768x8, .i1⟩
  | .hbm, ⟨45, _⟩ => ⟨S32768x32768x8, .f32⟩
  | .hbm, ⟨46, _⟩ => ⟨S32768x32768x8, .f32⟩
  | .hbm, ⟨47, _⟩ => ⟨S32768x32768x8, .f32⟩
  | .hbm, ⟨48, _⟩ => ⟨S_, .f32⟩
  | .hbm, ⟨49, _⟩ => ⟨S32768x8, .f32⟩
  | .hbm, ⟨50, _⟩ => ⟨S32768x8, .f32⟩
  | .hbm, ⟨51, _⟩ => ⟨S32768x8, .f32⟩
  | .hbm, ⟨52, _⟩ => ⟨S32768x1x8, .f32⟩
  | .hbm, ⟨53, _⟩ => ⟨S32768x2x8, .f32⟩
  | .hbm, ⟨54, _⟩ => ⟨S32768x2x8, .f32⟩
  | .hbm, ⟨55, _⟩ => ⟨S_, .f32⟩
  | .hbm, ⟨56, _⟩ => ⟨S32768x2, .f32⟩
  | .hbm, ⟨57, _⟩ => ⟨S32768x2, .f32⟩
  | .hbm, ⟨58, _⟩ => ⟨S32768x6, .f32⟩
  | .hbm, ⟨59, _⟩ => ⟨S_, .i32⟩
  | .hbm, ⟨60, _⟩ => ⟨S_, .f32⟩
  | .hbm, ⟨61, _⟩ => ⟨S32768x128, .f32⟩
  | .hbm, ⟨62, _⟩ => ⟨S_, .f32⟩
  | .hbm, ⟨63, _⟩ => ⟨S8, .f32⟩
  | .hbm, ⟨64, _⟩ => ⟨S_, .i32⟩
  | .hbm, ⟨65, _⟩ => ⟨S_, .f32⟩
  | .hbm, ⟨66, _⟩ => ⟨S128, .f32⟩
  | .hbm, ⟨67, _⟩ => ⟨S1x128, .f32⟩
  | .hbm, ⟨68, _⟩ => ⟨S1x128, .f32⟩
  | _, _ => ⟨S32768x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_values : Ref sig .tc := ⟨.hbm, 8, rfl⟩
abbrev main_indices : Ref sig .tc := ⟨.hbm, 9, rfl⟩
abbrev main_cst : Ref sig .tc := ⟨.hbm, 10, rfl⟩
abbrev main_v4 : Ref sig .tc := ⟨.hbm, 11, rfl⟩
abbrev main_cst_0 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_call0_v0 : Ref sig .tc := ⟨.hbm, 24, rfl⟩
abbrev main_call0_v1 : Ref sig .tc := ⟨.hbm, 25, rfl⟩
abbrev main_call0_v2 : Ref sig .tc := ⟨.hbm, 26, rfl⟩
abbrev main_call0_v3 : Ref sig .tc := ⟨.hbm, 27, rfl⟩
abbrev main_call0_v4 : Ref sig .tc := ⟨.hbm, 28, rfl⟩
abbrev main_v15 : Ref sig .tc := ⟨.hbm, 29, rfl⟩
abbrev main_cst_2 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_c : Ref sig .tc := ⟨.hbm, 42, rfl⟩
abbrev main_call1_v0 : Ref sig .tc := ⟨.hbm, 43, rfl⟩
abbrev main_call1_v1 : Ref sig .tc := ⟨.hbm, 44, rfl⟩
abbrev main_call1_v2 : Ref sig .tc := ⟨.hbm, 45, rfl⟩
abbrev main_call1_v3 : Ref sig .tc := ⟨.hbm, 46, rfl⟩
abbrev main_v27 : Ref sig .tc := ⟨.hbm, 47, rfl⟩
abbrev main_cst_3 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_v31 : Ref sig .tc := ⟨.hbm, 52, rfl⟩
abbrev main_v32 : Ref sig .tc := ⟨.hbm, 53, rfl⟩
abbrev main_v33 : Ref sig .tc := ⟨.hbm, 54, rfl⟩
abbrev main_cst_4 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_c_5 : Ref sig .tc := ⟨.hbm, 59, rfl⟩
abbrev main_call2_v0 : Ref sig .tc := ⟨.hbm, 60, rfl⟩
abbrev main_v37 : Ref sig .tc := ⟨.hbm, 61, rfl⟩
abbrev main_cst_6 : Ref sig .tc := ⟨.hbm, 62, rfl⟩
abbrev main_v38 : Ref sig .tc := ⟨.hbm, 63, rfl⟩
abbrev main_c_7 : Ref sig .tc := ⟨.hbm, 64, rfl⟩
abbrev main_call3_v0 : Ref sig .tc := ⟨.hbm, 65, rfl⟩
abbrev main_v39 : Ref sig .tc := ⟨.hbm, 66, rfl⟩
abbrev main_v40 : Ref sig .tc := ⟨.hbm, 67, rfl⟩
abbrev main_v41 : Ref sig .tc := ⟨.hbm, 68, rfl⟩

abbrev nD : Nat := 1
abbrev τ : Topo := Topo.v7x

variable {F : FTy → Type} [FloatOps F]
-- ==== Kernel10.lean ====
abbrev S16x2048x1024 : Shape := ⟨3, ![16, 2048, 1024]⟩
abbrev S1024x3088 : Shape := ⟨2, ![1024, 3088]⟩
abbrev S16x256 : Shape := ⟨2, ![16, 256]⟩
abbrev S256 : Shape := ⟨1, ![256]⟩
abbrev S32x512x2048 : Shape := ⟨3, ![32, 512, 2048]⟩
abbrev S32768x1024 : Shape := ⟨2, ![32768, 1024]⟩
abbrev S1024x512 : Shape := ⟨2, ![1024, 512]⟩
abbrev S1024x1536 : Shape := ⟨2, ![1024, 1536]⟩
abbrev S1024x2048 : Shape := ⟨2, ![1024, 2048]⟩
abbrev S1024x1024 : Shape := ⟨2, ![1024, 1024]⟩
abbrev S1024x16 : Shape := ⟨2, ![1024, 16]⟩
abbrev S_ : Shape := ⟨0, ![]⟩
abbrev S1024x128 : Shape := ⟨2, ![1024, 128]⟩
abbrev S128x256 : Shape := ⟨2, ![128, 256]⟩
abbrev S1x256 : Shape := ⟨2, ![1, 256]⟩
abbrev S8x32768x64 : Shape := ⟨3, ![8, 32768, 64]⟩
abbrev S4x32768x64 : Shape := ⟨3, ![4, 32768, 64]⟩
abbrev S32768x512 : Shape := ⟨2, ![32768, 512]⟩
abbrev S512x1024 : Shape := ⟨2, ![512, 1024]⟩
abbrev S8x512x64 : Shape := ⟨3, ![8, 512, 64]⟩
abbrev S1x512x512 : Shape := ⟨3, ![1, 512, 512]⟩
abbrev S4x512x64 : Shape := ⟨3, ![4, 512, 64]⟩
abbrev S512x512 : Shape := ⟨2, ![512, 512]⟩
abbrev S512x64 : Shape := ⟨2, ![512, 64]⟩
abbrev S1x512x64 : Shape := ⟨3, ![1, 512, 64]⟩
abbrev S1024x256 : Shape := ⟨2, ![1024, 256]⟩
abbrev S512x256 : Shape := ⟨2, ![512, 256]⟩
abbrev S512x128 : Shape := ⟨2, ![512, 128]⟩

abbrev nBuf : Space → Nat
  | .hbm => 32
  | .vmem => 23
  | .smem => 0
  | _ => 0

abbrev bufTy : (tb : Table) → Fin (tcTables nBuf tb) → BufTy
  | .hbm, ⟨0, _⟩ => ⟨S16x2048x1024, .f32⟩
  | .hbm, ⟨1, _⟩ => ⟨S1024x3088, .f32⟩
  | .hbm, ⟨2, _⟩ => ⟨S16x256, .f32⟩
  | .hbm, ⟨3, _⟩ => ⟨S256, .f32⟩
  | .hbm, ⟨4, _⟩ => ⟨S32x512x2048, .f32⟩
  | .hbm, ⟨5, _⟩ => ⟨S32x512x2048, .f32⟩
  | .hbm, ⟨6, _⟩ => ⟨S32768x1024, .f32⟩
  | .hbm, ⟨7, _⟩ => ⟨S1024x512, .f32⟩
  | .hbm, ⟨8, _⟩ => ⟨S1024x1536, .f32⟩
  | .hbm, ⟨9, _⟩ => ⟨S1024x2048, .f32⟩
  | .hbm, ⟨10, _⟩ => ⟨S1024x2048, .bf16⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x16, .f32⟩
  | .hbm, ⟨15, _⟩ => ⟨S_, .i32⟩
  | .hbm, ⟨16, _⟩ => ⟨S_, .f32⟩
  | .hbm, ⟨17, _⟩ => ⟨S1024x128, .f32⟩
  | .hbm, ⟨18, _⟩ => ⟨S1024x128, .bf16⟩
  | .hbm, ⟨19, _⟩ => ⟨S_, .i32⟩
  | .hbm, ⟨20, _⟩ => ⟨S_, .f32⟩
  | .hbm, ⟨21, _⟩ => ⟨S128x256, .f32⟩
  | .hbm, ⟨22, _⟩ => ⟨S128x256, .bf16⟩
  | .hbm, ⟨23, _⟩ => ⟨S1x256, .f32⟩
  | .hbm, ⟨24, _⟩ => ⟨S8x32768x64, .bf16⟩
  | .hbm, ⟨25, _⟩ => ⟨S32x512x2048, .f32⟩
  | .hbm, ⟨26, _⟩ => ⟨S32x512x2048, .f32⟩
  | .hbm, ⟨27, _⟩ => ⟨S4x32768x64, .f32⟩
  | .hbm, ⟨28, _⟩ => ⟨S4x32768x64, .f32⟩
  | .hbm, ⟨29, _⟩ => ⟨S4x32768x64, .f32⟩
  | .hbm, ⟨30, _⟩ => ⟨S32768x512, .f32⟩
  | .hbm, ⟨31, _⟩ => ⟨S32768x512, .f32⟩
  | .local _ .vmem, ⟨0, _⟩ => ⟨S512x1024, .f32⟩
  | .local _ .vmem, ⟨1, _⟩ => ⟨S512x1024, .f32⟩
  | .local _ .vmem, ⟨2, _⟩ => ⟨S1024x2048, .bf16⟩
  | .local _ .vmem, ⟨3, _⟩ => ⟨S1024x1024, .bf16⟩
  | .local _ .vmem, ⟨4, _⟩ => ⟨S1024x128, .bf16⟩
  | .local _ .vmem, ⟨5, _⟩ => ⟨S128x256, .bf16⟩
  | .local _ .vmem, ⟨6, _⟩ => ⟨S1x256, .f32⟩
  | .local _ .vmem, ⟨7, _⟩ => ⟨S8x512x64, .bf16⟩
  | .local _ .vmem, ⟨8, _⟩ => ⟨S8x512x64, .bf16⟩
  | .local _ .vmem, ⟨9, _⟩ => ⟨S1x512x512, .f32⟩
  | .local _ .vmem, ⟨10, _⟩ => ⟨S1x512x512, .f32⟩
  | .local _ .vmem, ⟨11, _⟩ => ⟨S1x512x512, .f32⟩
  | .local _ .vmem, ⟨12, _⟩ => ⟨S1x512x512, .f32⟩
  | .local _ .vmem, ⟨13, _⟩ => ⟨S4x512x64, .f32⟩
  | .local _ .vmem, ⟨14, _⟩ => ⟨S4x512x64, .f32⟩
  | .local _ .vmem, ⟨15, _⟩ => ⟨S4x512x64, .f32⟩
  | .local _ .vmem, ⟨16, _⟩ => ⟨S4x512x64, .f32⟩
  | .local _ .vmem, ⟨17, _⟩ => ⟨S4x512x64, .f32⟩
  | .local _ .vmem, ⟨18, _⟩ => ⟨S4x512x64, .f32⟩
  | .local _ .vmem, ⟨19, _⟩ => ⟨S512x512, .f32⟩
  | .local _ .vmem, ⟨20, _⟩ => ⟨S512x512, .f32⟩
  | .local _ .vmem, ⟨21, _⟩ => ⟨S512x512, .f32⟩
  | .local _ .vmem, ⟨22, _⟩ => ⟨S512x512, .f32⟩
  | _, _ => ⟨S16x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_c : Ref sig .tc := ⟨.hbm, 15, rfl⟩
abbrev main_call0_v0 : Ref sig .tc := ⟨.hbm, 16, rfl⟩
abbrev main_v9 : Ref sig .tc := ⟨.hbm, 17, rfl⟩
abbrev main_v10 : Ref sig .tc := ⟨.hbm, 18, rfl⟩
abbrev main_c_0 : Ref sig .tc := ⟨.hbm, 19, rfl⟩
abbrev main_call1_v0 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14_0 : Ref sig .tc := ⟨.hbm, 24, rfl⟩
abbrev main_v14_1 : Ref sig .tc := ⟨.hbm, 25, rfl⟩
abbrev main_v14_2 : Ref sig .tc := ⟨.hbm, 26, rfl⟩
abbrev main_v14_3 : Ref sig .tc := ⟨.hbm, 27, rfl⟩
abbrev main_v14_4 : Ref sig .tc := ⟨.hbm, 28, rfl⟩
abbrev main_v14_5 : Ref sig .tc := ⟨.hbm, 29, rfl⟩
abbrev main_v14_6 : Ref sig .tc := ⟨.hbm, 30, rfl⟩
abbrev main_v14_7 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_stg8_0 : Ref sig .tc := ⟨.vmem, 11, rfl⟩
abbrev cc0_stg8_1 : Ref sig .tc := ⟨.vmem, 12, rfl⟩
abbrev cc0_stg9_0 : Ref sig .tc := ⟨.vmem, 13, rfl⟩
abbrev cc0_stg9_1 : Ref sig .tc := ⟨.vmem, 14, rfl⟩
abbrev cc0_stg10_0 : Ref sig .tc := ⟨.vmem, 15, rfl⟩
abbrev cc0_stg10_1 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg13_1 : Ref sig .tc := ⟨.vmem, 22, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8
abbrev cc0_sem7_0 : DmaSem sig := 9
abbrev cc0_sem7_1 : DmaSem sig := 10
abbrev cc0_sem8_0 : DmaSem sig := 11
abbrev cc0_sem8_1 : DmaSem sig := 12
abbrev cc0_sem9_0 : DmaSem sig := 13
abbrev cc0_sem9_1 : DmaSem sig := 14
abbrev cc0_sem10_0 : DmaSem sig := 15
abbrev cc0_sem10_1 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem13_1 : DmaSem sig := 22

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_9 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_10 (i : grid0.Coords) : Fin 3 → Nat :=
  let arg0 : BitVec 32 := BitVec.ofNat 32 (i 0).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c16_i32 : BitVec 32 := 16#32
  let v17 : BitVec 32 := Scalar.addi c16_i32 v16
  let c4_i32_4 : BitVec 32 := 4#32
  let c0_i32_5 : BitVec 32 := 0#32
  let v18 : BitVec 1 := Scalar.cmpi .eq c4_i32_4 c0_i32_5
  let c1_i32_6 : BitVec 32 := 1#32
  let v19 : BitVec 32 := Scalar.select v18 c1_i32_6 c4_i32_4
  let v20 : BitVec 32 := Scalar.remsi arg0 v19
  let c0_i32_7 : BitVec 32 := 0#32
  let v21 : BitVec 1 := Scalar.cmpi .ne v20 c0_i32_7
  let c0_i32_8 : BitVec 32 := 0#32
  let v22 : BitVec 1 := Scalar.cmpi .slt v20 c0_i32_8
  let c0_i32_9 : BitVec 32 := 0#32
  let v23 : BitVec 1 := Scalar.cmpi .slt v19 c0_i32_9
  let v24 : BitVec 1 := Scalar.xori v22 v23
  let v25 : BitVec 1 := Scalar.andi v24 v21
  let v26 : BitVec 32 := Scalar.addi v20 v19
  let v27 : BitVec 32 := Scalar.select v25 v26 v20
  let c0_i32_10 : BitVec 32 := 0#32
  let c0_i32_11 : BitVec 32 := 0#32
  ![v17.toNat, c0_i32_10.toNat, v27.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_13 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x128 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x256 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S8x512x64 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x512x512 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x512x512 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S4x512x64 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 2 → Memref sig .tc .vmem S4x512x64 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 2 → Memref sig .tc .vmem S4x512x64 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S512x512 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 2 → Memref sig .tc .vmem S512x512 .f32 := fun | 0 => Memref.whole cc0_stg13_0 | 1 => Memref.whole cc0_stg13_1 | ⟨_ + 2, h⟩ => absurd h (Nat.not_lt.2 (Nat.le_add_left _ _))
abbrev sem0_13 : Fin 2 → DmaSem sig := fun | 0 => cc0_sem13_0 | 1 => cc0_sem13_1 | ⟨_ + 2, h⟩ => absurd h (Nat.not_lt.2 (Nat.le_add_left _ _))
abbrev reads0_13 : Fin grid0.rank → Bool := ![true]
-- ==== Reference10Ideal.lean ====
abbrev S16x2048x1024 : Shape := ⟨3, ![16, 2048, 1024]⟩
abbrev S1024x3088 : Shape := ⟨2, ![1024, 3088]⟩
abbrev S16x256 : Shape := ⟨2, ![16, 256]⟩
abbrev S256 : Shape := ⟨1, ![256]⟩
abbrev S32x512x2048 : Shape := ⟨3, ![32, 512, 2048]⟩
abbrev S32768x1024 : Shape := ⟨2, ![32768, 1024]⟩
abbrev S32768x3088 : Shape := ⟨2, ![32768, 3088]⟩
abbrev S32768x512 : Shape := ⟨2, ![32768, 512]⟩
abbrev S32768x256 : Shape := ⟨2, ![32768, 256]⟩
abbrev S32768x16 : Shape := ⟨2, ![32768, 16]⟩
abbrev S1x256 : Shape := ⟨2, ![1, 256]⟩
abbrev S_ : Shape := ⟨0, ![]⟩
abbrev S32768x8x64 : Shape := ⟨3, ![32768, 8, 64]⟩
abbrev S8x32768x64 : Shape := ⟨3, ![8, 32768, 64]⟩
abbrev S32768x4x64 : Shape := ⟨3, ![32768, 4, 64]⟩
abbrev S4x32768x64 : Shape := ⟨3, ![4, 32768, 64]⟩
abbrev S16x512x2048 : Shape := ⟨3, ![16, 512, 2048]⟩
abbrev S16x2048x512 : Shape := ⟨3, ![16, 2048, 512]⟩

abbrev nBuf : Space → Nat
  | .hbm => 62
  | .vmem => 0
  | .smem => 0
  | _ => 0

abbrev bufTy : (tb : Table) → Fin (tcTables nBuf tb) → BufTy
  | .hbm, ⟨0, _⟩ => ⟨S16x2048x1024, .f32⟩
  | .hbm, ⟨1, _⟩ => ⟨S1024x3088, .f32⟩
  | .hbm, ⟨2, _⟩ => ⟨S16x256, .f32⟩
  | .hbm, ⟨3, _⟩ => ⟨S256, .f32⟩
  | .hbm, ⟨4, _⟩ => ⟨S32x512x2048, .f32⟩
  | .hbm, ⟨5, _⟩ => ⟨S32x512x2048, .f32⟩
  | .hbm, ⟨6, _⟩ => ⟨S32768x1024, .f32⟩
  | .hbm, ⟨7, _⟩ => ⟨S32768x3088, .f32⟩
  | .hbm, ⟨8, _⟩ => ⟨S32768x512, .f32⟩
  | .hbm, ⟨9, _⟩ => ⟨S32768x512, .f32⟩
  | .hbm, ⟨10, _⟩ => ⟨S32768x512, .f32⟩
  | .hbm, ⟨11, _⟩ => ⟨S32768x256, .f32⟩
  | .hbm, ⟨12, _⟩ => ⟨S32768x256, .f32⟩
  | .hbm, ⟨13, _⟩ => ⟨S32768x512, .f32⟩
  | .hbm, ⟨14, _⟩ => ⟨S32768x512, .f32⟩
  | .hbm, ⟨15, _⟩ => ⟨S32768x16, .f32⟩
  | .hbm, ⟨16, _⟩ => ⟨S32768x256, .f32⟩
  | .hbm, ⟨17, _⟩ => ⟨S1x256, .f32⟩
  | .hbm, ⟨18, _⟩ => ⟨S32768x256, .f32⟩
  | .hbm, ⟨19, _⟩ => ⟨S32768x256, .f32⟩
  | .hbm, ⟨20, _⟩ => ⟨S32768x256, .f32⟩
  | .hbm, ⟨21, _⟩ => ⟨S_, .f32⟩
  | .hbm, ⟨22, _⟩ => ⟨S32768x256, .f32⟩
  | .hbm, ⟨23, _⟩ => ⟨S32768x256, .f32⟩
  | .hbm, ⟨24, _⟩ => ⟨S32768x256, .f32⟩
  | .hbm, ⟨25, _⟩ => ⟨S32768x256, .f32⟩
  | .hbm, ⟨26, _⟩ => ⟨S32768x256, .i1⟩
  | .hbm, ⟨27, _⟩ => ⟨S32768x256, .f32⟩
  | .hbm, ⟨28, _⟩ => ⟨S32768x256, .f32⟩
  | .hbm, ⟨29, _⟩ => ⟨S32768x256, .f32⟩
  | .hbm, ⟨30, _⟩ => ⟨S32768x256, .f32⟩
  | .hbm, ⟨31, _⟩ => ⟨S32768x256, .f32⟩
  | .hbm, ⟨32, _⟩ => ⟨S32768x256, .f32⟩
  | .hbm, ⟨33, _⟩ => ⟨S32768x256, .f32⟩
  | .hbm, ⟨34, _⟩ => ⟨S32768x256, .f32⟩
  | .hbm, ⟨35, _⟩ => ⟨S32768x256, .f32⟩
  | .hbm, ⟨36, _⟩ => ⟨S_, .f32⟩
  | .hbm, ⟨37, _⟩ => ⟨S32768x256, .f32⟩
  | .hbm, ⟨38, _⟩ => ⟨S32768x256, .f32⟩
  | .hbm, ⟨39, _⟩ => ⟨S_, .f32⟩
  | .hbm, ⟨40, _⟩ => ⟨S32768x512, .f32⟩
  | .hbm, ⟨41, _⟩ => ⟨S32768x512, .f32⟩
  | .hbm, ⟨42, _⟩ => ⟨S32768x8x64, .f32⟩
  | .hbm, ⟨43, _⟩ => ⟨S8x32768x64, .f32⟩
  | .hbm, ⟨44, _⟩ => ⟨S8x32768x64, .bf16⟩
  | .hbm, ⟨45, _⟩ => ⟨S_, .f32⟩
  | .hbm, ⟨46, _⟩ => ⟨S32768x256, .f32⟩
  | .hbm, ⟨47, _⟩ => ⟨S32768x256, .f32⟩
  | .hbm, ⟨48, _⟩ => ⟨S32768x4x64, .f32⟩
  | .hbm, ⟨49, _⟩ => ⟨S4x32768x64, .f32⟩
  | .hbm, ⟨50, _⟩ => ⟨S32768x4x64, .f32⟩
  | .hbm, ⟨51, _⟩ => ⟨S4x32768x64, .f32⟩
  | .hbm, ⟨52, _⟩ => ⟨S32768x4x64, .f32⟩
  | .hbm, ⟨53, _⟩ => ⟨S4x32768x64, .f32⟩
  | .hbm, ⟨54, _⟩ => ⟨S16x512x2048, .f32⟩
  | .hbm, ⟨55, _⟩ => ⟨S16x2048x512, .f32⟩
  | .hbm, ⟨56, _⟩ => ⟨S16x512x2048, .f32⟩
  | .hbm, ⟨57, _⟩ => ⟨S32x512x2048, .f32⟩
  | .hbm, ⟨58, _⟩ => ⟨S16x512x2048, .f32⟩
  | .hbm, ⟨59, _⟩ => ⟨S16x2048x512, .f32⟩
  | .hbm, ⟨60, _⟩ => ⟨S16x512x2048, .f32⟩
  | .hbm, ⟨61, _⟩ => ⟨S32x512x2048, .f32⟩
  | _, _ => ⟨S16x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_call0_v0 : Ref sig .tc := ⟨.hbm, 20, rfl⟩
abbrev main_call0_call0_cst : Ref sig .tc := ⟨.hbm, 21, rfl⟩
abbrev main_call0_call0_v0 : Ref sig .tc := ⟨.hbm, 22, rfl⟩
abbrev main_call0_call0_v1 : Ref sig .tc := ⟨.hbm, 23, rfl⟩
abbrev main_call0_call0_v2 : Ref sig .tc := ⟨.hbm, 24, rfl⟩
abbrev main_call0_call0_v3 : Ref sig .tc := ⟨.hbm, 25, rfl⟩
abbrev main_call0_call0_v4 : Ref sig .tc := ⟨.hbm, 26, rfl⟩
abbrev main_call0_call0_v5 : Ref sig .tc := ⟨.hbm, 27, rfl⟩
abbrev main_call0_call0_v6 : Ref sig .tc := ⟨.hbm, 28, rfl⟩
abbrev main_call0_call0_v7 : Ref sig .tc := ⟨.hbm, 29, rfl⟩
abbrev main_call0_call0_v8 : Ref sig .tc := ⟨.hbm, 30, rfl⟩
abbrev main_call0_call0_v9 : Ref sig .tc := ⟨.hbm, 31, rfl⟩
abbrev main_call0_call0_v10 : Ref sig .tc := ⟨.hbm, 32, rfl⟩
abbrev main_call0_call0_v11 : Ref sig .tc := ⟨.hbm, 33, rfl⟩
abbrev main_call0_v1 : Ref sig .tc := ⟨.hbm, 34, rfl⟩
abbrev main_v14 : Ref sig .tc := ⟨.hbm, 35, rfl⟩
abbrev main_cst : Ref sig .tc := ⟨.hbm, 36, rfl⟩
abbrev main_v15 : Ref sig .tc := ⟨.hbm, 37, rfl⟩
abbrev main_v16 : Ref sig .tc := ⟨.hbm, 38, rfl⟩
abbrev main_cst_0 : Ref sig .tc := ⟨.hbm, 39, rfl⟩
abbrev main_v17 : Ref sig .tc := ⟨.hbm, 40, rfl⟩
abbrev main_v18 : Ref sig .tc := ⟨.hbm, 41, rfl⟩
abbrev main_v19 : Ref sig .tc := ⟨.hbm, 42, rfl⟩
abbrev main_v20 : Ref sig .tc := ⟨.hbm, 43, rfl⟩
abbrev main_v21 : Ref sig .tc := ⟨.hbm, 44, rfl⟩
abbrev main_cst_1 : Ref sig .tc := ⟨.hbm, 45, rfl⟩
abbrev main_v22 : Ref sig .tc := ⟨.hbm, 46, rfl⟩
abbrev main_v23 : Ref sig .tc := ⟨.hbm, 47, rfl⟩
abbrev main_v24 : Ref sig .tc := ⟨.hbm, 48, rfl⟩
abbrev main_v25 : Ref sig .tc := ⟨.hbm, 49, rfl⟩
abbrev main_v26 : Ref sig .tc := ⟨.hbm, 50, rfl⟩
abbrev main_v27 : Ref sig .tc := ⟨.hbm, 51, rfl⟩
abbrev main_v28 : Ref sig .tc := ⟨.hbm, 52, rfl⟩
abbrev main_v29 : Ref sig .tc := ⟨.hbm, 53, rfl⟩
abbrev main_v30 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_v36 : Ref sig .tc := ⟨.hbm, 60, rfl⟩
abbrev main_v37 : Ref sig .tc := ⟨.hbm, 61, rfl⟩

abbrev nD : Nat := 1
abbrev τ : Topo := Topo.v7x

variable {F : FTy → Type} [FloatOps F]
-- ==== Proof.Experts.Run.lean ====
/- The expert kernel's run: the host lines before the region, the table they build, and the body in its two cases. -/
module

public import proofs.«01_k».proof.Proof.Gen.KernelIdeal.Launch
public import proofs.«01_k».proof.Proof.Gen.KernelIdeal.Skeleton
public import Idealize.ShloMosaic.Lib.Pipeline.FrameBody
public import Idealize.ShloMosaic.Lib.Tactic
public import Idealize.ShloMosaic.Lib.WordCmp
public import Idealize.ShloMosaic.Lib.VecWindow
public import Idealize.ShloMosaic.Lib.ValueIdxCore
public import Idealize.ShloMosaic.Lib.Pipeline.ValueKit.Geometry

@[expose] public section

set_option maxRecDepth 16384

noncomputable section

namespace Cert.KernelIdeal.Experts

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The stretches of host operations before the region, in order. -/
abbrev pre : List (List (HloOp τ sig (Elt F))) :=
  [hostOps0, hostOps0_1, hostOps0_2, hostOps0_3, hostOps0_4, hostOps0_5, hostOps0_6]

/-- The buffers when the region is entered. -/
abbrev V (c : Dev nD) (b : Ref sig .tc) : Buf (Elt F) ((c : Thread nD τ).loc b) :=
  StableHlo.after (pre (F := F)).flatten (fun b => m (c, b)) b

/-- None of the host operations takes a fresh buffer. -/
theorem pre_fresh : (pre (F := F)).Forall fun ops => ops.Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main pre
    (by simp only [List.Forall]; exact ⟨hostOps0_sub, hostOps0_1_sub, hostOps0_2_sub, hostOps0_3_sub, hostOps0_4_sub, hostOps0_5_sub, hostOps0_6_sub⟩)
    pre_fresh main_chain

/-- No host operation writes an argument. -/
theorem V_arg (c : Dev nD) (b : Ref sig .tc) (hb : b ∈ ([main_arg0, main_arg1, main_arg2, main_arg3, main_arg4] : List (Ref sig .tc))) :
    V m c b = m ((c : Thread nD τ).loc b) :=
  StableHlo.after_of_forall_not_mem (b := Proc.devRef .tc b) _ _ (List.forall_iff_forall_mem.mp (by
    simp only [pre, hostOps0, hostOps0_1, hostOps0_2, hostOps0_3, hostOps0_4, hostOps0_5, hostOps0_6, List.flatten_cons, List.flatten_nil, List.append_nil, List.cons_append,
      List.nil_append, List.Forall, StableHlo.nullary_writes, StableHlo.unary_writes, StableHlo.binary_writes, StableHlo.ternary_writes, StableHlo.TRef.nullary, StableHlo.TRef.unary, StableHlo.TRef.binary, StableHlo.TRef.ternary, Finset.mem_singleton]
    simp only [List.mem_cons, List.not_mem_nil, or_false] at hb
    rcases hb with rfl | rfl | rfl | rfl | rfl <;>
      ((repeat' apply And.intro) <;> exact StableHlo.devRef_ne_of_ne (by decide))))

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl
/-- The blocks the table names lie inside their arrays. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The table as the body is handed it. -/
abbrev tbM : Memref sig .tc .smem S137 .i32 := Memref.whole main_v25
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

/-- The table's word at a place. -/
abbrev word (xt : Vec F S137 .i32) (k : Fin 137) : BitVec 32 := xt (ValueIdx.ix1 k)

theorem cond1_iff (i : grid0.Coords) (w : BitVec 32) : k0_cond1 i w = 1#1 ↔ (BitVec.ofNat 32 (i 0).val).toInt < w.toInt := by
  unfold k0_cond1
  simp only [WordCmp.scalar_cmpi_eq, WordCmp.cmpi_slt_eq]
  by_cases h : (BitVec.ofNat 32 (i 0).val).toInt < w.toInt <;> simp only [h, decide_true, decide_false, iff_true, iff_false] <;> decide

theorem cond2_iff (i : grid0.Coords) (w : BitVec 32) : k0_cond2 i w = 1#1 ↔ ¬(BitVec.ofNat 32 (i 0).val).toInt < w.toInt := by
  unfold k0_cond2
  simp only [WordCmp.scalar_cmpi_eq, WordCmp.cmpi_sge_eq, not_lt]
  by_cases h : w.toInt ≤ (BitVec.ofNat 32 (i 0).val).toInt <;> simp only [h, decide_true, decide_false, iff_true, iff_false] <;> decide

/-- Exactly one of the body's two conditions holds. -/
theorem cond_iff (i : grid0.Coords) (w : BitVec 32) : k0_cond2 i w = 1#1 ↔ ¬k0_cond1 i w = 1#1 := by
  rw [cond1_iff, cond2_iff]

/-- What the body leaves in its output block: the expert's output of the rows where the tile holds tokens, zeros elsewhere. -/
def tileOut (i : grid0.Coords) (w : BitVec 32) (x0 : Vec F S512x1024 .f32) (x1 x2 : Vec F S1x1024x2816 .bf16) (x3 : Vec F S1x2816x1024 .bf16) : Vec F S512x1024 .f32 :=
  if k0_cond1 i w = 1#1 then k0_pay1 x0 x1 x2 x3 else k0_pay2

theorem read_word (c : Dev nD) (xt : TbBuf (F := F) c) (h) :
    View.readAt (Elt F) tbM.view (Rect.unit (s := S137) ![136] S1.size inb_S137_S1_136).toLoadRect xt (Shape.Idx.first h) = word xt 136 :=
  congrArg xt (funext fun a => by obtain rfl : a = (0 : Fin 1) := Subsingleton.elim (α := Fin 1) _ _; rfl)

set_option maxHeartbeats 1000000 in
/-- The body on whole staging memrefs: the inputs end as they were, the output block at `tileOut`. -/
theorem body_run (c : Dev nD) (i : grid0.Coords) (arg2 : Memref sig .tc .vmem S512x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole) (arg6 : Memref sig .tc .vmem S512x1024 .f32) (harg6 : arg6.IsWhole)
    (x0 : Vec F S512x1024 .f32) (x1 x2 : Vec F S1x1024x2816 .bf16) (x3 : Vec F S1x2816x1024 .bf16) (xt : TbBuf (F := F) c)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ (∃ d, owns (c : Thread nD τ) arg6 fullShare d) ∗ tbPt c xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare (tileOut i (word xt 136) x0 x1 x2 x3) ∗ tbPt c xt) -∗ K ⟨⟩))
          ⊢ wp frame (wpE (defs₀ (F := F)) Variants.none c none) E (cc0_ffn_experts i tbM htbM arg2 harg2 arg3 harg3 arg4 harg4 arg5 harg5 arg6 harg6) K := by
  simp only [cc0_ffn_experts_eq_skeleton]; unfold cc0_ffn_experts_skel
  unfold owns
  iintro ⟨⟨%f0, %hf0, H0⟩, ⟨%f1, %hf1, H1⟩, ⟨%f2, %hf2, H2⟩, ⟨%f3, %hf3, H3⟩, ⟨%d4, %f4, -, H4⟩, HT, Hk⟩
  subst hf0 hf1 hf2 hf3
  sl_exec
  sl_step
  delta body_run.sl.r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists _; isplitr
    swap; · iexact H4
    ipureintro
    rw [read_word]
    unfold tileOut
    by_cases h : k0_cond1 i (word xt 136) = 1#1
    · have h2 : ¬k0_cond2 i (word xt 136) = 1#1 := fun h' => (cond_iff _ _).mp h' h
      rw [dif_neg h2, dif_pos h, if_pos h, View.read_writes_full, View.readAt_full, View.readAt_full, View.readAt_full, View.readAt_full]
    · rw [dif_pos ((cond_iff _ _).mpr h), if_neg h, View.read_writes_full]
  iexact HT

/-! ## The windows' blocks and the proof data -/

/-- Window `w`'s block at point `t`, read off its array as the region finds it. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- The output block at point `t`. -/
def oblk (hO : Ok m) (c : Dev nD) (t : Fin (cfgM m hO).N) : Vec F S512x1024 .f32 :=
  tileOut (grid0.coords t) (word (F := F) (tbl m 0) 136) (iblk m hO c 0 t) (iblk m hO c 1 t) (iblk m hO c 2 t) (iblk m hO c 3 t)

/-- The pipeline's proof data on a core: each input's buffer at its block after the body, the output's at `oblk`. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => oblk m hO c t
  Φ _ := iprop(Pipeline.ΦA spec0 c ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = oblk m hO c t := by dsimp only [dats]; try rfl

/-- Each input's staging buffer holds its block at every point, fetched there or not. -/
theorem before_0 (hO : Ok m) (c : Dev nD) (t : Fin (cfgM m hO).N) (d) : (dats m hO 0 c).before 0 t d = iblk m hO c 0 t :=
  ((dats m hO 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (hO : Ok m) (c : Dev nD) (t : Fin (cfgM m hO).N) (d) : (dats m hO 0 c).before 1 t d = iblk m hO c 1 t :=
  ((dats m hO 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (hO : Ok m) (c : Dev nD) (t : Fin (cfgM m hO).N) (d) : (dats m hO 0 c).before 2 t d = iblk m hO c 2 t :=
  ((dats m hO 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (hO : Ok m) (c : Dev nD) (t : Fin (cfgM m hO).N) (d) : (dats m hO 0 c).before 3 t d = iblk m hO c 3 t :=
  ((dats m hO 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)

/-- No window is ever idle: the output's block is stored under one condition or the other. -/
theorem idle_false (pf : pre0.Contents (Elt F)) (w : Fin 5) (i : grid0.Coords) : idle0 pf w i = false := by
  match w with
  | ⟨0, _⟩ => rfl
  | ⟨1, _⟩ => rfl
  | ⟨2, _⟩ => rfl
  | ⟨3, _⟩ => rfl
  | ⟨4, _⟩ =>
    show (!(k0_cond1 i (pf.atD 0 ![136]) == 1#1) && !(k0_cond2 i (pf.atD 0 ![136]) == 1#1)) = false
    by_cases h : k0_cond1 i (pf.atD 0 ![136]) = 1#1
    · rw [h]; rfl
    · rw [(cond_iff _ _).mpr h]; exact Bool.and_false _

theorem live (hO : Ok m) (w : Fin (cfgM m hO).W) (t : Fin (cfgM m hO).N) : (cfgM m hO).idle w ((cfgM m hO).grid.coords t) = false :=
  idle_false (tbl m) w (grid0.coords t)

/-! ## The body obligation -/

/-- Each window's staging memref at a point. -/
abbrev ms0 (hO : Ok m) (t : Fin (cfgM m hO).N) : Memref sig .tc .vmem S512x1024 .f32 := spec0_0.stage ((cfgM m hO).slots t 0)
abbrev ms1 (hO : Ok m) (t : Fin (cfgM m hO).N) : Memref sig .tc .vmem S1x1024x2816 .bf16 := spec0_1.stage ((cfgM m hO).slots t 1)
abbrev ms2 (hO : Ok m) (t : Fin (cfgM m hO).N) : Memref sig .tc .vmem S1x1024x2816 .bf16 := spec0_2.stage ((cfgM m hO).slots t 2)
abbrev ms3 (hO : Ok m) (t : Fin (cfgM m hO).N) : Memref sig .tc .vmem S1x2816x1024 .bf16 := spec0_3.stage ((cfgM m hO).slots t 3)
abbrev ms4 (hO : Ok m) (t : Fin (cfgM m hO).N) : Memref sig .tc .vmem S512x1024 .f32 := spec0_4.stage ((cfgM m hO).slots t 4)

/-- The body as the pipeline calls it at point `t`. -/
abbrev bodyAt (a : (pcfg0 (F := F)).Adm) (t : Fin (cfg0 a).N) : Prog (TpuEff nD τ sig (Elt F) Λ₀ .tc) PUnit :=
  cc0_ffn_experts (grid0.coords t) (Memref.whole main_v25) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4))

/-- What the body is called with at point `t`, -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0 m hO t) fullShare ((dats m hO 0 c).before 0 t d))
    ∗ (∃ d, owns (c : Thread nD τ) (ms1 m hO t) fullShare ((dats m hO 0 c).before 1 t d))
    ∗ (∃ d, owns (c : Thread nD τ) (ms2 m hO t) fullShare ((dats m hO 0 c).before 2 t d))
    ∗ (∃ d, owns (c : Thread nD τ) (ms3 m hO t) fullShare ((dats m hO 0 c).before 3 t d))
    ∗ (∃ d, owns (c : Thread nD τ) (ms4 m hO t) fullShare ((dats m hO 0 c).before 4 t d)))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (((cfgM m hO).win 0).stage ((cfgM m hO).slots t 0)) fullShare ((dats m hO 0 c).after 0 t)
    ∗ owns (c : Thread nD τ) (((cfgM m hO).win 1).stage ((cfgM m hO).slots t 1)) fullShare ((dats m hO 0 c).after 1 t)
    ∗ owns (c : Thread nD τ) (((cfgM m hO).win 2).stage ((cfgM m hO).slots t 2)) fullShare ((dats m hO 0 c).after 2 t)
    ∗ owns (c : Thread nD τ) (((cfgM m hO).win 3).stage ((cfgM m hO).slots t 3)) fullShare ((dats m hO 0 c).after 3 t)
    ∗ owns (c : Thread nD τ) (((cfgM m hO).win 4).stage ((cfgM m hO).slots t 4)) fullShare ((dats m hO 0 c).after 4 t))

theorem sound_body (hO : Ok m) (c : Dev nD) (t : Fin (cfgM m hO).N) :
    bodyPre m hO c t ⊢ wp frame (wpE (defs₀ (F := F)) Variants.none c none) Set.univ (bodyAt (adm m hO) t) (fun _ => bodyPost m hO c t) := by
  unfold bodyPre bodyPost bodyAt
  simp only [before_0, before_1, before_2, before_3]
  rw [show (dats m hO 0 c).Φ t.succ = (dats m hO 0 c).Φ t.castSucc from rfl,
    show (dats m hO 0 c).owesAt () t.succ = (dats m hO 0 c).owesAt () t.castSucc from rfl]
  rw [after_0, after_1, after_2, after_3, after_4]
  rw [show (dats m hO 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, H4⟩⟩
  iapply (body_run c (grid0.coords t) _ _ _ _ _ _ _ _ _ _ (iblk m hO c 0 t) (iblk m hO c 1 t) (iblk m hO c 2 t) (iblk m hO c 3 t) (tbl m 0) Set.univ _)
  isplitl [H0]; · iexact H0
  isplitl [H1]; · iexact H1
  isplitl [H2]; · iexact H2
  isplitl [H3]; · iexact H3
  isplitl [H4]; · iexists _; iexact H4
  isplitl [HT]; · iexact HT
  iintro ⟨H0, H1, H2, H3, H4, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  iexact H4

theorem defs₀_row (hO : Ok m) (t : Fin (cfgM m hO).N) :
    defs₀ (F := F) .tc (cfgM m hO).body ((cfgM m hO).bodyArgs t ((cfgM m hO).slots t)) = bodyAt (adm m hO) t := by
  unfold defs₀; rw [Defs.onTc_tc]

theorem body_obligation (hO : Ok m) (c : Dev nD) : BodyObligation (dats (F := F) m hO 0 c) (defs₀ (F := F)) Variants.none () Set.univ := fun t => by
  rw [bigSep_W0, bigSep_W0, defs₀_row m hO]
  simp only [live]
  refine triple_restated (sound_body m hO c t) rfl .rfl fun _ => ?_
  unfold bodyPost
  dsimp only
  rw [idle_false (tbl m) 4 ((pcfg0.gridAt (tbl m)).coords t)]
  exact .rfl

/-! ## The launch -/

set_option backward.isDefEq.respectTransparency.types false in
/-- The program runs; every window's array ends at what the proof data say, everything else as the region found it, every counter at zero. -/
theorem run_main (hO : Ok m) : θ_run defs (onTc (τ := τ) (main (F := F))) (s₀ m ρ)
    (fun r => Pipeline.FramePost (Pipeline.pin pcfgs fun _ => adm m hO) (dats m hO) 0 (V m) r ∧ r.2.sem = fun _ => 0) :=
  Pipeline.θ_run_frameP (Q' := _) pcfgs (fun _ => adm m hO) (dats m hO) (0 : Fin 1) launch0 defs₀ Variants.none m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- The argument arrays end unchanged. -/
theorem args_of_post (hO : Ok m) (r) (h : Pipeline.FramePost (Pipeline.pin pcfgs fun _ => adm m hO) (dats m hO) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  ⟨(Pipeline.FramePost.in_eq h c 0 rfl).trans ((A_eq m hO c 0).trans (V_arg m c main_arg0 (by decide))),
    ((h c).2 main_arg1 (by decide : main_arg1 ∈ Pipeline.restRefs sig spec0)).trans (V_arg m c main_arg1 (by decide)),
    ((h c).2 main_arg2 (by decide : main_arg2 ∈ Pipeline.restRefs sig spec0)).trans (V_arg m c main_arg2 (by decide)),
    ((h c).2 main_arg3 (by decide : main_arg3 ∈ Pipeline.restRefs sig spec0)).trans (V_arg m c main_arg3 (by decide)),
    ((h c).2 main_arg4 (by decide : main_arg4 ∈ Pipeline.restRefs sig spec0)).trans (V_arg m c main_arg4 (by decide))⟩

end Cert.KernelIdeal.Experts

end
-- ==== Proof.Experts.Table.lean ====
/- The table the host code builds: each tile's expert from the padded segments' ends, and how many tiles hold tokens. -/
module

public import proofs.«01_k».proof.Proof.Experts.Run
public import Idealize.ShloMosaic.Lib.Routing.Ops
public import Idealize.ShloMosaic.Lib.Routing.Words
public import Idealize.ShloMosaic.Lib.StableHlo.RunRead
public import Idealize.ShloMosaic.Lib.Pointwise

@[expose] public section

set_option maxRecDepth 16384

noncomputable section

namespace Cert.KernelIdeal.Experts

open Cert.KernelIdeal Cert.KernelIdeal.Gen
open Idealize.ShloMosaic Idealize.ShloMosaic.TcCoe
open Idealize.ShloMosaic.Routing (pyDiv)

/-! ## The host code's integer arrays, of the counts -/

/-- Each segment's length, padded up to whole tiles. -/
def padded (cnt : IVec S8 32) : IVec S8 32 :=
  muli (pyDiv bcast_S_S8 (subi (addi cnt (broadcastInDim S8 ![] bcast_S_S8 (constantI S_ 32 512#32))) (broadcastInDim S8 ![] bcast_S_S8 (constantI S_ 32 1#32))) (constantI S_ 32 512#32))
    (broadcastInDim S8 ![] bcast_S_S8 (constantI S_ 32 512#32))

/-- Each padded segment's end. -/
def ends (cnt : IVec S8 32) : IVec S8 32 :=
  Host.reduceWindow IntOp.addi ![8] ![1] ![7] ![0] (padded cnt) (broadcastInDim S_ ![] bcast_S_S_ (constantI S_ 32 0#32)) reduceWindows_S8_S8_w8s1p7_0 h_S_

/-- Which segments end at or before each tile's first row. -/
def before (cnt : IVec S8 32) : IVec S136x8 1 :=
  cmpi .sge (broadcastInDim S136x8 ![0, 1] bcast_S136x1_S136x8_0_1 (broadcastInDim S136x1 ![0] bcast_S136_S136x1_0
      (muli (iotaInDim S136 32 0) (broadcastInDim S136 ![] bcast_S_S136 (constantI S_ 32 512#32)))))
    (broadcastInDim S136x8 ![0, 1] bcast_S1x8_S136x8_0_1 (broadcastInDim S1x8 ![1] bcast_S8_S1x8_1 (ends cnt)))

/-- Each tile's expert. -/
def expertOf (cnt : IVec S8 32) : IVec S136 32 :=
  minsi (Host.reduce IntOp.addi (extui 32 (before cnt) natLt_1_32) (constantI S_ 32 0#32) reducesTo_S136x8_S136_d1 h_S_)
    (broadcastInDim S136 ![] bcast_S_S136 (constantI S_ 32 7#32))

/-- The number of tiles that hold tokens. -/
def nActive (cnt : IVec S8 32) : IVec S1 32 :=
  pyDiv bcast_S_S1 (extractStridedSlice S1 ![7] (ends cnt) slices_S8_S1_7) (constantI S_ 32 512#32)

/-- The table: the tiles' experts, then the number of tiles that hold tokens. -/
def tableOf (cnt : IVec S8 32) : IVec S137 32 :=
  concatenate S137 0 [⟨S136, expertOf cnt⟩, ⟨S1, nActive cnt⟩] concatenates_S136_S1_S137_d0

variable {F : FTy → Type} [FloatOps F]
variable (m : (ℓ : Loc nD τ sig) → Buf (Elt F) ℓ)

set_option maxHeartbeats 1000000 in
theorem upto_expert (V : Valuation τ sig (Elt F)) : StableHlo.upto (pre (F := F)).flatten V 67 (Proc.devRef .tc main_v22) = expertOf (V (Proc.devRef .tc main_arg1)) := by
  after_reads_simp
  simp -implicitDefEqProofs only [StableHlo.TRef.toBuf, StableHlo.TRef.ofBuf, cast_cast, cast_eq, id_eq]
  unfold expertOf before ends padded pyDiv
  rfl

set_option maxHeartbeats 1000000 in
theorem upto_active (V : Valuation τ sig (Elt F)) : StableHlo.upto (pre (F := F)).flatten V 67 (Proc.devRef .tc main_v24) = nActive (V (Proc.devRef .tc main_arg1)) := by
  after_reads_simp
  simp -implicitDefEqProofs only [StableHlo.TRef.toBuf, StableHlo.TRef.ofBuf, cast_cast, cast_eq, id_eq]
  unfold nActive ends padded pyDiv
  rfl

/-- The table's buffer when the region is entered. -/
theorem V_table (c : Dev nD) : V m c main_v25 = tableOf (m ((c : Thread nD τ).loc main_arg1)) := by
  show StableHlo.after (pre (F := F)).flatten (fun b => m (c, b)) (Proc.devRef .tc main_v25) = _
  after_reads_simp
  rw [upto_expert, upto_active]
  rfl

set_option maxHeartbeats 1000000 in
/-- The weight arrays when the region is entered: the arguments', cast. -/
theorem V_w1 (c : Dev nD) : V m c main_v0 = truncf .bf16 (m ((c : Thread nD τ).loc main_arg2) : Vec F S8x1024x2816 .f32) bitsLt_bf16_f32 := by
  show StableHlo.after (pre (F := F)).flatten (fun b => m (c, b)) (Proc.devRef .tc main_v0) = _
  after_reads_simp
set_option maxHeartbeats 1000000 in
theorem V_w2 (c : Dev nD) : V m c main_v1 = truncf .bf16 (m ((c : Thread nD τ).loc main_arg3) : Vec F S8x1024x2816 .f32) bitsLt_bf16_f32 := by
  show StableHlo.after (pre (F := F)).flatten (fun b => m (c, b)) (Proc.devRef .tc main_v1) = _
  after_reads_simp
set_option maxHeartbeats 1000000 in
theorem V_w3 (c : Dev nD) : V m c main_v2 = truncf .bf16 (m ((c : Thread nD τ).loc main_arg4) : Vec F S8x2816x1024 .f32) bitsLt_bf16_f32 := by
  show StableHlo.after (pre (F := F)).flatten (fun b => m (c, b)) (Proc.devRef .tc main_v2) = _
  after_reads_simp

/-! ## Its words -/

theorem table_lo (cnt : IVec S8 32) (t : Fin 136) : word (F := F) (tableOf cnt) ⟨t, by omega⟩ = expertOf cnt (ValueIdx.ix1 t) := by
  show tableOf cnt (ValueIdx.ix1 ⟨t, _⟩) = _
  unfold tableOf
  pointwise
  exact congrArg _ (ValueIdx.eq_ix1 _)

theorem table_hi (cnt : IVec S8 32) : word (F := F) (tableOf cnt) 136 = nActive cnt (ValueIdx.ix1 0) := by
  show tableOf cnt (ValueIdx.ix1 136) = _
  unfold tableOf
  pointwise
  exact congrArg _ (ValueIdx.eq_ix1 _)

theorem minsi_seven (n : ℕ) (h : n ≤ 8) : IntOp.minsi (BitVec.ofNat 32 n) 7#32 = BitVec.ofNat 32 (min n 7) := by
  interval_cases n <;> rfl

/-- The tile's expert is the number of segments that end before it, at most 7. -/
theorem expert_count (cnt : IVec S8 32) (t : Fin 136) (Q : ℕ → Prop) [DecidablePred Q] (hQ : ∀ q : Fin 8, before cnt (ValueIdx.ix2 t q) = 1#1 ↔ Q q.val) :
    expertOf cnt (ValueIdx.ix1 t) = BitVec.ofNat 32 (min (Nat.count Q 8) 7) := by
  have h := Routing.reduce_count (by decide) (before cnt) natLt_1_32 reducesTo_S136x8_S136_d1 h_S_ t Q hQ
  rw [← minsi_seven _ (Nat.count_le _), ← h]
  rfl

set_option maxHeartbeats 1000000 in
open Classical in
/-- Every tile's expert is one of the eight, whatever the counts. -/
theorem expert_lt (cnt : IVec S8 32) (t : Fin 136) : ∃ n : Fin 8, expertOf cnt (ValueIdx.ix1 t) = BitVec.ofNat 32 n.val :=
  ⟨⟨_, by omega⟩, expert_count cnt t (fun q => ∃ h : q < 8, before cnt (ValueIdx.ix2 t ⟨q, h⟩) = 1#1) fun q => ⟨fun h => ⟨q.2, h⟩, fun ⟨_, h⟩ => h⟩⟩

/-- The table's word that the index maps read at a point. -/
theorem at_word (cnt : IVec S8 32) (pf : pre0.Contents (Elt F)) (hpf : pf 0 = tableOf cnt) (i : grid0.Coords) (h h1) :
    pf.at 0 (Rect.unit (s := S137) (k0_off1 i) S1.size h) h1 = expertOf cnt (ValueIdx.ix1 ⟨(i 0).val, (i 0).isLt⟩) := by
  have hi : (i 0).val < 136 := (i 0).isLt
  rw [← table_lo (F := F), ← hpf]
  refine congrArg (pf 0) (funext fun a => ?_)
  obtain rfl : a = (0 : Fin 1) := Subsingleton.elim (α := Fin 1) _ _
  refine Fin.ext ?_
  show (Scalar.indexCast (BitVec.ofNat 32 (i 0).val) : Index).toNat + 1 * 0 = (i 0).val
  rw [Nat.mul_zero, Nat.add_zero]
  show (BitVec.ofNat 32 (i 0).val).toNat = _
  rw [BitVec.toNat_ofNat]; omega

theorem blk_up (n : Fin 8) : ∃ h : (∀ a, ((![n.val, 0, 0] : Fin 3 → ℕ) a + 1) * S1x1024x2816.size a ≤ S8x1024x2816.size a), EltTy.bits .bf16 = 32 ∨ (Rect.block (s := S8x1024x2816) S1x1024x2816.size ![n.val, 0, 0] h).WholeWords (EltTy.packing .bf16) := by
  revert n; decide +kernel
theorem blk_down (n : Fin 8) : ∃ h : (∀ a, ((![n.val, 0, 0] : Fin 3 → ℕ) a + 1) * S1x2816x1024.size a ≤ S8x2816x1024.size a), EltTy.bits .bf16 = 32 ∨ (Rect.block (s := S8x2816x1024) S1x2816x1024.size ![n.val, 0, 0] h).WholeWords (EltTy.packing .bf16) := by
  revert n; decide +kernel

theorem transform_eq (cnt : IVec S8 32) (pf : pre0.Contents (Elt F)) (hpf : pf 0 = tableOf cnt) (i : grid0.Coords) (n : Fin 8)
    (hn : expertOf cnt (ValueIdx.ix1 ⟨(i 0).val, (i 0).isLt⟩) = BitVec.ofNat 32 n.val) : cc0_transform_1 k0_off1_inb numel1_S1 pf i = ![n.val, 0, 0] := by
  unfold cc0_transform_1
  show ![(pf.at 0 (Rect.unit (s := S137) (k0_off1 i) S1.size (k0_off1_inb i)) numel1_S1).toNat, 0, 0] = _
  rw [at_word cnt pf hpf i (k0_off1_inb i) numel1_S1, hn, BitVec.toNat_ofNat, Nat.mod_eq_of_lt (by omega)]

/-- The blocks the table names lie inside the weight arrays, whatever the counts. -/
theorem ok_of (cnt : IVec S8 32) (pf : pre0.Contents (Elt F)) (hpf : pf 0 = tableOf cnt) : ok0 pf := by
  have key : ∀ i : grid0.Coords, ∃ n : Fin 8, cc0_transform_1 k0_off1_inb numel1_S1 pf i = ![n.val, 0, 0] := fun i =>
    (expert_lt cnt ⟨(i 0).val, (i 0).isLt⟩).imp fun n hn => transform_eq cnt pf hpf i n hn
  refine ⟨fun i => ?_, fun i => ?_, fun i => ?_⟩
  · obtain ⟨n, hn⟩ := key i
    rw [hn]; exact blk_up n
  · obtain ⟨n, hn⟩ := key i
    rw [show cc0_transform_2 k0_off1_inb numel1_S1 pf i = ![n.val, 0, 0] from hn]; exact blk_up n
  · obtain ⟨n, hn⟩ := key i
    rw [show cc0_transform_3 k0_off1_inb numel1_S1 pf i = ![n.val, 0, 0] from hn]; exact blk_down n

theorem tbl_eq : tbl m 0 = tableOf (m (((0 : Dev nD) : Thread nD τ).loc main_arg1)) := V_table m 0

theorem ok : Ok m := ok_of _ _ (tbl_eq m)

/-- The frame: the run ends with the arguments unchanged and every counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) ∧ r.2.sem = fun _ => 0) :=
  (θ_run defs _ _).mono (fun r h => ⟨args_of_post m (ok m) r h.1, h.2⟩) (run_main m ρ (ok m))

end Cert.KernelIdeal.Experts

end
-- ==== Proof.Experts.Segments.lean ====
/- The segments' arithmetic: padded lengths, ends, which segment a row falls in. -/
module

public import proofs.«01_k».proof.Proof.Experts.Table
public import Idealize.ShloMosaic.Lib.WordCmp

@[expose] public section

set_option maxRecDepth 16384

noncomputable section

namespace Cert.KernelIdeal.Experts

open Cert.KernelIdeal Cert.KernelIdeal.Gen
open Idealize.ShloMosaic Idealize.ShloMosaic.TcCoe
open Idealize.ShloMosaic.Routing (pyDiv)

/-! ## Numbers -/

/-- A length padded up to whole tiles of 512 rows, -/
def padN (k : ℕ) : ℕ := (k + 511) / 512 * 512
/-- and the rows the first `e` padded segments take. -/
def offN (k : ℕ → ℕ) (e : ℕ) : ℕ := ((List.range e).map fun i => padN (k i)).sum

theorem offN_succ (k : ℕ → ℕ) (e : ℕ) : offN k (e + 1) = offN k e + padN (k e) := by
  unfold offN; rw [List.range_succ, List.map_append, List.sum_append]; simp

theorem offN_mono (k : ℕ → ℕ) {a b : ℕ} (h : a ≤ b) : offN k a ≤ offN k b := by
  induction h with
  | refl => exact le_refl _
  | step _ ih => rw [offN_succ]; omega

theorem padN_le {k : ℕ} (h : k ≤ 65792) : padN k ≤ 66303 := by unfold padN; omega

theorem offN_dvd (k : ℕ → ℕ) (e : ℕ) : ∃ q, offN k e = 512 * q := by
  induction e with
  | zero => exact ⟨0, rfl⟩
  | succ e ih =>
    obtain ⟨q, hq⟩ := ih
    exact ⟨q + (k e + 511) / 512, by rw [offN_succ, hq]; unfold padN; omega⟩

theorem offN_le (k : ℕ → ℕ) (hk : ∀ i < 8, k i ≤ 65792) : ∀ e ≤ 8, offN k e ≤ e * 66303
  | 0, _ => le_refl _
  | e + 1, h => by
    rw [offN_succ]
    have := offN_le k hk e (by omega)
    have := padN_le (hk e (by omega))
    omega

theorem offN_lt (k : ℕ → ℕ) (hk : ∀ i < 8, k i ≤ 65792) {e : ℕ} (h : e ≤ 8) : offN k e < 2 ^ 31 := by
  have := offN_le k hk e h; omega

/-- Counting a property that holds on an initial stretch: it holds exactly below its count. -/
theorem lt_count_iff (Q : ℕ → Prop) [DecidablePred Q] (hQ : ∀ a b, a ≤ b → Q b → Q a) : ∀ N q, q < N → (Q q ↔ q < Nat.count Q N)
  | 0, q, h => absurd h (Nat.not_lt_zero q)
  | N + 1, q, h => by
    have ih := lt_count_iff Q hQ N
    have hle := Nat.count_le (p := Q) (n := N)
    rw [Nat.count_succ]
    by_cases hN : Q N
    · rw [if_pos hN]
      have hall : Nat.count Q N = N := by
        rcases Nat.lt_or_ge (Nat.count Q N) N with hlt | hge
        · exact absurd ((ih _ hlt).mp (hQ _ N hlt.le hN)) (lt_irrefl _)
        · omega
      exact ⟨fun _ => by omega, fun _ => hQ q N (by omega) hN⟩
    · rw [if_neg hN, Nat.add_zero]
      rcases Nat.lt_succ_iff_lt_or_eq.mp h with h | rfl
      · exact ih q h
      · exact ⟨fun h' => absurd h' hN, fun h' => by omega⟩

/-- The segment a row falls in, by its end: the number of segments that end at or before it. -/
def segN (k : ℕ → ℕ) (r : ℕ) : ℕ := Nat.count (fun q => offN k (q + 1) ≤ r) 8

theorem segN_iff (k : ℕ → ℕ) (r q : ℕ) (h : q < 8) : offN k (q + 1) ≤ r ↔ q < segN k r :=
  lt_count_iff (fun q => offN k (q + 1) ≤ r) (fun a b hab hb => (offN_mono k (by omega)).trans hb) 8 q h

/-- A row lies in segment `e` exactly if it comes before the last segment's end and `e` is the segment it falls in. -/
theorem mem_seg (k : ℕ → ℕ) (r e : ℕ) (he : e < 8) : (offN k e ≤ r ∧ r < offN k (e + 1)) ↔ (r < offN k 8 ∧ e = min (segN k r) 7) := by
  have hs : segN k r ≤ 8 := Nat.count_le (p := _)
  have hE := segN_iff k r e he
  have h8 : offN k 8 ≤ r ↔ 7 < segN k r := segN_iff k r 7 (by omega)
  have hmono := offN_mono k (show e + 1 ≤ 8 by omega)
  have hprev : offN k e ≤ r ↔ e ≤ segN k r := by
    rcases Nat.eq_zero_or_pos e with rfl | hp
    · exact ⟨fun _ => Nat.zero_le _, fun _ => Nat.zero_le _⟩
    · have := segN_iff k r (e - 1) (by omega)
      rw [Nat.sub_add_cancel hp] at this
      rw [this]; omega
  omega

/-- A tile's first row falls in the same segment as each of its rows, the ends being whole tiles. -/
theorem end_le_tile (k : ℕ → ℕ) (q r : ℕ) : offN k q ≤ r / 512 * 512 ↔ offN k q ≤ r := by
  obtain ⟨a, ha⟩ := offN_dvd k q
  rw [ha]; omega

theorem segN_tile (k : ℕ → ℕ) (r : ℕ) : segN k (r / 512 * 512) = segN k r := by
  unfold segN; simp only [end_le_tile]

theorem tile_lt (k : ℕ → ℕ) (r : ℕ) : r / 512 < offN k 8 / 512 ↔ r < offN k 8 := by
  obtain ⟨a, ha⟩ := offN_dvd k 8
  rw [ha]; omega

/-! ## The words -/

section Words
variable (cnt : IVec S8 32) (k : ℕ → ℕ) (hc : ∀ e : Fin 8, cnt (ValueIdx.ix1 e) = BitVec.ofNat 32 (k e.val)) (hk : ∀ i < 8, k i ≤ 65792)
include hc hk

theorem padded_ap (e : Fin 8) : padded cnt (ValueIdx.ix1 e) = BitVec.ofNat 32 (padN (k e.val)) := by
  have hke := hk e.val e.2
  have h := Routing.pyDiv_ap bcast_S_S8 (subi (addi cnt (broadcastInDim S8 ![] bcast_S_S8 (constantI S_ 32 512#32))) (broadcastInDim S8 ![] bcast_S_S8 (constantI S_ 32 1#32)))
    (constantI S_ 32 512#32) (ValueIdx.ix1 e) (a := k e.val + 511) (b := 512) (by
      show cnt (ValueIdx.ix1 e) + 512#32 - 1#32 = _
      rw [hc]
      apply BitVec.eq_of_toNat_eq
      simp only [BitVec.toNat_sub, BitVec.toNat_add, BitVec.toNat_ofNat]
      omega) rfl (by omega) (by omega) (by omega)
  show IntOp.muli (pyDiv _ _ _ (ValueIdx.ix1 e)) 512#32 = _
  rw [h]
  exact (BitVec.ofNat_mul _ _).symm

theorem ends_ap (e : Fin 8) : ends cnt (ValueIdx.ix1 e) = BitVec.ofNat 32 (offN k (e.val + 1)) :=
  Routing.cumsum1 (by decide) (padded cnt) (fun i => padN (k i)) (padded_ap cnt k hc hk) _ rfl _ _ e

theorem before_iff (t : Fin 136) (q : Fin 8) : before cnt (ValueIdx.ix2 t q) = 1#1 ↔ offN k (q.val + 1) ≤ t.val * 512 := by
  have h : before cnt (ValueIdx.ix2 t q) = IntOp.cmpi .sge (IntOp.muli (BitVec.ofNat 32 t.val) 512#32) (ends cnt (ValueIdx.ix1 q)) := by
    unfold before
    pointwise
    rfl
  rw [h, ends_ap cnt k hc hk, show IntOp.muli (BitVec.ofNat 32 t.val) 512#32 = BitVec.ofNat 32 (t.val * 512) from (BitVec.ofNat_mul _ _).symm,
    WordCmp.cmpi_sge_ofNat_eq_one_iff (w := 32) (by omega) (offN_lt k hk (by omega))]

theorem expert_ap (t : Fin 136) : expertOf cnt (ValueIdx.ix1 t) = BitVec.ofNat 32 (min (segN k (t.val * 512)) 7) :=
  expert_count cnt t (fun q => offN k (q + 1) ≤ t.val * 512) (before_iff cnt k hc hk t)

theorem nActive_ap : nActive cnt (ValueIdx.ix1 0) = BitVec.ofNat 32 (offN k 8 / 512) := by
  have hx : extractStridedSlice S1 ![7] (ends cnt) slices_S8_S1_7 (ValueIdx.ix1 0) = BitVec.ofNat 32 (offN k 8) := by
    refine Eq.trans ?_ (ends_ap cnt k hc hk 7)
    pointwise
    exact congrArg (ends cnt) (ValueIdx.eq_ix1 _)
  unfold nActive
  exact Routing.pyDiv_ap (a := offN k 8) (b := 512) bcast_S_S1 _ _ (ValueIdx.ix1 0) hx rfl (offN_lt k hk (le_refl 8)) (by omega) (by omega)

end Words

end Cert.KernelIdeal.Experts

end
-- ==== Proof.Experts.Value.lean ====
/- The kernel's result at an index: the row's expert applied to the row, or zero past the last segment. -/
module

public import proofs.«01_k».proof.Proof.Experts.Segments
public import Idealize.ShloMosaic.Lib.Pipeline.Value
public import Idealize.ShloMosaic.Lib.IdealHost

@[expose] public section

set_option maxRecDepth 16384

noncomputable section

namespace Cert.KernelIdeal.Experts

open Cert.KernelIdeal Cert.KernelIdeal.Gen
open Idealize.ShloMosaic Idealize.ShloMosaic.TcCoe Idealize.SL.Sem
open Idealize.ShloMosaic.Pipeline (Dat Cfg Window)

section Array
variable {F : FTy → Type} [FloatOps F] (m : (ℓ : Loc nD τ sig) → Buf (Elt F) ℓ)

/-! ## The output array, tile by tile -/

theorem coord_val : ∀ t : Fin grid0.N, (grid0.coords t 0).val = t.val := by decide +kernel

/-- Tiles of 512 rows, stacked. -/
def spread (g : Fin grid0.N → Vec F S512x1024 .f32) : Vec F S69632x1024 .f32 := fun i =>
  g ⟨(i 0).val / 512, by rw [Gen.N_0]; have : (i 0).val < 69632 := (i 0).isLt; omega⟩ (ValueIdx.ix2 ⟨(i 0).val % 512, Nat.mod_lt _ (by decide)⟩ (i 1))

/-- A row of the stack is the row of its tile. -/
theorem spread_at (g : Fin grid0.N → Vec F S512x1024 .f32) (t : Fin grid0.N) (j : S512x1024.Idx) (i : S69632x1024.Idx)
    (h0 : (i 0).val = t.val * 512 + (j 0).val) (h1 : (i 1).val = (j 1).val) : spread g i = g t j := by
  have hj : (j 0).val < 512 := (j 0).isLt
  have e1 : ∀ h, (⟨(i 0).val / 512, h⟩ : Fin grid0.N) = t := fun _ => Fin.ext (by show (i 0).val / 512 = t.val; omega)
  have e2 : ∀ h, (ValueIdx.ix2 ⟨(i 0).val % 512, h⟩ (i 1) : S512x1024.Idx) = j := fun _ => funext fun a => by
    match a with
    | ⟨0, _⟩ => exact Fin.ext (by show (i 0).val % 512 = (j 0).val; omega)
    | ⟨1, _⟩ => exact Fin.ext h1
  unfold spread
  rw [e1, e2]

/-- The output array: each row as its tile's body leaves it. -/
def outArr (c : Dev nD) : Vec F S69632x1024 .f32 := spread (fun t => oblk m (ok m) c t)

/-- The output is written back at every point. -/
theorem flush_4 (t : Fin (cfgM m (ok m)).N) : ((cfgM m (ok m)).win 4).flush t = true :=
  (fun t => (Pipeline.Window.flushOf_reads cc0_transform_4 reads0_4 hreads0_4 0 (by decide) (by decide) (Pipeline.Window.sep_of_coord cc0_transform_4 0 0 (fun _ => rfl) (by decide)) (P := 1) (m := 0) (by decide) rfl t).mpr (Nat.mod_one _) : ∀ t : Fin grid0.N, Pipeline.Window.flushOf grid0 true cc0_transform_4 t = true) t

theorem idx4 (t : Fin grid0.N) : cc0_transform_4 (grid0.coords t) = ![t.val, 0] := by
  revert t; decide +kernel

/-- A place of the output's block at a point, in the array. -/
theorem emb4 (t : Fin (cfgM m (ok m)).N) (j : S512x1024.Idx) (a : Fin 2) :
    ((((cfgM m (ok m)).win 4).blk t).view.emb j a).val = (![t.val, 0] : Fin 2 → ℕ) a * S512x1024.size a + (j a).val := by
  show cc0_transform_4 (grid0.coords t) a * S512x1024.size a + 1 * (j a).val = _
  rw [idx4 t, Nat.one_mul]

theorem outArr_at (c : Dev nD) (t : Fin grid0.N) (j : S512x1024.Idx) (i : S69632x1024.Idx) (h0 : (i 0).val = t.val * 512 + (j 0).val) (h1 : (i 1).val = (j 1).val) :
    outArr m c i = oblk m (ok m) c t j := spread_at _ t j i h0 h1

theorem cut_spread (g : Fin grid0.N → Vec F S512x1024 .f32) (t : Fin (cfgM m (ok m)).N) :
    ((cfgM m (ok m)).win 4).cut (grid0.coords t) (g t) = (((cfgM m (ok m)).win 4).blk t).view.read (Elt F) (spread g) := by
  refine funext fun j => ?_
  have h0 := emb4 m t j 0
  have h1 : _ = 0 * 1024 + _ := emb4 m t j 1
  rw [Nat.zero_mul, Nat.zero_add] at h1
  exact (spread_at g t j _ h0 h1).symm

theorem flushed_eq (c : Dev nD) (t : Fin (cfgM m (ok m)).N) :
    (dats m (ok m) 0 c).flushed 4 t = (((cfgM m (ok m)).win 4).blk t).view.read (Elt F) (outArr m c) := by
  show ((cfgM m (ok m)).win 4).cut (grid0.coords t) ((dats m (ok m) 0 c).after 4 t) = _
  rw [after_4]
  exact cut_spread m (fun t => oblk m (ok m) c t) t

theorem cover (i : S69632x1024.Idx) : ∃ t, ((cfgM m (ok m)).win 4).flush t = true ∧ i ∈ (((cfgM m (ok m)).win 4).blk t).view.set := by
  have hi : (i 0).val < 69632 := (i 0).isLt
  refine ⟨⟨(i 0).val / 512, by show _ < grid0.N; rw [Gen.N_0]; omega⟩, flush_4 m _, ?_⟩
  have h := (((cfgM m (ok m)).win 4).blk ⟨(i 0).val / 512, by show _ < grid0.N; rw [Gen.N_0]; omega⟩).view.emb_mem_set (ValueIdx.ix2 ⟨(i 0).val % 512, Nat.mod_lt _ (by decide)⟩ (i 1) : S512x1024.Idx)
  refine (congrArg (· ∈ _) (funext fun a => Fin.ext ?_)).mp h
  refine (emb4 m _ _ a).trans ?_
  match a with
  | ⟨0, _⟩ => show (i 0).val / 512 * 512 + (i 0).val % 512 = (i 0).val; omega
  | ⟨1, _⟩ => show 0 * 1024 + (i 1).val = (i 1).val; omega

theorem final_out (c : Dev nD) : (dats m (ok m) 0 c).arrAt 4 (cfgM m (ok m)).N = outArr m c :=
  (dats m (ok m) 0 c).arrAt_eq_of_cover 4 (outArr m c) (fun t _ => flushed_eq m c t) (cover m)

/-- The run, with the result's array named. -/
theorem run_out (ρ : Dev nD → PrngReg) : θ_run defs (onTc (τ := τ) (main (F := F))) ⟨m, fun _ => 0, ρ⟩ (fun r => ∀ c : Dev nD,
      r.2.mem ((c.tc : Thread nD τ).loc main_v26) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c => ⟨(Pipeline.FramePost.out_eq h.1 c 4).trans (final_out m c), args_of_post m (ok m) r h.1 c⟩) (run_main m ρ (ok m))

/-! ## The input blocks -/

theorem idx0 (t : Fin grid0.N) : cc0_transform_0 (grid0.coords t) = ![t.val, 0] := by
  revert t; decide +kernel

theorem iblk_0 (c : Dev nD) (t : Fin (cfgM m (ok m)).N) (r : Fin 512) (d : Fin 1024) (R : Fin 69632) (hR : R.val = t.val * 512 + r.val) :
    iblk m (ok m) c 0 t (ValueIdx.ix2 r d) = (m ((c : Thread nD τ).loc main_arg0) : Vec F S69632x1024 .f32) (ValueIdx.ix2 R d) := by
  refine Eq.trans ?_ (congrFun (V_arg m c main_arg0 (by decide)) _)
  refine congrArg (V m c main_arg0) (funext fun a => Fin.ext ?_)
  show cc0_transform_0 (grid0.coords t) a * S512x1024.size a + 1 * (ValueIdx.ix2 r d a).val = _
  rw [idx0 t]
  match a with
  | ⟨0, _⟩ => show t.val * 512 + 1 * r.val = R.val; omega
  | ⟨1, _⟩ => show 0 * 1024 + 1 * d.val = d.val; omega

/-- Places of the weights' blocks at a point, in their arrays. -/
theorem emb1 (t : Fin (cfgM m (ok m)).N) (j : S1x1024x2816.Idx) (a : Fin 3) :
    ((((cfgM m (ok m)).win 1).blk t).view.emb j a).val = cc0_transform_1 k0_off1_inb numel1_S1 (tbl m) (grid0.coords t) a * S1x1024x2816.size a + 1 * (j a).val := rfl
theorem emb2 (t : Fin (cfgM m (ok m)).N) (j : S1x1024x2816.Idx) (a : Fin 3) :
    ((((cfgM m (ok m)).win 2).blk t).view.emb j a).val = cc0_transform_1 k0_off1_inb numel1_S1 (tbl m) (grid0.coords t) a * S1x1024x2816.size a + 1 * (j a).val := rfl
theorem emb3 (t : Fin (cfgM m (ok m)).N) (j : S1x2816x1024.Idx) (a : Fin 3) :
    ((((cfgM m (ok m)).win 3).blk t).view.emb j a).val = cc0_transform_1 k0_off1_inb numel1_S1 (tbl m) (grid0.coords t) a * S1x2816x1024.size a + 1 * (j a).val := rfl

section Slabs
variable (c : Dev nD) (t : Fin (cfgM m (ok m)).N) (n : Fin 8)
  (hn : expertOf (m (((0 : Dev nD) : Thread nD τ).loc main_arg1)) (ValueIdx.ix1 ⟨(grid0.coords t 0).val, (grid0.coords t 0).isLt⟩) = BitVec.ofNat 32 n.val)
include hn

theorem iblk_1 (a : Fin 1024) (b : Fin 2816) : iblk m (ok m) c 1 t (ValueIdx.ix3 0 a b) = truncf .bf16 (m ((c : Thread nD τ).loc main_arg2) : Vec F S8x1024x2816 .f32) bitsLt_bf16_f32 (ValueIdx.ix3 n a b) := by
  refine Eq.trans ?_ (congrFun (V_w1 m c) _)
  refine congrArg (V m c main_v0) (funext fun x => Fin.ext ?_)
  refine (emb1 m t _ x).trans ?_
  rw [transform_eq _ (tbl m) (tbl_eq m) (grid0.coords t) n hn]
  match x with
  | ⟨0, _⟩ => show n.val * 1 + 1 * 0 = n.val; omega
  | ⟨1, _⟩ => show 0 * 1024 + 1 * a.val = a.val; omega
  | ⟨2, _⟩ => show 0 * 2816 + 1 * b.val = b.val; omega

theorem iblk_2 (a : Fin 1024) (b : Fin 2816) : iblk m (ok m) c 2 t (ValueIdx.ix3 0 a b) = truncf .bf16 (m ((c : Thread nD τ).loc main_arg3) : Vec F S8x1024x2816 .f32) bitsLt_bf16_f32 (ValueIdx.ix3 n a b) := by
  refine Eq.trans ?_ (congrFun (V_w2 m c) _)
  refine congrArg (V m c main_v1) (funext fun x => Fin.ext ?_)
  refine (emb2 m t _ x).trans ?_
  rw [transform_eq _ (tbl m) (tbl_eq m) (grid0.coords t) n hn]
  match x with
  | ⟨0, _⟩ => show n.val * 1 + 1 * 0 = n.val; omega
  | ⟨1, _⟩ => show 0 * 1024 + 1 * a.val = a.val; omega
  | ⟨2, _⟩ => show 0 * 2816 + 1 * b.val = b.val; omega

theorem iblk_3 (a : Fin 2816) (b : Fin 1024) : iblk m (ok m) c 3 t (ValueIdx.ix3 0 a b) = truncf .bf16 (m ((c : Thread nD τ).loc main_arg4) : Vec F S8x2816x1024 .f32) bitsLt_bf16_f32 (ValueIdx.ix3 n a b) := by
  refine Eq.trans ?_ (congrFun (V_w3 m c) _)
  refine congrArg (V m c main_v2) (funext fun x => Fin.ext ?_)
  refine (emb3 m t _ x).trans ?_
  rw [transform_eq _ (tbl m) (tbl_eq m) (grid0.coords t) n hn]
  match x with
  | ⟨0, _⟩ => show n.val * 1 + 1 * 0 = n.val; omega
  | ⟨1, _⟩ => show 0 * 2816 + 1 * a.val = a.val; omega
  | ⟨2, _⟩ => show 0 * 1024 + 1 * b.val = b.val; omega

end Slabs
end Array

/-! ## Over the extended reals -/

/-- A row against a column of one expert's matrix, -/
def proj (x : Vec Ideal S69632x1024 .f32) (w : Vec Ideal S8x1024x2816 .f32) (r : Fin 69632) (e : Fin 8) (f : Fin 2816) : EReal :=
  ∑ k : Fin 1024, x (ValueIdx.ix2 r k) * w (ValueIdx.ix3 e k f)

/-- and one expert's output for a row: the gated hidden activations against the third matrix. -/
def expertRow (x : Vec Ideal S69632x1024 .f32) (wg wu : Vec Ideal S8x1024x2816 .f32) (wd : Vec Ideal S8x2816x1024 .f32) (r : Fin 69632) (e : Fin 8) (d : Fin 1024) : EReal :=
  ∑ f : Fin 2816, (Ideal.div (proj x wg r e f) (1 + Ideal.exp (-proj x wg r e f)) * proj x wu r e f) * wd (ValueIdx.ix3 e f d)

theorem pay1_apply (x0 : Vec Ideal S512x1024 .f32) (x1 x2 : Vec Ideal S1x1024x2816 .bf16) (x3 : Vec Ideal S1x2816x1024 .bf16)
    (x : Vec Ideal S69632x1024 .f32) (wg wu : Vec Ideal S8x1024x2816 .f32) (wd : Vec Ideal S8x2816x1024 .f32) (r : Fin 512) (R : Fin 69632) (e : Fin 8) (d : Fin 1024)
    (h0 : ∀ k, x0 (ValueIdx.ix2 r k) = x (ValueIdx.ix2 R k)) (h1 : ∀ a b, x1 (ValueIdx.ix3 0 a b) = wg (ValueIdx.ix3 e a b))
    (h2 : ∀ a b, x2 (ValueIdx.ix3 0 a b) = wu (ValueIdx.ix3 e a b)) (h3 : ∀ a b, x3 (ValueIdx.ix3 0 a b) = wd (ValueIdx.ix3 e a b)) :
    k0_pay1 (F := Ideal) x0 x1 x2 x3 (ValueIdx.ix2 r d) = expertRow x wg wu wd R e d := by
  unfold k0_pay1
  pointwise
  unfold expertRow proj
  refine Finset.sum_congr rfl fun f _ => ?_
  have e1 : (∑ k : Fin 1024, x0 (ValueIdx.ix2 r k) * x1 (ValueIdx.ix3 0 k f)) = ∑ k : Fin 1024, x (ValueIdx.ix2 R k) * wg (ValueIdx.ix3 e k f) :=
    Finset.sum_congr rfl fun k _ => by rw [h0, h1]
  have e2 : (∑ k : Fin 1024, x0 (ValueIdx.ix2 r k) * x2 (ValueIdx.ix3 0 k f)) = ∑ k : Fin 1024, x (ValueIdx.ix2 R k) * wu (ValueIdx.ix3 e k f) :=
    Finset.sum_congr rfl fun k _ => by rw [h0, h2]
  rw [← e1, ← e2, ← h3, ← zero_sub]
  rfl

theorem pay2_apply (r : Fin 512) (d : Fin 1024) : k0_pay2 (F := Ideal) (ValueIdx.ix2 r d) = 0 := by
  unfold k0_pay2
  pointwise

/-- The kernel's result at a row and column. -/
theorem out_apply (m : (ℓ : Loc nD τ sig) → Buf (Elt Ideal) ℓ) (c : Dev nD) (k : ℕ → ℕ)
    (hc : ∀ e : Fin 8, (m ((c : Thread nD τ).loc main_arg1) : IVec S8 32) (ValueIdx.ix1 e) = BitVec.ofNat 32 (k e.val)) (hk : ∀ i < 8, k i ≤ 65792) (r : Fin 69632) (d : Fin 1024) :
    outArr m c (ValueIdx.ix2 r d) = if r.val < offN k 8
      then expertRow (m ((c : Thread nD τ).loc main_arg0)) (m ((c : Thread nD τ).loc main_arg2)) (m ((c : Thread nD τ).loc main_arg3)) (m ((c : Thread nD τ).loc main_arg4)) r
        ⟨min (segN k r.val) 7, by omega⟩ d
      else 0 := by
  obtain rfl : c = 0 := Subsingleton.elim _ _
  have ht : r.val / 512 < grid0.N := by rw [Gen.N_0]; omega
  have h136 : r.val / 512 < 136 := by omega
  have hco : (grid0.coords ⟨r.val / 512, ht⟩ 0).val = r.val / 512 := coord_val _
  have hw : (word (F := Ideal) (tbl m 0) 136) = BitVec.ofNat 32 (offN k 8 / 512) := by
    rw [tbl_eq, table_hi, nActive_ap _ k hc hk]
  have hcond : k0_cond1 (grid0.coords ⟨r.val / 512, ht⟩) (word (F := Ideal) (tbl m 0) 136) = 1#1 ↔ r.val < offN k 8 := by
    have := offN_lt k hk (le_refl 8)
    rw [cond1_iff, hw, hco, WordCmp.toInt_ofNat_of_lt (by omega), WordCmp.toInt_ofNat_of_lt (by omega), ← tile_lt k r.val]
    exact Int.ofNat_lt
  rw [outArr_at m 0 ⟨r.val / 512, ht⟩ (ValueIdx.ix2 ⟨r.val % 512, Nat.mod_lt _ (by decide)⟩ d) (ValueIdx.ix2 r d)
    (by show r.val = r.val / 512 * 512 + r.val % 512; omega) rfl]
  unfold oblk tileOut
  by_cases h : r.val < offN k 8
  · rw [if_pos (hcond.mpr h), if_pos h]
    have hn : expertOf (m (((0 : Dev nD) : Thread nD τ).loc main_arg1)) (ValueIdx.ix1 ⟨(grid0.coords ⟨r.val / 512, ht⟩ 0).val, (grid0.coords ⟨r.val / 512, ht⟩ 0).isLt⟩)
        = BitVec.ofNat 32 (⟨min (segN k r.val) 7, by omega⟩ : Fin 8).val := by
      refine (expert_ap _ k hc hk _).trans ?_
      show BitVec.ofNat 32 (min (segN k ((grid0.coords ⟨r.val / 512, ht⟩ 0).val * 512)) 7) = _
      rw [hco]
      show BitVec.ofNat 32 (min (segN k (r.val / 512 * 512)) 7) = _
      rw [segN_tile]
    exact pay1_apply _ _ _ _ _ _ _ _ _ r _ d
      (fun q => iblk_0 m 0 ⟨r.val / 512, ht⟩ _ q r (by show r.val = r.val / 512 * 512 + r.val % 512; omega))
      (fun a b => iblk_1 m 0 ⟨r.val / 512, ht⟩ _ hn a b) (fun a b => iblk_2 m 0 ⟨r.val / 512, ht⟩ _ hn a b) (fun a b => iblk_3 m 0 ⟨r.val / 512, ht⟩ _ hn a b)
  · rw [if_neg (fun h' => h (hcond.mp h')), if_neg h]
    exact pay2_apply _ d

end Cert.KernelIdeal.Experts

end
-- ==== Proof.Experts.Reference.lean ====
/- The reference's result at an index: the sum of the eight experts' outputs, each by its gate; and the two results' equality. -/
module

public import proofs.«01_k».proof.Proof.Experts.Value
public import proofs.«01_k».proof.Proof.Gen.ReferenceIdeal.Run

@[expose] public section

set_option maxRecDepth 16384

noncomputable section

namespace Cert.ReferenceIdeal.Experts

open Cert.ReferenceIdeal Cert.ReferenceIdeal.Gen Cert.ReferenceIdeal.Value
open Idealize.ShloMosaic Idealize.ShloMosaic.TcCoe
open Idealize.ShloMosaic.Routing (pyDiv)
open Cert.KernelIdeal.Experts (proj expertRow padN offN offN_succ offN_lt padN_le mem_seg segN)

/-! ## The gates -/

section Gates
variable {F : FTy → Type} [FloatOps F] (V0 : Valuation τ sig (Elt F)) (k : ℕ → ℕ)
  (hc : ∀ e : Fin 8, (V0 (Proc.devRef .tc main_arg1) : IVec S8 32) (ValueIdx.ix1 e) = BitVec.ofNat 32 (k e.val)) (hk : ∀ i < 8, k i ≤ 65792)

theorem lens_eq : (res_main_v4 V0 : IVec S8 32) = muli (pyDiv bcast_S_S8 (addi (V0 (Proc.devRef .tc main_arg1) : IVec S8 32) (broadcastInDim S8 ![] bcast_S_S8 (constantI S_ 32 511#32))) (constantI S_ 32 512#32))
    (broadcastInDim S8 ![] bcast_S_S8 (constantI S_ 32 512#32)) := rfl

include hc hk

theorem lens_ap (e : Fin 8) : (res_main_v4 V0 : IVec S8 32) (ValueIdx.ix1 e) = BitVec.ofNat 32 (padN (k e.val)) := by
  have hke := hk e.val e.2
  have h := Routing.pyDiv_ap bcast_S_S8 (addi (V0 (Proc.devRef .tc main_arg1) : IVec S8 32) (broadcastInDim S8 ![] bcast_S_S8 (constantI S_ 32 511#32)))
    (constantI S_ 32 512#32) (ValueIdx.ix1 e) (a := k e.val + 511) (b := 512) (by
      show IntOp.addi ((V0 (Proc.devRef .tc main_arg1) : IVec S8 32) (ValueIdx.ix1 e)) 511#32 = _
      rw [hc]
      exact (BitVec.ofNat_add _ _).symm) rfl (by omega) (by omega) (by omega)
  rw [lens_eq]
  show IntOp.muli (pyDiv _ _ _ (ValueIdx.ix1 e)) 512#32 = _
  rw [h]
  exact (BitVec.ofNat_mul _ _).symm

theorem ends_ap (e : Fin 8) : (res_main_v5 V0 : IVec S8 32) (ValueIdx.ix1 e) = BitVec.ofNat 32 (offN k (e.val + 1)) :=
  Routing.cumsum1 (by decide) (res_main_v4 V0 : IVec S8 32) (fun i => padN (k i)) (lens_ap V0 k hc hk) _ rfl _ _ e

theorem starts_ap (e : Fin 8) : subi (res_main_v5 V0 : IVec S8 32) (res_main_v4 V0) (ValueIdx.ix1 e) = BitVec.ofNat 32 (offN k e.val) := by
  show IntOp.subi ((res_main_v5 V0 : IVec S8 32) (ValueIdx.ix1 e)) ((res_main_v4 V0 : IVec S8 32) (ValueIdx.ix1 e)) = _
  rw [ends_ap V0 k hc hk, lens_ap V0 k hc hk, offN_succ, BitVec.ofNat_add]
  exact BitVec.add_sub_cancel _ _

end Gates

/-- A row's gate for an expert. -/
def gateAt (V0 : Valuation τ sig (Elt Ideal)) (r : Fin 69632) (e : Fin 8) : EReal := (res_main_v19 V0 : Vec Ideal S69632x8 .f32) (ValueIdx.ix2 r e)

/-- A row's gate for an expert: one in the expert's segment, zero outside. -/
theorem gate_ap (V0 : Valuation τ sig (Elt Ideal)) (k : ℕ → ℕ)
    (hc : ∀ e : Fin 8, (V0 (Proc.devRef .tc main_arg1) : IVec S8 32) (ValueIdx.ix1 e) = BitVec.ofNat 32 (k e.val)) (hk : ∀ i < 8, k i ≤ 65792) (r : Fin 69632) (e : Fin 8) :
    gateAt V0 r e = if r.val < offN k 8 ∧ e.val = min (segN k r.val) 7 then (1 : EReal) else 0 := by
  have h : gateAt V0 r e = (((IntOp.andi (IntOp.cmpi .sge (BitVec.ofNat 32 r.val) (subi (res_main_v5 V0 : IVec S8 32) (res_main_v4 V0) (ValueIdx.ix1 e))) (IntOp.cmpi .slt (BitVec.ofNat 32 r.val) ((res_main_v5 V0 : IVec S8 32) (ValueIdx.ix1 e)))).toNat : ℝ) : EReal) := by
    unfold gateAt res_main_v19 res_main_v7
    pointwise
    rfl
  have h1 := offN_lt k hk (show e.val ≤ 8 by omega)
  have h2 := offN_lt k hk (show e.val + 1 ≤ 8 by omega)
  rw [h, starts_ap V0 k hc hk, ends_ap V0 k hc hk, WordCmp.cmpi_sge_ofNat (w := 32) (by omega) (by omega), WordCmp.cmpi_slt_ofNat (w := 32) (by omega) (by omega), WordCmp.andi_ofBool]
  simp only [← mem_seg k r.val e.val e.2]
  by_cases hm : offN k e.val ≤ r.val ∧ r.val < offN k (e.val + 1)
  · rw [if_pos hm, decide_eq_true hm.1, decide_eq_true hm.2]; simp
  · rw [if_neg hm, ← Bool.decide_and, decide_eq_false hm]; simp

/-! ## The sum -/

/-- The reference's result, of the buffers it starts from. -/
def refOut {F : FTy → Type} [FloatOps F] (V0 : Valuation τ sig (Elt F)) : Vec F S69632x1024 .f32 :=
  addf (addf (addf (res_main_v95 V0) (mulf (broadcastInDim S69632x1024 ![0, 1] bcast_S69632x1_S69632x1024_0_1 (extractStridedSlice S69632x1 ![0, 5] (res_main_v19 V0) slices_S69632x8_S69632x1_0_5)) (Host.dotGeneral dot_S69632x2816_S2816x1024_S69632x1024_1_0_0_1_n_n none (mulf (mulf (res_main_v98 V0) (Host.divf (broadcastInDim S69632x2816 ![] bcast_S_S69632x2816 (constant S_ .f32 0x3F800000#32)) (addf (broadcastInDim S69632x2816 ![] bcast_S_S69632x2816 (constant S_ .f32 0x3F800000#32)) (Host.exp (Host.negf (res_main_v98 V0)))))) (Host.dotGeneral dot_S69632x1024_S1024x2816_S69632x2816_1_0_0_1_n_n none (V0 (Proc.devRef .tc main_arg0)) (shapeCast _ (extractStridedSlice S1x1024x2816 ![5, 0, 0] (V0 (Proc.devRef .tc main_arg3)) slices_S8x1024x2816_S1x1024x2816_5_0_0) shapeCasts_S1x1024x2816_S1024x2816))) (shapeCast _ (extractStridedSlice S1x2816x1024 ![5, 0, 0] (V0 (Proc.devRef .tc main_arg4)) slices_S8x2816x1024_S1x2816x1024_5_0_0) shapeCasts_S1x2816x1024_S2816x1024)))) (mulf (broadcastInDim S69632x1024 ![0, 1] bcast_S69632x1_S69632x1024_0_1 (extractStridedSlice S69632x1 ![0, 6] (res_main_v19 V0) slices_S69632x8_S69632x1_0_6)) (Host.dotGeneral dot_S69632x2816_S2816x1024_S69632x1024_1_0_0_1_n_n none (mulf (mulf (res_main_v113 V0) (Host.divf (broadcastInDim S69632x2816 ![] bcast_S_S69632x2816 (constant S_ .f32 0x3F800000#32)) (addf (broadcastInDim S69632x2816 ![] bcast_S_S69632x2816 (constant S_ .f32 0x3F800000#32)) (Host.exp (Host.negf (res_main_v113 V0)))))) (Host.dotGeneral dot_S69632x1024_S1024x2816_S69632x2816_1_0_0_1_n_n none (V0 (Proc.devRef .tc main_arg0)) (shapeCast _ (extractStridedSlice S1x1024x2816 ![6, 0, 0] (V0 (Proc.devRef .tc main_arg3)) slices_S8x1024x2816_S1x1024x2816_6_0_0) shapeCasts_S1x1024x2816_S1024x2816))) (shapeCast _ (extractStridedSlice S1x2816x1024 ![6, 0, 0] (V0 (Proc.devRef .tc main_arg4)) slices_S8x2816x1024_S1x2816x1024_6_0_0) shapeCasts_S1x2816x1024_S2816x1024)))) (mulf (broadcastInDim S69632x1024 ![0, 1] bcast_S69632x1_S69632x1024_0_1 (extractStridedSlice S69632x1 ![0, 7] (res_main_v19 V0) slices_S69632x8_S69632x1_0_7)) (Host.dotGeneral dot_S69632x2816_S2816x1024_S69632x1024_1_0_0_1_n_n none (mulf (mulf (res_main_v128 V0) (Host.divf (broadcastInDim S69632x2816 ![] bcast_S_S69632x2816 (constant S_ .f32 0x3F800000#32)) (addf (broadcastInDim S69632x2816 ![] bcast_S_S69632x2816 (constant S_ .f32 0x3F800000#32)) (Host.exp (Host.negf (res_main_v128 V0)))))) (Host.dotGeneral dot_S69632x1024_S1024x2816_S69632x2816_1_0_0_1_n_n none (V0 (Proc.devRef .tc main_arg0)) (shapeCast _ (extractStridedSlice S1x1024x2816 ![7, 0, 0] (V0 (Proc.devRef .tc main_arg3)) slices_S8x1024x2816_S1x1024x2816_7_0_0) shapeCasts_S1x1024x2816_S1024x2816))) (shapeCast _ (extractStridedSlice S1x2816x1024 ![7, 0, 0] (V0 (Proc.devRef .tc main_arg4)) slices_S8x2816x1024_S1x2816x1024_7_0_0) shapeCasts_S1x2816x1024_S2816x1024)))

theorem one_add_exp_ne_zero (x : EReal) : 1 + Ideal.exp x ≠ 0 := by
  have h : 0 ≤ Ideal.exp x := by
    induction x with
    | bot => exact le_refl _
    | top => exact le_top
    | coe r => exact EReal.coe_nonneg.mpr (Real.exp_pos r).le
  exact (add_pos_of_pos_of_nonneg zero_lt_one h).ne'

/-- An expert's output as the reference spells it. -/
theorem expert_eq (x : Vec Ideal S69632x1024 .f32) (wg wu : Vec Ideal S8x1024x2816 .f32) (wd : Vec Ideal S8x2816x1024 .f32) (r : Fin 69632) (e : Fin 8) (d : Fin 1024) :
    expertRow x wg wu wd r e d = ∑ f : Fin 2816, ((∑ k : Fin 1024, x (ValueIdx.ix2 r k) * wg (ValueIdx.ix3 e k f)) * Ideal.div 1 (1 + Ideal.exp (-∑ k : Fin 1024, x (ValueIdx.ix2 r k) * wg (ValueIdx.ix3 e k f)))
      * ∑ k : Fin 1024, x (ValueIdx.ix2 r k) * wu (ValueIdx.ix3 e k f)) * wd (ValueIdx.ix3 e f d) := by
  unfold expertRow proj
  refine Finset.sum_congr rfl fun f _ => ?_
  rw [Ideal.mul_one_div (one_add_exp_ne_zero _)]

theorem ref_apply (V0 : Valuation τ sig (Elt Ideal)) (r : Fin 69632) (d : Fin 1024) : refOut V0 (ValueIdx.ix2 r d)
    = ∑ e : Fin 8, gateAt V0 r e * expertRow (V0 (Proc.devRef .tc main_arg0)) (V0 (Proc.devRef .tc main_arg2)) (V0 (Proc.devRef .tc main_arg3)) (V0 (Proc.devRef .tc main_arg4)) r e d := by
  rw [Fin.sum_univ_eight]
  unfold gateAt refOut res_main_v95 res_main_v23 res_main_v38 res_main_v53 res_main_v68 res_main_v83 res_main_v98 res_main_v113 res_main_v128
  simp only [expert_eq]
  pointwise
  rfl

/-- The reference's result at a row and column. -/
theorem ref_closed (V0 : Valuation τ sig (Elt Ideal)) (k : ℕ → ℕ)
    (hc : ∀ e : Fin 8, (V0 (Proc.devRef .tc main_arg1) : IVec S8 32) (ValueIdx.ix1 e) = BitVec.ofNat 32 (k e.val)) (hk : ∀ i < 8, k i ≤ 65792) (r : Fin 69632) (d : Fin 1024) :
    refOut V0 (ValueIdx.ix2 r d) = if r.val < offN k 8
      then expertRow (V0 (Proc.devRef .tc main_arg0)) (V0 (Proc.devRef .tc main_arg2)) (V0 (Proc.devRef .tc main_arg3)) (V0 (Proc.devRef .tc main_arg4)) r
        ⟨min (segN k r.val) 7, by omega⟩ d
      else 0 := by
  rw [ref_apply]
  simp only [gate_ap V0 k hc hk]
  by_cases h : r.val < offN k 8
  · rw [if_pos h]
    rw [Finset.sum_eq_single (⟨min (segN k r.val) 7, by omega⟩ : Fin 8)]
    · rw [if_pos ⟨h, rfl⟩, one_mul]
    · intro e _ he
      rw [if_neg (fun h' => he (Fin.ext h'.2)), zero_mul]
    · intro h'; exact absurd (Finset.mem_univ _) h'
  · rw [if_neg h]
    exact Finset.sum_eq_zero fun e _ => by rw [if_neg (fun h' => h h'.1), zero_mul]

end Cert.ReferenceIdeal.Experts

end
-- ==== Proof.Experts.Same.lean ====
/- The printed kernel and its idealization are one text: what is proved of one over any float values holds of the other. -/
module

public import proofs.«01_k».proof.Proof.Gen.Kernel.Launch
public import proofs.«01_k».proof.Proof.Gen.KernelIdeal.Launch

@[expose] public section

set_option maxRecDepth 16384

noncomputable section

namespace Cert.Experts

open Idealize.ShloMosaic Idealize.ShloMosaic.TcCoe Idealize.SL.Sem

variable {F : FTy → Type} [FloatOps F]
/-- The two programs' bodies, tables and host lines are the same text. -/
theorem bodies_eq : Cert.Kernel.defs₀ (F := F) = Cert.KernelIdeal.defs₀ (F := F) := by
  unfold Cert.Kernel.defs₀ Cert.KernelIdeal.defs₀
  refine congrArg (Defs.onTc (τ := Cert.KernelIdeal.τ)) ?_
  funext l a
  match l, a with
  | ⟨0, _⟩, (t, s) => rfl
set_option maxHeartbeats 2000000 in
theorem defs_eq : Cert.Kernel.defs (F := F) = Cert.KernelIdeal.defs (F := F) := by
  unfold Cert.Kernel.defs Cert.KernelIdeal.defs
  rw [bodies_eq]
  rfl
set_option maxHeartbeats 2000000 in
theorem main_eq : Cert.Kernel.main (F := F) = Cert.KernelIdeal.main (F := F) := by
  funext c
  rw [Cert.KernelIdeal.Gen.main_chain]
  refine (Cert.Kernel.Gen.main_chain c).trans ?_
  rfl

end Cert.Experts

end
-- ==== Proof.Experts.Claims.lean ====
/- The claims about the experts' kernel: the frames and the equality with the reference. -/
module

public import proofs.«01_k».proof.Defs
public import proofs.«01_k».proof.Proof.Experts.Reference
public import proofs.«01_k».proof.Proof.Experts.Same
public import proofs.«01_k».proof.Proof.Gen.Kernel
public import proofs.«01_k».proof.Proof.Gen.KernelIdeal
public import proofs.«01_k».proof.Proof.Gen.ReferenceIdeal
public import Idealize.ShloMosaic.Lib.Quiescent

@[expose] public section

set_option maxRecDepth 16384

noncomputable section

namespace Cert.Experts

open Idealize.ShloMosaic Idealize.ShloMosaic.TcCoe Idealize.SL.Sem
open Cert.KernelIdeal.Experts Cert.ReferenceIdeal.Experts

instance preFacts : Cert.Pre_counts_drawn.Facts where
  bcast_S_S8 := by decide

/-- The kernel's frame over the machine's floats: the same text, the same run. -/
theorem frame_kernel : Cert.quiescent_Kernel := by
  intro m ρ _
  have h := Cert.KernelIdeal.Experts.frame (F := Bits) m ρ
  rw [← defs_eq, ← main_eq] at h
  exact h

theorem frame_ideal : Cert.quiescent_KernelIdeal := fun m ρ _ => Cert.KernelIdeal.Experts.frame m ρ
theorem frame_ideal_pre : Cert.quiescent_KernelIdeal_pre_counts_drawn := fun m ρ _ => Cert.KernelIdeal.Experts.frame m ρ

/-- The reference's frame. -/
theorem frame_ref : Cert.quiescent_ReferenceIdeal := fun m ρ _ =>
  (θ_run Cert.ReferenceIdeal.defs _ _).mono (fun r h => ⟨fun c => (h c).2, Idealize.ShloMosaic.sem_eq_zero_of_no_sems (by decide) r.2⟩) (Cert.ReferenceIdeal.Value.run (F := Ideal) m ρ)
theorem frame_ref_pre : Cert.quiescent_ReferenceIdeal_pre_counts_drawn := fun m ρ _ => frame_ref m ρ trivial

/-- The precondition bounds each count. -/
theorem counts_le (a0 : FVec Ideal Cert.Pre_counts_drawn.S69632x1024 .f32) (cnt : IVec Cert.Pre_counts_drawn.S8 32) (a2 a3 : FVec Ideal Cert.Pre_counts_drawn.S8x1024x2816 .f32) (a4 : FVec Ideal Cert.Pre_counts_drawn.S8x2816x1024 .f32)
    (h : Cert.Pre_counts_drawn.fn (F := Ideal) a0 cnt a2 a3 a4 = fun _ => 1#1) (e : Fin 8) : (cnt (ValueIdx.ix1 e)).toNat ≤ 65792 := by
  have he : IntOp.andi (IntOp.cmpi .sge (cnt (ValueIdx.ix1 e)) 0#32) (IntOp.cmpi .sle (cnt (ValueIdx.ix1 e)) 65792#32) = 1#1 := congrFun h (ValueIdx.ix1 e)
  rw [WordCmp.cmpi_sge_zero, WordCmp.cmpi_sle_eq, WordCmp.andi_ofBool, WordCmp.ofBool_eq_one_iff, Bool.and_eq_true, decide_eq_true_iff, decide_eq_true_iff] at he
  have h2 := he.2
  rw [WordCmp.toInt_eq_toNat_of_lt_half he.1, WordCmp.toInt_ofNat_of_lt (by omega)] at h2
  exact_mod_cast h2

/-- The two results' equality, from equal arguments and small counts. -/
theorem same (V0 : Valuation Cert.ReferenceIdeal.τ Cert.ReferenceIdeal.sig (Elt Ideal)) (m : (ℓ : Loc Cert.KernelIdeal.nD Cert.KernelIdeal.τ Cert.KernelIdeal.sig) → Buf (Elt Ideal) ℓ) (c : Dev Cert.KernelIdeal.nD)
    (h0 : V0 (Proc.devRef .tc Cert.ReferenceIdeal.main_arg0) = m ((c : Thread Cert.KernelIdeal.nD Cert.KernelIdeal.τ).loc Cert.KernelIdeal.main_arg0))
    (h1 : (V0 (Proc.devRef .tc Cert.ReferenceIdeal.main_arg1) : IVec Cert.ReferenceIdeal.S8 32) = m ((c : Thread Cert.KernelIdeal.nD Cert.KernelIdeal.τ).loc Cert.KernelIdeal.main_arg1))
    (h2 : V0 (Proc.devRef .tc Cert.ReferenceIdeal.main_arg2) = m ((c : Thread Cert.KernelIdeal.nD Cert.KernelIdeal.τ).loc Cert.KernelIdeal.main_arg2))
    (h3 : V0 (Proc.devRef .tc Cert.ReferenceIdeal.main_arg3) = m ((c : Thread Cert.KernelIdeal.nD Cert.KernelIdeal.τ).loc Cert.KernelIdeal.main_arg3))
    (h4 : V0 (Proc.devRef .tc Cert.ReferenceIdeal.main_arg4) = m ((c : Thread Cert.KernelIdeal.nD Cert.KernelIdeal.τ).loc Cert.KernelIdeal.main_arg4))
    (hle : ∀ e : Fin 8, ((m ((c : Thread Cert.KernelIdeal.nD Cert.KernelIdeal.τ).loc Cert.KernelIdeal.main_arg1) : IVec Cert.KernelIdeal.S8 32) (ValueIdx.ix1 e)).toNat ≤ 65792) :
    refOut V0 = outArr m c := by
  obtain ⟨k, hc, hk⟩ : ∃ k : ℕ → ℕ, (∀ e : Fin 8, (m ((c : Thread Cert.KernelIdeal.nD Cert.KernelIdeal.τ).loc Cert.KernelIdeal.main_arg1) : IVec Cert.KernelIdeal.S8 32) (ValueIdx.ix1 e) = BitVec.ofNat 32 (k e.val))
      ∧ ∀ i < 8, k i ≤ 65792 := by
    refine ⟨fun e => if h : e < 8 then ((m ((c : Thread Cert.KernelIdeal.nD Cert.KernelIdeal.τ).loc Cert.KernelIdeal.main_arg1) : IVec Cert.KernelIdeal.S8 32) (ValueIdx.ix1 ⟨e, h⟩)).toNat else 0, fun e => ?_, fun i hi => ?_⟩
    · dsimp only
      rw [dif_pos e.2]
      exact BitVec.eq_of_toNat_eq (by rw [BitVec.toNat_ofNat, Nat.mod_eq_of_lt (BitVec.isLt _)])
    · dsimp only
      rw [dif_pos hi]
      exact hle ⟨i, hi⟩
  refine funext fun i => ?_
  obtain ⟨r, d, rfl⟩ : ∃ (r : Fin 69632) (d : Fin 1024), i = ValueIdx.ix2 r d := ⟨i 0, i 1, ValueIdx.eq_ix2 i⟩
  refine Eq.trans ?_ (out_apply m c k hc hk r d).symm
  rw [ref_closed V0 k (fun e => (congrFun h1 _).trans (hc e)) hk r d, h0, h2, h3, h4]

/-- Kernel and reference compute the same array. -/
theorem algebraic : Cert.algebraic_KernelIdeal_ReferenceIdeal_pre_counts_drawn := by
  intro m g m' g' hpre hargs
  refine ⟨fun c => outArr m c, run_out m g, ?_⟩
  refine (θ_run Cert.ReferenceIdeal.defs _ _).mono (fun r h c => ⟨(h c).1.trans ?_, (h c).2⟩) (Cert.ReferenceIdeal.Value.run (F := Ideal) m' g')
  exact same _ m c (hargs c).1 (hargs c).2.1 (hargs c).2.2.1 (hargs c).2.2.2.1 (hargs c).2.2.2.2 (counts_le _ _ _ _ _ (hpre c))

end Cert.Experts

end
-- ==== Proof.Proj.Spec.lean ====
/- The input projection: the columns of a row's product with the weights, and the gate. -/
module

public import proofs.«01_k».proof.Proof.Gen.Kernel2Ideal.Frame
public import Idealize.ShloMosaic.Lib.IdealHost
public import Idealize.ShloMosaic.Lib.Pointwise

@[expose] public section

set_option maxRecDepth 16384

noncomputable section

namespace Cert.Proj

open Cert.Kernel2Ideal Cert.Kernel2Ideal.Gen
open Idealize.ShloMosaic Idealize.ShloMosaic.TcCoe

/-- One column of a row's product with the weights. -/
def col (xr : Fin 1024 → EReal) (W : Vec Ideal S1024x3088 .f32) (j : Fin 3088) : EReal := ∑ k, xr k * W (ValueIdx.ix2 k j)

theorem col_congr {xr xr' : Fin 1024 → EReal} {W W' : Vec Ideal S1024x3088 .f32} {j j' : Fin 3088} (hx : xr = xr') (hW : W = W') (hj : j.val = j'.val) :
    col xr W j = col xr' W' j' := by rw [hx, hW, Fin.ext hj]

/-- The factor on the queries. -/
def eighth : EReal := Ideal.ofBits .f32 0x3E000000#32

/-- What goes into the gate: the low-rank columns against the second matrix, plus the bias. -/
def gateIn (xr : Fin 1024 → EReal) (W : Vec Ideal S1024x3088 .f32) (U : Vec Ideal S16x256 .f32) (b : Vec Ideal S256 .f32) (j : Fin 256) : EReal :=
  ∑ r : Fin 16, col xr W ⟨3072 + r.val, by omega⟩ * U (ValueIdx.ix2 r j) + b (ValueIdx.ix1 j)

theorem gateIn_congr {xr xr' : Fin 1024 → EReal} {W W' : Vec Ideal S1024x3088 .f32} {U U' : Vec Ideal S16x256 .f32} {b b' : Vec Ideal S256 .f32} (hx : xr = xr') (hW : W = W') (hU : U = U') (hb : b = b') (j : Fin 256) :
    gateIn xr W U b j = gateIn xr' W' U' b' j := by rw [hx, hW, hU, hb]

/-- The log-sigmoid, over sixteen. -/
def logGate (z : EReal) : EReal :=
  Ideal.div (-(max (-z) 0 + Ideal.log1p (Ideal.exp (-(FloatOps.absf (F := Ideal) (φ := .f32) (-z)))))) (Ideal.ofBits .f32 0x41800000#32)

theorem sixteen : Ideal.ofBits .f32 0x41800000#32 = ((16 : ℝ) : EReal) := by
  simp [Ideal.ofBits, Ideal.ieee, -EReal.coe_mul]; norm_num
theorem sixteenth : Ideal.ofBits .f32 0x3D800000#32 = ((1 / 16 : ℝ) : EReal) := by
  simp [Ideal.ofBits, Ideal.ieee, -EReal.coe_mul]; norm_num

theorem div_sixteen (x : EReal) : x * Ideal.ofBits .f32 0x3D800000#32 = Ideal.div x (Ideal.ofBits .f32 0x41800000#32) := by
  have h : ((16 : ℝ) : EReal) ≠ 0 := by exact_mod_cast (by norm_num : (16 : ℝ) ≠ 0)
  rw [sixteen, sixteenth]
  unfold Ideal.div
  rw [if_neg h, ← EReal.coe_inv]
  norm_num

/-- The gate as the kernel writes it. -/
theorem gate_eq (z : EReal) :
    (0 - (max (0 - z) 0 + Ideal.log (1 + Ideal.exp (0 - FloatOps.absf (F := Ideal) (φ := .f32) (0 - z))))) * Ideal.ofBits .f32 0x3D800000#32 = logGate z := by
  rw [div_sixteen]
  simp only [zero_sub]
  rfl

/-! ## The weights as the kernel's call takes them -/

section Weights
variable (w : FVec Ideal S1024x3088 .f32) (u : FVec Ideal S16x256 .f32)

def wMain : FVec Ideal S1024x2048 .bf16 :=
  truncf .bf16 (concatenate S1024x2048 1 [⟨S1024x512, (extractStridedSlice S1024x512 ![0, 0] w slices_S1024x3088_S1024x512_0_0 : FVec Ideal S1024x512 .f32)⟩, ⟨S1024x1536, (extractStridedSlice S1024x1536 ![0, 1536] w slices_S1024x3088_S1024x1536_0_1536 : FVec Ideal S1024x1536 .f32)⟩] concatenates_S1024x512_S1024x1536_S1024x2048_d1 : FVec Ideal S1024x2048 .f32) bitsLt_bf16_f32
def wKvt : FVec Ideal S1024x1024 .bf16 :=
  truncf .bf16 (transpose S1024x1024 [1, 0] (extractStridedSlice S1024x1024 ![0, 512] w slices_S1024x3088_S1024x1024_0_512 : FVec Ideal S1024x1024 .f32) transposes_S1024x1024_S1024x1024_1_0 : FVec Ideal S1024x1024 .f32) bitsLt_bf16_f32
def wDown : FVec Ideal S1024x128 .bf16 :=
  truncf .bf16 (pad S1024x128 ![0, 0] ![0, 112] ![0, 0] (extractStridedSlice S1024x16 ![0, 3072] w slices_S1024x3088_S1024x16_0_3072 : FVec Ideal S1024x16 .f32) (sitofp .f32 (constantI S_ 32 0#32) : FVec Ideal S_ .f32) pads_S1024x16_S1024x128_000_01120 h_S_ : FVec Ideal S1024x128 .f32) bitsLt_bf16_f32
def wUp : FVec Ideal S128x256 .bf16 :=
  truncf .bf16 (pad S128x256 ![0, 0] ![112, 0] ![0, 0] u (sitofp .f32 (constantI S_ 32 0#32) : FVec Ideal S_ .f32) pads_S16x256_S128x256_01120_000 h_S_ : FVec Ideal S128x256 .f32) bitsLt_bf16_f32

theorem wMain_apply (k : Fin 1024) (j : Fin 2048) (J : Fin 3088) (h : j.val < 512 ∧ J.val = j.val ∨ 512 ≤ j.val ∧ J.val = 1024 + j.val) :
    wMain w (ValueIdx.ix2 k j) = w (ValueIdx.ix2 k J) := by
  unfold wMain
  pointwise
  have e : ((ValueIdx.ix2 k j : S1024x2048.Idx) 1).val = j.val := rfl
  split
  · rename_i hj
    rw [e] at hj
    refine congrArg w (congrArg₂ ValueIdx.ix2 rfl (Fin.ext ?_))
    show j.val = J.val; omega
  · rename_i hj
    rw [e] at hj
    refine congrArg w (congrArg₂ ValueIdx.ix2 rfl (Fin.ext ?_))
    show 1536 + (j.val - 512) = J.val; omega

theorem wKvt_apply (j k : Fin 1024) : wKvt w (ValueIdx.ix2 j k) = w (ValueIdx.ix2 k ⟨512 + j.val, by omega⟩) := by
  unfold wKvt
  pointwise
  rfl

theorem zero_word : (FloatOps.sitofp (F := Ideal) .f32 (0#32) : EReal) = 0 := by
  simp [FloatOps.sitofp]

theorem wDown_lo (k : Fin 1024) (r : Fin 16) : wDown w (ValueIdx.ix2 k (Fin.castAdd 112 r)) = w (ValueIdx.ix2 k ⟨3072 + r.val, by omega⟩) := by
  unfold wDown
  pointwise
  exact dif_pos r.isLt
theorem wUp_lo (r : Fin 16) (j : Fin 256) : wUp u (ValueIdx.ix2 (Fin.castAdd 112 r) j) = u (ValueIdx.ix2 r j) := by
  unfold wUp
  pointwise
  exact dif_pos r.isLt
theorem wUp_hi (r : Fin 112) (j : Fin 256) : wUp u (ValueIdx.ix2 (Fin.natAdd 16 r) j) = 0 := by
  unfold wUp
  pointwise
  exact (dif_neg (Nat.not_lt.mpr (Nat.le_add_right 16 r.val))).trans zero_word

end Weights

/-- A column of the kernel's first matrix is a column of the weights. -/
theorem main_col (xr : Fin 1024 → EReal) (w : Vec Ideal S1024x3088 .f32) (j : Fin 2048) (J : Fin 3088) (h : j.val < 512 ∧ J.val = j.val ∨ 512 ≤ j.val ∧ J.val = 1024 + j.val) :
    (∑ k, xr k * wMain w (ValueIdx.ix2 k j)) = col xr w J :=
  Finset.sum_congr rfl fun k _ => congrArg (xr k * ·) (wMain_apply w k j J h)

/-- A row of the kernel's transposed matrix is a column of the weights. -/
theorem kvt_col (xr : Fin 1024 → EReal) (w : Vec Ideal S1024x3088 .f32) (j : Fin 1024) (J : Fin 3088) (h : J.val = 512 + j.val) :
    (∑ k, xr k * wKvt w (ValueIdx.ix2 j k)) = col xr w J := by
  rw [show J = ⟨512 + j.val, by omega⟩ from Fin.ext h]
  exact Finset.sum_congr rfl fun k _ => congrArg (xr k * ·) (wKvt_apply w j k)

/-- The padded low-rank product is the product without the padding. -/
theorem low_rank (xr : Fin 1024 → EReal) (w : Vec Ideal S1024x3088 .f32) (u : Vec Ideal S16x256 .f32) (j : Fin 256) :
    (∑ r : Fin 128, (∑ k, xr k * wDown w (ValueIdx.ix2 k r)) * wUp u (ValueIdx.ix2 r j)) = ∑ r : Fin 16, col xr w ⟨3072 + r.val, by omega⟩ * u (ValueIdx.ix2 r j) := by
  refine (Fin.sum_univ_add (a := 16) (b := 112) (fun r : Fin 128 => (∑ k, xr k * wDown w (ValueIdx.ix2 k r)) * wUp u (ValueIdx.ix2 r j))).trans ?_
  rw [Finset.sum_eq_zero (s := Finset.univ) (f := fun r : Fin 112 => _ * wUp u (ValueIdx.ix2 (Fin.natAdd 16 r) j)) (fun r _ => by rw [wUp_hi, mul_zero]), add_zero]
  exact Finset.sum_congr rfl fun r _ => congrArg₂ (· * ·) (Finset.sum_congr rfl fun k _ => congrArg (xr k * ·) (wDown_lo w k r)) (wUp_lo u r j)

end Cert.Proj

end
-- ==== Proof.Proj.Sample.lean ====
/- The input projection of the decoding rows: what the kernel's eight results hold at an index. -/
module

public import proofs.«01_k».proof.Proof.Proj.Spec
public import proofs.«01_k».proof.Proof.Gen.Kernel2Ideal.Value
public import Idealize.ShloMosaic.Lib.Pipeline.Value
public import Idealize.ShloMosaic.Lib.Pipeline.ValueKit.Basic
public import Idealize.ShloMosaic.Lib.StableHlo.RunRead

@[expose] public section

set_option maxRecDepth 16384

noncomputable section

namespace Cert.Kernel2Ideal.Proj

open Cert.Kernel2Ideal Cert.Kernel2Ideal.Gen Cert.Proj
open Idealize.ShloMosaic Idealize.ShloMosaic.TcCoe Idealize.SL.Sem
open Idealize.ShloMosaic.Pipeline (Dat Cfg Window)

/-! ## What the body leaves in each output block -/

section Body
variable (x0 : Vec Ideal S128x1024 .f32) (x1 : Vec Ideal S1024x2048 .bf16) (x2 : Vec Ideal S1024x1024 .bf16) (x3 : Vec Ideal S1024x128 .bf16) (x4 : Vec Ideal S128x256 .bf16) (x5 : Vec Ideal S1x256 .f32)

theorem ld_x : View.ld x0 r0_0 = x0 := View.ld_unit_lit _ x0 (by decide)
theorem ld_down : View.ld x3 r0_17 = x3 := View.ld_unit_lit _ x3 (by decide)
theorem ld_up : View.ld x4 r0_18 = x4 := View.ld_unit_lit _ x4 (by decide)
theorem ld_bias : View.ld x5 r0_19 = x5 := View.ld_unit_lit _ x5 (by decide)

theorem pay_q (P1 : Vec Ideal S1024x512 .bf16) (r : Fin 128) (j : Fin 512) :
    k0_pay9 (F := Ideal) x0 P1 (ValueIdx.ix2 r j) = (∑ k, x0 (ValueIdx.ix2 r k) * P1 (ValueIdx.ix2 k j)) * eighth := by
  unfold k0_pay9 k0_pay6
  pointwise
  rfl
theorem out_q (h : Fin 8) (r : Fin 128) (d : Fin 64) :
    out0_6 (F := Ideal) x0 x1 x2 x3 x4 x5 (ValueIdx.ix3 h r d) = (∑ k, x0 (ValueIdx.ix2 r k) * x1 (ValueIdx.ix2 k ⟨h.val * 64 + d.val, by omega⟩)) * eighth := by
  refine (Value.canon6_eq (View.ld x0 r0_0) (View.ld x1 r0_4) (ValueIdx.ix3 h r d)).trans ?_
  refine (pay_q (View.ld x0 r0_0) (View.ld x1 r0_4) r ⟨h.val * 64 + d.val, by omega⟩).trans ?_
  rw [ld_x]
  pointwise
  rfl

theorem out_k (r : Fin 128) (d : Fin 512) :
    out0_7 (F := Ideal) x0 x1 x2 x3 x4 x5 (ValueIdx.ix2 r d) = ∑ k, x0 (ValueIdx.ix2 r k) * x2 (ValueIdx.ix2 ⟨d.val, by omega⟩ k) := by
  unfold out0_7
  rw [View.canon_cons_unit_lit _ _ _ (by decide), ld_x]
  unfold k0_pay7 k0_pay6
  pointwise
  rfl
theorem out_v (r : Fin 128) (d : Fin 512) :
    out0_8 (F := Ideal) x0 x1 x2 x3 x4 x5 (ValueIdx.ix2 r d) = ∑ k, x0 (ValueIdx.ix2 r k) * x2 (ValueIdx.ix2 ⟨512 + d.val, by omega⟩ k) := by
  unfold out0_8
  rw [View.canon_cons_unit_lit _ _ _ (by decide), ld_x]
  unfold k0_pay8 k0_pay6
  pointwise
  rfl

theorem pay_gq (P1 : Vec Ideal S1024x256 .bf16) (r : Fin 128) (j : Fin 256) :
    k0_pay19 (F := Ideal) (k0_pay6 x0) P1 (ValueIdx.ix2 r j) = (∑ k, x0 (ValueIdx.ix2 r k) * P1 (ValueIdx.ix2 k j)) * eighth := by
  unfold k0_pay19 k0_pay6
  pointwise
  rfl
theorem out_gq (h : Fin 4) (r : Fin 128) (d : Fin 64) :
    out0_9 (F := Ideal) x0 x1 x2 x3 x4 x5 (ValueIdx.ix3 h r d) = (∑ k, x0 (ValueIdx.ix2 r k) * x1 (ValueIdx.ix2 k ⟨512 + (h.val * 64 + d.val), by omega⟩)) * eighth := by
  refine (Value.canon9_eq (View.ld x0 r0_0) (View.ld x1 r0_13) (ValueIdx.ix3 h r d)).trans ?_
  refine (pay_gq (View.ld x0 r0_0) (View.ld x1 r0_13) r ⟨h.val * 64 + d.val, by omega⟩).trans ?_
  rw [ld_x]
  pointwise
  rfl

theorem pay_gk (P1 : Vec Ideal S1024x256 .bf16) (r : Fin 128) (j : Fin 256) :
    k0_pay21 (F := Ideal) (k0_pay6 x0) (k0_pay20 P1) (ValueIdx.ix2 r j) = ∑ k, x0 (ValueIdx.ix2 r k) * P1 (ValueIdx.ix2 k j) := by
  unfold k0_pay21 k0_pay20 k0_pay6
  pointwise
  rfl
theorem out_gk (h : Fin 4) (r : Fin 128) (d : Fin 64) :
    out0_10 (F := Ideal) x0 x1 x2 x3 x4 x5 (ValueIdx.ix3 h r d) = ∑ k, x0 (ValueIdx.ix2 r k) * x1 (ValueIdx.ix2 k ⟨768 + (h.val * 64 + d.val), by omega⟩) := by
  refine (Value.canon10_eq (View.ld x0 r0_0) (View.ld x1 r0_14) (ValueIdx.ix3 h r d)).trans ?_
  refine (pay_gk (View.ld x0 r0_0) (View.ld x1 r0_14) r ⟨h.val * 64 + d.val, by omega⟩).trans ?_
  rw [ld_x]
  pointwise
  rfl

theorem pay_lg (r : Fin 128) (j : Fin 256) :
    k0_pay25 (F := Ideal) (k0_pay24 (k0_pay6 x0) x3 x4 x5) (ValueIdx.ix2 r j)
      = logGate (∑ i : Fin 128, (∑ k, x0 (ValueIdx.ix2 r k) * x3 (ValueIdx.ix2 k i)) * x4 (ValueIdx.ix2 i j) + x5 (ValueIdx.ix2 0 j)) := by
  unfold k0_pay25 k0_pay24 k0_pay6
  pointwise
  exact gate_eq _
theorem out11_eq {F : FTy → Type} [FloatOps F] (x0 : Vec F S128x1024 .f32) (x1 : Vec F S1024x2048 .bf16) (x2 : Vec F S1024x1024 .bf16) (x3 : Vec F S1024x128 .bf16) (x4 : Vec F S128x256 .bf16) (x5 : Vec F S1x256 .f32) (h : Fin 4) (r : Fin 128) (d : Fin 64) :
    out0_11 x0 x1 x2 x3 x4 x5 (ValueIdx.ix3 h r d) = k0_pay25 (k0_pay24 (k0_pay6 (View.ld x0 r0_0)) (View.ld x3 r0_17) (View.ld x4 r0_18) (View.ld x5 r0_19)) (ValueIdx.ix2 r ⟨h.val * 64 + d.val, by omega⟩) := by
  unfold out0_11 k0_pay39 k0_pay38 k0_pay34
  rw [Value.canon11_eq]
  generalize View.ld x0 r0_0 = y0
  unfold k0_pay25 k0_pay6
  refine congrArg₂ FloatOps.mulf (congrArg _ (funext fun a => ?_)) rfl
  match a with
  | ⟨0, _⟩ => rfl
  | ⟨1, _⟩ => rfl
theorem out_lg (h : Fin 4) (r : Fin 128) (d : Fin 64) :
    out0_11 (F := Ideal) x0 x1 x2 x3 x4 x5 (ValueIdx.ix3 h r d)
      = logGate (∑ i : Fin 128, (∑ k, x0 (ValueIdx.ix2 r k) * x3 (ValueIdx.ix2 k i)) * x4 (ValueIdx.ix2 i ⟨h.val * 64 + d.val, by omega⟩) + x5 (ValueIdx.ix2 0 ⟨h.val * 64 + d.val, by omega⟩)) := by
  rw [out11_eq]
  rw [ld_x, ld_down, ld_up, ld_bias]
  exact pay_lg x0 x3 x4 x5 r ⟨h.val * 64 + d.val, by omega⟩

theorem out_gv (r : Fin 128) (d : Fin 512) :
    out0_12 (F := Ideal) x0 x1 x2 x3 x4 x5 (ValueIdx.ix2 r d) = ∑ k, x0 (ValueIdx.ix2 r k) * x1 (ValueIdx.ix2 k ⟨1024 + d.val, by omega⟩) := by
  unfold out0_12
  rw [View.canon_cons_unit_lit _ _ _ (by decide)]
  show k0_pay22 (k0_pay6 (View.ld x0 r0_0)) (View.ld x1 r0_15) (ValueIdx.ix2 r d) = _
  rw [ld_x]
  unfold k0_pay22 k0_pay6
  pointwise
  rfl
theorem out_gr (r : Fin 128) (d : Fin 512) :
    out0_13 (F := Ideal) x0 x1 x2 x3 x4 x5 (ValueIdx.ix2 r d) = ∑ k, x0 (ValueIdx.ix2 r k) * x1 (ValueIdx.ix2 k ⟨1536 + d.val, by omega⟩) := by
  unfold out0_13
  rw [View.canon_cons_unit_lit _ _ _ (by decide)]
  show k0_pay23 (k0_pay6 (View.ld x0 r0_0)) (View.ld x1 r0_16) (ValueIdx.ix2 r d) = _
  rw [ld_x]
  unfold k0_pay23 k0_pay6
  pointwise
  rfl

end Body

/-! ## The arrays that the host code prepares -/

section Arrays
variable (m : (ℓ : Loc nD τ sig) → Buf (Elt Ideal) ℓ) (c : Dev nD)

/-- The arguments at their own types. -/
abbrev argX : Vec Ideal S32x4x1024 .f32 := m ((c : Thread nD τ).loc main_arg0)
abbrev argW : Vec Ideal S1024x3088 .f32 := m ((c : Thread nD τ).loc main_arg1)
abbrev argU : Vec Ideal S16x256 .f32 := m ((c : Thread nD τ).loc main_arg2)
abbrev argB : Vec Ideal S256 .f32 := m ((c : Thread nD τ).loc main_arg3)

theorem V_x : V m c main_v0 = shapeCast S128x1024 (argX m c) shapeCasts_S32x4x1024_S128x1024 := by
  show StableHlo.after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append]
  after_reads_simp
  rfl
theorem V_main : V m c main_v4 = wMain (argW m c) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_reads_simp
  rfl
theorem V_kvt : V m c main_v7 = wKvt (argW m c) := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_reads_simp
  rfl
theorem V_down : V m c main_v10 = wDown (argW m c) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append]
  after_reads_simp
  rfl
theorem V_up : V m c main_v12 = wUp (argU m c) := by
  show StableHlo.after (List.flatten [hostOps0, hostOps0_1, hostOps0_2, hostOps0_3, hostOps0_4]) (fun b => m (c, b)) (Proc.devRef .tc main_v12) = _
  simp only [hostOps0, hostOps0_1, hostOps0_2, hostOps0_3, hostOps0_4, List.flatten_cons, List.flatten_nil, List.append_nil, List.cons_append, List.nil_append]
  after_reads_simp
  rfl
theorem V_bias : V m c main_v13 = broadcastInDim S1x256 ![1] bcast_S256_S1x256_1 (argB m c) := by
  show StableHlo.after (List.flatten [hostOps0, hostOps0_1, hostOps0_2, hostOps0_3, hostOps0_4]) (fun b => m (c, b)) (Proc.devRef .tc main_v13) = _
  simp only [hostOps0, hostOps0_1, hostOps0_2, hostOps0_3, hostOps0_4, List.flatten_cons, List.flatten_nil, List.append_nil, List.cons_append, List.nil_append]
  after_reads_simp

/-! ## The input blocks -/

theorem in_idx (t : Fin grid0.N) : cc0_transform_0 (grid0.coords t) = ![0, 0] ∧ cc0_transform_1 (grid0.coords t) = ![0, 0] ∧ cc0_transform_2 (grid0.coords t) = ![0, 0] ∧ cc0_transform_3 (grid0.coords t) = ![0, 0] ∧ cc0_transform_4 (grid0.coords t) = ![0, 0] ∧ cc0_transform_5 (grid0.coords t) = ![0, 0] := by
  revert t; decide +kernel
theorem out_idx (t : Fin grid0.N) : cc0_transform_6 (grid0.coords t) = ![0, 0, 0] ∧ cc0_transform_7 (grid0.coords t) = ![0, 0] ∧ cc0_transform_8 (grid0.coords t) = ![0, 0] ∧ cc0_transform_9 (grid0.coords t) = ![0, 0, 0] ∧ cc0_transform_10 (grid0.coords t) = ![0, 0, 0] ∧ cc0_transform_11 (grid0.coords t) = ![0, 0, 0] ∧ cc0_transform_12 (grid0.coords t) = ![0, 0] ∧ cc0_transform_13 (grid0.coords t) = ![0, 0] := by
  revert t; decide +kernel

/-- A block at the origin is placed at its own index. -/
theorem place2 {x y : ℕ} (f : Fin 2 → ℕ) (hf : f = ![0, 0]) (j : Shape.Idx ⟨2, ![x, y]⟩) (a : Fin 2) : f a * (![x, y] : Fin 2 → ℕ) a + 1 * (j a).val = (j a).val := by
  rw [hf]
  match a with
  | ⟨0, _⟩ => show 0 * x + 1 * (j 0).val = (j 0).val; omega
  | ⟨1, _⟩ => show 0 * y + 1 * (j 1).val = (j 1).val; omega
theorem place3 {x y z : ℕ} (f : Fin 3 → ℕ) (hf : f = ![0, 0, 0]) (j : Shape.Idx ⟨3, ![x, y, z]⟩) (a : Fin 3) : f a * (![x, y, z] : Fin 3 → ℕ) a + 1 * (j a).val = (j a).val := by
  rw [hf]
  match a with
  | ⟨0, _⟩ => show 0 * x + 1 * (j 0).val = (j 0).val; omega
  | ⟨1, _⟩ => show 0 * y + 1 * (j 1).val = (j 1).val; omega
  | ⟨2, _⟩ => show 0 * z + 1 * (j 2).val = (j 2).val; omega

theorem blk_x (t : Fin cfg0.N) : (iblk m c 0 t : Vec Ideal S128x1024 .f32) = V m c main_v0 :=
  funext fun j => congrArg (V m c main_v0) (funext fun a => Fin.ext (place2 _ (in_idx t).1 j a))
theorem blk_main (t : Fin cfg0.N) : (iblk m c 1 t : Vec Ideal S1024x2048 .bf16) = wMain (argW m c) :=
  (funext fun j => congrArg (V m c main_v4) (funext fun a => Fin.ext (place2 _ (in_idx t).2.1 j a))).trans (V_main m c)
theorem blk_kvt (t : Fin cfg0.N) : (iblk m c 2 t : Vec Ideal S1024x1024 .bf16) = wKvt (argW m c) :=
  (funext fun j => congrArg (V m c main_v7) (funext fun a => Fin.ext (place2 _ (in_idx t).2.2.1 j a))).trans (V_kvt m c)
theorem blk_down (t : Fin cfg0.N) : (iblk m c 3 t : Vec Ideal S1024x128 .bf16) = wDown (argW m c) :=
  (funext fun j => congrArg (V m c main_v10) (funext fun a => Fin.ext (place2 _ (in_idx t).2.2.2.1 j a))).trans (V_down m c)
theorem blk_up (t : Fin cfg0.N) : (iblk m c 4 t : Vec Ideal S128x256 .bf16) = wUp (argU m c) :=
  (funext fun j => congrArg (V m c main_v12) (funext fun a => Fin.ext (place2 _ (in_idx t).2.2.2.2.1 j a))).trans (V_up m c)
theorem blk_bias (t : Fin cfg0.N) : (iblk m c 5 t : Vec Ideal S1x256 .f32) = broadcastInDim S1x256 ![1] bcast_S256_S1x256_1 (argB m c) :=
  (funext fun j => congrArg (V m c main_v13) (funext fun a => Fin.ext (place2 _ (in_idx t).2.2.2.2.2 j a))).trans (V_bias m c)

/-- Row `r` of the inputs. -/
def row (r : Fin 128) (k : Fin 1024) : EReal := argX m c (ValueIdx.ix3 ⟨r.val / 4, by omega⟩ ⟨r.val % 4, by omega⟩ k)

theorem x_apply (t : Fin cfg0.N) (r : Fin 128) (k : Fin 1024) : (iblk m c 0 t : Vec Ideal S128x1024 .f32) (ValueIdx.ix2 r k) = row m c r k := by
  rw [blk_x, V_x]
  unfold row
  pointwise
  rfl
theorem bias_apply (t : Fin cfg0.N) (j : Fin 256) : (iblk m c 5 t : Vec Ideal S1x256 .f32) (ValueIdx.ix2 0 j) = argB m c (ValueIdx.ix1 j) := by
  rw [blk_bias]
  pointwise
  rfl

/-- The blocks at their own types. -/
abbrev bX (t : Fin cfg0.N) : Vec Ideal S128x1024 .f32 := iblk m c 0 t
abbrev bMain (t : Fin cfg0.N) : Vec Ideal S1024x2048 .bf16 := iblk m c 1 t
abbrev bKvt (t : Fin cfg0.N) : Vec Ideal S1024x1024 .bf16 := iblk m c 2 t
abbrev bDown (t : Fin cfg0.N) : Vec Ideal S1024x128 .bf16 := iblk m c 3 t
abbrev bUp (t : Fin cfg0.N) : Vec Ideal S128x256 .bf16 := iblk m c 4 t
abbrev bBias (t : Fin cfg0.N) : Vec Ideal S1x256 .f32 := iblk m c 5 t

/-- A row's product with a column of the call's first matrix, and with a row of its transposed one. -/
theorem main_dot (t : Fin cfg0.N) (r : Fin 128) (j : Fin 2048) (J : Fin 3088) (h : j.val < 512 ∧ J.val = j.val ∨ 512 ≤ j.val ∧ J.val = 1024 + j.val) :
    (∑ k, bX m c t (ValueIdx.ix2 r k) * bMain m c t (ValueIdx.ix2 k j)) = col (row m c r) (argW m c) J := by
  refine Eq.trans (Finset.sum_congr rfl fun k _ => ?_) (main_col (row m c r) (argW m c) j J h)
  exact congrArg₂ (α := EReal) (β := EReal) (· * ·) (x_apply m c t r k) (congrFun (blk_main m c t) _)
theorem kvt_dot (t : Fin cfg0.N) (r : Fin 128) (j : Fin 1024) (J : Fin 3088) (h : J.val = 512 + j.val) :
    (∑ k, bX m c t (ValueIdx.ix2 r k) * bKvt m c t (ValueIdx.ix2 j k)) = col (row m c r) (argW m c) J := by
  refine Eq.trans (Finset.sum_congr rfl fun k _ => ?_) (kvt_col (row m c r) (argW m c) j J h)
  exact congrArg₂ (α := EReal) (β := EReal) (· * ·) (x_apply m c t r k) (congrFun (blk_kvt m c t) _)
theorem gate_dot (t : Fin cfg0.N) (r : Fin 128) (j : Fin 256) :
    (∑ i : Fin 128, (∑ k, bX m c t (ValueIdx.ix2 r k) * bDown m c t (ValueIdx.ix2 k i)) * bUp m c t (ValueIdx.ix2 i j)) + bBias m c t (ValueIdx.ix2 0 j)
      = gateIn (row m c r) (argW m c) (argU m c) (argB m c) j := by
  refine congrArg₂ (α := EReal) (β := EReal) (· + ·) (Eq.trans (Finset.sum_congr rfl fun i _ => ?_) (low_rank (row m c r) (argW m c) (argU m c) j)) (bias_apply m c t j)
  exact congrArg₂ (α := EReal) (β := EReal) (· * ·) (Finset.sum_congr rfl fun k _ => congrArg₂ (α := EReal) (β := EReal) (· * ·) (x_apply m c t r k) (congrFun (blk_down m c t) _)) (congrFun (blk_up m c t) _)

/-! ## The results -/

/-- The grid's only point. -/
def pt : Fin cfg0.N := ⟨0, by decide⟩

theorem res_q (h : Fin 8) (r : Fin 128) (d : Fin 64) :
    ((dats m 0 c).arrAt 6 cfg0.N : Vec Ideal S8x128x64 .bf16) (ValueIdx.ix3 h r d) = col (row m c r) (argW m c) ⟨h.val * 64 + d.val, by omega⟩ * eighth := by
  have e := congrFun ((Value.blocks6 m c pt (flush0_6 pt)).trans (Value.flushed6 m c pt)) (ValueIdx.ix3 h r d : S8x128x64.Idx)
  refine (congrArg ((dats m 0 c).arrAt 6 cfg0.N) (funext fun a => Fin.ext (place3 _ (out_idx pt).1 (ValueIdx.ix3 h r d : S8x128x64.Idx) a))).symm.trans (e.trans ?_)
  refine (out_q (bX m c pt) (bMain m c pt) (bKvt m c pt) (bDown m c pt) (bUp m c pt) (bBias m c pt) h r d).trans (congrArg (· * eighth) (main_dot m c pt r _ _ (Or.inl ⟨?_, rfl⟩)))
  show h.val * 64 + d.val < 512; omega
theorem res_k (r : Fin 128) (d : Fin 512) :
    ((dats m 0 c).arrAt 7 cfg0.N : Vec Ideal S128x512 .f32) (ValueIdx.ix2 r d) = col (row m c r) (argW m c) ⟨512 + d.val, by omega⟩ := by
  have e := congrFun ((Value.blocks7 m c pt (flush0_7 pt)).trans (Value.flushed7 m c pt)) (ValueIdx.ix2 r d : S128x512.Idx)
  refine (congrArg ((dats m 0 c).arrAt 7 cfg0.N) (funext fun a => Fin.ext (place2 _ (out_idx pt).2.1 (ValueIdx.ix2 r d : S128x512.Idx) a))).symm.trans (e.trans ?_)
  exact (out_k (bX m c pt) (bMain m c pt) (bKvt m c pt) (bDown m c pt) (bUp m c pt) (bBias m c pt) r d).trans (kvt_dot m c pt r _ _ rfl)
theorem res_v (r : Fin 128) (d : Fin 512) :
    ((dats m 0 c).arrAt 8 cfg0.N : Vec Ideal S128x512 .f32) (ValueIdx.ix2 r d) = col (row m c r) (argW m c) ⟨1024 + d.val, by omega⟩ := by
  have e := congrFun ((Value.blocks8 m c pt (flush0_8 pt)).trans (Value.flushed8 m c pt)) (ValueIdx.ix2 r d : S128x512.Idx)
  refine (congrArg ((dats m 0 c).arrAt 8 cfg0.N) (funext fun a => Fin.ext (place2 _ (out_idx pt).2.2.1 (ValueIdx.ix2 r d : S128x512.Idx) a))).symm.trans (e.trans ?_)
  refine (out_v (bX m c pt) (bMain m c pt) (bKvt m c pt) (bDown m c pt) (bUp m c pt) (bBias m c pt) r d).trans (kvt_dot m c pt r _ _ ?_)
  show 1024 + d.val = 512 + (512 + d.val); omega
theorem res_gq (h : Fin 4) (r : Fin 128) (d : Fin 64) :
    ((dats m 0 c).arrAt 9 cfg0.N : Vec Ideal S4x128x64 .f32) (ValueIdx.ix3 h r d) = col (row m c r) (argW m c) ⟨1536 + (h.val * 64 + d.val), by omega⟩ * eighth := by
  have e := congrFun ((Value.blocks9 m c pt (flush0_9 pt)).trans (Value.flushed9 m c pt)) (ValueIdx.ix3 h r d : S4x128x64.Idx)
  refine (congrArg ((dats m 0 c).arrAt 9 cfg0.N) (funext fun a => Fin.ext (place3 _ (out_idx pt).2.2.2.1 (ValueIdx.ix3 h r d : S4x128x64.Idx) a))).symm.trans (e.trans ?_)
  refine (out_gq (bX m c pt) (bMain m c pt) (bKvt m c pt) (bDown m c pt) (bUp m c pt) (bBias m c pt) h r d).trans (congrArg (· * eighth) (main_dot m c pt r _ _ (Or.inr ⟨Nat.le_add_right _ _, ?_⟩)))
  show 1536 + (h.val * 64 + d.val) = 1024 + (512 + (h.val * 64 + d.val)); omega
theorem res_gk (h : Fin 4) (r : Fin 128) (d : Fin 64) :
    ((dats m 0 c).arrAt 10 cfg0.N : Vec Ideal S4x128x64 .f32) (ValueIdx.ix3 h r d) = col (row m c r) (argW m c) ⟨1792 + (h.val * 64 + d.val), by omega⟩ := by
  have e := congrFun ((Value.blocks10 m c pt (flush0_10 pt)).trans (Value.flushed10 m c pt)) (ValueIdx.ix3 h r d : S4x128x64.Idx)
  refine (congrArg ((dats m 0 c).arrAt 10 cfg0.N) (funext fun a => Fin.ext (place3 _ (out_idx pt).2.2.2.2.1 (ValueIdx.ix3 h r d : S4x128x64.Idx) a))).symm.trans (e.trans ?_)
  refine (out_gk (bX m c pt) (bMain m c pt) (bKvt m c pt) (bDown m c pt) (bUp m c pt) (bBias m c pt) h r d).trans (main_dot m c pt r _ _ (Or.inr ⟨?_, ?_⟩))
  · show 512 ≤ 768 + (h.val * 64 + d.val); omega
  · show 1792 + (h.val * 64 + d.val) = 1024 + (768 + (h.val * 64 + d.val)); omega
theorem res_lg (h : Fin 4) (r : Fin 128) (d : Fin 64) :
    ((dats m 0 c).arrAt 11 cfg0.N : Vec Ideal S4x128x64 .f32) (ValueIdx.ix3 h r d) = logGate (gateIn (row m c r) (argW m c) (argU m c) (argB m c) ⟨h.val * 64 + d.val, by omega⟩) := by
  have e := congrFun ((Value.blocks11 m c pt (flush0_11 pt)).trans (Value.flushed11 m c pt)) (ValueIdx.ix3 h r d : S4x128x64.Idx)
  refine (congrArg ((dats m 0 c).arrAt 11 cfg0.N) (funext fun a => Fin.ext (place3 _ (out_idx pt).2.2.2.2.2.1 (ValueIdx.ix3 h r d : S4x128x64.Idx) a))).symm.trans (e.trans ?_)
  exact (out_lg (bX m c pt) (bMain m c pt) (bKvt m c pt) (bDown m c pt) (bUp m c pt) (bBias m c pt) h r d).trans (congrArg logGate (gate_dot m c pt r _))
theorem res_gv (r : Fin 128) (d : Fin 512) :
    ((dats m 0 c).arrAt 12 cfg0.N : Vec Ideal S128x512 .f32) (ValueIdx.ix2 r d) = col (row m c r) (argW m c) ⟨2048 + d.val, by omega⟩ := by
  have e := congrFun ((Value.blocks12 m c pt (flush0_12 pt)).trans (Value.flushed12 m c pt)) (ValueIdx.ix2 r d : S128x512.Idx)
  refine (congrArg ((dats m 0 c).arrAt 12 cfg0.N) (funext fun a => Fin.ext (place2 _ (out_idx pt).2.2.2.2.2.2.1 (ValueIdx.ix2 r d : S128x512.Idx) a))).symm.trans (e.trans ?_)
  refine (out_gv (bX m c pt) (bMain m c pt) (bKvt m c pt) (bDown m c pt) (bUp m c pt) (bBias m c pt) r d).trans (main_dot m c pt r _ _ (Or.inr ⟨?_, ?_⟩))
  · show 512 ≤ 1024 + d.val; omega
  · show 2048 + d.val = 1024 + (1024 + d.val); omega
theorem res_gr (r : Fin 128) (d : Fin 512) :
    ((dats m 0 c).arrAt 13 cfg0.N : Vec Ideal S128x512 .f32) (ValueIdx.ix2 r d) = col (row m c r) (argW m c) ⟨2560 + d.val, by omega⟩ := by
  have e := congrFun ((Value.blocks13 m c pt (flush0_13 pt)).trans (Value.flushed13 m c pt)) (ValueIdx.ix2 r d : S128x512.Idx)
  refine (congrArg ((dats m 0 c).arrAt 13 cfg0.N) (funext fun a => Fin.ext (place2 _ (out_idx pt).2.2.2.2.2.2.2 (ValueIdx.ix2 r d : S128x512.Idx) a))).symm.trans (e.trans ?_)
  refine (out_gr (bX m c pt) (bMain m c pt) (bKvt m c pt) (bDown m c pt) (bUp m c pt) (bBias m c pt) r d).trans (main_dot m c pt r _ _ (Or.inr ⟨?_, ?_⟩))
  · show 512 ≤ 1536 + d.val; omega
  · show 2560 + d.val = 1024 + (1536 + d.val); omega

end Arrays

end Cert.Kernel2Ideal.Proj

end
-- ==== Proof.Proj.SampleClaims.lean ====
/- The claims about the input projection of the decoding rows. -/
module

public import proofs.«01_k».proof.Defs
public import proofs.«01_k».proof.Proof.Proj.Sample
public import proofs.«01_k».proof.Proof.Gen.Kernel2.Frame
public import proofs.«01_k».proof.Proof.Gen.Reference2Ideal.Run

@[expose] public section

set_option maxRecDepth 16384

noncomputable section

namespace Cert.Proj.Sample

open Idealize.ShloMosaic Idealize.ShloMosaic.TcCoe Idealize.SL.Sem
open Cert.Kernel2Ideal.Proj Cert.Proj

theorem frame_kernel : Cert.quiescent_Kernel2 := fun m ρ _ => Cert.Kernel2.Gen.frame m ρ
theorem frame_ideal : Cert.quiescent_Kernel2Ideal := fun m ρ _ => Cert.Kernel2Ideal.Gen.frame m ρ
theorem frame_ref : Cert.quiescent_Reference2Ideal := fun m ρ _ =>
  (θ_run Cert.Reference2Ideal.defs _ _).mono (fun r h => ⟨fun c => (h c).2.2.2.2.2.2.2.2, Idealize.ShloMosaic.sem_eq_zero_of_no_sems (by decide) r.2⟩) (Cert.Reference2Ideal.Value.run (F := Ideal) m ρ)

section Reference
open Cert.Reference2Ideal Cert.Reference2Ideal.Gen
variable (m : (ℓ : Loc nD τ sig) → Buf (Elt Ideal) ℓ) (c : Dev nD)

abbrev refX : Vec Ideal S32x4x1024 .f32 := m ((c.tc : Thread nD τ).loc main_arg0)
abbrev refW : Vec Ideal S1024x3088 .f32 := m ((c.tc : Thread nD τ).loc main_arg1)
abbrev refU : Vec Ideal S16x256 .f32 := m ((c.tc : Thread nD τ).loc main_arg2)
abbrev refB : Vec Ideal S256 .f32 := m ((c.tc : Thread nD τ).loc main_arg3)

/-- Row `r` of the reference's inputs. -/
def refRow (r : Fin 128) (k : Fin 1024) : EReal := refX m c (ValueIdx.ix3 ⟨r.val / 4, by omega⟩ ⟨r.val % 4, by omega⟩ k)

section Terms
variable (x : Vec Ideal S32x4x1024 .f32) (w : Vec Ideal S1024x3088 .f32) (u : Vec Ideal S16x256 .f32) (b : Vec Ideal S256 .f32)

/-- The reference's one product, its slices, and what goes into its gate. -/
def prod : FVec Ideal S128x3088 .f32 := Host.dotGeneral (F := Ideal) (φ₁ := .f32) (φ₂ := .f32) dot_S128x1024_S1024x3088_S128x3088_1_0_0_1_n_n none (shapeCast S128x1024 x shapeCasts_S32x4x1024_S128x1024 : FVec Ideal S128x1024 .f32) (w : FVec Ideal S1024x3088 .f32)
def gateSum (P : FVec Ideal S128x3088 .f32) : FVec Ideal S128x256 .f32 :=
  addf (Host.dotGeneral (F := Ideal) (φ₁ := .f32) (φ₂ := .f32) dot_S128x16_S16x256_S128x256_1_0_0_1_n_n none (extractStridedSlice S128x16 ![0, 3072] P slices_S128x3088_S128x16_0_3072 : FVec Ideal S128x16 .f32) (u : FVec Ideal S16x256 .f32) : FVec Ideal S128x256 .f32)
    (broadcastInDim S128x256 ![0, 1] bcast_S1x256_S128x256_0_1 (broadcastInDim S1x256 ![1] bcast_S256_S1x256_1 (b : FVec Ideal S256 .f32) : FVec Ideal S1x256 .f32) : FVec Ideal S128x256 .f32)
def zeros : FVec Ideal S128x256 .f32 := broadcastInDim S128x256 ![] bcast_S_S128x256 (constant S_ .f32 0x00000000#32 : FVec Ideal S_ .f32)
def gateTerm (Z : FVec Ideal S128x256 .f32) : FVec Ideal S128x256 .f32 :=
  Host.divf (Host.negf (select (cmpf .une (subf (Host.negf Z) zeros) (subf (Host.negf Z) zeros)) (addf (Host.negf Z) zeros) (addf (maximumf (Host.negf Z) zeros) (Host.log1p (Host.exp (Host.negf (Host.absf (subf (Host.negf Z) zeros)))))))) (broadcastInDim S128x256 ![] bcast_S_S128x256 (constant S_ .f32 0x41800000#32 : FVec Ideal S_ .f32))

theorem prod_apply (r : Fin 128) (j : Fin 3088) : prod x w (ValueIdx.ix2 r j) = col (fun k => x (ValueIdx.ix3 ⟨r.val / 4, by omega⟩ ⟨r.val % 4, by omega⟩ k)) w j := by
  unfold prod
  pointwise
  rfl
theorem gateSum_apply (P : FVec Ideal S128x3088 .f32) (r : Fin 128) (j : Fin 256) :
    gateSum u b P (ValueIdx.ix2 r j) = ∑ i : Fin 16, P (ValueIdx.ix2 r ⟨3072 + i.val, by omega⟩) * u (ValueIdx.ix2 i j) + b (ValueIdx.ix1 j) := by
  unfold gateSum
  pointwise
  rfl
theorem gateTerm_apply (Z : FVec Ideal S128x256 .f32) (r : Fin 128) (j : Fin 256) : gateTerm Z (ValueIdx.ix2 r j) = logGate (Z (ValueIdx.ix2 r j)) := by
  unfold gateTerm zeros logGate
  pointwise
  refine congrArg (fun z => Ideal.div (-z) _) ?_
  exact if_neg (fun hne => hne rfl)

theorem heads_q (P : FVec Ideal S128x3088 .f32) (h : Fin 8) (r : Fin 128) (d : Fin 64) :
    (truncf .bf16 (transpose S8x128x64 [1, 0, 2] (shapeCast S128x8x64 (mulf (extractStridedSlice S128x512 ![0, 0] P slices_S128x3088_S128x512_0_0 : FVec Ideal S128x512 .f32) (broadcastInDim S128x512 ![] bcast_S_S128x512 (constant S_ .f32 0x3E000000#32 : FVec Ideal S_ .f32) : FVec Ideal S128x512 .f32) : FVec Ideal S128x512 .f32) shapeCasts_S128x512_S128x8x64 : FVec Ideal S128x8x64 .f32) transposes_S128x8x64_S8x128x64_1_0_2 : FVec Ideal S8x128x64 .f32) bitsLt_bf16_f32 : FVec Ideal S8x128x64 .bf16) (ValueIdx.ix3 h r d)
      = P (ValueIdx.ix2 r ⟨h.val * 64 + d.val, by omega⟩) * eighth := by
  pointwise
  rfl
theorem heads (Z : FVec Ideal S128x256 .f32) (h : Fin 4) (r : Fin 128) (d : Fin 64) :
    (transpose S4x128x64 [1, 0, 2] (shapeCast S128x4x64 Z shapeCasts_S128x256_S128x4x64 : FVec Ideal S128x4x64 .f32) transposes_S128x4x64_S4x128x64_1_0_2 : FVec Ideal S4x128x64 .f32) (ValueIdx.ix3 h r d)
      = Z (ValueIdx.ix2 r ⟨h.val * 64 + d.val, by omega⟩) := by
  pointwise
  rfl
theorem scaled (P : FVec Ideal S128x3088 .f32) (r : Fin 128) (j : Fin 256) :
    (mulf (extractStridedSlice S128x256 ![0, 1536] P slices_S128x3088_S128x256_0_1536 : FVec Ideal S128x256 .f32) (broadcastInDim S128x256 ![] bcast_S_S128x256 (constant S_ .f32 0x3E000000#32 : FVec Ideal S_ .f32) : FVec Ideal S128x256 .f32) : FVec Ideal S128x256 .f32) (ValueIdx.ix2 r j)
      = P (ValueIdx.ix2 r ⟨1536 + j.val, by omega⟩) * eighth := by
  pointwise
  rfl
theorem slice_gk (P : FVec Ideal S128x3088 .f32) (r : Fin 128) (j : Fin 256) :
    (extractStridedSlice S128x256 ![0, 1792] P slices_S128x3088_S128x256_0_1792 : FVec Ideal S128x256 .f32) (ValueIdx.ix2 r j) = P (ValueIdx.ix2 r ⟨1792 + j.val, by omega⟩) := by
  pointwise
  rfl
theorem slice_k (P : FVec Ideal S128x3088 .f32) (r : Fin 128) (j : Fin 512) :
    (extractStridedSlice S128x512 ![0, 512] P slices_S128x3088_S128x512_0_512 : FVec Ideal S128x512 .f32) (ValueIdx.ix2 r j) = P (ValueIdx.ix2 r ⟨512 + j.val, by omega⟩) := by
  pointwise
  rfl
theorem slice_v (P : FVec Ideal S128x3088 .f32) (r : Fin 128) (j : Fin 512) :
    (extractStridedSlice S128x512 ![0, 1024] P slices_S128x3088_S128x512_0_1024 : FVec Ideal S128x512 .f32) (ValueIdx.ix2 r j) = P (ValueIdx.ix2 r ⟨1024 + j.val, by omega⟩) := by
  pointwise
  rfl
theorem slice_gv (P : FVec Ideal S128x3088 .f32) (r : Fin 128) (j : Fin 512) :
    (extractStridedSlice S128x512 ![0, 2048] P slices_S128x3088_S128x512_0_2048 : FVec Ideal S128x512 .f32) (ValueIdx.ix2 r j) = P (ValueIdx.ix2 r ⟨2048 + j.val, by omega⟩) := by
  pointwise
  rfl
theorem slice_gr (P : FVec Ideal S128x3088 .f32) (r : Fin 128) (j : Fin 512) :
    (extractStridedSlice S128x512 ![0, 2560] P slices_S128x3088_S128x512_0_2560 : FVec Ideal S128x512 .f32) (ValueIdx.ix2 r j) = P (ValueIdx.ix2 r ⟨2560 + j.val, by omega⟩) := by
  pointwise
  rfl

end Terms

/-- What the reference leaves in its eight results. -/
structure Results (g : (ℓ : Loc nD τ sig) → Buf (Elt Ideal) ℓ) : Prop where
  q : ∀ (h : Fin 8) (r : Fin 128) (d : Fin 64), (g ((c.tc : Thread nD τ).loc main_v21) : Vec Ideal S8x128x64 .bf16) (ValueIdx.ix3 h r d) = col (refRow m c r) (refW m c) ⟨h.val * 64 + d.val, by omega⟩ * eighth
  k : ∀ (r : Fin 128) (d : Fin 512), (g ((c.tc : Thread nD τ).loc main_v3) : Vec Ideal S128x512 .f32) (ValueIdx.ix2 r d) = col (refRow m c r) (refW m c) ⟨512 + d.val, by omega⟩
  v : ∀ (r : Fin 128) (d : Fin 512), (g ((c.tc : Thread nD τ).loc main_v4) : Vec Ideal S128x512 .f32) (ValueIdx.ix2 r d) = col (refRow m c r) (refW m c) ⟨1024 + d.val, by omega⟩
  gq : ∀ (h : Fin 4) (r : Fin 128) (d : Fin 64), (g ((c.tc : Thread nD τ).loc main_v25) : Vec Ideal S4x128x64 .f32) (ValueIdx.ix3 h r d) = col (refRow m c r) (refW m c) ⟨1536 + (h.val * 64 + d.val), by omega⟩ * eighth
  gk : ∀ (h : Fin 4) (r : Fin 128) (d : Fin 64), (g ((c.tc : Thread nD τ).loc main_v27) : Vec Ideal S4x128x64 .f32) (ValueIdx.ix3 h r d) = col (refRow m c r) (refW m c) ⟨1792 + (h.val * 64 + d.val), by omega⟩
  lg : ∀ (h : Fin 4) (r : Fin 128) (d : Fin 64), (g ((c.tc : Thread nD τ).loc main_v29) : Vec Ideal S4x128x64 .f32) (ValueIdx.ix3 h r d) = logGate (gateIn (refRow m c r) (refW m c) (refU m c) (refB m c) ⟨h.val * 64 + d.val, by omega⟩)
  gv : ∀ (r : Fin 128) (d : Fin 512), (g ((c.tc : Thread nD τ).loc main_v7) : Vec Ideal S128x512 .f32) (ValueIdx.ix2 r d) = col (refRow m c r) (refW m c) ⟨2048 + d.val, by omega⟩
  gr : ∀ (r : Fin 128) (d : Fin 512), (g ((c.tc : Thread nD τ).loc main_v8) : Vec Ideal S128x512 .f32) (ValueIdx.ix2 r d) = col (refRow m c r) (refW m c) ⟨2560 + d.val, by omega⟩

theorem run_ref (ρ : Dev nD → PrngReg) :
    θ_run defs (onTc (τ := τ) (main (F := Ideal))) ⟨m, fun _ => 0, ρ⟩ fun r => ∀ c : Dev nD, Results m c r.2.mem
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨?_, (h c).2.2.2.2.2.2.2.2⟩) (Cert.Reference2Ideal.Value.run (F := Ideal) m ρ)
  obtain ⟨hq, hk, hv, hgq, hgk, hlg, hgv, hgr, -⟩ := h c
  have P := prod_apply (refX m c) (refW m c)
  constructor
  · intro h r d
    exact (congrFun hq _).trans ((heads_q (prod (refX m c) (refW m c)) h r d).trans (congrArg (· * eighth) (P r _)))
  · intro r d
    exact (congrFun hk _).trans ((slice_k (prod (refX m c) (refW m c)) r d).trans (P r _))
  · intro r d
    exact (congrFun hv _).trans ((slice_v (prod (refX m c) (refW m c)) r d).trans (P r _))
  · intro h r d
    exact (congrFun hgq _).trans ((heads _ h r d).trans ((scaled (prod (refX m c) (refW m c)) r _).trans (congrArg (· * eighth) (P r _))))
  · intro h r d
    exact (congrFun hgk _).trans ((heads _ h r d).trans ((slice_gk (prod (refX m c) (refW m c)) r _).trans (P r _)))
  · intro h r d
    refine (congrFun hlg _).trans ((heads (gateTerm (gateSum (refU m c) (refB m c) (prod (refX m c) (refW m c)))) h r d).trans ?_)
    refine (gateTerm_apply _ r _).trans (congrArg logGate ((gateSum_apply _ _ _ r _).trans ?_))
    exact congrArg (· + _) (Finset.sum_congr rfl fun i _ => congrArg (· * _) (P r _))
  · intro r d
    exact (congrFun hgv _).trans ((slice_gv (prod (refX m c) (refW m c)) r d).trans (P r _))
  · intro r d
    exact (congrFun hgr _).trans ((slice_gr (prod (refX m c) (refW m c)) r d).trans (P r _))

end Reference

/-- Kernel and reference compute the same eight arrays. -/
theorem algebraic : Cert.algebraic_Kernel2Ideal_Reference2Ideal := by
  intro m g m' g' hpre hargs
  refine ⟨fun c => (Cert.Kernel2Ideal.Gen.dats m 0 c).arrAt 6 Cert.Kernel2Ideal.cfg0.N, fun c => (Cert.Kernel2Ideal.Gen.dats m 0 c).arrAt 7 Cert.Kernel2Ideal.cfg0.N,
    fun c => (Cert.Kernel2Ideal.Gen.dats m 0 c).arrAt 8 Cert.Kernel2Ideal.cfg0.N, fun c => (Cert.Kernel2Ideal.Gen.dats m 0 c).arrAt 9 Cert.Kernel2Ideal.cfg0.N,
    fun c => (Cert.Kernel2Ideal.Gen.dats m 0 c).arrAt 10 Cert.Kernel2Ideal.cfg0.N, fun c => (Cert.Kernel2Ideal.Gen.dats m 0 c).arrAt 11 Cert.Kernel2Ideal.cfg0.N,
    fun c => (Cert.Kernel2Ideal.Gen.dats m 0 c).arrAt 12 Cert.Kernel2Ideal.cfg0.N, fun c => (Cert.Kernel2Ideal.Gen.dats m 0 c).arrAt 13 Cert.Kernel2Ideal.cfg0.N,
    Cert.Kernel2Ideal.Value.run_blocks m g, ?_⟩
  refine (θ_run Cert.Reference2Ideal.defs _ _).mono (fun r h c => ?_) (run_ref m' g')
  obtain ⟨h0, h1, h2, h3⟩ := hargs c
  have eR : ∀ r : Fin 128, refRow m' c r = row m c r := fun r => funext fun k => congrFun h0 _
  obtain ⟨R, A⟩ := h c
  refine ⟨funext fun i => ?_, funext fun i => ?_, funext fun i => ?_, funext fun i => ?_, funext fun i => ?_, funext fun i => ?_, funext fun i => ?_, funext fun i => ?_, A⟩
  · obtain ⟨h, r, d, rfl⟩ : ∃ (h : Fin 8) (r : Fin 128) (d : Fin 64), i = ValueIdx.ix3 h r d := ⟨i 0, i 1, i 2, ValueIdx.eq_ix3 i⟩
    refine (R.q h r d).trans (Eq.trans ?_ (res_q m c h r d).symm)
    exact congrArg (· * eighth) (col_congr (eR r) h1 rfl)
  · obtain ⟨r, d, rfl⟩ : ∃ (r : Fin 128) (d : Fin 512), i = ValueIdx.ix2 r d := ⟨i 0, i 1, ValueIdx.eq_ix2 i⟩
    exact (R.k r d).trans ((col_congr (eR r) h1 rfl).trans (res_k m c r d).symm)
  · obtain ⟨r, d, rfl⟩ : ∃ (r : Fin 128) (d : Fin 512), i = ValueIdx.ix2 r d := ⟨i 0, i 1, ValueIdx.eq_ix2 i⟩
    exact (R.v r d).trans ((col_congr (eR r) h1 rfl).trans (res_v m c r d).symm)
  · obtain ⟨h, r, d, rfl⟩ : ∃ (h : Fin 4) (r : Fin 128) (d : Fin 64), i = ValueIdx.ix3 h r d := ⟨i 0, i 1, i 2, ValueIdx.eq_ix3 i⟩
    refine (R.gq h r d).trans (Eq.trans ?_ (res_gq m c h r d).symm)
    exact congrArg (· * eighth) (col_congr (eR r) h1 rfl)
  · obtain ⟨h, r, d, rfl⟩ : ∃ (h : Fin 4) (r : Fin 128) (d : Fin 64), i = ValueIdx.ix3 h r d := ⟨i 0, i 1, i 2, ValueIdx.eq_ix3 i⟩
    exact (R.gk h r d).trans ((col_congr (eR r) h1 rfl).trans (res_gk m c h r d).symm)
  · obtain ⟨h, r, d, rfl⟩ : ∃ (h : Fin 4) (r : Fin 128) (d : Fin 64), i = ValueIdx.ix3 h r d := ⟨i 0, i 1, i 2, ValueIdx.eq_ix3 i⟩
    refine (R.lg h r d).trans (Eq.trans ?_ (res_lg m c h r d).symm)
    exact congrArg logGate (gateIn_congr (eR r) h1 h2 h3 _)
  · obtain ⟨r, d, rfl⟩ : ∃ (r : Fin 128) (d : Fin 512), i = ValueIdx.ix2 r d := ⟨i 0, i 1, ValueIdx.eq_ix2 i⟩
    exact (R.gv r d).trans ((col_congr (eR r) h1 rfl).trans (res_gv m c r d).symm)
  · obtain ⟨r, d, rfl⟩ : ∃ (r : Fin 128) (d : Fin 512), i = ValueIdx.ix2 r d := ⟨i 0, i 1, ValueIdx.eq_ix2 i⟩
    exact (R.gr r d).trans ((col_congr (eR r) h1 rfl).trans (res_gr m c r d).symm)

end Cert.Proj.Sample

end
-- ==== Proof.Proj.PromptBlock.lean ====
/- The input projection of the prompt rows: what one grid point leaves in each of its output blocks. -/
module

public import proofs.«01_k».proof.Proof.Proj.Spec
public import proofs.«01_k».proof.Proof.Gen.Kernel3Ideal.Value
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Kernel3Ideal.Proj

open Cert.Kernel3Ideal Cert.Kernel3Ideal.Gen Cert.Proj
open Idealize.ShloMosaic Idealize.ShloMosaic.TcCoe Idealize.SL.Sem

/-- Reading part of a buffer that holds a block is reading that part of the block. -/
theorem readAt_ld {sig : RefSig} {κ : Kind} {sp : Space} {s : Shape} {e : EltTy} {Val : EltTy → Type} {m : Memref sig κ sp s e} (h : m.IsWhole) (X : s.Idx → Val e) (R : Rect s) :
    View.readAt Val m.view R.toLoadRect (h.unread X) = View.ld X R := funext fun x => h.readAt_unread X R.toLoadRect x

/-- One head's piece of a block read at an index, as a function of the block's own index. -/
theorem piece3 {a b c : ℕ} (h : Fin a) (x : Shape.Idx ⟨3, ![1, b, c]⟩) (g : Fin a → Fin b → Fin c → EReal) (p : Shape.Idx ⟨3, ![1, b, c]⟩ → EReal) (hp : ∀ s d, p (ValueIdx.ix3 0 s d) = g h s d)
    (y : Shape.Idx ⟨3, ![a, b, c]⟩) (e0 : (y 0).val = h.val + 1 * (x 0).val) (e1 : (y 1).val = 0 + 1 * (x 1).val) (e2 : (y 2).val = 0 + 1 * (x 2).val) :
    p x = g (y 0) (y 1) (y 2) := by
  obtain ⟨z, s, d, rfl⟩ : ∃ (z : Fin 1) (s : Fin b) (d : Fin c), x = ValueIdx.ix3 z s d := ⟨x 0, x 1, x 2, ValueIdx.eq_ix3 x⟩
  obtain rfl : z = 0 := Subsingleton.elim _ _
  have e0' : (y 0).val = h.val + 1 * 0 := e0
  have e1' : (y 1).val = 0 + 1 * s.val := e1
  have e2' : (y 2).val = 0 + 1 * d.val := e2
  rw [hp, show y 0 = h from Fin.ext (by omega), show y 1 = s from Fin.ext (by omega), show y 2 = d from Fin.ext (by omega)]

/-! ## The payloads of the stores -/

section Payloads
variable (x0 : Vec Ideal S512x1024 .f32)

/-- A row against a column. -/
def dot {n : ℕ} (P : Vec Ideal ⟨2, ![1024, n]⟩ .bf16) (s : Fin 512) (j : Fin n) : EReal := ∑ k, x0 (ValueIdx.ix2 s k) * P (ValueIdx.ix2 k j)
def qOut (P : Vec Ideal S1024x512 .bf16) (h : Fin 8) (s : Fin 512) (d : Fin 64) : EReal := dot x0 P s ⟨h.val * 64 + d.val, by omega⟩ * eighth

theorem pay_q (P : Vec Ideal S1024x512 .bf16) (s : Fin 512) (j : Fin 512) : k0_pay10 (F := Ideal) x0 P (ValueIdx.ix2 s j) = dot x0 P s j * eighth := by
  unfold k0_pay10 k0_pay7 dot
  pointwise
  rfl
theorem pay_q0 (P : Vec Ideal S1024x512 .bf16) (s : Fin 512) (d : Fin 64) : k0_pay11 (F := Ideal) x0 P (ValueIdx.ix3 0 s d) = qOut x0 P 0 s d := by
  unfold k0_pay11 k0_pay10 k0_pay7 qOut dot
  pointwise
  rfl
theorem pay_q1 (P : Vec Ideal S1024x512 .bf16) (s : Fin 512) (d : Fin 64) : k0_pay12 (F := Ideal) x0 P (ValueIdx.ix3 0 s d) = qOut x0 P 1 s d := by
  unfold k0_pay12 k0_pay10 k0_pay7 qOut dot
  pointwise
  rfl
theorem pay_q2 (P : Vec Ideal S1024x512 .bf16) (s : Fin 512) (d : Fin 64) : k0_pay14 (F := Ideal) (k0_pay13 x0 P) (ValueIdx.ix3 0 s d) = qOut x0 P 2 s d := by
  unfold k0_pay14 k0_pay13 k0_pay10 k0_pay7 qOut dot
  pointwise
  rfl
theorem pay_q3 (P : Vec Ideal S1024x512 .bf16) (s : Fin 512) (d : Fin 64) : k0_pay15 (F := Ideal) (k0_pay10 x0 P) (ValueIdx.ix3 0 s d) = qOut x0 P 3 s d := by
  unfold k0_pay15 k0_pay10 k0_pay7 qOut dot
  pointwise
  rfl
theorem pay_q4 (P : Vec Ideal S1024x512 .bf16) (s : Fin 512) (d : Fin 64) : k0_pay16 (F := Ideal) (k0_pay10 x0 P) (ValueIdx.ix3 0 s d) = qOut x0 P 4 s d := by
  unfold k0_pay16 k0_pay10 k0_pay7 qOut dot
  pointwise
  rfl
theorem pay_q5 (P : Vec Ideal S1024x512 .bf16) (s : Fin 512) (d : Fin 64) : k0_pay17 (F := Ideal) (k0_pay10 x0 P) (ValueIdx.ix3 0 s d) = qOut x0 P 5 s d := by
  unfold k0_pay17 k0_pay10 k0_pay7 qOut dot
  pointwise
  rfl
theorem pay_q6 (P : Vec Ideal S1024x512 .bf16) (s : Fin 512) (d : Fin 64) : k0_pay18 (F := Ideal) (k0_pay10 x0 P) (ValueIdx.ix3 0 s d) = qOut x0 P 6 s d := by
  unfold k0_pay18 k0_pay10 k0_pay7 qOut dot
  pointwise
  rfl
theorem pay_q7 (P : Vec Ideal S1024x512 .bf16) (s : Fin 512) (d : Fin 64) : k0_pay19 (F := Ideal) (k0_pay10 x0 P) (ValueIdx.ix3 0 s d) = qOut x0 P 7 s d := by
  unfold k0_pay19 k0_pay10 k0_pay7 qOut dot
  pointwise
  rfl

def kvOut (P : Vec Ideal S512x1024 .bf16) (z : Fin 1) (j s : Fin 512) : EReal := ∑ k, x0 (ValueIdx.ix2 s k) * P (ValueIdx.ix2 j k)
theorem pay_k (P : Vec Ideal S512x1024 .bf16) (j s : Fin 512) : k0_pay8 (F := Ideal) x0 P (ValueIdx.ix3 0 j s) = kvOut x0 P 0 j s := by
  unfold k0_pay8 k0_pay7 kvOut
  pointwise
  exact Finset.sum_congr rfl fun k _ => mul_comm _ _
theorem pay_v (P : Vec Ideal S512x1024 .bf16) (j s : Fin 512) : k0_pay9 (F := Ideal) x0 P (ValueIdx.ix3 0 j s) = kvOut x0 P 0 j s := by
  unfold k0_pay9 k0_pay7 kvOut
  pointwise
  exact Finset.sum_congr rfl fun k _ => mul_comm _ _

theorem pay_gq (P : Vec Ideal S1024x256 .bf16) (s : Fin 512) (j : Fin 256) : k0_pay21 (F := Ideal) (k0_pay20 (k0_pay7 x0) P) kernelRun0_A.sl.cst_35 (ValueIdx.ix2 s j) = dot x0 P s j * eighth := by
  unfold k0_pay21 k0_pay20 k0_pay7 kernelRun0_A.sl.cst_35 dot
  pointwise
  rfl
theorem pay_gk (P : Vec Ideal S1024x256 .bf16) (s : Fin 512) (j : Fin 256) : k0_pay22 (F := Ideal) (k0_pay7 x0) P (ValueIdx.ix2 s j) = dot x0 P s j := by
  unfold k0_pay22 k0_pay7 dot
  pointwise
  rfl
theorem pay_gv (P : Vec Ideal S1024x512 .bf16) (s : Fin 512) (j : Fin 512) : k0_pay23 (F := Ideal) (k0_pay7 x0) P (ValueIdx.ix2 s j) = dot x0 P s j := by
  unfold k0_pay23 k0_pay7 dot
  pointwise
  rfl
theorem pay_gr (P : Vec Ideal S1024x512 .bf16) (s : Fin 512) (j : Fin 512) : k0_pay24 (F := Ideal) (k0_pay7 x0) P (ValueIdx.ix2 s j) = dot x0 P s j := by
  unfold k0_pay24 k0_pay7 dot
  pointwise
  rfl

/-- The gate's rows as the body computes them. -/
def gates (x3 : Vec Ideal S1024x128 .bf16) (x4 : Vec Ideal S128x256 .bf16) (x5 : Vec Ideal S1x256 .f32) : FVec Ideal S512x256 .f32 :=
  k0_pay29 (k0_pay26 (k0_pay7 x0) x3 x4 x5) (k0_pay27 (k0_pay7 x0) x3 x4 x5) k0_pay28
theorem gates_apply (x3 : Vec Ideal S1024x128 .bf16) (x4 : Vec Ideal S128x256 .bf16) (x5 : Vec Ideal S1x256 .f32) (s : Fin 512) (j : Fin 256) :
    gates x0 x3 x4 x5 (ValueIdx.ix2 s j) = logGate (∑ i : Fin 128, (∑ k, x0 (ValueIdx.ix2 s k) * x3 (ValueIdx.ix2 k i)) * x4 (ValueIdx.ix2 i j) + x5 (ValueIdx.ix2 0 j)) := by
  unfold gates k0_pay29 k0_pay26 k0_pay27 k0_pay28 k0_pay25 k0_pay7
  pointwise
  exact gate_eq _

end Payloads

/-! ## One head's columns of a block of rows -/

section Heads
variable (Z : FVec Ideal S512x256 .f32) (s : Fin 512) (d : Fin 64)

def headOut (h : Fin 4) (s : Fin 512) (d : Fin 64) : EReal := Z (ValueIdx.ix2 s ⟨h.val * 64 + d.val, by omega⟩)

theorem gq0 : k0_pay30 (F := Ideal) Z (ValueIdx.ix3 0 s d) = headOut Z 0 s d := by
  unfold k0_pay30 headOut
  pointwise
  rfl
theorem gq1 : k0_pay33 (F := Ideal) Z (ValueIdx.ix3 0 s d) = headOut Z 1 s d := by
  unfold k0_pay33 headOut
  pointwise
  rfl
theorem gq2 : k0_pay1 (F := Ideal) (k0_pay36 Z) (ValueIdx.ix3 0 s d) = headOut Z 2 s d := by
  unfold k0_pay1 k0_pay36 headOut
  pointwise
  rfl
theorem gq3 : k0_pay4 (F := Ideal) Z (ValueIdx.ix3 0 s d) = headOut Z 3 s d := by
  unfold k0_pay4 headOut
  pointwise
  rfl
theorem gk0 : k0_pay31 (F := Ideal) Z (ValueIdx.ix3 0 s d) = headOut Z 0 s d := by
  unfold k0_pay31 headOut
  pointwise
  rfl
theorem gk1 : k0_pay34 (F := Ideal) Z (ValueIdx.ix3 0 s d) = headOut Z 1 s d := by
  unfold k0_pay34 headOut
  pointwise
  rfl
theorem gk2 : k0_pay2 (F := Ideal) Z (ValueIdx.ix3 0 s d) = headOut Z 2 s d := by
  unfold k0_pay2 headOut
  pointwise
  rfl
theorem gk3 : k0_pay5 (F := Ideal) Z (ValueIdx.ix3 0 s d) = headOut Z 3 s d := by
  unfold k0_pay5 headOut
  pointwise
  rfl
theorem lg0 (A B C : FVec Ideal S512x256 .f32) : k0_pay32 (F := Ideal) A B C (ValueIdx.ix3 0 s d) = headOut (k0_pay29 A B C) 0 s d := by
  unfold k0_pay32 headOut
  generalize k0_pay29 A B C = Y
  pointwise
  rfl
theorem lg1 (A B C : FVec Ideal S512x256 .f32) : k0_pay35 (F := Ideal) A B C (ValueIdx.ix3 0 s d) = headOut (k0_pay29 A B C) 1 s d := by
  unfold k0_pay35 headOut
  generalize k0_pay29 A B C = Y
  pointwise
  rfl
theorem lg2 : k0_pay3 (F := Ideal) Z (ValueIdx.ix3 0 s d) = headOut Z 2 s d := by
  unfold k0_pay3 headOut
  pointwise
  rfl
theorem lg3 : k0_pay6 (F := Ideal) Z (ValueIdx.ix3 0 s d) = headOut Z 3 s d := by
  unfold k0_pay6 headOut
  pointwise
  rfl

end Heads

/-! ## The blocks that a grid point writes back -/

section Blocks
variable (m : (ℓ : Loc nD τ sig) → Buf (Elt Ideal) ℓ) (c : Dev nD) (t : Fin cfg0.N)

/-- The input blocks at their own types, and the parts of them that the body loads. -/
abbrev bX : Vec Ideal S512x1024 .f32 := iblk m c 0 t
abbrev bMain : Vec Ideal S1024x2048 .bf16 := iblk m c 1 t
abbrev bKvt : Vec Ideal S1024x1024 .bf16 := iblk m c 2 t
abbrev bDown : Vec Ideal S1024x128 .bf16 := iblk m c 3 t
abbrev bUp : Vec Ideal S128x256 .bf16 := iblk m c 4 t
abbrev bBias : Vec Ideal S1x256 .f32 := iblk m c 5 t

abbrev lX (x : Vec Ideal S512x1024 .f32) : Vec Ideal S512x1024 .f32 := View.ld x (Rect.unit ![0, 0] ![512, 1024] inb_S512x1024_S512x1024_0_0)
abbrev lQ (x : Vec Ideal S1024x2048 .bf16) : Vec Ideal S1024x512 .bf16 := View.ld x (Rect.unit ![0, 0] ![1024, 512] inb_S1024x2048_S1024x512_0_0)
abbrev lK (x : Vec Ideal S1024x1024 .bf16) : Vec Ideal S512x1024 .bf16 := View.ld x (Rect.unit ![0, 0] ![512, 1024] inb_S1024x1024_S512x1024_0_0)
abbrev lV (x : Vec Ideal S1024x1024 .bf16) : Vec Ideal S512x1024 .bf16 := View.ld x (Rect.unit ![512, 0] ![512, 1024] inb_S1024x1024_S512x1024_512_0)

abbrev lGq (x : Vec Ideal S1024x2048 .bf16) : Vec Ideal S1024x256 .bf16 := View.ld x (Rect.unit ![0, 512] ![1024, 256] inb_S1024x2048_S1024x256_0_512)
abbrev lGk (x : Vec Ideal S1024x2048 .bf16) : Vec Ideal S1024x256 .bf16 := View.ld x (Rect.unit ![0, 768] ![1024, 256] inb_S1024x2048_S1024x256_0_768)
abbrev lGv (x : Vec Ideal S1024x2048 .bf16) : Vec Ideal S1024x512 .bf16 := View.ld x (Rect.unit ![0, 1024] ![1024, 512] inb_S1024x2048_S1024x512_0_1024)
abbrev lGr (x : Vec Ideal S1024x2048 .bf16) : Vec Ideal S1024x512 .bf16 := View.ld x (Rect.unit ![0, 1536] ![1024, 512] inb_S1024x2048_S1024x512_0_1536)
abbrev lDown (x : Vec Ideal S1024x128 .bf16) : Vec Ideal S1024x128 .bf16 := View.ld x (Rect.unit ![0, 0] ![1024, 128] inb_S1024x128_S1024x128_0_0)
abbrev lUp (x : Vec Ideal S128x256 .bf16) : Vec Ideal S128x256 .bf16 := View.ld x (Rect.unit ![0, 0] ![128, 256] inb_S128x256_S128x256_0_0)
abbrev lBias (x : Vec Ideal S1x256 .f32) : Vec Ideal S1x256 .f32 := View.ld x (Rect.unit ![0, 0] ![1, 256] inb_S1x256_S1x256_0_0)

/-- What each output block holds. -/
def blkQ : Vec Ideal S8x512x64 .bf16 := fun y => qOut (lX (bX m c t)) (lQ (bMain m c t)) (y 0) (y 1) (y 2)
def blkK : Vec Ideal S1x512x512 .f32 := fun y => kvOut (lX (bX m c t)) (lK (bKvt m c t)) (y 0) (y 1) (y 2)
def blkV : Vec Ideal S1x512x512 .f32 := fun y => kvOut (lX (bX m c t)) (lV (bKvt m c t)) (y 0) (y 1) (y 2)
def rowsGq : FVec Ideal S512x256 .f32 := k0_pay21 (F := Ideal) (k0_pay20 (k0_pay7 (lX (bX m c t))) (lGq (bMain m c t))) kernelRun0_A.sl.cst_35
def rowsGk : FVec Ideal S512x256 .f32 := k0_pay22 (F := Ideal) (k0_pay7 (lX (bX m c t))) (lGk (bMain m c t))
def rowsLg : FVec Ideal S512x256 .f32 := gates (lX (bX m c t)) (lDown (bDown m c t)) (lUp (bUp m c t)) (lBias (bBias m c t))
def blkGq : Vec Ideal S4x512x64 .f32 := fun y => headOut (rowsGq m c t) (y 0) (y 1) (y 2)
def blkGk : Vec Ideal S4x512x64 .f32 := fun y => headOut (rowsGk m c t) (y 0) (y 1) (y 2)
def blkLg : Vec Ideal S4x512x64 .f32 := fun y => headOut (rowsLg m c t) (y 0) (y 1) (y 2)
def blkGv : Vec Ideal S512x512 .f32 := k0_pay23 (F := Ideal) (k0_pay7 (lX (bX m c t))) (lGv (bMain m c t))
def blkGr : Vec Ideal S512x512 .f32 := k0_pay24 (F := Ideal) (k0_pay7 (lX (bX m c t))) (lGr (bMain m c t))

theorem flush_q : (dats m 0 c).flushed 6 t = (cfg0.win 6).cut (grid0.coords t) (blkQ m c t) := by
  rw [Value.flushed6_A]
  refine congrArg _ (funext fun y => ?_)
  unfold out0_A_6
  rw [View.read_writes_junk_eq_canon]
  refine View.canon_apply_of_pieces (blkQ m c t) _ ?_ y (cover0_A_6 _ _ _ _ _ _ _ _ _ _ _ _ _ _ _ _ _ _ _ _ _ _ _ _ _ _ _ _ _ _ _ _ _ _ _ _ y)
  unfold kernelRun0_A
  simp only [readAt_ld, kernelRun0_A.sl.r_1, kernelRun0_A.sl.r_2]
  refine List.forall_mem_cons.mpr ⟨fun x => piece3 7 x (qOut _ _) _ (pay_q7 _ _) _ rfl rfl rfl, List.forall_mem_cons.mpr ⟨fun x => piece3 6 x (qOut _ _) _ (pay_q6 _ _) _ rfl rfl rfl, List.forall_mem_cons.mpr ⟨fun x => piece3 5 x (qOut _ _) _ (pay_q5 _ _) _ rfl rfl rfl, List.forall_mem_cons.mpr ⟨fun x => piece3 4 x (qOut _ _) _ (pay_q4 _ _) _ rfl rfl rfl, ?_⟩⟩⟩⟩
  exact List.forall_mem_cons.mpr ⟨fun x => piece3 3 x (qOut _ _) _ (pay_q3 _ _) _ rfl rfl rfl, List.forall_mem_cons.mpr ⟨fun x => piece3 2 x (qOut _ _) _ (pay_q2 _ _) _ rfl rfl rfl, List.forall_mem_cons.mpr ⟨fun x => piece3 1 x (qOut _ _) _ (pay_q1 _ _) _ rfl rfl rfl, List.forall_mem_cons.mpr ⟨fun x => piece3 0 x (qOut _ _) _ (pay_q0 _ _) _ rfl rfl rfl, fun p hp => absurd hp List.not_mem_nil⟩⟩⟩⟩
theorem flush_k : (dats m 0 c).flushed 7 t = (cfg0.win 7).cut (grid0.coords t) (blkK m c t) := by
  rw [Value.flushed7_A]
  refine congrArg _ (funext fun y => ?_)
  unfold out0_A_7
  rw [View.read_writes_junk_eq_canon]
  refine View.canon_apply_of_pieces (blkK m c t) _ ?_ y (cover0_A_7 _ _ _ _ _ _ _ _ _ _ _ _ _ _ _ _ _ _ _ _ _ _ _ _ _ _ _ _ _ _ _ _ _ _ _ _ y)
  unfold kernelRun0_A
  simp only [readAt_ld]
  exact List.forall_mem_cons.mpr ⟨fun x => piece3 0 x (kvOut _ _) _ (pay_k _ _) _ rfl rfl rfl, fun p hp => absurd hp List.not_mem_nil⟩
theorem flush_v : (dats m 0 c).flushed 8 t = (cfg0.win 8).cut (grid0.coords t) (blkV m c t) := by
  rw [Value.flushed8_A]
  refine congrArg _ (funext fun y => ?_)
  unfold out0_A_8
  rw [View.read_writes_junk_eq_canon]
  refine View.canon_apply_of_pieces (blkV m c t) _ ?_ y (cover0_A_8 _ _ _ _ _ _ _ _ _ _ _ _ _ _ _ _ _ _ _ _ _ _ _ _ _ _ _ _ _ _ _ _ _ _ _ _ y)
  unfold kernelRun0_A
  simp only [readAt_ld]
  exact List.forall_mem_cons.mpr ⟨fun x => piece3 0 x (kvOut _ _) _ (pay_v _ _) _ rfl rfl rfl, fun p hp => absurd hp List.not_mem_nil⟩
theorem flush_gq : (dats m 0 c).flushed 9 t = (cfg0.win 9).cut (grid0.coords t) (blkGq m c t) := by
  rw [Value.flushed9_A]
  refine congrArg _ (funext fun y => ?_)
  unfold out0_A_9
  rw [View.read_writes_junk_eq_canon]
  refine View.canon_apply_of_pieces (blkGq m c t) _ ?_ y (cover0_A_9 _ _ _ _ _ _ _ _ _ _ _ _ _ _ _ _ _ _ _ _ _ _ _ _ _ _ _ _ _ _ _ _ _ _ _ _ y)
  unfold kernelRun0_A
  simp only [readAt_ld, kernelRun0_A.sl.r, kernelRun0_A.sl.r_3, kernelRun0_A.sl.r_4, kernelRun0_A.sl.r_9]
  exact List.forall_mem_cons.mpr ⟨fun x => piece3 3 x (headOut (rowsGq m c t)) _ (gq3 (rowsGq m c t)) _ rfl rfl rfl, List.forall_mem_cons.mpr ⟨fun x => piece3 2 x (headOut (rowsGq m c t)) _ (gq2 (rowsGq m c t)) _ rfl rfl rfl, List.forall_mem_cons.mpr ⟨fun x => piece3 1 x (headOut (rowsGq m c t)) _ (gq1 (rowsGq m c t)) _ rfl rfl rfl, List.forall_mem_cons.mpr ⟨fun x => piece3 0 x (headOut (rowsGq m c t)) _ (gq0 (rowsGq m c t)) _ rfl rfl rfl, fun p hp => absurd hp List.not_mem_nil⟩⟩⟩⟩
theorem flush_gk : (dats m 0 c).flushed 10 t = (cfg0.win 10).cut (grid0.coords t) (blkGk m c t) := by
  rw [Value.flushed10_A]
  refine congrArg _ (funext fun y => ?_)
  unfold out0_A_10
  rw [View.read_writes_junk_eq_canon]
  refine View.canon_apply_of_pieces (blkGk m c t) _ ?_ y (cover0_A_10 _ _ _ _ _ _ _ _ _ _ _ _ _ _ _ _ _ _ _ _ _ _ _ _ _ _ _ _ _ _ _ _ _ _ _ _ y)
  unfold kernelRun0_A
  simp only [readAt_ld, kernelRun0_A.sl.r, kernelRun0_A.sl.r_5]
  exact List.forall_mem_cons.mpr ⟨fun x => piece3 3 x (headOut (rowsGk m c t)) _ (gk3 (rowsGk m c t)) _ rfl rfl rfl, List.forall_mem_cons.mpr ⟨fun x => piece3 2 x (headOut (rowsGk m c t)) _ (gk2 (rowsGk m c t)) _ rfl rfl rfl, List.forall_mem_cons.mpr ⟨fun x => piece3 1 x (headOut (rowsGk m c t)) _ (gk1 (rowsGk m c t)) _ rfl rfl rfl, List.forall_mem_cons.mpr ⟨fun x => piece3 0 x (headOut (rowsGk m c t)) _ (gk0 (rowsGk m c t)) _ rfl rfl rfl, fun p hp => absurd hp List.not_mem_nil⟩⟩⟩⟩
theorem flush_lg : (dats m 0 c).flushed 11 t = (cfg0.win 11).cut (grid0.coords t) (blkLg m c t) := by
  rw [Value.flushed11_A]
  refine congrArg _ (funext fun y => ?_)
  unfold out0_A_11
  rw [View.read_writes_junk_eq_canon]
  refine View.canon_apply_of_pieces (blkLg m c t) _ ?_ y (cover0_A_11 _ _ _ _ _ _ _ _ _ _ _ _ _ _ _ _ _ _ _ _ _ _ _ _ _ _ _ _ _ _ _ _ _ _ _ _ y)
  unfold kernelRun0_A
  simp only [readAt_ld, kernelRun0_A.sl.r, kernelRun0_A.sl.r_6, kernelRun0_A.sl.r_7, kernelRun0_A.sl.r_8]
  exact List.forall_mem_cons.mpr ⟨fun x => piece3 3 x (headOut (rowsLg m c t)) _ (lg3 (rowsLg m c t)) _ rfl rfl rfl, List.forall_mem_cons.mpr ⟨fun x => piece3 2 x (headOut (rowsLg m c t)) _ (lg2 (rowsLg m c t)) _ rfl rfl rfl, List.forall_mem_cons.mpr ⟨fun x => piece3 1 x (headOut (rowsLg m c t)) _ (fun s d => lg1 s d _ _ _) _ rfl rfl rfl, List.forall_mem_cons.mpr ⟨fun x => piece3 0 x (headOut (rowsLg m c t)) _ (fun s d => lg0 s d _ _ _) _ rfl rfl rfl, fun p hp => absurd hp List.not_mem_nil⟩⟩⟩⟩
theorem flush_gv : (dats m 0 c).flushed 12 t = (cfg0.win 12).cut (grid0.coords t) (blkGv m c t) := by
  rw [Value.flushed12_A]
  refine congrArg _ (funext fun y => ?_)
  unfold out0_A_12
  rw [View.read_writes_junk_eq_canon]
  unfold kernelRun0_A
  simp only [readAt_ld, kernelRun0_A.sl.r]
  rw [View.canon_cons_unit_lit _ _ _ (by decide)]
  rfl
theorem flush_gr : (dats m 0 c).flushed 13 t = (cfg0.win 13).cut (grid0.coords t) (blkGr m c t) := by
  rw [Value.flushed13_A]
  refine congrArg _ (funext fun y => ?_)
  unfold out0_A_13
  rw [View.read_writes_junk_eq_canon]
  unfold kernelRun0_A
  simp only [readAt_ld, kernelRun0_A.sl.r]
  rw [View.canon_cons_unit_lit _ _ _ (by decide)]
  rfl

end Blocks

end Cert.Kernel3Ideal.Proj

end
-- ==== Proof.Proj.Prompt.lean ====
/- The input projection of the prompt rows: what the kernel's eight results hold at an index. -/
module

public import proofs.«01_k».proof.Proof.Proj.PromptBlock
public import Idealize.ShloMosaic.Lib.StableHlo.RunRead

@[expose] public section

set_option maxRecDepth 16384

noncomputable section

namespace Cert.Kernel3Ideal.Proj

open Cert.Kernel3Ideal Cert.Kernel3Ideal.Gen Cert.Proj
open Idealize.ShloMosaic Idealize.ShloMosaic.TcCoe Idealize.SL.Sem

/-! ## The loads of the body -/

section Loads
theorem lX_eq (x : Vec Ideal S512x1024 .f32) : lX x = x := View.ld_unit_lit _ x (by decide)
theorem lDown_eq (x : Vec Ideal S1024x128 .bf16) : lDown x = x := View.ld_unit_lit _ x (by decide)
theorem lUp_eq (x : Vec Ideal S128x256 .bf16) : lUp x = x := View.ld_unit_lit _ x (by decide)
theorem lBias_eq (x : Vec Ideal S1x256 .f32) : lBias x = x := View.ld_unit_lit _ x (by decide)
theorem lQ_apply (x : Vec Ideal S1024x2048 .bf16) (k : Fin 1024) (j : Fin 512) : lQ x (ValueIdx.ix2 k j) = x (ValueIdx.ix2 k ⟨j.val, by omega⟩) := by
  unfold lQ
  pointwise
  rfl
theorem lGq_apply (x : Vec Ideal S1024x2048 .bf16) (k : Fin 1024) (j : Fin 256) : lGq x (ValueIdx.ix2 k j) = x (ValueIdx.ix2 k ⟨512 + j.val, by omega⟩) := by
  unfold lGq
  pointwise
  rfl
theorem lGk_apply (x : Vec Ideal S1024x2048 .bf16) (k : Fin 1024) (j : Fin 256) : lGk x (ValueIdx.ix2 k j) = x (ValueIdx.ix2 k ⟨768 + j.val, by omega⟩) := by
  unfold lGk
  pointwise
  rfl
theorem lGv_apply (x : Vec Ideal S1024x2048 .bf16) (k : Fin 1024) (j : Fin 512) : lGv x (ValueIdx.ix2 k j) = x (ValueIdx.ix2 k ⟨1024 + j.val, by omega⟩) := by
  unfold lGv
  pointwise
  rfl
theorem lGr_apply (x : Vec Ideal S1024x2048 .bf16) (k : Fin 1024) (j : Fin 512) : lGr x (ValueIdx.ix2 k j) = x (ValueIdx.ix2 k ⟨1536 + j.val, by omega⟩) := by
  unfold lGr
  pointwise
  rfl
theorem lK_apply (x : Vec Ideal S1024x1024 .bf16) (j : Fin 512) (k : Fin 1024) : lK x (ValueIdx.ix2 j k) = x (ValueIdx.ix2 ⟨j.val, by omega⟩ k) := by
  unfold lK
  pointwise
  rfl
theorem lV_apply (x : Vec Ideal S1024x1024 .bf16) (j : Fin 512) (k : Fin 1024) : lV x (ValueIdx.ix2 j k) = x (ValueIdx.ix2 ⟨512 + j.val, by omega⟩ k) := by
  unfold lV
  pointwise
  rfl
end Loads

/-! ## The arrays that the host code prepares -/

section Arrays
variable (m : (ℓ : Loc nD τ sig) → Buf (Elt Ideal) ℓ) (c : Dev nD)

/-- The arguments at their own types. -/
abbrev argX : Vec Ideal S16x2048x1024 .f32 := m ((c : Thread nD τ).loc main_arg0)
abbrev argW : Vec Ideal S1024x3088 .f32 := m ((c : Thread nD τ).loc main_arg1)
abbrev argU : Vec Ideal S16x256 .f32 := m ((c : Thread nD τ).loc main_arg2)
abbrev argB : Vec Ideal S256 .f32 := m ((c : Thread nD τ).loc main_arg3)
abbrev argK : Vec Ideal S32x512x2048 .f32 := m ((c : Thread nD τ).loc main_arg4)
abbrev argV : Vec Ideal S32x512x2048 .f32 := m ((c : Thread nD τ).loc main_arg5)

theorem V_x : V m c main_v0 = shapeCast S32768x1024 (argX m c) shapeCasts_S16x2048x1024_S32768x1024 := by
  show StableHlo.after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append]
  after_reads_simp
  rfl
theorem V_main : V m c main_v4 = wMain (argW m c) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_reads_simp
  rfl
theorem V_kvt : V m c main_v7 = wKvt (argW m c) := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_reads_simp
  rfl
theorem V_down : V m c main_v10 = wDown (argW m c) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append]
  after_reads_simp
  rfl
theorem V_up : V m c main_v12 = wUp (argU m c) := by
  show StableHlo.after (List.flatten [hostOps0, hostOps0_1, hostOps0_2, hostOps0_3, hostOps0_4]) (fun b => m (c, b)) (Proc.devRef .tc main_v12) = _
  simp only [hostOps0, hostOps0_1, hostOps0_2, hostOps0_3, hostOps0_4, List.flatten_cons, List.flatten_nil, List.append_nil, List.cons_append, List.nil_append]
  after_reads_simp
  rfl
theorem V_bias : V m c main_v13 = broadcastInDim S1x256 ![1] bcast_S256_S1x256_1 (argB m c) := by
  show StableHlo.after (List.flatten [hostOps0, hostOps0_1, hostOps0_2, hostOps0_3, hostOps0_4]) (fun b => m (c, b)) (Proc.devRef .tc main_v13) = _
  simp only [hostOps0, hostOps0_1, hostOps0_2, hostOps0_3, hostOps0_4, List.flatten_cons, List.flatten_nil, List.append_nil, List.cons_append, List.nil_append]
  after_reads_simp
theorem V_k : V m c main_v14_1 = argK m c := by
  show StableHlo.after (List.flatten [hostOps0, hostOps0_1, hostOps0_2, hostOps0_3, hostOps0_4]) (fun b => m (c, b)) (Proc.devRef .tc main_v14_1) = _
  simp only [hostOps0, hostOps0_1, hostOps0_2, hostOps0_3, hostOps0_4, List.flatten_cons, List.flatten_nil, List.append_nil, List.cons_append, List.nil_append]
  after_reads_simp
  rfl
theorem V_v : V m c main_v14_2 = argV m c := by
  show StableHlo.after (List.flatten [hostOps0, hostOps0_1, hostOps0_2, hostOps0_3, hostOps0_4]) (fun b => m (c, b)) (Proc.devRef .tc main_v14_2) = _
  simp only [hostOps0, hostOps0_1, hostOps0_2, hostOps0_3, hostOps0_4, List.flatten_cons, List.flatten_nil, List.append_nil, List.cons_append, List.nil_append]
  after_reads_simp
  rfl

/-! ## The blocks -/

theorem in_idx (t : Fin grid0.N) : cc0_transform_0 (grid0.coords t) = ![t.val, 0] ∧ cc0_transform_1 (grid0.coords t) = ![0, 0] ∧ cc0_transform_2 (grid0.coords t) = ![0, 0] ∧ cc0_transform_3 (grid0.coords t) = ![0, 0] ∧ cc0_transform_4 (grid0.coords t) = ![0, 0] ∧ cc0_transform_5 (grid0.coords t) = ![0, 0] := by
  revert t; decide +kernel
theorem heads_idx (t : Fin grid0.N) : cc0_transform_8 (grid0.coords t) = ![0, t.val, 0] ∧ cc0_transform_11 (grid0.coords t) = ![0, t.val, 0] ∧ cc0_transform_12 (grid0.coords t) = ![0, t.val, 0] ∧ cc0_transform_13 (grid0.coords t) = ![0, t.val, 0] := by
  revert t; decide +kernel
theorem cache_idx (t : Fin grid0.N) : cc0_transform_9 (grid0.coords t) = ![t.val / 4, 0, t.val % 4] ∧ cc0_transform_10 (grid0.coords t) = ![t.val / 4, 0, t.val % 4] := by
  revert t; decide +kernel
theorem rows_idx (t : Fin grid0.N) : cc0_transform_14 (grid0.coords t) = ![t.val, 0] ∧ cc0_transform_15 (grid0.coords t) = ![t.val, 0] := by
  revert t; decide +kernel

/-- Where a block at a given block index places an entry. -/
theorem place2 {x y X Y p q : ℕ} (f : Fin 2 → ℕ) (hf : f = ![p, q]) (j : Shape.Idx ⟨2, ![x, y]⟩) (i : Shape.Idx ⟨2, ![X, Y]⟩) (e0 : p * x + 1 * (j 0).val = (i 0).val) (e1 : q * y + 1 * (j 1).val = (i 1).val) (a : Fin 2) :
    f a * (![x, y] : Fin 2 → ℕ) a + 1 * (j a).val = (i a).val := by
  rw [hf]
  match a with
  | ⟨0, _⟩ => exact e0
  | ⟨1, _⟩ => exact e1
theorem place3 {x y z X Y Z p q r : ℕ} (f : Fin 3 → ℕ) (hf : f = ![p, q, r]) (j : Shape.Idx ⟨3, ![x, y, z]⟩) (i : Shape.Idx ⟨3, ![X, Y, Z]⟩) (e0 : p * x + 1 * (j 0).val = (i 0).val) (e1 : q * y + 1 * (j 1).val = (i 1).val) (e2 : r * z + 1 * (j 2).val = (i 2).val) (a : Fin 3) :
    f a * (![x, y, z] : Fin 3 → ℕ) a + 1 * (j a).val = (i a).val := by
  rw [hf]
  match a with
  | ⟨0, _⟩ => exact e0
  | ⟨1, _⟩ => exact e1
  | ⟨2, _⟩ => exact e2
theorem origin (y n : ℕ) : 0 * y + 1 * n = n := by omega

theorem blk_main (t : Fin cfg0.N) : bMain m c t = wMain (argW m c) :=
  (funext fun j => congrArg (V m c main_v4) (funext fun a => Fin.ext (place2 _ (in_idx t).2.1 j j (origin _ _) (origin _ _) a))).trans (V_main m c)
theorem blk_kvt (t : Fin cfg0.N) : bKvt m c t = wKvt (argW m c) :=
  (funext fun j => congrArg (V m c main_v7) (funext fun a => Fin.ext (place2 _ (in_idx t).2.2.1 j j (origin _ _) (origin _ _) a))).trans (V_kvt m c)
theorem blk_down (t : Fin cfg0.N) : bDown m c t = wDown (argW m c) :=
  (funext fun j => congrArg (V m c main_v10) (funext fun a => Fin.ext (place2 _ (in_idx t).2.2.2.1 j j (origin _ _) (origin _ _) a))).trans (V_down m c)
theorem blk_up (t : Fin cfg0.N) : bUp m c t = wUp (argU m c) :=
  (funext fun j => congrArg (V m c main_v12) (funext fun a => Fin.ext (place2 _ (in_idx t).2.2.2.2.1 j j (origin _ _) (origin _ _) a))).trans (V_up m c)
theorem blk_bias (t : Fin cfg0.N) : bBias m c t = broadcastInDim S1x256 ![1] bcast_S256_S1x256_1 (argB m c) :=
  (funext fun j => congrArg (V m c main_v13) (funext fun a => Fin.ext (place2 _ (in_idx t).2.2.2.2.2 j j (origin _ _) (origin _ _) a))).trans (V_bias m c)

/-- Row `r` of the inputs, the grid point that works on it, and its place in that point's block. -/
def row (r : Fin 32768) (k : Fin 1024) : EReal := argX m c (ValueIdx.ix3 ⟨r.val / 2048, by omega⟩ ⟨r.val % 2048, by omega⟩ k)
def pt (r : Fin 32768) : Fin cfg0.N := ⟨r.val / 512, show r.val / 512 < 64 by omega⟩
def sub (r : Fin 32768) : Fin 512 := ⟨r.val % 512, by omega⟩

theorem pt_sub (r : Fin 32768) : (pt r).val * 512 + 1 * (sub r).val = r.val := by
  show r.val / 512 * 512 + 1 * (r.val % 512) = r.val; omega

theorem x_apply (r : Fin 32768) (k : Fin 1024) : bX m c (pt r) (ValueIdx.ix2 (sub r) k) = row m c r k := by
  refine (congrArg (V m c main_v0) (funext fun a => Fin.ext (place2 _ (in_idx (pt r)).1 (ValueIdx.ix2 (sub r) k : S512x1024.Idx) (ValueIdx.ix2 r k : S32768x1024.Idx) (pt_sub r) (origin _ _) a))).trans ?_
  rw [V_x]
  unfold row
  pointwise
  rfl
theorem bias_apply (t : Fin cfg0.N) (j : Fin 256) : bBias m c t (ValueIdx.ix2 0 j) = argB m c (ValueIdx.ix1 j) := by
  rw [blk_bias]
  pointwise
  rfl

/-- A row's product with a column of the weights, from the block that holds the row. -/
theorem dot_col {n : ℕ} (P : Vec Ideal ⟨2, ![1024, n]⟩ .bf16) (r : Fin 32768) (j : Fin n) (J : Fin 2048) (K : Fin 3088) (h : J.val < 512 ∧ K.val = J.val ∨ 512 ≤ J.val ∧ K.val = 1024 + J.val)
    (hP : ∀ k, P (ValueIdx.ix2 k j) = bMain m c (pt r) (ValueIdx.ix2 k J)) : dot (lX (bX m c (pt r))) P (sub r) j = col (row m c r) (argW m c) K := by
  refine Eq.trans (Finset.sum_congr rfl fun k _ => ?_) (main_col (row m c r) (argW m c) J K h)
  refine congrArg₂ (α := EReal) (β := EReal) (· * ·) ?_ ((hP k).trans (congrFun (blk_main m c _) _))
  rw [lX_eq]
  exact x_apply m c r k
theorem kv_col (P : Vec Ideal S512x1024 .bf16) (r : Fin 32768) (j : Fin 512) (J : Fin 1024) (K : Fin 3088) (h : K.val = 512 + J.val)
    (hP : ∀ k, P (ValueIdx.ix2 j k) = bKvt m c (pt r) (ValueIdx.ix2 J k)) : kvOut (lX (bX m c (pt r))) P 0 j (sub r) = col (row m c r) (argW m c) K := by
  refine Eq.trans (Finset.sum_congr rfl fun k _ => ?_) (kvt_col (row m c r) (argW m c) J K h)
  refine congrArg₂ (α := EReal) (β := EReal) (· * ·) ?_ ((hP k).trans (congrFun (blk_kvt m c _) _))
  rw [lX_eq]
  exact x_apply m c r k
theorem gate_dot (r : Fin 32768) (j : Fin 256) : rowsLg m c (pt r) (ValueIdx.ix2 (sub r) j) = logGate (gateIn (row m c r) (argW m c) (argU m c) (argB m c) j) := by
  refine (gates_apply _ _ _ _ _ _).trans (congrArg logGate ?_)
  rw [lX_eq, lDown_eq, lUp_eq, lBias_eq]
  refine congrArg₂ (α := EReal) (β := EReal) (· + ·) (Eq.trans (Finset.sum_congr rfl fun i _ => ?_) (low_rank (row m c r) (argW m c) (argU m c) j)) (bias_apply m c _ j)
  exact congrArg₂ (α := EReal) (β := EReal) (· * ·) (Finset.sum_congr rfl fun k _ => congrArg₂ (α := EReal) (β := EReal) (· * ·) (x_apply m c r k) (congrFun (blk_down m c _) _)) (congrFun (blk_up m c _) _)

/-! ## The results -/

theorem res_q (h : Fin 8) (r : Fin 32768) (d : Fin 64) :
    ((dats m 0 c).arrAt 6 cfg0.N : Vec Ideal S8x32768x64 .bf16) (ValueIdx.ix3 h r d) = col (row m c r) (argW m c) ⟨h.val * 64 + d.val, by omega⟩ * eighth := by
  have e := congrFun ((Value.blocks6 m c (pt r) (flush0_6 (pt r))).trans (flush_q m c (pt r))) (ValueIdx.ix3 h (sub r) d : S8x512x64.Idx)
  refine (congrArg ((dats m 0 c).arrAt 6 cfg0.N) (funext fun a => Fin.ext (place3 _ (heads_idx (pt r)).1 (ValueIdx.ix3 h (sub r) d : S8x512x64.Idx) (ValueIdx.ix3 h r d : S8x32768x64.Idx) (origin _ _) (pt_sub r) (origin _ _) a))).symm.trans (e.trans ?_)
  refine congrArg (· * eighth) (dot_col m c _ r _ ⟨h.val * 64 + d.val, by omega⟩ _ (Or.inl ⟨?_, rfl⟩) (fun k => lQ_apply _ k _))
  show h.val * 64 + d.val < 512; omega
theorem res_gq (h : Fin 4) (r : Fin 32768) (d : Fin 64) :
    ((dats m 0 c).arrAt 9 cfg0.N : Vec Ideal S4x32768x64 .f32) (ValueIdx.ix3 h r d) = col (row m c r) (argW m c) ⟨1536 + (h.val * 64 + d.val), by omega⟩ * eighth := by
  have e := congrFun ((Value.blocks9 m c (pt r) (flush0_9 (pt r))).trans (flush_gq m c (pt r))) (ValueIdx.ix3 h (sub r) d : S4x512x64.Idx)
  refine (congrArg ((dats m 0 c).arrAt 9 cfg0.N) (funext fun a => Fin.ext (place3 _ (heads_idx (pt r)).2.1 (ValueIdx.ix3 h (sub r) d : S4x512x64.Idx) (ValueIdx.ix3 h r d : S4x32768x64.Idx) (origin _ _) (pt_sub r) (origin _ _) a))).symm.trans (e.trans ?_)
  refine (pay_gq _ _ (sub r) ⟨h.val * 64 + d.val, by omega⟩).trans (congrArg (· * eighth) (dot_col m c _ r _ ⟨512 + (h.val * 64 + d.val), by omega⟩ _ (Or.inr ⟨Nat.le_add_right _ _, ?_⟩) (fun k => lGq_apply _ k _)))
  show 1536 + (h.val * 64 + d.val) = 1024 + (512 + (h.val * 64 + d.val)); omega
theorem res_gk (h : Fin 4) (r : Fin 32768) (d : Fin 64) :
    ((dats m 0 c).arrAt 10 cfg0.N : Vec Ideal S4x32768x64 .f32) (ValueIdx.ix3 h r d) = col (row m c r) (argW m c) ⟨1792 + (h.val * 64 + d.val), by omega⟩ := by
  have e := congrFun ((Value.blocks10 m c (pt r) (flush0_10 (pt r))).trans (flush_gk m c (pt r))) (ValueIdx.ix3 h (sub r) d : S4x512x64.Idx)
  refine (congrArg ((dats m 0 c).arrAt 10 cfg0.N) (funext fun a => Fin.ext (place3 _ (heads_idx (pt r)).2.2.1 (ValueIdx.ix3 h (sub r) d : S4x512x64.Idx) (ValueIdx.ix3 h r d : S4x32768x64.Idx) (origin _ _) (pt_sub r) (origin _ _) a))).symm.trans (e.trans ?_)
  refine (pay_gk _ _ (sub r) ⟨h.val * 64 + d.val, by omega⟩).trans (dot_col m c _ r _ ⟨768 + (h.val * 64 + d.val), by omega⟩ _ (Or.inr ⟨?_, ?_⟩) (fun k => lGk_apply _ k _))
  · show 512 ≤ 768 + (h.val * 64 + d.val); omega
  · show 1792 + (h.val * 64 + d.val) = 1024 + (768 + (h.val * 64 + d.val)); omega
theorem res_lg (h : Fin 4) (r : Fin 32768) (d : Fin 64) :
    ((dats m 0 c).arrAt 11 cfg0.N : Vec Ideal S4x32768x64 .f32) (ValueIdx.ix3 h r d) = logGate (gateIn (row m c r) (argW m c) (argU m c) (argB m c) ⟨h.val * 64 + d.val, by omega⟩) := by
  have e := congrFun ((Value.blocks11 m c (pt r) (flush0_11 (pt r))).trans (flush_lg m c (pt r))) (ValueIdx.ix3 h (sub r) d : S4x512x64.Idx)
  refine (congrArg ((dats m 0 c).arrAt 11 cfg0.N) (funext fun a => Fin.ext (place3 _ (heads_idx (pt r)).2.2.2 (ValueIdx.ix3 h (sub r) d : S4x512x64.Idx) (ValueIdx.ix3 h r d : S4x32768x64.Idx) (origin _ _) (pt_sub r) (origin _ _) a))).symm.trans (e.trans ?_)
  exact gate_dot m c r ⟨h.val * 64 + d.val, by omega⟩
theorem res_gv (r : Fin 32768) (d : Fin 512) :
    ((dats m 0 c).arrAt 12 cfg0.N : Vec Ideal S32768x512 .f32) (ValueIdx.ix2 r d) = col (row m c r) (argW m c) ⟨2048 + d.val, by omega⟩ := by
  have e := congrFun ((Value.blocks12 m c (pt r) (flush0_12 (pt r))).trans (flush_gv m c (pt r))) (ValueIdx.ix2 (sub r) d : S512x512.Idx)
  refine (congrArg ((dats m 0 c).arrAt 12 cfg0.N) (funext fun a => Fin.ext (place2 _ (rows_idx (pt r)).1 (ValueIdx.ix2 (sub r) d : S512x512.Idx) (ValueIdx.ix2 r d : S32768x512.Idx) (pt_sub r) (origin _ _) a))).symm.trans (e.trans ?_)
  refine (pay_gv _ _ (sub r) d).trans (dot_col m c _ r _ ⟨1024 + d.val, by omega⟩ _ (Or.inr ⟨?_, ?_⟩) (fun k => lGv_apply _ k _))
  · show 512 ≤ 1024 + d.val; omega
  · show 2048 + d.val = 1024 + (1024 + d.val); omega
theorem res_gr (r : Fin 32768) (d : Fin 512) :
    ((dats m 0 c).arrAt 13 cfg0.N : Vec Ideal S32768x512 .f32) (ValueIdx.ix2 r d) = col (row m c r) (argW m c) ⟨2560 + d.val, by omega⟩ := by
  have e := congrFun ((Value.blocks13 m c (pt r) (flush0_13 (pt r))).trans (flush_gr m c (pt r))) (ValueIdx.ix2 (sub r) d : S512x512.Idx)
  refine (congrArg ((dats m 0 c).arrAt 13 cfg0.N) (funext fun a => Fin.ext (place2 _ (rows_idx (pt r)).2 (ValueIdx.ix2 (sub r) d : S512x512.Idx) (ValueIdx.ix2 r d : S32768x512.Idx) (pt_sub r) (origin _ _) a))).symm.trans (e.trans ?_)
  refine (pay_gr _ _ (sub r) d).trans (dot_col m c _ r _ ⟨1536 + d.val, by omega⟩ _ (Or.inr ⟨?_, ?_⟩) (fun k => lGr_apply _ k _))
  · show 512 ≤ 1536 + d.val; omega
  · show 2560 + d.val = 1024 + (1536 + d.val); omega

/-- Position `p` of sequence `b`, as a row. -/
def at2 (b : Fin 16) (p : Fin 2048) : Fin 32768 := ⟨b.val * 2048 + p.val, by omega⟩

theorem at2_b (b : Fin 16) (p : Fin 2048) : (pt (at2 b p)).val / 4 * 1 + 1 * 0 = b.val := by
  show (b.val * 2048 + p.val) / 512 / 4 * 1 + 1 * 0 = b.val; omega
theorem at2_p (b : Fin 16) (p : Fin 2048) : (pt (at2 b p)).val % 4 * 512 + 1 * (sub (at2 b p)).val = p.val := by
  show (b.val * 2048 + p.val) / 512 % 4 * 512 + 1 * ((b.val * 2048 + p.val) % 512) = p.val; omega

theorem res_k (b : Fin 16) (j : Fin 512) (p : Fin 2048) :
    ((dats m 0 c).arrAt 7 cfg0.N : Vec Ideal S32x512x2048 .f32) (ValueIdx.ix3 ⟨b.val, by omega⟩ j p) = col (row m c (at2 b p)) (argW m c) ⟨512 + j.val, by omega⟩ := by
  have e := congrFun ((Value.blocks7 m c (pt (at2 b p)) (flush0_7 (pt (at2 b p)))).trans (flush_k m c (pt (at2 b p)))) (ValueIdx.ix3 0 j (sub (at2 b p)) : S1x512x512.Idx)
  refine (congrArg ((dats m 0 c).arrAt 7 cfg0.N) (funext fun a => Fin.ext (place3 _ (cache_idx (pt (at2 b p))).1 (ValueIdx.ix3 0 j (sub (at2 b p)) : S1x512x512.Idx) (ValueIdx.ix3 ⟨b.val, by omega⟩ j p : S32x512x2048.Idx) (at2_b b p) (origin _ _) (at2_p b p) a))).symm.trans (e.trans ?_)
  refine kv_col m c _ (at2 b p) j ⟨j.val, by omega⟩ _ ?_ (fun k => lK_apply _ j k)
  show 512 + j.val = 512 + (j.val); omega
/-- Beyond the sixteen prompt sequences the cache is as the call found it. -/
theorem res_k_rest (b : Fin 32) (hb : 16 ≤ b.val) (j : Fin 512) (p : Fin 2048) :
    ((dats m 0 c).arrAt 7 cfg0.N : Vec Ideal S32x512x2048 .f32) (ValueIdx.ix3 b j p) = argK m c (ValueIdx.ix3 b j p) := by
  refine (Value.entry7 m c (ValueIdx.ix3 b j p : S32x512x2048.Idx) fun t _ hi => ?_).trans (congrFun (V_k m c) _)
  obtain ⟨x, -, hx⟩ := Finset.mem_map.mp hi
  have h0 : cc0_transform_9 (grid0.coords t) 0 * 1 + 1 * (x 0).val = b.val := congrArg (fun i : S32x512x2048.Idx => (i 0).val) hx
  have h1 : cc0_transform_9 (grid0.coords t) 0 = t.val / 4 := congrFun (cache_idx t).1 0
  have h2 : t.val < 64 := t.isLt
  have h3 : (x 0).val < 1 := (x 0).isLt
  omega
theorem res_v (b : Fin 16) (j : Fin 512) (p : Fin 2048) :
    ((dats m 0 c).arrAt 8 cfg0.N : Vec Ideal S32x512x2048 .f32) (ValueIdx.ix3 ⟨b.val, by omega⟩ j p) = col (row m c (at2 b p)) (argW m c) ⟨1024 + j.val, by omega⟩ := by
  have e := congrFun ((Value.blocks8 m c (pt (at2 b p)) (flush0_8 (pt (at2 b p)))).trans (flush_v m c (pt (at2 b p)))) (ValueIdx.ix3 0 j (sub (at2 b p)) : S1x512x512.Idx)
  refine (congrArg ((dats m 0 c).arrAt 8 cfg0.N) (funext fun a => Fin.ext (place3 _ (cache_idx (pt (at2 b p))).2 (ValueIdx.ix3 0 j (sub (at2 b p)) : S1x512x512.Idx) (ValueIdx.ix3 ⟨b.val, by omega⟩ j p : S32x512x2048.Idx) (at2_b b p) (origin _ _) (at2_p b p) a))).symm.trans (e.trans ?_)
  refine kv_col m c _ (at2 b p) j ⟨512 + j.val, by omega⟩ _ ?_ (fun k => lV_apply _ j k)
  show 1024 + j.val = 512 + (512 + j.val); omega
/-- Beyond the sixteen prompt sequences the cache is as the call found it. -/
theorem res_v_rest (b : Fin 32) (hb : 16 ≤ b.val) (j : Fin 512) (p : Fin 2048) :
    ((dats m 0 c).arrAt 8 cfg0.N : Vec Ideal S32x512x2048 .f32) (ValueIdx.ix3 b j p) = argV m c (ValueIdx.ix3 b j p) := by
  refine (Value.entry8 m c (ValueIdx.ix3 b j p : S32x512x2048.Idx) fun t _ hi => ?_).trans (congrFun (V_v m c) _)
  obtain ⟨x, -, hx⟩ := Finset.mem_map.mp hi
  have h0 : cc0_transform_10 (grid0.coords t) 0 * 1 + 1 * (x 0).val = b.val := congrArg (fun i : S32x512x2048.Idx => (i 0).val) hx
  have h1 : cc0_transform_10 (grid0.coords t) 0 = t.val / 4 := congrFun (cache_idx t).2 0
  have h2 : t.val < 64 := t.isLt
  have h3 : (x 0).val < 1 := (x 0).isLt
  omega

end Arrays

end Cert.Kernel3Ideal.Proj

end
-- ==== Proof.Proj.PromptClaims.lean ====
/- The claims about the input projection of the prompt rows. -/
module

public import proofs.«01_k».proof.Defs
public import proofs.«01_k».proof.Proof.Proj.Prompt
public import proofs.«01_k».proof.Proof.Gen.Kernel3.Frame
public import proofs.«01_k».proof.Proof.Gen.Reference3Ideal.Run

@[expose] public section

set_option maxRecDepth 16384

noncomputable section

namespace Cert.Proj.Prompt

open Idealize.ShloMosaic Idealize.ShloMosaic.TcCoe Idealize.SL.Sem
open Cert.Kernel3Ideal.Proj Cert.Proj

theorem frame_kernel : Cert.quiescent_Kernel3 := fun m ρ _ => Cert.Kernel3.Gen.frame m ρ
theorem frame_ideal : Cert.quiescent_Kernel3Ideal := fun m ρ _ => Cert.Kernel3Ideal.Gen.frame m ρ
theorem frame_ref : Cert.quiescent_Reference3Ideal := fun m ρ _ =>
  (θ_run Cert.Reference3Ideal.defs _ _).mono (fun r h => ⟨fun c => (h c).2.2.2.2.2.2.2.2, Idealize.ShloMosaic.sem_eq_zero_of_no_sems (by decide) r.2⟩) (Cert.Reference3Ideal.Value.run (F := Ideal) m ρ)

section Reference
open Cert.Reference3Ideal Cert.Reference3Ideal.Gen
variable (m : (ℓ : Loc nD τ sig) → Buf (Elt Ideal) ℓ) (c : Dev nD)

abbrev refX : Vec Ideal S16x2048x1024 .f32 := m ((c.tc : Thread nD τ).loc main_arg0)
abbrev refW : Vec Ideal S1024x3088 .f32 := m ((c.tc : Thread nD τ).loc main_arg1)
abbrev refU : Vec Ideal S16x256 .f32 := m ((c.tc : Thread nD τ).loc main_arg2)
abbrev refB : Vec Ideal S256 .f32 := m ((c.tc : Thread nD τ).loc main_arg3)
abbrev refK : Vec Ideal S32x512x2048 .f32 := m ((c.tc : Thread nD τ).loc main_arg4)
abbrev refV : Vec Ideal S32x512x2048 .f32 := m ((c.tc : Thread nD τ).loc main_arg5)

/-- Row `r` of the reference's inputs. -/
def refRow (r : Fin 32768) (k : Fin 1024) : EReal := refX m c (ValueIdx.ix3 ⟨r.val / 2048, by omega⟩ ⟨r.val % 2048, by omega⟩ k)

section Terms
variable (x : Vec Ideal S16x2048x1024 .f32) (w : Vec Ideal S1024x3088 .f32) (u : Vec Ideal S16x256 .f32) (b : Vec Ideal S256 .f32)

/-- The reference's one product, its slices, and what goes into its gate. -/
def prod : FVec Ideal S32768x3088 .f32 := Host.dotGeneral (F := Ideal) (φ₁ := .f32) (φ₂ := .f32) dot_S32768x1024_S1024x3088_S32768x3088_1_0_0_1_n_n none (shapeCast S32768x1024 x shapeCasts_S16x2048x1024_S32768x1024 : FVec Ideal S32768x1024 .f32) (w : FVec Ideal S1024x3088 .f32)
def gateSum (P : FVec Ideal S32768x3088 .f32) : FVec Ideal S32768x256 .f32 :=
  addf (Host.dotGeneral (F := Ideal) (φ₁ := .f32) (φ₂ := .f32) dot_S32768x16_S16x256_S32768x256_1_0_0_1_n_n none (extractStridedSlice S32768x16 ![0, 3072] P slices_S32768x3088_S32768x16_0_3072 : FVec Ideal S32768x16 .f32) (u : FVec Ideal S16x256 .f32) : FVec Ideal S32768x256 .f32)
    (broadcastInDim S32768x256 ![0, 1] bcast_S1x256_S32768x256_0_1 (broadcastInDim S1x256 ![1] bcast_S256_S1x256_1 (b : FVec Ideal S256 .f32) : FVec Ideal S1x256 .f32) : FVec Ideal S32768x256 .f32)
def zeros : FVec Ideal S32768x256 .f32 := broadcastInDim S32768x256 ![] bcast_S_S32768x256 (constant S_ .f32 0x00000000#32 : FVec Ideal S_ .f32)
def gateTerm (Z : FVec Ideal S32768x256 .f32) : FVec Ideal S32768x256 .f32 :=
  Host.divf (Host.negf (select (cmpf .une (subf (Host.negf Z) zeros) (subf (Host.negf Z) zeros)) (addf (Host.negf Z) zeros) (addf (maximumf (Host.negf Z) zeros) (Host.log1p (Host.exp (Host.negf (Host.absf (subf (Host.negf Z) zeros)))))))) (broadcastInDim S32768x256 ![] bcast_S_S32768x256 (constant S_ .f32 0x41800000#32 : FVec Ideal S_ .f32))

theorem prod_apply (r : Fin 32768) (j : Fin 3088) : prod x w (ValueIdx.ix2 r j) = col (fun k => x (ValueIdx.ix3 ⟨r.val / 2048, by omega⟩ ⟨r.val % 2048, by omega⟩ k)) w j := by
  unfold prod
  pointwise
  rfl
theorem gateSum_apply (P : FVec Ideal S32768x3088 .f32) (r : Fin 32768) (j : Fin 256) :
    gateSum u b P (ValueIdx.ix2 r j) = ∑ i : Fin 16, P (ValueIdx.ix2 r ⟨3072 + i.val, by omega⟩) * u (ValueIdx.ix2 i j) + b (ValueIdx.ix1 j) := by
  unfold gateSum
  pointwise
  rfl
theorem gateTerm_apply (Z : FVec Ideal S32768x256 .f32) (r : Fin 32768) (j : Fin 256) : gateTerm Z (ValueIdx.ix2 r j) = logGate (Z (ValueIdx.ix2 r j)) := by
  unfold gateTerm zeros logGate
  pointwise
  refine congrArg (fun z => Ideal.div (-z) _) ?_
  exact if_neg (fun hne => hne rfl)

theorem heads_q (P : FVec Ideal S32768x3088 .f32) (h : Fin 8) (r : Fin 32768) (d : Fin 64) :
    (truncf .bf16 (transpose S8x32768x64 [1, 0, 2] (shapeCast S32768x8x64 (mulf (extractStridedSlice S32768x512 ![0, 0] P slices_S32768x3088_S32768x512_0_0 : FVec Ideal S32768x512 .f32) (broadcastInDim S32768x512 ![] bcast_S_S32768x512 (constant S_ .f32 0x3E000000#32 : FVec Ideal S_ .f32) : FVec Ideal S32768x512 .f32) : FVec Ideal S32768x512 .f32) shapeCasts_S32768x512_S32768x8x64 : FVec Ideal S32768x8x64 .f32) transposes_S32768x8x64_S8x32768x64_1_0_2 : FVec Ideal S8x32768x64 .f32) bitsLt_bf16_f32 : FVec Ideal S8x32768x64 .bf16) (ValueIdx.ix3 h r d)
      = P (ValueIdx.ix2 r ⟨h.val * 64 + d.val, by omega⟩) * eighth := by
  pointwise
  rfl
theorem heads (Z : FVec Ideal S32768x256 .f32) (h : Fin 4) (r : Fin 32768) (d : Fin 64) :
    (transpose S4x32768x64 [1, 0, 2] (shapeCast S32768x4x64 Z shapeCasts_S32768x256_S32768x4x64 : FVec Ideal S32768x4x64 .f32) transposes_S32768x4x64_S4x32768x64_1_0_2 : FVec Ideal S4x32768x64 .f32) (ValueIdx.ix3 h r d)
      = Z (ValueIdx.ix2 r ⟨h.val * 64 + d.val, by omega⟩) := by
  pointwise
  rfl
theorem scaled (P : FVec Ideal S32768x3088 .f32) (r : Fin 32768) (j : Fin 256) :
    (mulf (extractStridedSlice S32768x256 ![0, 1536] P slices_S32768x3088_S32768x256_0_1536 : FVec Ideal S32768x256 .f32) (broadcastInDim S32768x256 ![] bcast_S_S32768x256 (constant S_ .f32 0x3E000000#32 : FVec Ideal S_ .f32) : FVec Ideal S32768x256 .f32) : FVec Ideal S32768x256 .f32) (ValueIdx.ix2 r j)
      = P (ValueIdx.ix2 r ⟨1536 + j.val, by omega⟩) * eighth := by
  pointwise
  rfl
theorem slice_gk (P : FVec Ideal S32768x3088 .f32) (r : Fin 32768) (j : Fin 256) :
    (extractStridedSlice S32768x256 ![0, 1792] P slices_S32768x3088_S32768x256_0_1792 : FVec Ideal S32768x256 .f32) (ValueIdx.ix2 r j) = P (ValueIdx.ix2 r ⟨1792 + j.val, by omega⟩) := by
  pointwise
  rfl
/-- A cache with its first sixteen sequences written. -/
def cacheWith (A : FVec Ideal S32768x512 .f32) (prev : Vec Ideal S32x512x2048 .f32) : FVec Ideal S32x512x2048 .f32 :=
  concatenate S32x512x2048 0 [⟨S16x512x2048, (transpose S16x512x2048 [0, 2, 1] (shapeCast S16x2048x512 A shapeCasts_S32768x512_S16x2048x512 : FVec Ideal S16x2048x512 .f32) transposes_S16x2048x512_S16x512x2048_0_2_1 : FVec Ideal S16x512x2048 .f32)⟩,
    ⟨S16x512x2048, (extractStridedSlice S16x512x2048 ![16, 0, 0] (prev : FVec Ideal S32x512x2048 .f32) slices_S32x512x2048_S16x512x2048_16_0_0 : FVec Ideal S16x512x2048 .f32)⟩] concatenates_S16x512x2048_S16x512x2048_S32x512x2048_d0
theorem cache_lo (A : FVec Ideal S32768x512 .f32) (prev : Vec Ideal S32x512x2048 .f32) (b : Fin 16) (j : Fin 512) (p : Fin 2048) :
    cacheWith A prev (ValueIdx.ix3 ⟨b.val, by omega⟩ j p) = A (ValueIdx.ix2 (at2 b p) j) := by
  unfold cacheWith
  pointwise
  rfl
theorem cache_hi (A : FVec Ideal S32768x512 .f32) (prev : Vec Ideal S32x512x2048 .f32) (b : Fin 32) (hb : 16 ≤ b.val) (j : Fin 512) (p : Fin 2048) :
    cacheWith A prev (ValueIdx.ix3 b j p) = prev (ValueIdx.ix3 b j p) := by
  unfold cacheWith
  pointwise
  refine (dif_neg (Nat.not_lt.mpr hb)).trans (congrArg prev ?_)
  refine congrArg (fun z => (ValueIdx.ix3 z j p : S32x512x2048.Idx)) (Fin.ext ?_)
  show 16 + (b.val - 16) = b.val
  omega
theorem slice_k (P : FVec Ideal S32768x3088 .f32) (r : Fin 32768) (j : Fin 512) :
    (extractStridedSlice S32768x512 ![0, 512] P slices_S32768x3088_S32768x512_0_512 : FVec Ideal S32768x512 .f32) (ValueIdx.ix2 r j) = P (ValueIdx.ix2 r ⟨512 + j.val, by omega⟩) := by
  pointwise
  rfl
theorem slice_v (P : FVec Ideal S32768x3088 .f32) (r : Fin 32768) (j : Fin 512) :
    (extractStridedSlice S32768x512 ![0, 1024] P slices_S32768x3088_S32768x512_0_1024 : FVec Ideal S32768x512 .f32) (ValueIdx.ix2 r j) = P (ValueIdx.ix2 r ⟨1024 + j.val, by omega⟩) := by
  pointwise
  rfl
theorem slice_gv (P : FVec Ideal S32768x3088 .f32) (r : Fin 32768) (j : Fin 512) :
    (extractStridedSlice S32768x512 ![0, 2048] P slices_S32768x3088_S32768x512_0_2048 : FVec Ideal S32768x512 .f32) (ValueIdx.ix2 r j) = P (ValueIdx.ix2 r ⟨2048 + j.val, by omega⟩) := by
  pointwise
  rfl
theorem slice_gr (P : FVec Ideal S32768x3088 .f32) (r : Fin 32768) (j : Fin 512) :
    (extractStridedSlice S32768x512 ![0, 2560] P slices_S32768x3088_S32768x512_0_2560 : FVec Ideal S32768x512 .f32) (ValueIdx.ix2 r j) = P (ValueIdx.ix2 r ⟨2560 + j.val, by omega⟩) := by
  pointwise
  rfl

end Terms

/-- What the reference leaves in its eight results. -/
structure Results (g : (ℓ : Loc nD τ sig) → Buf (Elt Ideal) ℓ) : Prop where
  q : ∀ (h : Fin 8) (r : Fin 32768) (d : Fin 64), (g ((c.tc : Thread nD τ).loc main_v21) : Vec Ideal S8x32768x64 .bf16) (ValueIdx.ix3 h r d) = col (refRow m c r) (refW m c) ⟨h.val * 64 + d.val, by omega⟩ * eighth
  k : ∀ (b : Fin 16) (j : Fin 512) (p : Fin 2048), (g ((c.tc : Thread nD τ).loc main_v33) : Vec Ideal S32x512x2048 .f32) (ValueIdx.ix3 ⟨b.val, by omega⟩ j p) = col (refRow m c (at2 b p)) (refW m c) ⟨512 + j.val, by omega⟩
  k_rest : ∀ (b : Fin 32) (hb : 16 ≤ b.val) (j : Fin 512) (p : Fin 2048), (g ((c.tc : Thread nD τ).loc main_v33) : Vec Ideal S32x512x2048 .f32) (ValueIdx.ix3 b j p) = refK m c (ValueIdx.ix3 b j p)
  v : ∀ (b : Fin 16) (j : Fin 512) (p : Fin 2048), (g ((c.tc : Thread nD τ).loc main_v37) : Vec Ideal S32x512x2048 .f32) (ValueIdx.ix3 ⟨b.val, by omega⟩ j p) = col (refRow m c (at2 b p)) (refW m c) ⟨1024 + j.val, by omega⟩
  v_rest : ∀ (b : Fin 32) (hb : 16 ≤ b.val) (j : Fin 512) (p : Fin 2048), (g ((c.tc : Thread nD τ).loc main_v37) : Vec Ideal S32x512x2048 .f32) (ValueIdx.ix3 b j p) = refV m c (ValueIdx.ix3 b j p)
  gq : ∀ (h : Fin 4) (r : Fin 32768) (d : Fin 64), (g ((c.tc : Thread nD τ).loc main_v25) : Vec Ideal S4x32768x64 .f32) (ValueIdx.ix3 h r d) = col (refRow m c r) (refW m c) ⟨1536 + (h.val * 64 + d.val), by omega⟩ * eighth
  gk : ∀ (h : Fin 4) (r : Fin 32768) (d : Fin 64), (g ((c.tc : Thread nD τ).loc main_v27) : Vec Ideal S4x32768x64 .f32) (ValueIdx.ix3 h r d) = col (refRow m c r) (refW m c) ⟨1792 + (h.val * 64 + d.val), by omega⟩
  lg : ∀ (h : Fin 4) (r : Fin 32768) (d : Fin 64), (g ((c.tc : Thread nD τ).loc main_v29) : Vec Ideal S4x32768x64 .f32) (ValueIdx.ix3 h r d) = logGate (gateIn (refRow m c r) (refW m c) (refU m c) (refB m c) ⟨h.val * 64 + d.val, by omega⟩)
  gv : ∀ (r : Fin 32768) (d : Fin 512), (g ((c.tc : Thread nD τ).loc main_v7) : Vec Ideal S32768x512 .f32) (ValueIdx.ix2 r d) = col (refRow m c r) (refW m c) ⟨2048 + d.val, by omega⟩
  gr : ∀ (r : Fin 32768) (d : Fin 512), (g ((c.tc : Thread nD τ).loc main_v8) : Vec Ideal S32768x512 .f32) (ValueIdx.ix2 r d) = col (refRow m c r) (refW m c) ⟨2560 + d.val, by omega⟩

theorem run_ref (ρ : Dev nD → PrngReg) :
    θ_run defs (onTc (τ := τ) (main (F := Ideal))) ⟨m, fun _ => 0, ρ⟩ fun r => ∀ c : Dev nD, Results m c r.2.mem
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, (h c).2.2.2.2.2.2.2.2⟩) (Cert.Reference3Ideal.Value.run (F := Ideal) m ρ)
  obtain ⟨hq, hk, hv, hgq, hgk, hlg, hgv, hgr, -⟩ := h c
  have P : ∀ (r : Fin 32768) (j : Fin 3088), prod (refX m c) (refW m c) (ValueIdx.ix2 r j) = col (refRow m c r) (refW m c) j := prod_apply (refX m c) (refW m c)
  have hk' : r.2.mem ((c.tc : Thread nD τ).loc main_v33) = cacheWith (extractStridedSlice S32768x512 ![0, 512] (prod (refX m c) (refW m c)) slices_S32768x3088_S32768x512_0_512 : FVec Ideal S32768x512 .f32) (refK m c) := hk
  have hv' : r.2.mem ((c.tc : Thread nD τ).loc main_v37) = cacheWith (extractStridedSlice S32768x512 ![0, 1024] (prod (refX m c) (refW m c)) slices_S32768x3088_S32768x512_0_1024 : FVec Ideal S32768x512 .f32) (refV m c) := hv
  clear hk hv
  constructor
  · intro h r d
    exact (congrFun hq _).trans ((heads_q (prod (refX m c) (refW m c)) h r d).trans (congrArg (· * eighth) (P r _)))
  · intro b j p
    refine (congrFun hk' _).trans ?_
    refine (cache_lo _ _ b j p).trans ?_
    refine (slice_k _ (at2 b p) j).trans ?_
    exact P (at2 b p) _
  · intro b hb j p
    refine (congrFun hk' _).trans ?_
    exact cache_hi _ _ b hb j p
  · intro b j p
    refine (congrFun hv' _).trans ?_
    refine (cache_lo _ _ b j p).trans ?_
    refine (slice_v _ (at2 b p) j).trans ?_
    exact P (at2 b p) _
  · intro b hb j p
    refine (congrFun hv' _).trans ?_
    exact cache_hi _ _ b hb j p
  · intro h r d
    exact (congrFun hgq _).trans ((heads _ h r d).trans ((scaled (prod (refX m c) (refW m c)) r _).trans (congrArg (· * eighth) (P r _))))
  · intro h r d
    exact (congrFun hgk _).trans ((heads _ h r d).trans ((slice_gk (prod (refX m c) (refW m c)) r _).trans (P r _)))
  · intro h r d
    refine (congrFun hlg _).trans ((heads (gateTerm (gateSum (refU m c) (refB m c) (prod (refX m c) (refW m c)))) h r d).trans ?_)
    refine (gateTerm_apply _ r _).trans (congrArg logGate ((gateSum_apply _ _ _ r _).trans ?_))
    exact congrArg (· + _) (Finset.sum_congr rfl fun i _ => congrArg (· * _) (P r _))
  · intro r d
    exact (congrFun hgv _).trans ((slice_gv (prod (refX m c) (refW m c)) r d).trans (P r _))
  · intro r d
    exact (congrFun hgr _).trans ((slice_gr (prod (refX m c) (refW m c)) r d).trans (P r _))

end Reference

/-- Kernel and reference compute the same eight arrays. -/
theorem algebraic : Cert.algebraic_Kernel3Ideal_Reference3Ideal := by
  intro m g m' g' hpre hargs
  refine ⟨fun c => (Cert.Kernel3Ideal.Gen.dats m 0 c).arrAt 6 Cert.Kernel3Ideal.cfg0.N, fun c => (Cert.Kernel3Ideal.Gen.dats m 0 c).arrAt 7 Cert.Kernel3Ideal.cfg0.N,
    fun c => (Cert.Kernel3Ideal.Gen.dats m 0 c).arrAt 8 Cert.Kernel3Ideal.cfg0.N, fun c => (Cert.Kernel3Ideal.Gen.dats m 0 c).arrAt 9 Cert.Kernel3Ideal.cfg0.N,
    fun c => (Cert.Kernel3Ideal.Gen.dats m 0 c).arrAt 10 Cert.Kernel3Ideal.cfg0.N, fun c => (Cert.Kernel3Ideal.Gen.dats m 0 c).arrAt 11 Cert.Kernel3Ideal.cfg0.N,
    fun c => (Cert.Kernel3Ideal.Gen.dats m 0 c).arrAt 12 Cert.Kernel3Ideal.cfg0.N, fun c => (Cert.Kernel3Ideal.Gen.dats m 0 c).arrAt 13 Cert.Kernel3Ideal.cfg0.N,
    Cert.Kernel3Ideal.Value.run_blocks m g, ?_⟩
  refine (θ_run Cert.Reference3Ideal.defs _ _).mono (fun r h c => ?_) (run_ref m' g')
  obtain ⟨h0, h1, h2, h3, h4, h5⟩ := hargs c
  have eR : ∀ r : Fin 32768, refRow m' c r = row m c r := fun r => funext fun k => congrFun h0 _
  obtain ⟨R, A⟩ := h c
  refine ⟨funext fun i => ?_, funext fun i => ?_, funext fun i => ?_, funext fun i => ?_, funext fun i => ?_, funext fun i => ?_, funext fun i => ?_, funext fun i => ?_, A⟩
  · obtain ⟨h, r, d, rfl⟩ : ∃ (h : Fin 8) (r : Fin 32768) (d : Fin 64), i = ValueIdx.ix3 h r d := ⟨i 0, i 1, i 2, ValueIdx.eq_ix3 i⟩
    refine (R.q h r d).trans (Eq.trans ?_ (res_q m c h r d).symm)
    exact congrArg (· * eighth) (col_congr (eR r) h1 rfl)
  · obtain ⟨b, j, p, rfl⟩ : ∃ (b : Fin 32) (j : Fin 512) (p : Fin 2048), i = ValueIdx.ix3 b j p := ⟨i 0, i 1, i 2, ValueIdx.eq_ix3 i⟩
    by_cases hb : b.val < 16
    · exact (R.k ⟨b.val, hb⟩ j p).trans ((col_congr (eR _) h1 rfl).trans (res_k m c ⟨b.val, hb⟩ j p).symm)
    · exact (R.k_rest b (Nat.le_of_not_lt hb) j p).trans ((congrFun h4 _).trans (res_k_rest m c b (Nat.le_of_not_lt hb) j p).symm)
  · obtain ⟨b, j, p, rfl⟩ : ∃ (b : Fin 32) (j : Fin 512) (p : Fin 2048), i = ValueIdx.ix3 b j p := ⟨i 0, i 1, i 2, ValueIdx.eq_ix3 i⟩
    by_cases hb : b.val < 16
    · exact (R.v ⟨b.val, hb⟩ j p).trans ((col_congr (eR _) h1 rfl).trans (res_v m c ⟨b.val, hb⟩ j p).symm)
    · exact (R.v_rest b (Nat.le_of_not_lt hb) j p).trans ((congrFun h5 _).trans (res_v_rest m c b (Nat.le_of_not_lt hb) j p).symm)
  · obtain ⟨h, r, d, rfl⟩ : ∃ (h : Fin 4) (r : Fin 32768) (d : Fin 64), i = ValueIdx.ix3 h r d := ⟨i 0, i 1, i 2, ValueIdx.eq_ix3 i⟩
    refine (R.gq h r d).trans (Eq.trans ?_ (res_gq m c h r d).symm)
    exact congrArg (· * eighth) (col_congr (eR r) h1 rfl)
  · obtain ⟨h, r, d, rfl⟩ : ∃ (h : Fin 4) (r : Fin 32768) (d : Fin 64), i = ValueIdx.ix3 h r d := ⟨i 0, i 1, i 2, ValueIdx.eq_ix3 i⟩
    exact (R.gk h r d).trans ((col_congr (eR r) h1 rfl).trans (res_gk m c h r d).symm)
  · obtain ⟨h, r, d, rfl⟩ : ∃ (h : Fin 4) (r : Fin 32768) (d : Fin 64), i = ValueIdx.ix3 h r d := ⟨i 0, i 1, i 2, ValueIdx.eq_ix3 i⟩
    refine (R.lg h r d).trans (Eq.trans ?_ (res_lg m c h r d).symm)
    exact congrArg logGate (gateIn_congr (eR r) h1 h2 h3 _)
  · obtain ⟨r, d, rfl⟩ : ∃ (r : Fin 32768) (d : Fin 512), i = ValueIdx.ix2 r d := ⟨i 0, i 1, ValueIdx.eq_ix2 i⟩
    exact (R.gv r d).trans ((col_congr (eR r) h1 rfl).trans (res_gv m c r d).symm)
  · obtain ⟨r, d, rfl⟩ : ∃ (r : Fin 32768) (d : Fin 512), i = ValueIdx.ix2 r d := ⟨i 0, i 1, ValueIdx.eq_ix2 i⟩
    exact (R.gr r d).trans ((col_congr (eR r) h1 rfl).trans (res_gr m c r d).symm)

end Cert.Proj.Prompt

end
-- ==== Proof.Proj.NextBlock.lean ====
/- The input projection of the prompt rows in the second layer: what one grid point leaves in each of its output blocks. -/
module

public import proofs.«01_k».proof.Proof.Proj.Spec
public import proofs.«01_k».proof.Proof.Gen.Kernel10Ideal.Value
public import Idealize.ShloMosaic.Lib.Pipeline.Value
public import Idealize.ShloMosaic.Lib.Pipeline.ValueKit.Basic
public import Idealize.ShloMosaic.Lib.WholeRead

@[expose] public section

set_option maxRecDepth 16384

noncomputable section

namespace Cert.Kernel10Ideal.Proj

open Cert.Kernel10Ideal Cert.Kernel10Ideal.Gen Cert.Proj
open Idealize.ShloMosaic Idealize.ShloMosaic.TcCoe Idealize.SL.Sem

/-- Reading part of a buffer that holds a block is reading that part of the block. -/
theorem readAt_ld {sig : RefSig} {κ : Kind} {sp : Space} {s : Shape} {e : EltTy} {Val : EltTy → Type} {m : Memref sig κ sp s e} (h : m.IsWhole) (X : s.Idx → Val e) (R : Rect s) :
    View.readAt Val m.view R.toLoadRect (h.unread X) = View.ld X R := funext fun x => h.readAt_unread X R.toLoadRect x

/-- One head's piece of a block read at an index, as a function of the block's own index. -/
theorem piece3 {a b c : ℕ} (h : Fin a) (x : Shape.Idx ⟨3, ![1, b, c]⟩) (g : Fin a → Fin b → Fin c → EReal) (p : Shape.Idx ⟨3, ![1, b, c]⟩ → EReal) (hp : ∀ s d, p (ValueIdx.ix3 0 s d) = g h s d)
    (y : Shape.Idx ⟨3, ![a, b, c]⟩) (e0 : (y 0).val = h.val + 1 * (x 0).val) (e1 : (y 1).val = 0 + 1 * (x 1).val) (e2 : (y 2).val = 0 + 1 * (x 2).val) :
    p x = g (y 0) (y 1) (y 2) := by
  obtain ⟨z, s, d, rfl⟩ : ∃ (z : Fin 1) (s : Fin b) (d : Fin c), x = ValueIdx.ix3 z s d := ⟨x 0, x 1, x 2, ValueIdx.eq_ix3 x⟩
  obtain rfl : z = 0 := Subsingleton.elim _ _
  have e0' : (y 0).val = h.val + 1 * 0 := e0
  have e1' : (y 1).val = 0 + 1 * s.val := e1
  have e2' : (y 2).val = 0 + 1 * d.val := e2
  rw [hp, show y 0 = h from Fin.ext (by omega), show y 1 = s from Fin.ext (by omega), show y 2 = d from Fin.ext (by omega)]

/-! ## The payloads of the stores -/

section Payloads
variable (x0 : Vec Ideal S512x1024 .f32)

/-- A row against a column. -/
def dot {n : ℕ} (P : Vec Ideal ⟨2, ![1024, n]⟩ .bf16) (s : Fin 512) (j : Fin n) : EReal := ∑ k, x0 (ValueIdx.ix2 s k) * P (ValueIdx.ix2 k j)
def qOut (P : Vec Ideal S1024x512 .bf16) (h : Fin 8) (s : Fin 512) (d : Fin 64) : EReal := dot x0 P s ⟨h.val * 64 + d.val, by omega⟩ * eighth

theorem pay_q (P : Vec Ideal S1024x512 .bf16) (s : Fin 512) (j : Fin 512) : k0_pay10 (F := Ideal) x0 P (ValueIdx.ix2 s j) = dot x0 P s j * eighth := by
  unfold k0_pay10 k0_pay7 dot
  pointwise
  rfl
theorem pay_q0 (P : Vec Ideal S1024x512 .bf16) (s : Fin 512) (d : Fin 64) : k0_pay11 (F := Ideal) x0 P (ValueIdx.ix3 0 s d) = qOut x0 P 0 s d := by
  unfold k0_pay11 k0_pay10 k0_pay7 qOut dot
  pointwise
  rfl
theorem pay_q1 (P : Vec Ideal S1024x512 .bf16) (s : Fin 512) (d : Fin 64) : k0_pay12 (F := Ideal) x0 P (ValueIdx.ix3 0 s d) = qOut x0 P 1 s d := by
  unfold k0_pay12 k0_pay10 k0_pay7 qOut dot
  pointwise
  rfl
theorem pay_q2 (P : Vec Ideal S1024x512 .bf16) (s : Fin 512) (d : Fin 64) : k0_pay14 (F := Ideal) (k0_pay13 x0 P) (ValueIdx.ix3 0 s d) = qOut x0 P 2 s d := by
  unfold k0_pay14 k0_pay13 k0_pay10 k0_pay7 qOut dot
  pointwise
  rfl
theorem pay_q3 (P : Vec Ideal S1024x512 .bf16) (s : Fin 512) (d : Fin 64) : k0_pay15 (F := Ideal) (k0_pay10 x0 P) (ValueIdx.ix3 0 s d) = qOut x0 P 3 s d := by
  unfold k0_pay15 k0_pay10 k0_pay7 qOut dot
  pointwise
  rfl
theorem pay_q4 (P : Vec Ideal S1024x512 .bf16) (s : Fin 512) (d : Fin 64) : k0_pay16 (F := Ideal) (k0_pay10 x0 P) (ValueIdx.ix3 0 s d) = qOut x0 P 4 s d := by
  unfold k0_pay16 k0_pay10 k0_pay7 qOut dot
  pointwise
  rfl
theorem pay_q5 (P : Vec Ideal S1024x512 .bf16) (s : Fin 512) (d : Fin 64) : k0_pay17 (F := Ideal) (k0_pay10 x0 P) (ValueIdx.ix3 0 s d) = qOut x0 P 5 s d := by
  unfold k0_pay17 k0_pay10 k0_pay7 qOut dot
  pointwise
  rfl
theorem pay_q6 (P : Vec Ideal S1024x512 .bf16) (s : Fin 512) (d : Fin 64) : k0_pay18 (F := Ideal) (k0_pay10 x0 P) (ValueIdx.ix3 0 s d) = qOut x0 P 6 s d := by
  unfold k0_pay18 k0_pay10 k0_pay7 qOut dot
  pointwise
  rfl
theorem pay_q7 (P : Vec Ideal S1024x512 .bf16) (s : Fin 512) (d : Fin 64) : k0_pay19 (F := Ideal) (k0_pay10 x0 P) (ValueIdx.ix3 0 s d) = qOut x0 P 7 s d := by
  unfold k0_pay19 k0_pay10 k0_pay7 qOut dot
  pointwise
  rfl

def kvOut (P : Vec Ideal S512x1024 .bf16) (z : Fin 1) (j s : Fin 512) : EReal := ∑ k, x0 (ValueIdx.ix2 s k) * P (ValueIdx.ix2 j k)
theorem pay_k (P : Vec Ideal S512x1024 .bf16) (j s : Fin 512) : k0_pay8 (F := Ideal) x0 P (ValueIdx.ix3 0 j s) = kvOut x0 P 0 j s := by
  unfold k0_pay8 k0_pay7 kvOut
  pointwise
  exact Finset.sum_congr rfl fun k _ => mul_comm _ _
theorem pay_v (P : Vec Ideal S512x1024 .bf16) (j s : Fin 512) : k0_pay9 (F := Ideal) x0 P (ValueIdx.ix3 0 j s) = kvOut x0 P 0 j s := by
  unfold k0_pay9 k0_pay7 kvOut
  pointwise
  exact Finset.sum_congr rfl fun k _ => mul_comm _ _

theorem pay_gq (P : Vec Ideal S1024x256 .bf16) (s : Fin 512) (j : Fin 256) : k0_pay21 (F := Ideal) (k0_pay20 (k0_pay7 x0) P) kernelRun0_A.sl.cst_35 (ValueIdx.ix2 s j) = dot x0 P s j * eighth := by
  unfold k0_pay21 k0_pay20 k0_pay7 kernelRun0_A.sl.cst_35 dot
  pointwise
  rfl
theorem pay_gk (P : Vec Ideal S1024x256 .bf16) (s : Fin 512) (j : Fin 256) : k0_pay22 (F := Ideal) (k0_pay7 x0) P (ValueIdx.ix2 s j) = dot x0 P s j := by
  unfold k0_pay22 k0_pay7 dot
  pointwise
  rfl
theorem pay_gv (P : Vec Ideal S1024x512 .bf16) (s : Fin 512) (j : Fin 512) : k0_pay23 (F := Ideal) (k0_pay7 x0) P (ValueIdx.ix2 s j) = dot x0 P s j := by
  unfold k0_pay23 k0_pay7 dot
  pointwise
  rfl
theorem pay_gr (P : Vec Ideal S1024x512 .bf16) (s : Fin 512) (j : Fin 512) : k0_pay24 (F := Ideal) (k0_pay7 x0) P (ValueIdx.ix2 s j) = dot x0 P s j := by
  unfold k0_pay24 k0_pay7 dot
  pointwise
  rfl

/-- The gate's rows as the body computes them. -/
def gates (x3 : Vec Ideal S1024x128 .bf16) (x4 : Vec Ideal S128x256 .bf16) (x5 : Vec Ideal S1x256 .f32) : FVec Ideal S512x256 .f32 :=
  k0_pay29 (k0_pay26 (k0_pay7 x0) x3 x4 x5) (k0_pay27 (k0_pay7 x0) x3 x4 x5) k0_pay28
theorem gates_apply (x3 : Vec Ideal S1024x128 .bf16) (x4 : Vec Ideal S128x256 .bf16) (x5 : Vec Ideal S1x256 .f32) (s : Fin 512) (j : Fin 256) :
    gates x0 x3 x4 x5 (ValueIdx.ix2 s j) = logGate (∑ i : Fin 128, (∑ k, x0 (ValueIdx.ix2 s k) * x3 (ValueIdx.ix2 k i)) * x4 (ValueIdx.ix2 i j) + x5 (ValueIdx.ix2 0 j)) := by
  unfold gates k0_pay29 k0_pay26 k0_pay27 k0_pay28 k0_pay25 k0_pay7
  pointwise
  exact gate_eq _

end Payloads

/-! ## One head's columns of a block of rows -/

section Heads
variable (Z : FVec Ideal S512x256 .f32) (s : Fin 512) (d : Fin 64)

def headOut (h : Fin 4) (s : Fin 512) (d : Fin 64) : EReal := Z (ValueIdx.ix2 s ⟨h.val * 64 + d.val, by omega⟩)

theorem gq0 : k0_pay30 (F := Ideal) Z (ValueIdx.ix3 0 s d) = headOut Z 0 s d := by
  unfold k0_pay30 headOut
  pointwise
  rfl
theorem gq1 : k0_pay33 (F := Ideal) Z (ValueIdx.ix3 0 s d) = headOut Z 1 s d := by
  unfold k0_pay33 headOut
  pointwise
  rfl
theorem gq2 : k0_pay1 (F := Ideal) (k0_pay36 Z) (ValueIdx.ix3 0 s d) = headOut Z 2 s d := by
  unfold k0_pay1 k0_pay36 headOut
  pointwise
  rfl
theorem gq3 : k0_pay4 (F := Ideal) Z (ValueIdx.ix3 0 s d) = headOut Z 3 s d := by
  unfold k0_pay4 headOut
  pointwise
  rfl
theorem gk0 : k0_pay31 (F := Ideal) Z (ValueIdx.ix3 0 s d) = headOut Z 0 s d := by
  unfold k0_pay31 headOut
  pointwise
  rfl
theorem gk1 : k0_pay34 (F := Ideal) Z (ValueIdx.ix3 0 s d) = headOut Z 1 s d := by
  unfold k0_pay34 headOut
  pointwise
  rfl
theorem gk2 : k0_pay2 (F := Ideal) Z (ValueIdx.ix3 0 s d) = headOut Z 2 s d := by
  unfold k0_pay2 headOut
  pointwise
  rfl
theorem gk3 : k0_pay5 (F := Ideal) Z (ValueIdx.ix3 0 s d) = headOut Z 3 s d := by
  unfold k0_pay5 headOut
  pointwise
  rfl
theorem lg0 (A B C : FVec Ideal S512x256 .f32) : k0_pay32 (F := Ideal) A B C (ValueIdx.ix3 0 s d) = headOut (k0_pay29 A B C) 0 s d := by
  unfold k0_pay32 headOut
  generalize k0_pay29 A B C = Y
  pointwise
  rfl
theorem lg1 (A B C : FVec Ideal S512x256 .f32) : k0_pay35 (F := Ideal) A B C (ValueIdx.ix3 0 s d) = headOut (k0_pay29 A B C) 1 s d := by
  unfold k0_pay35 headOut
  generalize k0_pay29 A B C = Y
  pointwise
  rfl
theorem lg2 : k0_pay3 (F := Ideal) Z (ValueIdx.ix3 0 s d) = headOut Z 2 s d := by
  unfold k0_pay3 headOut
  pointwise
  rfl
theorem lg3 : k0_pay6 (F := Ideal) Z (ValueIdx.ix3 0 s d) = headOut Z 3 s d := by
  unfold k0_pay6 headOut
  pointwise
  rfl

end Heads

/-! ## The blocks that a grid point writes back -/

section Blocks
variable (m : (ℓ : Loc nD τ sig) → Buf (Elt Ideal) ℓ) (c : Dev nD) (t : Fin cfg0.N)

/-- The input blocks at their own types, and the parts of them that the body loads. -/
abbrev bX : Vec Ideal S512x1024 .f32 := iblk m c 0 t
abbrev bMain : Vec Ideal S1024x2048 .bf16 := iblk m c 1 t
abbrev bKvt : Vec Ideal S1024x1024 .bf16 := iblk m c 2 t
abbrev bDown : Vec Ideal S1024x128 .bf16 := iblk m c 3 t
abbrev bUp : Vec Ideal S128x256 .bf16 := iblk m c 4 t
abbrev bBias : Vec Ideal S1x256 .f32 := iblk m c 5 t

abbrev lX (x : Vec Ideal S512x1024 .f32) : Vec Ideal S512x1024 .f32 := View.ld x (Rect.unit ![0, 0] ![512, 1024] inb_S512x1024_S512x1024_0_0)
abbrev lQ (x : Vec Ideal S1024x2048 .bf16) : Vec Ideal S1024x512 .bf16 := View.ld x (Rect.unit ![0, 0] ![1024, 512] inb_S1024x2048_S1024x512_0_0)
abbrev lK (x : Vec Ideal S1024x1024 .bf16) : Vec Ideal S512x1024 .bf16 := View.ld x (Rect.unit ![0, 0] ![512, 1024] inb_S1024x1024_S512x1024_0_0)
abbrev lV (x : Vec Ideal S1024x1024 .bf16) : Vec Ideal S512x1024 .bf16 := View.ld x (Rect.unit ![512, 0] ![512, 1024] inb_S1024x1024_S512x1024_512_0)

abbrev lGq (x : Vec Ideal S1024x2048 .bf16) : Vec Ideal S1024x256 .bf16 := View.ld x (Rect.unit ![0, 512] ![1024, 256] inb_S1024x2048_S1024x256_0_512)
abbrev lGk (x : Vec Ideal S1024x2048 .bf16) : Vec Ideal S1024x256 .bf16 := View.ld x (Rect.unit ![0, 768] ![1024, 256] inb_S1024x2048_S1024x256_0_768)
abbrev lGv (x : Vec Ideal S1024x2048 .bf16) : Vec Ideal S1024x512 .bf16 := View.ld x (Rect.unit ![0, 1024] ![1024, 512] inb_S1024x2048_S1024x512_0_1024)
abbrev lGr (x : Vec Ideal S1024x2048 .bf16) : Vec Ideal S1024x512 .bf16 := View.ld x (Rect.unit ![0, 1536] ![1024, 512] inb_S1024x2048_S1024x512_0_1536)
abbrev lDown (x : Vec Ideal S1024x128 .bf16) : Vec Ideal S1024x128 .bf16 := View.ld x (Rect.unit ![0, 0] ![1024, 128] inb_S1024x128_S1024x128_0_0)
abbrev lUp (x : Vec Ideal S128x256 .bf16) : Vec Ideal S128x256 .bf16 := View.ld x (Rect.unit ![0, 0] ![128, 256] inb_S128x256_S128x256_0_0)
abbrev lBias (x : Vec Ideal S1x256 .f32) : Vec Ideal S1x256 .f32 := View.ld x (Rect.unit ![0, 0] ![1, 256] inb_S1x256_S1x256_0_0)

/-- What each output block holds. -/
def blkQ : Vec Ideal S8x512x64 .bf16 := fun y => qOut (lX (bX m c t)) (lQ (bMain m c t)) (y 0) (y 1) (y 2)
def blkK : Vec Ideal S1x512x512 .f32 := fun y => kvOut (lX (bX m c t)) (lK (bKvt m c t)) (y 0) (y 1) (y 2)
def blkV : Vec Ideal S1x512x512 .f32 := fun y => kvOut (lX (bX m c t)) (lV (bKvt m c t)) (y 0) (y 1) (y 2)
def rowsGq : FVec Ideal S512x256 .f32 := k0_pay21 (F := Ideal) (k0_pay20 (k0_pay7 (lX (bX m c t))) (lGq (bMain m c t))) kernelRun0_A.sl.cst_35
def rowsGk : FVec Ideal S512x256 .f32 := k0_pay22 (F := Ideal) (k0_pay7 (lX (bX m c t))) (lGk (bMain m c t))
def rowsLg : FVec Ideal S512x256 .f32 := gates (lX (bX m c t)) (lDown (bDown m c t)) (lUp (bUp m c t)) (lBias (bBias m c t))
def blkGq : Vec Ideal S4x512x64 .f32 := fun y => headOut (rowsGq m c t) (y 0) (y 1) (y 2)
def blkGk : Vec Ideal S4x512x64 .f32 := fun y => headOut (rowsGk m c t) (y 0) (y 1) (y 2)
def blkLg : Vec Ideal S4x512x64 .f32 := fun y => headOut (rowsLg m c t) (y 0) (y 1) (y 2)
def blkGv : Vec Ideal S512x512 .f32 := k0_pay23 (F := Ideal) (k0_pay7 (lX (bX m c t))) (lGv (bMain m c t))
def blkGr : Vec Ideal S512x512 .f32 := k0_pay24 (F := Ideal) (k0_pay7 (lX (bX m c t))) (lGr (bMain m c t))

theorem flush_q : (dats m 0 c).flushed 6 t = (cfg0.win 6).cut (grid0.coords t) (blkQ m c t) := by
  rw [Value.flushed6_A]
  refine congrArg _ (funext fun y => ?_)
  unfold out0_A_6
  rw [View.read_writes_junk_eq_canon]
  refine View.canon_apply_of_pieces (blkQ m c t) _ ?_ y (cover0_A_6 _ _ _ _ _ _ _ _ _ _ _ _ _ _ _ _ _ _ _ _ _ _ _ _ _ _ _ _ _ _ _ _ _ _ _ _ y)
  unfold kernelRun0_A
  simp only [readAt_ld, kernelRun0_A.sl.r_1, kernelRun0_A.sl.r_2]
  refine List.forall_mem_cons.mpr ⟨fun x => piece3 7 x (qOut _ _) _ (pay_q7 _ _) _ rfl rfl rfl, List.forall_mem_cons.mpr ⟨fun x => piece3 6 x (qOut _ _) _ (pay_q6 _ _) _ rfl rfl rfl, List.forall_mem_cons.mpr ⟨fun x => piece3 5 x (qOut _ _) _ (pay_q5 _ _) _ rfl rfl rfl, List.forall_mem_cons.mpr ⟨fun x => piece3 4 x (qOut _ _) _ (pay_q4 _ _) _ rfl rfl rfl, ?_⟩⟩⟩⟩
  exact List.forall_mem_cons.mpr ⟨fun x => piece3 3 x (qOut _ _) _ (pay_q3 _ _) _ rfl rfl rfl, List.forall_mem_cons.mpr ⟨fun x => piece3 2 x (qOut _ _) _ (pay_q2 _ _) _ rfl rfl rfl, List.forall_mem_cons.mpr ⟨fun x => piece3 1 x (qOut _ _) _ (pay_q1 _ _) _ rfl rfl rfl, List.forall_mem_cons.mpr ⟨fun x => piece3 0 x (qOut _ _) _ (pay_q0 _ _) _ rfl rfl rfl, fun p hp => absurd hp List.not_mem_nil⟩⟩⟩⟩
theorem flush_k : (dats m 0 c).flushed 7 t = (cfg0.win 7).cut (grid0.coords t) (blkK m c t) := by
  rw [Value.flushed7_A]
  refine congrArg _ (funext fun y => ?_)
  unfold out0_A_7
  rw [View.read_writes_junk_eq_canon]
  refine View.canon_apply_of_pieces (blkK m c t) _ ?_ y (cover0_A_7 _ _ _ _ _ _ _ _ _ _ _ _ _ _ _ _ _ _ _ _ _ _ _ _ _ _ _ _ _ _ _ _ _ _ _ _ y)
  unfold kernelRun0_A
  simp only [readAt_ld]
  exact List.forall_mem_cons.mpr ⟨fun x => piece3 0 x (kvOut _ _) _ (pay_k _ _) _ rfl rfl rfl, fun p hp => absurd hp List.not_mem_nil⟩
theorem flush_v : (dats m 0 c).flushed 8 t = (cfg0.win 8).cut (grid0.coords t) (blkV m c t) := by
  rw [Value.flushed8_A]
  refine congrArg _ (funext fun y => ?_)
  unfold out0_A_8
  rw [View.read_writes_junk_eq_canon]
  refine View.canon_apply_of_pieces (blkV m c t) _ ?_ y (cover0_A_8 _ _ _ _ _ _ _ _ _ _ _ _ _ _ _ _ _ _ _ _ _ _ _ _ _ _ _ _ _ _ _ _ _ _ _ _ y)
  unfold kernelRun0_A
  simp only [readAt_ld]
  exact List.forall_mem_cons.mpr ⟨fun x => piece3 0 x (kvOut _ _) _ (pay_v _ _) _ rfl rfl rfl, fun p hp => absurd hp List.not_mem_nil⟩
theorem flush_gq : (dats m 0 c).flushed 9 t = (cfg0.win 9).cut (grid0.coords t) (blkGq m c t) := by
  rw [Value.flushed9_A]
  refine congrArg _ (funext fun y => ?_)
  unfold out0_A_9
  rw [View.read_writes_junk_eq_canon]
  refine View.canon_apply_of_pieces (blkGq m c t) _ ?_ y (cover0_A_9 _ _ _ _ _ _ _ _ _ _ _ _ _ _ _ _ _ _ _ _ _ _ _ _ _ _ _ _ _ _ _ _ _ _ _ _ y)
  unfold kernelRun0_A
  simp only [readAt_ld, kernelRun0_A.sl.r, kernelRun0_A.sl.r_3, kernelRun0_A.sl.r_4, kernelRun0_A.sl.r_9]
  exact List.forall_mem_cons.mpr ⟨fun x => piece3 3 x (headOut (rowsGq m c t)) _ (gq3 (rowsGq m c t)) _ rfl rfl rfl, List.forall_mem_cons.mpr ⟨fun x => piece3 2 x (headOut (rowsGq m c t)) _ (gq2 (rowsGq m c t)) _ rfl rfl rfl, List.forall_mem_cons.mpr ⟨fun x => piece3 1 x (headOut (rowsGq m c t)) _ (gq1 (rowsGq m c t)) _ rfl rfl rfl, List.forall_mem_cons.mpr ⟨fun x => piece3 0 x (headOut (rowsGq m c t)) _ (gq0 (rowsGq m c t)) _ rfl rfl rfl, fun p hp => absurd hp List.not_mem_nil⟩⟩⟩⟩
theorem flush_gk : (dats m 0 c).flushed 10 t = (cfg0.win 10).cut (grid0.coords t) (blkGk m c t) := by
  rw [Value.flushed10_A]
  refine congrArg _ (funext fun y => ?_)
  unfold out0_A_10
  rw [View.read_writes_junk_eq_canon]
  refine View.canon_apply_of_pieces (blkGk m c t) _ ?_ y (cover0_A_10 _ _ _ _ _ _ _ _ _ _ _ _ _ _ _ _ _ _ _ _ _ _ _ _ _ _ _ _ _ _ _ _ _ _ _ _ y)
  unfold kernelRun0_A
  simp only [readAt_ld, kernelRun0_A.sl.r, kernelRun0_A.sl.r_5]
  exact List.forall_mem_cons.mpr ⟨fun x => piece3 3 x (headOut (rowsGk m c t)) _ (gk3 (rowsGk m c t)) _ rfl rfl rfl, List.forall_mem_cons.mpr ⟨fun x => piece3 2 x (headOut (rowsGk m c t)) _ (gk2 (rowsGk m c t)) _ rfl rfl rfl, List.forall_mem_cons.mpr ⟨fun x => piece3 1 x (headOut (rowsGk m c t)) _ (gk1 (rowsGk m c t)) _ rfl rfl rfl, List.forall_mem_cons.mpr ⟨fun x => piece3 0 x (headOut (rowsGk m c t)) _ (gk0 (rowsGk m c t)) _ rfl rfl rfl, fun p hp => absurd hp List.not_mem_nil⟩⟩⟩⟩
theorem flush_lg : (dats m 0 c).flushed 11 t = (cfg0.win 11).cut (grid0.coords t) (blkLg m c t) := by
  rw [Value.flushed11_A]
  refine congrArg _ (funext fun y => ?_)
  unfold out0_A_11
  rw [View.read_writes_junk_eq_canon]
  refine View.canon_apply_of_pieces (blkLg m c t) _ ?_ y (cover0_A_11 _ _ _ _ _ _ _ _ _ _ _ _ _ _ _ _ _ _ _ _ _ _ _ _ _ _ _ _ _ _ _ _ _ _ _ _ y)
  unfold kernelRun0_A
  simp only [readAt_ld, kernelRun0_A.sl.r, kernelRun0_A.sl.r_6, kernelRun0_A.sl.r_7, kernelRun0_A.sl.r_8]
  exact List.forall_mem_cons.mpr ⟨fun x => piece3 3 x (headOut (rowsLg m c t)) _ (lg3 (rowsLg m c t)) _ rfl rfl rfl, List.forall_mem_cons.mpr ⟨fun x => piece3 2 x (headOut (rowsLg m c t)) _ (lg2 (rowsLg m c t)) _ rfl rfl rfl, List.forall_mem_cons.mpr ⟨fun x => piece3 1 x (headOut (rowsLg m c t)) _ (fun s d => lg1 s d _ _ _) _ rfl rfl rfl, List.forall_mem_cons.mpr ⟨fun x => piece3 0 x (headOut (rowsLg m c t)) _ (fun s d => lg0 s d _ _ _) _ rfl rfl rfl, fun p hp => absurd hp List.not_mem_nil⟩⟩⟩⟩
theorem flush_gv : (dats m 0 c).flushed 12 t = (cfg0.win 12).cut (grid0.coords t) (blkGv m c t) := by
  rw [Value.flushed12_A]
  refine congrArg _ (funext fun y => ?_)
  unfold out0_A_12
  rw [View.read_writes_junk_eq_canon]
  unfold kernelRun0_A
  simp only [readAt_ld, kernelRun0_A.sl.r]
  rw [View.canon_cons_unit_lit _ _ _ (by decide)]
  rfl
theorem flush_gr : (dats m 0 c).flushed 13 t = (cfg0.win 13).cut (grid0.coords t) (blkGr m c t) := by
  rw [Value.flushed13_A]
  refine congrArg _ (funext fun y => ?_)
  unfold out0_A_13
  rw [View.read_writes_junk_eq_canon]
  unfold kernelRun0_A
  simp only [readAt_ld, kernelRun0_A.sl.r]
  rw [View.canon_cons_unit_lit _ _ _ (by decide)]
  rfl

end Blocks

end Cert.Kernel10Ideal.Proj

end
-- ==== Proof.Proj.Next.lean ====
/- The input projection of the prompt rows in the second layer: what the kernel's eight results hold at an index. -/
module

public import proofs.«01_k».proof.Proof.Proj.NextBlock
public import Idealize.ShloMosaic.Lib.StableHlo.RunRead

@[expose] public section

set_option maxRecDepth 16384

noncomputable section

namespace Cert.Kernel10Ideal.Proj

open Cert.Kernel10Ideal Cert.Kernel10Ideal.Gen Cert.Proj
open Idealize.ShloMosaic Idealize.ShloMosaic.TcCoe Idealize.SL.Sem

/-! ## The loads of the body -/

section Loads
theorem lX_eq (x : Vec Ideal S512x1024 .f32) : lX x = x := View.ld_unit_lit _ x (by decide)
theorem lDown_eq (x : Vec Ideal S1024x128 .bf16) : lDown x = x := View.ld_unit_lit _ x (by decide)
theorem lUp_eq (x : Vec Ideal S128x256 .bf16) : lUp x = x := View.ld_unit_lit _ x (by decide)
theorem lBias_eq (x : Vec Ideal S1x256 .f32) : lBias x = x := View.ld_unit_lit _ x (by decide)
theorem lQ_apply (x : Vec Ideal S1024x2048 .bf16) (k : Fin 1024) (j : Fin 512) : lQ x (ValueIdx.ix2 k j) = x (ValueIdx.ix2 k ⟨j.val, by omega⟩) := by
  unfold lQ
  pointwise
  rfl
theorem lGq_apply (x : Vec Ideal S1024x2048 .bf16) (k : Fin 1024) (j : Fin 256) : lGq x (ValueIdx.ix2 k j) = x (ValueIdx.ix2 k ⟨512 + j.val, by omega⟩) := by
  unfold lGq
  pointwise
  rfl
theorem lGk_apply (x : Vec Ideal S1024x2048 .bf16) (k : Fin 1024) (j : Fin 256) : lGk x (ValueIdx.ix2 k j) = x (ValueIdx.ix2 k ⟨768 + j.val, by omega⟩) := by
  unfold lGk
  pointwise
  rfl
theorem lGv_apply (x : Vec Ideal S1024x2048 .bf16) (k : Fin 1024) (j : Fin 512) : lGv x (ValueIdx.ix2 k j) = x (ValueIdx.ix2 k ⟨1024 + j.val, by omega⟩) := by
  unfold lGv
  pointwise
  rfl
theorem lGr_apply (x : Vec Ideal S1024x2048 .bf16) (k : Fin 1024) (j : Fin 512) : lGr x (ValueIdx.ix2 k j) = x (ValueIdx.ix2 k ⟨1536 + j.val, by omega⟩) := by
  unfold lGr
  pointwise
  rfl
theorem lK_apply (x : Vec Ideal S1024x1024 .bf16) (j : Fin 512) (k : Fin 1024) : lK x (ValueIdx.ix2 j k) = x (ValueIdx.ix2 ⟨j.val, by omega⟩ k) := by
  unfold lK
  pointwise
  rfl
theorem lV_apply (x : Vec Ideal S1024x1024 .bf16) (j : Fin 512) (k : Fin 1024) : lV x (ValueIdx.ix2 j k) = x (ValueIdx.ix2 ⟨512 + j.val, by omega⟩ k) := by
  unfold lV
  pointwise
  rfl
end Loads

/-! ## The arrays that the host code prepares -/

section Arrays
variable (m : (ℓ : Loc nD τ sig) → Buf (Elt Ideal) ℓ) (c : Dev nD)

/-- The arguments at their own types. -/
abbrev argX : Vec Ideal S16x2048x1024 .f32 := m ((c : Thread nD τ).loc main_arg0)
abbrev argW : Vec Ideal S1024x3088 .f32 := m ((c : Thread nD τ).loc main_arg1)
abbrev argU : Vec Ideal S16x256 .f32 := m ((c : Thread nD τ).loc main_arg2)
abbrev argB : Vec Ideal S256 .f32 := m ((c : Thread nD τ).loc main_arg3)
abbrev argK : Vec Ideal S32x512x2048 .f32 := m ((c : Thread nD τ).loc main_arg4)
abbrev argV : Vec Ideal S32x512x2048 .f32 := m ((c : Thread nD τ).loc main_arg5)

theorem V_x : V m c main_v0 = shapeCast S32768x1024 (argX m c) shapeCasts_S16x2048x1024_S32768x1024 := by
  show StableHlo.after (List.flatten [hostOps0, hostOps0_1, hostOps0_2, hostOps0_3, hostOps0_4]) (fun b => m (c, b)) (Proc.devRef .tc main_v0) = _
  simp only [hostOps0, hostOps0_1, hostOps0_2, hostOps0_3, hostOps0_4, List.flatten_cons, List.flatten_nil, List.append_nil, List.cons_append, List.nil_append]
  after_reads_simp
  rfl
theorem V_main : V m c main_v4 = wMain (argW m c) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_reads_simp
  rfl
theorem V_kvt : V m c main_v7 = wKvt (argW m c) := by
  show StableHlo.after (List.flatten [hostOps0, hostOps0_1, hostOps0_2, hostOps0_3, hostOps0_4]) (fun b => m (c, b)) (Proc.devRef .tc main_v7) = _
  simp only [hostOps0, hostOps0_1, hostOps0_2, hostOps0_3, hostOps0_4, List.flatten_cons, List.flatten_nil, List.append_nil, List.cons_append, List.nil_append]
  after_reads_simp
  rfl
theorem V_down : V m c main_v10 = wDown (argW m c) := by
  show StableHlo.after (List.flatten [hostOps0, hostOps0_1, hostOps0_2, hostOps0_3, hostOps0_4]) (fun b => m (c, b)) (Proc.devRef .tc main_v10) = _
  simp only [hostOps0, hostOps0_1, hostOps0_2, hostOps0_3, hostOps0_4, List.flatten_cons, List.flatten_nil, List.append_nil, List.cons_append, List.nil_append]
  after_reads_simp
  rfl
theorem V_up : V m c main_v12 = wUp (argU m c) := by
  show StableHlo.after (List.flatten [hostOps0, hostOps0_1, hostOps0_2, hostOps0_3, hostOps0_4]) (fun b => m (c, b)) (Proc.devRef .tc main_v12) = _
  simp only [hostOps0, hostOps0_1, hostOps0_2, hostOps0_3, hostOps0_4, List.flatten_cons, List.flatten_nil, List.append_nil, List.cons_append, List.nil_append]
  after_reads_simp
  rfl
theorem V_bias : V m c main_v13 = broadcastInDim S1x256 ![1] bcast_S256_S1x256_1 (argB m c) := by
  show StableHlo.after (List.flatten [hostOps0, hostOps0_1, hostOps0_2, hostOps0_3, hostOps0_4]) (fun b => m (c, b)) (Proc.devRef .tc main_v13) = _
  simp only [hostOps0, hostOps0_1, hostOps0_2, hostOps0_3, hostOps0_4, List.flatten_cons, List.flatten_nil, List.append_nil, List.cons_append, List.nil_append]
  after_reads_simp
theorem V_k : V m c main_v14_1 = argK m c := by
  show StableHlo.after (List.flatten [hostOps0, hostOps0_1, hostOps0_2, hostOps0_3, hostOps0_4]) (fun b => m (c, b)) (Proc.devRef .tc main_v14_1) = _
  simp only [hostOps0, hostOps0_1, hostOps0_2, hostOps0_3, hostOps0_4, List.flatten_cons, List.flatten_nil, List.append_nil, List.cons_append, List.nil_append]
  after_reads_simp
  rfl
theorem V_v : V m c main_v14_2 = argV m c := by
  show StableHlo.after (List.flatten [hostOps0, hostOps0_1, hostOps0_2, hostOps0_3, hostOps0_4]) (fun b => m (c, b)) (Proc.devRef .tc main_v14_2) = _
  simp only [hostOps0, hostOps0_1, hostOps0_2, hostOps0_3, hostOps0_4, List.flatten_cons, List.flatten_nil, List.append_nil, List.cons_append, List.nil_append]
  after_reads_simp
  rfl

/-! ## The blocks -/

theorem in_idx (t : Fin grid0.N) : cc0_transform_0 (grid0.coords t) = ![t.val, 0] ∧ cc0_transform_1 (grid0.coords t) = ![0, 0] ∧ cc0_transform_2 (grid0.coords t) = ![0, 0] ∧ cc0_transform_3 (grid0.coords t) = ![0, 0] ∧ cc0_transform_4 (grid0.coords t) = ![0, 0] ∧ cc0_transform_5 (grid0.coords t) = ![0, 0] := by
  revert t; decide +kernel
theorem heads_idx (t : Fin grid0.N) : cc0_transform_8 (grid0.coords t) = ![0, t.val, 0] ∧ cc0_transform_11 (grid0.coords t) = ![0, t.val, 0] ∧ cc0_transform_12 (grid0.coords t) = ![0, t.val, 0] ∧ cc0_transform_13 (grid0.coords t) = ![0, t.val, 0] := by
  revert t; decide +kernel
theorem cache_idx (t : Fin grid0.N) : cc0_transform_9 (grid0.coords t) = ![16 + t.val / 4, 0, t.val % 4] ∧ cc0_transform_10 (grid0.coords t) = ![16 + t.val / 4, 0, t.val % 4] := by
  revert t; decide +kernel
theorem rows_idx (t : Fin grid0.N) : cc0_transform_14 (grid0.coords t) = ![t.val, 0] ∧ cc0_transform_15 (grid0.coords t) = ![t.val, 0] := by
  revert t; decide +kernel

/-- Where a block at a given block index places an entry. -/
theorem place2 {x y X Y p q : ℕ} (f : Fin 2 → ℕ) (hf : f = ![p, q]) (j : Shape.Idx ⟨2, ![x, y]⟩) (i : Shape.Idx ⟨2, ![X, Y]⟩) (e0 : p * x + 1 * (j 0).val = (i 0).val) (e1 : q * y + 1 * (j 1).val = (i 1).val) (a : Fin 2) :
    f a * (![x, y] : Fin 2 → ℕ) a + 1 * (j a).val = (i a).val := by
  rw [hf]
  match a with
  | ⟨0, _⟩ => exact e0
  | ⟨1, _⟩ => exact e1
theorem place3 {x y z X Y Z p q r : ℕ} (f : Fin 3 → ℕ) (hf : f = ![p, q, r]) (j : Shape.Idx ⟨3, ![x, y, z]⟩) (i : Shape.Idx ⟨3, ![X, Y, Z]⟩) (e0 : p * x + 1 * (j 0).val = (i 0).val) (e1 : q * y + 1 * (j 1).val = (i 1).val) (e2 : r * z + 1 * (j 2).val = (i 2).val) (a : Fin 3) :
    f a * (![x, y, z] : Fin 3 → ℕ) a + 1 * (j a).val = (i a).val := by
  rw [hf]
  match a with
  | ⟨0, _⟩ => exact e0
  | ⟨1, _⟩ => exact e1
  | ⟨2, _⟩ => exact e2
theorem origin (y n : ℕ) : 0 * y + 1 * n = n := by omega

theorem blk_main (t : Fin cfg0.N) : bMain m c t = wMain (argW m c) :=
  (funext fun j => congrArg (V m c main_v4) (funext fun a => Fin.ext (place2 _ (in_idx t).2.1 j j (origin _ _) (origin _ _) a))).trans (V_main m c)
theorem blk_kvt (t : Fin cfg0.N) : bKvt m c t = wKvt (argW m c) :=
  (funext fun j => congrArg (V m c main_v7) (funext fun a => Fin.ext (place2 _ (in_idx t).2.2.1 j j (origin _ _) (origin _ _) a))).trans (V_kvt m c)
theorem blk_down (t : Fin cfg0.N) : bDown m c t = wDown (argW m c) :=
  (funext fun j => congrArg (V m c main_v10) (funext fun a => Fin.ext (place2 _ (in_idx t).2.2.2.1 j j (origin _ _) (origin _ _) a))).trans (V_down m c)
theorem blk_up (t : Fin cfg0.N) : bUp m c t = wUp (argU m c) :=
  (funext fun j => congrArg (V m c main_v12) (funext fun a => Fin.ext (place2 _ (in_idx t).2.2.2.2.1 j j (origin _ _) (origin _ _) a))).trans (V_up m c)
theorem blk_bias (t : Fin cfg0.N) : bBias m c t = broadcastInDim S1x256 ![1] bcast_S256_S1x256_1 (argB m c) :=
  (funext fun j => congrArg (V m c main_v13) (funext fun a => Fin.ext (place2 _ (in_idx t).2.2.2.2.2 j j (origin _ _) (origin _ _) a))).trans (V_bias m c)

/-- Row `r` of the inputs, the grid point that works on it, and its place in that point's block. -/
def row (r : Fin 32768) (k : Fin 1024) : EReal := argX m c (ValueIdx.ix3 ⟨r.val / 2048, by omega⟩ ⟨r.val % 2048, by omega⟩ k)
def pt (r : Fin 32768) : Fin cfg0.N := ⟨r.val / 512, show r.val / 512 < 64 by omega⟩
def sub (r : Fin 32768) : Fin 512 := ⟨r.val % 512, by omega⟩

theorem pt_sub (r : Fin 32768) : (pt r).val * 512 + 1 * (sub r).val = r.val := by
  show r.val / 512 * 512 + 1 * (r.val % 512) = r.val; omega

theorem x_apply (r : Fin 32768) (k : Fin 1024) : bX m c (pt r) (ValueIdx.ix2 (sub r) k) = row m c r k := by
  refine (congrArg (V m c main_v0) (funext fun a => Fin.ext (place2 _ (in_idx (pt r)).1 (ValueIdx.ix2 (sub r) k : S512x1024.Idx) (ValueIdx.ix2 r k : S32768x1024.Idx) (pt_sub r) (origin _ _) a))).trans ?_
  rw [V_x]
  unfold row
  pointwise
  rfl
theorem bias_apply (t : Fin cfg0.N) (j : Fin 256) : bBias m c t (ValueIdx.ix2 0 j) = argB m c (ValueIdx.ix1 j) := by
  rw [blk_bias]
  pointwise
  rfl

/-- A row's product with a column of the weights, from the block that holds the row. -/
theorem dot_col {n : ℕ} (P : Vec Ideal ⟨2, ![1024, n]⟩ .bf16) (r : Fin 32768) (j : Fin n) (J : Fin 2048) (K : Fin 3088) (h : J.val < 512 ∧ K.val = J.val ∨ 512 ≤ J.val ∧ K.val = 1024 + J.val)
    (hP : ∀ k, P (ValueIdx.ix2 k j) = bMain m c (pt r) (ValueIdx.ix2 k J)) : dot (lX (bX m c (pt r))) P (sub r) j = col (row m c r) (argW m c) K := by
  refine Eq.trans (Finset.sum_congr rfl fun k _ => ?_) (main_col (row m c r) (argW m c) J K h)
  refine congrArg₂ (α := EReal) (β := EReal) (· * ·) ?_ ((hP k).trans (congrFun (blk_main m c _) _))
  rw [lX_eq]
  exact x_apply m c r k
theorem kv_col (P : Vec Ideal S512x1024 .bf16) (r : Fin 32768) (j : Fin 512) (J : Fin 1024) (K : Fin 3088) (h : K.val = 512 + J.val)
    (hP : ∀ k, P (ValueIdx.ix2 j k) = bKvt m c (pt r) (ValueIdx.ix2 J k)) : kvOut (lX (bX m c (pt r))) P 0 j (sub r) = col (row m c r) (argW m c) K := by
  refine Eq.trans (Finset.sum_congr rfl fun k _ => ?_) (kvt_col (row m c r) (argW m c) J K h)
  refine congrArg₂ (α := EReal) (β := EReal) (· * ·) ?_ ((hP k).trans (congrFun (blk_kvt m c _) _))
  rw [lX_eq]
  exact x_apply m c r k
theorem gate_dot (r : Fin 32768) (j : Fin 256) : rowsLg m c (pt r) (ValueIdx.ix2 (sub r) j) = logGate (gateIn (row m c r) (argW m c) (argU m c) (argB m c) j) := by
  refine (gates_apply _ _ _ _ _ _).trans (congrArg logGate ?_)
  rw [lX_eq, lDown_eq, lUp_eq, lBias_eq]
  refine congrArg₂ (α := EReal) (β := EReal) (· + ·) (Eq.trans (Finset.sum_congr rfl fun i _ => ?_) (low_rank (row m c r) (argW m c) (argU m c) j)) (bias_apply m c _ j)
  exact congrArg₂ (α := EReal) (β := EReal) (· * ·) (Finset.sum_congr rfl fun k _ => congrArg₂ (α := EReal) (β := EReal) (· * ·) (x_apply m c r k) (congrFun (blk_down m c _) _)) (congrFun (blk_up m c _) _)

/-! ## The results -/

theorem res_q (h : Fin 8) (r : Fin 32768) (d : Fin 64) :
    ((dats m 0 c).arrAt 6 cfg0.N : Vec Ideal S8x32768x64 .bf16) (ValueIdx.ix3 h r d) = col (row m c r) (argW m c) ⟨h.val * 64 + d.val, by omega⟩ * eighth := by
  have e := congrFun ((Value.blocks6 m c (pt r) (flush0_6 (pt r))).trans (flush_q m c (pt r))) (ValueIdx.ix3 h (sub r) d : S8x512x64.Idx)
  refine (congrArg ((dats m 0 c).arrAt 6 cfg0.N) (funext fun a => Fin.ext (place3 _ (heads_idx (pt r)).1 (ValueIdx.ix3 h (sub r) d : S8x512x64.Idx) (ValueIdx.ix3 h r d : S8x32768x64.Idx) (origin _ _) (pt_sub r) (origin _ _) a))).symm.trans (e.trans ?_)
  refine congrArg (· * eighth) (dot_col m c _ r _ ⟨h.val * 64 + d.val, by omega⟩ _ (Or.inl ⟨?_, rfl⟩) (fun k => lQ_apply _ k _))
  show h.val * 64 + d.val < 512; omega
theorem res_gq (h : Fin 4) (r : Fin 32768) (d : Fin 64) :
    ((dats m 0 c).arrAt 9 cfg0.N : Vec Ideal S4x32768x64 .f32) (ValueIdx.ix3 h r d) = col (row m c r) (argW m c) ⟨1536 + (h.val * 64 + d.val), by omega⟩ * eighth := by
  have e := congrFun ((Value.blocks9 m c (pt r) (flush0_9 (pt r))).trans (flush_gq m c (pt r))) (ValueIdx.ix3 h (sub r) d : S4x512x64.Idx)
  refine (congrArg ((dats m 0 c).arrAt 9 cfg0.N) (funext fun a => Fin.ext (place3 _ (heads_idx (pt r)).2.1 (ValueIdx.ix3 h (sub r) d : S4x512x64.Idx) (ValueIdx.ix3 h r d : S4x32768x64.Idx) (origin _ _) (pt_sub r) (origin _ _) a))).symm.trans (e.trans ?_)
  refine (pay_gq _ _ (sub r) ⟨h.val * 64 + d.val, by omega⟩).trans (congrArg (· * eighth) (dot_col m c _ r _ ⟨512 + (h.val * 64 + d.val), by omega⟩ _ (Or.inr ⟨Nat.le_add_right _ _, ?_⟩) (fun k => lGq_apply _ k _)))
  show 1536 + (h.val * 64 + d.val) = 1024 + (512 + (h.val * 64 + d.val)); omega
theorem res_gk (h : Fin 4) (r : Fin 32768) (d : Fin 64) :
    ((dats m 0 c).arrAt 10 cfg0.N : Vec Ideal S4x32768x64 .f32) (ValueIdx.ix3 h r d) = col (row m c r) (argW m c) ⟨1792 + (h.val * 64 + d.val), by omega⟩ := by
  have e := congrFun ((Value.blocks10 m c (pt r) (flush0_10 (pt r))).trans (flush_gk m c (pt r))) (ValueIdx.ix3 h (sub r) d : S4x512x64.Idx)
  refine (congrArg ((dats m 0 c).arrAt 10 cfg0.N) (funext fun a => Fin.ext (place3 _ (heads_idx (pt r)).2.2.1 (ValueIdx.ix3 h (sub r) d : S4x512x64.Idx) (ValueIdx.ix3 h r d : S4x32768x64.Idx) (origin _ _) (pt_sub r) (origin _ _) a))).symm.trans (e.trans ?_)
  refine (pay_gk _ _ (sub r) ⟨h.val * 64 + d.val, by omega⟩).trans (dot_col m c _ r _ ⟨768 + (h.val * 64 + d.val), by omega⟩ _ (Or.inr ⟨?_, ?_⟩) (fun k => lGk_apply _ k _))
  · show 512 ≤ 768 + (h.val * 64 + d.val); omega
  · show 1792 + (h.val * 64 + d.val) = 1024 + (768 + (h.val * 64 + d.val)); omega
theorem res_lg (h : Fin 4) (r : Fin 32768) (d : Fin 64) :
    ((dats m 0 c).arrAt 11 cfg0.N : Vec Ideal S4x32768x64 .f32) (ValueIdx.ix3 h r d) = logGate (gateIn (row m c r) (argW m c) (argU m c) (argB m c) ⟨h.val * 64 + d.val, by omega⟩) := by
  have e := congrFun ((Value.blocks11 m c (pt r) (flush0_11 (pt r))).trans (flush_lg m c (pt r))) (ValueIdx.ix3 h (sub r) d : S4x512x64.Idx)
  refine (congrArg ((dats m 0 c).arrAt 11 cfg0.N) (funext fun a => Fin.ext (place3 _ (heads_idx (pt r)).2.2.2 (ValueIdx.ix3 h (sub r) d : S4x512x64.Idx) (ValueIdx.ix3 h r d : S4x32768x64.Idx) (origin _ _) (pt_sub r) (origin _ _) a))).symm.trans (e.trans ?_)
  exact gate_dot m c r ⟨h.val * 64 + d.val, by omega⟩
theorem res_gv (r : Fin 32768) (d : Fin 512) :
    ((dats m 0 c).arrAt 12 cfg0.N : Vec Ideal S32768x512 .f32) (ValueIdx.ix2 r d) = col (row m c r) (argW m c) ⟨2048 + d.val, by omega⟩ := by
  have e := congrFun ((Value.blocks12 m c (pt r) (flush0_12 (pt r))).trans (flush_gv m c (pt r))) (ValueIdx.ix2 (sub r) d : S512x512.Idx)
  refine (congrArg ((dats m 0 c).arrAt 12 cfg0.N) (funext fun a => Fin.ext (place2 _ (rows_idx (pt r)).1 (ValueIdx.ix2 (sub r) d : S512x512.Idx) (ValueIdx.ix2 r d : S32768x512.Idx) (pt_sub r) (origin _ _) a))).symm.trans (e.trans ?_)
  refine (pay_gv _ _ (sub r) d).trans (dot_col m c _ r _ ⟨1024 + d.val, by omega⟩ _ (Or.inr ⟨?_, ?_⟩) (fun k => lGv_apply _ k _))
  · show 512 ≤ 1024 + d.val; omega
  · show 2048 + d.val = 1024 + (1024 + d.val); omega
theorem res_gr (r : Fin 32768) (d : Fin 512) :
    ((dats m 0 c).arrAt 13 cfg0.N : Vec Ideal S32768x512 .f32) (ValueIdx.ix2 r d) = col (row m c r) (argW m c) ⟨2560 + d.val, by omega⟩ := by
  have e := congrFun ((Value.blocks13 m c (pt r) (flush0_13 (pt r))).trans (flush_gr m c (pt r))) (ValueIdx.ix2 (sub r) d : S512x512.Idx)
  refine (congrArg ((dats m 0 c).arrAt 13 cfg0.N) (funext fun a => Fin.ext (place2 _ (rows_idx (pt r)).2 (ValueIdx.ix2 (sub r) d : S512x512.Idx) (ValueIdx.ix2 r d : S32768x512.Idx) (pt_sub r) (origin _ _) a))).symm.trans (e.trans ?_)
  refine (pay_gr _ _ (sub r) d).trans (dot_col m c _ r _ ⟨1536 + d.val, by omega⟩ _ (Or.inr ⟨?_, ?_⟩) (fun k => lGr_apply _ k _))
  · show 512 ≤ 1536 + d.val; omega
  · show 2560 + d.val = 1024 + (1536 + d.val); omega

/-- Position `p` of sequence `b`, as a row. -/
def at2 (b : Fin 16) (p : Fin 2048) : Fin 32768 := ⟨b.val * 2048 + p.val, by omega⟩

theorem at2_b (b : Fin 16) (p : Fin 2048) : (16 + (pt (at2 b p)).val / 4) * 1 + 1 * 0 = 16 + b.val := by
  show (16 + (b.val * 2048 + p.val) / 512 / 4) * 1 + 1 * 0 = 16 + b.val; omega
theorem at2_p (b : Fin 16) (p : Fin 2048) : (pt (at2 b p)).val % 4 * 512 + 1 * (sub (at2 b p)).val = p.val := by
  show (b.val * 2048 + p.val) / 512 % 4 * 512 + 1 * ((b.val * 2048 + p.val) % 512) = p.val; omega

theorem res_k (b : Fin 16) (j : Fin 512) (p : Fin 2048) :
    ((dats m 0 c).arrAt 7 cfg0.N : Vec Ideal S32x512x2048 .f32) (ValueIdx.ix3 ⟨16 + b.val, by omega⟩ j p) = col (row m c (at2 b p)) (argW m c) ⟨512 + j.val, by omega⟩ := by
  have e := congrFun ((Value.blocks7 m c (pt (at2 b p)) (flush0_7 (pt (at2 b p)))).trans (flush_k m c (pt (at2 b p)))) (ValueIdx.ix3 0 j (sub (at2 b p)) : S1x512x512.Idx)
  refine (congrArg ((dats m 0 c).arrAt 7 cfg0.N) (funext fun a => Fin.ext (place3 _ (cache_idx (pt (at2 b p))).1 (ValueIdx.ix3 0 j (sub (at2 b p)) : S1x512x512.Idx) (ValueIdx.ix3 ⟨16 + b.val, by omega⟩ j p : S32x512x2048.Idx) (at2_b b p) (origin _ _) (at2_p b p) a))).symm.trans (e.trans ?_)
  refine kv_col m c _ (at2 b p) j ⟨j.val, by omega⟩ _ ?_ (fun k => lK_apply _ j k)
  show 512 + j.val = 512 + (j.val); omega
/-- The first layer's sixteen sequences are as the call found them. -/
theorem res_k_rest (b : Fin 32) (hb : b.val < 16) (j : Fin 512) (p : Fin 2048) :
    ((dats m 0 c).arrAt 7 cfg0.N : Vec Ideal S32x512x2048 .f32) (ValueIdx.ix3 b j p) = argK m c (ValueIdx.ix3 b j p) := by
  refine (Value.entry7 m c (ValueIdx.ix3 b j p : S32x512x2048.Idx) fun t _ hi => ?_).trans (congrFun (V_k m c) _)
  obtain ⟨x, -, hx⟩ := Finset.mem_map.mp hi
  have h0 : cc0_transform_9 (grid0.coords t) 0 * 1 + 1 * (x 0).val = b.val := congrArg (fun i : S32x512x2048.Idx => (i 0).val) hx
  have h1 : cc0_transform_9 (grid0.coords t) 0 = 16 + t.val / 4 := congrFun (cache_idx t).1 0
  have h2 : t.val < 64 := t.isLt
  have h3 : (x 0).val < 1 := (x 0).isLt
  omega
theorem res_v (b : Fin 16) (j : Fin 512) (p : Fin 2048) :
    ((dats m 0 c).arrAt 8 cfg0.N : Vec Ideal S32x512x2048 .f32) (ValueIdx.ix3 ⟨16 + b.val, by omega⟩ j p) = col (row m c (at2 b p)) (argW m c) ⟨1024 + j.val, by omega⟩ := by
  have e := congrFun ((Value.blocks8 m c (pt (at2 b p)) (flush0_8 (pt (at2 b p)))).trans (flush_v m c (pt (at2 b p)))) (ValueIdx.ix3 0 j (sub (at2 b p)) : S1x512x512.Idx)
  refine (congrArg ((dats m 0 c).arrAt 8 cfg0.N) (funext fun a => Fin.ext (place3 _ (cache_idx (pt (at2 b p))).2 (ValueIdx.ix3 0 j (sub (at2 b p)) : S1x512x512.Idx) (ValueIdx.ix3 ⟨16 + b.val, by omega⟩ j p : S32x512x2048.Idx) (at2_b b p) (origin _ _) (at2_p b p) a))).symm.trans (e.trans ?_)
  refine kv_col m c _ (at2 b p) j ⟨512 + j.val, by omega⟩ _ ?_ (fun k => lV_apply _ j k)
  show 1024 + j.val = 512 + (512 + j.val); omega
/-- The first layer's sixteen sequences are as the call found them. -/
theorem res_v_rest (b : Fin 32) (hb : b.val < 16) (j : Fin 512) (p : Fin 2048) :
    ((dats m 0 c).arrAt 8 cfg0.N : Vec Ideal S32x512x2048 .f32) (ValueIdx.ix3 b j p) = argV m c (ValueIdx.ix3 b j p) := by
  refine (Value.entry8 m c (ValueIdx.ix3 b j p : S32x512x2048.Idx) fun t _ hi => ?_).trans (congrFun (V_v m c) _)
  obtain ⟨x, -, hx⟩ := Finset.mem_map.mp hi
  have h0 : cc0_transform_10 (grid0.coords t) 0 * 1 + 1 * (x 0).val = b.val := congrArg (fun i : S32x512x2048.Idx => (i 0).val) hx
  have h1 : cc0_transform_10 (grid0.coords t) 0 = 16 + t.val / 4 := congrFun (cache_idx t).2 0
  have h2 : t.val < 64 := t.isLt
  have h3 : (x 0).val < 1 := (x 0).isLt
  omega

end Arrays

end Cert.Kernel10Ideal.Proj

end
-- ==== Proof.Proj.NextClaims.lean ====
/- The claims about the input projection of the prompt rows in the second layer. -/
module

public import proofs.«01_k».proof.Defs
public import proofs.«01_k».proof.Proof.Proj.Next
public import proofs.«01_k».proof.Proof.Gen.Kernel10.Frame
public import proofs.«01_k».proof.Proof.Gen.Reference10Ideal.Run

@[expose] public section

set_option maxRecDepth 16384

noncomputable section

namespace Cert.Proj.Next

open Idealize.ShloMosaic Idealize.ShloMosaic.TcCoe Idealize.SL.Sem
open Cert.Kernel10Ideal.Proj Cert.Proj

theorem frame_kernel : Cert.quiescent_Kernel10 := fun m ρ _ => Cert.Kernel10.Gen.frame m ρ
theorem frame_ideal : Cert.quiescent_Kernel10Ideal := fun m ρ _ => Cert.Kernel10Ideal.Gen.frame m ρ
theorem frame_ref : Cert.quiescent_Reference10Ideal := fun m ρ _ =>
  (θ_run Cert.Reference10Ideal.defs _ _).mono (fun r h => ⟨fun c => (h c).2.2.2.2.2.2.2.2, Idealize.ShloMosaic.sem_eq_zero_of_no_sems (by decide) r.2⟩) (Cert.Reference10Ideal.Value.run (F := Ideal) m ρ)

section Reference
open Cert.Reference10Ideal Cert.Reference10Ideal.Gen
variable (m : (ℓ : Loc nD τ sig) → Buf (Elt Ideal) ℓ) (c : Dev nD)

abbrev refX : Vec Ideal S16x2048x1024 .f32 := m ((c.tc : Thread nD τ).loc main_arg0)
abbrev refW : Vec Ideal S1024x3088 .f32 := m ((c.tc : Thread nD τ).loc main_arg1)
abbrev refU : Vec Ideal S16x256 .f32 := m ((c.tc : Thread nD τ).loc main_arg2)
abbrev refB : Vec Ideal S256 .f32 := m ((c.tc : Thread nD τ).loc main_arg3)
abbrev refK : Vec Ideal S32x512x2048 .f32 := m ((c.tc : Thread nD τ).loc main_arg4)
abbrev refV : Vec Ideal S32x512x2048 .f32 := m ((c.tc : Thread nD τ).loc main_arg5)

/-- Row `r` of the reference's inputs. -/
def refRow (r : Fin 32768) (k : Fin 1024) : EReal := refX m c (ValueIdx.ix3 ⟨r.val / 2048, by omega⟩ ⟨r.val % 2048, by omega⟩ k)

section Terms
variable (x : Vec Ideal S16x2048x1024 .f32) (w : Vec Ideal S1024x3088 .f32) (u : Vec Ideal S16x256 .f32) (b : Vec Ideal S256 .f32)

/-- The reference's one product, its slices, and what goes into its gate. -/
def prod : FVec Ideal S32768x3088 .f32 := Host.dotGeneral (F := Ideal) (φ₁ := .f32) (φ₂ := .f32) dot_S32768x1024_S1024x3088_S32768x3088_1_0_0_1_n_n none (shapeCast S32768x1024 x shapeCasts_S16x2048x1024_S32768x1024 : FVec Ideal S32768x1024 .f32) (w : FVec Ideal S1024x3088 .f32)
def gateSum (P : FVec Ideal S32768x3088 .f32) : FVec Ideal S32768x256 .f32 :=
  addf (Host.dotGeneral (F := Ideal) (φ₁ := .f32) (φ₂ := .f32) dot_S32768x16_S16x256_S32768x256_1_0_0_1_n_n none (extractStridedSlice S32768x16 ![0, 3072] P slices_S32768x3088_S32768x16_0_3072 : FVec Ideal S32768x16 .f32) (u : FVec Ideal S16x256 .f32) : FVec Ideal S32768x256 .f32)
    (broadcastInDim S32768x256 ![0, 1] bcast_S1x256_S32768x256_0_1 (broadcastInDim S1x256 ![1] bcast_S256_S1x256_1 (b : FVec Ideal S256 .f32) : FVec Ideal S1x256 .f32) : FVec Ideal S32768x256 .f32)
def zeros : FVec Ideal S32768x256 .f32 := broadcastInDim S32768x256 ![] bcast_S_S32768x256 (constant S_ .f32 0x00000000#32 : FVec Ideal S_ .f32)
def gateTerm (Z : FVec Ideal S32768x256 .f32) : FVec Ideal S32768x256 .f32 :=
  Host.divf (Host.negf (select (cmpf .une (subf (Host.negf Z) zeros) (subf (Host.negf Z) zeros)) (addf (Host.negf Z) zeros) (addf (maximumf (Host.negf Z) zeros) (Host.log1p (Host.exp (Host.negf (Host.absf (subf (Host.negf Z) zeros)))))))) (broadcastInDim S32768x256 ![] bcast_S_S32768x256 (constant S_ .f32 0x41800000#32 : FVec Ideal S_ .f32))

theorem prod_apply (r : Fin 32768) (j : Fin 3088) : prod x w (ValueIdx.ix2 r j) = col (fun k => x (ValueIdx.ix3 ⟨r.val / 2048, by omega⟩ ⟨r.val % 2048, by omega⟩ k)) w j := by
  unfold prod
  pointwise
  rfl
theorem gateSum_apply (P : FVec Ideal S32768x3088 .f32) (r : Fin 32768) (j : Fin 256) :
    gateSum u b P (ValueIdx.ix2 r j) = ∑ i : Fin 16, P (ValueIdx.ix2 r ⟨3072 + i.val, by omega⟩) * u (ValueIdx.ix2 i j) + b (ValueIdx.ix1 j) := by
  unfold gateSum
  pointwise
  rfl
theorem gateTerm_apply (Z : FVec Ideal S32768x256 .f32) (r : Fin 32768) (j : Fin 256) : gateTerm Z (ValueIdx.ix2 r j) = logGate (Z (ValueIdx.ix2 r j)) := by
  unfold gateTerm zeros logGate
  pointwise
  refine congrArg (fun z => Ideal.div (-z) _) ?_
  exact if_neg (fun hne => hne rfl)

theorem heads_q (P : FVec Ideal S32768x3088 .f32) (h : Fin 8) (r : Fin 32768) (d : Fin 64) :
    (truncf .bf16 (transpose S8x32768x64 [1, 0, 2] (shapeCast S32768x8x64 (mulf (extractStridedSlice S32768x512 ![0, 0] P slices_S32768x3088_S32768x512_0_0 : FVec Ideal S32768x512 .f32) (broadcastInDim S32768x512 ![] bcast_S_S32768x512 (constant S_ .f32 0x3E000000#32 : FVec Ideal S_ .f32) : FVec Ideal S32768x512 .f32) : FVec Ideal S32768x512 .f32) shapeCasts_S32768x512_S32768x8x64 : FVec Ideal S32768x8x64 .f32) transposes_S32768x8x64_S8x32768x64_1_0_2 : FVec Ideal S8x32768x64 .f32) bitsLt_bf16_f32 : FVec Ideal S8x32768x64 .bf16) (ValueIdx.ix3 h r d)
      = P (ValueIdx.ix2 r ⟨h.val * 64 + d.val, by omega⟩) * eighth := by
  pointwise
  rfl
theorem heads (Z : FVec Ideal S32768x256 .f32) (h : Fin 4) (r : Fin 32768) (d : Fin 64) :
    (transpose S4x32768x64 [1, 0, 2] (shapeCast S32768x4x64 Z shapeCasts_S32768x256_S32768x4x64 : FVec Ideal S32768x4x64 .f32) transposes_S32768x4x64_S4x32768x64_1_0_2 : FVec Ideal S4x32768x64 .f32) (ValueIdx.ix3 h r d)
      = Z (ValueIdx.ix2 r ⟨h.val * 64 + d.val, by omega⟩) := by
  pointwise
  rfl
theorem scaled (P : FVec Ideal S32768x3088 .f32) (r : Fin 32768) (j : Fin 256) :
    (mulf (extractStridedSlice S32768x256 ![0, 1536] P slices_S32768x3088_S32768x256_0_1536 : FVec Ideal S32768x256 .f32) (broadcastInDim S32768x256 ![] bcast_S_S32768x256 (constant S_ .f32 0x3E000000#32 : FVec Ideal S_ .f32) : FVec Ideal S32768x256 .f32) : FVec Ideal S32768x256 .f32) (ValueIdx.ix2 r j)
      = P (ValueIdx.ix2 r ⟨1536 + j.val, by omega⟩) * eighth := by
  pointwise
  rfl
theorem slice_gk (P : FVec Ideal S32768x3088 .f32) (r : Fin 32768) (j : Fin 256) :
    (extractStridedSlice S32768x256 ![0, 1792] P slices_S32768x3088_S32768x256_0_1792 : FVec Ideal S32768x256 .f32) (ValueIdx.ix2 r j) = P (ValueIdx.ix2 r ⟨1792 + j.val, by omega⟩) := by
  pointwise
  rfl
/-- A cache with its last sixteen sequences written. -/
def cacheWith (A : FVec Ideal S32768x512 .f32) (prev : Vec Ideal S32x512x2048 .f32) : FVec Ideal S32x512x2048 .f32 :=
  concatenate S32x512x2048 0 [⟨S16x512x2048, (extractStridedSlice S16x512x2048 ![0, 0, 0] (prev : FVec Ideal S32x512x2048 .f32) slices_S32x512x2048_S16x512x2048_0_0_0 : FVec Ideal S16x512x2048 .f32)⟩,
    ⟨S16x512x2048, (transpose S16x512x2048 [0, 2, 1] (shapeCast S16x2048x512 A shapeCasts_S32768x512_S16x2048x512 : FVec Ideal S16x2048x512 .f32) transposes_S16x2048x512_S16x512x2048_0_2_1 : FVec Ideal S16x512x2048 .f32)⟩] concatenates_S16x512x2048_S16x512x2048_S32x512x2048_d0
theorem cache_new (A : FVec Ideal S32768x512 .f32) (prev : Vec Ideal S32x512x2048 .f32) (b : Fin 16) (j : Fin 512) (p : Fin 2048) :
    cacheWith A prev (ValueIdx.ix3 ⟨16 + b.val, by omega⟩ j p) = A (ValueIdx.ix2 (at2 b p) j) := by
  unfold cacheWith
  pointwise
  rfl
theorem cache_old (A : FVec Ideal S32768x512 .f32) (prev : Vec Ideal S32x512x2048 .f32) (b : Fin 32) (hb : b.val < 16) (j : Fin 512) (p : Fin 2048) :
    cacheWith A prev (ValueIdx.ix3 b j p) = prev (ValueIdx.ix3 b j p) := by
  unfold cacheWith
  pointwise
  exact dif_pos hb
theorem slice_k (P : FVec Ideal S32768x3088 .f32) (r : Fin 32768) (j : Fin 512) :
    (extractStridedSlice S32768x512 ![0, 512] P slices_S32768x3088_S32768x512_0_512 : FVec Ideal S32768x512 .f32) (ValueIdx.ix2 r j) = P (ValueIdx.ix2 r ⟨512 + j.val, by omega⟩) := by
  pointwise
  rfl
theorem slice_v (P : FVec Ideal S32768x3088 .f32) (r : Fin 32768) (j : Fin 512) :
    (extractStridedSlice S32768x512 ![0, 1024] P slices_S32768x3088_S32768x512_0_1024 : FVec Ideal S32768x512 .f32) (ValueIdx.ix2 r j) = P (ValueIdx.ix2 r ⟨1024 + j.val, by omega⟩) := by
  pointwise
  rfl
theorem slice_gv (P : FVec Ideal S32768x3088 .f32) (r : Fin 32768) (j : Fin 512) :
    (extractStridedSlice S32768x512 ![0, 2048] P slices_S32768x3088_S32768x512_0_2048 : FVec Ideal S32768x512 .f32) (ValueIdx.ix2 r j) = P (ValueIdx.ix2 r ⟨2048 + j.val, by omega⟩) := by
  pointwise
  rfl
theorem slice_gr (P : FVec Ideal S32768x3088 .f32) (r : Fin 32768) (j : Fin 512) :
    (extractStridedSlice S32768x512 ![0, 2560] P slices_S32768x3088_S32768x512_0_2560 : FVec Ideal S32768x512 .f32) (ValueIdx.ix2 r j) = P (ValueIdx.ix2 r ⟨2560 + j.val, by omega⟩) := by
  pointwise
  rfl

end Terms

/-- What the reference leaves in its eight results. -/
structure Results (g : (ℓ : Loc nD τ sig) → Buf (Elt Ideal) ℓ) : Prop where
  q : ∀ (h : Fin 8) (r : Fin 32768) (d : Fin 64), (g ((c.tc : Thread nD τ).loc main_v21) : Vec Ideal S8x32768x64 .bf16) (ValueIdx.ix3 h r d) = col (refRow m c r) (refW m c) ⟨h.val * 64 + d.val, by omega⟩ * eighth
  k : ∀ (b : Fin 16) (j : Fin 512) (p : Fin 2048), (g ((c.tc : Thread nD τ).loc main_v33) : Vec Ideal S32x512x2048 .f32) (ValueIdx.ix3 ⟨16 + b.val, by omega⟩ j p) = col (refRow m c (at2 b p)) (refW m c) ⟨512 + j.val, by omega⟩
  k_rest : ∀ (b : Fin 32) (hb : b.val < 16) (j : Fin 512) (p : Fin 2048), (g ((c.tc : Thread nD τ).loc main_v33) : Vec Ideal S32x512x2048 .f32) (ValueIdx.ix3 b j p) = refK m c (ValueIdx.ix3 b j p)
  v : ∀ (b : Fin 16) (j : Fin 512) (p : Fin 2048), (g ((c.tc : Thread nD τ).loc main_v37) : Vec Ideal S32x512x2048 .f32) (ValueIdx.ix3 ⟨16 + b.val, by omega⟩ j p) = col (refRow m c (at2 b p)) (refW m c) ⟨1024 + j.val, by omega⟩
  v_rest : ∀ (b : Fin 32) (hb : b.val < 16) (j : Fin 512) (p : Fin 2048), (g ((c.tc : Thread nD τ).loc main_v37) : Vec Ideal S32x512x2048 .f32) (ValueIdx.ix3 b j p) = refV m c (ValueIdx.ix3 b j p)
  gq : ∀ (h : Fin 4) (r : Fin 32768) (d : Fin 64), (g ((c.tc : Thread nD τ).loc main_v25) : Vec Ideal S4x32768x64 .f32) (ValueIdx.ix3 h r d) = col (refRow m c r) (refW m c) ⟨1536 + (h.val * 64 + d.val), by omega⟩ * eighth
  gk : ∀ (h : Fin 4) (r : Fin 32768) (d : Fin 64), (g ((c.tc : Thread nD τ).loc main_v27) : Vec Ideal S4x32768x64 .f32) (ValueIdx.ix3 h r d) = col (refRow m c r) (refW m c) ⟨1792 + (h.val * 64 + d.val), by omega⟩
  lg : ∀ (h : Fin 4) (r : Fin 32768) (d : Fin 64), (g ((c.tc : Thread nD τ).loc main_v29) : Vec Ideal S4x32768x64 .f32) (ValueIdx.ix3 h r d) = logGate (gateIn (refRow m c r) (refW m c) (refU m c) (refB m c) ⟨h.val * 64 + d.val, by omega⟩)
  gv : ∀ (r : Fin 32768) (d : Fin 512), (g ((c.tc : Thread nD τ).loc main_v7) : Vec Ideal S32768x512 .f32) (ValueIdx.ix2 r d) = col (refRow m c r) (refW m c) ⟨2048 + d.val, by omega⟩
  gr : ∀ (r : Fin 32768) (d : Fin 512), (g ((c.tc : Thread nD τ).loc main_v8) : Vec Ideal S32768x512 .f32) (ValueIdx.ix2 r d) = col (refRow m c r) (refW m c) ⟨2560 + d.val, by omega⟩

theorem run_ref (ρ : Dev nD → PrngReg) :
    θ_run defs (onTc (τ := τ) (main (F := Ideal))) ⟨m, fun _ => 0, ρ⟩ fun r => ∀ c : Dev nD, Results m c r.2.mem
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨?_, (h c).2.2.2.2.2.2.2.2⟩) (Cert.Reference10Ideal.Value.run (F := Ideal) m ρ)
  obtain ⟨hq, hk, hv, hgq, hgk, hlg, hgv, hgr, -⟩ := h c
  have P : ∀ (r : Fin 32768) (j : Fin 3088), prod (refX m c) (refW m c) (ValueIdx.ix2 r j) = col (refRow m c r) (refW m c) j := prod_apply (refX m c) (refW m c)
  have hk' : r.2.mem ((c.tc : Thread nD τ).loc main_v33) = cacheWith (extractStridedSlice S32768x512 ![0, 512] (prod (refX m c) (refW m c)) slices_S32768x3088_S32768x512_0_512 : FVec Ideal S32768x512 .f32) (refK m c) := hk
  have hv' : r.2.mem ((c.tc : Thread nD τ).loc main_v37) = cacheWith (extractStridedSlice S32768x512 ![0, 1024] (prod (refX m c) (refW m c)) slices_S32768x3088_S32768x512_0_1024 : FVec Ideal S32768x512 .f32) (refV m c) := hv
  clear hk hv
  constructor
  · intro h r d
    exact (congrFun hq _).trans ((heads_q (prod (refX m c) (refW m c)) h r d).trans (congrArg (· * eighth) (P r _)))
  · intro b j p
    refine (congrFun hk' _).trans ?_
    refine (cache_new _ _ b j p).trans ?_
    refine (slice_k _ (at2 b p) j).trans ?_
    exact P (at2 b p) _
  · intro b hb j p
    refine (congrFun hk' _).trans ?_
    exact cache_old _ _ b hb j p
  · intro b j p
    refine (congrFun hv' _).trans ?_
    refine (cache_new _ _ b j p).trans ?_
    refine (slice_v _ (at2 b p) j).trans ?_
    exact P (at2 b p) _
  · intro b hb j p
    refine (congrFun hv' _).trans ?_
    exact cache_old _ _ b hb j p
  · intro h r d
    exact (congrFun hgq _).trans ((heads _ h r d).trans ((scaled (prod (refX m c) (refW m c)) r _).trans (congrArg (· * eighth) (P r _))))
  · intro h r d
    exact (congrFun hgk _).trans ((heads _ h r d).trans ((slice_gk (prod (refX m c) (refW m c)) r _).trans (P r _)))
  · intro h r d
    refine (congrFun hlg _).trans ((heads (gateTerm (gateSum (refU m c) (refB m c) (prod (refX m c) (refW m c)))) h r d).trans ?_)
    refine (gateTerm_apply _ r _).trans (congrArg logGate ((gateSum_apply _ _ _ r _).trans ?_))
    exact congrArg (· + _) (Finset.sum_congr rfl fun i _ => congrArg (· * _) (P r _))
  · intro r d
    exact (congrFun hgv _).trans ((slice_gv (prod (refX m c) (refW m c)) r d).trans (P r _))
  · intro r d
    exact (congrFun hgr _).trans ((slice_gr (prod (refX m c) (refW m c)) r d).trans (P r _))

end Reference

/-- Kernel and reference compute the same eight arrays. -/
theorem algebraic : Cert.algebraic_Kernel10Ideal_Reference10Ideal := by
  intro m g m' g' hpre hargs
  refine ⟨fun c => (Cert.Kernel10Ideal.Gen.dats m 0 c).arrAt 6 Cert.Kernel10Ideal.cfg0.N, fun c => (Cert.Kernel10Ideal.Gen.dats m 0 c).arrAt 7 Cert.Kernel10Ideal.cfg0.N,
    fun c => (Cert.Kernel10Ideal.Gen.dats m 0 c).arrAt 8 Cert.Kernel10Ideal.cfg0.N, fun c => (Cert.Kernel10Ideal.Gen.dats m 0 c).arrAt 9 Cert.Kernel10Ideal.cfg0.N,
    fun c => (Cert.Kernel10Ideal.Gen.dats m 0 c).arrAt 10 Cert.Kernel10Ideal.cfg0.N, fun c => (Cert.Kernel10Ideal.Gen.dats m 0 c).arrAt 11 Cert.Kernel10Ideal.cfg0.N,
    fun c => (Cert.Kernel10Ideal.Gen.dats m 0 c).arrAt 12 Cert.Kernel10Ideal.cfg0.N, fun c => (Cert.Kernel10Ideal.Gen.dats m 0 c).arrAt 13 Cert.Kernel10Ideal.cfg0.N,
    Cert.Kernel10Ideal.Value.run_blocks m g, ?_⟩
  refine (θ_run Cert.Reference10Ideal.defs _ _).mono (fun r h c => ?_) (run_ref m' g')
  obtain ⟨h0, h1, h2, h3, h4, h5⟩ := hargs c
  have eR : ∀ r : Fin 32768, refRow m' c r = row m c r := fun r => funext fun k => congrFun h0 _
  obtain ⟨R, A⟩ := h c
  refine ⟨funext fun i => ?_, funext fun i => ?_, funext fun i => ?_, funext fun i => ?_, funext fun i => ?_, funext fun i => ?_, funext fun i => ?_, funext fun i => ?_, A⟩
  · obtain ⟨h, r, d, rfl⟩ : ∃ (h : Fin 8) (r : Fin 32768) (d : Fin 64), i = ValueIdx.ix3 h r d := ⟨i 0, i 1, i 2, ValueIdx.eq_ix3 i⟩
    refine (R.q h r d).trans (Eq.trans ?_ (res_q m c h r d).symm)
    exact congrArg (· * eighth) (col_congr (eR r) h1 rfl)
  · obtain ⟨b, j, p, rfl⟩ : ∃ (b : Fin 32) (j : Fin 512) (p : Fin 2048), i = ValueIdx.ix3 b j p := ⟨i 0, i 1, i 2, ValueIdx.eq_ix3 i⟩
    by_cases hb : b.val < 16
    · exact (R.k_rest b hb j p).trans ((congrFun h4 _).trans (res_k_rest m c b hb j p).symm)
    · obtain ⟨b', rfl⟩ : ∃ b' : Fin 16, b = ⟨16 + b'.val, Nat.add_lt_add_left b'.isLt 16⟩ := ⟨⟨b.val - 16, by omega⟩, Fin.ext (by show b.val = 16 + (b.val - 16); omega)⟩
      exact (R.k b' j p).trans ((col_congr (eR _) h1 rfl).trans (res_k m c b' j p).symm)
  · obtain ⟨b, j, p, rfl⟩ : ∃ (b : Fin 32) (j : Fin 512) (p : Fin 2048), i = ValueIdx.ix3 b j p := ⟨i 0, i 1, i 2, ValueIdx.eq_ix3 i⟩
    by_cases hb : b.val < 16
    · exact (R.v_rest b hb j p).trans ((congrFun h5 _).trans (res_v_rest m c b hb j p).symm)
    · obtain ⟨b', rfl⟩ : ∃ b' : Fin 16, b = ⟨16 + b'.val, Nat.add_lt_add_left b'.isLt 16⟩ := ⟨⟨b.val - 16, by omega⟩, Fin.ext (by show b.val = 16 + (b.val - 16); omega)⟩
      exact (R.v b' j p).trans ((col_congr (eR _) h1 rfl).trans (res_v m c b' j p).symm)
  · obtain ⟨h, r, d, rfl⟩ : ∃ (h : Fin 4) (r : Fin 32768) (d : Fin 64), i = ValueIdx.ix3 h r d := ⟨i 0, i 1, i 2, ValueIdx.eq_ix3 i⟩
    refine (R.gq h r d).trans (Eq.trans ?_ (res_gq m c h r d).symm)
    exact congrArg (· * eighth) (col_congr (eR r) h1 rfl)
  · obtain ⟨h, r, d, rfl⟩ : ∃ (h : Fin 4) (r : Fin 32768) (d : Fin 64), i = ValueIdx.ix3 h r d := ⟨i 0, i 1, i 2, ValueIdx.eq_ix3 i⟩
    exact (R.gk h r d).trans ((col_congr (eR r) h1 rfl).trans (res_gk m c h r d).symm)
  · obtain ⟨h, r, d, rfl⟩ : ∃ (h : Fin 4) (r : Fin 32768) (d : Fin 64), i = ValueIdx.ix3 h r d := ⟨i 0, i 1, i 2, ValueIdx.eq_ix3 i⟩
    refine (R.lg h r d).trans (Eq.trans ?_ (res_lg m c h r d).symm)
    exact congrArg logGate (gateIn_congr (eR r) h1 h2 h3 _)
  · obtain ⟨r, d, rfl⟩ : ∃ (r : Fin 32768) (d : Fin 512), i = ValueIdx.ix2 r d := ⟨i 0, i 1, ValueIdx.eq_ix2 i⟩
    exact (R.gv r d).trans ((col_congr (eR r) h1 rfl).trans (res_gv m c r d).symm)
  · obtain ⟨r, d, rfl⟩ : ∃ (r : Fin 32768) (d : Fin 512), i = ValueIdx.ix2 r d := ⟨i 0, i 1, ValueIdx.eq_ix2 i⟩
    exact (R.gr r d).trans ((col_congr (eR r) h1 rfl).trans (res_gr m c r d).symm)

end Cert.Proj.Next

end
-- ==== Proof.Norm.lean ====
/- The layer norm of a row, over the extended reals, with its three constants as the programs write them. -/
module

public import Idealize.ShloMosaic.Lib.IdealHost
public import Idealize.ShloMosaic.Lib.Pointwise

@[expose] public section

noncomputable section

namespace Cert.Norm

open Idealize.ShloMosaic

/-- The literal of the residual's factor, the fourth root of four, -/
def alpha : EReal := Ideal.ofBits FTy.f32 0x3FB504F3#32
/-- of the number of features, -/
def width : EReal := Ideal.ofBits FTy.f32 0x44800000#32
/-- and of the variance's offset. -/
def eps : EReal := Ideal.ofBits FTy.f32 0x3727C5AC#32

/-- A row's mean, -/
def mean (y : Fin 1024 → EReal) : EReal := Ideal.div (∑ x : Fin 1024, y x) width

/-- and its feature `d` less the mean, over the root of the variance, scaled by `g` and shifted by `b`. -/
def lnRow (y : Fin 1024 → EReal) (g b : EReal) (d : Fin 1024) : EReal :=
  (y d - mean y) * Ideal.rsqrt (Ideal.div (∑ x : Fin 1024, (y x - mean y) * (y x - mean y)) width + eps) * g + b

theorem lnRow_congr {y y' : Fin 1024 → EReal} {g g' b b' : EReal} (hy : ∀ e, y e = y' e) (hg : g = g') (hb : b = b') (d : Fin 1024) :
    lnRow y g b d = lnRow y' g' b' d := by
  rw [funext hy, hg, hb]

end Cert.Norm

end
-- ==== Proof.Merge.Value.lean ====
/- The output projection with its norm: what the kernel's result holds at a row and a column. -/
module

public import proofs.«01_k».proof.Proof.Norm
public import proofs.«01_k».proof.Proof.Gen.Kernel4Ideal.Value
public import Idealize.ShloMosaic.Lib.Pipeline.Value
public import Idealize.ShloMosaic.Lib.Pipeline.ValueKit.Basic
public import Idealize.ShloMosaic.Lib.StableHlo.RunRead

@[expose] public section

set_option maxRecDepth 16384

noncomputable section

namespace Cert.Kernel4Ideal.Merge

open Cert.Kernel4Ideal Cert.Kernel4Ideal.Gen Cert.Norm
open Idealize.ShloMosaic Idealize.ShloMosaic.TcCoe Idealize.SL.Sem
open Idealize.ShloMosaic.Pipeline (Dat Cfg Window)

section Array
variable {F : FTy → Type} [FloatOps F] (m : (ℓ : Loc nD τ sig) → Buf (Elt F) ℓ)

/-! ## The output array, tile by tile -/

/-- Tiles of 512 rows, stacked. -/
def spread (g : Fin grid0.N → Vec F S512x1024 .f32) : Vec F S32768x1024 .f32 := fun i =>
  g ⟨(i 0).val / 512, by rw [Gen.N_0]; have : (i 0).val < 32768 := (i 0).isLt; omega⟩ (ValueIdx.ix2 ⟨(i 0).val % 512, Nat.mod_lt _ (by decide)⟩ (i 1))

/-- A row of the stack is the row of its tile. -/
theorem spread_at (g : Fin grid0.N → Vec F S512x1024 .f32) (t : Fin grid0.N) (j : S512x1024.Idx) (i : S32768x1024.Idx)
    (h0 : (i 0).val = t.val * 512 + (j 0).val) (h1 : (i 1).val = (j 1).val) : spread g i = g t j := by
  have hj : (j 0).val < 512 := (j 0).isLt
  have e1 : ∀ h, (⟨(i 0).val / 512, h⟩ : Fin grid0.N) = t := fun _ => Fin.ext (by show (i 0).val / 512 = t.val; omega)
  have e2 : ∀ h, (ValueIdx.ix2 ⟨(i 0).val % 512, h⟩ (i 1) : S512x1024.Idx) = j := fun _ => funext fun a => by
    match a with
    | ⟨0, _⟩ => exact Fin.ext (by show (i 0).val % 512 = (j 0).val; omega)
    | ⟨1, _⟩ => exact Fin.ext h1
  unfold spread
  rw [e1, e2]

/-- What a point's body leaves in its block of the output. -/
def tile (c : Dev nD) (t : Fin cfg0.N) : Vec F S512x1024 .f32 :=
  k0_pay1 (k0_pay2 (iblk m c 6 t)) (k0_pay3 (iblk m c 0 t) (iblk m c 3 t) (iblk m c 1 t) (iblk m c 4 t) (iblk m c 2 t) (iblk m c 5 t))

/-- The output array. -/
def outArr (c : Dev nD) : Vec F S32768x1024 .f32 := spread (fun t => tile m c t)

theorem out_eq (x0 : Vec F S512x512 .bf16) (x1 : Vec F S512x512 .bf16) (x2 : Vec F S512x1024 .f32) (x3 : Vec F S512x1024 .bf16) (x4 : Vec F S512x1024 .bf16) (x5 : Vec F S1x1024 .f32) (x6 : Vec F S1x1024 .f32) :
    out0_7 x0 x1 x2 x3 x4 x5 x6 = k0_pay1 (k0_pay2 x6) (k0_pay3 x0 x3 x1 x4 x2 x5) := by
  have ha : ∀ x : Vec F S512x512 .bf16, View.ld x r0_0 = x := fun x => View.ld_unit_lit _ x (by decide)
  have hb : ∀ {e : EltTy} (x : S512x1024.Idx → Elt F e), View.ld x r0_1 = x := fun x => View.ld_unit_lit _ x (by decide)
  have hc : ∀ x : Vec F S1x1024 .f32, View.ld x r0_2 = x := fun x => View.ld_unit_lit _ x (by decide)
  unfold out0_7
  rw [ha, ha, hb, hb, hb, hc, hc]
  exact View.canon_cons_unit_lit _ _ _ (by decide)

theorem idx7 (t : Fin grid0.N) : cc0_transform_7 (grid0.coords t) = ![t.val, 0] := by
  revert t; decide +kernel

/-- A place of the output's block at a point, in the array. -/
theorem emb7 (t : Fin cfg0.N) (j : S512x1024.Idx) (a : Fin 2) :
    (((cfg0.win 7).blk t).view.emb j a).val = (![t.val, 0] : Fin 2 → ℕ) a * S512x1024.size a + (j a).val := by
  show cc0_transform_7 (grid0.coords t) a * S512x1024.size a + 1 * (j a).val = _
  rw [idx7 t, Nat.one_mul]

theorem cut_spread (g : Fin grid0.N → Vec F S512x1024 .f32) (t : Fin cfg0.N) :
    (cfg0.win 7).cut (grid0.coords t) (g t) = ((cfg0.win 7).blk t).view.read (Elt F) (spread g) := by
  refine funext fun j => ?_
  have h0 := emb7 t j 0
  have h1 : _ = 0 * 1024 + _ := emb7 t j 1
  rw [Nat.zero_mul, Nat.zero_add] at h1
  exact (spread_at g t j _ h0 h1).symm

theorem flushed_eq (c : Dev nD) (t : Fin cfg0.N) :
    (dats m 0 c).flushed 7 t = ((cfg0.win 7).blk t).view.read (Elt F) (outArr m c) := by
  rw [Value.flushed7, out_eq]
  exact cut_spread (fun t => tile m c t) t

theorem cover (i : S32768x1024.Idx) : ∃ t, (cfg0.win 7).flush t = true ∧ i ∈ ((cfg0.win 7).blk t).view.set := by
  have hi : (i 0).val < 32768 := (i 0).isLt
  refine ⟨⟨(i 0).val / 512, by show _ < grid0.N; rw [Gen.N_0]; omega⟩, flush0_7 _, ?_⟩
  have h := ((cfg0.win 7).blk ⟨(i 0).val / 512, by show _ < grid0.N; rw [Gen.N_0]; omega⟩).view.emb_mem_set (ValueIdx.ix2 ⟨(i 0).val % 512, Nat.mod_lt _ (by decide)⟩ (i 1) : S512x1024.Idx)
  refine (congrArg (· ∈ _) (funext fun a => Fin.ext ?_)).mp h
  refine (emb7 _ _ a).trans ?_
  match a with
  | ⟨0, _⟩ => show (i 0).val / 512 * 512 + (i 0).val % 512 = (i 0).val; omega
  | ⟨1, _⟩ => show 0 * 1024 + (i 1).val = (i 1).val; omega

theorem final_out (c : Dev nD) : (dats m 0 c).arrAt 7 cfg0.N = outArr m c :=
  (dats m 0 c).arrAt_eq_of_cover 7 (outArr m c) (fun t _ => flushed_eq m c t) cover

/-! ## The arrays that the host code prepares -/

theorem V_a (c : Dev nD) : V m c main_v1 = truncf .bf16 (m ((c : Thread nD τ).loc main_arg0) : Vec F S32768x512 .f32) bitsLt_bf16_f32 := by
  show StableHlo.after hostOps0 (fun b => m (c, b)) (Proc.devRef .tc main_v1) = _
  after_reads_simp
theorem V_b (c : Dev nD) : V m c main_v2 = truncf .bf16 (m ((c : Thread nD τ).loc main_arg1) : Vec F S32768x512 .f32) bitsLt_bf16_f32 := by
  show StableHlo.after hostOps0 (fun b => m (c, b)) (Proc.devRef .tc main_v2) = _
  after_reads_simp
theorem V_wa (c : Dev nD) : V m c main_v3 = extractStridedSlice S512x1024 ![0, 0] (truncf .bf16 (m ((c : Thread nD τ).loc main_arg3) : Vec F S1024x1024 .f32) bitsLt_bf16_f32) slices_S1024x1024_S512x1024_0_0 := by
  show StableHlo.after hostOps0 (fun b => m (c, b)) (Proc.devRef .tc main_v3) = _
  after_reads_simp
theorem V_wb (c : Dev nD) : V m c main_v4 = extractStridedSlice S512x1024 ![512, 0] (truncf .bf16 (m ((c : Thread nD τ).loc main_arg3) : Vec F S1024x1024 .f32) bitsLt_bf16_f32) slices_S1024x1024_S512x1024_512_0 := by
  show StableHlo.after hostOps0 (fun b => m (c, b)) (Proc.devRef .tc main_v4) = _
  after_reads_simp
theorem V_g (c : Dev nD) : V m c main_v5 = broadcastInDim S1x1024 ![1] bcast_S1024_S1x1024_1 (m ((c : Thread nD τ).loc main_arg4) : Vec F S1024 .f32) := by
  show StableHlo.after hostOps0 (fun b => m (c, b)) (Proc.devRef .tc main_v5) = _
  after_reads_simp
theorem V_beta (c : Dev nD) : V m c main_v6 = broadcastInDim S1x1024 ![1] bcast_S1024_S1x1024_1 (m ((c : Thread nD τ).loc main_arg5) : Vec F S1024 .f32) := by
  show StableHlo.after hostOps0 (fun b => m (c, b)) (Proc.devRef .tc main_v6) = _
  after_reads_simp

/-! ## The input blocks -/

theorem row_idx (t : Fin grid0.N) : cc0_transform_0 (grid0.coords t) = ![t.val, 0] ∧ cc0_transform_1 (grid0.coords t) = ![t.val, 0] ∧ cc0_transform_2 (grid0.coords t) = ![t.val, 0] := by
  revert t; decide +kernel
theorem full_idx (t : Fin grid0.N) : cc0_transform_3 (grid0.coords t) = ![0, 0] ∧ cc0_transform_4 (grid0.coords t) = ![0, 0] ∧ cc0_transform_5 (grid0.coords t) = ![0, 0] ∧ cc0_transform_6 (grid0.coords t) = ![0, 0] := by
  revert t; decide +kernel

theorem iblk_0 (c : Dev nD) (t : Fin cfg0.N) (r : Fin 512) (k : Fin 512) (R : Fin 32768) (hR : R.val = t.val * 512 + r.val) :
    (iblk m c 0 t : Vec F S512x512 .bf16) (ValueIdx.ix2 r k) = V m c main_v1 (ValueIdx.ix2 R k) := by
  refine congrArg (V m c main_v1) (funext fun a => Fin.ext ?_)
  show cc0_transform_0 (grid0.coords t) a * S512x512.size a + 1 * (ValueIdx.ix2 r k a).val = _
  rw [(row_idx t).1]
  match a with
  | ⟨0, _⟩ => show t.val * 512 + 1 * r.val = R.val; omega
  | ⟨1, _⟩ => show 0 * 512 + 1 * k.val = k.val; omega
theorem iblk_1 (c : Dev nD) (t : Fin cfg0.N) (r : Fin 512) (k : Fin 512) (R : Fin 32768) (hR : R.val = t.val * 512 + r.val) :
    (iblk m c 1 t : Vec F S512x512 .bf16) (ValueIdx.ix2 r k) = V m c main_v2 (ValueIdx.ix2 R k) := by
  refine congrArg (V m c main_v2) (funext fun a => Fin.ext ?_)
  show cc0_transform_1 (grid0.coords t) a * S512x512.size a + 1 * (ValueIdx.ix2 r k a).val = _
  rw [(row_idx t).2.1]
  match a with
  | ⟨0, _⟩ => show t.val * 512 + 1 * r.val = R.val; omega
  | ⟨1, _⟩ => show 0 * 512 + 1 * k.val = k.val; omega
theorem iblk_2 (c : Dev nD) (t : Fin cfg0.N) (r : Fin 512) (k : Fin 1024) (R : Fin 32768) (hR : R.val = t.val * 512 + r.val) :
    (iblk m c 2 t : Vec F S512x1024 .f32) (ValueIdx.ix2 r k) = V m c main_arg2 (ValueIdx.ix2 R k) := by
  refine congrArg (V m c main_arg2) (funext fun a => Fin.ext ?_)
  show cc0_transform_2 (grid0.coords t) a * S512x1024.size a + 1 * (ValueIdx.ix2 r k a).val = _
  rw [(row_idx t).2.2]
  match a with
  | ⟨0, _⟩ => show t.val * 512 + 1 * r.val = R.val; omega
  | ⟨1, _⟩ => show 0 * 1024 + 1 * k.val = k.val; omega
theorem iblk_3 (c : Dev nD) (t : Fin cfg0.N) : (iblk m c 3 t : Vec F S512x1024 .bf16) = V m c main_v3 := by
  refine funext fun j => congrArg (V m c main_v3) (funext fun a => Fin.ext ?_)
  show cc0_transform_3 (grid0.coords t) a * S512x1024.size a + 1 * (j a).val = _
  rw [(full_idx t).1]
  match a with
  | ⟨0, _⟩ => show 0 * 512 + 1 * (j 0).val = (j 0).val; omega
  | ⟨1, _⟩ => show 0 * 1024 + 1 * (j 1).val = (j 1).val; omega
theorem iblk_4 (c : Dev nD) (t : Fin cfg0.N) : (iblk m c 4 t : Vec F S512x1024 .bf16) = V m c main_v4 := by
  refine funext fun j => congrArg (V m c main_v4) (funext fun a => Fin.ext ?_)
  show cc0_transform_4 (grid0.coords t) a * S512x1024.size a + 1 * (j a).val = _
  rw [(full_idx t).2.1]
  match a with
  | ⟨0, _⟩ => show 0 * 512 + 1 * (j 0).val = (j 0).val; omega
  | ⟨1, _⟩ => show 0 * 1024 + 1 * (j 1).val = (j 1).val; omega
theorem iblk_5 (c : Dev nD) (t : Fin cfg0.N) : (iblk m c 5 t : Vec F S1x1024 .f32) = V m c main_v5 := by
  refine funext fun j => congrArg (V m c main_v5) (funext fun a => Fin.ext ?_)
  show cc0_transform_5 (grid0.coords t) a * S1x1024.size a + 1 * (j a).val = _
  rw [(full_idx t).2.2.1]
  match a with
  | ⟨0, _⟩ => show 0 * 1 + 1 * (j 0).val = (j 0).val; omega
  | ⟨1, _⟩ => show 0 * 1024 + 1 * (j 1).val = (j 1).val; omega
theorem iblk_6 (c : Dev nD) (t : Fin cfg0.N) : (iblk m c 6 t : Vec F S1x1024 .f32) = V m c main_v6 := by
  refine funext fun j => congrArg (V m c main_v6) (funext fun a => Fin.ext ?_)
  show cc0_transform_6 (grid0.coords t) a * S1x1024.size a + 1 * (j a).val = _
  rw [(full_idx t).2.2.2]
  match a with
  | ⟨0, _⟩ => show 0 * 1 + 1 * (j 0).val = (j 0).val; omega
  | ⟨1, _⟩ => show 0 * 1024 + 1 * (j 1).val = (j 1).val; omega

end Array

/-! ## Over the extended reals -/

/-- A row before the norm: the residual, scaled, plus the two head groups against their halves of the projection. -/
def mergeRow (a b : Vec Ideal S32768x512 .f32) (x : Vec Ideal S32768x1024 .f32) (w : Vec Ideal S1024x1024 .f32) (R : Fin 32768) (e : Fin 1024) : EReal :=
  alpha * x (ValueIdx.ix2 R e) + (∑ k : Fin 512, a (ValueIdx.ix2 R k) * w (ValueIdx.ix2 ⟨k.val, by omega⟩ e) + ∑ k : Fin 512, b (ValueIdx.ix2 R k) * w (ValueIdx.ix2 ⟨512 + k.val, by omega⟩ e))

theorem pay_apply (v0 : Vec Ideal S512x512 .bf16) (v2 : Vec Ideal S512x1024 .bf16) (v5 : Vec Ideal S512x512 .bf16) (v7 : Vec Ideal S512x1024 .bf16) (v11 : Vec Ideal S512x1024 .f32) (v15 v17 : Vec Ideal S1x1024 .f32) (r : Fin 512) (d : Fin 1024) :
    k0_pay1 (F := Ideal) (k0_pay2 v17) (k0_pay3 v0 v2 v5 v7 v11 v15) (ValueIdx.ix2 r d)
      = lnRow (fun e => alpha * v11 (ValueIdx.ix2 r e) + (∑ k : Fin 512, v0 (ValueIdx.ix2 r k) * v2 (ValueIdx.ix2 k e) + ∑ k : Fin 512, v5 (ValueIdx.ix2 r k) * v7 (ValueIdx.ix2 k e)))
        (v15 (ValueIdx.ix2 0 d)) (v17 (ValueIdx.ix2 0 d)) d := by
  unfold k0_pay1 k0_pay2 k0_pay3
  pointwise
  rfl

theorem row_of (x : Vec Ideal S1024 .f32) (d : Fin 1024) : broadcastInDim S1x1024 ![1] bcast_S1024_S1x1024_1 x (ValueIdx.ix2 0 d) = x (ValueIdx.ix1 d) := by
  pointwise; rfl
theorem top_half (w : Vec Ideal S1024x1024 .f32) (k : Fin 512) (e : Fin 1024) :
    (extractStridedSlice S512x1024 ![0, 0] (truncf .bf16 (w : FVec Ideal S1024x1024 .f32) bitsLt_bf16_f32 : FVec Ideal S1024x1024 .bf16) slices_S1024x1024_S512x1024_0_0 : FVec Ideal S512x1024 .bf16) (ValueIdx.ix2 k e) = w (ValueIdx.ix2 ⟨k.val, by omega⟩ e) := by
  pointwise; rfl
theorem bottom_half (w : Vec Ideal S1024x1024 .f32) (k : Fin 512) (e : Fin 1024) :
    (extractStridedSlice S512x1024 ![512, 0] (truncf .bf16 (w : FVec Ideal S1024x1024 .f32) bitsLt_bf16_f32 : FVec Ideal S1024x1024 .bf16) slices_S1024x1024_S512x1024_512_0 : FVec Ideal S512x1024 .bf16) (ValueIdx.ix2 k e) = w (ValueIdx.ix2 ⟨512 + k.val, by omega⟩ e) := by
  pointwise; rfl

section Point
variable (m : (ℓ : Loc nD τ sig) → Buf (Elt Ideal) ℓ) (c : Dev nD)

/-- The arguments' row before the norm. -/
def argRow (R : Fin 32768) (e : Fin 1024) : EReal :=
  mergeRow (m ((c : Thread nD τ).loc main_arg0)) (m ((c : Thread nD τ).loc main_arg1)) (m ((c : Thread nD τ).loc main_arg2)) (m ((c : Thread nD τ).loc main_arg3)) R e

theorem a_apply (t : Fin cfg0.N) (r k : Fin 512) (R : Fin 32768) (hR : R.val = t.val * 512 + r.val) :
    (iblk m c 0 t : Vec Ideal S512x512 .bf16) (ValueIdx.ix2 r k) = (m ((c : Thread nD τ).loc main_arg0) : Vec Ideal S32768x512 .f32) (ValueIdx.ix2 R k) :=
  (iblk_0 m c t r k R hR).trans (congrFun (V_a m c) _)
theorem b_apply (t : Fin cfg0.N) (r k : Fin 512) (R : Fin 32768) (hR : R.val = t.val * 512 + r.val) :
    (iblk m c 1 t : Vec Ideal S512x512 .bf16) (ValueIdx.ix2 r k) = (m ((c : Thread nD τ).loc main_arg1) : Vec Ideal S32768x512 .f32) (ValueIdx.ix2 R k) :=
  (iblk_1 m c t r k R hR).trans (congrFun (V_b m c) _)
theorem x_apply (t : Fin cfg0.N) (r : Fin 512) (k : Fin 1024) (R : Fin 32768) (hR : R.val = t.val * 512 + r.val) :
    (iblk m c 2 t : Vec Ideal S512x1024 .f32) (ValueIdx.ix2 r k) = (m ((c : Thread nD τ).loc main_arg2) : Vec Ideal S32768x1024 .f32) (ValueIdx.ix2 R k) :=
  (iblk_2 m c t r k R hR).trans (congrFun (V_main_arg2 m c) _)
theorem wa_apply (t : Fin cfg0.N) (k : Fin 512) (e : Fin 1024) :
    (iblk m c 3 t : Vec Ideal S512x1024 .bf16) (ValueIdx.ix2 k e) = (m ((c : Thread nD τ).loc main_arg3) : Vec Ideal S1024x1024 .f32) (ValueIdx.ix2 ⟨k.val, by omega⟩ e) :=
  (congrFun ((iblk_3 m c t).trans (V_wa m c)) _).trans (top_half _ k e)
theorem wb_apply (t : Fin cfg0.N) (k : Fin 512) (e : Fin 1024) :
    (iblk m c 4 t : Vec Ideal S512x1024 .bf16) (ValueIdx.ix2 k e) = (m ((c : Thread nD τ).loc main_arg3) : Vec Ideal S1024x1024 .f32) (ValueIdx.ix2 ⟨512 + k.val, by omega⟩ e) :=
  (congrFun ((iblk_4 m c t).trans (V_wb m c)) _).trans (bottom_half _ k e)
theorem g_apply (t : Fin cfg0.N) (d : Fin 1024) :
    (iblk m c 5 t : Vec Ideal S1x1024 .f32) (ValueIdx.ix2 0 d) = (m ((c : Thread nD τ).loc main_arg4) : Vec Ideal S1024 .f32) (ValueIdx.ix1 d) :=
  (congrFun ((iblk_5 m c t).trans (V_g m c)) _).trans (row_of _ d)
theorem beta_apply (t : Fin cfg0.N) (d : Fin 1024) :
    (iblk m c 6 t : Vec Ideal S1x1024 .f32) (ValueIdx.ix2 0 d) = (m ((c : Thread nD τ).loc main_arg5) : Vec Ideal S1024 .f32) (ValueIdx.ix1 d) :=
  (congrFun ((iblk_6 m c t).trans (V_beta m c)) _).trans (row_of _ d)

/-- A tile's result at a row and column. -/
theorem tile_apply (t : Fin cfg0.N) (r : Fin 512) (R : Fin 32768) (hR : R.val = t.val * 512 + r.val) (d : Fin 1024) :
    tile m c t (ValueIdx.ix2 r d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  refine (pay_apply (iblk m c 0 t) (iblk m c 3 t) (iblk m c 1 t) (iblk m c 4 t) (iblk m c 2 t) (iblk m c 5 t) (iblk m c 6 t) r d).trans (lnRow_congr (fun e => ?_) (g_apply m c t d) (beta_apply m c t d) d)
  exact congrArg₂ (· + ·) (congrArg (alpha * ·) (x_apply m c t r e R hR)) (congrArg₂ (· + ·)
    (Finset.sum_congr rfl fun k _ => congrArg₂ (· * ·) (a_apply m c t r k R hR) (wa_apply m c t k e))
    (Finset.sum_congr rfl fun k _ => congrArg₂ (· * ·) (b_apply m c t r k R hR) (wb_apply m c t k e)))

/-- The kernel's result at a row and column. -/
theorem out_apply (R : Fin 32768) (d : Fin 1024) :
    outArr m c (ValueIdx.ix2 R d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  have ht : R.val / 512 < grid0.N := by rw [Gen.N_0]; omega
  have hR : R.val = R.val / 512 * 512 + R.val % 512 := by omega
  exact (spread_at _ ⟨R.val / 512, ht⟩ (ValueIdx.ix2 ⟨R.val % 512, Nat.mod_lt _ (by decide)⟩ d) (ValueIdx.ix2 R d) hR rfl).trans (tile_apply m c ⟨R.val / 512, ht⟩ ⟨R.val % 512, Nat.mod_lt _ (by decide)⟩ R hR d)

end Point

/-- Every fair execution ends with the output array in the result. -/
theorem run_out {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v7) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_out m c), (h c).2⟩) (Value.run_blocks m ρ)

end Cert.Kernel4Ideal.Merge

end
-- ==== Proof.Merge.Claims.lean ====
/- The claims about the output projection with its norm: the frames and the equality with the reference. -/
module

public import proofs.«01_k».proof.Defs
public import proofs.«01_k».proof.Proof.Merge.Value
public import proofs.«01_k».proof.Proof.Gen.Kernel4.Frame
public import proofs.«01_k».proof.Proof.Gen.Kernel4Ideal.Frame
public import proofs.«01_k».proof.Proof.Gen.Reference4Ideal.Run
public import Idealize.ShloMosaic.Lib.Quiescent

@[expose] public section

set_option maxRecDepth 16384

noncomputable section

namespace Cert.Merge

open Idealize.ShloMosaic Idealize.ShloMosaic.TcCoe Idealize.SL.Sem
open Cert.Kernel4Ideal.Merge Cert.Norm

theorem frame_kernel : Cert.quiescent_Kernel4 := fun m ρ _ => Cert.Kernel4.Gen.frame m ρ
theorem frame_ideal : Cert.quiescent_Kernel4Ideal := fun m ρ _ => Cert.Kernel4Ideal.Gen.frame m ρ
theorem frame_ref : Cert.quiescent_Reference4Ideal := fun m ρ _ =>
  (θ_run Cert.Reference4Ideal.defs _ _).mono (fun r h => ⟨fun c => (h c).2, Idealize.ShloMosaic.sem_eq_zero_of_no_sems (by decide) r.2⟩) (Cert.Reference4Ideal.Value.run (F := Ideal) m ρ)

/-- The reference's result at a row and column. -/
theorem ref_apply (m : (ℓ : Loc Cert.Reference4Ideal.nD Cert.Reference4Ideal.τ Cert.Reference4Ideal.sig) → Buf (Elt Ideal) ℓ) (c : Dev Cert.Reference4Ideal.nD) (R : Fin 32768) (d : Fin 1024) :
    (Cert.Reference4Ideal.Value.res_out0 m c : Vec Ideal Cert.Reference4Ideal.S32768x1024 .f32) (ValueIdx.ix2 R d)
      = (lnRow (mergeRow (m ((c.tc : Thread _ _).loc Cert.Reference4Ideal.main_arg0)) (m ((c.tc : Thread _ _).loc Cert.Reference4Ideal.main_arg1)) (m ((c.tc : Thread _ _).loc Cert.Reference4Ideal.main_arg2)) (m ((c.tc : Thread _ _).loc Cert.Reference4Ideal.main_arg3)) R)
      ((m ((c.tc : Thread _ _).loc Cert.Reference4Ideal.main_arg4) : Vec Ideal Cert.Reference4Ideal.S1024 .f32) (ValueIdx.ix1 d)) ((m ((c.tc : Thread _ _).loc Cert.Reference4Ideal.main_arg5) : Vec Ideal Cert.Reference4Ideal.S1024 .f32) (ValueIdx.ix1 d)) d : EReal) := by
  unfold Cert.Reference4Ideal.Value.res_out0 Cert.Reference4Ideal.Value.res_main_v28
  pointwise
  rfl

/-- Kernel and reference compute the same array. -/
theorem algebraic : Cert.algebraic_Kernel4Ideal_Reference4Ideal := by
  intro m g m' g' hpre hargs
  refine ⟨fun c => outArr m c, run_out m g, ?_⟩
  refine (θ_run Cert.Reference4Ideal.defs _ _).mono (fun r h c => ⟨(h c).1.trans (funext fun i => ?_), (h c).2⟩) (Cert.Reference4Ideal.Value.run (F := Ideal) m' g')
  obtain ⟨R, d, rfl⟩ : ∃ (R : Fin 32768) (d : Fin 1024), i = ValueIdx.ix2 R d := ⟨i 0, i 1, ValueIdx.eq_ix2 i⟩
  obtain ⟨h0, h1, h2, h3, h4, h5⟩ := hargs c
  refine (ref_apply m' c R d).trans ((out_apply m c R d).trans ?_).symm
  unfold argRow
  rw [h0, h1, h2, h3, h4, h5]

end Cert.Merge

end
-- ==== Proof.Dense.Same.lean ====
/- The printed kernel and its idealization are one text: what is proved of one over any float values holds of the other. -/
module

public import proofs.«01_k».proof.Proof.Gen.Kernel5.Launch
public import proofs.«01_k».proof.Proof.Gen.Kernel5Ideal.Launch

@[expose] public section

set_option maxRecDepth 16384

noncomputable section

namespace Cert.Dense

open Idealize.ShloMosaic Idealize.ShloMosaic.TcCoe Idealize.SL.Sem

variable {F : FTy → Type} [FloatOps F]
/-- The two programs' bodies, tables and host lines are the same text. -/
theorem bodies_eq : Cert.Kernel5.defs₀ (F := F) = Cert.Kernel5Ideal.defs₀ (F := F) := by
  unfold Cert.Kernel5.defs₀ Cert.Kernel5Ideal.defs₀
  refine congrArg (Defs.onTc (τ := Cert.Kernel5Ideal.τ)) ?_
  funext l a
  match l, a with
  | ⟨0, _⟩, (t, s) => rfl
set_option maxHeartbeats 2000000 in
theorem defs_eq : Cert.Kernel5.defs (F := F) = Cert.Kernel5Ideal.defs (F := F) := by
  unfold Cert.Kernel5.defs Cert.Kernel5Ideal.defs
  rw [bodies_eq]
  rfl
set_option maxHeartbeats 2000000 in
theorem main_eq : Cert.Kernel5.main (F := F) = Cert.Kernel5Ideal.main (F := F) := by
  funext c
  rw [Cert.Kernel5Ideal.Gen.main_chain]
  refine (Cert.Kernel5.Gen.main_chain c).trans ?_
  rfl

end Cert.Dense

end
-- ==== Proof.Dense.Run.lean ====
/- The dense feed-forward kernel's run: the host lines before the region, the constant table, and the body. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Tactic
public import Idealize.ShloMosaic.Lib.WordCmp
public import Idealize.ShloMosaic.Lib.StableHlo.RunRead
public import Idealize.ShloMosaic.Lib.VecWindow
public import Idealize.ShloMosaic.Lib.ValueIdxCore
public import Idealize.ShloMosaic.Lib.Pipeline.ValueKit.Geometry

@[expose] public section

set_option maxRecDepth 16384

noncomputable section

namespace Cert.Kernel5Ideal.Dense

open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The stretches of host operations before the region, in order. -/
abbrev pre : List (List (HloOp τ sig (Elt F))) := [hostOps0]

/-- The buffers when the region is entered. -/
abbrev V (c : Dev nD) (b : Ref sig .tc) : Buf (Elt F) ((c : Thread nD τ).loc b) :=
  StableHlo.after (pre (F := F)).flatten (fun b => m (c, b)) b

/-- None of the host operations takes a fresh buffer. -/
theorem pre_fresh : (pre (F := F)).Forall fun ops => ops.Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main pre (by simp only [List.Forall]; exact hostOps0_sub) pre_fresh main_chain

/-- No host operation writes an argument. -/
theorem V_arg (c : Dev nD) (b : Ref sig .tc) (hb : b ∈ ([main_arg0, main_arg1, main_arg2, main_arg3, main_arg4, main_arg5] : List (Ref sig .tc))) :
    V m c b = m ((c : Thread nD τ).loc b) :=
  StableHlo.after_of_forall_not_mem (b := Proc.devRef .tc b) _ _ (List.forall_iff_forall_mem.mp (by
    simp only [pre, hostOps0, List.flatten_cons, List.flatten_nil, List.append_nil, List.Forall, StableHlo.nullary_writes, StableHlo.unary_writes, Finset.mem_singleton]
    simp only [List.mem_cons, List.not_mem_nil, or_false] at hb
    rcases hb with rfl | rfl | rfl | rfl | rfl | rfl <;>
      ((repeat' apply And.intro) <;> exact StableHlo.devRef_ne_of_ne (by decide))))

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- It is the program's constant: 64 zeros, then 64. -/
theorem tbl_eq : tbl m 0 = fun i => lit0 (S65.rowMajor i) := by
  show StableHlo.after (pre (F := F)).flatten (fun b => m (0, b)) (Proc.devRef .tc main_c) = _
  simp only [pre, hostOps0, List.flatten_cons, List.flatten_nil, List.append_nil]
  after_reads_simp
  rfl

/-- The table's word at a place. -/
abbrev word (xt : Vec F S65 .i32) (k : Fin 65) : BitVec 32 := xt (ValueIdx.ix1 k)

theorem lit_zero : ∀ k : Fin 64, lit0 (S65.rowMajor (ValueIdx.ix1 ⟨k.val, by omega⟩)) = 0#32 := by decide +kernel
theorem lit_last : lit0 (S65.rowMajor (ValueIdx.ix1 64)) = 64#32 := by decide +kernel

/-- The table's word that the index maps read at a point. -/
theorem at_word (pf : pre0.Contents (Elt F)) (hpf : pf 0 = fun i => lit0 (S65.rowMajor i)) (i : grid0.Coords) (h h1) :
    pf.at 0 (Rect.unit (s := S65) (k0_off1 i) S1.size h) h1 = 0#32 := by
  have hi : (i 0).val < 64 := (i 0).isLt
  refine Eq.trans ?_ (lit_zero ⟨(i 0).val, hi⟩)
  refine Eq.trans (b := pf 0 (ValueIdx.ix1 ⟨(i 0).val, by omega⟩)) (congrArg (pf 0) (funext fun a => ?_)) (congrFun hpf _)
  obtain rfl : a = (0 : Fin 1) := Subsingleton.elim (α := Fin 1) _ _
  refine Fin.ext ?_
  show (Scalar.indexCast (BitVec.ofNat 32 (i 0).val) : Index).toNat + 1 * 0 = (i 0).val
  rw [Nat.mul_zero, Nat.add_zero]
  show (BitVec.ofNat 32 (i 0).val).toNat = _
  rw [BitVec.toNat_ofNat]; omega

/-- Every tile reads the one block of each weight array. -/
theorem transform_eq (pf : pre0.Contents (Elt F)) (hpf : pf 0 = fun i => lit0 (S65.rowMajor i)) (i : grid0.Coords) :
    cc0_transform_1 k0_off1_inb numel1_S1 pf i = ![0, 0, 0] := by
  unfold cc0_transform_1
  show ![(pf.at 0 (Rect.unit (s := S65) (k0_off1 i) S1.size (k0_off1_inb i)) numel1_S1).toNat, 0, 0] = _
  rw [at_word pf hpf i (k0_off1_inb i) numel1_S1]
  rfl

theorem blk_up : ∃ h : (∀ a, ((![0, 0, 0] : Fin 3 → ℕ) a + 1) * S1x1024x2816.size a ≤ S1x1024x2816.size a), EltTy.bits .bf16 = 32 ∨ (Rect.block (s := S1x1024x2816) S1x1024x2816.size ![0, 0, 0] h).WholeWords (EltTy.packing .bf16) := by
  decide +kernel
theorem blk_down : ∃ h : (∀ a, ((![0, 0, 0] : Fin 3 → ℕ) a + 1) * S1x2816x1024.size a ≤ S1x2816x1024.size a), EltTy.bits .bf16 = 32 ∨ (Rect.block (s := S1x2816x1024) S1x2816x1024.size ![0, 0, 0] h).WholeWords (EltTy.packing .bf16) := by
  decide +kernel

/-- The blocks the table names lie inside their arrays. -/
theorem ok : ok0 (F := F) (tbl m) := by
  refine ⟨fun i => ?_, fun i => ?_, fun i => ?_⟩
  · rw [transform_eq _ (tbl_eq m) i]; exact blk_up
  · rw [show cc0_transform_2 k0_off1_inb numel1_S1 (tbl m) i = ![0, 0, 0] from transform_eq _ (tbl_eq m) i]; exact blk_up
  · rw [show cc0_transform_3 k0_off1_inb numel1_S1 (tbl m) i = ![0, 0, 0] from transform_eq _ (tbl_eq m) i]; exact blk_down

abbrev adm : (pcfg0 (F := F)).Adm := ⟨tbl m, ok m⟩
abbrev cfgM : Pipeline.Cfg sig Λ₀ := cfg0 (adm m)

/-- The table as the body is handed it. -/
abbrev tbM : Memref sig .tc .smem S65 .i32 := Memref.whole main_c
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

theorem cond1_iff (i : grid0.Coords) (w : BitVec 32) : k0_cond1 i w = 1#1 ↔ (BitVec.ofNat 32 (i 0).val).toInt < w.toInt := by
  unfold k0_cond1
  simp only [WordCmp.scalar_cmpi_eq, WordCmp.cmpi_slt_eq]
  by_cases h : (BitVec.ofNat 32 (i 0).val).toInt < w.toInt <;> simp only [h, decide_true, decide_false, iff_true, iff_false] <;> decide

theorem cond2_iff (i : grid0.Coords) (w : BitVec 32) : k0_cond2 i w = 1#1 ↔ ¬(BitVec.ofNat 32 (i 0).val).toInt < w.toInt := by
  unfold k0_cond2
  simp only [WordCmp.scalar_cmpi_eq, WordCmp.cmpi_sge_eq, not_lt]
  by_cases h : w.toInt ≤ (BitVec.ofNat 32 (i 0).val).toInt <;> simp only [h, decide_true, decide_false, iff_true, iff_false] <;> decide

/-- Exactly one of the body's two conditions holds. -/
theorem cond_iff (i : grid0.Coords) (w : BitVec 32) : k0_cond2 i w = 1#1 ↔ ¬k0_cond1 i w = 1#1 := by
  rw [cond1_iff, cond2_iff]

/-- What a tile with rows leaves in its output block. -/
def tileOut (x0 : Vec F S512x1024 .f32) (x1 x2 : Vec F S1x1024x2816 .bf16) (x3 : Vec F S1x2816x1024 .bf16) (x4 x5 : Vec F S1x1024 .f32) : Vec F S512x1024 .f32 :=
  k0_pay1 (k0_pay3 x4) (k0_pay4 x5) (k0_pay5 x0 x1 x2 x3 x0) (k0_pay6 x0 x1 x2 x3 x0)

theorem read_word (c : Dev nD) (xt : TbBuf (F := F) c) (h) :
    View.readAt (Elt F) tbM.view (Rect.unit (s := S65) ![64] S1.size inb_S65_S1_64).toLoadRect xt (Shape.Idx.first h) = word xt 64 :=
  congrArg xt (funext fun a => by obtain rfl : a = (0 : Fin 1) := Subsingleton.elim (α := Fin 1) _ _; rfl)

set_option maxHeartbeats 1000000 in
/-- The body on whole staging memrefs, where the table's last word says the tile holds rows: the inputs end as they were, the output block at `tileOut`. -/
theorem body_run (c : Dev nD) (i : grid0.Coords) (arg2 : Memref sig .tc .vmem S512x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole)
    (arg6 : Memref sig .tc .vmem S1x1024 .f32) (harg6 : arg6.IsWhole) (arg7 : Memref sig .tc .vmem S1x1024 .f32) (harg7 : arg7.IsWhole) (arg8 : Memref sig .tc .vmem S512x1024 .f32) (harg8 : arg8.IsWhole)
    (x0 : Vec F S512x1024 .f32) (x1 x2 : Vec F S1x1024x2816 .bf16) (x3 : Vec F S1x2816x1024 .bf16) (x4 x5 : Vec F S1x1024 .f32) (xt : TbBuf (F := F) c) (h : k0_cond1 i (word xt 64) = 1#1)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ tbPt c xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tileOut x0 x1 x2 x3 x4 x5) ∗ tbPt c xt) -∗ K ⟨⟩))
          ⊢ wp frame (wpE (defs₀ (F := F)) Variants.none c none) E (cc0_ffn_ln i tbM htbM arg2 harg2 arg3 harg3 arg4 harg4 arg5 harg5 arg6 harg6 arg7 harg7 arg8 harg8) K := by
  simp only [cc0_ffn_ln_eq_skeleton]; unfold cc0_ffn_ln_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
  subst hf0 hf1 hf2 hf3 hf4 hf5
  sl_exec
  sl_step
  delta body_run.sl.r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_word]
    have h2 : ¬k0_cond2 i (word xt 64) = 1#1 := fun h' => (cond_iff _ _).mp h' h
    rw [dif_neg h2, dif_pos h, View.read_writes_full]
    unfold tileOut
    rw [View.readAt_full, View.readAt_full, View.readAt_full, View.readAt_full, View.readAt_full, View.readAt_full]
  iexact HT

/-! ## The windows' blocks and the proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The output block at point `t`. -/
def oblk (c : Dev nD) (t : Fin (cfgM m).N) : Vec F S512x1024 .f32 :=
  tileOut (iblk m c 0 t) (iblk m c 1 t) (iblk m c 2 t) (iblk m c 3 t) (iblk m c 4 t) (iblk m c 5 t)

/-- The pipeline's proof data on a core: each input's buffer at its block after the body, the output's at `oblk`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = oblk m c t := by dsimp only [dats]; try rfl

/-- Each input's staging buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- No window is ever idle: the output's block is stored under one condition or the other. -/
theorem idle_false (pf : pre0.Contents (Elt F)) (w : Fin 7) (i : grid0.Coords) : idle0 pf w i = false := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ =>
    show (!(k0_cond1 i (pf.atD 0 ![64]) == 1#1) && !(k0_cond2 i (pf.atD 0 ![64]) == 1#1)) = false
    by_cases h : k0_cond1 i (pf.atD 0 ![64]) = 1#1
    · rw [h]; rfl
    · rw [(cond_iff _ _).mpr h]; exact Bool.and_false _

theorem live (w : Fin (cfgM m).W) (t : Fin (cfgM m).N) : (cfgM m).idle w ((cfgM m).grid.coords t) = false :=
  idle_false (tbl m) w (grid0.coords t)

/-- Every tile holds rows. -/
theorem active (i : grid0.Coords) : k0_cond1 i (word (F := F) (tbl m 0) 64) = 1#1 := by
  have hi : (i 0).val < 64 := (i 0).isLt
  have hw : word (F := F) (tbl m 0) 64 = BitVec.ofNat 32 64 := (congrFun (tbl_eq m) _).trans lit_last
  rw [cond1_iff, hw, WordCmp.toInt_ofNat_of_lt (by omega), WordCmp.toInt_ofNat_of_lt (by omega)]
  exact Int.ofNat_lt.mpr hi

/-! ## The body obligation -/

/-- Each window's staging memref at a point. -/
abbrev ms0 (t : Fin (cfgM m).N) : Memref sig .tc .vmem S512x1024 .f32 := spec0_0.stage ((cfgM m).slots t 0)
abbrev ms1 (t : Fin (cfgM m).N) : Memref sig .tc .vmem S1x1024x2816 .bf16 := spec0_1.stage ((cfgM m).slots t 1)
abbrev ms2 (t : Fin (cfgM m).N) : Memref sig .tc .vmem S1x1024x2816 .bf16 := spec0_2.stage ((cfgM m).slots t 2)
abbrev ms3 (t : Fin (cfgM m).N) : Memref sig .tc .vmem S1x2816x1024 .bf16 := spec0_3.stage ((cfgM m).slots t 3)
abbrev ms4 (t : Fin (cfgM m).N) : Memref sig .tc .vmem S1x1024 .f32 := spec0_4.stage ((cfgM m).slots t 4)
abbrev ms5 (t : Fin (cfgM m).N) : Memref sig .tc .vmem S1x1024 .f32 := spec0_5.stage ((cfgM m).slots t 5)
abbrev ms6 (t : Fin (cfgM m).N) : Memref sig .tc .vmem S512x1024 .f32 := spec0_6.stage ((cfgM m).slots t 6)

/-- The body as the pipeline calls it at point `t`. -/
abbrev bodyAt (a : (pcfg0 (F := F)).Adm) (t : Fin (cfg0 a).N) : Prog (TpuEff nD τ sig (Elt F) Λ₀ .tc) PUnit :=
  cc0_ffn_ln (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

/-- and what it returns. -/
def bodyPost (c : Dev nD) (t : Fin (cfgM m).N) : sProp 𝕄 :=
  iprop((dats m 0 c).Φ t.succ ∗ (dats m 0 c).owesAt () t.succ
    ∗ owns (c : Thread nD τ) (((cfgM m).win 0).stage ((cfgM m).slots t 0)) fullShare ((dats m 0 c).after 0 t)
    ∗ owns (c : Thread nD τ) (((cfgM m).win 1).stage ((cfgM m).slots t 1)) fullShare ((dats m 0 c).after 1 t)
    ∗ owns (c : Thread nD τ) (((cfgM m).win 2).stage ((cfgM m).slots t 2)) fullShare ((dats m 0 c).after 2 t)
    ∗ owns (c : Thread nD τ) (((cfgM m).win 3).stage ((cfgM m).slots t 3)) fullShare ((dats m 0 c).after 3 t)
    ∗ owns (c : Thread nD τ) (((cfgM m).win 4).stage ((cfgM m).slots t 4)) fullShare ((dats m 0 c).after 4 t)
    ∗ owns (c : Thread nD τ) (((cfgM m).win 5).stage ((cfgM m).slots t 5)) fullShare ((dats m 0 c).after 5 t)
    ∗ owns (c : Thread nD τ) (((cfgM m).win 6).stage ((cfgM m).slots t 6)) fullShare ((dats m 0 c).after 6 t))

theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  rw [after_0, after_1, after_2, after_3, after_4, after_5, after_6]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t) (iblk m c 5 t) (tbl m 0) (active m _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT]; · iexact HT
  iintro ⟨H0, H1, H2, H3, H4, H5, H6, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m).N) :
    defs₀ (F := F) .tc (cfgM m).body ((cfgM m).bodyArgs t ((cfgM m).slots t)) = bodyAt (adm m) t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  simp only [live]
  refine triple_restated (sound_body m c t) rfl .rfl fun _ => ?_
  unfold bodyPost
  dsimp only
  rw [idle_false (tbl m) 6 ((pcfg0.gridAt (tbl m)).coords t)]
  exact .rfl

/-! ## The launch -/

set_option backward.isDefEq.respectTransparency.types false in
/-- The program runs; every window's array ends at what the proof data say, everything else as the region found it, every counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The argument arrays end unchanged. -/
theorem args_of_post (r) (h : Pipeline.FramePost (Pipeline.pin pcfgs fun _ => adm m) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have rest : ∀ b, b ∈ Pipeline.restRefs sig spec0 → b ∈ ([main_arg0, main_arg1, main_arg2, main_arg3, main_arg4, main_arg5] : List (Ref sig .tc)) →
      r.2.mem ((c.tc : Thread nD τ).loc b) = m ((c.tc : Thread nD τ).loc b) := fun b hb hb' => ((h c).2 b hb).trans (V_arg m c b hb')
  exact ⟨(Pipeline.FramePost.in_eq h c 0 rfl).trans ((A_eq m c 0).trans (V_arg m c main_arg0 (by decide))),
    rest _ (by decide) (by decide), rest _ (by decide) (by decide), rest _ (by decide) (by decide), rest _ (by decide) (by decide), rest _ (by decide) (by decide)⟩

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨args_of_post m r h.1, h.2⟩) (run_main m ρ)

end Cert.Kernel5Ideal.Dense

end
-- ==== Proof.Dense.Value.lean ====
/- The dense feed-forward kernel's result at a row and a column: the norm of the residual plus the gated hidden activations against the third matrix. -/
module

public import proofs.«01_k».proof.Proof.Norm
public import proofs.«01_k».proof.Proof.Dense.Run
public import Idealize.ShloMosaic.Lib.Pipeline.Value
public import Idealize.ShloMosaic.Lib.IdealHost
public import Idealize.ShloMosaic.Lib.Pointwise

@[expose] public section

set_option maxRecDepth 16384

noncomputable section

namespace Cert.Kernel5Ideal.Dense

open Cert.Kernel5Ideal Cert.Kernel5Ideal.Gen Cert.Norm
open Idealize.ShloMosaic Idealize.ShloMosaic.TcCoe Idealize.SL.Sem
open Idealize.ShloMosaic.Pipeline (Dat Cfg Window)

section Array
variable {F : FTy → Type} [FloatOps F] (m : (ℓ : Loc nD τ sig) → Buf (Elt F) ℓ)

/-! ## The output array, tile by tile -/

/-- Tiles of 512 rows, stacked. -/
def spread (g : Fin grid0.N → Vec F S512x1024 .f32) : Vec F S32768x1024 .f32 := fun i =>
  g ⟨(i 0).val / 512, by rw [Gen.N_0]; have : (i 0).val < 32768 := (i 0).isLt; omega⟩ (ValueIdx.ix2 ⟨(i 0).val % 512, Nat.mod_lt _ (by decide)⟩ (i 1))

/-- A row of the stack is the row of its tile. -/
theorem spread_at (g : Fin grid0.N → Vec F S512x1024 .f32) (t : Fin grid0.N) (j : S512x1024.Idx) (i : S32768x1024.Idx)
    (h0 : (i 0).val = t.val * 512 + (j 0).val) (h1 : (i 1).val = (j 1).val) : spread g i = g t j := by
  have hj : (j 0).val < 512 := (j 0).isLt
  have e1 : ∀ h, (⟨(i 0).val / 512, h⟩ : Fin grid0.N) = t := fun _ => Fin.ext (by show (i 0).val / 512 = t.val; omega)
  have e2 : ∀ h, (ValueIdx.ix2 ⟨(i 0).val % 512, h⟩ (i 1) : S512x1024.Idx) = j := fun _ => funext fun a => by
    match a with
    | ⟨0, _⟩ => exact Fin.ext (by show (i 0).val % 512 = (j 0).val; omega)
    | ⟨1, _⟩ => exact Fin.ext h1
  unfold spread
  rw [e1, e2]

/-- The output array: each row as its tile's body leaves it. -/
def outArr (c : Dev nD) : Vec F S32768x1024 .f32 := spread (fun t => oblk m c t)

/-- The output is written back at every point. -/
theorem flush_6 (t : Fin (cfgM m).N) : ((cfgM m).win 6).flush t = true :=
  (fun t => (Pipeline.Window.flushOf_reads cc0_transform_6 reads0_6 hreads0_6 0 (by decide) (by decide) (Pipeline.Window.sep_of_coord cc0_transform_6 0 0 (fun _ => rfl) (by decide)) (P := 1) (m := 0) (by decide) rfl t).mpr (Nat.mod_one _) : ∀ t : Fin grid0.N, Pipeline.Window.flushOf grid0 true cc0_transform_6 t = true) t

theorem row_idx (t : Fin grid0.N) : cc0_transform_0 (grid0.coords t) = ![t.val, 0] ∧ cc0_transform_6 (grid0.coords t) = ![t.val, 0] := by
  revert t; decide +kernel
theorem vec_idx (t : Fin grid0.N) : cc0_transform_4 (grid0.coords t) = ![0, 0] ∧ cc0_transform_5 (grid0.coords t) = ![0, 0] := by
  revert t; decide +kernel

/-- A place of the output's block at a point, in the array. -/
theorem emb6 (t : Fin (cfgM m).N) (j : S512x1024.Idx) (a : Fin 2) :
    ((((cfgM m).win 6).blk t).view.emb j a).val = (![t.val, 0] : Fin 2 → ℕ) a * S512x1024.size a + (j a).val := by
  show cc0_transform_6 (grid0.coords t) a * S512x1024.size a + 1 * (j a).val = _
  rw [(row_idx t).2, Nat.one_mul]

theorem cut_spread (g : Fin grid0.N → Vec F S512x1024 .f32) (t : Fin (cfgM m).N) :
    ((cfgM m).win 6).cut (grid0.coords t) (g t) = (((cfgM m).win 6).blk t).view.read (Elt F) (spread g) := by
  refine funext fun j => ?_
  have h0 := emb6 m t j 0
  have h1 : _ = 0 * 1024 + _ := emb6 m t j 1
  rw [Nat.zero_mul, Nat.zero_add] at h1
  exact (spread_at g t j _ h0 h1).symm

theorem flushed_eq (c : Dev nD) (t : Fin (cfgM m).N) :
    (dats m 0 c).flushed 6 t = (((cfgM m).win 6).blk t).view.read (Elt F) (outArr m c) := by
  show ((cfgM m).win 6).cut (grid0.coords t) ((dats m 0 c).after 6 t) = _
  rw [after_6]
  exact cut_spread m (fun t => oblk m c t) t

theorem cover (i : S32768x1024.Idx) : ∃ t, ((cfgM m).win 6).flush t = true ∧ i ∈ (((cfgM m).win 6).blk t).view.set := by
  have hi : (i 0).val < 32768 := (i 0).isLt
  refine ⟨⟨(i 0).val / 512, by show _ < grid0.N; rw [Gen.N_0]; omega⟩, flush_6 m _, ?_⟩
  have h := (((cfgM m).win 6).blk ⟨(i 0).val / 512, by show _ < grid0.N; rw [Gen.N_0]; omega⟩).view.emb_mem_set (ValueIdx.ix2 ⟨(i 0).val % 512, Nat.mod_lt _ (by decide)⟩ (i 1) : S512x1024.Idx)
  refine (congrArg (· ∈ _) (funext fun a => Fin.ext ?_)).mp h
  refine (emb6 m _ _ a).trans ?_
  match a with
  | ⟨0, _⟩ => show (i 0).val / 512 * 512 + (i 0).val % 512 = (i 0).val; omega
  | ⟨1, _⟩ => show 0 * 1024 + (i 1).val = (i 1).val; omega

theorem final_out (c : Dev nD) : (dats m 0 c).arrAt 6 (cfgM m).N = outArr m c :=
  (dats m 0 c).arrAt_eq_of_cover 6 (outArr m c) (fun t _ => flushed_eq m c t) (cover m)

/-- The run, with the result's array named. -/
theorem run_out (ρ : Dev nD → PrngReg) : θ_run defs (onTc (τ := τ) (main (F := F))) ⟨m, fun _ => 0, ρ⟩ (fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(Pipeline.FramePost.out_eq h.1 c 6).trans (final_out m c), args_of_post m r h.1 c⟩) (run_main m ρ)

/-! ## The arrays that the host code prepares -/

theorem V_wg (c : Dev nD) : V m c main_v3 = truncf .bf16 (broadcastInDim S1x1024x2816 ![1, 2] bcast_S1024x2816_S1x1024x2816_1_2 (m ((c : Thread nD τ).loc main_arg1) : Vec F S1024x2816 .f32)) bitsLt_bf16_f32 := by
  show StableHlo.after (pre (F := F)).flatten (fun b => m (c, b)) (Proc.devRef .tc main_v3) = _
  simp only [pre, hostOps0, List.flatten_cons, List.flatten_nil, List.append_nil]
  after_reads_simp
theorem V_wu (c : Dev nD) : V m c main_v4 = truncf .bf16 (broadcastInDim S1x1024x2816 ![1, 2] bcast_S1024x2816_S1x1024x2816_1_2 (m ((c : Thread nD τ).loc main_arg2) : Vec F S1024x2816 .f32)) bitsLt_bf16_f32 := by
  show StableHlo.after (pre (F := F)).flatten (fun b => m (c, b)) (Proc.devRef .tc main_v4) = _
  simp only [pre, hostOps0, List.flatten_cons, List.flatten_nil, List.append_nil]
  after_reads_simp
theorem V_wd (c : Dev nD) : V m c main_v5 = truncf .bf16 (broadcastInDim S1x2816x1024 ![1, 2] bcast_S2816x1024_S1x2816x1024_1_2 (m ((c : Thread nD τ).loc main_arg3) : Vec F S2816x1024 .f32)) bitsLt_bf16_f32 := by
  show StableHlo.after (pre (F := F)).flatten (fun b => m (c, b)) (Proc.devRef .tc main_v5) = _
  simp only [pre, hostOps0, List.flatten_cons, List.flatten_nil, List.append_nil]
  after_reads_simp
theorem V_g (c : Dev nD) : V m c main_v6 = broadcastInDim S1x1024 ![1] bcast_S1024_S1x1024_1 (m ((c : Thread nD τ).loc main_arg4) : Vec F S1024 .f32) := by
  show StableHlo.after (pre (F := F)).flatten (fun b => m (c, b)) (Proc.devRef .tc main_v6) = _
  simp only [pre, hostOps0, List.flatten_cons, List.flatten_nil, List.append_nil]
  after_reads_simp
theorem V_beta (c : Dev nD) : V m c main_v7 = broadcastInDim S1x1024 ![1] bcast_S1024_S1x1024_1 (m ((c : Thread nD τ).loc main_arg5) : Vec F S1024 .f32) := by
  show StableHlo.after (pre (F := F)).flatten (fun b => m (c, b)) (Proc.devRef .tc main_v7) = _
  simp only [pre, hostOps0, List.flatten_cons, List.flatten_nil, List.append_nil]
  after_reads_simp

/-! ## The input blocks -/

theorem iblk_0 (c : Dev nD) (t : Fin (cfgM m).N) (r : Fin 512) (d : Fin 1024) (R : Fin 32768) (hR : R.val = t.val * 512 + r.val) :
    iblk m c 0 t (ValueIdx.ix2 r d) = (m ((c : Thread nD τ).loc main_arg0) : Vec F S32768x1024 .f32) (ValueIdx.ix2 R d) := by
  refine Eq.trans ?_ (congrFun (V_arg m c main_arg0 (by decide)) _)
  refine congrArg (V m c main_arg0) (funext fun a => Fin.ext ?_)
  show cc0_transform_0 (grid0.coords t) a * S512x1024.size a + 1 * (ValueIdx.ix2 r d a).val = _
  rw [(row_idx t).1]
  match a with
  | ⟨0, _⟩ => show t.val * 512 + 1 * r.val = R.val; omega
  | ⟨1, _⟩ => show 0 * 1024 + 1 * d.val = d.val; omega

/-- Places of the weights' blocks at a point, in their arrays: the block is the array. -/
theorem emb1 (t : Fin (cfgM m).N) (j : S1x1024x2816.Idx) (a : Fin 3) :
    ((((cfgM m).win 1).blk t).view.emb j a).val = cc0_transform_1 k0_off1_inb numel1_S1 (tbl m) (grid0.coords t) a * S1x1024x2816.size a + 1 * (j a).val := rfl
theorem emb2 (t : Fin (cfgM m).N) (j : S1x1024x2816.Idx) (a : Fin 3) :
    ((((cfgM m).win 2).blk t).view.emb j a).val = cc0_transform_1 k0_off1_inb numel1_S1 (tbl m) (grid0.coords t) a * S1x1024x2816.size a + 1 * (j a).val := rfl
theorem emb3 (t : Fin (cfgM m).N) (j : S1x2816x1024.Idx) (a : Fin 3) :
    ((((cfgM m).win 3).blk t).view.emb j a).val = cc0_transform_1 k0_off1_inb numel1_S1 (tbl m) (grid0.coords t) a * S1x2816x1024.size a + 1 * (j a).val := rfl

theorem nil3 (s : Fin 3 → ℕ) (a : Fin 3) (n : ℕ) : (![0, 0, 0] : Fin 3 → ℕ) a * s a + 1 * n = n := by
  have : (![0, 0, 0] : Fin 3 → ℕ) a = 0 := by revert a; decide
  rw [this]; omega
theorem nil2 (s : Fin 2 → ℕ) (a : Fin 2) (n : ℕ) : (![0, 0] : Fin 2 → ℕ) a * s a + 1 * n = n := by
  have : (![0, 0] : Fin 2 → ℕ) a = 0 := by revert a; decide
  rw [this]; omega

theorem iblk_1 (c : Dev nD) (t : Fin (cfgM m).N) : (iblk m c 1 t : Vec F S1x1024x2816 .bf16) = V m c main_v3 := by
  refine funext fun j => congrArg (V m c main_v3) (funext fun x => Fin.ext ?_)
  refine (emb1 m t _ x).trans ?_
  rw [transform_eq (tbl m) (tbl_eq m) (grid0.coords t)]
  exact nil3 _ _ _
theorem iblk_2 (c : Dev nD) (t : Fin (cfgM m).N) : (iblk m c 2 t : Vec F S1x1024x2816 .bf16) = V m c main_v4 := by
  refine funext fun j => congrArg (V m c main_v4) (funext fun x => Fin.ext ?_)
  refine (emb2 m t _ x).trans ?_
  rw [transform_eq (tbl m) (tbl_eq m) (grid0.coords t)]
  exact nil3 _ _ _
theorem iblk_3 (c : Dev nD) (t : Fin (cfgM m).N) : (iblk m c 3 t : Vec F S1x2816x1024 .bf16) = V m c main_v5 := by
  refine funext fun j => congrArg (V m c main_v5) (funext fun x => Fin.ext ?_)
  refine (emb3 m t _ x).trans ?_
  rw [transform_eq (tbl m) (tbl_eq m) (grid0.coords t)]
  exact nil3 _ _ _
theorem iblk_4 (c : Dev nD) (t : Fin (cfgM m).N) : (iblk m c 4 t : Vec F S1x1024 .f32) = V m c main_v6 := by
  refine funext fun j => congrArg (V m c main_v6) (funext fun a => Fin.ext ?_)
  show cc0_transform_4 (grid0.coords t) a * S1x1024.size a + 1 * (j a).val = _
  rw [(vec_idx t).1]
  exact nil2 _ _ _
theorem iblk_5 (c : Dev nD) (t : Fin (cfgM m).N) : (iblk m c 5 t : Vec F S1x1024 .f32) = V m c main_v7 := by
  refine funext fun j => congrArg (V m c main_v7) (funext fun a => Fin.ext ?_)
  show cc0_transform_5 (grid0.coords t) a * S1x1024.size a + 1 * (j a).val = _
  rw [(vec_idx t).2]
  exact nil2 _ _ _

end Array

/-! ## Over the extended reals -/

/-- A hidden activation: the first projection through its gate, times the second. -/
def hidden (p q : EReal) : EReal := Ideal.div p (1 + Ideal.exp (-p)) * q

/-- A row before the norm: the residual, scaled, plus the gated hidden activations against the third matrix. -/
def ffnRow (x : Vec Ideal S32768x1024 .f32) (wg wu : Vec Ideal S1024x2816 .f32) (wd : Vec Ideal S2816x1024 .f32) (R : Fin 32768) (e : Fin 1024) : EReal :=
  alpha * x (ValueIdx.ix2 R e) + ∑ f : Fin 2816, hidden (∑ k : Fin 1024, x (ValueIdx.ix2 R k) * wg (ValueIdx.ix2 k f)) (∑ k : Fin 1024, x (ValueIdx.ix2 R k) * wu (ValueIdx.ix2 k f)) * wd (ValueIdx.ix2 f e)

theorem pay_apply (x0 : Vec Ideal S512x1024 .f32) (x1 x2 : Vec Ideal S1x1024x2816 .bf16) (x3 : Vec Ideal S1x2816x1024 .bf16) (x4 x5 : Vec Ideal S1x1024 .f32) (r : Fin 512) (d : Fin 1024) :
    tileOut (F := Ideal) x0 x1 x2 x3 x4 x5 (ValueIdx.ix2 r d)
      = lnRow (fun e => alpha * x0 (ValueIdx.ix2 r e) + ∑ f : Fin 2816, hidden (∑ k : Fin 1024, x0 (ValueIdx.ix2 r k) * x1 (ValueIdx.ix3 0 k f)) (∑ k : Fin 1024, x0 (ValueIdx.ix2 r k) * x2 (ValueIdx.ix3 0 k f)) * x3 (ValueIdx.ix3 0 f e))
        (x4 (ValueIdx.ix2 0 d)) (x5 (ValueIdx.ix2 0 d)) d := by
  unfold hidden
  simp only [← zero_sub (∑ k : Fin 1024, (_ : EReal))]
  unfold tileOut k0_pay1 k0_pay3 k0_pay4 k0_pay6 k0_pay5
  pointwise
  rfl

theorem vec_of (x : Vec Ideal S1024 .f32) (d : Fin 1024) : broadcastInDim S1x1024 ![1] bcast_S1024_S1x1024_1 x (ValueIdx.ix2 0 d) = x (ValueIdx.ix1 d) := by
  pointwise; rfl
theorem up_of (w : Vec Ideal S1024x2816 .f32) (k : Fin 1024) (f : Fin 2816) :
    (truncf .bf16 (broadcastInDim S1x1024x2816 ![1, 2] bcast_S1024x2816_S1x1024x2816_1_2 w : FVec Ideal S1x1024x2816 .f32) bitsLt_bf16_f32 : FVec Ideal S1x1024x2816 .bf16) (ValueIdx.ix3 0 k f) = w (ValueIdx.ix2 k f) := by
  pointwise; rfl
theorem down_of (w : Vec Ideal S2816x1024 .f32) (f : Fin 2816) (e : Fin 1024) :
    (truncf .bf16 (broadcastInDim S1x2816x1024 ![1, 2] bcast_S2816x1024_S1x2816x1024_1_2 w : FVec Ideal S1x2816x1024 .f32) bitsLt_bf16_f32 : FVec Ideal S1x2816x1024 .bf16) (ValueIdx.ix3 0 f e) = w (ValueIdx.ix2 f e) := by
  pointwise; rfl

section Point
variable (m : (ℓ : Loc nD τ sig) → Buf (Elt Ideal) ℓ) (c : Dev nD)

/-- The arguments' row before the norm. -/
def argRow (R : Fin 32768) (e : Fin 1024) : EReal :=
  ffnRow (m ((c : Thread nD τ).loc main_arg0)) (m ((c : Thread nD τ).loc main_arg1)) (m ((c : Thread nD τ).loc main_arg2)) (m ((c : Thread nD τ).loc main_arg3)) R e

theorem wg_apply (t : Fin (cfgM m).N) (k : Fin 1024) (f : Fin 2816) :
    (iblk m c 1 t : Vec Ideal S1x1024x2816 .bf16) (ValueIdx.ix3 0 k f) = (m ((c : Thread nD τ).loc main_arg1) : Vec Ideal S1024x2816 .f32) (ValueIdx.ix2 k f) :=
  (congrFun ((iblk_1 m c t).trans (V_wg m c)) _).trans (up_of _ k f)
theorem wu_apply (t : Fin (cfgM m).N) (k : Fin 1024) (f : Fin 2816) :
    (iblk m c 2 t : Vec Ideal S1x1024x2816 .bf16) (ValueIdx.ix3 0 k f) = (m ((c : Thread nD τ).loc main_arg2) : Vec Ideal S1024x2816 .f32) (ValueIdx.ix2 k f) :=
  (congrFun ((iblk_2 m c t).trans (V_wu m c)) _).trans (up_of _ k f)
theorem wd_apply (t : Fin (cfgM m).N) (f : Fin 2816) (e : Fin 1024) :
    (iblk m c 3 t : Vec Ideal S1x2816x1024 .bf16) (ValueIdx.ix3 0 f e) = (m ((c : Thread nD τ).loc main_arg3) : Vec Ideal S2816x1024 .f32) (ValueIdx.ix2 f e) :=
  (congrFun ((iblk_3 m c t).trans (V_wd m c)) _).trans (down_of _ f e)
theorem g_apply (t : Fin (cfgM m).N) (d : Fin 1024) :
    (iblk m c 4 t : Vec Ideal S1x1024 .f32) (ValueIdx.ix2 0 d) = (m ((c : Thread nD τ).loc main_arg4) : Vec Ideal S1024 .f32) (ValueIdx.ix1 d) :=
  (congrFun ((iblk_4 m c t).trans (V_g m c)) _).trans (vec_of _ d)
theorem beta_apply (t : Fin (cfgM m).N) (d : Fin 1024) :
    (iblk m c 5 t : Vec Ideal S1x1024 .f32) (ValueIdx.ix2 0 d) = (m ((c : Thread nD τ).loc main_arg5) : Vec Ideal S1024 .f32) (ValueIdx.ix1 d) :=
  (congrFun ((iblk_5 m c t).trans (V_beta m c)) _).trans (vec_of _ d)

/-- A tile's result at a row and column. -/
theorem tile_apply (t : Fin (cfgM m).N) (r : Fin 512) (R : Fin 32768) (hR : R.val = t.val * 512 + r.val) (d : Fin 1024) :
    oblk m c t (ValueIdx.ix2 r d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  refine (pay_apply (iblk m c 0 t) (iblk m c 1 t) (iblk m c 2 t) (iblk m c 3 t) (iblk m c 4 t) (iblk m c 5 t) r d).trans (lnRow_congr (fun e => ?_) (g_apply m c t d) (beta_apply m c t d) d)
  exact congrArg₂ (α := EReal) (β := EReal) (· + ·) (congrArg (alpha * ·) (iblk_0 m c t r e R hR)) (Finset.sum_congr rfl fun f _ => congrArg₂ (α := EReal) (β := EReal) (· * ·)
    (congrArg₂ hidden
      (Finset.sum_congr rfl fun k _ => congrArg₂ (α := EReal) (β := EReal) (· * ·) (iblk_0 m c t r k R hR) (wg_apply m c t k f))
      (Finset.sum_congr rfl fun k _ => congrArg₂ (α := EReal) (β := EReal) (· * ·) (iblk_0 m c t r k R hR) (wu_apply m c t k f)))
    (wd_apply m c t f e))

/-- The kernel's result at a row and column. -/
theorem out_apply (R : Fin 32768) (d : Fin 1024) :
    outArr m c (ValueIdx.ix2 R d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  have ht : R.val / 512 < grid0.N := by rw [Gen.N_0]; omega
  have hR : R.val = R.val / 512 * 512 + R.val % 512 := by omega
  exact (spread_at _ ⟨R.val / 512, ht⟩ (ValueIdx.ix2 ⟨R.val % 512, Nat.mod_lt _ (by decide)⟩ d) (ValueIdx.ix2 R d) hR rfl).trans (tile_apply m c ⟨R.val / 512, ht⟩ ⟨R.val % 512, Nat.mod_lt _ (by decide)⟩ R hR d)

end Point

end Cert.Kernel5Ideal.Dense

end
-- ==== Proof.Dense.Claims.lean ====
/- The claims about the dense feed-forward kernel: the frames and the equality with the reference. -/
module

public import proofs.«01_k».proof.Defs
public import proofs.«01_k».proof.Proof.Dense.Same
public import proofs.«01_k».proof.Proof.Dense.Value
public import proofs.«01_k».proof.Proof.Experts.Reference
public import proofs.«01_k».proof.Proof.Gen.Reference5Ideal.Run
public import Idealize.ShloMosaic.Lib.Quiescent

@[expose] public section

set_option maxRecDepth 16384

noncomputable section

namespace Cert.Dense

open Idealize.ShloMosaic Idealize.ShloMosaic.TcCoe Idealize.SL.Sem
open Cert.Kernel5Ideal.Dense Cert.Norm

/-- The kernel's frame over the machine's floats: the same text, the same run. -/
theorem frame_kernel : Cert.quiescent_Kernel5 := by
  intro m ρ _
  have h := Cert.Kernel5Ideal.Dense.frame (F := Bits) m ρ
  rw [← defs_eq, ← main_eq] at h
  exact h
theorem frame_ideal : Cert.quiescent_Kernel5Ideal := fun m ρ _ => Cert.Kernel5Ideal.Dense.frame m ρ
theorem frame_ref : Cert.quiescent_Reference5Ideal := fun m ρ _ =>
  (θ_run Cert.Reference5Ideal.defs _ _).mono (fun r h => ⟨fun c => (h c).2, Idealize.ShloMosaic.sem_eq_zero_of_no_sems (by decide) r.2⟩) (Cert.Reference5Ideal.Value.run (F := Ideal) m ρ)

/-- A hidden activation as the reference spells it: the gate is a factor. -/
theorem hidden_eq (p q : EReal) : Cert.Kernel5Ideal.Dense.hidden p q = p * Ideal.div 1 (1 + Ideal.exp (-p)) * q := by
  unfold Cert.Kernel5Ideal.Dense.hidden
  rw [Ideal.mul_one_div (Cert.ReferenceIdeal.Experts.one_add_exp_ne_zero _)]

/-- The reference's result at a row and column. -/
theorem ref_apply (m : (ℓ : Loc Cert.Reference5Ideal.nD Cert.Reference5Ideal.τ Cert.Reference5Ideal.sig) → Buf (Elt Ideal) ℓ) (c : Dev Cert.Reference5Ideal.nD) (R : Fin 32768) (d : Fin 1024) :
    (Cert.Reference5Ideal.Value.res_out0 m c : Vec Ideal Cert.Reference5Ideal.S32768x1024 .f32) (ValueIdx.ix2 R d)
      = (lnRow (ffnRow (m ((c.tc : Thread _ _).loc Cert.Reference5Ideal.main_arg0)) (m ((c.tc : Thread _ _).loc Cert.Reference5Ideal.main_arg1)) (m ((c.tc : Thread _ _).loc Cert.Reference5Ideal.main_arg2)) (m ((c.tc : Thread _ _).loc Cert.Reference5Ideal.main_arg3)) R)
      ((m ((c.tc : Thread _ _).loc Cert.Reference5Ideal.main_arg4) : Vec Ideal Cert.Reference5Ideal.S1024 .f32) (ValueIdx.ix1 d)) ((m ((c.tc : Thread _ _).loc Cert.Reference5Ideal.main_arg5) : Vec Ideal Cert.Reference5Ideal.S1024 .f32) (ValueIdx.ix1 d)) d : EReal) := by
  unfold ffnRow
  simp only [hidden_eq]
  unfold Cert.Reference5Ideal.Value.res_out0 Cert.Reference5Ideal.Value.res_main_v31
  pointwise
  rfl

/-- Kernel and reference compute the same array. -/
theorem algebraic : Cert.algebraic_Kernel5Ideal_Reference5Ideal := by
  intro m g m' g' hpre hargs
  refine ⟨fun c => outArr m c, run_out m g, ?_⟩
  refine (θ_run Cert.Reference5Ideal.defs _ _).mono (fun r h c => ⟨(h c).1.trans (funext fun i => ?_), (h c).2⟩) (Cert.Reference5Ideal.Value.run (F := Ideal) m' g')
  obtain ⟨R, d, rfl⟩ : ∃ (R : Fin 32768) (d : Fin 1024), i = ValueIdx.ix2 R d := ⟨i 0, i 1, ValueIdx.eq_ix2 i⟩
  obtain ⟨h0, h1, h2, h3, h4, h5⟩ := hargs c
  refine (ref_apply m' c R d).trans ((out_apply m c R d).trans ?_).symm
  unfold argRow
  rw [h0, h1, h2, h3, h4, h5]

end Cert.Dense

end
-- ==== Proof.Router.Pick.lean ====
/- The greatest of finitely many numbers, the first of its equals, and the two greatest of a row. -/
module

public import Idealize.ShloMosaic.PureOps
public import Idealize.ShloMosaic.Lib.SortFacts
public import Mathlib.Data.EReal.Basic
public import Mathlib.Data.Finset.Max
public import Idealize.ShloMosaic.Lib.Pointwise

@[expose] public section

noncomputable section

namespace Cert.Router

open Idealize.ShloMosaic

/-- Entry `e` is the greatest, and the first of those that equal it. -/
def Best {n : ℕ} (f : Fin n → EReal) (e : Fin n) : Prop := ∀ l, f l < f e ∨ (f l = f e ∧ e ≤ l)

theorem Best.le {n : ℕ} {f : Fin n → EReal} {e : Fin n} (h : Best f e) (l : Fin n) : f l ≤ f e := (h l).elim le_of_lt (fun h => le_of_eq h.1)

theorem Best.unique {n : ℕ} {f : Fin n → EReal} {e e' : Fin n} (h : Best f e) (h' : Best f e') : e = e' := by
  rcases h e' with a | a
  · exact absurd a (not_lt_of_ge (h'.le e))
  · rcases h' e with b | b
    · exact absurd b (not_lt_of_ge (h.le e'))
    · exact le_antisymm a.2 b.2

theorem exists_best {n : ℕ} [NeZero n] (f : Fin n → EReal) : ∃ e, Best f e := by
  obtain ⟨M, -, hM'⟩ := Finset.exists_max_image Finset.univ f Finset.univ_nonempty
  have hM : ∀ l, f l ≤ f M := fun l => hM' l (Finset.mem_univ l)
  have hne : (Finset.univ.filter fun l => f l = f M).Nonempty := ⟨M, Finset.mem_filter.mpr ⟨Finset.mem_univ _, rfl⟩⟩
  refine ⟨(Finset.univ.filter fun l => f l = f M).min' hne, fun l => ?_⟩
  have hm := (Finset.mem_filter.mp ((Finset.univ.filter fun l => f l = f M).min'_mem hne)).2
  rw [hm]
  rcases lt_or_eq_of_le (hM l) with h | h
  · exact Or.inl h
  · exact Or.inr ⟨h, Finset.min'_le (Finset.univ.filter fun l => f l = f M) l (Finset.mem_filter.mpr ⟨Finset.mem_univ l, h⟩)⟩

/-- `f` without entry `e`. -/
def drop {n : ℕ} (f : Fin n → EReal) (e : Fin n) : Fin n → EReal := fun l => if l = e then ⊥ else f l

/-- Eight entries on 128 lanes. -/
def lanes (f : Fin 8 → EReal) : Fin 128 → EReal := fun l => if h : l.val < 8 then f ⟨l.val, h⟩ else ⊥
/-- An entry's lane. -/
def lane (e : Fin 8) : Fin 128 := ⟨e.val, by omega⟩

theorem lanes_lane (f : Fin 8 → EReal) (e : Fin 8) : lanes f (lane e) = f e := dif_pos e.isLt

theorem best_lanes {f : Fin 8 → EReal} {e : Fin 8} (h : Best f e) (hb : ⊥ < f e) : Best (lanes f) (lane e) := by
  intro l
  rw [lanes_lane]
  by_cases hl : l.val < 8
  · have := h ⟨l.val, hl⟩
    rw [show lanes f l = f ⟨l.val, hl⟩ from dif_pos hl]
    exact this
  · rw [show lanes f l = ⊥ from dif_neg hl]
    exact Or.inl hb

theorem lanes_drop (f : Fin 8 → EReal) (e : Fin 8) (l : Fin 128) : lanes (drop f e) l = if l = lane e then ⊥ else lanes f l := by
  unfold lanes drop lane
  by_cases hl : l.val < 8
  · rw [dif_pos hl, dif_pos hl]
    by_cases he : l.val = e.val
    · rw [if_pos (Fin.ext he), if_pos (Fin.ext he)]
    · rw [if_neg fun h => he (congrArg Fin.val h), if_neg fun h => he (congrArg Fin.val h)]
  · rw [dif_neg hl, dif_neg hl]
    exact (ite_self _).symm

/-- A row of finite numbers has a best entry and a second. -/
theorem exists_two (f : Fin 8 → EReal) (hf : ∀ e, ⊥ < f e) : ∃ e₁ e₂, Best f e₁ ∧ Best (drop f e₁) e₂ ∧ e₁ ≠ e₂ := by
  obtain ⟨e₁, h₁⟩ := exists_best f
  obtain ⟨e₂, h₂⟩ := exists_best (drop f e₁)
  refine ⟨e₁, e₂, h₁, h₂, fun he => ?_⟩
  subst he
  obtain ⟨l, hl⟩ : ∃ l : Fin 8, l ≠ e₁ := exists_ne e₁
  have := h₂.le l
  unfold drop at this
  rw [if_neg hl, if_pos rfl] at this
  exact absurd (hf l) (not_lt_of_ge this)

/-! ## A stable sort puts them first -/

section Sorting
variable {n : ℕ} (f : Fin n → EReal)

/-- "Before", for a sort by descending `f` that keeps the order of the positions among equals. -/
def Lex (a b : Fin n) : Prop := f b < f a ∨ (f a = f b ∧ a < b)

theorem pairwise_insert (a : Fin n) (l : List (Fin n)) (ha : ∀ b ∈ l, a < b) (hl : l.Pairwise (Lex f)) :
    (insertBefore (fun x y => decide (f y < f x)) a l).Pairwise (Lex f) := by
  induction l with
  | nil => simp [insertBefore]
  | cons b l ih =>
    obtain ⟨hb, hl'⟩ := List.pairwise_cons.mp hl
    unfold insertBefore
    split
    · next h =>
      have hba : f a < f b := by simpa using h
      refine List.pairwise_cons.mpr ⟨fun x hx => ?_, ih (fun x hx => ha x (List.mem_cons_of_mem _ hx)) hl'⟩
      rcases List.mem_cons.mp ((perm_insertBefore _ a l).mem_iff.mp hx) with rfl | hx'
      · exact Or.inl hba
      · exact hb x hx'
    · next h =>
      have hab : f b ≤ f a := by simpa using h
      refine List.pairwise_cons.mpr ⟨fun x hx => ?_, hl⟩
      have hle : f x ≤ f a := by
        rcases List.mem_cons.mp hx with rfl | hx'
        · exact hab
        · exact (((hb x hx').elim le_of_lt fun h1 => le_of_eq h1.1.symm)).trans hab
      rcases lt_or_eq_of_le hle with h1 | h1
      · exact Or.inl h1
      · exact Or.inr ⟨h1.symm, ha x hx⟩

theorem pairwise_sort (l : List (Fin n)) (hl : l.Pairwise (· < ·)) : (stableSort (fun x y => decide (f y < f x)) l).Pairwise (Lex f) := by
  induction l with
  | nil => simp [stableSort]
  | cons a l ih =>
    obtain ⟨ha, hl'⟩ := List.pairwise_cons.mp hl
    unfold stableSort
    exact pairwise_insert f a _ (fun b hb => ha b ((perm_stableSort _ l).mem_iff.mp hb)) (ih hl')

/-- The position that the sort puts at `k`. -/
def sorted (k : Fin n) : Fin n := sortedFrom (fun x y => decide (f y < f x)) k

theorem sorted_lex (i j : Fin n) (h : i < j) : Lex f (sorted f i) (sorted f j) :=
  List.pairwise_iff_get.mp (pairwise_sort f (List.finRange n) (List.pairwise_lt_finRange n)) _ _ h

end Sorting

theorem sorted_zero (f : Fin 8 → EReal) : Best f (sorted f 0) := by
  intro l
  obtain ⟨j, rfl⟩ := sortedFrom_surjective (fun x y => decide (f y < f x)) l
  by_cases hj : j = 0
  · subst hj; exact Or.inr ⟨rfl, le_refl _⟩
  · rcases sorted_lex f 0 j (Fin.pos_iff_ne_zero.mpr hj) with h | h
    · exact Or.inl h
    · exact Or.inr ⟨h.1.symm, le_of_lt h.2⟩
theorem sorted_one (f : Fin 8 → EReal) (hf : ∀ e, ⊥ < f e) : Best (drop f (sorted f 0)) (sorted f 1) := by
  have hinj := sortedFrom_injective (fun x y : Fin 8 => decide (f y < f x))
  have h1 : drop f (sorted f 0) (sorted f 1) = f (sorted f 1) := if_neg fun h => absurd (hinj h) (by decide)
  intro l
  obtain ⟨j, rfl⟩ := sortedFrom_surjective (fun x y => decide (f y < f x)) l
  rw [h1]
  by_cases hj : j = 0
  · subst hj
    exact Or.inl (lt_of_eq_of_lt (if_pos rfl) (hf _))
  · have hd : drop f (sorted f 0) (sorted f j) = f (sorted f j) := if_neg fun h => hj (hinj h)
    by_cases hj1 : j = 1
    · subst hj1; exact Or.inr ⟨hd, le_refl _⟩
    · have : (1 : Fin 8) < j := by
        rw [Fin.lt_def]
        have a : j.val ≠ 0 := fun h => hj (Fin.ext h)
        have b : j.val ≠ 1 := fun h => hj1 (Fin.ext h)
        show 1 < j.val
        omega
      rcases sorted_lex f 1 j this with h | h
      · exact Or.inl (lt_of_eq_of_lt hd h)
      · exact Or.inr ⟨hd.trans h.1.symm, le_of_lt h.2⟩

/-! ## Folds find them -/

/-- A lane's number. -/
def num (n : ℕ) : EReal := ((n : ℝ) : EReal)

theorem num_inj {a b : ℕ} : num a = num b ↔ a = b := by
  unfold num; rw [EReal.coe_eq_coe_iff, Nat.cast_inj]
theorem num_lt {a b : ℕ} : num a < num b ↔ a < b := by
  unfold num; rw [EReal.coe_lt_coe_iff, Nat.cast_lt]
theorem num_le {a b : ℕ} : num a ≤ num b ↔ a ≤ b := by
  unfold num; rw [EReal.coe_le_coe_iff, Nat.cast_le]

theorem num_zero : num 0 = 0 := by unfold num; rw [Nat.cast_zero, EReal.coe_zero]
theorem num_one : num 1 = 1 := by unfold num; rw [Nat.cast_one, EReal.coe_one]
theorem bits_two : Ideal.ofBits .f32 0x40000000#32 = num 2 := by
  unfold num; simp [Ideal.ofBits, Ideal.ieee, -EReal.coe_mul]; norm_num
theorem bits_three : Ideal.ofBits .f32 0x40400000#32 = num 3 := by
  unfold num; simp [Ideal.ofBits, Ideal.ieee, -EReal.coe_mul]; norm_num
theorem bits_four : Ideal.ofBits .f32 0x40800000#32 = num 4 := by
  unfold num; simp [Ideal.ofBits, Ideal.ieee, -EReal.coe_mul]; norm_num
theorem bits_five : Ideal.ofBits .f32 0x40A00000#32 = num 5 := by
  unfold num; simp [Ideal.ofBits, Ideal.ieee, -EReal.coe_mul]; norm_num
theorem bits_eight : Ideal.ofBits .f32 0x41000000#32 = num 8 := by
  unfold num; simp [Ideal.ofBits, Ideal.ieee, -EReal.coe_mul]; norm_num
theorem bits_lanes : Ideal.ofBits .f32 0x43000000#32 = num 128 := by
  unfold num; simp [Ideal.ofBits, Ideal.ieee, -EReal.coe_mul]; norm_num
theorem bits_bot : Ideal.ofBits .f32 0xFF800000#32 = ⊥ := by simp [Ideal.ofBits, Ideal.ieee]
theorem bits_top : Ideal.ofBits .f32 0x7F800000#32 = ⊤ := by simp [Ideal.ofBits, Ideal.ieee]

theorem fold_max_best {n : ℕ} {f : Fin n → EReal} {e : Fin n} (h : Best f e) : Finset.fold max ⊥ f Finset.univ = f e :=
  le_antisymm (Finset.fold_max_le _ |>.mpr ⟨bot_le, fun l _ => h.le l⟩) (Finset.le_fold_max _ |>.mpr (Or.inr ⟨e, Finset.mem_univ e, le_refl _⟩))
theorem fold_min_best {f : Fin 128 → EReal} {e : Fin 128} (h : Best f e) :
    Finset.fold min ⊤ (fun l : Fin 128 => if f l = f e then num l.val else num 128) Finset.univ = num e.val := by
  refine le_antisymm (Finset.fold_min_le _ |>.mpr (Or.inr ⟨e, Finset.mem_univ e, le_of_eq (if_pos rfl)⟩)) (Finset.le_fold_min _ |>.mpr ⟨le_top, fun l _ => ?_⟩)
  split
  · next hl =>
    rcases h l with a | a
    · exact absurd hl (ne_of_lt a)
    · exact num_le.mpr a.2
  · exact num_le.mpr (le_of_lt e.isLt)

/-! ## Finite numbers -/

/-- A real number. -/
def IsReal (a : EReal) : Prop := ∃ r : ℝ, a = (r : EReal)
theorem IsReal.add {a b : EReal} (ha : IsReal a) (hb : IsReal b) : IsReal (a + b) := by
  obtain ⟨x, rfl⟩ := ha; obtain ⟨y, rfl⟩ := hb
  exact ⟨x + y, (EReal.coe_add x y).symm⟩
theorem IsReal.mul {a b : EReal} (ha : IsReal a) (hb : IsReal b) : IsReal (a * b) := by
  obtain ⟨x, rfl⟩ := ha; obtain ⟨y, rfl⟩ := hb
  exact ⟨x * y, (EReal.coe_mul x y).symm⟩
theorem IsReal.sum {ι : Type} (s : Finset ι) (f : ι → EReal) (h : ∀ i, IsReal (f i)) : IsReal (∑ i ∈ s, f i) := by
  classical
  induction s using Finset.induction_on with
  | empty => exact ⟨0, Finset.sum_empty.trans EReal.coe_zero.symm⟩
  | insert a s ha ih => rw [Finset.sum_insert ha]; exact (h a).add ih
theorem IsReal.sub_self {a : EReal} (ha : IsReal a) : a - a = 0 := by
  obtain ⟨x, rfl⟩ := ha
  rw [← EReal.coe_sub, _root_.sub_self, EReal.coe_zero]
theorem IsReal.bot_lt {a : EReal} (ha : IsReal a) : ⊥ < a := by
  obtain ⟨x, rfl⟩ := ha
  exact EReal.bot_lt_coe x
theorem real_zero : IsReal 0 := ⟨0, EReal.coe_zero.symm⟩
theorem real_of_abs {a : EReal} (h : max a (-a) < ⊤) : IsReal a := by
  induction a with
  | bot => simp at h
  | top => simp at h
  | coe x => exact ⟨x, rfl⟩

/-! ## Small words -/

theorem word_toInt {n : ℕ} (h : n < 128) : (BitVec.ofNat 32 n).toInt = (n : ℤ) := by
  rw [BitVec.toInt_eq_toNat_of_lt (by rw [BitVec.toNat_ofNat]; omega), BitVec.toNat_ofNat, Nat.mod_eq_of_lt (by omega)]
theorem word_lt (a b : Fin 128) : (BitVec.ofNat 32 a.val).slt (BitVec.ofNat 32 b.val) = decide (a < b) := by
  unfold BitVec.slt
  rw [word_toInt a.isLt, word_toInt b.isLt]
  exact decide_eq_decide.mpr (Int.ofNat_lt.trans Fin.lt_def.symm)
theorem word_lt_of {n : ℕ} (hn : n ≤ 2 ^ 31) (a b : Fin n) : (BitVec.ofNat 32 a.val).slt (BitVec.ofNat 32 b.val) = decide (a < b) := by
  have h : ∀ a : Fin n, (BitVec.ofNat 32 a.val).toInt = (a.val : ℤ) := fun a => by
    have := a.isLt
    rw [BitVec.toInt_eq_toNat_of_lt (by rw [BitVec.toNat_ofNat]; omega), BitVec.toNat_ofNat, Nat.mod_eq_of_lt (by omega)]
  unfold BitVec.slt
  rw [h, h]
  exact decide_eq_decide.mpr (Int.ofNat_lt.trans Fin.lt_def.symm)
theorem num_sitofp {n : ℕ} (h : n < 128) : (FloatOps.sitofp (F := Ideal) .f32 (BitVec.ofNat 32 n) : EReal) = num n := by
  show (((BitVec.ofNat 32 n).toInt : ℝ) : EReal) = num n
  rw [word_toInt h]; rfl
theorem uitofp_bool (t : FTy) (p : Prop) [Decidable p] : (FloatOps.uitofp (F := Ideal) t (BitVec.ofBool (decide p)) : EReal) = if p then 1 else 0 := by
  show (((BitVec.ofBool (decide p)).toNat : ℝ) : EReal) = _
  by_cases h : p <;> simp [h]

/-! ## What the router's results hold -/

/-- 1 where entry `e` is one of a row's two. -/
def hit (e₁ e₂ e : Fin 8) : EReal := if e = e₁ ∨ e = e₂ then 1 else 0
theorem hit_sum {e₁ e₂ : Fin 8} (h : e₁ ≠ e₂) (e : Fin 8) : (if e₁ = e then (1 : EReal) else 0) + (if e₂ = e then 1 else 0) = hit e₁ e₂ e := by
  unfold hit
  by_cases h1 : e = e₁
  · subst h1
    rw [if_pos rfl, if_neg h.symm, if_pos (Or.inl rfl), add_zero]
  · rw [if_neg (fun a => h1 a.symm), zero_add]
    by_cases h2 : e = e₂
    · rw [if_pos h2.symm, if_pos (Or.inr h2)]
    · rw [if_neg (fun a => h2 a.symm), if_neg (fun a => a.elim h1 h2)]

variable {n : ℕ} (E₁ E₂ : Fin n → Fin 8) (c : Fin 128 → EReal)
/-- How many rows chose `e` before row `t` did, on top of the counts `c`. -/
def rankOf (t : Fin n) (e : Fin 8) : EReal := c (lane e) + ∑ s : Fin n, if s < t then hit (E₁ s) (E₂ s) e else 0
/-- How many rows have chosen a lane's entry. -/
def countOf (l : Fin 128) : EReal := c l + if h : l.val < 8 then ∑ s : Fin n, hit (E₁ s) (E₂ s) ⟨l.val, h⟩ else 0
/-- A row of the slab. -/
def slabOf (v₁ v₂ : EReal) (t : Fin n) (l : Fin 128) : EReal :=
  if l.val = 0 then num (E₁ t).val else if l.val = 1 then num (E₂ t).val
  else if l.val = 2 then Ideal.div 1 (1 + Ideal.exp (v₂ - v₁)) else if l.val = 3 then Ideal.div (Ideal.exp (v₂ - v₁)) (1 + Ideal.exp (v₂ - v₁))
  else if l.val = 4 then rankOf E₁ E₂ c t (E₁ t) else if l.val = 5 then rankOf E₁ E₂ c t (E₂ t) else 0

end Cert.Router

end
-- ==== Proof.Router.Value.lean ====
/- The router: what the kernel's two results hold at an index. -/
module

public import proofs.«01_k».proof.Proof.Router.Pick
public import proofs.«01_k».proof.Proof.Gen.Kernel6Ideal.Value
public import Idealize.ShloMosaic.Lib.Pointwise
public import Idealize.ShloMosaic.Lib.Pipeline.Value
public import Idealize.ShloMosaic.Lib.Pipeline.ValueKit.Acc
public import Idealize.ShloMosaic.Lib.Pipeline.ValueKit.Basic
public import Idealize.ShloMosaic.Lib.StableHlo.RunRead

@[expose] public section

set_option maxRecDepth 16384

noncomputable section

namespace Cert.Kernel6Ideal.Router

open Cert.Kernel6Ideal Cert.Kernel6Ideal.Gen Cert.Router
open Idealize.ShloMosaic Idealize.ShloMosaic.TcCoe Idealize.SL.Sem
open Idealize.ShloMosaic.Pipeline (Dat Cfg Window)

/-! ## The body -/

section Body

theorem numbers (r l : Fin 128) : (k0_pay2 (F := Ideal)) (ValueIdx.ix2 r l) = num l.val := by
  unfold k0_pay2
  pointwise
  exact num_sitofp l.isLt

theorem num_lane (l : Fin 128) (e : Fin 8) : num l.val = num e.val ↔ l = lane e := num_inj.trans (Fin.ext_iff (a := l) (b := lane e)).symm
theorem lane_inj {a b : Fin 8} : lane a = lane b ↔ a = b :=
  ⟨fun h => Fin.ext (show (lane a).val = (lane b).val from congrArg (fun l : Fin 128 => l.val) h), congrArg lane⟩
theorem select_or (p q : Prop) [Decidable p] [Decidable q] :
    (Scalar.select (IntOp.ori (BitVec.ofBool (decide p)) (BitVec.ofBool (decide q))) 1 0 : EReal) = if p ∨ q then 1 else 0 := by
  by_cases hp : p <;> by_cases hq : q <;> simp [hp, hq, Scalar.select, IntOp.ori]

variable (x : Vec Ideal S128x1024 .f32) (w v : Vec Ideal S1024x128 .bf16) (b : Vec Ideal S1x128 .f32) (T : Vec Ideal S128x128 .bf16) (C : Vec Ideal S1x128 .f32)
variable (L : Fin 128 → Fin 8 → EReal) (E₁ E₂ : Fin 128 → Fin 8)

theorem greatest (hS : ∀ r l, k0_pay3 (F := Ideal) x w v b (ValueIdx.ix2 r l) = lanes (L r) l) (hL : ∀ r e, ⊥ < L r e) (h₁ : ∀ r, Best (L r) (E₁ r)) (r : Fin 128) :
    k0_pay4 (F := Ideal) x w v b (ValueIdx.ix2 r 0) = L r (E₁ r) := by
  unfold k0_pay4
  pointwise
  rw [bits_bot]
  refine (congrArg (fun f => Finset.fold max ⊥ f Finset.univ) (funext fun l => hS r l)).trans ?_
  exact (fold_max_best (best_lanes (h₁ r) (hL r _))).trans (lanes_lane _ _)

theorem first (hS : ∀ r l, k0_pay3 (F := Ideal) x w v b (ValueIdx.ix2 r l) = lanes (L r) l) (hL : ∀ r e, ⊥ < L r e) (h₁ : ∀ r, Best (L r) (E₁ r)) (r : Fin 128) :
    k0_pay5 (F := Ideal) x w v b (ValueIdx.ix2 r 0) = num (E₁ r).val := by
  have hg := greatest x w v b L E₁ hS hL h₁ r
  unfold k0_pay5
  pointwise
  rw [bits_top, bits_lanes]
  refine Eq.trans (congrArg (fun f => Finset.fold min ⊤ f Finset.univ) (funext fun l => ?_)) (fold_min_best (best_lanes (h₁ r) (hL r _)))
  exact if_congr (Eq.congr (hS r l) (hg.trans (lanes_lane _ _).symm)) (numbers r l) rfl

theorem masked (hS : ∀ r l, k0_pay3 (F := Ideal) x w v b (ValueIdx.ix2 r l) = lanes (L r) l) (hL : ∀ r e, ⊥ < L r e) (h₁ : ∀ r, Best (L r) (E₁ r)) (r l : Fin 128) :
    k0_pay6 (F := Ideal) x w v b (ValueIdx.ix2 r l) = lanes (drop (L r) (E₁ r)) l := by
  have hf := first x w v b L E₁ hS hL h₁ r
  unfold k0_pay6
  pointwise
  rw [bits_bot, lanes_drop]
  exact if_congr ((Eq.congr (numbers r l) hf).trans (num_inj.trans (Fin.ext_iff (a := l) (b := lane (E₁ r))).symm)) rfl (hS r l)

section Masked
variable (u : FVec Ideal S128x128 .f32) (M : FVec Ideal S128x128 .f32) (m₁ i₁ : FVec Ideal S128x1 .f32)
  (hM : ∀ r l, M (ValueIdx.ix2 r l) = lanes (drop (L r) (E₁ r)) l) (hu : ∀ r l, u (ValueIdx.ix2 r l) = num l.val)
  (hL : ∀ r e, ⊥ < L r e) (hne : ∀ r, E₁ r ≠ E₂ r) (h₂ : ∀ r, Best (drop (L r) (E₁ r)) (E₂ r))
  (hm : ∀ r, m₁ (ValueIdx.ix2 r 0) = L r (E₁ r)) (hi : ∀ r, i₁ (ValueIdx.ix2 r 0) = num (E₁ r).val)
  (hT : ∀ r s : Fin 128, T (ValueIdx.ix2 r s) = if s < r then (1 : EReal) else 0)
include hM hL hne h₂

theorem best_masked (r : Fin 128) : Best (lanes (drop (L r) (E₁ r))) (lane (E₂ r)) :=
  best_lanes (h₂ r) (lt_of_lt_of_eq (hL r (E₂ r)) (if_neg fun h => hne r h.symm).symm)
theorem masked_second (r : Fin 128) : lanes (drop (L r) (E₁ r)) (lane (E₂ r)) = L r (E₂ r) :=
  (lanes_lane _ _).trans (if_neg fun h => hne r h.symm)

theorem next (r : Fin 128) : k0_pay7 (F := Ideal) M (ValueIdx.ix2 r 0) = L r (E₂ r) := by
  unfold k0_pay7
  pointwise
  rw [bits_bot]
  refine (congrArg (fun f => Finset.fold max ⊥ f Finset.univ) (funext fun l => hM r l)).trans ?_
  exact (fold_max_best (best_masked L E₁ E₂ M hM hL hne h₂ r)).trans (masked_second L E₁ E₂ M hM hL hne h₂ r)

include hu
theorem second (r : Fin 128) : k0_pay8 (F := Ideal) u M (ValueIdx.ix2 r 0) = num (E₂ r).val := by
  have hn := next L E₁ E₂ M hM hL hne h₂ r
  unfold k0_pay8
  pointwise
  rw [bits_top, bits_lanes]
  refine Eq.trans (congrArg (fun f => Finset.fold min ⊤ f Finset.univ) (funext fun l => ?_)) (fold_min_best (best_masked L E₁ E₂ M hM hL hne h₂ r))
  exact if_congr (Eq.congr (hM r l) (hn.trans (masked_second L E₁ E₂ M hM hL hne h₂ r).symm)) (hu r l) rfl

include hm in
omit hu in
theorem gate_first (r : Fin 128) : k0_pay10 (F := Ideal) m₁ M (ValueIdx.ix2 r 0) = Ideal.div 1 (1 + Ideal.exp (L r (E₂ r) - L r (E₁ r))) := by
  have hn := next L E₁ E₂ M hM hL hne h₂ r
  unfold k0_pay10 k0_pay9
  pointwise
  exact congrArg₂ (fun a b : EReal => Ideal.div 1 (1 + Ideal.exp (a - b))) hn (hm r)
include hm in
omit hu in
theorem gate_second (r : Fin 128) : k0_pay11 (F := Ideal) m₁ M (ValueIdx.ix2 r 0) = Ideal.div (Ideal.exp (L r (E₂ r) - L r (E₁ r))) (1 + Ideal.exp (L r (E₂ r) - L r (E₁ r))) := by
  have hn := next L E₁ E₂ M hM hL hne h₂ r
  unfold k0_pay11 k0_pay9
  pointwise
  exact congrArg₂ (fun a b : EReal => Ideal.div (Ideal.exp (a - b)) (1 + Ideal.exp (a - b))) hn (hm r)

/-- 1 on the lanes of a row's two entries. -/
def mark (r l : Fin 128) : EReal := if l = lane (E₁ r) ∨ l = lane (E₂ r) then 1 else 0

include hi in
theorem chosen (r l : Fin 128) : k0_pay12 (F := Ideal) u i₁ M (ValueIdx.ix2 r l) = mark E₁ E₂ r l := by
  have hs := second L E₁ E₂ u M hM hu hL hne h₂ r
  unfold k0_pay12
  pointwise
  refine (select_or _ _).trans (if_congr (or_congr ?_ ?_) rfl rfl)
  · exact (Eq.congr (hu r l) (hi r)).trans (num_lane l _)
  · exact (Eq.congr (hu r l) hs).trans (num_lane l _)

/-- How many rows before `r` have a lane among their two, on top of `C`. -/
def earlier (r l : Fin 128) : EReal := C (ValueIdx.ix2 0 l) + ∑ s : Fin 128, if s < r then mark E₁ E₂ s l else 0

include hi hT in
theorem before (r l : Fin 128) : k0_pay13 (F := Ideal) u i₁ M T C (ValueIdx.ix2 r l) = earlier C E₁ E₂ r l := by
  unfold k0_pay13
  pointwise
  refine (add_comm _ _).trans (congrArg₂ (α := EReal) (β := EReal) (· + ·) rfl (Finset.sum_congr rfl fun s _ => ?_))
  refine (congrArg₂ (α := EReal) (β := EReal) (· * ·) (hT r s) (chosen L E₁ E₂ u M i₁ hM hu hL hne h₂ hi s l)).trans ?_
  by_cases h : s < r
  · rw [if_pos h, if_pos h, one_mul]
  · rw [if_neg h, if_neg h, zero_mul]

omit hM hu hL hne h₂ in
theorem earlier_lane (r : Fin 128) (e : Fin 8) : earlier C E₁ E₂ r (lane e) = rankOf E₁ E₂ (fun l => C (ValueIdx.ix2 0 l)) r e := by
  unfold earlier rankOf mark hit
  simp only [lane_inj]

omit hM hu hL hne h₂ in
theorem sum_lane (e : Fin 8) (f : Fin 128 → EReal) : (∑ l : Fin 128, if num l.val = num e.val then f l else 0) = f (lane e) := by
  rw [Finset.sum_eq_single (lane e)]
  · exact if_pos rfl
  · intro l _ hl
    exact if_neg fun h => hl (Fin.ext (num_inj.mp h))
  · intro h
    exact absurd (Finset.mem_univ _) h

include hi hT in
theorem rank_first (r : Fin 128) : k0_pay14 (F := Ideal) u i₁ M T C (ValueIdx.ix2 r 0) = rankOf E₁ E₂ (fun l => C (ValueIdx.ix2 0 l)) r (E₁ r) := by
  unfold k0_pay14
  pointwise
  refine (Finset.sum_congr rfl fun l _ => ?_).trans ((sum_lane (E₁ r) (earlier C E₁ E₂ r)).trans (earlier_lane C E₁ E₂ r _))
  exact if_congr (Eq.congr (hu r l) (hi r)) (before T C L E₁ E₂ u M i₁ hM hu hL hne h₂ hi hT r l) rfl
include hi hT in
theorem rank_second (r : Fin 128) : k0_pay15 (F := Ideal) u i₁ M T C (ValueIdx.ix1 r) = rankOf E₁ E₂ (fun l => C (ValueIdx.ix2 0 l)) r (E₂ r) := by
  have hs := second L E₁ E₂ u M hM hu hL hne h₂ r
  unfold k0_pay15
  pointwise
  refine (Finset.sum_congr rfl fun l _ => ?_).trans ((sum_lane (E₂ r) (earlier C E₁ E₂ r)).trans (earlier_lane C E₁ E₂ r _))
  exact if_congr (Eq.congr (hu r l) hs) (before T C L E₁ E₂ u M i₁ hM hu hL hne h₂ hi hT r l) rfl

omit hM hL hne h₂ in
theorem columns (i₂ g₁ g₂ n₁ : FVec Ideal S128x1 .f32) (n₂ : FVec Ideal S128 .f32) (r l : Fin 128) :
    k0_pay17 (F := Ideal) u i₁ i₂ g₁ g₂ n₁ n₂ (ValueIdx.ix2 r l)
      = if l.val = 0 then i₁ (ValueIdx.ix2 r 0) else if l.val = 1 then i₂ (ValueIdx.ix2 r 0) else if l.val = 2 then g₁ (ValueIdx.ix2 r 0) else if l.val = 3 then g₂ (ValueIdx.ix2 r 0)
        else if l.val = 4 then n₁ (ValueIdx.ix2 r 0) else if l.val = 5 then n₂ (ValueIdx.ix1 r) else 0 := by
  unfold k0_pay17
  pointwise
  have hk : ∀ k : ℕ, u (ValueIdx.ix2 r l) = num k ↔ l.val = k := fun k => (Eq.congr (hu r l) rfl).trans num_inj
  have h0 : u (ValueIdx.ix2 r l) = 0 ↔ l.val = 0 := by rw [← num_zero]; exact hk 0
  have h1 : u (ValueIdx.ix2 r l) = 1 ↔ l.val = 1 := by rw [← num_one]; exact hk 1
  simp only [bits_five, bits_four, bits_three, bits_two, hk, h0, h1]
  split_ifs <;> first | rfl | omega

include hi in
theorem totals (l : Fin 128) : k0_pay16 (F := Ideal) (k0_pay12 u i₁ M) C (ValueIdx.ix2 0 l) = countOf E₁ E₂ (fun l => C (ValueIdx.ix2 0 l)) l := by
  unfold k0_pay16 countOf
  pointwise
  refine congrArg₂ (α := EReal) (β := EReal) (· + ·) rfl ?_
  by_cases h : l.val < 8
  · rw [dif_pos h]
    refine Finset.sum_congr rfl fun s _ => ?_
    refine (chosen L E₁ E₂ u M i₁ hM hu hL hne h₂ hi s l).trans ?_
    exact if_congr (or_congr (lane_inj (a := ⟨l.val, h⟩)) (lane_inj (a := ⟨l.val, h⟩))) rfl rfl
  · rw [dif_neg h]
    refine Finset.sum_eq_zero fun s _ => ?_
    refine (chosen L E₁ E₂ u M i₁ hM hu hL hne h₂ hi s l).trans (if_neg fun a => h ?_)
    rcases a with a | a
    · rw [show l = lane (E₁ s) from a]; exact (E₁ s).isLt
    · rw [show l = lane (E₂ s) from a]; exact (E₂ s).isLt
end Masked

end Body

/-! ## The arrays that the host code prepares -/

section Arrays
variable (m : (ℓ : Loc nD τ sig) → Buf (Elt Ideal) ℓ) (c : Dev nD)

/-- The arguments at their own types. -/
abbrev argX : Vec Ideal S128x1024 .f32 := m ((c : Thread nD τ).loc main_arg0)
abbrev argW : Vec Ideal S1024x8 .f32 := m ((c : Thread nD τ).loc main_arg1)
abbrev argB : Vec Ideal S8 .f32 := m ((c : Thread nD τ).loc main_arg2)
abbrev argC : Vec Ideal S1x128 .f32 := m ((c : Thread nD τ).loc main_arg3)

/-- The matrix and the bias on 128 lanes, what rounding leaves of the matrix, and the order of the rows. -/
def wide (w : Vec Ideal S1024x8 .f32) : Vec Ideal S1024x128 .f32 := pad S1024x128 ![0, 0] ![0, 120] ![0, 0] w (sitofp (F := Ideal) .f32 (constantI S_ 32 0#32)) pads_S1024x8_S1024x128_000_01200 h_S_
def wideB (b : Vec Ideal S8 .f32) : Vec Ideal S1x128 .f32 := broadcastInDim S1x128 ![1] bcast_S128_S1x128_1 (pad S128 ![0] ![120] ![0] b (sitofp (F := Ideal) .f32 (constantI S_ 32 0#32)) pads_S8_S128_01200 h_S_)
def high (w : Vec Ideal S1024x8 .f32) : Vec Ideal S1024x128 .bf16 := truncf (F := Ideal) .bf16 (wide w : FVec Ideal S1024x128 .f32) bitsLt_bf16_f32
def low (w : Vec Ideal S1024x8 .f32) : Vec Ideal S1024x128 .bf16 := truncf (F := Ideal) .bf16 (subf (wide w : FVec Ideal S1024x128 .f32) (extf .f32 (high w : FVec Ideal S1024x128 .bf16) bitsLt_bf16_f32)) bitsLt_bf16_f32
def order : Vec Ideal S128x128 .bf16 := uitofp (F := Ideal) .bf16 (cmpi .sgt (broadcastInDim S128x128 ![0, 1] bcast_S128x1_S128x128_0_1 (broadcastInDim S128x1 ![0] bcast_S128_S128x1_0 (iotaInDim S128 32 0))) (broadcastInDim S128x128 ![0, 1] bcast_S1x128_S128x128_0_1 (broadcastInDim S1x128 ![1] bcast_S128_S1x128_1 (iotaInDim S128 32 0))))

theorem V_x : V m c main_arg0 = argX m c := by
  show StableHlo.after (List.flatten [hostOps0, hostOps0_1, hostOps0_2, hostOps0_3, hostOps0_4]) (fun b => m (c, b)) (Proc.devRef .tc main_arg0) = _
  simp only [hostOps0, hostOps0_1, hostOps0_2, hostOps0_3, hostOps0_4, List.flatten_cons, List.flatten_nil, List.append_nil, List.cons_append, List.nil_append]
  after_reads_simp
theorem V_c : V m c main_arg3 = argC m c := by
  show StableHlo.after (List.flatten [hostOps0, hostOps0_1, hostOps0_2, hostOps0_3, hostOps0_4]) (fun b => m (c, b)) (Proc.devRef .tc main_arg3) = _
  simp only [hostOps0, hostOps0_1, hostOps0_2, hostOps0_3, hostOps0_4, List.flatten_cons, List.flatten_nil, List.append_nil, List.cons_append, List.nil_append]
  after_reads_simp
theorem V_high : V m c main_v1 = high (argW m c) := by
  show StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append]
  after_reads_simp
  rfl
theorem V_low : V m c main_v4 = low (argW m c) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_reads_simp
  rfl
theorem V_bias : V m c main_v6 = wideB (argB m c) := by
  show StableHlo.after (List.flatten [hostOps0, hostOps0_1, hostOps0_2, hostOps0_3, hostOps0_4]) (fun b => m (c, b)) (Proc.devRef .tc main_v6) = _
  simp only [hostOps0, hostOps0_1, hostOps0_2, hostOps0_3, hostOps0_4, List.flatten_cons, List.flatten_nil, List.append_nil, List.cons_append, List.nil_append]
  after_reads_simp
  rfl
theorem V_order : V m c main_v14 = order := by
  show StableHlo.after (List.flatten [hostOps0, hostOps0_1, hostOps0_2, hostOps0_3, hostOps0_4]) (fun b => m (c, b)) (Proc.devRef .tc main_v14) = _
  simp only [hostOps0, hostOps0_1, hostOps0_2, hostOps0_3, hostOps0_4, List.flatten_cons, List.flatten_nil, List.append_nil, List.cons_append, List.nil_append]
  after_reads_simp
  rfl

theorem high_apply (w : Vec Ideal S1024x8 .f32) (k : Fin 1024) (e : Fin 8) : high w (ValueIdx.ix2 k (lane e)) = w (ValueIdx.ix2 k e) := by
  unfold high wide
  pointwise
  exact dif_pos e.isLt
theorem low_apply (w : Vec Ideal S1024x8 .f32) (k : Fin 1024) (e : Fin 8) : low w (ValueIdx.ix2 k (lane e)) = w (ValueIdx.ix2 k e) - w (ValueIdx.ix2 k e) := by
  unfold low high wide
  pointwise
  exact congrArg₂ (α := EReal) (β := EReal) (· - ·) (dif_pos e.isLt) (dif_pos e.isLt)
theorem bias_apply (b : Vec Ideal S8 .f32) (e : Fin 8) : wideB b (ValueIdx.ix2 0 (lane e)) = b (ValueIdx.ix1 e) := by
  unfold wideB
  pointwise
  exact dif_pos e.isLt
theorem order_apply (r s : Fin 128) : order (ValueIdx.ix2 r s) = if s < r then (1 : EReal) else 0 := by
  unfold order
  pointwise
  show FloatOps.uitofp .bf16 (BitVec.ofBool ((BitVec.ofNat 32 s.val).slt (BitVec.ofNat 32 r.val))) = _
  rw [word_lt]
  exact uitofp_bool _ _

/-- A row's eight scores. -/
def score (x : Vec Ideal S128x1024 .f32) (w : Vec Ideal S1024x8 .f32) (b : Vec Ideal S8 .f32) (r : Fin 128) (e : Fin 8) : EReal :=
  (∑ k, x (ValueIdx.ix2 r k) * w (ValueIdx.ix2 k e)) + b (ValueIdx.ix1 e)

theorem scores_apply (x : Vec Ideal S128x1024 .f32) (w : Vec Ideal S1024x8 .f32) (b : Vec Ideal S8 .f32)
    (hx : ∀ i, IsReal (x i)) (hw : ∀ i, IsReal (w i)) (r l : Fin 128) :
    k0_pay3 (F := Ideal) x (high w) (low w) (wideB b) (ValueIdx.ix2 r l) = lanes (score x w b r) l := by
  have hn := numbers r l
  unfold k0_pay3
  pointwise
  rw [bits_bot, bits_eight]
  by_cases hl : l.val < 8
  · refine (if_pos (lt_of_eq_of_lt hn (num_lt.mpr hl))).trans (Eq.trans ?_ (dif_pos hl).symm)
    obtain ⟨e, rfl⟩ : ∃ e : Fin 8, l = lane e := ⟨⟨l.val, hl⟩, rfl⟩
    have h1 : (∑ k : Fin 1024, x (ValueIdx.ix2 r k) * high w (ValueIdx.ix2 k (lane e)) : EReal) = ∑ k, x (ValueIdx.ix2 r k) * w (ValueIdx.ix2 k e) :=
      Finset.sum_congr rfl fun k _ => congrArg (x (ValueIdx.ix2 r k) * ·) (high_apply w k e)
    have h2 : (∑ k : Fin 1024, (x (ValueIdx.ix2 r k) - x (ValueIdx.ix2 r k)) * high w (ValueIdx.ix2 k (lane e)) : EReal) = 0 :=
      Finset.sum_eq_zero fun k _ => by rw [(hx _).sub_self]; exact zero_mul _
    have h3 : (∑ k : Fin 1024, x (ValueIdx.ix2 r k) * low w (ValueIdx.ix2 k (lane e)) : EReal) = 0 :=
      Finset.sum_eq_zero fun k _ => by rw [low_apply, (hw _).sub_self]; exact mul_zero _
    refine (congrArg₂ (α := EReal) (β := EReal) (· + ·) (congrArg₂ (α := EReal) (β := EReal) (· + ·) h1 (congrArg₂ (α := EReal) (β := EReal) (· + ·) h2 h3)) (bias_apply b e)).trans ?_
    show (∑ k, x (ValueIdx.ix2 r k) * w (ValueIdx.ix2 k e)) + (0 + 0) + b (ValueIdx.ix1 e) = score x w b r e
    rw [add_zero, add_zero]
    rfl
  · exact (if_neg fun h => hl (num_lt.mp (lt_of_eq_of_lt hn.symm h))).trans (show lanes (score x w b r) l = ⊥ from dif_neg hl).symm

/-! ## The input blocks -/

theorem in_idx (t : Fin grid0.N) : cc0_transform_0 (grid0.coords t) = ![0, 0] ∧ cc0_transform_1 (grid0.coords t) = ![0, 0] ∧ cc0_transform_2 (grid0.coords t) = ![0, 0] ∧ cc0_transform_3 (grid0.coords t) = ![0, 0] ∧ cc0_transform_4 (grid0.coords t) = ![0, 0] ∧ cc0_transform_5 (grid0.coords t) = ![0, 0] := by
  revert t; decide +kernel
theorem out_idx (t : Fin grid0.N) : cc0_transform_6 (grid0.coords t) = ![0, 0] ∧ cc0_transform_7 (grid0.coords t) = ![0, 0] := by
  revert t; decide +kernel

/-- A block at the origin is placed at its own index. -/
theorem place2 {x y : ℕ} (f : Fin 2 → ℕ) (hf : f = ![0, 0]) (j : Shape.Idx ⟨2, ![x, y]⟩) (a : Fin 2) : f a * (![x, y] : Fin 2 → ℕ) a + 1 * (j a).val = (j a).val := by
  rw [hf]
  match a with
  | ⟨0, _⟩ => show 0 * x + 1 * (j 0).val = (j 0).val; omega
  | ⟨1, _⟩ => show 0 * y + 1 * (j 1).val = (j 1).val; omega

theorem blk_x (t : Fin cfg0.N) : (iblk m c 0 t : Vec Ideal S128x1024 .f32) = argX m c :=
  (funext fun j => congrArg (V m c main_arg0) (funext fun a => Fin.ext (place2 _ (in_idx t).1 j a))).trans (V_x m c)
theorem blk_high (t : Fin cfg0.N) : (iblk m c 1 t : Vec Ideal S1024x128 .bf16) = high (argW m c) :=
  (funext fun j => congrArg (V m c main_v1) (funext fun a => Fin.ext (place2 _ (in_idx t).2.1 j a))).trans (V_high m c)
theorem blk_low (t : Fin cfg0.N) : (iblk m c 2 t : Vec Ideal S1024x128 .bf16) = low (argW m c) :=
  (funext fun j => congrArg (V m c main_v4) (funext fun a => Fin.ext (place2 _ (in_idx t).2.2.1 j a))).trans (V_low m c)
theorem blk_bias (t : Fin cfg0.N) : (iblk m c 3 t : Vec Ideal S1x128 .f32) = wideB (argB m c) :=
  (funext fun j => congrArg (V m c main_v6) (funext fun a => Fin.ext (place2 _ (in_idx t).2.2.2.1 j a))).trans (V_bias m c)
theorem blk_c (t : Fin cfg0.N) : (iblk m c 4 t : Vec Ideal S1x128 .f32) = argC m c :=
  (funext fun j => congrArg (V m c main_arg3) (funext fun a => Fin.ext (place2 _ (in_idx t).2.2.2.2.1 j a))).trans (V_c m c)
theorem blk_order (t : Fin cfg0.N) : (iblk m c 5 t : Vec Ideal S128x128 .bf16) = order :=
  (funext fun j => congrArg (V m c main_v14) (funext fun a => Fin.ext (place2 _ (in_idx t).2.2.2.2.2 j a))).trans (V_order m c)

/-! ## The results -/

section Results
variable (hx : ∀ i, IsReal (argX m c i)) (hw : ∀ i, IsReal (argW m c i)) (hb : ∀ i, IsReal (argB m c i))

/-- A row's scores, its two greatest, and the counts so far. -/
abbrev S (r : Fin 128) : Fin 8 → EReal := score (argX m c) (argW m c) (argB m c) r
abbrev E₁ (r : Fin 128) : Fin 8 := sorted (S m c r) 0
abbrev E₂ (r : Fin 128) : Fin 8 := sorted (S m c r) 1
abbrev C₀ (l : Fin 128) : EReal := argC m c (ValueIdx.ix2 0 l)

theorem load_c : k0_pay1 (F := Ideal) (argC m c) = argC m c := by
  unfold k0_pay1
  exact shapeCast_self _ _

include hx hw hb
theorem score_real (r : Fin 128) (e : Fin 8) : ⊥ < S m c r e :=
  ((IsReal.sum _ _ fun k => (hx _).mul (hw _)).add (hb _)).bot_lt
theorem two_differ (r : Fin 128) : E₁ m c r ≠ E₂ m c r :=
  fun h => absurd (sortedFrom_injective (fun x y : Fin 8 => decide (S m c r y < S m c r x)) h) (by decide)

theorem slab_at (t : Fin cfg0.N) (r l : Fin 128) : (outsAt0 m c t).1 (ValueIdx.ix2 r l) = slabOf (E₁ m c) (E₂ m c) (C₀ m c) (S m c r (E₁ m c r)) (S m c r (E₂ m c r)) r l := by
  refine (congrFun (g := k0_pay17 k0_pay2 (k0_pay5 (iblk m c 0 t) (iblk m c 1 t) (iblk m c 2 t) (iblk m c 3 t))
      (k0_pay8 k0_pay2 (k0_pay6 (iblk m c 0 t) (iblk m c 1 t) (iblk m c 2 t) (iblk m c 3 t)))
      (k0_pay10 (k0_pay4 (iblk m c 0 t) (iblk m c 1 t) (iblk m c 2 t) (iblk m c 3 t))
        (k0_pay6 (iblk m c 0 t) (iblk m c 1 t) (iblk m c 2 t) (iblk m c 3 t)))
      (k0_pay11 (k0_pay4 (iblk m c 0 t) (iblk m c 1 t) (iblk m c 2 t) (iblk m c 3 t))
        (k0_pay6 (iblk m c 0 t) (iblk m c 1 t) (iblk m c 2 t) (iblk m c 3 t)))
      (k0_pay14 k0_pay2 (k0_pay5 (iblk m c 0 t) (iblk m c 1 t) (iblk m c 2 t) (iblk m c 3 t))
        (k0_pay6 (iblk m c 0 t) (iblk m c 1 t) (iblk m c 2 t) (iblk m c 3 t)) (iblk m c 5 t) (k0_pay1 (iblk m c 4 t)))
      (k0_pay15 k0_pay2 (k0_pay5 (iblk m c 0 t) (iblk m c 1 t) (iblk m c 2 t) (iblk m c 3 t))
        (k0_pay6 (iblk m c 0 t) (iblk m c 1 t) (iblk m c 2 t) (iblk m c 3 t)) (iblk m c 5 t) (k0_pay1 (iblk m c 4 t)))) ?_ (ValueIdx.ix2 r l)).trans ?_
  · unfold outsAt0
    dsimp only
    frame_out
  rw [blk_x m c t, blk_high m c t, blk_low m c t, blk_bias m c t, blk_c m c t, blk_order m c t, load_c]
  have hL := score_real m c hx hw hb
  have hS := scores_apply (argX m c) (argW m c) (argB m c) hx hw
  have h₁ : ∀ r, Best (S m c r) (E₁ m c r) := fun r => sorted_zero _
  have h₂ : ∀ r, Best (drop (S m c r) (E₁ m c r)) (E₂ m c r) := fun r => sorted_one _ (hL r)
  have hne := two_differ m c hx hw hb
  have hm := greatest _ _ _ _ (S m c) (E₁ m c) hS hL h₁
  have hi := first _ _ _ _ (S m c) (E₁ m c) hS hL h₁
  have hM := masked _ _ _ _ (S m c) (E₁ m c) hS hL h₁
  refine (columns (k0_pay2 (F := Ideal)) _ numbers _ _ _ _ _ r l).trans ?_
  unfold slabOf
  rw [hi r, second (S m c) (E₁ m c) (E₂ m c) _ _ hM numbers hL hne h₂ r,
    gate_first (S m c) (E₁ m c) (E₂ m c) _ _ hM hL hne h₂ hm r, gate_second (S m c) (E₁ m c) (E₂ m c) _ _ hM hL hne h₂ hm r,
    rank_first order (argC m c) (S m c) (E₁ m c) (E₂ m c) _ _ _ hM numbers hL hne h₂ hi order_apply r,
    rank_second order (argC m c) (S m c) (E₁ m c) (E₂ m c) _ _ _ hM numbers hL hne h₂ hi order_apply r]

theorem counts_at (t : Fin cfg0.N) (l : Fin 128) : (outsAt0 m c t).2 (ValueIdx.ix2 0 l) = countOf (E₁ m c) (E₂ m c) (C₀ m c) l := by
  refine (congrFun (g := k0_pay16
      (k0_pay12 k0_pay2 (k0_pay5 (iblk m c 0 t) (iblk m c 1 t) (iblk m c 2 t) (iblk m c 3 t))
        (k0_pay6 (iblk m c 0 t) (iblk m c 1 t) (iblk m c 2 t) (iblk m c 3 t)))
      (k0_pay1 (iblk m c 4 t))) ?_ (ValueIdx.ix2 0 l)).trans ?_
  · unfold outsAt0
    dsimp only
    frame_out
  rw [blk_x m c t, blk_high m c t, blk_low m c t, blk_bias m c t, blk_c m c t, load_c]
  have hL := score_real m c hx hw hb
  have hS := scores_apply (argX m c) (argW m c) (argB m c) hx hw
  have h₁ : ∀ r, Best (S m c r) (E₁ m c r) := fun r => sorted_zero _
  have h₂ : ∀ r, Best (drop (S m c r) (E₁ m c r)) (E₂ m c r) := fun r => sorted_one _ (hL r)
  exact totals (argC m c) (S m c) (E₁ m c) (E₂ m c) _ _ _ (masked _ _ _ _ (S m c) (E₁ m c) hS hL h₁) numbers hL (two_differ m c hx hw hb) h₂ (first _ _ _ _ (S m c) (E₁ m c) hS hL h₁) l

/-- The grid's only point. -/
def pt : Fin cfg0.N := ⟨0, by decide⟩

theorem res_slab (r l : Fin 128) : ((dats m 0 c).arrAt 6 cfg0.N : Vec Ideal S128x128 .f32) (ValueIdx.ix2 r l) = slabOf (E₁ m c) (E₂ m c) (C₀ m c) (S m c r (E₁ m c r)) (S m c r (E₂ m c r)) r l := by
  have e := congrFun ((Value.blocks6 m c pt (flush0_6 pt)).trans (Value.flushed6 m c pt)) (ValueIdx.ix2 r l : S128x128.Idx)
  exact (congrArg ((dats m 0 c).arrAt 6 cfg0.N) (funext fun a => Fin.ext (place2 _ (out_idx pt).1 (ValueIdx.ix2 r l : S128x128.Idx) a))).symm.trans (e.trans (slab_at m c hx hw hb pt r l))
theorem res_counts (l : Fin 128) : ((dats m 0 c).arrAt 7 cfg0.N : Vec Ideal S1x128 .f32) (ValueIdx.ix2 0 l) = countOf (E₁ m c) (E₂ m c) (C₀ m c) l := by
  have e := congrFun ((Value.blocks7 m c pt (flush0_7 pt)).trans (Value.flushed7 m c pt)) (ValueIdx.ix2 0 l : S1x128.Idx)
  exact (congrArg ((dats m 0 c).arrAt 7 cfg0.N) (funext fun a => Fin.ext (place2 _ (out_idx pt).2 (ValueIdx.ix2 0 l : S1x128.Idx) a))).symm.trans (e.trans (counts_at m c hx hw hb pt l))

end Results

end Arrays

end Cert.Kernel6Ideal.Router

end
-- ==== Proof.Router.Reference.lean ====
/- The router: what the reference's two results hold at an index. -/
module

public import proofs.«01_k».proof.Proof.Router.Pick
public import proofs.«01_k».proof.Proof.Gen.Reference6Ideal.Run
public import Idealize.ShloMosaic.Lib.Pointwise

@[expose] public section

set_option maxRecDepth 16384

noncomputable section

namespace Cert.Reference6Ideal.Router

open Cert.Reference6Ideal Cert.Reference6Ideal.Gen Cert.Router
open Idealize.ShloMosaic Idealize.ShloMosaic.TcCoe Idealize.SL.Sem

/-! ## The terms -/

section Terms
variable (TV : FVec Ideal S128x2 .f32) (TI : IVec S128x2 32) (C0 : FVec Ideal S1x128 .f32)

def hot : FVec Ideal S128x2x8 .f32 := uitofp .f32 (cmpi .eq (broadcastInDim S128x2x8 ![0, 1, 2] bcast_S128x2x1_S128x2x8_0_1_2 (broadcastInDim S128x2x1 ![0, 1] bcast_S128x2_S128x2x1_0_1 TI)) (broadcastInDim S128x2x8 ![0, 1, 2] bcast_S1x1x8_S128x2x8_0_1_2 (iotaInDim S1x1x8 32 2)))
def chosen (H : FVec Ideal S128x2x8 .f32) : FVec Ideal S128x8 .f32 := Host.reduceAdd H (constant S_ .f32 0x00000000#32) reducesTo_S128x2x8_S128x8_d1 h_S_
def before (K : FVec Ideal S128x8 .f32) : FVec Ideal S128x8 .f32 :=
  addf (broadcastInDim S128x8 ![0, 1] bcast_S1x8_S128x8_0_1 (extractStridedSlice S1x8 ![0, 0] C0 slices_S1x128_S1x8_0_0)) (Host.reduceAdd (select (broadcastInDim S128x128x8 ![0, 1, 2] bcast_S128x128x1_S128x128x8_0_1_2 (broadcastInDim S128x128x1 ![0, 1] bcast_S128x128_S128x128x1_0_1 (cmpi .slt (broadcastInDim S128x128 ![0, 1] bcast_S1x128_S128x128_0_1 (broadcastInDim S1x128 ![1] bcast_S128_S1x128_1 (iotaInDim S128 32 0))) (broadcastInDim S128x128 ![0, 1] bcast_S128x1_S128x128_0_1 (broadcastInDim S128x1 ![0] bcast_S128_S128x1_0 (iotaInDim S128 32 0)))))) (broadcastInDim S128x128x8 ![0, 1, 2] bcast_S1x128x8_S128x128x8_0_1_2 (broadcastInDim S1x128x8 ![1, 2] bcast_S128x8_S1x128x8_1_2 K)) (broadcastInDim S128x128x8 ![] bcast_S_S128x128x8 (sitofp .f32 (constantI S_ 32 0#32)))) (constant S_ .f32 0x00000000#32) reducesTo_S128x128x8_S128x8_d1 h_S_)
def ranks (H : FVec Ideal S128x2x8 .f32) (B : FVec Ideal S128x8 .f32) : FVec Ideal S128x2 .f32 :=
  Host.reduceAdd (mulf H (broadcastInDim S128x2x8 ![0, 1, 2] bcast_S128x1x8_S128x2x8_0_1_2 (broadcastInDim S128x1x8 ![0, 2] bcast_S128x8_S128x1x8_0_2 B))) (constant S_ .f32 0x00000000#32) reducesTo_S128x2x8_S128x2_d2 h_S_
def numer : FVec Ideal S128x2 .f32 := Host.exp (subf TV (broadcastInDim S128x2 ![0, 1] bcast_S128x1_S128x2_0_1 (broadcastInDim S128x1 ![0] bcast_S128_S128x1_0 (maximumf (broadcastInDim S128 ![] bcast_S_S128 (constant S_ .f32 0xFF800000#32)) (Host.reduce FloatOps.maximumf TV (constant S_ .f32 0xFF800000#32) reducesTo_S128x2_S128_d1 h_S_)))))
def gates (N : FVec Ideal S128x2 .f32) : FVec Ideal S128x2 .f32 := Host.divf N (broadcastInDim S128x2 ![0, 1] bcast_S128x1_S128x2_0_1 (broadcastInDim S128x1 ![0] bcast_S128_S128x1_0 (Host.reduceAdd N (constant S_ .f32 0x00000000#32) reducesTo_S128x2_S128_d1 h_S_)))
def slab (a b d : FVec Ideal S128x2 .f32) : FVec Ideal S128x128 .f32 :=
  pad S128x128 ![0, 0] ![0, 122] ![0, 0] ((concatenate S128x6 1 [⟨S128x2, (a : (⟨S128x2, .f32⟩ : BufTy).Contents (Elt Ideal))⟩, ⟨S128x2, (b : (⟨S128x2, .f32⟩ : BufTy).Contents (Elt Ideal))⟩, ⟨S128x2, (d : (⟨S128x2, .f32⟩ : BufTy).Contents (Elt Ideal))⟩] concatenates_S128x2_S128x2_S128x2_S128x6_d1 : (⟨S128x6, .f32⟩ : BufTy).Contents (Elt Ideal))) (sitofp .f32 (constantI S_ 32 0#32)) pads_S128x6_S128x128_000_01220 h_S_
def counts (K : FVec Ideal S128x8 .f32) : FVec Ideal S1x128 .f32 := addf C0 (broadcastInDim S1x128 ![1] bcast_S128_S1x128_1 (pad S128 ![0] ![120] ![0] (Host.reduceAdd K (constant S_ .f32 0x00000000#32) reducesTo_S128x8_S8_d0 h_S_) (sitofp .f32 (constantI S_ 32 0#32)) pads_S8_S128_01200 h_S_))
def logits (x : FVec Ideal S128x1024 .f32) (w : FVec Ideal S1024x8 .f32) (b : FVec Ideal S8 .f32) : FVec Ideal S128x8 .f32 :=
  addf (Host.dotGeneral dot_S128x1024_S1024x8_S128x8_1_0_0_1_n_n none x w) (broadcastInDim S128x8 ![0, 1] bcast_S1x8_S128x8_0_1 (broadcastInDim S1x8 ![1] bcast_S8_S1x8_1 b))
end Terms

/-! ## The two greatest -/

theorem along_row (j : S128x8.Idx) (k : Fin 8) : j.along (1 : Fin 2) k = ValueIdx.ix2 (j 0) k := by
  funext a
  match a with
  | ⟨0, _⟩ => rfl
  | ⟨1, _⟩ => rfl
theorem is_before (a b : EReal) : ((FloatOps.cmpfTotal (F := Ideal) (φ := .f32) .gt a b : BitVec 1) == 1#1) = decide (b < a) := by
  show (BitVec.ofBool (decide (b < a)) == 1#1) = decide (b < a)
  cases decide (b < a) <;> rfl

section TopK
variable (l : FVec Ideal S128x8 .f32)
theorem place_row (j : S128x8.Idx) :
    sortedFrom (fun k k' : Fin 8 => (FloatOps.cmpfTotal (F := Ideal) (φ := .f32) .gt (l (j.along (1 : Fin 2) k)) (l (j.along (1 : Fin 2) k')) : BitVec 1) == 1#1) (j 1) = sorted (fun e => l (ValueIdx.ix2 (j 0) e)) (j 1) := by
  unfold sorted
  refine congrFun (congrArg sortedFrom (funext fun k => funext fun k' => ?_)) (j 1)
  exact (is_before _ _).trans (congrArg₂ (fun a b : S128x8.Idx => decide (l b < l a)) (along_row j k) (along_row j k'))
theorem sort_apply (y : IVec S128x8 32) (j : S128x8.Idx) :
    (Host.sort2 S128x8 1 (fun a b : EReal × BitVec 32 => FloatOps.cmpfTotal (F := Ideal) (φ := .f32) .gt a.1 b.1) l y).1 j = l (ValueIdx.ix2 (j 0) (sorted (fun e => l (ValueIdx.ix2 (j 0) e)) (j 1)))
      ∧ (Host.sort2 S128x8 1 (fun a b : EReal × BitVec 32 => FloatOps.cmpfTotal (F := Ideal) (φ := .f32) .gt a.1 b.1) l y).2 j = y (ValueIdx.ix2 (j 0) (sorted (fun e => l (ValueIdx.ix2 (j 0) e)) (j 1))) := by
  unfold Host.sort2
  rw [dif_pos (by decide)]
  exact ⟨(congrArg (fun q => l (j.along (1 : Fin 2) q)) (place_row l j)).trans (congrArg l (along_row j _)),
    (congrArg (fun q => y (j.along (1 : Fin 2) q)) (place_row l j)).trans (congrArg y (along_row j _))⟩

/-- The positions in a row. -/
def positions : IVec S128x8 32 := fun i => if hd : 1 < S128x8.rank then iotaInDim S128x8 32 ⟨1, hd⟩ i else 0#32

/-- Where a row's greatest and second stand, as positions. -/
def top (r : Fin 128) (k : Fin 2) : Fin 8 := sorted (fun e => l (ValueIdx.ix2 r e)) ⟨k.val, by omega⟩

theorem top_value (r : Fin 128) (k : Fin 2) : (Host.topK S128x2 1 (FloatOps.cmpfTotal (F := Ideal) (φ := .f32) .gt) l sliceFits_S128x8_S128x2).1 (ValueIdx.ix2 r k) = l (ValueIdx.ix2 r (top l r k)) := by
  refine (sort_apply l positions _).1.trans (congrArg l ?_)
  exact congrArg₂ (fun (a : Fin 128) (b : Fin 8) => (ValueIdx.ix2 a (sorted (fun e => l (ValueIdx.ix2 a e)) b) : S128x8.Idx)) (Fin.ext (Nat.zero_add _)) (Fin.ext (Nat.zero_add _))
theorem top_index (r : Fin 128) (k : Fin 2) : (Host.topK S128x2 1 (FloatOps.cmpfTotal (F := Ideal) (φ := .f32) .gt) l sliceFits_S128x8_S128x2).2 (ValueIdx.ix2 r k) = BitVec.ofNat 32 (top l r k).val := by
  show (Host.sort2 S128x8 1 (fun a b : EReal × BitVec 32 => FloatOps.cmpfTotal (F := Ideal) (φ := .f32) .gt a.1 b.1) l positions).2 _ = _
  refine (sort_apply l positions _).2.trans ?_
  exact congrArg₂ (fun (a : Fin 128) (b : Fin 8) => BitVec.ofNat 32 (sorted (fun e => l (ValueIdx.ix2 a e)) b).val) (Fin.ext (Nat.zero_add _)) (Fin.ext (Nat.zero_add _))
end TopK

/-! ## The terms at an index -/

section Read
variable (TV : FVec Ideal S128x2 .f32) (TI : IVec S128x2 32) (C0 : FVec Ideal S1x128 .f32) (p : Fin 128 → Fin 2 → Fin 8)
  (hTI : ∀ r k, TI (ValueIdx.ix2 r k) = BitVec.ofNat 32 (p r k).val) (hne : ∀ r, p r 0 ≠ p r 1)

include hTI in
theorem hot_apply (r : Fin 128) (k : Fin 2) (e : Fin 8) : hot TI (ValueIdx.ix3 r k e) = if p r k = e then (1 : EReal) else 0 := by
  unfold hot
  pointwise
  have h : IntOp.cmpi .eq (TI (ValueIdx.ix2 r k)) (BitVec.ofNat 32 e.val) = BitVec.ofBool (decide (p r k = e)) := by
    rw [hTI]
    generalize p r k = q
    revert q e; decide
  exact (congrArg (FloatOps.uitofp (F := Ideal) .f32) h).trans (uitofp_bool _ _)

include hTI hne in
theorem chosen_apply (r : Fin 128) (e : Fin 8) : chosen (hot TI) (ValueIdx.ix2 r e) = hit (p r 0) (p r 1) e := by
  unfold chosen
  pointwise
  refine (Finset.sum_congr rfl fun k _ => hot_apply TI p hTI r k e).trans ?_
  rw [Fin.sum_univ_two]
  exact hit_sum (hne r) e

include hTI hne in
theorem before_apply (r : Fin 128) (e : Fin 8) : before C0 (chosen (hot TI)) (ValueIdx.ix2 r e) = rankOf (fun r => p r 0) (fun r => p r 1) (fun l => C0 (ValueIdx.ix2 0 l)) r e := by
  unfold before
  pointwise
  refine congrArg₂ (α := EReal) (β := EReal) (· + ·) rfl (Finset.sum_congr rfl fun s _ => ?_)
  have h : IntOp.cmpi .slt (BitVec.ofNat 32 s.val) (BitVec.ofNat 32 r.val) = BitVec.ofBool (decide (s < r)) := congrArg BitVec.ofBool (word_lt s r)
  have hz : (FloatOps.sitofp (F := Ideal) .f32 0#32 : EReal) = 0 := (num_sitofp (n := 0) (by decide)).trans num_zero
  refine (congrArg₂ (fun a b => Scalar.select a b _) h (chosen_apply TI p hTI hne s e)).trans ((congrArg (Scalar.select _ _) hz).trans ?_)
  by_cases hs : s < r <;> simp [hs, Scalar.select]

theorem ranks_apply (B : FVec Ideal S128x8 .f32) (r : Fin 128) (k : Fin 2) (hH : ∀ e, hot TI (ValueIdx.ix3 r k e) = if p r k = e then (1 : EReal) else 0) : ranks (hot TI) B (ValueIdx.ix2 r k) = B (ValueIdx.ix2 r (p r k)) := by
  unfold ranks
  pointwise
  refine Eq.trans (Finset.sum_congr rfl fun e _ => (congrArg (· * B (ValueIdx.ix2 r e)) (hH e)).trans (ite_mul _ _ _ _)) ?_
  rw [Finset.sum_eq_single (p r k)]
  · rw [if_pos rfl, one_mul]
  · intro e _ he
    rw [if_neg he.symm, zero_mul]
  · intro h
    exact absurd (Finset.mem_univ _) h

include hTI hne in
theorem counts_apply (l : Fin 128) : counts C0 (chosen (hot TI)) (ValueIdx.ix2 0 l) = countOf (fun r => p r 0) (fun r => p r 1) (fun l => C0 (ValueIdx.ix2 0 l)) l := by
  have hz : (FloatOps.sitofp (F := Ideal) .f32 0#32 : EReal) = 0 := (num_sitofp (n := 0) (by decide)).trans num_zero
  unfold counts countOf
  pointwise
  refine congrArg₂ (α := EReal) (β := EReal) (· + ·) rfl ?_
  show (if h : l.val < 8 then ∑ s, chosen (hot TI) (ValueIdx.ix2 s ⟨l.val, h⟩) else FloatOps.sitofp (F := Ideal) .f32 0#32) = _
  by_cases h : l.val < 8
  · rw [dif_pos h, dif_pos h]
    exact Finset.sum_congr rfl fun s _ => chosen_apply TI p hTI hne s ⟨l.val, h⟩
  · rw [dif_neg h, dif_neg h]
    exact hz

/-- The two gates, where the first of the two values is a number and is the greater. -/
theorem gates_apply (r : Fin 128) (h1 : IsReal (TV (ValueIdx.ix2 r 0))) (h2 : TV (ValueIdx.ix2 r 1) ≤ TV (ValueIdx.ix2 r 0)) :
    gates (numer TV) (ValueIdx.ix2 r 0) = Ideal.div 1 (1 + Ideal.exp (TV (ValueIdx.ix2 r 1) - TV (ValueIdx.ix2 r 0)))
      ∧ gates (numer TV) (ValueIdx.ix2 r 1) = Ideal.div (Ideal.exp (TV (ValueIdx.ix2 r 1) - TV (ValueIdx.ix2 r 0))) (1 + Ideal.exp (TV (ValueIdx.ix2 r 1) - TV (ValueIdx.ix2 r 0))) := by
  have hg : ∀ k, gates (numer TV) (ValueIdx.ix2 r k) = Ideal.div (numer TV (ValueIdx.ix2 r k)) (∑ j, numer TV (ValueIdx.ix2 r j)) := fun k => by
    unfold gates
    pointwise
    rfl
  have hm : ∀ k, numer TV (ValueIdx.ix2 r k) = Ideal.exp (TV (ValueIdx.ix2 r k) - TV (ValueIdx.ix2 r 0)) := fun k => by
    unfold numer
    pointwise
    rw [bits_bot]
    have hf : Finset.fold max ⊥ (fun j : Fin 2 => TV (ValueIdx.ix2 r j)) Finset.univ = TV (ValueIdx.ix2 r 0) :=
      le_antisymm (Finset.fold_max_le _ |>.mpr ⟨bot_le, fun j _ => by
        match j with
        | ⟨0, _⟩ => exact le_refl _
        | ⟨1, _⟩ => exact h2⟩) (Finset.le_fold_max _ |>.mpr (Or.inr ⟨0, Finset.mem_univ _, le_refl _⟩))
    exact congrArg (fun a => Ideal.exp (TV (ValueIdx.ix2 r k) - a)) ((max_eq_right bot_le).trans hf)
  have h0 : numer TV (ValueIdx.ix2 r 0) = 1 := by
    rw [hm, h1.sub_self, ← EReal.coe_zero, Ideal.exp_coe, Real.exp_zero, EReal.coe_one]
  rw [hg, hg, Fin.sum_univ_two, h0, hm 1]
  exact ⟨rfl, rfl⟩

theorem slab_apply (a b d : FVec Ideal S128x2 .f32) (r l : Fin 128) :
    slab a b d (ValueIdx.ix2 r l) = if l.val = 0 then a (ValueIdx.ix2 r 0) else if l.val = 1 then a (ValueIdx.ix2 r 1) else if l.val = 2 then b (ValueIdx.ix2 r 0) else if l.val = 3 then b (ValueIdx.ix2 r 1)
      else if l.val = 4 then d (ValueIdx.ix2 r 0) else if l.val = 5 then d (ValueIdx.ix2 r 1) else 0 := by
  have hz : (FloatOps.sitofp (F := Ideal) .f32 0#32 : EReal) = 0 := (num_sitofp (n := 0) (by decide)).trans num_zero
  unfold slab
  pointwise
  have e : ∀ (f : FVec Ideal S128x2 .f32) (k k' : Fin 2), k.val = k'.val → f (ValueIdx.ix2 r k) = f (ValueIdx.ix2 r k') := fun f k k' h => congrArg (fun q : Fin 2 => f (ValueIdx.ix2 r q)) (Fin.ext h)
  show (if h : l.val < 6 then if h1 : l.val < 2 then a (ValueIdx.ix2 r ⟨l.val, h1⟩) else if h2 : l.val - 2 < 2 then b (ValueIdx.ix2 r ⟨l.val - 2, h2⟩) else d (ValueIdx.ix2 r ⟨l.val - 2 - 2, by omega⟩)
    else FloatOps.sitofp (F := Ideal) .f32 0#32) = _
  split_ifs <;> first | omega | exact hz | exact e _ _ _ (by simp only [Fin.val_zero, Fin.val_one]; omega)

theorem logits_apply (x : FVec Ideal S128x1024 .f32) (w : FVec Ideal S1024x8 .f32) (b : FVec Ideal S8 .f32) (r : Fin 128) (e : Fin 8) :
    logits x w b (ValueIdx.ix2 r e) = (∑ k, x (ValueIdx.ix2 r k) * w (ValueIdx.ix2 k e)) + b (ValueIdx.ix1 e) := by
  unfold logits
  pointwise
  rfl
end Read

end Cert.Reference6Ideal.Router

end
-- ==== Proof.Router.Same.lean ====
/- The printed kernel and its idealization are one text: what is proved of one over any float values holds of the other. -/
module

public import proofs.«01_k».proof.Proof.Gen.Kernel6
public import proofs.«01_k».proof.Proof.Gen.Kernel6Ideal.Launch

@[expose] public section

set_option maxRecDepth 16384

noncomputable section

namespace Cert.Router

open Idealize.ShloMosaic Idealize.ShloMosaic.TcCoe Idealize.SL.Sem

variable {F : FTy → Type} [FloatOps F]
/-- The two programs' bodies, tables and host lines are the same text. -/
theorem bodies_eq : Cert.Kernel6.defs₀ (F := F) = Cert.Kernel6Ideal.defs₀ (F := F) := by
  unfold Cert.Kernel6.defs₀ Cert.Kernel6Ideal.defs₀
  refine congrArg (Defs.onTc (τ := Cert.Kernel6Ideal.τ)) ?_
  funext l a
  match l, a with
  | ⟨0, _⟩, (t, s) => rfl
set_option maxHeartbeats 2000000 in
theorem defs_eq : Cert.Kernel6.defs (F := F) = Cert.Kernel6Ideal.defs (F := F) := by
  unfold Cert.Kernel6.defs Cert.Kernel6Ideal.defs
  rw [bodies_eq]
  rfl
set_option maxHeartbeats 2000000 in
theorem main_eq : Cert.Kernel6.main (F := F) = Cert.Kernel6Ideal.main (F := F) := by
  funext c
  unfold Cert.Kernel6.main Cert.Kernel6Ideal.main
  rfl

end Cert.Router

end
-- ==== Proof.Router.Claims.lean ====
/- The claims about the router. -/
module

public import proofs.«01_k».proof.Defs
public import proofs.«01_k».proof.Proof.Router.Value
public import proofs.«01_k».proof.Proof.Router.Reference
public import proofs.«01_k».proof.Proof.Router.Same
public import Idealize.ShloMosaic.Lib.WordCmp

@[expose] public section

set_option maxRecDepth 16384

noncomputable section

namespace Cert.Router

open Idealize.ShloMosaic Idealize.ShloMosaic.TcCoe Idealize.SL.Sem

instance preFacts : Cert.Pre_finite_drawn.Facts := by
  constructor <;> decide

/-- The kernel's frame over the machine's floats: the same text, the same run. -/
theorem frame_kernel : Cert.quiescent_Kernel6 := by
  intro m ρ _
  have h := Cert.Kernel6Ideal.Gen.frame (F := Bits) m ρ
  rw [← defs_eq, ← main_eq] at h
  exact h
theorem frame_ideal : Cert.quiescent_Kernel6Ideal := fun m ρ _ => Cert.Kernel6Ideal.Gen.frame m ρ
theorem frame_ideal_pre : Cert.quiescent_Kernel6Ideal_pre_finite_drawn := fun m ρ _ => Cert.Kernel6Ideal.Gen.frame m ρ
theorem frame_ref : Cert.quiescent_Reference6Ideal := fun m ρ _ =>
  (θ_run Cert.Reference6Ideal.defs _ _).mono (fun r h => ⟨fun c => (h c).2.2, Idealize.ShloMosaic.sem_eq_zero_of_no_sems (by decide) r.2⟩) (Cert.Reference6Ideal.Value.run (F := Ideal) m ρ)
theorem frame_ref_pre : Cert.quiescent_Reference6Ideal_pre_finite_drawn := fun m ρ _ => frame_ref m ρ trivial

/-! ## The precondition -/

section Pre
variable (x : FVec Ideal Cert.Pre_finite_drawn.S128x1024 .f32) (w : FVec Ideal Cert.Pre_finite_drawn.S1024x8 .f32) (b : FVec Ideal Cert.Pre_finite_drawn.S8 .f32) (c : FVec Ideal Cert.Pre_finite_drawn.S1x128 .f32)
  (h : Cert.Pre_finite_drawn.fn (F := Ideal) x w b c = fun _ => 1#1)
include h
theorem finite_at (r : Fin 128) (k : Fin 1024) (e : Fin 8) : IsReal (x (ValueIdx.ix2 r k)) ∧ IsReal (w (ValueIdx.ix2 k e)) ∧ IsReal (b (ValueIdx.ix1 e)) := by
  have he := congrFun h (ValueIdx.ix3 r k e)
  unfold Cert.Pre_finite_drawn.fn at he
  have hs : ∀ a : EReal, BitVec.ofBool (decide (max a (-a) < Ideal.ofBits .f32 0x7F800000#32)) = 1#1 → IsReal a := by
    intro a ha
    rw [bits_top, WordCmp.ofBool_eq_one_iff, decide_eq_true_iff] at ha
    exact real_of_abs ha
  have he' : IntOp.andi (IntOp.andi (BitVec.ofBool (decide (max (x (ValueIdx.ix2 r k)) (-(x (ValueIdx.ix2 r k))) < Ideal.ofBits .f32 0x7F800000#32)))
      (BitVec.ofBool (decide (max (w (ValueIdx.ix2 k e)) (-(w (ValueIdx.ix2 k e))) < Ideal.ofBits .f32 0x7F800000#32))))
      (BitVec.ofBool (decide (max (b (ValueIdx.ix1 e)) (-(b (ValueIdx.ix1 e))) < Ideal.ofBits .f32 0x7F800000#32))) = 1#1 := by
    refine Eq.trans (Eq.symm ?_) he
    pointwise
    rfl
  have hb : ∀ u v : BitVec 1, IntOp.andi u v = 1#1 → u = 1#1 ∧ v = 1#1 := by decide
  obtain ⟨h12, h3⟩ := hb _ _ he'
  obtain ⟨h1, h2⟩ := hb _ _ h12
  exact ⟨hs _ h1, hs _ h2, hs _ h3⟩
theorem finite_x (i : Cert.Pre_finite_drawn.S128x1024.Idx) : IsReal (x i) :=
  (congrArg (fun j => IsReal (x j)) (ValueIdx.eq_ix2 i)).mpr (finite_at x w b c h (i 0) (i 1) 0).1
theorem finite_w (i : Cert.Pre_finite_drawn.S1024x8.Idx) : IsReal (w i) :=
  (congrArg (fun j => IsReal (w j)) (ValueIdx.eq_ix2 i)).mpr (finite_at x w b c h 0 (i 0) (i 1)).2.1
theorem finite_b (i : Cert.Pre_finite_drawn.S8.Idx) : IsReal (b i) :=
  (congrArg (fun j => IsReal (b j)) (ValueIdx.eq_ix1 i)).mpr (finite_at x w b c h 0 0 (i 0)).2.2
end Pre

/-! ## The reference's results -/

section Reference
open Cert.Reference6Ideal Cert.Reference6Ideal.Gen Cert.Reference6Ideal.Router
variable (x : FVec Ideal S128x1024 .f32) (w : FVec Ideal S1024x8 .f32) (b : FVec Ideal S8 .f32) (C0 : FVec Ideal S1x128 .f32)

/-- The reference's sorted scores, and where they stood. -/
abbrev topV : FVec Ideal S128x2 .f32 := (Host.topK S128x2 1 (FloatOps.cmpfTotal .gt) (logits x w b) sliceFits_S128x8_S128x2).1
abbrev topI : IVec S128x2 32 := (Host.topK S128x2 1 (FloatOps.cmpfTotal .gt) (logits x w b) sliceFits_S128x8_S128x2).2
/-- The reference's slab. -/
def slabTerm : FVec Ideal S128x128 .f32 := slab (sitofp .f32 (topI x w b)) (gates (numer (topV x w b))) (ranks (hot (topI x w b)) (before C0 (chosen (hot (topI x w b)))))

section Row
variable (s : Fin 128 → Fin 8 → EReal) (hs : ∀ r e, s r e = (∑ k, x (ValueIdx.ix2 r k) * w (ValueIdx.ix2 k e)) + b (ValueIdx.ix1 e)) (hr : ∀ r e, IsReal (s r e))
include hs
theorem row_eq (r : Fin 128) : (fun e => logits x w b (ValueIdx.ix2 r e)) = s r := funext fun e => (logits_apply x w b r e).trans (hs r e).symm
theorem topI_apply (r : Fin 128) (k : Fin 2) : topI x w b (ValueIdx.ix2 r k) = BitVec.ofNat 32 (sorted (s r) ⟨k.val, by omega⟩).val := by
  refine (top_index (logits x w b) r k).trans ?_
  unfold top
  rw [row_eq x w b s hs r]
theorem topV_apply (r : Fin 128) (k : Fin 2) : topV x w b (ValueIdx.ix2 r k) = s r (sorted (s r) ⟨k.val, by omega⟩) := by
  refine (top_value (logits x w b) r k).trans ?_
  unfold top
  rw [row_eq x w b s hs r]
  exact congrFun (row_eq x w b s hs r) _
omit hs in
theorem top_differ (r : Fin 128) : sorted (s r) 0 ≠ sorted (s r) 1 :=
  fun h => absurd (sortedFrom_injective (fun a b : Fin 8 => decide (s r b < s r a)) h) (by decide)

include hr in
theorem slab_value (r l : Fin 128) : slabTerm x w b C0 (ValueIdx.ix2 r l) = slabOf (fun r => sorted (s r) 0) (fun r => sorted (s r) 1) (fun l => C0 (ValueIdx.ix2 0 l)) (s r (sorted (s r) 0)) (s r (sorted (s r) 1)) r l := by
  have hI := topI_apply x w b s hs
  have hV := topV_apply x w b s hs
  have hH := hot_apply (topI x w b) (fun r k => sorted (s r) ⟨k.val, by omega⟩) hI
  have hB := before_apply (topI x w b) C0 (fun r k => sorted (s r) ⟨k.val, by omega⟩) hI (top_differ s)
  have hn : ∀ k : Fin 2, sitofp (F := Ideal) .f32 (topI x w b) (ValueIdx.ix2 r k) = num (sorted (s r) ⟨k.val, by omega⟩).val := fun k =>
    (congrArg (FloatOps.sitofp (F := Ideal) .f32) (hI r k)).trans (num_sitofp (by omega))
  obtain ⟨g1, g2⟩ := gates_apply (topV x w b) r (by rw [hV]; exact hr _ _) (by rw [hV, hV]; exact (sorted_zero (s r)).le _)
  have hk : ∀ k : Fin 2, ranks (hot (topI x w b)) (before C0 (chosen (hot (topI x w b)))) (ValueIdx.ix2 r k) = _ := fun k =>
    (ranks_apply (topI x w b) (fun r k => sorted (s r) ⟨k.val, by omega⟩) _ r k (hH r k)).trans (hB r _)
  unfold slabTerm
  refine (slab_apply _ _ _ r l).trans ?_
  unfold slabOf
  rw [hn 0, hn 1, g1, g2, hk 0, hk 1, hV r 0, hV r 1]
  rfl
theorem counts_value (l : Fin 128) : counts C0 (chosen (hot (topI x w b))) (ValueIdx.ix2 0 l) = countOf (fun r => sorted (s r) 0) (fun r => sorted (s r) 1) (fun l => C0 (ValueIdx.ix2 0 l)) l :=
  counts_apply (topI x w b) C0 (fun r k => sorted (s r) ⟨k.val, by omega⟩) (topI_apply x w b s hs) (top_differ s) l
end Row
end Reference

section
open Cert.Reference6Ideal Cert.Reference6Ideal.Gen Cert.Reference6Ideal.Router
variable (m : (ℓ : Loc nD τ sig) → Buf (Elt Ideal) ℓ)

theorem run_ref (ρ : Dev nD → PrngReg) :
    θ_run defs (onTc (τ := τ) (main (F := Ideal))) ⟨m, fun _ => 0, ρ⟩ fun r => ∀ c : Dev nD,
      (r.2.mem ((c.tc : Thread nD τ).loc main_v37) = slabTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v41) = counts (m ((c.tc : Thread nD τ).loc main_arg3)) (chosen (hot (topI (m ((c.tc : Thread nD τ).loc main_arg0)) (m ((c.tc : Thread nD τ).loc main_arg1)) (m ((c.tc : Thread nD τ).loc main_arg2))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨⟨(h c).1.trans ?_, (h c).2.1.trans ?_⟩, (h c).2.2⟩) (Cert.Reference6Ideal.Value.run (F := Ideal) m ρ)
  · unfold Cert.Reference6Ideal.Value.res_main_v37
    rfl
  · rfl
end

open Cert.Kernel6Ideal.Router in
theorem algebraic : Cert.algebraic_Kernel6Ideal_Reference6Ideal_pre_finite_drawn := by
  intro m g m' g' hpre hargs
  refine ⟨fun c => (Cert.Kernel6Ideal.Gen.dats m 0 c).arrAt 6 Cert.Kernel6Ideal.cfg0.N, fun c => (Cert.Kernel6Ideal.Gen.dats m 0 c).arrAt 7 Cert.Kernel6Ideal.cfg0.N, Cert.Kernel6Ideal.Value.run_blocks m g, ?_⟩
  refine (θ_run Cert.Reference6Ideal.defs _ _).mono (fun r h c => ?_) (run_ref m' g')
  obtain ⟨h0, h1, h2, h3⟩ := hargs c
  have hx := finite_x _ _ _ _ (hpre c)
  have hw := finite_w _ _ _ _ (hpre c)
  have hb := finite_b _ _ _ _ (hpre c)
  obtain ⟨⟨R0, R1⟩, A⟩ := h c
  rw [h0, h1, h2, h3] at R0
  rw [h0, h1, h2, h3] at R1
  refine ⟨funext fun i => ?_, funext fun i => ?_, A⟩
  · obtain ⟨r, l, rfl⟩ : ∃ (r : Fin 128) (l : Fin 128), i = ValueIdx.ix2 r l := ⟨i 0, i 1, ValueIdx.eq_ix2 i⟩
    refine (congrFun R0 _).trans (Eq.trans ?_ (res_slab m c hx hw hb r l).symm)
    exact slab_value (argX m c) (argW m c) (argB m c) (argC m c) (S m c) (fun _ _ => rfl) (fun r e => (IsReal.sum _ _ fun k => (hx _).mul (hw _)).add (hb _)) r l
  · obtain ⟨l, rfl⟩ : ∃ (l : Fin 128), i = ValueIdx.ix2 0 l := ⟨i 1, (ValueIdx.eq_ix2 i).trans (congrArg (fun a : Fin 1 => ValueIdx.ix2 a (i 1)) (Subsingleton.elim _ _))⟩
    refine (congrFun R1 _).trans (Eq.trans ?_ (res_counts m c hx hw hb l).symm)
    exact counts_value (argX m c) (argW m c) (argB m c) (argC m c) (S m c) (fun _ _ => rfl) l

end Cert.Router

end
-- ==== Proof.RouterPrompt.Sum.lean ====
/- Counting rows tile by tile. -/
module

public import proofs.«01_k».proof.Proof.Router.Pick

@[expose] public section

noncomputable section

namespace Cert.Router

theorem head_sum {N : ℕ} (f : Fin N → EReal) (F : ℕ → EReal) (hF : ∀ s : Fin N, F s.val = f s) (m : ℕ) (hm : m ≤ N) :
    (∑ s : Fin N, if s.val < m then f s else 0) = ∑ x ∈ Finset.range m, F x := by
  have h : ∀ s : Fin N, (if s.val < m then f s else 0) = (fun x : ℕ => if x < m then F x else 0) s.val := fun s => by
    show _ = if s.val < m then F s.val else 0
    rw [hF]
  rw [Finset.sum_congr rfl fun s _ => h s, Fin.sum_univ_eq_sum_range (fun x : ℕ => if x < m then F x else 0) N, ← Finset.sum_filter]
  refine Finset.sum_congr ?_ fun _ _ => rfl
  ext x
  rw [Finset.mem_filter, Finset.mem_range, Finset.mem_range]
  omega

/-- The rows before `a + k` are those before `a` and the first `k` of the tile at `a`. -/
theorem split_sum {N M : ℕ} (f : Fin N → EReal) (a k : ℕ) (hk : k ≤ M) (hN : a + M ≤ N) (row : Fin M → Fin N) (hr : ∀ q, (row q).val = a + q.val) :
    (∑ s : Fin N, if s.val < a + k then f s else 0) = (∑ s : Fin N, if s.val < a then f s else 0) + ∑ q : Fin M, if q.val < k then f (row q) else 0 := by
  have hF : ∀ s : Fin N, (fun x : ℕ => if h : x < N then f ⟨x, h⟩ else 0) s.val = f s := fun s => dif_pos s.isLt
  have hG : ∀ q : Fin M, (fun x : ℕ => if h : a + x < N then f ⟨a + x, h⟩ else 0) q.val = f (row q) := fun q =>
    (dif_pos (by have := q.isLt; omega)).trans (congrArg f (Fin.ext (hr q).symm))
  rw [head_sum f (fun x : ℕ => if h : x < N then f ⟨x, h⟩ else 0) hF _ (by omega), head_sum f (fun x : ℕ => if h : x < N then f ⟨x, h⟩ else 0) hF a (by omega),
    head_sum (fun q => f (row q)) (fun x : ℕ => if h : a + x < N then f ⟨a + x, h⟩ else 0) hG k hk]
  exact Finset.sum_range_add _ a k

section Part
variable {N M : ℕ} (E₁ E₂ : Fin N → Fin 8) (c : Fin 128 → EReal)

/-- How many of the first `m` rows have chosen a lane's entry. -/
def part (m : ℕ) (l : Fin 128) : EReal := c l + if h : l.val < 8 then ∑ s : Fin N, (if s.val < m then hit (E₁ s) (E₂ s) ⟨l.val, h⟩ else 0) else 0

theorem part_zero (l : Fin 128) : part E₁ E₂ c 0 l = c l := by
  unfold part
  split
  · rw [Finset.sum_eq_zero fun s _ => if_neg (Nat.not_lt_zero _), add_zero]
  · exact add_zero _
theorem part_all (l : Fin 128) : part E₁ E₂ c N l = countOf E₁ E₂ c l := by
  unfold part countOf
  split
  · exact congrArg (c l + ·) (Finset.sum_congr rfl fun s _ => if_pos s.isLt)
  · rfl

variable (a : ℕ) (hN : a + M ≤ N) (row : Fin M → Fin N) (hr : ∀ q, (row q).val = a + q.val)
include hN hr

theorem part_next (l : Fin 128) : countOf (fun q => E₁ (row q)) (fun q => E₂ (row q)) (part E₁ E₂ c a) l = part E₁ E₂ c (a + M) l := by
  unfold countOf part
  by_cases h : l.val < 8
  · rw [dif_pos h, dif_pos h, dif_pos h, split_sum (fun s => hit (E₁ s) (E₂ s) ⟨l.val, h⟩) a M le_rfl hN row hr, add_assoc]
    exact congrArg (c l + ·) (congrArg (_ + ·) (Finset.sum_congr rfl fun q _ => (if_pos q.isLt).symm))
  · rw [dif_neg h, dif_neg h, dif_neg h, add_zero]
theorem part_rank (r : Fin M) (e : Fin 8) : rankOf (fun q => E₁ (row q)) (fun q => E₂ (row q)) (part E₁ E₂ c a) r e = rankOf E₁ E₂ c (row r) e := by
  unfold rankOf part
  have h : (lane e).val < 8 := e.isLt
  have hs := split_sum (fun s => hit (E₁ s) (E₂ s) e) a r.val (le_of_lt r.isLt) hN row hr
  rw [dif_pos h, add_assoc]
  refine congrArg (c (lane e) + ·) (hs.symm.trans (Finset.sum_congr rfl fun s _ => ?_))
  exact if_congr (by rw [Fin.lt_def, hr r]) rfl rfl
theorem part_slab (v₁ v₂ : EReal) (r : Fin M) (l : Fin 128) : slabOf (fun q => E₁ (row q)) (fun q => E₂ (row q)) (part E₁ E₂ c a) v₁ v₂ r l = slabOf E₁ E₂ c v₁ v₂ (row r) l := by
  unfold slabOf
  rw [part_rank E₁ E₂ c a hN row hr, part_rank E₁ E₂ c a hN row hr]

end Part

end Cert.Router

end
-- ==== Proof.RouterPrompt.Value.lean ====
/- The router: what the kernel's two results hold, for the prompt group's rows, at an index. -/
module

public import proofs.«01_k».proof.Proof.RouterPrompt.Sum
public import proofs.«01_k».proof.Proof.Gen.Kernel9Ideal.Value
public import Idealize.ShloMosaic.Lib.Pointwise
public import Idealize.ShloMosaic.Lib.Pipeline.Value
public import Idealize.ShloMosaic.Lib.Pipeline.ValueKit.Acc
public import Idealize.ShloMosaic.Lib.Pipeline.ValueKit.Basic
public import Idealize.ShloMosaic.Lib.StableHlo.RunRead

@[expose] public section

set_option maxRecDepth 16384

noncomputable section

namespace Cert.Kernel9Ideal.Router

open Cert.Kernel9Ideal Cert.Kernel9Ideal.Gen Cert.Router
open Idealize.ShloMosaic Idealize.ShloMosaic.TcCoe Idealize.SL.Sem
open Idealize.ShloMosaic.Pipeline (Dat Cfg Window)

/-! ## The body -/

section Body

theorem numbers (r : Fin 512) (l : Fin 128) : (k0_pay2 (F := Ideal)) (ValueIdx.ix2 r l) = num l.val := by
  unfold k0_pay2
  pointwise
  exact num_sitofp l.isLt

theorem num_lane (l : Fin 128) (e : Fin 8) : num l.val = num e.val ↔ l = lane e := num_inj.trans (Fin.ext_iff (a := l) (b := lane e)).symm
theorem lane_inj {a b : Fin 8} : lane a = lane b ↔ a = b :=
  ⟨fun h => Fin.ext (show (lane a).val = (lane b).val from congrArg (fun l : Fin 128 => l.val) h), congrArg lane⟩
theorem select_or (p q : Prop) [Decidable p] [Decidable q] :
    (Scalar.select (IntOp.ori (BitVec.ofBool (decide p)) (BitVec.ofBool (decide q))) 1 0 : EReal) = if p ∨ q then 1 else 0 := by
  by_cases hp : p <;> by_cases hq : q <;> simp [hp, hq, Scalar.select, IntOp.ori]

variable (x : Vec Ideal S512x1024 .f32) (w v : Vec Ideal S1024x128 .bf16) (b : Vec Ideal S1x128 .f32) (T : Vec Ideal S512x512 .bf16) (C : Vec Ideal S1x128 .f32)
variable (L : Fin 512 → Fin 8 → EReal) (E₁ E₂ : Fin 512 → Fin 8)

theorem greatest (hS : ∀ r l, k0_pay3 (F := Ideal) x w v b (ValueIdx.ix2 r l) = lanes (L r) l) (hL : ∀ r e, ⊥ < L r e) (h₁ : ∀ r, Best (L r) (E₁ r)) (r : Fin 512) :
    k0_pay4 (F := Ideal) x w v b (ValueIdx.ix2 r 0) = L r (E₁ r) := by
  unfold k0_pay4
  pointwise
  rw [bits_bot]
  refine (congrArg (fun f => Finset.fold max ⊥ f Finset.univ) (funext fun l => hS r l)).trans ?_
  exact (fold_max_best (best_lanes (h₁ r) (hL r _))).trans (lanes_lane _ _)

theorem first (hS : ∀ r l, k0_pay3 (F := Ideal) x w v b (ValueIdx.ix2 r l) = lanes (L r) l) (hL : ∀ r e, ⊥ < L r e) (h₁ : ∀ r, Best (L r) (E₁ r)) (r : Fin 512) :
    k0_pay5 (F := Ideal) x w v b (ValueIdx.ix2 r 0) = num (E₁ r).val := by
  have hg := greatest x w v b L E₁ hS hL h₁ r
  unfold k0_pay5
  pointwise
  rw [bits_top, bits_lanes]
  refine Eq.trans (congrArg (fun f => Finset.fold min ⊤ f Finset.univ) (funext fun l => ?_)) (fold_min_best (best_lanes (h₁ r) (hL r _)))
  exact if_congr (Eq.congr (hS r l) (hg.trans (lanes_lane _ _).symm)) (numbers r l) rfl

theorem masked (hS : ∀ r l, k0_pay3 (F := Ideal) x w v b (ValueIdx.ix2 r l) = lanes (L r) l) (hL : ∀ r e, ⊥ < L r e) (h₁ : ∀ r, Best (L r) (E₁ r)) (r : Fin 512) (l : Fin 128) :
    k0_pay6 (F := Ideal) x w v b (ValueIdx.ix2 r l) = lanes (drop (L r) (E₁ r)) l := by
  have hf := first x w v b L E₁ hS hL h₁ r
  unfold k0_pay6
  pointwise
  rw [bits_bot, lanes_drop]
  exact if_congr ((Eq.congr (numbers r l) hf).trans (num_inj.trans (Fin.ext_iff (a := l) (b := lane (E₁ r))).symm)) rfl (hS r l)

section Masked
variable (u : FVec Ideal S512x128 .f32) (M : FVec Ideal S512x128 .f32) (m₁ i₁ : FVec Ideal S512x1 .f32)
  (hM : ∀ r l, M (ValueIdx.ix2 r l) = lanes (drop (L r) (E₁ r)) l) (hu : ∀ r l, u (ValueIdx.ix2 r l) = num l.val)
  (hL : ∀ r e, ⊥ < L r e) (hne : ∀ r, E₁ r ≠ E₂ r) (h₂ : ∀ r, Best (drop (L r) (E₁ r)) (E₂ r))
  (hm : ∀ r, m₁ (ValueIdx.ix2 r 0) = L r (E₁ r)) (hi : ∀ r, i₁ (ValueIdx.ix2 r 0) = num (E₁ r).val)
  (hT : ∀ r s : Fin 512, T (ValueIdx.ix2 r s) = if s < r then (1 : EReal) else 0)
include hM hL hne h₂

theorem best_masked (r : Fin 512) : Best (lanes (drop (L r) (E₁ r))) (lane (E₂ r)) :=
  best_lanes (h₂ r) (lt_of_lt_of_eq (hL r (E₂ r)) (if_neg fun h => hne r h.symm).symm)
theorem masked_second (r : Fin 512) : lanes (drop (L r) (E₁ r)) (lane (E₂ r)) = L r (E₂ r) :=
  (lanes_lane _ _).trans (if_neg fun h => hne r h.symm)

theorem next (r : Fin 512) : k0_pay7 (F := Ideal) M (ValueIdx.ix2 r 0) = L r (E₂ r) := by
  unfold k0_pay7
  pointwise
  rw [bits_bot]
  refine (congrArg (fun f => Finset.fold max ⊥ f Finset.univ) (funext fun l => hM r l)).trans ?_
  exact (fold_max_best (best_masked L E₁ E₂ M hM hL hne h₂ r)).trans (masked_second L E₁ E₂ M hM hL hne h₂ r)

include hu
theorem second (r : Fin 512) : k0_pay8 (F := Ideal) u M (ValueIdx.ix2 r 0) = num (E₂ r).val := by
  have hn := next L E₁ E₂ M hM hL hne h₂ r
  unfold k0_pay8
  pointwise
  rw [bits_top, bits_lanes]
  refine Eq.trans (congrArg (fun f => Finset.fold min ⊤ f Finset.univ) (funext fun l => ?_)) (fold_min_best (best_masked L E₁ E₂ M hM hL hne h₂ r))
  exact if_congr (Eq.congr (hM r l) (hn.trans (masked_second L E₁ E₂ M hM hL hne h₂ r).symm)) (hu r l) rfl

include hm in
omit hu in
theorem gate_first (r : Fin 512) : k0_pay10 (F := Ideal) m₁ M (ValueIdx.ix2 r 0) = Ideal.div 1 (1 + Ideal.exp (L r (E₂ r) - L r (E₁ r))) := by
  have hn := next L E₁ E₂ M hM hL hne h₂ r
  unfold k0_pay10 k0_pay9
  pointwise
  exact congrArg₂ (fun a b : EReal => Ideal.div 1 (1 + Ideal.exp (a - b))) hn (hm r)
include hm in
omit hu in
theorem gate_second (r : Fin 512) : k0_pay11 (F := Ideal) m₁ M (ValueIdx.ix2 r 0) = Ideal.div (Ideal.exp (L r (E₂ r) - L r (E₁ r))) (1 + Ideal.exp (L r (E₂ r) - L r (E₁ r))) := by
  have hn := next L E₁ E₂ M hM hL hne h₂ r
  unfold k0_pay11 k0_pay9
  pointwise
  exact congrArg₂ (fun a b : EReal => Ideal.div (Ideal.exp (a - b)) (1 + Ideal.exp (a - b))) hn (hm r)

/-- 1 on the lanes of a row's two entries. -/
def mark (r : Fin 512) (l : Fin 128) : EReal := if l = lane (E₁ r) ∨ l = lane (E₂ r) then 1 else 0

include hi in
theorem chosen (r : Fin 512) (l : Fin 128) : k0_pay12 (F := Ideal) u i₁ M (ValueIdx.ix2 r l) = mark E₁ E₂ r l := by
  have hs := second L E₁ E₂ u M hM hu hL hne h₂ r
  unfold k0_pay12
  pointwise
  refine (select_or _ _).trans (if_congr (or_congr ?_ ?_) rfl rfl)
  · exact (Eq.congr (hu r l) (hi r)).trans (num_lane l _)
  · exact (Eq.congr (hu r l) hs).trans (num_lane l _)

/-- How many rows before `r` have a lane among their two, on top of `C`. -/
def earlier (r : Fin 512) (l : Fin 128) : EReal := C (ValueIdx.ix2 0 l) + ∑ s : Fin 512, if s < r then mark E₁ E₂ s l else 0

include hi hT in
theorem before (r : Fin 512) (l : Fin 128) : k0_pay13 (F := Ideal) u i₁ M T C (ValueIdx.ix2 r l) = earlier C E₁ E₂ r l := by
  unfold k0_pay13
  pointwise
  refine (add_comm _ _).trans (congrArg₂ (α := EReal) (β := EReal) (· + ·) rfl (Finset.sum_congr rfl fun s _ => ?_))
  refine (congrArg₂ (α := EReal) (β := EReal) (· * ·) (hT r s) (chosen L E₁ E₂ u M i₁ hM hu hL hne h₂ hi s l)).trans ?_
  by_cases h : s < r
  · rw [if_pos h, if_pos h, one_mul]
  · rw [if_neg h, if_neg h, zero_mul]

omit hM hu hL hne h₂ in
theorem earlier_lane (r : Fin 512) (e : Fin 8) : earlier C E₁ E₂ r (lane e) = rankOf E₁ E₂ (fun l => C (ValueIdx.ix2 0 l)) r e := by
  unfold earlier rankOf mark hit
  simp only [lane_inj]

omit hM hu hL hne h₂ in
theorem sum_lane (e : Fin 8) (f : Fin 128 → EReal) : (∑ l : Fin 128, if num l.val = num e.val then f l else 0) = f (lane e) := by
  rw [Finset.sum_eq_single (lane e)]
  · exact if_pos rfl
  · intro l _ hl
    exact if_neg fun h => hl (Fin.ext (num_inj.mp h))
  · intro h
    exact absurd (Finset.mem_univ _) h

include hi hT in
theorem rank_first (r : Fin 512) : k0_pay14 (F := Ideal) u i₁ M T C (ValueIdx.ix2 r 0) = rankOf E₁ E₂ (fun l => C (ValueIdx.ix2 0 l)) r (E₁ r) := by
  unfold k0_pay14
  pointwise
  refine (Finset.sum_congr rfl fun l _ => ?_).trans ((sum_lane (E₁ r) (earlier C E₁ E₂ r)).trans (earlier_lane C E₁ E₂ r _))
  exact if_congr (Eq.congr (hu r l) (hi r)) (before T C L E₁ E₂ u M i₁ hM hu hL hne h₂ hi hT r l) rfl
include hi hT in
theorem rank_second (r : Fin 512) : k0_pay15 (F := Ideal) u i₁ M T C (ValueIdx.ix1 r) = rankOf E₁ E₂ (fun l => C (ValueIdx.ix2 0 l)) r (E₂ r) := by
  have hs := second L E₁ E₂ u M hM hu hL hne h₂ r
  unfold k0_pay15
  pointwise
  refine (Finset.sum_congr rfl fun l _ => ?_).trans ((sum_lane (E₂ r) (earlier C E₁ E₂ r)).trans (earlier_lane C E₁ E₂ r _))
  exact if_congr (Eq.congr (hu r l) hs) (before T C L E₁ E₂ u M i₁ hM hu hL hne h₂ hi hT r l) rfl

omit hM hL hne h₂ in
theorem columns (i₂ g₁ g₂ n₁ : FVec Ideal S512x1 .f32) (n₂ : FVec Ideal S512 .f32) (r : Fin 512) (l : Fin 128) :
    k0_pay17 (F := Ideal) u i₁ i₂ g₁ g₂ n₁ n₂ (ValueIdx.ix2 r l)
      = if l.val = 0 then i₁ (ValueIdx.ix2 r 0) else if l.val = 1 then i₂ (ValueIdx.ix2 r 0) else if l.val = 2 then g₁ (ValueIdx.ix2 r 0) else if l.val = 3 then g₂ (ValueIdx.ix2 r 0)
        else if l.val = 4 then n₁ (ValueIdx.ix2 r 0) else if l.val = 5 then n₂ (ValueIdx.ix1 r) else 0 := by
  unfold k0_pay17
  pointwise
  have hk : ∀ k : ℕ, u (ValueIdx.ix2 r l) = num k ↔ l.val = k := fun k => (Eq.congr (hu r l) rfl).trans num_inj
  have h0 : u (ValueIdx.ix2 r l) = 0 ↔ l.val = 0 := by rw [← num_zero]; exact hk 0
  have h1 : u (ValueIdx.ix2 r l) = 1 ↔ l.val = 1 := by rw [← num_one]; exact hk 1
  simp only [bits_five, bits_four, bits_three, bits_two, hk, h0, h1]
  split_ifs <;> first | rfl | omega

include hi in
theorem totals (l : Fin 128) : k0_pay16 (F := Ideal) (k0_pay12 u i₁ M) C (ValueIdx.ix2 0 l) = countOf E₁ E₂ (fun l => C (ValueIdx.ix2 0 l)) l := by
  unfold k0_pay16 countOf
  pointwise
  refine congrArg₂ (α := EReal) (β := EReal) (· + ·) rfl ?_
  by_cases h : l.val < 8
  · rw [dif_pos h]
    refine Finset.sum_congr rfl fun s _ => ?_
    refine (chosen L E₁ E₂ u M i₁ hM hu hL hne h₂ hi s l).trans ?_
    exact if_congr (or_congr (lane_inj (a := ⟨l.val, h⟩)) (lane_inj (a := ⟨l.val, h⟩))) rfl rfl
  · rw [dif_neg h]
    refine Finset.sum_eq_zero fun s _ => ?_
    refine (chosen L E₁ E₂ u M i₁ hM hu hL hne h₂ hi s l).trans (if_neg fun a => h ?_)
    rcases a with a | a
    · rw [show l = lane (E₁ s) from a]; exact (E₁ s).isLt
    · rw [show l = lane (E₂ s) from a]; exact (E₂ s).isLt
end Masked

end Body

/-! ## The arrays that the host code prepares -/

section Arrays
variable (m : (ℓ : Loc nD τ sig) → Buf (Elt Ideal) ℓ) (c : Dev nD)

/-- The arguments at their own types. -/
abbrev argX : Vec Ideal S32768x1024 .f32 := m ((c : Thread nD τ).loc main_arg0)
abbrev argW : Vec Ideal S1024x8 .f32 := m ((c : Thread nD τ).loc main_arg1)
abbrev argB : Vec Ideal S8 .f32 := m ((c : Thread nD τ).loc main_arg2)
abbrev argC : Vec Ideal S1x128 .f32 := m ((c : Thread nD τ).loc main_arg3)

/-- The matrix and the bias on 128 lanes, what rounding leaves of the matrix, and the order of the rows. -/
def wide (w : Vec Ideal S1024x8 .f32) : Vec Ideal S1024x128 .f32 := pad S1024x128 ![0, 0] ![0, 120] ![0, 0] w (sitofp (F := Ideal) .f32 (constantI S_ 32 0#32)) pads_S1024x8_S1024x128_000_01200 h_S_
def wideB (b : Vec Ideal S8 .f32) : Vec Ideal S1x128 .f32 := broadcastInDim S1x128 ![1] bcast_S128_S1x128_1 (pad S128 ![0] ![120] ![0] b (sitofp (F := Ideal) .f32 (constantI S_ 32 0#32)) pads_S8_S128_01200 h_S_)
def high (w : Vec Ideal S1024x8 .f32) : Vec Ideal S1024x128 .bf16 := truncf (F := Ideal) .bf16 (wide w : FVec Ideal S1024x128 .f32) bitsLt_bf16_f32
def low (w : Vec Ideal S1024x8 .f32) : Vec Ideal S1024x128 .bf16 := truncf (F := Ideal) .bf16 (subf (wide w : FVec Ideal S1024x128 .f32) (extf .f32 (high w : FVec Ideal S1024x128 .bf16) bitsLt_bf16_f32)) bitsLt_bf16_f32
def order : Vec Ideal S512x512 .bf16 := uitofp (F := Ideal) .bf16 (cmpi .sgt (broadcastInDim S512x512 ![0, 1] bcast_S512x1_S512x512_0_1 (broadcastInDim S512x1 ![0] bcast_S512_S512x1_0 (iotaInDim S512 32 0))) (broadcastInDim S512x512 ![0, 1] bcast_S1x512_S512x512_0_1 (broadcastInDim S1x512 ![1] bcast_S512_S1x512_1 (iotaInDim S512 32 0))))

theorem V_x : V m c main_arg0 = argX m c := by
  show StableHlo.after (List.flatten [hostOps0, hostOps0_1, hostOps0_2, hostOps0_3, hostOps0_4]) (fun b => m (c, b)) (Proc.devRef .tc main_arg0) = _
  simp only [hostOps0, hostOps0_1, hostOps0_2, hostOps0_3, hostOps0_4, List.flatten_cons, List.flatten_nil, List.append_nil, List.cons_append, List.nil_append]
  after_reads_simp
theorem V_c : V m c main_arg3 = argC m c := by
  show StableHlo.after (List.flatten [hostOps0, hostOps0_1, hostOps0_2, hostOps0_3, hostOps0_4]) (fun b => m (c, b)) (Proc.devRef .tc main_arg3) = _
  simp only [hostOps0, hostOps0_1, hostOps0_2, hostOps0_3, hostOps0_4, List.flatten_cons, List.flatten_nil, List.append_nil, List.cons_append, List.nil_append]
  after_reads_simp
theorem V_high : V m c main_v1 = high (argW m c) := by
  show StableHlo.after (List.flatten [hostOps0, hostOps0_1, hostOps0_2, hostOps0_3, hostOps0_4]) (fun b => m (c, b)) (Proc.devRef .tc main_v1) = _
  simp only [hostOps0, hostOps0_1, hostOps0_2, hostOps0_3, hostOps0_4, List.flatten_cons, List.flatten_nil, List.append_nil, List.cons_append, List.nil_append]
  after_reads_simp
  rfl
theorem V_low : V m c main_v4 = low (argW m c) := by
  show StableHlo.after (List.flatten [hostOps0, hostOps0_1, hostOps0_2, hostOps0_3, hostOps0_4]) (fun b => m (c, b)) (Proc.devRef .tc main_v4) = _
  simp only [hostOps0, hostOps0_1, hostOps0_2, hostOps0_3, hostOps0_4, List.flatten_cons, List.flatten_nil, List.append_nil, List.cons_append, List.nil_append]
  after_reads_simp
  rfl
theorem V_bias : V m c main_v6 = wideB (argB m c) := by
  show StableHlo.after (List.flatten [hostOps0, hostOps0_1, hostOps0_2, hostOps0_3, hostOps0_4]) (fun b => m (c, b)) (Proc.devRef .tc main_v6) = _
  simp only [hostOps0, hostOps0_1, hostOps0_2, hostOps0_3, hostOps0_4, List.flatten_cons, List.flatten_nil, List.append_nil, List.cons_append, List.nil_append]
  after_reads_simp
  rfl
theorem V_order : V m c main_v14 = order := by
  show StableHlo.after (List.flatten [hostOps0, hostOps0_1, hostOps0_2, hostOps0_3, hostOps0_4]) (fun b => m (c, b)) (Proc.devRef .tc main_v14) = _
  simp only [hostOps0, hostOps0_1, hostOps0_2, hostOps0_3, hostOps0_4, List.flatten_cons, List.flatten_nil, List.append_nil, List.cons_append, List.nil_append]
  after_reads_simp
  rfl

theorem high_apply (w : Vec Ideal S1024x8 .f32) (k : Fin 1024) (e : Fin 8) : high w (ValueIdx.ix2 k (lane e)) = w (ValueIdx.ix2 k e) := by
  unfold high wide
  pointwise
  exact dif_pos e.isLt
theorem low_apply (w : Vec Ideal S1024x8 .f32) (k : Fin 1024) (e : Fin 8) : low w (ValueIdx.ix2 k (lane e)) = w (ValueIdx.ix2 k e) - w (ValueIdx.ix2 k e) := by
  unfold low high wide
  pointwise
  exact congrArg₂ (α := EReal) (β := EReal) (· - ·) (dif_pos e.isLt) (dif_pos e.isLt)
theorem bias_apply (b : Vec Ideal S8 .f32) (e : Fin 8) : wideB b (ValueIdx.ix2 0 (lane e)) = b (ValueIdx.ix1 e) := by
  unfold wideB
  pointwise
  exact dif_pos e.isLt
theorem order_apply (r s : Fin 512) : order (ValueIdx.ix2 r s) = if s < r then (1 : EReal) else 0 := by
  unfold order
  pointwise
  show FloatOps.uitofp .bf16 (BitVec.ofBool ((BitVec.ofNat 32 s.val).slt (BitVec.ofNat 32 r.val))) = _
  rw [word_lt_of (by decide)]
  exact uitofp_bool _ _

/-- A row's eight scores. -/
def score (x : Fin 1024 → EReal) (w : Vec Ideal S1024x8 .f32) (b : Vec Ideal S8 .f32) (e : Fin 8) : EReal :=
  (∑ k, x k * w (ValueIdx.ix2 k e)) + b (ValueIdx.ix1 e)

theorem scores_apply (x : Vec Ideal S512x1024 .f32) (w : Vec Ideal S1024x8 .f32) (b : Vec Ideal S8 .f32)
    (hx : ∀ i, IsReal (x i)) (hw : ∀ i, IsReal (w i)) (r : Fin 512) (l : Fin 128) :
    k0_pay3 (F := Ideal) x (high w) (low w) (wideB b) (ValueIdx.ix2 r l) = lanes (score (fun k => x (ValueIdx.ix2 r k)) w b) l := by
  have hn := numbers r l
  unfold k0_pay3
  pointwise
  rw [bits_bot, bits_eight]
  by_cases hl : l.val < 8
  · refine (if_pos (lt_of_eq_of_lt hn (num_lt.mpr hl))).trans (Eq.trans ?_ (dif_pos hl).symm)
    obtain ⟨e, rfl⟩ : ∃ e : Fin 8, l = lane e := ⟨⟨l.val, hl⟩, rfl⟩
    have h1 : (∑ k : Fin 1024, x (ValueIdx.ix2 r k) * high w (ValueIdx.ix2 k (lane e)) : EReal) = ∑ k, x (ValueIdx.ix2 r k) * w (ValueIdx.ix2 k e) :=
      Finset.sum_congr rfl fun k _ => congrArg (x (ValueIdx.ix2 r k) * ·) (high_apply w k e)
    have h2 : (∑ k : Fin 1024, (x (ValueIdx.ix2 r k) - x (ValueIdx.ix2 r k)) * high w (ValueIdx.ix2 k (lane e)) : EReal) = 0 :=
      Finset.sum_eq_zero fun k _ => by rw [(hx _).sub_self]; exact zero_mul _
    have h3 : (∑ k : Fin 1024, x (ValueIdx.ix2 r k) * low w (ValueIdx.ix2 k (lane e)) : EReal) = 0 :=
      Finset.sum_eq_zero fun k _ => by rw [low_apply, (hw _).sub_self]; exact mul_zero _
    refine (congrArg₂ (α := EReal) (β := EReal) (· + ·) (congrArg₂ (α := EReal) (β := EReal) (· + ·) h1 (congrArg₂ (α := EReal) (β := EReal) (· + ·) h2 h3)) (bias_apply b e)).trans ?_
    show (∑ k, x (ValueIdx.ix2 r k) * w (ValueIdx.ix2 k e)) + (0 + 0) + b (ValueIdx.ix1 e) = score (fun k => x (ValueIdx.ix2 r k)) w b e
    rw [add_zero, add_zero]
    rfl
  · exact (if_neg fun h => hl (num_lt.mp (lt_of_eq_of_lt hn.symm h))).trans (show lanes (score (fun k => x (ValueIdx.ix2 r k)) w b) l = ⊥ from dif_neg hl).symm

/-! ## The input blocks -/

theorem in_idx (t : Fin grid0.N) : cc0_transform_0 (grid0.coords t) = ![t.val, 0] ∧ cc0_transform_1 (grid0.coords t) = ![0, 0] ∧ cc0_transform_2 (grid0.coords t) = ![0, 0] ∧ cc0_transform_3 (grid0.coords t) = ![0, 0] ∧ cc0_transform_4 (grid0.coords t) = ![0, 0] ∧ cc0_transform_5 (grid0.coords t) = ![0, 0] := by
  revert t; decide +kernel

/-- A block at the origin is placed at its own index. -/
theorem place2 {x y : ℕ} (f : Fin 2 → ℕ) (hf : f = ![0, 0]) (j : Shape.Idx ⟨2, ![x, y]⟩) (a : Fin 2) : f a * (![x, y] : Fin 2 → ℕ) a + 1 * (j a).val = (j a).val := by
  rw [hf]
  match a with
  | ⟨0, _⟩ => show 0 * x + 1 * (j 0).val = (j 0).val; omega
  | ⟨1, _⟩ => show 0 * y + 1 * (j 1).val = (j 1).val; omega

/-- The row that a tile's row is. -/
def row (n : ℕ) (hn : n < cfg0.N) (r : Fin 512) : Fin 32768 := ⟨512 * n + r.val, by
  have h := lt_of_lt_of_eq hn (show cfg0.N = 64 from N_0)
  have := r.isLt
  omega⟩
theorem row_val (n : ℕ) (hn : n < cfg0.N) (r : Fin 512) : (row n hn r).val = 512 * n + r.val := rfl

theorem blk_x (t : Fin cfg0.N) (r : Fin 512) (k : Fin 1024) : (iblk m c 0 t : Vec Ideal S512x1024 .f32) (ValueIdx.ix2 r k) = argX m c (ValueIdx.ix2 (row t.val t.isLt r) k) := by
  refine Eq.trans ?_ (congrFun (V_x m c) _)
  refine congrArg (V m c main_arg0) (funext fun a => Fin.ext ?_)
  show cc0_transform_0 (grid0.coords t) a * S512x1024.size a + 1 * ((ValueIdx.ix2 r k : S512x1024.Idx) a).val = _
  rw [(in_idx t).1]
  match a with
  | ⟨0, _⟩ => show t.val * 512 + 1 * r.val = 512 * t.val + r.val; omega
  | ⟨1, _⟩ => show 0 * 1024 + 1 * k.val = k.val; omega
theorem blk_high (t : Fin cfg0.N) : (iblk m c 1 t : Vec Ideal S1024x128 .bf16) = high (argW m c) :=
  (funext fun j => congrArg (V m c main_v1) (funext fun a => Fin.ext (place2 _ (in_idx t).2.1 j a))).trans (V_high m c)
theorem blk_low (t : Fin cfg0.N) : (iblk m c 2 t : Vec Ideal S1024x128 .bf16) = low (argW m c) :=
  (funext fun j => congrArg (V m c main_v4) (funext fun a => Fin.ext (place2 _ (in_idx t).2.2.1 j a))).trans (V_low m c)
theorem blk_bias (t : Fin cfg0.N) : (iblk m c 3 t : Vec Ideal S1x128 .f32) = wideB (argB m c) :=
  (funext fun j => congrArg (V m c main_v6) (funext fun a => Fin.ext (place2 _ (in_idx t).2.2.2.1 j a))).trans (V_bias m c)
theorem blk_c (t : Fin cfg0.N) : (iblk m c 4 t : Vec Ideal S1x128 .f32) = argC m c :=
  (funext fun j => congrArg (V m c main_arg3) (funext fun a => Fin.ext (place2 _ (in_idx t).2.2.2.2.1 j a))).trans (V_c m c)
theorem blk_order (t : Fin cfg0.N) : (iblk m c 5 t : Vec Ideal S512x512 .bf16) = order :=
  (funext fun j => congrArg (V m c main_v14) (funext fun a => Fin.ext (place2 _ (in_idx t).2.2.2.2.2 j a))).trans (V_order m c)

/-! ## A tile -/

/-- What a tile's slab and counts are computed to be, on top of the counts `C`. -/
def tileSlab (x : Vec Ideal S512x1024 .f32) (w v : Vec Ideal S1024x128 .bf16) (b : Vec Ideal S1x128 .f32) (T : Vec Ideal S512x512 .bf16) (C : Vec Ideal S1x128 .f32) : Vec Ideal S512x128 .f32 :=
  k0_pay17 k0_pay2 (k0_pay5 x w v b) (k0_pay8 k0_pay2 (k0_pay6 x w v b)) (k0_pay10 (k0_pay4 x w v b) (k0_pay6 x w v b)) (k0_pay11 (k0_pay4 x w v b) (k0_pay6 x w v b))
    (k0_pay14 k0_pay2 (k0_pay5 x w v b) (k0_pay6 x w v b) T C) (k0_pay15 k0_pay2 (k0_pay5 x w v b) (k0_pay6 x w v b) T C)
def tileCounts (x : Vec Ideal S512x1024 .f32) (w v : Vec Ideal S1024x128 .bf16) (b : Vec Ideal S1x128 .f32) (C : Vec Ideal S1x128 .f32) : Vec Ideal S1x128 .f32 :=
  k0_pay16 (k0_pay12 k0_pay2 (k0_pay5 x w v b) (k0_pay6 x w v b)) C

theorem load_c (C : Vec Ideal S1x128 .f32) : k0_pay1 (F := Ideal) C = C := by
  unfold k0_pay1
  exact shapeCast_self _ _

theorem carried (P : Vec Ideal S1x128 .f32) : View.read (Elt Ideal) (View.whole cc0_scratch0) ((Memref.isWhole_whole cc0_scratch0).unread P) = P :=
  (Memref.isWhole_whole cc0_scratch0).read_unread P

theorem outs_first (t : Fin cfg0.N) (h0 : t.val % 64 = 0) : outsAt0 m c t.val t.isLt =
    (tileSlab (iblk m c 0 t) (iblk m c 1 t) (iblk m c 2 t) (iblk m c 3 t) (iblk m c 5 t) (k0_pay1 (iblk m c 4 t)),
      tileCounts (iblk m c 0 t) (iblk m c 1 t) (iblk m c 2 t) (iblk m c 3 t) (k0_pay1 (iblk m c 4 t)),
      tileCounts (iblk m c 0 t) (iblk m c 1 t) (iblk m c 2 t) (iblk m c 3 t) (k0_pay1 (iblk m c 4 t))) := by
  refine (outsAt0_A m c t h0).trans (congrArg₂ Prod.mk ?_ (congrArg₂ Prod.mk ?_ ?_))
  · unfold out0_A_6 tileSlab
    frame_out
  · unfold out0_A_7 tileCounts
    frame_out
  · unfold sout0_A_0 tileCounts
    frame_out
theorem outs_next (t : Fin cfg0.N) (h0 : ¬t.val % 64 = 0) (P : Vec Ideal S1x128 .f32) (hP : (outsAt0 m c (t.val - 1) (Nat.lt_of_le_of_lt (Nat.sub_le _ _) t.isLt)).2.2 = P) : outsAt0 m c t.val t.isLt =
    (tileSlab (iblk m c 0 t) (iblk m c 1 t) (iblk m c 2 t) (iblk m c 3 t) (iblk m c 5 t) P,
      tileCounts (iblk m c 0 t) (iblk m c 1 t) (iblk m c 2 t) (iblk m c 3 t) P,
      tileCounts (iblk m c 0 t) (iblk m c 1 t) (iblk m c 2 t) (iblk m c 3 t) P) := by
  rw [outsAt0_B m c t h0, hP]
  refine congrArg₂ Prod.mk ?_ (congrArg₂ Prod.mk ?_ ?_)
  · unfold out0_B_6
    frame_out
    exact congrArg (tileSlab (iblk m c 0 t) (iblk m c 1 t) (iblk m c 2 t) (iblk m c 3 t) (iblk m c 5 t)) (carried P)
  · unfold out0_B_7
    frame_out
    exact congrArg (tileCounts (iblk m c 0 t) (iblk m c 1 t) (iblk m c 2 t) (iblk m c 3 t)) (carried P)
  · unfold sout0_B_0
    frame_out
    exact congrArg (tileCounts (iblk m c 0 t) (iblk m c 1 t) (iblk m c 2 t) (iblk m c 3 t)) (carried P)

/-! ## The results -/

section Results
variable (hx : ∀ i, IsReal (argX m c i)) (hw : ∀ i, IsReal (argW m c i)) (hb : ∀ i, IsReal (argB m c i))

/-- A row's scores, its two greatest, and the counts so far. -/
abbrev S (r : Fin 32768) : Fin 8 → EReal := score (fun k => argX m c (ValueIdx.ix2 r k)) (argW m c) (argB m c)
abbrev E₁ (r : Fin 32768) : Fin 8 := sorted (S m c r) 0
abbrev E₂ (r : Fin 32768) : Fin 8 := sorted (S m c r) 1
abbrev C₀ (l : Fin 128) : EReal := argC m c (ValueIdx.ix2 0 l)

include hx hw hb
theorem score_real (r : Fin 32768) (e : Fin 8) : ⊥ < S m c r e :=
  ((IsReal.sum _ _ fun k => (hx _).mul (hw _)).add (hb _)).bot_lt
theorem two_differ (r : Fin 32768) : E₁ m c r ≠ E₂ m c r :=
  fun h => absurd (sortedFrom_injective (fun x y : Fin 8 => decide (S m c r y < S m c r x)) h) (by decide)

omit hb in
theorem tile_scores (t : Fin cfg0.N) (r : Fin 512) (l : Fin 128) :
    k0_pay3 (F := Ideal) (iblk m c 0 t) (high (argW m c)) (low (argW m c)) (wideB (argB m c)) (ValueIdx.ix2 r l) = lanes (S m c (row t.val t.isLt r)) l := by
  have hx' : ∀ i, IsReal ((iblk m c 0 t : Vec Ideal S512x1024 .f32) i) := fun i =>
    (congrArg IsReal ((congrArg (iblk m c 0 t : Vec Ideal S512x1024 .f32) (ValueIdx.eq_ix2 i)).trans (blk_x m c t (i 0) (i 1)))).mpr (hx _)
  refine (scores_apply (iblk m c 0 t) (argW m c) (argB m c) hx' hw r l).trans ?_
  exact congrArg (fun f => lanes (score f (argW m c) (argB m c)) l) (funext fun k => blk_x m c t r k)

theorem tile_slab (t : Fin cfg0.N) (C : Vec Ideal S1x128 .f32) (r : Fin 512) (l : Fin 128) :
    tileSlab (iblk m c 0 t) (iblk m c 1 t) (iblk m c 2 t) (iblk m c 3 t) (iblk m c 5 t) C (ValueIdx.ix2 r l)
      = slabOf (fun r => E₁ m c (row t.val t.isLt r)) (fun r => E₂ m c (row t.val t.isLt r)) (fun l => C (ValueIdx.ix2 0 l)) (S m c (row t.val t.isLt r) (E₁ m c (row t.val t.isLt r))) (S m c (row t.val t.isLt r) (E₂ m c (row t.val t.isLt r))) r l := by
  rw [blk_high m c t, blk_low m c t, blk_bias m c t, blk_order m c t]
  have hL : ∀ (r : Fin 512) e, ⊥ < S m c (row t.val t.isLt r) e := fun r => score_real m c hx hw hb _
  have hS := tile_scores m c hx hw t
  have h₁ : ∀ r : Fin 512, Best (S m c (row t.val t.isLt r)) (E₁ m c (row t.val t.isLt r)) := fun r => sorted_zero _
  have h₂ : ∀ r : Fin 512, Best (drop (S m c (row t.val t.isLt r)) (E₁ m c (row t.val t.isLt r))) (E₂ m c (row t.val t.isLt r)) := fun r => sorted_one _ (hL r)
  have hne : ∀ r : Fin 512, E₁ m c (row t.val t.isLt r) ≠ E₂ m c (row t.val t.isLt r) := fun r => two_differ m c hx hw hb _
  have hm := greatest _ _ _ _ (fun r => S m c (row t.val t.isLt r)) (fun r => E₁ m c (row t.val t.isLt r)) hS hL h₁
  have hi := first _ _ _ _ (fun r => S m c (row t.val t.isLt r)) (fun r => E₁ m c (row t.val t.isLt r)) hS hL h₁
  have hM := masked _ _ _ _ (fun r => S m c (row t.val t.isLt r)) (fun r => E₁ m c (row t.val t.isLt r)) hS hL h₁
  unfold tileSlab
  refine (columns (k0_pay2 (F := Ideal)) _ numbers _ _ _ _ _ r l).trans ?_
  unfold slabOf
  rw [hi r, second (fun r => S m c (row t.val t.isLt r)) (fun r => E₁ m c (row t.val t.isLt r)) (fun r => E₂ m c (row t.val t.isLt r)) _ _ hM numbers hL hne h₂ r,
    gate_first (fun r => S m c (row t.val t.isLt r)) (fun r => E₁ m c (row t.val t.isLt r)) (fun r => E₂ m c (row t.val t.isLt r)) _ _ hM hL hne h₂ hm r,
    gate_second (fun r => S m c (row t.val t.isLt r)) (fun r => E₁ m c (row t.val t.isLt r)) (fun r => E₂ m c (row t.val t.isLt r)) _ _ hM hL hne h₂ hm r,
    rank_first order C (fun r => S m c (row t.val t.isLt r)) (fun r => E₁ m c (row t.val t.isLt r)) (fun r => E₂ m c (row t.val t.isLt r)) _ _ _ hM numbers hL hne h₂ hi order_apply r,
    rank_second order C (fun r => S m c (row t.val t.isLt r)) (fun r => E₁ m c (row t.val t.isLt r)) (fun r => E₂ m c (row t.val t.isLt r)) _ _ _ hM numbers hL hne h₂ hi order_apply r]

theorem tile_counts (t : Fin cfg0.N) (C : Vec Ideal S1x128 .f32) (l : Fin 128) :
    tileCounts (iblk m c 0 t) (iblk m c 1 t) (iblk m c 2 t) (iblk m c 3 t) C (ValueIdx.ix2 0 l)
      = countOf (fun r => E₁ m c (row t.val t.isLt r)) (fun r => E₂ m c (row t.val t.isLt r)) (fun l => C (ValueIdx.ix2 0 l)) l := by
  rw [blk_high m c t, blk_low m c t, blk_bias m c t]
  have hL : ∀ (r : Fin 512) e, ⊥ < S m c (row t.val t.isLt r) e := fun r => score_real m c hx hw hb _
  have hS := tile_scores m c hx hw t
  have h₁ : ∀ r : Fin 512, Best (S m c (row t.val t.isLt r)) (E₁ m c (row t.val t.isLt r)) := fun r => sorted_zero _
  have h₂ : ∀ r : Fin 512, Best (drop (S m c (row t.val t.isLt r)) (E₁ m c (row t.val t.isLt r))) (E₂ m c (row t.val t.isLt r)) := fun r => sorted_one _ (hL r)
  unfold tileCounts
  exact totals C (fun r => S m c (row t.val t.isLt r)) (fun r => E₁ m c (row t.val t.isLt r)) (fun r => E₂ m c (row t.val t.isLt r)) _ _ _
    (masked _ _ _ _ (fun r => S m c (row t.val t.isLt r)) (fun r => E₁ m c (row t.val t.isLt r)) hS hL h₁) numbers hL (fun r => two_differ m c hx hw hb _) h₂
    (first _ _ _ _ (fun r => S m c (row t.val t.isLt r)) (fun r => E₁ m c (row t.val t.isLt r)) hS hL h₁) l

/-- The counts before tile `n`. -/
abbrev upTo (n : ℕ) : Fin 128 → EReal := part (E₁ m c) (E₂ m c) (C₀ m c) (512 * n)

theorem tile_ends (n : ℕ) (hn : n < cfg0.N) : 512 * n + 512 ≤ 32768 := by
  have h := lt_of_lt_of_eq hn (show cfg0.N = 64 from N_0)
  omega

/-- A tile, given the counts before it. -/
theorem tile_step (t : Fin cfg0.N) (C : Vec Ideal S1x128 .f32) (hC : ∀ l, C (ValueIdx.ix2 0 l) = upTo m c t.val l) :
    (∀ (r : Fin 512) (l : Fin 128), tileSlab (iblk m c 0 t) (iblk m c 1 t) (iblk m c 2 t) (iblk m c 3 t) (iblk m c 5 t) C (ValueIdx.ix2 r l)
        = slabOf (E₁ m c) (E₂ m c) (C₀ m c) (S m c (row t.val t.isLt r) (E₁ m c (row t.val t.isLt r))) (S m c (row t.val t.isLt r) (E₂ m c (row t.val t.isLt r))) (row t.val t.isLt r) l)
      ∧ ∀ l : Fin 128, tileCounts (iblk m c 0 t) (iblk m c 1 t) (iblk m c 2 t) (iblk m c 3 t) C (ValueIdx.ix2 0 l) = upTo m c (t.val + 1) l := by
  have hC' : (fun l => C (ValueIdx.ix2 0 l)) = upTo m c t.val := funext hC
  refine ⟨fun r l => (tile_slab m c hx hw hb t C r l).trans ?_, fun l => (tile_counts m c hx hw hb t C l).trans ?_⟩
  · rw [hC']
    exact part_slab (E₁ m c) (E₂ m c) (C₀ m c) (512 * t.val) (tile_ends m c hx hw hb t.val t.isLt) (row t.val t.isLt) (row_val t.val t.isLt) _ _ r l
  · rw [hC']
    exact part_next (E₁ m c) (E₂ m c) (C₀ m c) (512 * t.val) (tile_ends m c hx hw hb t.val t.isLt) (row t.val t.isLt) (row_val t.val t.isLt) l

/-- What each tile leaves. -/
theorem tile_all : ∀ (n : ℕ) (hn : n < cfg0.N),
    (∀ (r : Fin 512) (l : Fin 128), (outsAt0 m c n hn).1 (ValueIdx.ix2 r l)
        = slabOf (E₁ m c) (E₂ m c) (C₀ m c) (S m c (row n hn r) (E₁ m c (row n hn r))) (S m c (row n hn r) (E₂ m c (row n hn r))) (row n hn r) l)
      ∧ (∀ l : Fin 128, (outsAt0 m c n hn).2.1 (ValueIdx.ix2 0 l) = upTo m c (n + 1) l)
      ∧ ∀ l : Fin 128, (outsAt0 m c n hn).2.2 (ValueIdx.ix2 0 l) = upTo m c (n + 1) l := by
  intro n
  induction n with
  | zero =>
    intro hn
    have e := outs_first m c ⟨0, hn⟩ (Nat.zero_mod _)
    obtain ⟨a, b⟩ := tile_step m c hx hw hb ⟨0, hn⟩ (k0_pay1 (iblk m c 4 ⟨0, hn⟩)) (fun l => by
      rw [load_c, blk_c]
      exact (part_zero (E₁ m c) (E₂ m c) (C₀ m c) l).symm)
    refine ⟨fun r l => ?_, fun l => ?_, fun l => ?_⟩
    · exact (congrFun (congrArg Prod.fst e) _).trans (a r l)
    · exact (congrFun (congrArg (fun p => p.2.1) e) _).trans (b l)
    · exact (congrFun (congrArg (fun p => p.2.2) e) _).trans (b l)
  | succ n ih =>
    intro hn
    have h64 := lt_of_lt_of_eq hn (show cfg0.N = 64 from N_0)
    have e := outs_next m c ⟨n + 1, hn⟩ (by show ¬(n + 1) % 64 = 0; omega) (outsAt0 m c n (Nat.lt_of_succ_lt hn)).2.2 rfl
    obtain ⟨a, b⟩ := tile_step m c hx hw hb ⟨n + 1, hn⟩ (outsAt0 m c n (Nat.lt_of_succ_lt hn)).2.2 (ih (Nat.lt_of_succ_lt hn)).2.2
    refine ⟨fun r l => ?_, fun l => ?_, fun l => ?_⟩
    · exact (congrFun (congrArg Prod.fst e) _).trans (a r l)
    · exact (congrFun (congrArg (fun p => p.2.1) e) _).trans (b l)
    · exact (congrFun (congrArg (fun p => p.2.2) e) _).trans (b l)

theorem res_slab (R : Fin 32768) (l : Fin 128) : (Value.G6 m c : Vec Ideal S32768x128 .f32) (ValueIdx.ix2 R l) = slabOf (E₁ m c) (E₂ m c) (C₀ m c) (S m c R (E₁ m c R)) (S m c R (E₂ m c R)) R l := by
  have hR := R.isLt
  have hl := l.isLt
  have hp : Value.pt6Of (ValueIdx.ix2 R l : S32768x128.Idx) = R.val / 512 := by
    show 1 * (R.val / 512 - 0) + 1 * (l.val / 128 - 0) = _
    omega
  have hn : R.val / 512 < cfg0.N := lt_of_lt_of_eq (by omega : R.val / 512 < 64) (show cfg0.N = 64 from N_0).symm
  have hr : row (R.val / 512) hn ⟨R.val % 512, Nat.mod_lt _ (by decide)⟩ = R := Fin.ext (by rw [row_val]; show 512 * (R.val / 512) + R.val % 512 = R.val; omega)
  have hi : Value.loc6Of (ValueIdx.ix2 R l : S32768x128.Idx) = (ValueIdx.ix2 ⟨R.val % 512, Nat.mod_lt _ (by decide)⟩ l : S512x128.Idx) := by
    funext a; apply Fin.ext
    match a with
    | ⟨0, _⟩ => rfl
    | ⟨1, _⟩ => show l.val % 128 = l.val; omega
  have e := (tile_all m c hx hw hb (R.val / 512) hn).1 ⟨R.val % 512, Nat.mod_lt _ (by decide)⟩ l
  rw [hr] at e
  unfold Value.G6
  rw [dif_pos (by rw [hp]; exact hn), hi, Value.fold0_congr m c _ _ _ (by omega) hp, ← Value.outsAt0_sweep m c (R.val / 512) hn]
  exact e
theorem res_counts (l : Fin 128) : (Value.G7 m c : Vec Ideal S1x128 .f32) (ValueIdx.ix2 0 l) = countOf (E₁ m c) (E₂ m c) (C₀ m c) l := by
  have hn : 63 < cfg0.N := lt_of_lt_of_eq (by decide) (show cfg0.N = 64 from N_0).symm
  rw [Value.G7_last, ← Value.outsAt0_sweep m c 63 hn]
  exact ((tile_all m c hx hw hb 63 hn).2.1 l).trans (part_all (E₁ m c) (E₂ m c) (C₀ m c) l)

end Results

end Arrays

end Cert.Kernel9Ideal.Router

end
-- ==== Proof.RouterPrompt.Reference.lean ====
/- The router, for the prompt group's rows: what the reference's two results hold at an index. -/
module

public import proofs.«01_k».proof.Proof.Router.Pick
public import proofs.«01_k».proof.Proof.Gen.Reference9Ideal.Run
public import Idealize.ShloMosaic.Lib.Pointwise

@[expose] public section

set_option maxRecDepth 16384

noncomputable section

namespace Cert.Reference9Ideal.Router

open Cert.Reference9Ideal Cert.Reference9Ideal.Gen Cert.Router
open Idealize.ShloMosaic Idealize.ShloMosaic.TcCoe Idealize.SL.Sem

/-! ## The terms -/

section Terms
variable (TV : FVec Ideal S32768x2 .f32) (TI : IVec S32768x2 32) (C0 : FVec Ideal S1x128 .f32)

def hot : FVec Ideal S32768x2x8 .f32 := uitofp .f32 (cmpi .eq (broadcastInDim S32768x2x8 ![0, 1, 2] bcast_S32768x2x1_S32768x2x8_0_1_2 (broadcastInDim S32768x2x1 ![0, 1] bcast_S32768x2_S32768x2x1_0_1 TI)) (broadcastInDim S32768x2x8 ![0, 1, 2] bcast_S1x1x8_S32768x2x8_0_1_2 (iotaInDim S1x1x8 32 2)))
def chosen (H : FVec Ideal S32768x2x8 .f32) : FVec Ideal S32768x8 .f32 := Host.reduceAdd H (constant S_ .f32 0x00000000#32) reducesTo_S32768x2x8_S32768x8_d1 h_S_
def before (K : FVec Ideal S32768x8 .f32) : FVec Ideal S32768x8 .f32 :=
  addf (broadcastInDim S32768x8 ![0, 1] bcast_S1x8_S32768x8_0_1 (extractStridedSlice S1x8 ![0, 0] C0 slices_S1x128_S1x8_0_0)) (Host.reduceAdd (select (broadcastInDim S32768x32768x8 ![0, 1, 2] bcast_S32768x32768x1_S32768x32768x8_0_1_2 (broadcastInDim S32768x32768x1 ![0, 1] bcast_S32768x32768_S32768x32768x1_0_1 (cmpi .slt (broadcastInDim S32768x32768 ![0, 1] bcast_S1x32768_S32768x32768_0_1 (broadcastInDim S1x32768 ![1] bcast_S32768_S1x32768_1 (iotaInDim S32768 32 0))) (broadcastInDim S32768x32768 ![0, 1] bcast_S32768x1_S32768x32768_0_1 (broadcastInDim S32768x1 ![0] bcast_S32768_S32768x1_0 (iotaInDim S32768 32 0)))))) (broadcastInDim S32768x32768x8 ![0, 1, 2] bcast_S1x32768x8_S32768x32768x8_0_1_2 (broadcastInDim S1x32768x8 ![1, 2] bcast_S32768x8_S1x32768x8_1_2 K)) (broadcastInDim S32768x32768x8 ![] bcast_S_S32768x32768x8 (sitofp .f32 (constantI S_ 32 0#32)))) (constant S_ .f32 0x00000000#32) reducesTo_S32768x32768x8_S32768x8_d1 h_S_)
def ranks (H : FVec Ideal S32768x2x8 .f32) (B : FVec Ideal S32768x8 .f32) : FVec Ideal S32768x2 .f32 :=
  Host.reduceAdd (mulf H (broadcastInDim S32768x2x8 ![0, 1, 2] bcast_S32768x1x8_S32768x2x8_0_1_2 (broadcastInDim S32768x1x8 ![0, 2] bcast_S32768x8_S32768x1x8_0_2 B))) (constant S_ .f32 0x00000000#32) reducesTo_S32768x2x8_S32768x2_d2 h_S_
def numer : FVec Ideal S32768x2 .f32 := Host.exp (subf TV (broadcastInDim S32768x2 ![0, 1] bcast_S32768x1_S32768x2_0_1 (broadcastInDim S32768x1 ![0] bcast_S32768_S32768x1_0 (maximumf (broadcastInDim S32768 ![] bcast_S_S32768 (constant S_ .f32 0xFF800000#32)) (Host.reduce FloatOps.maximumf TV (constant S_ .f32 0xFF800000#32) reducesTo_S32768x2_S32768_d1 h_S_)))))
def gates (N : FVec Ideal S32768x2 .f32) : FVec Ideal S32768x2 .f32 := Host.divf N (broadcastInDim S32768x2 ![0, 1] bcast_S32768x1_S32768x2_0_1 (broadcastInDim S32768x1 ![0] bcast_S32768_S32768x1_0 (Host.reduceAdd N (constant S_ .f32 0x00000000#32) reducesTo_S32768x2_S32768_d1 h_S_)))
def slab (a b d : FVec Ideal S32768x2 .f32) : FVec Ideal S32768x128 .f32 :=
  pad S32768x128 ![0, 0] ![0, 122] ![0, 0] ((concatenate S32768x6 1 [⟨S32768x2, (a : (⟨S32768x2, .f32⟩ : BufTy).Contents (Elt Ideal))⟩, ⟨S32768x2, (b : (⟨S32768x2, .f32⟩ : BufTy).Contents (Elt Ideal))⟩, ⟨S32768x2, (d : (⟨S32768x2, .f32⟩ : BufTy).Contents (Elt Ideal))⟩] concatenates_S32768x2_S32768x2_S32768x2_S32768x6_d1 : (⟨S32768x6, .f32⟩ : BufTy).Contents (Elt Ideal))) (sitofp .f32 (constantI S_ 32 0#32)) pads_S32768x6_S32768x128_000_01220 h_S_
def counts (K : FVec Ideal S32768x8 .f32) : FVec Ideal S1x128 .f32 := addf C0 (broadcastInDim S1x128 ![1] bcast_S128_S1x128_1 (pad S128 ![0] ![120] ![0] (Host.reduceAdd K (constant S_ .f32 0x00000000#32) reducesTo_S32768x8_S8_d0 h_S_) (sitofp .f32 (constantI S_ 32 0#32)) pads_S8_S128_01200 h_S_))
def logits (x : FVec Ideal S32768x1024 .f32) (w : FVec Ideal S1024x8 .f32) (b : FVec Ideal S8 .f32) : FVec Ideal S32768x8 .f32 :=
  addf (Host.dotGeneral dot_S32768x1024_S1024x8_S32768x8_1_0_0_1_n_n none x w) (broadcastInDim S32768x8 ![0, 1] bcast_S1x8_S32768x8_0_1 (broadcastInDim S1x8 ![1] bcast_S8_S1x8_1 b))
end Terms

/-! ## The two greatest -/

theorem along_row (j : S32768x8.Idx) (k : Fin 8) : j.along (1 : Fin 2) k = ValueIdx.ix2 (j 0) k := by
  funext a
  match a with
  | ⟨0, _⟩ => rfl
  | ⟨1, _⟩ => rfl
theorem is_before (a b : EReal) : ((FloatOps.cmpfTotal (F := Ideal) (φ := .f32) .gt a b : BitVec 1) == 1#1) = decide (b < a) := by
  show (BitVec.ofBool (decide (b < a)) == 1#1) = decide (b < a)
  cases decide (b < a) <;> rfl

section TopK
variable (l : FVec Ideal S32768x8 .f32)
theorem place_row (j : S32768x8.Idx) :
    sortedFrom (fun k k' : Fin 8 => (FloatOps.cmpfTotal (F := Ideal) (φ := .f32) .gt (l (j.along (1 : Fin 2) k)) (l (j.along (1 : Fin 2) k')) : BitVec 1) == 1#1) (j 1) = sorted (fun e => l (ValueIdx.ix2 (j 0) e)) (j 1) := by
  unfold sorted
  refine congrFun (congrArg sortedFrom (funext fun k => funext fun k' => ?_)) (j 1)
  exact (is_before _ _).trans (congrArg₂ (fun a b : S32768x8.Idx => decide (l b < l a)) (along_row j k) (along_row j k'))
theorem sort_apply (y : IVec S32768x8 32) (j : S32768x8.Idx) :
    (Host.sort2 S32768x8 1 (fun a b : EReal × BitVec 32 => FloatOps.cmpfTotal (F := Ideal) (φ := .f32) .gt a.1 b.1) l y).1 j = l (ValueIdx.ix2 (j 0) (sorted (fun e => l (ValueIdx.ix2 (j 0) e)) (j 1)))
      ∧ (Host.sort2 S32768x8 1 (fun a b : EReal × BitVec 32 => FloatOps.cmpfTotal (F := Ideal) (φ := .f32) .gt a.1 b.1) l y).2 j = y (ValueIdx.ix2 (j 0) (sorted (fun e => l (ValueIdx.ix2 (j 0) e)) (j 1))) := by
  unfold Host.sort2
  rw [dif_pos (by decide)]
  exact ⟨(congrArg (fun q => l (j.along (1 : Fin 2) q)) (place_row l j)).trans (congrArg l (along_row j _)),
    (congrArg (fun q => y (j.along (1 : Fin 2) q)) (place_row l j)).trans (congrArg y (along_row j _))⟩

/-- The positions in a row. -/
def positions : IVec S32768x8 32 := fun i => if hd : 1 < S32768x8.rank then iotaInDim S32768x8 32 ⟨1, hd⟩ i else 0#32

/-- Where a row's greatest and second stand, as positions. -/
def top (r : Fin 32768) (k : Fin 2) : Fin 8 := sorted (fun e => l (ValueIdx.ix2 r e)) ⟨k.val, by omega⟩

theorem top_value (r : Fin 32768) (k : Fin 2) : (Host.topK S32768x2 1 (FloatOps.cmpfTotal (F := Ideal) (φ := .f32) .gt) l sliceFits_S32768x8_S32768x2).1 (ValueIdx.ix2 r k) = l (ValueIdx.ix2 r (top l r k)) := by
  refine (sort_apply l positions _).1.trans (congrArg l ?_)
  exact congrArg₂ (fun (a : Fin 32768) (b : Fin 8) => (ValueIdx.ix2 a (sorted (fun e => l (ValueIdx.ix2 a e)) b) : S32768x8.Idx)) (Fin.ext (Nat.zero_add _)) (Fin.ext (Nat.zero_add _))
theorem top_index (r : Fin 32768) (k : Fin 2) : (Host.topK S32768x2 1 (FloatOps.cmpfTotal (F := Ideal) (φ := .f32) .gt) l sliceFits_S32768x8_S32768x2).2 (ValueIdx.ix2 r k) = BitVec.ofNat 32 (top l r k).val := by
  show (Host.sort2 S32768x8 1 (fun a b : EReal × BitVec 32 => FloatOps.cmpfTotal (F := Ideal) (φ := .f32) .gt a.1 b.1) l positions).2 _ = _
  refine (sort_apply l positions _).2.trans ?_
  exact congrArg₂ (fun (a : Fin 32768) (b : Fin 8) => BitVec.ofNat 32 (sorted (fun e => l (ValueIdx.ix2 a e)) b).val) (Fin.ext (Nat.zero_add _)) (Fin.ext (Nat.zero_add _))
end TopK

/-! ## The terms at an index -/

section Read
variable (TV : FVec Ideal S32768x2 .f32) (TI : IVec S32768x2 32) (C0 : FVec Ideal S1x128 .f32) (p : Fin 32768 → Fin 2 → Fin 8)
  (hTI : ∀ r k, TI (ValueIdx.ix2 r k) = BitVec.ofNat 32 (p r k).val) (hne : ∀ r, p r 0 ≠ p r 1)

include hTI in
theorem hot_apply (r : Fin 32768) (k : Fin 2) (e : Fin 8) : hot TI (ValueIdx.ix3 r k e) = if p r k = e then (1 : EReal) else 0 := by
  unfold hot
  pointwise
  have h : IntOp.cmpi .eq (TI (ValueIdx.ix2 r k)) (BitVec.ofNat 32 e.val) = BitVec.ofBool (decide (p r k = e)) := by
    rw [hTI]
    generalize p r k = q
    revert q e; decide
  exact (congrArg (FloatOps.uitofp (F := Ideal) .f32) h).trans (uitofp_bool _ _)

include hTI hne in
theorem chosen_apply (r : Fin 32768) (e : Fin 8) : chosen (hot TI) (ValueIdx.ix2 r e) = hit (p r 0) (p r 1) e := by
  unfold chosen
  pointwise
  refine (Finset.sum_congr rfl fun k _ => hot_apply TI p hTI r k e).trans ?_
  rw [Fin.sum_univ_two]
  exact hit_sum (hne r) e

include hTI hne in
theorem before_apply (r : Fin 32768) (e : Fin 8) : before C0 (chosen (hot TI)) (ValueIdx.ix2 r e) = rankOf (fun r => p r 0) (fun r => p r 1) (fun l => C0 (ValueIdx.ix2 0 l)) r e := by
  unfold before
  pointwise
  refine congrArg₂ (α := EReal) (β := EReal) (· + ·) rfl (Finset.sum_congr rfl fun s _ => ?_)
  have h : IntOp.cmpi .slt (BitVec.ofNat 32 s.val) (BitVec.ofNat 32 r.val) = BitVec.ofBool (decide (s < r)) := congrArg BitVec.ofBool (word_lt_of (by decide) s r)
  have hz : (FloatOps.sitofp (F := Ideal) .f32 0#32 : EReal) = 0 := (num_sitofp (n := 0) (by decide)).trans num_zero
  have hr : (ValueIdx.ix2 r e 0).val = r.val := rfl
  rw [hr, h, hz]
  rw [show chosen (hot TI) (ix2 s (ValueIdx.ix2 r e 1)) = hit (p s 0) (p s 1) e from chosen_apply TI p hTI hne s e]
  by_cases hs : s < r <;> simp [hs, Scalar.select]

theorem ranks_apply (B : FVec Ideal S32768x8 .f32) (r : Fin 32768) (k : Fin 2) (hH : ∀ e, hot TI (ValueIdx.ix3 r k e) = if p r k = e then (1 : EReal) else 0) : ranks (hot TI) B (ValueIdx.ix2 r k) = B (ValueIdx.ix2 r (p r k)) := by
  unfold ranks
  pointwise
  refine Eq.trans (Finset.sum_congr rfl fun e _ => (congrArg (· * B (ValueIdx.ix2 r e)) (hH e)).trans (ite_mul _ _ _ _)) ?_
  rw [Finset.sum_eq_single (p r k)]
  · rw [if_pos rfl, one_mul]
  · intro e _ he
    rw [if_neg he.symm, zero_mul]
  · intro h
    exact absurd (Finset.mem_univ _) h

include hTI hne in
theorem counts_apply (l : Fin 128) : counts C0 (chosen (hot TI)) (ValueIdx.ix2 0 l) = countOf (fun r => p r 0) (fun r => p r 1) (fun l => C0 (ValueIdx.ix2 0 l)) l := by
  have hz : (FloatOps.sitofp (F := Ideal) .f32 0#32 : EReal) = 0 := (num_sitofp (n := 0) (by decide)).trans num_zero
  unfold counts countOf
  pointwise
  refine congrArg₂ (α := EReal) (β := EReal) (· + ·) rfl ?_
  show (if h : l.val < 8 then ∑ s, chosen (hot TI) (ValueIdx.ix2 s ⟨l.val, h⟩) else FloatOps.sitofp (F := Ideal) .f32 0#32) = _
  by_cases h : l.val < 8
  · rw [dif_pos h, dif_pos h]
    exact Finset.sum_congr rfl fun s _ => chosen_apply TI p hTI hne s ⟨l.val, h⟩
  · rw [dif_neg h, dif_neg h]
    exact hz

/-- The two gates, where the first of the two values is a number and is the greater. -/
theorem gates_apply (r : Fin 32768) (h1 : IsReal (TV (ValueIdx.ix2 r 0))) (h2 : TV (ValueIdx.ix2 r 1) ≤ TV (ValueIdx.ix2 r 0)) :
    gates (numer TV) (ValueIdx.ix2 r 0) = Ideal.div 1 (1 + Ideal.exp (TV (ValueIdx.ix2 r 1) - TV (ValueIdx.ix2 r 0)))
      ∧ gates (numer TV) (ValueIdx.ix2 r 1) = Ideal.div (Ideal.exp (TV (ValueIdx.ix2 r 1) - TV (ValueIdx.ix2 r 0))) (1 + Ideal.exp (TV (ValueIdx.ix2 r 1) - TV (ValueIdx.ix2 r 0))) := by
  have hg : ∀ k, gates (numer TV) (ValueIdx.ix2 r k) = Ideal.div (numer TV (ValueIdx.ix2 r k)) (∑ j, numer TV (ValueIdx.ix2 r j)) := fun k => by
    unfold gates
    pointwise
    rfl
  have hm : ∀ k, numer TV (ValueIdx.ix2 r k) = Ideal.exp (TV (ValueIdx.ix2 r k) - TV (ValueIdx.ix2 r 0)) := fun k => by
    unfold numer
    pointwise
    rw [bits_bot]
    have hf : Finset.fold max ⊥ (fun j : Fin 2 => TV (ValueIdx.ix2 r j)) Finset.univ = TV (ValueIdx.ix2 r 0) :=
      le_antisymm (Finset.fold_max_le _ |>.mpr ⟨bot_le, fun j _ => by
        match j with
        | ⟨0, _⟩ => exact le_refl _
        | ⟨1, _⟩ => exact h2⟩) (Finset.le_fold_max _ |>.mpr (Or.inr ⟨0, Finset.mem_univ _, le_refl _⟩))
    exact congrArg (fun a => Ideal.exp (TV (ValueIdx.ix2 r k) - a)) ((max_eq_right bot_le).trans hf)
  have h0 : numer TV (ValueIdx.ix2 r 0) = 1 := by
    rw [hm, h1.sub_self, ← EReal.coe_zero, Ideal.exp_coe, Real.exp_zero, EReal.coe_one]
  rw [hg, hg, Fin.sum_univ_two, h0, hm 1]
  exact ⟨rfl, rfl⟩

theorem slab_apply (a b d : FVec Ideal S32768x2 .f32) (r : Fin 32768) (l : Fin 128) :
    slab a b d (ValueIdx.ix2 r l) = if l.val = 0 then a (ValueIdx.ix2 r 0) else if l.val = 1 then a (ValueIdx.ix2 r 1) else if l.val = 2 then b (ValueIdx.ix2 r 0) else if l.val = 3 then b (ValueIdx.ix2 r 1)
      else if l.val = 4 then d (ValueIdx.ix2 r 0) else if l.val = 5 then d (ValueIdx.ix2 r 1) else 0 := by
  have hz : (FloatOps.sitofp (F := Ideal) .f32 0#32 : EReal) = 0 := (num_sitofp (n := 0) (by decide)).trans num_zero
  unfold slab
  pointwise
  have e : ∀ (f : FVec Ideal S32768x2 .f32) (k k' : Fin 2), k.val = k'.val → f (ValueIdx.ix2 r k) = f (ValueIdx.ix2 r k') := fun f k k' h => congrArg (fun q : Fin 2 => f (ValueIdx.ix2 r q)) (Fin.ext h)
  show (if h : l.val < 6 then if h1 : l.val < 2 then a (ValueIdx.ix2 r ⟨l.val, h1⟩) else if h2 : l.val - 2 < 2 then b (ValueIdx.ix2 r ⟨l.val - 2, h2⟩) else d (ValueIdx.ix2 r ⟨l.val - 2 - 2, by omega⟩)
    else FloatOps.sitofp (F := Ideal) .f32 0#32) = _
  split_ifs <;> first | omega | exact hz | exact e _ _ _ (by simp only [Fin.val_zero, Fin.val_one]; omega)

theorem logits_apply (x : FVec Ideal S32768x1024 .f32) (w : FVec Ideal S1024x8 .f32) (b : FVec Ideal S8 .f32) (r : Fin 32768) (e : Fin 8) :
    logits x w b (ValueIdx.ix2 r e) = (∑ k, x (ValueIdx.ix2 r k) * w (ValueIdx.ix2 k e)) + b (ValueIdx.ix1 e) := by
  unfold logits
  pointwise
  rfl
end Read

end Cert.Reference9Ideal.Router

end
-- ==== Proof.RouterPrompt.Claims.lean ====
/- The claims about the router for the prompt group's rows. -/
module

public import proofs.«01_k».proof.Defs
public import proofs.«01_k».proof.Proof.RouterPrompt.Value
public import proofs.«01_k».proof.Proof.RouterPrompt.Reference
public import proofs.«01_k».proof.Proof.Gen.Kernel9.Frame
public import Idealize.ShloMosaic.Lib.WordCmp

@[expose] public section

set_option maxRecDepth 16384

noncomputable section

namespace Cert.RouterPrompt

open Cert.Router Idealize.ShloMosaic Idealize.ShloMosaic.TcCoe Idealize.SL.Sem

instance preFacts : Cert.Pre_finite_prompt.Facts := by
  constructor <;> decide

theorem frame_kernel : Cert.quiescent_Kernel9 := fun m ρ _ => Cert.Kernel9.Gen.frame m ρ
theorem frame_ideal : Cert.quiescent_Kernel9Ideal := fun m ρ _ => Cert.Kernel9Ideal.Gen.frame m ρ
theorem frame_ideal_pre : Cert.quiescent_Kernel9Ideal_pre_finite_prompt := fun m ρ _ => Cert.Kernel9Ideal.Gen.frame m ρ
theorem frame_ref : Cert.quiescent_Reference9Ideal := fun m ρ _ =>
  (θ_run Cert.Reference9Ideal.defs _ _).mono (fun r h => ⟨fun c => (h c).2.2, Idealize.ShloMosaic.sem_eq_zero_of_no_sems (by decide) r.2⟩) (Cert.Reference9Ideal.Value.run (F := Ideal) m ρ)
theorem frame_ref_pre : Cert.quiescent_Reference9Ideal_pre_finite_prompt := fun m ρ _ => frame_ref m ρ trivial

/-! ## The precondition -/

section Pre
variable (x : FVec Ideal Cert.Pre_finite_prompt.S32768x1024 .f32) (w : FVec Ideal Cert.Pre_finite_prompt.S1024x8 .f32) (b : FVec Ideal Cert.Pre_finite_prompt.S8 .f32) (c : FVec Ideal Cert.Pre_finite_prompt.S1x128 .f32)
  (h : Cert.Pre_finite_prompt.fn (F := Ideal) x w b c = fun _ => 1#1)
include h
theorem finite_at (r : Fin 32768) (k : Fin 1024) (e : Fin 8) : IsReal (x (ValueIdx.ix2 r k)) ∧ IsReal (w (ValueIdx.ix2 k e)) ∧ IsReal (b (ValueIdx.ix1 e)) := by
  have he := congrFun h (ValueIdx.ix3 r k e)
  unfold Cert.Pre_finite_prompt.fn at he
  have hs : ∀ a : EReal, BitVec.ofBool (decide (max a (-a) < Ideal.ofBits .f32 0x7F800000#32)) = 1#1 → IsReal a := by
    intro a ha
    rw [bits_top, WordCmp.ofBool_eq_one_iff, decide_eq_true_iff] at ha
    exact real_of_abs ha
  have he' : IntOp.andi (IntOp.andi (BitVec.ofBool (decide (max (x (ValueIdx.ix2 r k)) (-(x (ValueIdx.ix2 r k))) < Ideal.ofBits .f32 0x7F800000#32)))
      (BitVec.ofBool (decide (max (w (ValueIdx.ix2 k e)) (-(w (ValueIdx.ix2 k e))) < Ideal.ofBits .f32 0x7F800000#32))))
      (BitVec.ofBool (decide (max (b (ValueIdx.ix1 e)) (-(b (ValueIdx.ix1 e))) < Ideal.ofBits .f32 0x7F800000#32))) = 1#1 := by
    refine Eq.trans (Eq.symm ?_) he
    pointwise
    rfl
  have hb : ∀ u v : BitVec 1, IntOp.andi u v = 1#1 → u = 1#1 ∧ v = 1#1 := by decide
  obtain ⟨h12, h3⟩ := hb _ _ he'
  obtain ⟨h1, h2⟩ := hb _ _ h12
  exact ⟨hs _ h1, hs _ h2, hs _ h3⟩
theorem finite_x (i : Cert.Pre_finite_prompt.S32768x1024.Idx) : IsReal (x i) :=
  (congrArg (fun j => IsReal (x j)) (ValueIdx.eq_ix2 i)).mpr (finite_at x w b c h (i 0) (i 1) 0).1
theorem finite_w (i : Cert.Pre_finite_prompt.S1024x8.Idx) : IsReal (w i) :=
  (congrArg (fun j => IsReal (w j)) (ValueIdx.eq_ix2 i)).mpr (finite_at x w b c h 0 (i 0) (i 1)).2.1
theorem finite_b (i : Cert.Pre_finite_prompt.S8.Idx) : IsReal (b i) :=
  (congrArg (fun j => IsReal (b j)) (ValueIdx.eq_ix1 i)).mpr (finite_at x w b c h 0 0 (i 0)).2.2
end Pre

/-! ## The reference's results -/

section Reference
open Cert.Reference9Ideal Cert.Reference9Ideal.Gen Cert.Reference9Ideal.Router
variable (x : FVec Ideal S32768x1024 .f32) (w : FVec Ideal S1024x8 .f32) (b : FVec Ideal S8 .f32) (C0 : FVec Ideal S1x128 .f32)

/-- The reference's sorted scores, and where they stood. -/
abbrev topV : FVec Ideal S32768x2 .f32 := (Host.topK S32768x2 1 (FloatOps.cmpfTotal .gt) (logits x w b) sliceFits_S32768x8_S32768x2).1
abbrev topI : IVec S32768x2 32 := (Host.topK S32768x2 1 (FloatOps.cmpfTotal .gt) (logits x w b) sliceFits_S32768x8_S32768x2).2
/-- The reference's slab. -/
def slabTerm : FVec Ideal S32768x128 .f32 := slab (sitofp .f32 (topI x w b)) (gates (numer (topV x w b))) (ranks (hot (topI x w b)) (before C0 (chosen (hot (topI x w b)))))

section Row
variable (s : Fin 32768 → Fin 8 → EReal) (hs : ∀ r e, s r e = (∑ k, x (ValueIdx.ix2 r k) * w (ValueIdx.ix2 k e)) + b (ValueIdx.ix1 e)) (hr : ∀ r e, IsReal (s r e))
include hs
theorem row_eq (r : Fin 32768) : (fun e => logits x w b (ValueIdx.ix2 r e)) = s r := funext fun e => (logits_apply x w b r e).trans (hs r e).symm
theorem topI_apply (r : Fin 32768) (k : Fin 2) : topI x w b (ValueIdx.ix2 r k) = BitVec.ofNat 32 (sorted (s r) ⟨k.val, by omega⟩).val := by
  refine (top_index (logits x w b) r k).trans ?_
  unfold top
  rw [row_eq x w b s hs r]
theorem topV_apply (r : Fin 32768) (k : Fin 2) : topV x w b (ValueIdx.ix2 r k) = s r (sorted (s r) ⟨k.val, by omega⟩) := by
  refine (top_value (logits x w b) r k).trans ?_
  unfold top
  rw [row_eq x w b s hs r]
  exact congrFun (row_eq x w b s hs r) _
omit hs in
theorem top_differ (r : Fin 32768) : sorted (s r) 0 ≠ sorted (s r) 1 :=
  fun h => absurd (sortedFrom_injective (fun a b : Fin 8 => decide (s r b < s r a)) h) (by decide)

include hr in
theorem slab_value (r : Fin 32768) (l : Fin 128) : slabTerm x w b C0 (ValueIdx.ix2 r l) = slabOf (fun r => sorted (s r) 0) (fun r => sorted (s r) 1) (fun l => C0 (ValueIdx.ix2 0 l)) (s r (sorted (s r) 0)) (s r (sorted (s r) 1)) r l := by
  have hI := topI_apply x w b s hs
  have hV := topV_apply x w b s hs
  have hH := hot_apply (topI x w b) (fun r k => sorted (s r) ⟨k.val, by omega⟩) hI
  have hB := before_apply (topI x w b) C0 (fun r k => sorted (s r) ⟨k.val, by omega⟩) hI (top_differ s)
  have hn : ∀ k : Fin 2, sitofp (F := Ideal) .f32 (topI x w b) (ValueIdx.ix2 r k) = num (sorted (s r) ⟨k.val, by omega⟩).val := fun k =>
    (congrArg (FloatOps.sitofp (F := Ideal) .f32) (hI r k)).trans (num_sitofp (by omega))
  obtain ⟨g1, g2⟩ := gates_apply (topV x w b) r (by rw [hV]; exact hr _ _) (by rw [hV, hV]; exact (sorted_zero (s r)).le _)
  have hk : ∀ k : Fin 2, ranks (hot (topI x w b)) (before C0 (chosen (hot (topI x w b)))) (ValueIdx.ix2 r k) = _ := fun k =>
    (ranks_apply (topI x w b) (fun r k => sorted (s r) ⟨k.val, by omega⟩) _ r k (hH r k)).trans (hB r _)
  unfold slabTerm
  refine (slab_apply _ _ _ r l).trans ?_
  unfold slabOf
  rw [hn 0, hn 1, g1, g2, hk 0, hk 1, hV r 0, hV r 1]
  rfl
theorem counts_value (l : Fin 128) : counts C0 (chosen (hot (topI x w b))) (ValueIdx.ix2 0 l) = countOf (fun r => sorted (s r) 0) (fun r => sorted (s r) 1) (fun l => C0 (ValueIdx.ix2 0 l)) l :=
  counts_apply (topI x w b) C0 (fun r k => sorted (s r) ⟨k.val, by omega⟩) (topI_apply x w b s hs) (top_differ s) l
end Row
end Reference

section
open Cert.Reference9Ideal Cert.Reference9Ideal.Gen Cert.Reference9Ideal.Router
variable (m : (ℓ : Loc nD τ sig) → Buf (Elt Ideal) ℓ)

theorem run_ref (ρ : Dev nD → PrngReg) :
    θ_run defs (onTc (τ := τ) (main (F := Ideal))) ⟨m, fun _ => 0, ρ⟩ fun r => ∀ c : Dev nD,
      (r.2.mem ((c.tc : Thread nD τ).loc main_v37) = slabTerm (m ((c.tc : Thread nD τ).loc main_arg0)) (m ((c.tc : Thread nD τ).loc main_arg1)) (m ((c.tc : Thread nD τ).loc main_arg2)) (m ((c.tc : Thread nD τ).loc main_arg3))
      ∧ r.2.mem ((c.tc : Thread nD τ).loc main_v41) = counts (m ((c.tc : Thread nD τ).loc main_arg3)) (chosen (hot (topI (m ((c.tc : Thread nD τ).loc main_arg0)) (m ((c.tc : Thread nD τ).loc main_arg1)) (m ((c.tc : Thread nD τ).loc main_arg2))))))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨⟨(h c).1.trans ?_, (h c).2.1.trans ?_⟩, (h c).2.2⟩) (Cert.Reference9Ideal.Value.run (F := Ideal) m ρ)
  · unfold Cert.Reference9Ideal.Value.res_main_v37
    rfl
  · rfl
end

open Cert.Kernel9Ideal.Router in
theorem algebraic : Cert.algebraic_Kernel9Ideal_Reference9Ideal_pre_finite_prompt := by
  intro m g m' g' hpre hargs
  refine ⟨fun c => Cert.Kernel9Ideal.Value.G6 m c, fun c => Cert.Kernel9Ideal.Value.G7 m c, Cert.Kernel9Ideal.Value.run m g, ?_⟩
  refine (θ_run Cert.Reference9Ideal.defs _ _).mono (fun r h c => ?_) (run_ref m' g')
  obtain ⟨h0, h1, h2, h3⟩ := hargs c
  have hx := finite_x _ _ _ _ (hpre c)
  have hw := finite_w _ _ _ _ (hpre c)
  have hb := finite_b _ _ _ _ (hpre c)
  obtain ⟨⟨R0, R1⟩, A⟩ := h c
  rw [h0, h1, h2, h3] at R0
  rw [h0, h1, h2, h3] at R1
  refine ⟨funext fun i => ?_, funext fun i => ?_, A⟩
  · obtain ⟨r, l, rfl⟩ : ∃ (r : Fin 32768) (l : Fin 128), i = ValueIdx.ix2 r l := ⟨i 0, i 1, ValueIdx.eq_ix2 i⟩
    refine (congrFun R0 _).trans (Eq.trans ?_ (res_slab m c hx hw hb r l).symm)
    exact slab_value (argX m c) (argW m c) (argB m c) (argC m c) (S m c) (fun _ _ => rfl) (fun r e => (IsReal.sum _ _ fun k => (hx _).mul (hw _)).add (hb _)) r l
  · obtain ⟨l, rfl⟩ : ∃ (l : Fin 128), i = ValueIdx.ix2 0 l := ⟨i 1, (ValueIdx.eq_ix2 i).trans (congrArg (fun a : Fin 1 => ValueIdx.ix2 a (i 1)) (Subsingleton.elim _ _))⟩
    refine (congrFun R1 _).trans (Eq.trans ?_ (res_counts m c hx hw hb l).symm)
    exact counts_value (argX m c) (argW m c) (argB m c) (argC m c) (S m c) (fun _ _ => rfl) l

end Cert.RouterPrompt

end
-- ==== Proof.MergeSample.Value.lean ====
/- The output projection with its norm, of the sample group: what the kernel's result holds at a row and a column. -/
module

public import proofs.«01_k».proof.Proof.Norm
public import proofs.«01_k».proof.Proof.Gen.Kernel7Ideal.Value
public import Idealize.ShloMosaic.Lib.Pipeline.Value
public import Idealize.ShloMosaic.Lib.Pipeline.ValueKit.Basic
public import Idealize.ShloMosaic.Lib.StableHlo.RunRead

@[expose] public section

set_option maxRecDepth 16384

noncomputable section

namespace Cert.Kernel7Ideal.MergeSample

open Cert.Kernel7Ideal Cert.Kernel7Ideal.Gen Cert.Norm
open Idealize.ShloMosaic Idealize.ShloMosaic.TcCoe Idealize.SL.Sem
open Idealize.ShloMosaic.Pipeline (Dat Cfg Window)

section Array
variable {F : FTy → Type} [FloatOps F] (m : (ℓ : Loc nD τ sig) → Buf (Elt F) ℓ)

/-! ## The output array, tile by tile -/

/-- Tiles of 128 rows, stacked. -/
def spread (g : Fin grid0.N → Vec F S128x1024 .f32) : Vec F S128x1024 .f32 := fun i =>
  g ⟨(i 0).val / 128, by rw [Gen.N_0]; have : (i 0).val < 128 := (i 0).isLt; omega⟩ (ValueIdx.ix2 ⟨(i 0).val % 128, Nat.mod_lt _ (by decide)⟩ (i 1))

/-- A row of the stack is the row of its tile. -/
theorem spread_at (g : Fin grid0.N → Vec F S128x1024 .f32) (t : Fin grid0.N) (j : S128x1024.Idx) (i : S128x1024.Idx)
    (h0 : (i 0).val = t.val * 128 + (j 0).val) (h1 : (i 1).val = (j 1).val) : spread g i = g t j := by
  have hj : (j 0).val < 128 := (j 0).isLt
  have e1 : ∀ h, (⟨(i 0).val / 128, h⟩ : Fin grid0.N) = t := fun _ => Fin.ext (by show (i 0).val / 128 = t.val; omega)
  have e2 : ∀ h, (ValueIdx.ix2 ⟨(i 0).val % 128, h⟩ (i 1) : S128x1024.Idx) = j := fun _ => funext fun a => by
    match a with
    | ⟨0, _⟩ => exact Fin.ext (by show (i 0).val % 128 = (j 0).val; omega)
    | ⟨1, _⟩ => exact Fin.ext h1
  unfold spread
  rw [e1, e2]

/-- What a point's body leaves in its block of the output. -/
def tile (c : Dev nD) (t : Fin cfg0.N) : Vec F S128x1024 .f32 :=
  k0_pay1 (k0_pay2 (iblk m c 6 t)) (k0_pay3 (iblk m c 0 t) (iblk m c 3 t) (iblk m c 1 t) (iblk m c 4 t) (iblk m c 2 t) (iblk m c 5 t))

/-- The output array. -/
def outArr (c : Dev nD) : Vec F S128x1024 .f32 := spread (fun t => tile m c t)

theorem out_eq (x0 : Vec F S128x512 .bf16) (x1 : Vec F S128x512 .bf16) (x2 : Vec F S128x1024 .f32) (x3 : Vec F S512x1024 .bf16) (x4 : Vec F S512x1024 .bf16) (x5 : Vec F S1x1024 .f32) (x6 : Vec F S1x1024 .f32) :
    out0_7 x0 x1 x2 x3 x4 x5 x6 = k0_pay1 (k0_pay2 x6) (k0_pay3 x0 x3 x1 x4 x2 x5) := by
  have ha : ∀ x : Vec F S128x512 .bf16, View.ld x r0_0 = x := fun x => View.ld_unit_lit _ x (by decide)
  have hb : ∀ x : Vec F S512x1024 .bf16, View.ld x r0_1 = x := fun x => View.ld_unit_lit _ x (by decide)
  have hd : ∀ x : Vec F S128x1024 .f32, View.ld x r0_2 = x := fun x => View.ld_unit_lit _ x (by decide)
  have hc : ∀ x : Vec F S1x1024 .f32, View.ld x r0_3 = x := fun x => View.ld_unit_lit _ x (by decide)
  unfold out0_7
  rw [ha, ha, hb, hb, hd, hc, hc]
  exact View.canon_cons_unit_lit _ _ _ (by decide)

theorem idx7 (t : Fin grid0.N) : cc0_transform_7 (grid0.coords t) = ![t.val, 0] := by
  revert t; decide +kernel

/-- A place of the output's block at a point, in the array. -/
theorem emb7 (t : Fin cfg0.N) (j : S128x1024.Idx) (a : Fin 2) :
    (((cfg0.win 7).blk t).view.emb j a).val = (![t.val, 0] : Fin 2 → ℕ) a * S128x1024.size a + (j a).val := by
  show cc0_transform_7 (grid0.coords t) a * S128x1024.size a + 1 * (j a).val = _
  rw [idx7 t, Nat.one_mul]

theorem cut_spread (g : Fin grid0.N → Vec F S128x1024 .f32) (t : Fin cfg0.N) :
    (cfg0.win 7).cut (grid0.coords t) (g t) = ((cfg0.win 7).blk t).view.read (Elt F) (spread g) := by
  refine funext fun j => ?_
  have h0 := emb7 t j 0
  have h1 : _ = 0 * 1024 + _ := emb7 t j 1
  rw [Nat.zero_mul, Nat.zero_add] at h1
  exact (spread_at g t j _ h0 h1).symm

theorem flushed_eq (c : Dev nD) (t : Fin cfg0.N) :
    (dats m 0 c).flushed 7 t = ((cfg0.win 7).blk t).view.read (Elt F) (outArr m c) := by
  rw [Value.flushed7, out_eq]
  exact cut_spread (fun t => tile m c t) t

theorem cover (i : S128x1024.Idx) : ∃ t, (cfg0.win 7).flush t = true ∧ i ∈ ((cfg0.win 7).blk t).view.set := by
  have hi : (i 0).val < 128 := (i 0).isLt
  refine ⟨⟨(i 0).val / 128, by show _ < grid0.N; rw [Gen.N_0]; omega⟩, flush0_7 _, ?_⟩
  have h := ((cfg0.win 7).blk ⟨(i 0).val / 128, by show _ < grid0.N; rw [Gen.N_0]; omega⟩).view.emb_mem_set (ValueIdx.ix2 ⟨(i 0).val % 128, Nat.mod_lt _ (by decide)⟩ (i 1) : S128x1024.Idx)
  refine (congrArg (· ∈ _) (funext fun a => Fin.ext ?_)).mp h
  refine (emb7 _ _ a).trans ?_
  match a with
  | ⟨0, _⟩ => show (i 0).val / 128 * 128 + (i 0).val % 128 = (i 0).val; omega
  | ⟨1, _⟩ => show 0 * 1024 + (i 1).val = (i 1).val; omega

theorem final_out (c : Dev nD) : (dats m 0 c).arrAt 7 cfg0.N = outArr m c :=
  (dats m 0 c).arrAt_eq_of_cover 7 (outArr m c) (fun t _ => flushed_eq m c t) cover

/-! ## The arrays that the host code prepares -/

theorem V_a (c : Dev nD) : V m c main_v1 = truncf .bf16 (m ((c : Thread nD τ).loc main_arg0) : Vec F S128x512 .f32) bitsLt_bf16_f32 := by
  show StableHlo.after hostOps0 (fun b => m (c, b)) (Proc.devRef .tc main_v1) = _
  after_reads_simp
theorem V_b (c : Dev nD) : V m c main_v2 = truncf .bf16 (m ((c : Thread nD τ).loc main_arg1) : Vec F S128x512 .f32) bitsLt_bf16_f32 := by
  show StableHlo.after hostOps0 (fun b => m (c, b)) (Proc.devRef .tc main_v2) = _
  after_reads_simp
theorem V_wa (c : Dev nD) : V m c main_v3 = extractStridedSlice S512x1024 ![0, 0] (truncf .bf16 (m ((c : Thread nD τ).loc main_arg3) : Vec F S1024x1024 .f32) bitsLt_bf16_f32) slices_S1024x1024_S512x1024_0_0 := by
  show StableHlo.after hostOps0 (fun b => m (c, b)) (Proc.devRef .tc main_v3) = _
  after_reads_simp
theorem V_wb (c : Dev nD) : V m c main_v4 = extractStridedSlice S512x1024 ![512, 0] (truncf .bf16 (m ((c : Thread nD τ).loc main_arg3) : Vec F S1024x1024 .f32) bitsLt_bf16_f32) slices_S1024x1024_S512x1024_512_0 := by
  show StableHlo.after hostOps0 (fun b => m (c, b)) (Proc.devRef .tc main_v4) = _
  after_reads_simp
theorem V_g (c : Dev nD) : V m c main_v5 = broadcastInDim S1x1024 ![1] bcast_S1024_S1x1024_1 (m ((c : Thread nD τ).loc main_arg4) : Vec F S1024 .f32) := by
  show StableHlo.after hostOps0 (fun b => m (c, b)) (Proc.devRef .tc main_v5) = _
  after_reads_simp
theorem V_beta (c : Dev nD) : V m c main_v6 = broadcastInDim S1x1024 ![1] bcast_S1024_S1x1024_1 (m ((c : Thread nD τ).loc main_arg5) : Vec F S1024 .f32) := by
  show StableHlo.after hostOps0 (fun b => m (c, b)) (Proc.devRef .tc main_v6) = _
  after_reads_simp

/-! ## The input blocks -/

theorem row_idx (t : Fin grid0.N) : cc0_transform_0 (grid0.coords t) = ![t.val, 0] ∧ cc0_transform_1 (grid0.coords t) = ![t.val, 0] ∧ cc0_transform_2 (grid0.coords t) = ![t.val, 0] := by
  revert t; decide +kernel
theorem full_idx (t : Fin grid0.N) : cc0_transform_3 (grid0.coords t) = ![0, 0] ∧ cc0_transform_4 (grid0.coords t) = ![0, 0] ∧ cc0_transform_5 (grid0.coords t) = ![0, 0] ∧ cc0_transform_6 (grid0.coords t) = ![0, 0] := by
  revert t; decide +kernel

theorem iblk_0 (c : Dev nD) (t : Fin cfg0.N) (r : Fin 128) (k : Fin 512) (R : Fin 128) (hR : R.val = t.val * 128 + r.val) :
    (iblk m c 0 t : Vec F S128x512 .bf16) (ValueIdx.ix2 r k) = V m c main_v1 (ValueIdx.ix2 R k) := by
  refine congrArg (V m c main_v1) (funext fun a => Fin.ext ?_)
  show cc0_transform_0 (grid0.coords t) a * S128x512.size a + 1 * (ValueIdx.ix2 r k a).val = _
  rw [(row_idx t).1]
  match a with
  | ⟨0, _⟩ => show t.val * 128 + 1 * r.val = R.val; omega
  | ⟨1, _⟩ => show 0 * 512 + 1 * k.val = k.val; omega
theorem iblk_1 (c : Dev nD) (t : Fin cfg0.N) (r : Fin 128) (k : Fin 512) (R : Fin 128) (hR : R.val = t.val * 128 + r.val) :
    (iblk m c 1 t : Vec F S128x512 .bf16) (ValueIdx.ix2 r k) = V m c main_v2 (ValueIdx.ix2 R k) := by
  refine congrArg (V m c main_v2) (funext fun a => Fin.ext ?_)
  show cc0_transform_1 (grid0.coords t) a * S128x512.size a + 1 * (ValueIdx.ix2 r k a).val = _
  rw [(row_idx t).2.1]
  match a with
  | ⟨0, _⟩ => show t.val * 128 + 1 * r.val = R.val; omega
  | ⟨1, _⟩ => show 0 * 512 + 1 * k.val = k.val; omega
theorem iblk_2 (c : Dev nD) (t : Fin cfg0.N) (r : Fin 128) (k : Fin 1024) (R : Fin 128) (hR : R.val = t.val * 128 + r.val) :
    (iblk m c 2 t : Vec F S128x1024 .f32) (ValueIdx.ix2 r k) = V m c main_arg2 (ValueIdx.ix2 R k) := by
  refine congrArg (V m c main_arg2) (funext fun a => Fin.ext ?_)
  show cc0_transform_2 (grid0.coords t) a * S128x1024.size a + 1 * (ValueIdx.ix2 r k a).val = _
  rw [(row_idx t).2.2]
  match a with
  | ⟨0, _⟩ => show t.val * 128 + 1 * r.val = R.val; omega
  | ⟨1, _⟩ => show 0 * 1024 + 1 * k.val = k.val; omega
theorem iblk_3 (c : Dev nD) (t : Fin cfg0.N) : (iblk m c 3 t : Vec F S512x1024 .bf16) = V m c main_v3 := by
  refine funext fun j => congrArg (V m c main_v3) (funext fun a => Fin.ext ?_)
  show cc0_transform_3 (grid0.coords t) a * S512x1024.size a + 1 * (j a).val = _
  rw [(full_idx t).1]
  match a with
  | ⟨0, _⟩ => show 0 * 512 + 1 * (j 0).val = (j 0).val; omega
  | ⟨1, _⟩ => show 0 * 1024 + 1 * (j 1).val = (j 1).val; omega
theorem iblk_4 (c : Dev nD) (t : Fin cfg0.N) : (iblk m c 4 t : Vec F S512x1024 .bf16) = V m c main_v4 := by
  refine funext fun j => congrArg (V m c main_v4) (funext fun a => Fin.ext ?_)
  show cc0_transform_4 (grid0.coords t) a * S512x1024.size a + 1 * (j a).val = _
  rw [(full_idx t).2.1]
  match a with
  | ⟨0, _⟩ => show 0 * 512 + 1 * (j 0).val = (j 0).val; omega
  | ⟨1, _⟩ => show 0 * 1024 + 1 * (j 1).val = (j 1).val; omega
theorem iblk_5 (c : Dev nD) (t : Fin cfg0.N) : (iblk m c 5 t : Vec F S1x1024 .f32) = V m c main_v5 := by
  refine funext fun j => congrArg (V m c main_v5) (funext fun a => Fin.ext ?_)
  show cc0_transform_5 (grid0.coords t) a * S1x1024.size a + 1 * (j a).val = _
  rw [(full_idx t).2.2.1]
  match a with
  | ⟨0, _⟩ => show 0 * 1 + 1 * (j 0).val = (j 0).val; omega
  | ⟨1, _⟩ => show 0 * 1024 + 1 * (j 1).val = (j 1).val; omega
theorem iblk_6 (c : Dev nD) (t : Fin cfg0.N) : (iblk m c 6 t : Vec F S1x1024 .f32) = V m c main_v6 := by
  refine funext fun j => congrArg (V m c main_v6) (funext fun a => Fin.ext ?_)
  show cc0_transform_6 (grid0.coords t) a * S1x1024.size a + 1 * (j a).val = _
  rw [(full_idx t).2.2.2]
  match a with
  | ⟨0, _⟩ => show 0 * 1 + 1 * (j 0).val = (j 0).val; omega
  | ⟨1, _⟩ => show 0 * 1024 + 1 * (j 1).val = (j 1).val; omega

end Array

/-! ## Over the extended reals -/

/-- A row before the norm: the residual, scaled, plus the two head groups against their halves of the projection. -/
def mergeRow (a b : Vec Ideal S128x512 .f32) (x : Vec Ideal S128x1024 .f32) (w : Vec Ideal S1024x1024 .f32) (R : Fin 128) (e : Fin 1024) : EReal :=
  alpha * x (ValueIdx.ix2 R e) + (∑ k : Fin 512, a (ValueIdx.ix2 R k) * w (ValueIdx.ix2 ⟨k.val, by omega⟩ e) + ∑ k : Fin 512, b (ValueIdx.ix2 R k) * w (ValueIdx.ix2 ⟨512 + k.val, by omega⟩ e))

theorem pay_apply (v0 : Vec Ideal S128x512 .bf16) (v2 : Vec Ideal S512x1024 .bf16) (v5 : Vec Ideal S128x512 .bf16) (v7 : Vec Ideal S512x1024 .bf16) (v11 : Vec Ideal S128x1024 .f32) (v15 v17 : Vec Ideal S1x1024 .f32) (r : Fin 128) (d : Fin 1024) :
    k0_pay1 (F := Ideal) (k0_pay2 v17) (k0_pay3 v0 v2 v5 v7 v11 v15) (ValueIdx.ix2 r d)
      = lnRow (fun e => alpha * v11 (ValueIdx.ix2 r e) + (∑ k : Fin 512, v0 (ValueIdx.ix2 r k) * v2 (ValueIdx.ix2 k e) + ∑ k : Fin 512, v5 (ValueIdx.ix2 r k) * v7 (ValueIdx.ix2 k e)))
        (v15 (ValueIdx.ix2 0 d)) (v17 (ValueIdx.ix2 0 d)) d := by
  unfold k0_pay1 k0_pay2 k0_pay3
  pointwise
  rfl

theorem row_of (x : Vec Ideal S1024 .f32) (d : Fin 1024) : broadcastInDim S1x1024 ![1] bcast_S1024_S1x1024_1 x (ValueIdx.ix2 0 d) = x (ValueIdx.ix1 d) := by
  pointwise; rfl
theorem top_half (w : Vec Ideal S1024x1024 .f32) (k : Fin 512) (e : Fin 1024) :
    (extractStridedSlice S512x1024 ![0, 0] (truncf .bf16 (w : FVec Ideal S1024x1024 .f32) bitsLt_bf16_f32 : FVec Ideal S1024x1024 .bf16) slices_S1024x1024_S512x1024_0_0 : FVec Ideal S512x1024 .bf16) (ValueIdx.ix2 k e) = w (ValueIdx.ix2 ⟨k.val, by omega⟩ e) := by
  pointwise; rfl
theorem bottom_half (w : Vec Ideal S1024x1024 .f32) (k : Fin 512) (e : Fin 1024) :
    (extractStridedSlice S512x1024 ![512, 0] (truncf .bf16 (w : FVec Ideal S1024x1024 .f32) bitsLt_bf16_f32 : FVec Ideal S1024x1024 .bf16) slices_S1024x1024_S512x1024_512_0 : FVec Ideal S512x1024 .bf16) (ValueIdx.ix2 k e) = w (ValueIdx.ix2 ⟨512 + k.val, by omega⟩ e) := by
  pointwise; rfl

section Point
variable (m : (ℓ : Loc nD τ sig) → Buf (Elt Ideal) ℓ) (c : Dev nD)

/-- The arguments' row before the norm. -/
def argRow (R : Fin 128) (e : Fin 1024) : EReal :=
  mergeRow (m ((c : Thread nD τ).loc main_arg0)) (m ((c : Thread nD τ).loc main_arg1)) (m ((c : Thread nD τ).loc main_arg2)) (m ((c : Thread nD τ).loc main_arg3)) R e

theorem a_apply (t : Fin cfg0.N) (r : Fin 128) (k : Fin 512) (R : Fin 128) (hR : R.val = t.val * 128 + r.val) :
    (iblk m c 0 t : Vec Ideal S128x512 .bf16) (ValueIdx.ix2 r k) = (m ((c : Thread nD τ).loc main_arg0) : Vec Ideal S128x512 .f32) (ValueIdx.ix2 R k) :=
  (iblk_0 m c t r k R hR).trans (congrFun (V_a m c) _)
theorem b_apply (t : Fin cfg0.N) (r : Fin 128) (k : Fin 512) (R : Fin 128) (hR : R.val = t.val * 128 + r.val) :
    (iblk m c 1 t : Vec Ideal S128x512 .bf16) (ValueIdx.ix2 r k) = (m ((c : Thread nD τ).loc main_arg1) : Vec Ideal S128x512 .f32) (ValueIdx.ix2 R k) :=
  (iblk_1 m c t r k R hR).trans (congrFun (V_b m c) _)
theorem x_apply (t : Fin cfg0.N) (r : Fin 128) (k : Fin 1024) (R : Fin 128) (hR : R.val = t.val * 128 + r.val) :
    (iblk m c 2 t : Vec Ideal S128x1024 .f32) (ValueIdx.ix2 r k) = (m ((c : Thread nD τ).loc main_arg2) : Vec Ideal S128x1024 .f32) (ValueIdx.ix2 R k) :=
  (iblk_2 m c t r k R hR).trans (congrFun (V_main_arg2 m c) _)
theorem wa_apply (t : Fin cfg0.N) (k : Fin 512) (e : Fin 1024) :
    (iblk m c 3 t : Vec Ideal S512x1024 .bf16) (ValueIdx.ix2 k e) = (m ((c : Thread nD τ).loc main_arg3) : Vec Ideal S1024x1024 .f32) (ValueIdx.ix2 ⟨k.val, by omega⟩ e) :=
  (congrFun ((iblk_3 m c t).trans (V_wa m c)) _).trans (top_half _ k e)
theorem wb_apply (t : Fin cfg0.N) (k : Fin 512) (e : Fin 1024) :
    (iblk m c 4 t : Vec Ideal S512x1024 .bf16) (ValueIdx.ix2 k e) = (m ((c : Thread nD τ).loc main_arg3) : Vec Ideal S1024x1024 .f32) (ValueIdx.ix2 ⟨512 + k.val, by omega⟩ e) :=
  (congrFun ((iblk_4 m c t).trans (V_wb m c)) _).trans (bottom_half _ k e)
theorem g_apply (t : Fin cfg0.N) (d : Fin 1024) :
    (iblk m c 5 t : Vec Ideal S1x1024 .f32) (ValueIdx.ix2 0 d) = (m ((c : Thread nD τ).loc main_arg4) : Vec Ideal S1024 .f32) (ValueIdx.ix1 d) :=
  (congrFun ((iblk_5 m c t).trans (V_g m c)) _).trans (row_of _ d)
theorem beta_apply (t : Fin cfg0.N) (d : Fin 1024) :
    (iblk m c 6 t : Vec Ideal S1x1024 .f32) (ValueIdx.ix2 0 d) = (m ((c : Thread nD τ).loc main_arg5) : Vec Ideal S1024 .f32) (ValueIdx.ix1 d) :=
  (congrFun ((iblk_6 m c t).trans (V_beta m c)) _).trans (row_of _ d)

/-- A tile's result at a row and column. -/
theorem tile_apply (t : Fin cfg0.N) (r : Fin 128) (R : Fin 128) (hR : R.val = t.val * 128 + r.val) (d : Fin 1024) :
    tile m c t (ValueIdx.ix2 r d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  refine (pay_apply (iblk m c 0 t) (iblk m c 3 t) (iblk m c 1 t) (iblk m c 4 t) (iblk m c 2 t) (iblk m c 5 t) (iblk m c 6 t) r d).trans (lnRow_congr (fun e => ?_) (g_apply m c t d) (beta_apply m c t d) d)
  exact congrArg₂ (· + ·) (congrArg (alpha * ·) (x_apply m c t r e R hR)) (congrArg₂ (· + ·)
    (Finset.sum_congr rfl fun k _ => congrArg₂ (· * ·) (a_apply m c t r k R hR) (wa_apply m c t k e))
    (Finset.sum_congr rfl fun k _ => congrArg₂ (· * ·) (b_apply m c t r k R hR) (wb_apply m c t k e)))

/-- The kernel's result at a row and column. -/
theorem out_apply (R : Fin 128) (d : Fin 1024) :
    outArr m c (ValueIdx.ix2 R d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  have ht : R.val / 128 < grid0.N := by rw [Gen.N_0]; omega
  have hR : R.val = R.val / 128 * 128 + R.val % 128 := by omega
  exact (spread_at _ ⟨R.val / 128, ht⟩ (ValueIdx.ix2 ⟨R.val % 128, Nat.mod_lt _ (by decide)⟩ d) (ValueIdx.ix2 R d) hR rfl).trans (tile_apply m c ⟨R.val / 128, ht⟩ ⟨R.val % 128, Nat.mod_lt _ (by decide)⟩ R hR d)

end Point

/-- Every fair execution ends with the output array in the result. -/
theorem run_out {F : FTy → Type} [FloatOps F] (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c : Thread nD τ).loc main_v7) = outArr m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(h c).1.trans (final_out m c), (h c).2⟩) (Value.run_blocks m ρ)

end Cert.Kernel7Ideal.MergeSample

end
-- ==== Proof.MergeSample.Claims.lean ====
/- The claims about the output projection with its norm, of the sample group: the frames and the equality with the reference. -/
module

public import proofs.«01_k».proof.Defs
public import proofs.«01_k».proof.Proof.MergeSample.Value
public import proofs.«01_k».proof.Proof.Gen.Kernel7.Frame
public import proofs.«01_k».proof.Proof.Gen.Kernel7Ideal.Frame
public import proofs.«01_k».proof.Proof.Gen.Reference7Ideal.Run
public import Idealize.ShloMosaic.Lib.Quiescent

@[expose] public section

set_option maxRecDepth 16384

noncomputable section

namespace Cert.MergeSample

open Idealize.ShloMosaic Idealize.ShloMosaic.TcCoe Idealize.SL.Sem
open Cert.Kernel7Ideal.MergeSample Cert.Norm

theorem frame_kernel : Cert.quiescent_Kernel7 := fun m ρ _ => Cert.Kernel7.Gen.frame m ρ
theorem frame_ideal : Cert.quiescent_Kernel7Ideal := fun m ρ _ => Cert.Kernel7Ideal.Gen.frame m ρ
theorem frame_ref : Cert.quiescent_Reference7Ideal := fun m ρ _ =>
  (θ_run Cert.Reference7Ideal.defs _ _).mono (fun r h => ⟨fun c => (h c).2, Idealize.ShloMosaic.sem_eq_zero_of_no_sems (by decide) r.2⟩) (Cert.Reference7Ideal.Value.run (F := Ideal) m ρ)

/-- The reference's result at a row and column. -/
theorem ref_apply (m : (ℓ : Loc Cert.Reference7Ideal.nD Cert.Reference7Ideal.τ Cert.Reference7Ideal.sig) → Buf (Elt Ideal) ℓ) (c : Dev Cert.Reference7Ideal.nD) (R : Fin 128) (d : Fin 1024) :
    (Cert.Reference7Ideal.Value.res_out0 m c : Vec Ideal Cert.Reference7Ideal.S128x1024 .f32) (ValueIdx.ix2 R d)
      = (lnRow (mergeRow (m ((c.tc : Thread _ _).loc Cert.Reference7Ideal.main_arg0)) (m ((c.tc : Thread _ _).loc Cert.Reference7Ideal.main_arg1)) (m ((c.tc : Thread _ _).loc Cert.Reference7Ideal.main_arg2)) (m ((c.tc : Thread _ _).loc Cert.Reference7Ideal.main_arg3)) R)
      ((m ((c.tc : Thread _ _).loc Cert.Reference7Ideal.main_arg4) : Vec Ideal Cert.Reference7Ideal.S1024 .f32) (ValueIdx.ix1 d)) ((m ((c.tc : Thread _ _).loc Cert.Reference7Ideal.main_arg5) : Vec Ideal Cert.Reference7Ideal.S1024 .f32) (ValueIdx.ix1 d)) d : EReal) := by
  unfold Cert.Reference7Ideal.Value.res_out0 Cert.Reference7Ideal.Value.res_main_v28
  pointwise
  rfl

/-- Kernel and reference compute the same array. -/
theorem algebraic : Cert.algebraic_Kernel7Ideal_Reference7Ideal := by
  intro m g m' g' hpre hargs
  refine ⟨fun c => outArr m c, run_out m g, ?_⟩
  refine (θ_run Cert.Reference7Ideal.defs _ _).mono (fun r h c => ⟨(h c).1.trans (funext fun i => ?_), (h c).2⟩) (Cert.Reference7Ideal.Value.run (F := Ideal) m' g')
  obtain ⟨R, d, rfl⟩ : ∃ (R : Fin 128) (d : Fin 1024), i = ValueIdx.ix2 R d := ⟨i 0, i 1, ValueIdx.eq_ix2 i⟩
  obtain ⟨h0, h1, h2, h3, h4, h5⟩ := hargs c
  refine (ref_apply m' c R d).trans ((out_apply m c R d).trans ?_).symm
  unfold argRow
  rw [h0, h1, h2, h3, h4, h5]

end Cert.MergeSample

end
-- ==== Proof.DenseSample.Same.lean ====
/- The printed kernel and its idealization are one text: what is proved of one over any float values holds of the other. -/
module

public import proofs.«01_k».proof.Proof.Gen.Kernel8.Launch
public import proofs.«01_k».proof.Proof.Gen.Kernel8Ideal.Launch

@[expose] public section

set_option maxRecDepth 16384

noncomputable section

namespace Cert.DenseSample

open Idealize.ShloMosaic Idealize.ShloMosaic.TcCoe Idealize.SL.Sem

variable {F : FTy → Type} [FloatOps F]
/-- The two programs' bodies, tables and host lines are the same text. -/
theorem bodies_eq : Cert.Kernel8.defs₀ (F := F) = Cert.Kernel8Ideal.defs₀ (F := F) := by
  unfold Cert.Kernel8.defs₀ Cert.Kernel8Ideal.defs₀
  refine congrArg (Defs.onTc (τ := Cert.Kernel8Ideal.τ)) ?_
  funext l a
  match l, a with
  | ⟨0, _⟩, (t, s) => rfl
set_option maxHeartbeats 2000000 in
theorem defs_eq : Cert.Kernel8.defs (F := F) = Cert.Kernel8Ideal.defs (F := F) := by
  unfold Cert.Kernel8.defs Cert.Kernel8Ideal.defs
  rw [bodies_eq]
  rfl
set_option maxHeartbeats 2000000 in
theorem main_eq : Cert.Kernel8.main (F := F) = Cert.Kernel8Ideal.main (F := F) := by
  funext c
  rw [Cert.Kernel8Ideal.Gen.main_chain]
  refine (Cert.Kernel8.Gen.main_chain c).trans ?_
  rfl

end Cert.DenseSample

end
-- ==== Proof.DenseSample.Run.lean ====
/- The dense feed-forward kernel's run for the sample group: the host lines before the region, the constant table, and the body. -/
module

public import proofs.«01_k».proof.Proof.Gen.Kernel8Ideal.Launch
public import proofs.«01_k».proof.Proof.Gen.Kernel8Ideal.Skeleton
public import Idealize.ShloMosaic.Lib.Pipeline.FrameBody
public import Idealize.ShloMosaic.Lib.Tactic
public import Idealize.ShloMosaic.Lib.WordCmp
public import Idealize.ShloMosaic.Lib.StableHlo.RunRead
public import Idealize.ShloMosaic.Lib.VecWindow
public import Idealize.ShloMosaic.Lib.ValueIdxCore
public import Idealize.ShloMosaic.Lib.Pipeline.ValueKit.Geometry

@[expose] public section

set_option maxRecDepth 16384

noncomputable section

namespace Cert.Kernel8Ideal.DenseSample

open Cert.Kernel8Ideal Cert.Kernel8Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The host lines before the region -/

/-- The stretches of host operations before the region, in order. -/
abbrev pre : List (List (HloOp τ sig (Elt F))) := [hostOps0]

/-- The buffers when the region is entered. -/
abbrev V (c : Dev nD) (b : Ref sig .tc) : Buf (Elt F) ((c : Thread nD τ).loc b) :=
  StableHlo.after (pre (F := F)).flatten (fun b => m (c, b)) b

/-- None of the host operations takes a fresh buffer. -/
theorem pre_fresh : (pre (F := F)).Forall fun ops => ops.Forall fun op => op.fresh = ∅ := by
  simp only [List.Forall]; repeat' constructor

set_option maxHeartbeats 800000 in
/-- The program up to the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefixes pcfgs 0 defs₀ 𝒱₀ m main pre (by simp only [List.Forall]; exact hostOps0_sub) pre_fresh main_chain

/-- No host operation writes an argument. -/
theorem V_arg (c : Dev nD) (b : Ref sig .tc) (hb : b ∈ ([main_arg0, main_arg1, main_arg2, main_arg3, main_arg4, main_arg5] : List (Ref sig .tc))) :
    V m c b = m ((c : Thread nD τ).loc b) :=
  StableHlo.after_of_forall_not_mem (b := Proc.devRef .tc b) _ _ (List.forall_iff_forall_mem.mp (by
    simp only [pre, hostOps0, List.flatten_cons, List.flatten_nil, List.append_nil, List.Forall, StableHlo.nullary_writes, StableHlo.unary_writes, Finset.mem_singleton]
    simp only [List.mem_cons, List.not_mem_nil, or_false] at hb
    rcases hb with rfl | rfl | rfl | rfl | rfl | rfl <;>
      ((repeat' apply And.intro) <;> exact StableHlo.devRef_ne_of_ne (by decide))))

/-! ## The table -/

/-- The table's contents when the region is entered. -/
def tbl : pre0.Contents (Elt F) := fun j => V m (0 : Dev nD) (pre0.ref j)
theorem V_pre (c : Dev nD) (j : Fin 1) : V m c (pre0.ref j) = tbl m j := by
  obtain rfl : c = 0 := Subsingleton.elim _ _; rfl

/-- It is the program's constant: a zero, then one. -/
theorem tbl_eq : tbl m 0 = fun i => lit0 (S2.rowMajor i) := by
  show StableHlo.after (pre (F := F)).flatten (fun b => m (0, b)) (Proc.devRef .tc main_c) = _
  simp only [pre, hostOps0, List.flatten_cons, List.flatten_nil, List.append_nil]
  after_reads_simp
  rfl

/-- The table's word at a place. -/
abbrev word (xt : Vec F S2 .i32) (k : Fin 2) : BitVec 32 := xt (ValueIdx.ix1 k)

theorem lit_zero : ∀ k : Fin 1, lit0 (S2.rowMajor (ValueIdx.ix1 ⟨k.val, by omega⟩)) = 0#32 := by decide +kernel
theorem lit_last : lit0 (S2.rowMajor (ValueIdx.ix1 1)) = 1#32 := by decide +kernel

/-- The table's word that the index maps read at a point. -/
theorem at_word (pf : pre0.Contents (Elt F)) (hpf : pf 0 = fun i => lit0 (S2.rowMajor i)) (i : grid0.Coords) (h h1) :
    pf.at 0 (Rect.unit (s := S2) (k0_off1 i) S1.size h) h1 = 0#32 := by
  have hi : (i 0).val < 1 := (i 0).isLt
  refine Eq.trans ?_ (lit_zero ⟨(i 0).val, hi⟩)
  refine Eq.trans (b := pf 0 (ValueIdx.ix1 ⟨(i 0).val, by omega⟩)) (congrArg (pf 0) (funext fun a => ?_)) (congrFun hpf _)
  obtain rfl : a = (0 : Fin 1) := Subsingleton.elim (α := Fin 1) _ _
  refine Fin.ext ?_
  show (Scalar.indexCast (BitVec.ofNat 32 (i 0).val) : Index).toNat + 1 * 0 = (i 0).val
  rw [Nat.mul_zero, Nat.add_zero]
  show (BitVec.ofNat 32 (i 0).val).toNat = _
  rw [BitVec.toNat_ofNat]; omega

/-- Every tile reads the one block of each weight array. -/
theorem transform_eq (pf : pre0.Contents (Elt F)) (hpf : pf 0 = fun i => lit0 (S2.rowMajor i)) (i : grid0.Coords) :
    cc0_transform_1 k0_off1_inb numel1_S1 pf i = ![0, 0, 0] := by
  unfold cc0_transform_1
  show ![(pf.at 0 (Rect.unit (s := S2) (k0_off1 i) S1.size (k0_off1_inb i)) numel1_S1).toNat, 0, 0] = _
  rw [at_word pf hpf i (k0_off1_inb i) numel1_S1]
  rfl

theorem blk_up : ∃ h : (∀ a, ((![0, 0, 0] : Fin 3 → ℕ) a + 1) * S1x1024x2816.size a ≤ S1x1024x2816.size a), EltTy.bits .bf16 = 32 ∨ (Rect.block (s := S1x1024x2816) S1x1024x2816.size ![0, 0, 0] h).WholeWords (EltTy.packing .bf16) := by
  decide +kernel
theorem blk_down : ∃ h : (∀ a, ((![0, 0, 0] : Fin 3 → ℕ) a + 1) * S1x2816x1024.size a ≤ S1x2816x1024.size a), EltTy.bits .bf16 = 32 ∨ (Rect.block (s := S1x2816x1024) S1x2816x1024.size ![0, 0, 0] h).WholeWords (EltTy.packing .bf16) := by
  decide +kernel

/-- The blocks the table names lie inside their arrays. -/
theorem ok : ok0 (F := F) (tbl m) := by
  refine ⟨fun i => ?_, fun i => ?_, fun i => ?_⟩
  · rw [transform_eq _ (tbl_eq m) i]; exact blk_up
  · rw [show cc0_transform_2 k0_off1_inb numel1_S1 (tbl m) i = ![0, 0, 0] from transform_eq _ (tbl_eq m) i]; exact blk_up
  · rw [show cc0_transform_3 k0_off1_inb numel1_S1 (tbl m) i = ![0, 0, 0] from transform_eq _ (tbl_eq m) i]; exact blk_down

abbrev adm : (pcfg0 (F := F)).Adm := ⟨tbl m, ok m⟩
abbrev cfgM : Pipeline.Cfg sig Λ₀ := cfg0 (adm m)

/-- The table as the body is handed it. -/
abbrev tbM : Memref sig .tc .smem S2 .i32 := Memref.whole main_c
abbrev htbM : tbM.IsWhole := Memref.isWhole_whole _
abbrev TbBuf (c : Dev nD) : Type := Buf (Elt F) (tbM.view.loc (c : Thread nD τ))
abbrev tbPt (c : Dev nD) (f : TbBuf (F := F) c) : sProp 𝕄 := tbM.view.loc (c : Thread nD τ) ↦{fullShare.right} f

theorem PhiT_eq (c : Dev nD) : (Pipeline.ΦT pre0 (tbl m) c : sProp 𝕄) = iprop(tbPt c (tbl m 0)) := by
  unfold Pipeline.ΦT Pipeline.prefHeld
  rw [show (Finset.univ : Finset (Fin 1)) = {(0 : Fin 1)} from by decide, bigSep_singleton]
  rfl

theorem cond1_iff (i : grid0.Coords) (w : BitVec 32) : k0_cond1 i w = 1#1 ↔ (BitVec.ofNat 32 (i 0).val).toInt < w.toInt := by
  unfold k0_cond1
  simp only [WordCmp.scalar_cmpi_eq, WordCmp.cmpi_slt_eq]
  by_cases h : (BitVec.ofNat 32 (i 0).val).toInt < w.toInt <;> simp only [h, decide_true, decide_false, iff_true, iff_false] <;> decide

theorem cond2_iff (i : grid0.Coords) (w : BitVec 32) : k0_cond2 i w = 1#1 ↔ ¬(BitVec.ofNat 32 (i 0).val).toInt < w.toInt := by
  unfold k0_cond2
  simp only [WordCmp.scalar_cmpi_eq, WordCmp.cmpi_sge_eq, not_lt]
  by_cases h : w.toInt ≤ (BitVec.ofNat 32 (i 0).val).toInt <;> simp only [h, decide_true, decide_false, iff_true, iff_false] <;> decide

/-- Exactly one of the body's two conditions holds. -/
theorem cond_iff (i : grid0.Coords) (w : BitVec 32) : k0_cond2 i w = 1#1 ↔ ¬k0_cond1 i w = 1#1 := by
  rw [cond1_iff, cond2_iff]

/-- What a tile with rows leaves in its output block. -/
def tileOut (x0 : Vec F S128x1024 .f32) (x1 x2 : Vec F S1x1024x2816 .bf16) (x3 : Vec F S1x2816x1024 .bf16) (x4 x5 : Vec F S1x1024 .f32) : Vec F S128x1024 .f32 :=
  k0_pay1 (k0_pay3 x4) (k0_pay4 x5) (k0_pay5 x0 x1 x2 x3 x0) (k0_pay6 x0 x1 x2 x3 x0)

theorem read_word (c : Dev nD) (xt : TbBuf (F := F) c) (h) :
    View.readAt (Elt F) tbM.view (Rect.unit (s := S2) ![1] S1.size inb_S2_S1_1).toLoadRect xt (Shape.Idx.first h) = word xt 1 :=
  congrArg xt (funext fun a => by obtain rfl : a = (0 : Fin 1) := Subsingleton.elim (α := Fin 1) _ _; rfl)

set_option maxHeartbeats 1000000 in
/-- The body on whole staging memrefs, where the table's last word says the tile holds rows: the inputs end as they were, the output block at `tileOut`. -/
theorem body_run (c : Dev nD) (i : grid0.Coords) (arg2 : Memref sig .tc .vmem S128x1024 .f32) (harg2 : arg2.IsWhole) (arg3 : Memref sig .tc .vmem S1x1024x2816 .bf16) (harg3 : arg3.IsWhole) (arg4 : Memref sig .tc .vmem S1x1024x2816 .bf16) (harg4 : arg4.IsWhole) (arg5 : Memref sig .tc .vmem S1x2816x1024 .bf16) (harg5 : arg5.IsWhole)
    (arg6 : Memref sig .tc .vmem S1x1024 .f32) (harg6 : arg6.IsWhole) (arg7 : Memref sig .tc .vmem S1x1024 .f32) (harg7 : arg7.IsWhole) (arg8 : Memref sig .tc .vmem S128x1024 .f32) (harg8 : arg8.IsWhole)
    (x0 : Vec F S128x1024 .f32) (x1 x2 : Vec F S1x1024x2816 .bf16) (x3 : Vec F S1x2816x1024 .bf16) (x4 x5 : Vec F S1x1024 .f32) (xt : TbBuf (F := F) c) (h : k0_cond1 i (word xt 1) = 1#1)
    (E : Set ℕ) (K : PUnit → sProp 𝕄) :
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ (∃ d, owns (c : Thread nD τ) arg8 fullShare d) ∗ tbPt c xt
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare (tileOut x0 x1 x2 x3 x4 x5) ∗ tbPt c xt) -∗ K ⟨⟩))
          ⊢ wp frame (wpE (defs₀ (F := F)) Variants.none c none) E (cc0_ffn_ln i tbM htbM arg2 harg2 arg3 harg3 arg4 harg4 arg5 harg5 arg6 harg6 arg7 harg7 arg8 harg8) K := by
  simp only [cc0_ffn_ln_eq_skeleton]; unfold cc0_ffn_ln_skel
  simp only [k0_part1_eq_skeleton]; unfold k0_part1_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%d6, %f6, -, H6⟩, HT, Hk⟩
  subst hf0 hf1 hf2 hf3 hf4 hf5
  sl_exec
  sl_step
  delta body_run.sl.r
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists _; isplitr
    swap; · iexact H6
    ipureintro
    rw [read_word]
    have h2 : ¬k0_cond2 i (word xt 1) = 1#1 := fun h' => (cond_iff _ _).mp h' h
    rw [dif_neg h2, dif_pos h, View.read_writes_full]
    unfold tileOut
    rw [View.readAt_full, View.readAt_full, View.readAt_full, View.readAt_full, View.readAt_full, View.readAt_full]
  iexact HT

/-! ## The windows' blocks and the proof data -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- The output block at point `t`. -/
def oblk (c : Dev nD) (t : Fin (cfgM m).N) : Vec F S128x1024 .f32 :=
  tileOut (iblk m c 0 t) (iblk m c 1 t) (iblk m c 2 t) (iblk m c 3 t) (iblk m c 4 t) (iblk m c 5 t)

/-- The pipeline's proof data on a core: each input's buffer at its block after the body, the output's at `oblk`. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => oblk m c t
  Φ _ := iprop(Pipeline.ΦA spec0 c ∗ Pipeline.ΦT pre0 (tbl m) c)
  q _ := fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = iblk m c 2 t := by dsimp only [dats]; try rfl
theorem after_3 (c : Dev nD) (t : Fin (cfgM m).N) : (dats m 0 c).after 3 t = iblk m c 3 t := by dsimp only [dats]; try rfl
theorem after_4 (c : Dev nD) (t : Fin (cfgM m).N) : (dats m 0 c).after 4 t = iblk m c 4 t := by dsimp only [dats]; try rfl
theorem after_5 (c : Dev nD) (t : Fin (cfgM m).N) : (dats m 0 c).after 5 t = iblk m c 5 t := by dsimp only [dats]; try rfl
theorem after_6 (c : Dev nD) (t : Fin (cfgM m).N) : (dats m 0 c).after 6 t = oblk m c t := by dsimp only [dats]; try rfl

/-- Each input's staging buffer holds its block at every point, fetched there or not. -/
theorem before_0 (c : Dev nD) (t : Fin (cfgM m).N) (d) : (dats m 0 c).before 0 t d = iblk m c 0 t :=
  ((dats m 0 c).before_in_eq_fetched 0 rfl (fun _ => rfl) (fun _ _ _ => rfl) (fun t => by rw [after_0]; unfold Dat.blockOf iblk; rw [A_eq]; try rfl) t d).trans
    (by unfold Dat.fetched Dat.blockOf iblk; rw [A_eq]; try rfl)
theorem before_1 (c : Dev nD) (t : Fin (cfgM m).N) (d) : (dats m 0 c).before 1 t d = iblk m c 1 t :=
  ((dats m 0 c).before_in_eq_fetched 1 rfl (fun _ => rfl) (fun _ _ _ => rfl) (fun t => by rw [after_1]; unfold Dat.blockOf iblk; rw [A_eq]; try rfl) t d).trans
    (by unfold Dat.fetched Dat.blockOf iblk; rw [A_eq]; try rfl)
theorem before_2 (c : Dev nD) (t : Fin (cfgM m).N) (d) : (dats m 0 c).before 2 t d = iblk m c 2 t :=
  ((dats m 0 c).before_in_eq_fetched 2 rfl (fun _ => rfl) (fun _ _ _ => rfl) (fun t => by rw [after_2]; unfold Dat.blockOf iblk; rw [A_eq]; try rfl) t d).trans
    (by unfold Dat.fetched Dat.blockOf iblk; rw [A_eq]; try rfl)
theorem before_3 (c : Dev nD) (t : Fin (cfgM m).N) (d) : (dats m 0 c).before 3 t d = iblk m c 3 t :=
  ((dats m 0 c).before_in_eq_fetched 3 rfl (fun _ => rfl) (fun _ _ _ => rfl) (fun t => by rw [after_3]; unfold Dat.blockOf iblk; rw [A_eq]; try rfl) t d).trans
    (by unfold Dat.fetched Dat.blockOf iblk; rw [A_eq]; try rfl)
theorem before_4 (c : Dev nD) (t : Fin (cfgM m).N) (d) : (dats m 0 c).before 4 t d = iblk m c 4 t :=
  ((dats m 0 c).before_in_eq_fetched 4 rfl (fun _ => rfl) (fun _ _ _ => rfl) (fun t => by rw [after_4]; unfold Dat.blockOf iblk; rw [A_eq]; try rfl) t d).trans
    (by unfold Dat.fetched Dat.blockOf iblk; rw [A_eq]; try rfl)
theorem before_5 (c : Dev nD) (t : Fin (cfgM m).N) (d) : (dats m 0 c).before 5 t d = iblk m c 5 t :=
  ((dats m 0 c).before_in_eq_fetched 5 rfl (fun _ => rfl) (fun _ _ _ => rfl) (fun t => by rw [after_5]; unfold Dat.blockOf iblk; rw [A_eq]; try rfl) t d).trans
    (by unfold Dat.fetched Dat.blockOf iblk; rw [A_eq]; try rfl)

/-- No window is ever idle: the output's block is stored under one condition or the other. -/
theorem idle_false (pf : pre0.Contents (Elt F)) (w : Fin 7) (i : grid0.Coords) : idle0 pf w i = false := by
  match w with
  | ⟨0, _⟩ => rfl
  | ⟨1, _⟩ => rfl
  | ⟨2, _⟩ => rfl
  | ⟨3, _⟩ => rfl
  | ⟨4, _⟩ => rfl
  | ⟨5, _⟩ => rfl
  | ⟨6, _⟩ =>
    show (!(k0_cond1 i (pf.atD 0 ![1]) == 1#1) && !(k0_cond2 i (pf.atD 0 ![1]) == 1#1)) = false
    by_cases h : k0_cond1 i (pf.atD 0 ![1]) = 1#1
    · rw [h]; rfl
    · rw [(cond_iff _ _).mpr h]; exact Bool.and_false _

theorem live (w : Fin (cfgM m).W) (t : Fin (cfgM m).N) : (cfgM m).idle w ((cfgM m).grid.coords t) = false :=
  idle_false (tbl m) w (grid0.coords t)

/-- Every tile holds rows. -/
theorem active (i : grid0.Coords) : k0_cond1 i (word (F := F) (tbl m 0) 1) = 1#1 := by
  have hi : (i 0).val < 1 := (i 0).isLt
  have hw : word (F := F) (tbl m 0) 1 = BitVec.ofNat 32 1 := (congrFun (tbl_eq m) _).trans lit_last
  rw [cond1_iff, hw, WordCmp.toInt_ofNat_of_lt (by omega), WordCmp.toInt_ofNat_of_lt (by omega)]
  exact Int.ofNat_lt.mpr hi

/-! ## The body obligation -/

/-- Each window's staging memref at a point. -/
abbrev ms0 (t : Fin (cfgM m).N) : Memref sig .tc .vmem S128x1024 .f32 := spec0_0.stage ((cfgM m).slots t 0)
abbrev ms1 (t : Fin (cfgM m).N) : Memref sig .tc .vmem S1x1024x2816 .bf16 := spec0_1.stage ((cfgM m).slots t 1)
abbrev ms2 (t : Fin (cfgM m).N) : Memref sig .tc .vmem S1x1024x2816 .bf16 := spec0_2.stage ((cfgM m).slots t 2)
abbrev ms3 (t : Fin (cfgM m).N) : Memref sig .tc .vmem S1x2816x1024 .bf16 := spec0_3.stage ((cfgM m).slots t 3)
abbrev ms4 (t : Fin (cfgM m).N) : Memref sig .tc .vmem S1x1024 .f32 := spec0_4.stage ((cfgM m).slots t 4)
abbrev ms5 (t : Fin (cfgM m).N) : Memref sig .tc .vmem S1x1024 .f32 := spec0_5.stage ((cfgM m).slots t 5)
abbrev ms6 (t : Fin (cfgM m).N) : Memref sig .tc .vmem S128x1024 .f32 := spec0_6.stage ((cfgM m).slots t 6)

/-- The body as the pipeline calls it at point `t`. -/
abbrev bodyAt (a : (pcfg0 (F := F)).Adm) (t : Fin (cfg0 a).N) : Prog (TpuEff nD τ sig (Elt F) Λ₀ .tc) PUnit :=
  cc0_ffn_ln (grid0.coords t) (Memref.whole main_c) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6))

/-- What the body is called with at point `t`, -/
def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d))
    ∗ (∃ d, owns (c : Thread nD τ) (ms3 m t) fullShare ((dats m 0 c).before 3 t d))
    ∗ (∃ d, owns (c : Thread nD τ) (ms4 m t) fullShare ((dats m 0 c).before 4 t d))
    ∗ (∃ d, owns (c : Thread nD τ) (ms5 m t) fullShare ((dats m 0 c).before 5 t d))
    ∗ (∃ d, owns (c : Thread nD τ) (ms6 m t) fullShare ((dats m 0 c).before 6 t d)))

/-- and what it returns. -/
def bodyPost (c : Dev nD) (t : Fin (cfgM m).N) : sProp 𝕄 :=
  iprop((dats m 0 c).Φ t.succ ∗ (dats m 0 c).owesAt () t.succ
    ∗ owns (c : Thread nD τ) (((cfgM m).win 0).stage ((cfgM m).slots t 0)) fullShare ((dats m 0 c).after 0 t)
    ∗ owns (c : Thread nD τ) (((cfgM m).win 1).stage ((cfgM m).slots t 1)) fullShare ((dats m 0 c).after 1 t)
    ∗ owns (c : Thread nD τ) (((cfgM m).win 2).stage ((cfgM m).slots t 2)) fullShare ((dats m 0 c).after 2 t)
    ∗ owns (c : Thread nD τ) (((cfgM m).win 3).stage ((cfgM m).slots t 3)) fullShare ((dats m 0 c).after 3 t)
    ∗ owns (c : Thread nD τ) (((cfgM m).win 4).stage ((cfgM m).slots t 4)) fullShare ((dats m 0 c).after 4 t)
    ∗ owns (c : Thread nD τ) (((cfgM m).win 5).stage ((cfgM m).slots t 5)) fullShare ((dats m 0 c).after 5 t)
    ∗ owns (c : Thread nD τ) (((cfgM m).win 6).stage ((cfgM m).slots t 6)) fullShare ((dats m 0 c).after 6 t))

theorem sound_body (c : Dev nD) (t : Fin (cfgM m).N) :
    bodyPre m c t ⊢ wp frame (wpE (defs₀ (F := F)) Variants.none c none) Set.univ (bodyAt (adm m) t) (fun _ => bodyPost m c t) := by
  unfold bodyPre bodyPost bodyAt
  simp only [before_0, before_1, before_2, before_3, before_4, before_5]
  rw [show (dats m 0 c).Φ t.succ = (dats m 0 c).Φ t.castSucc from rfl,
    show (dats m 0 c).owesAt () t.succ = (dats m 0 c).owesAt () t.castSucc from rfl]
  rw [after_0, after_1, after_2, after_3, after_4, after_5, after_6]
  rw [show (dats m 0 c).Φ t.castSucc = iprop(Pipeline.ΦA spec0 c ∗ Pipeline.ΦT pre0 (tbl m) c) from rfl, PhiT_eq]
  iintro ⟨⟨HΦ, HT⟩, Ho, ⟨%d0, H0⟩, ⟨%d1, H1⟩, ⟨%d2, H2⟩, ⟨%d3, H3⟩, ⟨%d4, H4⟩, ⟨%d5, H5⟩, ⟨%d6, H6⟩⟩
  iapply (body_run c (grid0.coords t) _ _ _ _ _ _ _ _ _ _ _ _ _ _ (iblk m c 0 t) (iblk m c 1 t) (iblk m c 2 t) (iblk m c 3 t) (iblk m c 4 t) (iblk m c 5 t) (tbl m 0) (active m _) Set.univ _)
  isplitl [H0]; · iexact H0
  isplitl [H1]; · iexact H1
  isplitl [H2]; · iexact H2
  isplitl [H3]; · iexact H3
  isplitl [H4]; · iexact H4
  isplitl [H5]; · iexact H5
  isplitl [H6]; · iexists _; iexact H6
  isplitl [HT]; · iexact HT
  iintro ⟨H0, H1, H2, H3, H4, H5, H6, HT⟩
  isplitl [HΦ HT]
  · isplitl [HΦ]
    · iexact HΦ
    iexact HT
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexact H6

theorem defs₀_row (t : Fin (cfgM m).N) :
    defs₀ (F := F) .tc (cfgM m).body ((cfgM m).bodyArgs t ((cfgM m).slots t)) = bodyAt (adm m) t := by
  unfold defs₀; rw [Defs.onTc_tc]

theorem body_obligation (c : Dev nD) : BodyObligation (dats (F := F) m 0 c) (defs₀ (F := F)) Variants.none () Set.univ := fun t => by
  rw [bigSep_W0, bigSep_W0, defs₀_row m]
  simp only [live]
  refine triple_restated (sound_body m c t) rfl .rfl fun _ => ?_
  unfold bodyPost
  dsimp only
  rw [idle_false (tbl m) 6 ((pcfg0.gridAt (tbl m)).coords t)]
  exact .rfl

/-! ## The launch -/

set_option backward.isDefEq.respectTransparency.types false in
/-- The program runs; every window's array ends at what the proof data say, everything else as the region found it, every counter at zero. -/
theorem run_main : θ_run defs (onTc (τ := τ) (main (F := F))) (s₀ m ρ)
    (fun r => Pipeline.FramePost (Pipeline.pin pcfgs fun _ => adm m) (dats m) 0 (V m) r ∧ r.2.sem = fun _ => 0) :=
  Pipeline.θ_run_frameP (Q' := _) pcfgs (fun _ => adm m) (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m) (hpf := V_pre m) (hΦ := fun _ _ => rfl)

/-- The argument arrays end unchanged. -/
theorem args_of_post (r) (h : Pipeline.FramePost (Pipeline.pin pcfgs fun _ => adm m) (dats m) 0 (V m) r) (c : Dev nD) :
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  have rest : ∀ b, b ∈ Pipeline.restRefs sig spec0 → b ∈ ([main_arg0, main_arg1, main_arg2, main_arg3, main_arg4, main_arg5] : List (Ref sig .tc)) →
      r.2.mem ((c.tc : Thread nD τ).loc b) = m ((c.tc : Thread nD τ).loc b) := fun b hb hb' => ((h c).2 b hb).trans (V_arg m c b hb')
  exact ⟨(Pipeline.FramePost.in_eq h c 0 rfl).trans ((A_eq m c 0).trans (V_arg m c main_arg0 (by decide))),
    rest _ (by decide) (by decide), rest _ (by decide) (by decide), rest _ (by decide) (by decide), rest _ (by decide) (by decide), rest _ (by decide) (by decide)⟩

/-- The frame: the run ends with the arguments unchanged and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) ∧ r.2.sem = fun _ => 0) :=
  (θ_run defs _ _).mono (fun r h => ⟨args_of_post m r h.1, h.2⟩) (run_main m ρ)

end Cert.Kernel8Ideal.DenseSample

end
-- ==== Proof.DenseSample.Value.lean ====
/- The dense feed-forward kernel's result for the sample group at a row and a column: the norm of the residual plus the gated hidden activations against the third matrix. -/
module

public import proofs.«01_k».proof.Proof.Norm
public import proofs.«01_k».proof.Proof.DenseSample.Run
public import Idealize.ShloMosaic.Lib.Pipeline.Value
public import Idealize.ShloMosaic.Lib.IdealHost
public import Idealize.ShloMosaic.Lib.Pointwise

@[expose] public section

set_option maxRecDepth 16384

noncomputable section

namespace Cert.Kernel8Ideal.DenseSample

open Cert.Kernel8Ideal Cert.Kernel8Ideal.Gen Cert.Norm
open Idealize.ShloMosaic Idealize.ShloMosaic.TcCoe Idealize.SL.Sem
open Idealize.ShloMosaic.Pipeline (Dat Cfg Window)

section Array
variable {F : FTy → Type} [FloatOps F] (m : (ℓ : Loc nD τ sig) → Buf (Elt F) ℓ)

/-! ## The output array, tile by tile -/

/-- Tiles of 128 rows, stacked. -/
def spread (g : Fin grid0.N → Vec F S128x1024 .f32) : Vec F S128x1024 .f32 := fun i =>
  g ⟨(i 0).val / 128, by rw [Gen.N_0]; have : (i 0).val < 128 := (i 0).isLt; omega⟩ (ValueIdx.ix2 ⟨(i 0).val % 128, Nat.mod_lt _ (by decide)⟩ (i 1))

/-- A row of the stack is the row of its tile. -/
theorem spread_at (g : Fin grid0.N → Vec F S128x1024 .f32) (t : Fin grid0.N) (j : S128x1024.Idx) (i : S128x1024.Idx)
    (h0 : (i 0).val = t.val * 128 + (j 0).val) (h1 : (i 1).val = (j 1).val) : spread g i = g t j := by
  have hj : (j 0).val < 128 := (j 0).isLt
  have e1 : ∀ h, (⟨(i 0).val / 128, h⟩ : Fin grid0.N) = t := fun _ => Fin.ext (by show (i 0).val / 128 = t.val; omega)
  have e2 : ∀ h, (ValueIdx.ix2 ⟨(i 0).val % 128, h⟩ (i 1) : S128x1024.Idx) = j := fun _ => funext fun a => by
    match a with
    | ⟨0, _⟩ => exact Fin.ext (by show (i 0).val % 128 = (j 0).val; omega)
    | ⟨1, _⟩ => exact Fin.ext h1
  unfold spread
  rw [e1, e2]

/-- The output array: each row as its tile's body leaves it. -/
def outArr (c : Dev nD) : Vec F S128x1024 .f32 := spread (fun t => oblk m c t)

/-- The output is written back at every point. -/
theorem flush_6 (t : Fin (cfgM m).N) : ((cfgM m).win 6).flush t = true :=
  (by decide +kernel : ∀ t : Fin grid0.N, Pipeline.Window.flushOf grid0 true cc0_transform_6 t = true) t

theorem row_idx (t : Fin grid0.N) : cc0_transform_0 (grid0.coords t) = ![t.val, 0] ∧ cc0_transform_6 (grid0.coords t) = ![t.val, 0] := by
  revert t; decide +kernel
theorem vec_idx (t : Fin grid0.N) : cc0_transform_4 (grid0.coords t) = ![0, 0] ∧ cc0_transform_5 (grid0.coords t) = ![0, 0] := by
  revert t; decide +kernel

/-- A place of the output's block at a point, in the array. -/
theorem emb6 (t : Fin (cfgM m).N) (j : S128x1024.Idx) (a : Fin 2) :
    ((((cfgM m).win 6).blk t).view.emb j a).val = (![t.val, 0] : Fin 2 → ℕ) a * S128x1024.size a + (j a).val := by
  show cc0_transform_6 (grid0.coords t) a * S128x1024.size a + 1 * (j a).val = _
  rw [(row_idx t).2, Nat.one_mul]

theorem cut_spread (g : Fin grid0.N → Vec F S128x1024 .f32) (t : Fin (cfgM m).N) :
    ((cfgM m).win 6).cut (grid0.coords t) (g t) = (((cfgM m).win 6).blk t).view.read (Elt F) (spread g) := by
  refine funext fun j => ?_
  have h0 := emb6 m t j 0
  have h1 : _ = 0 * 1024 + _ := emb6 m t j 1
  rw [Nat.zero_mul, Nat.zero_add] at h1
  exact (spread_at g t j _ h0 h1).symm

theorem flushed_eq (c : Dev nD) (t : Fin (cfgM m).N) :
    (dats m 0 c).flushed 6 t = (((cfgM m).win 6).blk t).view.read (Elt F) (outArr m c) := by
  show ((cfgM m).win 6).cut (grid0.coords t) ((dats m 0 c).after 6 t) = _
  rw [after_6]
  exact cut_spread m (fun t => oblk m c t) t

theorem cover (i : S128x1024.Idx) : ∃ t, ((cfgM m).win 6).flush t = true ∧ i ∈ (((cfgM m).win 6).blk t).view.set := by
  have hi : (i 0).val < 128 := (i 0).isLt
  refine ⟨⟨(i 0).val / 128, by show _ < grid0.N; rw [Gen.N_0]; omega⟩, flush_6 m _, ?_⟩
  have h := (((cfgM m).win 6).blk ⟨(i 0).val / 128, by show _ < grid0.N; rw [Gen.N_0]; omega⟩).view.emb_mem_set (ValueIdx.ix2 ⟨(i 0).val % 128, Nat.mod_lt _ (by decide)⟩ (i 1) : S128x1024.Idx)
  refine (congrArg (· ∈ _) (funext fun a => Fin.ext ?_)).mp h
  refine (emb6 m _ _ a).trans ?_
  match a with
  | ⟨0, _⟩ => show (i 0).val / 128 * 128 + (i 0).val % 128 = (i 0).val; omega
  | ⟨1, _⟩ => show 0 * 1024 + (i 1).val = (i 1).val; omega

theorem final_out (c : Dev nD) : (dats m 0 c).arrAt 6 (cfgM m).N = outArr m c :=
  (dats m 0 c).arrAt_eq_of_cover 6 (outArr m c) (fun t _ => flushed_eq m c t) (cover m)

/-- The run, with the result's array named. -/
theorem run_out (ρ : Dev nD → PrngReg) : θ_run defs (onTc (τ := τ) (main (F := F))) ⟨m, fun _ => 0, ρ⟩ (fun r => ∀ c : Dev nD,
      r.2.mem ((c.tc : Thread nD τ).loc main_v8) = outArr m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(Pipeline.FramePost.out_eq h.1 c 6).trans (final_out m c), args_of_post m r h.1 c⟩) (run_main m ρ)

/-! ## The arrays that the host code prepares -/

theorem V_wg (c : Dev nD) : V m c main_v3 = truncf .bf16 (broadcastInDim S1x1024x2816 ![1, 2] bcast_S1024x2816_S1x1024x2816_1_2 (m ((c : Thread nD τ).loc main_arg1) : Vec F S1024x2816 .f32)) bitsLt_bf16_f32 := by
  show StableHlo.after (pre (F := F)).flatten (fun b => m (c, b)) (Proc.devRef .tc main_v3) = _
  simp only [pre, hostOps0, List.flatten_cons, List.flatten_nil, List.append_nil]
  after_reads_simp
theorem V_wu (c : Dev nD) : V m c main_v4 = truncf .bf16 (broadcastInDim S1x1024x2816 ![1, 2] bcast_S1024x2816_S1x1024x2816_1_2 (m ((c : Thread nD τ).loc main_arg2) : Vec F S1024x2816 .f32)) bitsLt_bf16_f32 := by
  show StableHlo.after (pre (F := F)).flatten (fun b => m (c, b)) (Proc.devRef .tc main_v4) = _
  simp only [pre, hostOps0, List.flatten_cons, List.flatten_nil, List.append_nil]
  after_reads_simp
theorem V_wd (c : Dev nD) : V m c main_v5 = truncf .bf16 (broadcastInDim S1x2816x1024 ![1, 2] bcast_S2816x1024_S1x2816x1024_1_2 (m ((c : Thread nD τ).loc main_arg3) : Vec F S2816x1024 .f32)) bitsLt_bf16_f32 := by
  show StableHlo.after (pre (F := F)).flatten (fun b => m (c, b)) (Proc.devRef .tc main_v5) = _
  simp only [pre, hostOps0, List.flatten_cons, List.flatten_nil, List.append_nil]
  after_reads_simp
theorem V_g (c : Dev nD) : V m c main_v6 = broadcastInDim S1x1024 ![1] bcast_S1024_S1x1024_1 (m ((c : Thread nD τ).loc main_arg4) : Vec F S1024 .f32) := by
  show StableHlo.after (pre (F := F)).flatten (fun b => m (c, b)) (Proc.devRef .tc main_v6) = _
  simp only [pre, hostOps0, List.flatten_cons, List.flatten_nil, List.append_nil]
  after_reads_simp
theorem V_beta (c : Dev nD) : V m c main_v7 = broadcastInDim S1x1024 ![1] bcast_S1024_S1x1024_1 (m ((c : Thread nD τ).loc main_arg5) : Vec F S1024 .f32) := by
  show StableHlo.after (pre (F := F)).flatten (fun b => m (c, b)) (Proc.devRef .tc main_v7) = _
  simp only [pre, hostOps0, List.flatten_cons, List.flatten_nil, List.append_nil]
  after_reads_simp

/-! ## The input blocks -/

theorem iblk_0 (c : Dev nD) (t : Fin (cfgM m).N) (r : Fin 128) (d : Fin 1024) (R : Fin 128) (hR : R.val = t.val * 128 + r.val) :
    iblk m c 0 t (ValueIdx.ix2 r d) = (m ((c : Thread nD τ).loc main_arg0) : Vec F S128x1024 .f32) (ValueIdx.ix2 R d) := by
  refine Eq.trans ?_ (congrFun (V_arg m c main_arg0 (by decide)) _)
  refine congrArg (V m c main_arg0) (funext fun a => Fin.ext ?_)
  show cc0_transform_0 (grid0.coords t) a * S128x1024.size a + 1 * (ValueIdx.ix2 r d a).val = _
  rw [(row_idx t).1]
  match a with
  | ⟨0, _⟩ => show t.val * 128 + 1 * r.val = R.val; omega
  | ⟨1, _⟩ => show 0 * 1024 + 1 * d.val = d.val; omega

/-- Places of the weights' blocks at a point, in their arrays: the block is the array. -/
theorem emb1 (t : Fin (cfgM m).N) (j : S1x1024x2816.Idx) (a : Fin 3) :
    ((((cfgM m).win 1).blk t).view.emb j a).val = cc0_transform_1 k0_off1_inb numel1_S1 (tbl m) (grid0.coords t) a * S1x1024x2816.size a + 1 * (j a).val := rfl
theorem emb2 (t : Fin (cfgM m).N) (j : S1x1024x2816.Idx) (a : Fin 3) :
    ((((cfgM m).win 2).blk t).view.emb j a).val = cc0_transform_1 k0_off1_inb numel1_S1 (tbl m) (grid0.coords t) a * S1x1024x2816.size a + 1 * (j a).val := rfl
theorem emb3 (t : Fin (cfgM m).N) (j : S1x2816x1024.Idx) (a : Fin 3) :
    ((((cfgM m).win 3).blk t).view.emb j a).val = cc0_transform_1 k0_off1_inb numel1_S1 (tbl m) (grid0.coords t) a * S1x2816x1024.size a + 1 * (j a).val := rfl

theorem nil3 (s : Fin 3 → ℕ) (a : Fin 3) (n : ℕ) : (![0, 0, 0] : Fin 3 → ℕ) a * s a + 1 * n = n := by
  have : (![0, 0, 0] : Fin 3 → ℕ) a = 0 := by revert a; decide
  rw [this]; omega
theorem nil2 (s : Fin 2 → ℕ) (a : Fin 2) (n : ℕ) : (![0, 0] : Fin 2 → ℕ) a * s a + 1 * n = n := by
  have : (![0, 0] : Fin 2 → ℕ) a = 0 := by revert a; decide
  rw [this]; omega

theorem iblk_1 (c : Dev nD) (t : Fin (cfgM m).N) : (iblk m c 1 t : Vec F S1x1024x2816 .bf16) = V m c main_v3 := by
  refine funext fun j => congrArg (V m c main_v3) (funext fun x => Fin.ext ?_)
  refine (emb1 m t _ x).trans ?_
  rw [transform_eq (tbl m) (tbl_eq m) (grid0.coords t)]
  exact nil3 _ _ _
theorem iblk_2 (c : Dev nD) (t : Fin (cfgM m).N) : (iblk m c 2 t : Vec F S1x1024x2816 .bf16) = V m c main_v4 := by
  refine funext fun j => congrArg (V m c main_v4) (funext fun x => Fin.ext ?_)
  refine (emb2 m t _ x).trans ?_
  rw [transform_eq (tbl m) (tbl_eq m) (grid0.coords t)]
  exact nil3 _ _ _
theorem iblk_3 (c : Dev nD) (t : Fin (cfgM m).N) : (iblk m c 3 t : Vec F S1x2816x1024 .bf16) = V m c main_v5 := by
  refine funext fun j => congrArg (V m c main_v5) (funext fun x => Fin.ext ?_)
  refine (emb3 m t _ x).trans ?_
  rw [transform_eq (tbl m) (tbl_eq m) (grid0.coords t)]
  exact nil3 _ _ _
theorem iblk_4 (c : Dev nD) (t : Fin (cfgM m).N) : (iblk m c 4 t : Vec F S1x1024 .f32) = V m c main_v6 := by
  refine funext fun j => congrArg (V m c main_v6) (funext fun a => Fin.ext ?_)
  show cc0_transform_4 (grid0.coords t) a * S1x1024.size a + 1 * (j a).val = _
  rw [(vec_idx t).1]
  exact nil2 _ _ _
theorem iblk_5 (c : Dev nD) (t : Fin (cfgM m).N) : (iblk m c 5 t : Vec F S1x1024 .f32) = V m c main_v7 := by
  refine funext fun j => congrArg (V m c main_v7) (funext fun a => Fin.ext ?_)
  show cc0_transform_5 (grid0.coords t) a * S1x1024.size a + 1 * (j a).val = _
  rw [(vec_idx t).2]
  exact nil2 _ _ _

end Array

/-! ## Over the extended reals -/

/-- A hidden activation: the first projection through its gate, times the second. -/
def hidden (p q : EReal) : EReal := Ideal.div p (1 + Ideal.exp (-p)) * q

/-- A row before the norm: the residual, scaled, plus the gated hidden activations against the third matrix. -/
def ffnRow (x : Vec Ideal S128x1024 .f32) (wg wu : Vec Ideal S1024x2816 .f32) (wd : Vec Ideal S2816x1024 .f32) (R : Fin 128) (e : Fin 1024) : EReal :=
  alpha * x (ValueIdx.ix2 R e) + ∑ f : Fin 2816, hidden (∑ k : Fin 1024, x (ValueIdx.ix2 R k) * wg (ValueIdx.ix2 k f)) (∑ k : Fin 1024, x (ValueIdx.ix2 R k) * wu (ValueIdx.ix2 k f)) * wd (ValueIdx.ix2 f e)

theorem pay_apply (x0 : Vec Ideal S128x1024 .f32) (x1 x2 : Vec Ideal S1x1024x2816 .bf16) (x3 : Vec Ideal S1x2816x1024 .bf16) (x4 x5 : Vec Ideal S1x1024 .f32) (r : Fin 128) (d : Fin 1024) :
    tileOut (F := Ideal) x0 x1 x2 x3 x4 x5 (ValueIdx.ix2 r d)
      = lnRow (fun e => alpha * x0 (ValueIdx.ix2 r e) + ∑ f : Fin 2816, hidden (∑ k : Fin 1024, x0 (ValueIdx.ix2 r k) * x1 (ValueIdx.ix3 0 k f)) (∑ k : Fin 1024, x0 (ValueIdx.ix2 r k) * x2 (ValueIdx.ix3 0 k f)) * x3 (ValueIdx.ix3 0 f e))
        (x4 (ValueIdx.ix2 0 d)) (x5 (ValueIdx.ix2 0 d)) d := by
  unfold hidden
  simp only [← zero_sub (∑ k : Fin 1024, (_ : EReal))]
  unfold tileOut k0_pay1 k0_pay3 k0_pay4 k0_pay6 k0_pay5
  pointwise
  rfl

theorem vec_of (x : Vec Ideal S1024 .f32) (d : Fin 1024) : broadcastInDim S1x1024 ![1] bcast_S1024_S1x1024_1 x (ValueIdx.ix2 0 d) = x (ValueIdx.ix1 d) := by
  pointwise; rfl
theorem up_of (w : Vec Ideal S1024x2816 .f32) (k : Fin 1024) (f : Fin 2816) :
    (truncf .bf16 (broadcastInDim S1x1024x2816 ![1, 2] bcast_S1024x2816_S1x1024x2816_1_2 w : FVec Ideal S1x1024x2816 .f32) bitsLt_bf16_f32 : FVec Ideal S1x1024x2816 .bf16) (ValueIdx.ix3 0 k f) = w (ValueIdx.ix2 k f) := by
  pointwise; rfl
theorem down_of (w : Vec Ideal S2816x1024 .f32) (f : Fin 2816) (e : Fin 1024) :
    (truncf .bf16 (broadcastInDim S1x2816x1024 ![1, 2] bcast_S2816x1024_S1x2816x1024_1_2 w : FVec Ideal S1x2816x1024 .f32) bitsLt_bf16_f32 : FVec Ideal S1x2816x1024 .bf16) (ValueIdx.ix3 0 f e) = w (ValueIdx.ix2 f e) := by
  pointwise; rfl

section Point
variable (m : (ℓ : Loc nD τ sig) → Buf (Elt Ideal) ℓ) (c : Dev nD)

/-- The arguments' row before the norm. -/
def argRow (R : Fin 128) (e : Fin 1024) : EReal :=
  ffnRow (m ((c : Thread nD τ).loc main_arg0)) (m ((c : Thread nD τ).loc main_arg1)) (m ((c : Thread nD τ).loc main_arg2)) (m ((c : Thread nD τ).loc main_arg3)) R e

theorem wg_apply (t : Fin (cfgM m).N) (k : Fin 1024) (f : Fin 2816) :
    (iblk m c 1 t : Vec Ideal S1x1024x2816 .bf16) (ValueIdx.ix3 0 k f) = (m ((c : Thread nD τ).loc main_arg1) : Vec Ideal S1024x2816 .f32) (ValueIdx.ix2 k f) :=
  (congrFun ((iblk_1 m c t).trans (V_wg m c)) _).trans (up_of _ k f)
theorem wu_apply (t : Fin (cfgM m).N) (k : Fin 1024) (f : Fin 2816) :
    (iblk m c 2 t : Vec Ideal S1x1024x2816 .bf16) (ValueIdx.ix3 0 k f) = (m ((c : Thread nD τ).loc main_arg2) : Vec Ideal S1024x2816 .f32) (ValueIdx.ix2 k f) :=
  (congrFun ((iblk_2 m c t).trans (V_wu m c)) _).trans (up_of _ k f)
theorem wd_apply (t : Fin (cfgM m).N) (f : Fin 2816) (e : Fin 1024) :
    (iblk m c 3 t : Vec Ideal S1x2816x1024 .bf16) (ValueIdx.ix3 0 f e) = (m ((c : Thread nD τ).loc main_arg3) : Vec Ideal S2816x1024 .f32) (ValueIdx.ix2 f e) :=
  (congrFun ((iblk_3 m c t).trans (V_wd m c)) _).trans (down_of _ f e)
theorem g_apply (t : Fin (cfgM m).N) (d : Fin 1024) :
    (iblk m c 4 t : Vec Ideal S1x1024 .f32) (ValueIdx.ix2 0 d) = (m ((c : Thread nD τ).loc main_arg4) : Vec Ideal S1024 .f32) (ValueIdx.ix1 d) :=
  (congrFun ((iblk_4 m c t).trans (V_g m c)) _).trans (vec_of _ d)
theorem beta_apply (t : Fin (cfgM m).N) (d : Fin 1024) :
    (iblk m c 5 t : Vec Ideal S1x1024 .f32) (ValueIdx.ix2 0 d) = (m ((c : Thread nD τ).loc main_arg5) : Vec Ideal S1024 .f32) (ValueIdx.ix1 d) :=
  (congrFun ((iblk_5 m c t).trans (V_beta m c)) _).trans (vec_of _ d)

/-- A tile's result at a row and column. -/
theorem tile_apply (t : Fin (cfgM m).N) (r : Fin 128) (R : Fin 128) (hR : R.val = t.val * 128 + r.val) (d : Fin 1024) :
    oblk m c t (ValueIdx.ix2 r d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  refine (pay_apply (iblk m c 0 t) (iblk m c 1 t) (iblk m c 2 t) (iblk m c 3 t) (iblk m c 4 t) (iblk m c 5 t) r d).trans (lnRow_congr (fun e => ?_) (g_apply m c t d) (beta_apply m c t d) d)
  exact congrArg₂ (α := EReal) (β := EReal) (· + ·) (congrArg (alpha * ·) (iblk_0 m c t r e R hR)) (Finset.sum_congr rfl fun f _ => congrArg₂ (α := EReal) (β := EReal) (· * ·)
    (congrArg₂ hidden
      (Finset.sum_congr rfl fun k _ => congrArg₂ (α := EReal) (β := EReal) (· * ·) (iblk_0 m c t r k R hR) (wg_apply m c t k f))
      (Finset.sum_congr rfl fun k _ => congrArg₂ (α := EReal) (β := EReal) (· * ·) (iblk_0 m c t r k R hR) (wu_apply m c t k f)))
    (wd_apply m c t f e))

/-- The kernel's result at a row and column. -/
theorem out_apply (R : Fin 128) (d : Fin 1024) :
    outArr m c (ValueIdx.ix2 R d) = lnRow (argRow m c R) ((m ((c : Thread nD τ).loc main_arg4) : Vec Ideal S1024 .f32) (ValueIdx.ix1 d)) ((m ((c : Thread nD τ).loc main_arg5) : Vec Ideal S1024 .f32) (ValueIdx.ix1 d)) d := by
  have ht : R.val / 128 < grid0.N := by rw [Gen.N_0]; omega
  have hR : R.val = R.val / 128 * 128 + R.val % 128 := by omega
  exact (spread_at _ ⟨R.val / 128, ht⟩ (ValueIdx.ix2 ⟨R.val % 128, Nat.mod_lt _ (by decide)⟩ d) (ValueIdx.ix2 R d) hR rfl).trans (tile_apply m c ⟨R.val / 128, ht⟩ ⟨R.val % 128, Nat.mod_lt _ (by decide)⟩ R hR d)

end Point

end Cert.Kernel8Ideal.DenseSample

end
-- ==== Proof.DenseSample.Claims.lean ====
/- The claims about the dense feed-forward kernel for the sample group: the frames and the equality with the reference. -/
module

public import proofs.«01_k».proof.Defs
public import proofs.«01_k».proof.Proof.DenseSample.Same
public import proofs.«01_k».proof.Proof.DenseSample.Value
public import proofs.«01_k».proof.Proof.Experts.Reference
public import proofs.«01_k».proof.Proof.Gen.Reference8Ideal.Run
public import Idealize.ShloMosaic.Lib.Quiescent

@[expose] public section

set_option maxRecDepth 16384

noncomputable section

namespace Cert.DenseSample

open Idealize.ShloMosaic Idealize.ShloMosaic.TcCoe Idealize.SL.Sem
open Cert.Kernel8Ideal.DenseSample Cert.Norm

/-- The kernel's frame over the machine's floats: the same text, the same run. -/
theorem frame_kernel : Cert.quiescent_Kernel8 := by
  intro m ρ _
  have h := Cert.Kernel8Ideal.DenseSample.frame (F := Bits) m ρ
  rw [← defs_eq, ← main_eq] at h
  exact h
theorem frame_ideal : Cert.quiescent_Kernel8Ideal := fun m ρ _ => Cert.Kernel8Ideal.DenseSample.frame m ρ
theorem frame_ref : Cert.quiescent_Reference8Ideal := fun m ρ _ =>
  (θ_run Cert.Reference8Ideal.defs _ _).mono (fun r h => ⟨fun c => (h c).2, Idealize.ShloMosaic.sem_eq_zero_of_no_sems (by decide) r.2⟩) (Cert.Reference8Ideal.Value.run (F := Ideal) m ρ)

/-- A hidden activation as the reference spells it: the gate is a factor. -/
theorem hidden_eq (p q : EReal) : Cert.Kernel8Ideal.DenseSample.hidden p q = p * Ideal.div 1 (1 + Ideal.exp (-p)) * q := by
  unfold Cert.Kernel8Ideal.DenseSample.hidden
  rw [Ideal.mul_one_div (Cert.ReferenceIdeal.Experts.one_add_exp_ne_zero _)]

/-- The reference's result at a row and column. -/
theorem ref_apply (m : (ℓ : Loc Cert.Reference8Ideal.nD Cert.Reference8Ideal.τ Cert.Reference8Ideal.sig) → Buf (Elt Ideal) ℓ) (c : Dev Cert.Reference8Ideal.nD) (R : Fin 128) (d : Fin 1024) :
    (Cert.Reference8Ideal.Value.res_out0 m c : Vec Ideal Cert.Reference8Ideal.S128x1024 .f32) (ValueIdx.ix2 R d)
      = (lnRow (ffnRow (m ((c.tc : Thread _ _).loc Cert.Reference8Ideal.main_arg0)) (m ((c.tc : Thread _ _).loc Cert.Reference8Ideal.main_arg1)) (m ((c.tc : Thread _ _).loc Cert.Reference8Ideal.main_arg2)) (m ((c.tc : Thread _ _).loc Cert.Reference8Ideal.main_arg3)) R)
      ((m ((c.tc : Thread _ _).loc Cert.Reference8Ideal.main_arg4) : Vec Ideal Cert.Reference8Ideal.S1024 .f32) (ValueIdx.ix1 d)) ((m ((c.tc : Thread _ _).loc Cert.Reference8Ideal.main_arg5) : Vec Ideal Cert.Reference8Ideal.S1024 .f32) (ValueIdx.ix1 d)) d : EReal) := by
  unfold ffnRow
  simp only [hidden_eq]
  unfold Cert.Reference8Ideal.Value.res_out0 Cert.Reference8Ideal.Value.res_main_v31
  pointwise
  rfl

/-- Kernel and reference compute the same array. -/
theorem algebraic : Cert.algebraic_Kernel8Ideal_Reference8Ideal := by
  intro m g m' g' hpre hargs
  refine ⟨fun c => outArr m c, run_out m g, ?_⟩
  refine (θ_run Cert.Reference8Ideal.defs _ _).mono (fun r h c => ⟨(h c).1.trans (funext fun i => ?_), (h c).2⟩) (Cert.Reference8Ideal.Value.run (F := Ideal) m' g')
  obtain ⟨R, d, rfl⟩ : ∃ (R : Fin 128) (d : Fin 1024), i = ValueIdx.ix2 R d := ⟨i 0, i 1, ValueIdx.eq_ix2 i⟩
  obtain ⟨h0, h1, h2, h3, h4, h5⟩ := hargs c
  refine (ref_apply m' c R d).trans ((out_apply m c R d).trans ?_).symm
  unfold argRow
  rw [h0, h1, h2, h3, h4, h5]

end Cert.DenseSample

end
-- ==== Proof.lean ====
module

public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Flash
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Flash
public import proofs.«01_k».proof.Proof.Gen.Reference8Ideal
public import proofs.«01_k».proof.Proof.Gen.Reference8Ideal.Run
public import proofs.«01_k».proof.Proof.Gen.Kernel6
public import proofs.«01_k».proof.Proof.Gen.Kernel6Ideal
public import proofs.«01_k».proof.Proof.Gen.Kernel6Ideal.Value
public import proofs.«01_k».proof.Proof.Gen.Reference6Ideal.Run
public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Flash
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Flash
public import proofs.«01_k».proof.Proof.Gen.ReferenceIdeal
public import proofs.«01_k».proof.Proof.Gen.ReferenceIdeal.Run
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Flash
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Flash
public import proofs.«01_k».proof.Proof.Gen.Reference5Ideal
public import proofs.«01_k».proof.Proof.Gen.Reference5Ideal.Run
public import proofs.«01_k».proof.Proof.Experts.Claims
public import proofs.«01_k».proof.Proof.Proj.SampleClaims
public import proofs.«01_k».proof.Proof.Proj.PromptClaims
public import proofs.«01_k».proof.Proof.Proj.NextClaims
public import proofs.«01_k».proof.Proof.Merge.Claims
public import proofs.«01_k».proof.Proof.Dense.Claims
public import proofs.«01_k».proof.Proof.Router.Claims
public import proofs.«01_k».proof.Proof.RouterPrompt.Claims
public import proofs.«01_k».proof.Proof.MergeSample.Claims
public import proofs.«01_k».proof.Proof.DenseSample.Claims
public import Idealize.ShloMosaic.Adequacy
public import Idealize.ShloMosaic.Init

@[expose] public section

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts,
  Cert.Kernel2.Gen.facts, Cert.Kernel2Ideal.Gen.facts, Cert.Reference2Ideal.Gen.facts, Cert.Kernel3.Gen.facts, Cert.Kernel3Ideal.Gen.facts, Cert.Reference3Ideal.Gen.facts, Cert.Kernel4.Gen.facts, Cert.Kernel4Ideal.Gen.facts, Cert.Reference4Ideal.Gen.facts, Cert.Kernel5.Gen.facts, Cert.Kernel5Ideal.Gen.facts, Cert.Reference5Ideal.Gen.facts, Cert.Kernel6.Gen.facts, Cert.Kernel6Ideal.Gen.facts, Cert.Reference6Ideal.Gen.facts, Cert.Kernel7.Gen.facts, Cert.Kernel7Ideal.Gen.facts, Cert.Reference7Ideal.Gen.facts, Cert.Kernel8.Gen.facts, Cert.Kernel8Ideal.Gen.facts, Cert.Reference8Ideal.Gen.facts, Cert.Kernel9.Gen.facts, Cert.Kernel9Ideal.Gen.facts, Cert.Reference9Ideal.Gen.facts, Cert.Kernel10.Gen.facts, Cert.Kernel10Ideal.Gen.facts, Cert.Reference10Ideal.Gen.facts, Cert.Experts.preFacts, Cert.Router.preFacts, Cert.RouterPrompt.preFacts,
  Cert.Experts.frame_kernel, Cert.Experts.frame_ideal, Cert.Experts.frame_ideal_pre, Cert.Experts.frame_ref, Cert.Experts.frame_ref_pre,
  Cert.Proj.Sample.frame_kernel, Cert.Proj.Sample.frame_ideal, Cert.Proj.Sample.frame_ref,
  Cert.Proj.Prompt.frame_kernel, Cert.Proj.Prompt.frame_ideal, Cert.Proj.Prompt.frame_ref,
  Cert.Merge.frame_kernel, Cert.Merge.frame_ideal, Cert.Merge.frame_ref,
  Cert.Dense.frame_kernel, Cert.Dense.frame_ideal, Cert.Dense.frame_ref,
  Cert.Router.frame_kernel, Cert.Router.frame_ideal, Cert.Router.frame_ideal_pre, Cert.Router.frame_ref, Cert.Router.frame_ref_pre,
  Cert.MergeSample.frame_kernel, Cert.MergeSample.frame_ideal, Cert.MergeSample.frame_ref,
  Cert.DenseSample.frame_kernel, Cert.DenseSample.frame_ideal, Cert.DenseSample.frame_ref,
  Cert.RouterPrompt.frame_kernel, Cert.RouterPrompt.frame_ideal, Cert.RouterPrompt.frame_ideal_pre, Cert.RouterPrompt.frame_ref, Cert.RouterPrompt.frame_ref_pre,
  Cert.Proj.Next.frame_kernel, Cert.Proj.Next.frame_ideal, Cert.Proj.Next.frame_ref,
  trivial, Cert.Experts.algebraic, trivial, Cert.Proj.Sample.algebraic, trivial, Cert.Proj.Prompt.algebraic, trivial, Cert.Merge.algebraic, trivial, Cert.Dense.algebraic, trivial, Cert.Router.algebraic, trivial, Cert.MergeSample.algebraic, trivial, Cert.DenseSample.algebraic, trivial, Cert.RouterPrompt.algebraic, trivial, Cert.Proj.Next.algebraic⟩

end Cert.Proof

end
